-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormBwdRefIdeal (m : (ℓ : Loc Cert.NormBwdRefIdeal.nD Cert.NormBwdRefIdeal.τ Cert.NormBwdRefIdeal.sig) → Buf (Elt Ideal) ℓ) : Prop :=
  True

def Pre_WeightGrad (m : (ℓ : Loc Cert.WeightGrad.nD Cert.WeightGrad.τ Cert.WeightGrad.sig) → Buf (Elt Bits) ℓ) : Prop :=
  True

def Pre_WeightGradIdeal (m : (ℓ : Loc Cert.WeightGradIdeal.nD Cert.WeightGradIdeal.τ Cert.WeightGradIdeal.sig) → Buf (Elt Ideal) ℓ) : Prop :=
  True

def Pre_WeightGradRefIdeal (m : (ℓ : Loc Cert.WeightGradRefIdeal.nD Cert.WeightGradRefIdeal.τ Cert.WeightGradRefIdeal.sig) → Buf (Elt Ideal) ℓ) : Prop :=
  True

def Pre_ProjQkvg (m : (ℓ : Loc Cert.ProjQkvg.nD Cert.ProjQkvg.τ Cert.ProjQkvg.sig) → Buf (Elt Bits) ℓ) : Prop :=
  True

def Pre_ProjQkvgIdeal (m : (ℓ : Loc Cert.ProjQkvgIdeal.nD Cert.ProjQkvgIdeal.τ Cert.ProjQkvgIdeal.sig) → Buf (Elt Ideal) ℓ) : Prop :=
  True

def Pre_ProjQkvgRefIdeal (m : (ℓ : Loc Cert.ProjQkvgRefIdeal.nD Cert.ProjQkvgRefIdeal.τ Cert.ProjQkvgRefIdeal.sig) → Buf (Elt Ideal) ℓ) : Prop :=
  True

def Pre_UpBwd (m : (ℓ : Loc Cert.UpBwd.nD Cert.UpBwd.τ Cert.UpBwd.sig) → Buf (Elt Bits) ℓ) : Prop :=
  True

def Pre_UpBwdIdeal (m : (ℓ : Loc Cert.UpBwdIdeal.nD Cert.UpBwdIdeal.τ Cert.UpBwdIdeal.sig) → Buf (Elt Ideal) ℓ) : Prop :=
  True

def Pre_UpBwdRefIdeal (m : (ℓ : Loc Cert.UpBwdRefIdeal.nD Cert.UpBwdRefIdeal.τ Cert.UpBwdRefIdeal.sig) → Buf (Elt Ideal) ℓ) : Prop :=
  True

def Pre_ActGrad (m : (ℓ : Loc Cert.ActGrad.nD Cert.ActGrad.τ Cert.ActGrad.sig) → Buf (Elt Bits) ℓ) : Prop :=
  True

def Pre_ActGradIdeal (m : (ℓ : Loc Cert.ActGradIdeal.nD Cert.ActGradIdeal.τ Cert.ActGradIdeal.sig) → Buf (Elt Ideal) ℓ) : Prop :=
  True

def Pre_ActGradRefIdeal (m : (ℓ : Loc Cert.ActGradRefIdeal.nD Cert.ActGradRefIdeal.τ Cert.ActGradRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_BranchGrad (m : (ℓ : Loc Cert.BranchGrad.nD Cert.BranchGrad.τ Cert.BranchGrad.sig) → Buf (Elt Bits) ℓ) : Prop :=
  True

def Pre_BranchGradIdeal (m : (ℓ : Loc Cert.BranchGradIdeal.nD Cert.BranchGradIdeal.τ Cert.BranchGradIdeal.sig) → Buf (Elt Ideal) ℓ) : Prop :=
  True

def Pre_BranchGradRefIdeal (m : (ℓ : Loc Cert.BranchGradRefIdeal.nD Cert.BranchGradRefIdeal.τ Cert.BranchGradRefIdeal.sig) → Buf (Elt Ideal) ℓ) : Prop :=
  True

def Pre_ProjZ (m : (ℓ : Loc Cert.ProjZ.nD Cert.ProjZ.τ Cert.ProjZ.sig) → Buf (Elt Bits) ℓ) : Prop :=
  True

def Pre_ProjZIdeal (m : (ℓ : Loc Cert.ProjZIdeal.nD Cert.ProjZIdeal.τ Cert.ProjZIdeal.sig) → Buf (Elt Ideal) ℓ) : Prop :=
  True

def Pre_ProjZRefIdeal (m : (ℓ : Loc Cert.ProjZRefIdeal.nD Cert.ProjZRefIdeal.τ Cert.ProjZRefIdeal.sig) → Buf (Elt Ideal) ℓ) : Prop :=
  True

def Pre_ProjGates (m : (ℓ : Loc Cert.ProjGates.nD Cert.ProjGates.τ Cert.ProjGates.sig) → Buf (Elt Bits) ℓ) : Prop :=
  True

def Pre_ProjGatesIdeal (m : (ℓ : Loc Cert.ProjGatesIdeal.nD Cert.ProjGatesIdeal.τ Cert.ProjGatesIdeal.sig) → Buf (Elt Ideal) ℓ) : Prop :=
  True

def Pre_ProjGatesRefIdeal (m : (ℓ : Loc Cert.ProjGatesRefIdeal.nD Cert.ProjGatesRefIdeal.τ Cert.ProjGatesRefIdeal.sig) → Buf (Elt Ideal) ℓ) : Prop :=
  True

def Pre_DownGrad (m : (ℓ : Loc Cert.DownGrad.nD Cert.DownGrad.τ Cert.DownGrad.sig) → Buf (Elt Bits) ℓ) : Prop :=
  True

def Pre_DownGradIdeal (m : (ℓ : Loc Cert.DownGradIdeal.nD Cert.DownGradIdeal.τ Cert.DownGradIdeal.sig) → Buf (Elt Ideal) ℓ) : Prop :=
  True

def Pre_DownGradRefIdeal (m : (ℓ : Loc Cert.DownGradRefIdeal.nD Cert.DownGradRefIdeal.τ Cert.DownGradRefIdeal.sig) → Buf (Elt Ideal) ℓ) : Prop :=
  True

def Pre_RetGrad (m : (ℓ : Loc Cert.RetGrad.nD Cert.RetGrad.τ Cert.RetGrad.sig) → Buf (Elt Bits) ℓ) : Prop :=
  True

def Pre_RetGradIdeal (m : (ℓ : Loc Cert.RetGradIdeal.nD Cert.RetGradIdeal.τ Cert.RetGradIdeal.sig) → Buf (Elt Ideal) ℓ) : Prop :=
  True

def Pre_RetGradRefIdeal (m : (ℓ : Loc Cert.RetGradRefIdeal.nD Cert.RetGradRefIdeal.τ Cert.RetGradRefIdeal.sig) → Buf (Elt Ideal) ℓ) : Prop :=
  True

def Pre_OutGrad (m : (ℓ : Loc Cert.OutGrad.nD Cert.OutGrad.τ Cert.OutGrad.sig) → Buf (Elt Bits) ℓ) : Prop :=
  True

def Pre_OutGradIdeal (m : (ℓ : Loc Cert.OutGradIdeal.nD Cert.OutGradIdeal.τ Cert.OutGradIdeal.sig) → Buf (Elt Ideal) ℓ) : Prop :=
  True

def Pre_OutGradRefIdeal (m : (ℓ : Loc Cert.OutGradRefIdeal.nD Cert.OutGradRefIdeal.τ Cert.OutGradRefIdeal.sig) → Buf (Elt Ideal) ℓ) : Prop :=
  True

def Pre_OutNorm (m : (ℓ : Loc Cert.OutNorm.nD Cert.OutNorm.τ Cert.OutNorm.sig) → Buf (Elt Bits) ℓ) : Prop :=
  True

def Pre_OutNormIdeal (m : (ℓ : Loc Cert.OutNormIdeal.nD Cert.OutNormIdeal.τ Cert.OutNormIdeal.sig) → Buf (Elt Ideal) ℓ) : Prop :=
  True

def Pre_OutNormRefIdeal (m : (ℓ : Loc Cert.OutNormRefIdeal.nD Cert.OutNormRefIdeal.τ Cert.OutNormRefIdeal.sig) → Buf (Elt Ideal) ℓ) : Prop :=
  True

def Pre_MergeBwd (m : (ℓ : Loc Cert.MergeBwd.nD Cert.MergeBwd.τ Cert.MergeBwd.sig) → Buf (Elt Bits) ℓ) : Prop :=
  True

def Pre_MergeBwdIdeal (m : (ℓ : Loc Cert.MergeBwdIdeal.nD Cert.MergeBwdIdeal.τ Cert.MergeBwdIdeal.sig) → Buf (Elt Ideal) ℓ) : Prop :=
  True

def Pre_MergeBwdRefIdeal (m : (ℓ : Loc Cert.MergeBwdRefIdeal.nD Cert.MergeBwdRefIdeal.τ Cert.MergeBwdRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2)
      ∧ r.2.mem ((c.tc : Thread Cert.NormBwd.nD Cert.NormBwd.τ).loc Cert.NormBwd.main_arg3) = m ((c.tc : Thread Cert.NormBwd.nD Cert.NormBwd.τ).loc Cert.NormBwd.main_arg3)
      ∧ r.2.mem ((c.tc : Thread Cert.NormBwd.nD Cert.NormBwd.τ).loc Cert.NormBwd.main_arg4) = m ((c.tc : Thread Cert.NormBwd.nD Cert.NormBwd.τ).loc Cert.NormBwd.main_arg4)
      ∧ r.2.mem ((c.tc : Thread Cert.NormBwd.nD Cert.NormBwd.τ).loc Cert.NormBwd.main_arg5) = m ((c.tc : Thread Cert.NormBwd.nD Cert.NormBwd.τ).loc Cert.NormBwd.main_arg5))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
      ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4)
      ∧ r.2.mem ((c.tc : Thread Cert.NormBwdIdeal.nD Cert.NormBwdIdeal.τ).loc Cert.NormBwdIdeal.main_arg5) = m ((c.tc : Thread Cert.NormBwdIdeal.nD Cert.NormBwdIdeal.τ).loc Cert.NormBwdIdeal.main_arg5))
      ∧ r.2.sem = fun _ => 0)

def quiescent_NormBwdRefIdeal [hNormBwdRefIdeal : Cert.NormBwdRefIdeal.Facts] : Prop :=
  ∀ (m : (ℓ : Loc Cert.NormBwdRefIdeal.nD Cert.NormBwdRefIdeal.τ Cert.NormBwdRefIdeal.sig) → Buf (Elt Ideal) ℓ) (g : Dev Cert.NormBwdRefIdeal.nD → PrngReg), Pre_NormBwdRefIdeal m →
    θ_run (Cert.NormBwdRefIdeal.defs (F := Ideal)) (onTc (τ := Cert.NormBwdRefIdeal.τ) (Cert.NormBwdRefIdeal.main (F := Ideal))) ⟨m, fun _ => 0, g⟩ (fun r => (∀ c : Dev Cert.NormBwdRefIdeal.nD,
      r.2.mem ((c.tc : Thread Cert.NormBwdRefIdeal.nD Cert.NormBwdRefIdeal.τ).loc Cert.NormBwdRefIdeal.main_arg0) = m ((c.tc : Thread Cert.NormBwdRefIdeal.nD Cert.NormBwdRefIdeal.τ).loc Cert.NormBwdRefIdeal.main_arg0)
      ∧ r.2.mem ((c.tc : Thread Cert.NormBwdRefIdeal.nD Cert.NormBwdRefIdeal.τ).loc Cert.NormBwdRefIdeal.main_arg1) = m ((c.tc : Thread Cert.NormBwdRefIdeal.nD Cert.NormBwdRefIdeal.τ).loc Cert.NormBwdRefIdeal.main_arg1)
      ∧ r.2.mem ((c.tc : Thread Cert.NormBwdRefIdeal.nD Cert.NormBwdRefIdeal.τ).loc Cert.NormBwdRefIdeal.main_arg2) = m ((c.tc : Thread Cert.NormBwdRefIdeal.nD Cert.NormBwdRefIdeal.τ).loc Cert.NormBwdRefIdeal.main_arg2)
      ∧ r.2.mem ((c.tc : Thread Cert.NormBwdRefIdeal.nD Cert.NormBwdRefIdeal.τ).loc Cert.NormBwdRefIdeal.main_arg3) = m ((c.tc : Thread Cert.NormBwdRefIdeal.nD Cert.NormBwdRefIdeal.τ).loc Cert.NormBwdRefIdeal.main_arg3)
      ∧ r.2.mem ((c.tc : Thread Cert.NormBwdRefIdeal.nD Cert.NormBwdRefIdeal.τ).loc Cert.NormBwdRefIdeal.main_arg4) = m ((c.tc : Thread Cert.NormBwdRefIdeal.nD Cert.NormBwdRefIdeal.τ).loc Cert.NormBwdRefIdeal.main_arg4)
      ∧ r.2.mem ((c.tc : Thread Cert.NormBwdRefIdeal.nD Cert.NormBwdRefIdeal.τ).loc Cert.NormBwdRefIdeal.main_arg5) = m ((c.tc : Thread Cert.NormBwdRefIdeal.nD Cert.NormBwdRefIdeal.τ).loc Cert.NormBwdRefIdeal.main_arg5))
      ∧ r.2.sem = fun _ => 0)

def quiescent_WeightGrad [hWeightGrad : Cert.WeightGrad.Facts] : Prop :=
  ∀ (m : (ℓ : Loc Cert.WeightGrad.nD Cert.WeightGrad.τ Cert.WeightGrad.sig) → Buf (Elt Bits) ℓ) (g : Dev Cert.WeightGrad.nD → PrngReg), Pre_WeightGrad m →
    θ_run (Cert.WeightGrad.defs (F := Bits)) (onTc (τ := Cert.WeightGrad.τ) (Cert.WeightGrad.main (F := Bits))) ⟨m, fun _ => 0, g⟩ (fun r => (∀ c : Dev Cert.WeightGrad.nD,
      r.2.mem ((c.tc : Thread Cert.WeightGrad.nD Cert.WeightGrad.τ).loc Cert.WeightGrad.main_arg0) = m ((c.tc : Thread Cert.WeightGrad.nD Cert.WeightGrad.τ).loc Cert.WeightGrad.main_arg0)
      ∧ r.2.mem ((c.tc : Thread Cert.WeightGrad.nD Cert.WeightGrad.τ).loc Cert.WeightGrad.main_arg1) = m ((c.tc : Thread Cert.WeightGrad.nD Cert.WeightGrad.τ).loc Cert.WeightGrad.main_arg1))
      ∧ r.2.sem = fun _ => 0)

def quiescent_WeightGradIdeal [hWeightGradIdeal : Cert.WeightGradIdeal.Facts] : Prop :=
  ∀ (m : (ℓ : Loc Cert.WeightGradIdeal.nD Cert.WeightGradIdeal.τ Cert.WeightGradIdeal.sig) → Buf (Elt Ideal) ℓ) (g : Dev Cert.WeightGradIdeal.nD → PrngReg), Pre_WeightGradIdeal m →
    θ_run (Cert.WeightGradIdeal.defs (F := Ideal)) (onTc (τ := Cert.WeightGradIdeal.τ) (Cert.WeightGradIdeal.main (F := Ideal))) ⟨m, fun _ => 0, g⟩ (fun r => (∀ c : Dev Cert.WeightGradIdeal.nD,
      r.2.mem ((c.tc : Thread Cert.WeightGradIdeal.nD Cert.WeightGradIdeal.τ).loc Cert.WeightGradIdeal.main_arg0) = m ((c.tc : Thread Cert.WeightGradIdeal.nD Cert.WeightGradIdeal.τ).loc Cert.WeightGradIdeal.main_arg0)
      ∧ r.2.mem ((c.tc : Thread Cert.WeightGradIdeal.nD Cert.WeightGradIdeal.τ).loc Cert.WeightGradIdeal.main_arg1) = m ((c.tc : Thread Cert.WeightGradIdeal.nD Cert.WeightGradIdeal.τ).loc Cert.WeightGradIdeal.main_arg1))
      ∧ r.2.sem = fun _ => 0)

def quiescent_WeightGradRefIdeal [hWeightGradRefIdeal : Cert.WeightGradRefIdeal.Facts] : Prop :=
  ∀ (m : (ℓ : Loc Cert.WeightGradRefIdeal.nD Cert.WeightGradRefIdeal.τ Cert.WeightGradRefIdeal.sig) → Buf (Elt Ideal) ℓ) (g : Dev Cert.WeightGradRefIdeal.nD → PrngReg), Pre_WeightGradRefIdeal m →
    θ_run (Cert.WeightGradRefIdeal.defs (F := Ideal)) (onTc (τ := Cert.WeightGradRefIdeal.τ) (Cert.WeightGradRefIdeal.main (F := Ideal))) ⟨m, fun _ => 0, g⟩ (fun r => (∀ c : Dev Cert.WeightGradRefIdeal.nD,
      r.2.mem ((c.tc : Thread Cert.WeightGradRefIdeal.nD Cert.WeightGradRefIdeal.τ).loc Cert.WeightGradRefIdeal.main_arg0) = m ((c.tc : Thread Cert.WeightGradRefIdeal.nD Cert.WeightGradRefIdeal.τ).loc Cert.WeightGradRefIdeal.main_arg0)
      ∧ r.2.mem ((c.tc : Thread Cert.WeightGradRefIdeal.nD Cert.WeightGradRefIdeal.τ).loc Cert.WeightGradRefIdeal.main_arg1) = m ((c.tc : Thread Cert.WeightGradRefIdeal.nD Cert.WeightGradRefIdeal.τ).loc Cert.WeightGradRefIdeal.main_arg1))
      ∧ r.2.sem = fun _ => 0)

def quiescent_ProjQkvg [hProjQkvg : Cert.ProjQkvg.Facts] : Prop :=
  ∀ (m : (ℓ : Loc Cert.ProjQkvg.nD Cert.ProjQkvg.τ Cert.ProjQkvg.sig) → Buf (Elt Bits) ℓ) (g : Dev Cert.ProjQkvg.nD → PrngReg), Pre_ProjQkvg m →
    θ_run (Cert.ProjQkvg.defs (F := Bits)) (onTc (τ := Cert.ProjQkvg.τ) (Cert.ProjQkvg.main (F := Bits))) ⟨m, fun _ => 0, g⟩ (fun r => (∀ c : Dev Cert.ProjQkvg.nD,
      r.2.mem ((c.tc : Thread Cert.ProjQkvg.nD Cert.ProjQkvg.τ).loc Cert.ProjQkvg.main_arg0) = m ((c.tc : Thread Cert.ProjQkvg.nD Cert.ProjQkvg.τ).loc Cert.ProjQkvg.main_arg0)
      ∧ r.2.mem ((c.tc : Thread Cert.ProjQkvg.nD Cert.ProjQkvg.τ).loc Cert.ProjQkvg.main_arg1) = m ((c.tc : Thread Cert.ProjQkvg.nD Cert.ProjQkvg.τ).loc Cert.ProjQkvg.main_arg1))
      ∧ r.2.sem = fun _ => 0)

def quiescent_ProjQkvgIdeal [hProjQkvgIdeal : Cert.ProjQkvgIdeal.Facts] : Prop :=
  ∀ (m : (ℓ : Loc Cert.ProjQkvgIdeal.nD Cert.ProjQkvgIdeal.τ Cert.ProjQkvgIdeal.sig) → Buf (Elt Ideal) ℓ) (g : Dev Cert.ProjQkvgIdeal.nD → PrngReg), Pre_ProjQkvgIdeal m →
    θ_run (Cert.ProjQkvgIdeal.defs (F := Ideal)) (onTc (τ := Cert.ProjQkvgIdeal.τ) (Cert.ProjQkvgIdeal.main (F := Ideal))) ⟨m, fun _ => 0, g⟩ (fun r => (∀ c : Dev Cert.ProjQkvgIdeal.nD,
      r.2.mem ((c.tc : Thread Cert.ProjQkvgIdeal.nD Cert.ProjQkvgIdeal.τ).loc Cert.ProjQkvgIdeal.main_arg0) = m ((c.tc : Thread Cert.ProjQkvgIdeal.nD Cert.ProjQkvgIdeal.τ).loc Cert.ProjQkvgIdeal.main_arg0)
      ∧ r.2.mem ((c.tc : Thread Cert.ProjQkvgIdeal.nD Cert.ProjQkvgIdeal.τ).loc Cert.ProjQkvgIdeal.main_arg1) = m ((c.tc : Thread Cert.ProjQkvgIdeal.nD Cert.ProjQkvgIdeal.τ).loc Cert.ProjQkvgIdeal.main_arg1))
      ∧ r.2.sem = fun _ => 0)

def quiescent_ProjQkvgRefIdeal [hProjQkvgRefIdeal : Cert.ProjQkvgRefIdeal.Facts] : Prop :=
  ∀ (m : (ℓ : Loc Cert.ProjQkvgRefIdeal.nD Cert.ProjQkvgRefIdeal.τ Cert.ProjQkvgRefIdeal.sig) → Buf (Elt Ideal) ℓ) (g : Dev Cert.ProjQkvgRefIdeal.nD → PrngReg), Pre_ProjQkvgRefIdeal m →
    θ_run (Cert.ProjQkvgRefIdeal.defs (F := Ideal)) (onTc (τ := Cert.ProjQkvgRefIdeal.τ) (Cert.ProjQkvgRefIdeal.main (F := Ideal))) ⟨m, fun _ => 0, g⟩ (fun r => (∀ c : Dev Cert.ProjQkvgRefIdeal.nD,
      r.2.mem ((c.tc : Thread Cert.ProjQkvgRefIdeal.nD Cert.ProjQkvgRefIdeal.τ).loc Cert.ProjQkvgRefIdeal.main_arg0) = m ((c.tc : Thread Cert.ProjQkvgRefIdeal.nD Cert.ProjQkvgRefIdeal.τ).loc Cert.ProjQkvgRefIdeal.main_arg0)
      ∧ r.2.mem ((c.tc : Thread Cert.ProjQkvgRefIdeal.nD Cert.ProjQkvgRefIdeal.τ).loc Cert.ProjQkvgRefIdeal.main_arg1) = m ((c.tc : Thread Cert.ProjQkvgRefIdeal.nD Cert.ProjQkvgRefIdeal.τ).loc Cert.ProjQkvgRefIdeal.main_arg1))
      ∧ r.2.sem = fun _ => 0)

def quiescent_UpBwd [hUpBwd : Cert.UpBwd.Facts] : Prop :=
  ∀ (m : (ℓ : Loc Cert.UpBwd.nD Cert.UpBwd.τ Cert.UpBwd.sig) → Buf (Elt Bits) ℓ) (g : Dev Cert.UpBwd.nD → PrngReg), Pre_UpBwd m →
    θ_run (Cert.UpBwd.defs (F := Bits)) (onTc (τ := Cert.UpBwd.τ) (Cert.UpBwd.main (F := Bits))) ⟨m, fun _ => 0, g⟩ (fun r => (∀ c : Dev Cert.UpBwd.nD,
      r.2.mem ((c.tc : Thread Cert.UpBwd.nD Cert.UpBwd.τ).loc Cert.UpBwd.main_arg0) = m ((c.tc : Thread Cert.UpBwd.nD Cert.UpBwd.τ).loc Cert.UpBwd.main_arg0)
      ∧ r.2.mem ((c.tc : Thread Cert.UpBwd.nD Cert.UpBwd.τ).loc Cert.UpBwd.main_arg1) = m ((c.tc : Thread Cert.UpBwd.nD Cert.UpBwd.τ).loc Cert.UpBwd.main_arg1)
      ∧ r.2.mem ((c.tc : Thread Cert.UpBwd.nD Cert.UpBwd.τ).loc Cert.UpBwd.main_arg2) = m ((c.tc : Thread Cert.UpBwd.nD Cert.UpBwd.τ).loc Cert.UpBwd.main_arg2)
      ∧ r.2.mem ((c.tc : Thread Cert.UpBwd.nD Cert.UpBwd.τ).loc Cert.UpBwd.main_arg3) = m ((c.tc : Thread Cert.UpBwd.nD Cert.UpBwd.τ).loc Cert.UpBwd.main_arg3)
      ∧ r.2.mem ((c.tc : Thread Cert.UpBwd.nD Cert.UpBwd.τ).loc Cert.UpBwd.main_arg4) = m ((c.tc : Thread Cert.UpBwd.nD Cert.UpBwd.τ).loc Cert.UpBwd.main_arg4)
      ∧ r.2.mem ((c.tc : Thread Cert.UpBwd.nD Cert.UpBwd.τ).loc Cert.UpBwd.main_arg5) = m ((c.tc : Thread Cert.UpBwd.nD Cert.UpBwd.τ).loc Cert.UpBwd.main_arg5)
      ∧ r.2.mem ((c.tc : Thread Cert.UpBwd.nD Cert.UpBwd.τ).loc Cert.UpBwd.main_arg6) = m ((c.tc : Thread Cert.UpBwd.nD Cert.UpBwd.τ).loc Cert.UpBwd.main_arg6))
      ∧ r.2.sem = fun _ => 0)

def quiescent_UpBwdIdeal [hUpBwdIdeal : Cert.UpBwdIdeal.Facts] : Prop :=
  ∀ (m : (ℓ : Loc Cert.UpBwdIdeal.nD Cert.UpBwdIdeal.τ Cert.UpBwdIdeal.sig) → Buf (Elt Ideal) ℓ) (g : Dev Cert.UpBwdIdeal.nD → PrngReg), Pre_UpBwdIdeal m →
    θ_run (Cert.UpBwdIdeal.defs (F := Ideal)) (onTc (τ := Cert.UpBwdIdeal.τ) (Cert.UpBwdIdeal.main (F := Ideal))) ⟨m, fun _ => 0, g⟩ (fun r => (∀ c : Dev Cert.UpBwdIdeal.nD,
      r.2.mem ((c.tc : Thread Cert.UpBwdIdeal.nD Cert.UpBwdIdeal.τ).loc Cert.UpBwdIdeal.main_arg0) = m ((c.tc : Thread Cert.UpBwdIdeal.nD Cert.UpBwdIdeal.τ).loc Cert.UpBwdIdeal.main_arg0)
      ∧ r.2.mem ((c.tc : Thread Cert.UpBwdIdeal.nD Cert.UpBwdIdeal.τ).loc Cert.UpBwdIdeal.main_arg1) = m ((c.tc : Thread Cert.UpBwdIdeal.nD Cert.UpBwdIdeal.τ).loc Cert.UpBwdIdeal.main_arg1)
      ∧ r.2.mem ((c.tc : Thread Cert.UpBwdIdeal.nD Cert.UpBwdIdeal.τ).loc Cert.UpBwdIdeal.main_arg2) = m ((c.tc : Thread Cert.UpBwdIdeal.nD Cert.UpBwdIdeal.τ).loc Cert.UpBwdIdeal.main_arg2)
      ∧ r.2.mem ((c.tc : Thread Cert.UpBwdIdeal.nD Cert.UpBwdIdeal.τ).loc Cert.UpBwdIdeal.main_arg3) = m ((c.tc : Thread Cert.UpBwdIdeal.nD Cert.UpBwdIdeal.τ).loc Cert.UpBwdIdeal.main_arg3)
      ∧ r.2.mem ((c.tc : Thread Cert.UpBwdIdeal.nD Cert.UpBwdIdeal.τ).loc Cert.UpBwdIdeal.main_arg4) = m ((c.tc : Thread Cert.UpBwdIdeal.nD Cert.UpBwdIdeal.τ).loc Cert.UpBwdIdeal.main_arg4)
      ∧ r.2.mem ((c.tc : Thread Cert.UpBwdIdeal.nD Cert.UpBwdIdeal.τ).loc Cert.UpBwdIdeal.main_arg5) = m ((c.tc : Thread Cert.UpBwdIdeal.nD Cert.UpBwdIdeal.τ).loc Cert.UpBwdIdeal.main_arg5)
      ∧ r.2.mem ((c.tc : Thread Cert.UpBwdIdeal.nD Cert.UpBwdIdeal.τ).loc Cert.UpBwdIdeal.main_arg6) = m ((c.tc : Thread Cert.UpBwdIdeal.nD Cert.UpBwdIdeal.τ).loc Cert.UpBwdIdeal.main_arg6))
      ∧ r.2.sem = fun _ => 0)

def quiescent_UpBwdRefIdeal [hUpBwdRefIdeal : Cert.UpBwdRefIdeal.Facts] : Prop :=
  ∀ (m : (ℓ : Loc Cert.UpBwdRefIdeal.nD Cert.UpBwdRefIdeal.τ Cert.UpBwdRefIdeal.sig) → Buf (Elt Ideal) ℓ) (g : Dev Cert.UpBwdRefIdeal.nD → PrngReg), Pre_UpBwdRefIdeal m →
    θ_run (Cert.UpBwdRefIdeal.defs (F := Ideal)) (onTc (τ := Cert.UpBwdRefIdeal.τ) (Cert.UpBwdRefIdeal.main (F := Ideal))) ⟨m, fun _ => 0, g⟩ (fun r => (∀ c : Dev Cert.UpBwdRefIdeal.nD,
      r.2.mem ((c.tc : Thread Cert.UpBwdRefIdeal.nD Cert.UpBwdRefIdeal.τ).loc Cert.UpBwdRefIdeal.main_arg0) = m ((c.tc : Thread Cert.UpBwdRefIdeal.nD Cert.UpBwdRefIdeal.τ).loc Cert.UpBwdRefIdeal.main_arg0)
      ∧ r.2.mem ((c.tc : Thread Cert.UpBwdRefIdeal.nD Cert.UpBwdRefIdeal.τ).loc Cert.UpBwdRefIdeal.main_arg1) = m ((c.tc : Thread Cert.UpBwdRefIdeal.nD Cert.UpBwdRefIdeal.τ).loc Cert.UpBwdRefIdeal.main_arg1)
      ∧ r.2.mem ((c.tc : Thread Cert.UpBwdRefIdeal.nD Cert.UpBwdRefIdeal.τ).loc Cert.UpBwdRefIdeal.main_arg2) = m ((c.tc : Thread Cert.UpBwdRefIdeal.nD Cert.UpBwdRefIdeal.τ).loc Cert.UpBwdRefIdeal.main_arg2)
      ∧ r.2.mem ((c.tc : Thread Cert.UpBwdRefIdeal.nD Cert.UpBwdRefIdeal.τ).loc Cert.UpBwdRefIdeal.main_arg3) = m ((c.tc : Thread Cert.UpBwdRefIdeal.nD Cert.UpBwdRefIdeal.τ).loc Cert.UpBwdRefIdeal.main_arg3)
      ∧ r.2.mem ((c.tc : Thread Cert.UpBwdRefIdeal.nD Cert.UpBwdRefIdeal.τ).loc Cert.UpBwdRefIdeal.main_arg4) = m ((c.tc : Thread Cert.UpBwdRefIdeal.nD Cert.UpBwdRefIdeal.τ).loc Cert.UpBwdRefIdeal.main_arg4)
      ∧ r.2.mem ((c.tc : Thread Cert.UpBwdRefIdeal.nD Cert.UpBwdRefIdeal.τ).loc Cert.UpBwdRefIdeal.main_arg5) = m ((c.tc : Thread Cert.UpBwdRefIdeal.nD Cert.UpBwdRefIdeal.τ).loc Cert.UpBwdRefIdeal.main_arg5)
      ∧ r.2.mem ((c.tc : Thread Cert.UpBwdRefIdeal.nD Cert.UpBwdRefIdeal.τ).loc Cert.UpBwdRefIdeal.main_arg6) = m ((c.tc : Thread Cert.UpBwdRefIdeal.nD Cert.UpBwdRefIdeal.τ).loc Cert.UpBwdRefIdeal.main_arg6))
      ∧ r.2.sem = fun _ => 0)

def quiescent_ActGrad [hActGrad : Cert.ActGrad.Facts] : Prop :=
  ∀ (m : (ℓ : Loc Cert.ActGrad.nD Cert.ActGrad.τ Cert.ActGrad.sig) → Buf (Elt Bits) ℓ) (g : Dev Cert.ActGrad.nD → PrngReg), Pre_ActGrad m →
    θ_run (Cert.ActGrad.defs (F := Bits)) (onTc (τ := Cert.ActGrad.τ) (Cert.ActGrad.main (F := Bits))) ⟨m, fun _ => 0, g⟩ (fun r => (∀ c : Dev Cert.ActGrad.nD,
      r.2.mem ((c.tc : Thread Cert.ActGrad.nD Cert.ActGrad.τ).loc Cert.ActGrad.main_arg0) = m ((c.tc : Thread Cert.ActGrad.nD Cert.ActGrad.τ).loc Cert.ActGrad.main_arg0)
      ∧ r.2.mem ((c.tc : Thread Cert.ActGrad.nD Cert.ActGrad.τ).loc Cert.ActGrad.main_arg1) = m ((c.tc : Thread Cert.ActGrad.nD Cert.ActGrad.τ).loc Cert.ActGrad.main_arg1))
      ∧ r.2.sem = fun _ => 0)

def quiescent_ActGradIdeal [hActGradIdeal : Cert.ActGradIdeal.Facts] : Prop :=
  ∀ (m : (ℓ : Loc Cert.ActGradIdeal.nD Cert.ActGradIdeal.τ Cert.ActGradIdeal.sig) → Buf (Elt Ideal) ℓ) (g : Dev Cert.ActGradIdeal.nD → PrngReg), Pre_ActGradIdeal m →
    θ_run (Cert.ActGradIdeal.defs (F := Ideal)) (onTc (τ := Cert.ActGradIdeal.τ) (Cert.ActGradIdeal.main (F := Ideal))) ⟨m, fun _ => 0, g⟩ (fun r => (∀ c : Dev Cert.ActGradIdeal.nD,
      r.2.mem ((c.tc : Thread Cert.ActGradIdeal.nD Cert.ActGradIdeal.τ).loc Cert.ActGradIdeal.main_arg0) = m ((c.tc : Thread Cert.ActGradIdeal.nD Cert.ActGradIdeal.τ).loc Cert.ActGradIdeal.main_arg0)
      ∧ r.2.mem ((c.tc : Thread Cert.ActGradIdeal.nD Cert.ActGradIdeal.τ).loc Cert.ActGradIdeal.main_arg1) = m ((c.tc : Thread Cert.ActGradIdeal.nD Cert.ActGradIdeal.τ).loc Cert.ActGradIdeal.main_arg1))
      ∧ r.2.sem = fun _ => 0)

def quiescent_ActGradRefIdeal [hActGradRefIdeal : Cert.ActGradRefIdeal.Facts] : Prop :=
  ∀ (m : (ℓ : Loc Cert.ActGradRefIdeal.nD Cert.ActGradRefIdeal.τ Cert.ActGradRefIdeal.sig) → Buf (Elt Ideal) ℓ) (g : Dev Cert.ActGradRefIdeal.nD → PrngReg), Pre_ActGradRefIdeal m →
    θ_run (Cert.ActGradRefIdeal.defs (F := Ideal)) (onTc (τ := Cert.ActGradRefIdeal.τ) (Cert.ActGradRefIdeal.main (F := Ideal))) ⟨m, fun _ => 0, g⟩ (fun r => (∀ c : Dev Cert.ActGradRefIdeal.nD,
      r.2.mem ((c.tc : Thread Cert.ActGradRefIdeal.nD Cert.ActGradRefIdeal.τ).loc Cert.ActGradRefIdeal.main_arg0) = m ((c.tc : Thread Cert.ActGradRefIdeal.nD Cert.ActGradRefIdeal.τ).loc Cert.ActGradRefIdeal.main_arg0)
      ∧ r.2.mem ((c.tc : Thread Cert.ActGradRefIdeal.nD Cert.ActGradRefIdeal.τ).loc Cert.ActGradRefIdeal.main_arg1) = m ((c.tc : Thread Cert.ActGradRefIdeal.nD Cert.ActGradRefIdeal.τ).loc Cert.ActGradRefIdeal.main_arg1))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4))
      ∧ r.2.sem = fun _ => 0)

def quiescent_BranchGrad [hBranchGrad : Cert.BranchGrad.Facts] : Prop :=
  ∀ (m : (ℓ : Loc Cert.BranchGrad.nD Cert.BranchGrad.τ Cert.BranchGrad.sig) → Buf (Elt Bits) ℓ) (g : Dev Cert.BranchGrad.nD → PrngReg), Pre_BranchGrad m →
    θ_run (Cert.BranchGrad.defs (F := Bits)) (onTc (τ := Cert.BranchGrad.τ) (Cert.BranchGrad.main (F := Bits))) ⟨m, fun _ => 0, g⟩ (fun r => (∀ c : Dev Cert.BranchGrad.nD,
      r.2.mem ((c.tc : Thread Cert.BranchGrad.nD Cert.BranchGrad.τ).loc Cert.BranchGrad.main_arg0) = m ((c.tc : Thread Cert.BranchGrad.nD Cert.BranchGrad.τ).loc Cert.BranchGrad.main_arg0)
      ∧ r.2.mem ((c.tc : Thread Cert.BranchGrad.nD Cert.BranchGrad.τ).loc Cert.BranchGrad.main_arg1) = m ((c.tc : Thread Cert.BranchGrad.nD Cert.BranchGrad.τ).loc Cert.BranchGrad.main_arg1))
      ∧ r.2.sem = fun _ => 0)

def quiescent_BranchGradIdeal [hBranchGradIdeal : Cert.BranchGradIdeal.Facts] : Prop :=
  ∀ (m : (ℓ : Loc Cert.BranchGradIdeal.nD Cert.BranchGradIdeal.τ Cert.BranchGradIdeal.sig) → Buf (Elt Ideal) ℓ) (g : Dev Cert.BranchGradIdeal.nD → PrngReg), Pre_BranchGradIdeal m →
    θ_run (Cert.BranchGradIdeal.defs (F := Ideal)) (onTc (τ := Cert.BranchGradIdeal.τ) (Cert.BranchGradIdeal.main (F := Ideal))) ⟨m, fun _ => 0, g⟩ (fun r => (∀ c : Dev Cert.BranchGradIdeal.nD,
      r.2.mem ((c.tc : Thread Cert.BranchGradIdeal.nD Cert.BranchGradIdeal.τ).loc Cert.BranchGradIdeal.main_arg0) = m ((c.tc : Thread Cert.BranchGradIdeal.nD Cert.BranchGradIdeal.τ).loc Cert.BranchGradIdeal.main_arg0)
      ∧ r.2.mem ((c.tc : Thread Cert.BranchGradIdeal.nD Cert.BranchGradIdeal.τ).loc Cert.BranchGradIdeal.main_arg1) = m ((c.tc : Thread Cert.BranchGradIdeal.nD Cert.BranchGradIdeal.τ).loc Cert.BranchGradIdeal.main_arg1))
      ∧ r.2.sem = fun _ => 0)

def quiescent_BranchGradRefIdeal [hBranchGradRefIdeal : Cert.BranchGradRefIdeal.Facts] : Prop :=
  ∀ (m : (ℓ : Loc Cert.BranchGradRefIdeal.nD Cert.BranchGradRefIdeal.τ Cert.BranchGradRefIdeal.sig) → Buf (Elt Ideal) ℓ) (g : Dev Cert.BranchGradRefIdeal.nD → PrngReg), Pre_BranchGradRefIdeal m →
    θ_run (Cert.BranchGradRefIdeal.defs (F := Ideal)) (onTc (τ := Cert.BranchGradRefIdeal.τ) (Cert.BranchGradRefIdeal.main (F := Ideal))) ⟨m, fun _ => 0, g⟩ (fun r => (∀ c : Dev Cert.BranchGradRefIdeal.nD,
      r.2.mem ((c.tc : Thread Cert.BranchGradRefIdeal.nD Cert.BranchGradRefIdeal.τ).loc Cert.BranchGradRefIdeal.main_arg0) = m ((c.tc : Thread Cert.BranchGradRefIdeal.nD Cert.BranchGradRefIdeal.τ).loc Cert.BranchGradRefIdeal.main_arg0)
      ∧ r.2.mem ((c.tc : Thread Cert.BranchGradRefIdeal.nD Cert.BranchGradRefIdeal.τ).loc Cert.BranchGradRefIdeal.main_arg1) = m ((c.tc : Thread Cert.BranchGradRefIdeal.nD Cert.BranchGradRefIdeal.τ).loc Cert.BranchGradRefIdeal.main_arg1))
      ∧ r.2.sem = fun _ => 0)

def quiescent_ProjZ [hProjZ : Cert.ProjZ.Facts] : Prop :=
  ∀ (m : (ℓ : Loc Cert.ProjZ.nD Cert.ProjZ.τ Cert.ProjZ.sig) → Buf (Elt Bits) ℓ) (g : Dev Cert.ProjZ.nD → PrngReg), Pre_ProjZ m →
    θ_run (Cert.ProjZ.defs (F := Bits)) (onTc (τ := Cert.ProjZ.τ) (Cert.ProjZ.main (F := Bits))) ⟨m, fun _ => 0, g⟩ (fun r => (∀ c : Dev Cert.ProjZ.nD,
      r.2.mem ((c.tc : Thread Cert.ProjZ.nD Cert.ProjZ.τ).loc Cert.ProjZ.main_arg0) = m ((c.tc : Thread Cert.ProjZ.nD Cert.ProjZ.τ).loc Cert.ProjZ.main_arg0)
      ∧ r.2.mem ((c.tc : Thread Cert.ProjZ.nD Cert.ProjZ.τ).loc Cert.ProjZ.main_arg1) = m ((c.tc : Thread Cert.ProjZ.nD Cert.ProjZ.τ).loc Cert.ProjZ.main_arg1))
      ∧ r.2.sem = fun _ => 0)

def quiescent_ProjZIdeal [hProjZIdeal : Cert.ProjZIdeal.Facts] : Prop :=
  ∀ (m : (ℓ : Loc Cert.ProjZIdeal.nD Cert.ProjZIdeal.τ Cert.ProjZIdeal.sig) → Buf (Elt Ideal) ℓ) (g : Dev Cert.ProjZIdeal.nD → PrngReg), Pre_ProjZIdeal m →
    θ_run (Cert.ProjZIdeal.defs (F := Ideal)) (onTc (τ := Cert.ProjZIdeal.τ) (Cert.ProjZIdeal.main (F := Ideal))) ⟨m, fun _ => 0, g⟩ (fun r => (∀ c : Dev Cert.ProjZIdeal.nD,
      r.2.mem ((c.tc : Thread Cert.ProjZIdeal.nD Cert.ProjZIdeal.τ).loc Cert.ProjZIdeal.main_arg0) = m ((c.tc : Thread Cert.ProjZIdeal.nD Cert.ProjZIdeal.τ).loc Cert.ProjZIdeal.main_arg0)
      ∧ r.2.mem ((c.tc : Thread Cert.ProjZIdeal.nD Cert.ProjZIdeal.τ).loc Cert.ProjZIdeal.main_arg1) = m ((c.tc : Thread Cert.ProjZIdeal.nD Cert.ProjZIdeal.τ).loc Cert.ProjZIdeal.main_arg1))
      ∧ r.2.sem = fun _ => 0)

def quiescent_ProjZRefIdeal [hProjZRefIdeal : Cert.ProjZRefIdeal.Facts] : Prop :=
  ∀ (m : (ℓ : Loc Cert.ProjZRefIdeal.nD Cert.ProjZRefIdeal.τ Cert.ProjZRefIdeal.sig) → Buf (Elt Ideal) ℓ) (g : Dev Cert.ProjZRefIdeal.nD → PrngReg), Pre_ProjZRefIdeal m →
    θ_run (Cert.ProjZRefIdeal.defs (F := Ideal)) (onTc (τ := Cert.ProjZRefIdeal.τ) (Cert.ProjZRefIdeal.main (F := Ideal))) ⟨m, fun _ => 0, g⟩ (fun r => (∀ c : Dev Cert.ProjZRefIdeal.nD,
      r.2.mem ((c.tc : Thread Cert.ProjZRefIdeal.nD Cert.ProjZRefIdeal.τ).loc Cert.ProjZRefIdeal.main_arg0) = m ((c.tc : Thread Cert.ProjZRefIdeal.nD Cert.ProjZRefIdeal.τ).loc Cert.ProjZRefIdeal.main_arg0)
      ∧ r.2.mem ((c.tc : Thread Cert.ProjZRefIdeal.nD Cert.ProjZRefIdeal.τ).loc Cert.ProjZRefIdeal.main_arg1) = m ((c.tc : Thread Cert.ProjZRefIdeal.nD Cert.ProjZRefIdeal.τ).loc Cert.ProjZRefIdeal.main_arg1))
      ∧ r.2.sem = fun _ => 0)

def quiescent_ProjGates [hProjGates : Cert.ProjGates.Facts] : Prop :=
  ∀ (m : (ℓ : Loc Cert.ProjGates.nD Cert.ProjGates.τ Cert.ProjGates.sig) → Buf (Elt Bits) ℓ) (g : Dev Cert.ProjGates.nD → PrngReg), Pre_ProjGates m →
    θ_run (Cert.ProjGates.defs (F := Bits)) (onTc (τ := Cert.ProjGates.τ) (Cert.ProjGates.main (F := Bits))) ⟨m, fun _ => 0, g⟩ (fun r => (∀ c : Dev Cert.ProjGates.nD,
      r.2.mem ((c.tc : Thread Cert.ProjGates.nD Cert.ProjGates.τ).loc Cert.ProjGates.main_arg0) = m ((c.tc : Thread Cert.ProjGates.nD Cert.ProjGates.τ).loc Cert.ProjGates.main_arg0)
      ∧ r.2.mem ((c.tc : Thread Cert.ProjGates.nD Cert.ProjGates.τ).loc Cert.ProjGates.main_arg1) = m ((c.tc : Thread Cert.ProjGates.nD Cert.ProjGates.τ).loc Cert.ProjGates.main_arg1))
      ∧ r.2.sem = fun _ => 0)

def quiescent_ProjGatesIdeal [hProjGatesIdeal : Cert.ProjGatesIdeal.Facts] : Prop :=
  ∀ (m : (ℓ : Loc Cert.ProjGatesIdeal.nD Cert.ProjGatesIdeal.τ Cert.ProjGatesIdeal.sig) → Buf (Elt Ideal) ℓ) (g : Dev Cert.ProjGatesIdeal.nD → PrngReg), Pre_ProjGatesIdeal m →
    θ_run (Cert.ProjGatesIdeal.defs (F := Ideal)) (onTc (τ := Cert.ProjGatesIdeal.τ) (Cert.ProjGatesIdeal.main (F := Ideal))) ⟨m, fun _ => 0, g⟩ (fun r => (∀ c : Dev Cert.ProjGatesIdeal.nD,
      r.2.mem ((c.tc : Thread Cert.ProjGatesIdeal.nD Cert.ProjGatesIdeal.τ).loc Cert.ProjGatesIdeal.main_arg0) = m ((c.tc : Thread Cert.ProjGatesIdeal.nD Cert.ProjGatesIdeal.τ).loc Cert.ProjGatesIdeal.main_arg0)
      ∧ r.2.mem ((c.tc : Thread Cert.ProjGatesIdeal.nD Cert.ProjGatesIdeal.τ).loc Cert.ProjGatesIdeal.main_arg1) = m ((c.tc : Thread Cert.ProjGatesIdeal.nD Cert.ProjGatesIdeal.τ).loc Cert.ProjGatesIdeal.main_arg1))
      ∧ r.2.sem = fun _ => 0)

def quiescent_ProjGatesRefIdeal [hProjGatesRefIdeal : Cert.ProjGatesRefIdeal.Facts] : Prop :=
  ∀ (m : (ℓ : Loc Cert.ProjGatesRefIdeal.nD Cert.ProjGatesRefIdeal.τ Cert.ProjGatesRefIdeal.sig) → Buf (Elt Ideal) ℓ) (g : Dev Cert.ProjGatesRefIdeal.nD → PrngReg), Pre_ProjGatesRefIdeal m →
    θ_run (Cert.ProjGatesRefIdeal.defs (F := Ideal)) (onTc (τ := Cert.ProjGatesRefIdeal.τ) (Cert.ProjGatesRefIdeal.main (F := Ideal))) ⟨m, fun _ => 0, g⟩ (fun r => (∀ c : Dev Cert.ProjGatesRefIdeal.nD,
      r.2.mem ((c.tc : Thread Cert.ProjGatesRefIdeal.nD Cert.ProjGatesRefIdeal.τ).loc Cert.ProjGatesRefIdeal.main_arg0) = m ((c.tc : Thread Cert.ProjGatesRefIdeal.nD Cert.ProjGatesRefIdeal.τ).loc Cert.ProjGatesRefIdeal.main_arg0)
      ∧ r.2.mem ((c.tc : Thread Cert.ProjGatesRefIdeal.nD Cert.ProjGatesRefIdeal.τ).loc Cert.ProjGatesRefIdeal.main_arg1) = m ((c.tc : Thread Cert.ProjGatesRefIdeal.nD Cert.ProjGatesRefIdeal.τ).loc Cert.ProjGatesRefIdeal.main_arg1))
      ∧ r.2.sem = fun _ => 0)

def quiescent_DownGrad [hDownGrad : Cert.DownGrad.Facts] : Prop :=
  ∀ (m : (ℓ : Loc Cert.DownGrad.nD Cert.DownGrad.τ Cert.DownGrad.sig) → Buf (Elt Bits) ℓ) (g : Dev Cert.DownGrad.nD → PrngReg), Pre_DownGrad m →
    θ_run (Cert.DownGrad.defs (F := Bits)) (onTc (τ := Cert.DownGrad.τ) (Cert.DownGrad.main (F := Bits))) ⟨m, fun _ => 0, g⟩ (fun r => (∀ c : Dev Cert.DownGrad.nD,
      r.2.mem ((c.tc : Thread Cert.DownGrad.nD Cert.DownGrad.τ).loc Cert.DownGrad.main_arg0) = m ((c.tc : Thread Cert.DownGrad.nD Cert.DownGrad.τ).loc Cert.DownGrad.main_arg0)
      ∧ r.2.mem ((c.tc : Thread Cert.DownGrad.nD Cert.DownGrad.τ).loc Cert.DownGrad.main_arg1) = m ((c.tc : Thread Cert.DownGrad.nD Cert.DownGrad.τ).loc Cert.DownGrad.main_arg1))
      ∧ r.2.sem = fun _ => 0)

def quiescent_DownGradIdeal [hDownGradIdeal : Cert.DownGradIdeal.Facts] : Prop :=
  ∀ (m : (ℓ : Loc Cert.DownGradIdeal.nD Cert.DownGradIdeal.τ Cert.DownGradIdeal.sig) → Buf (Elt Ideal) ℓ) (g : Dev Cert.DownGradIdeal.nD → PrngReg), Pre_DownGradIdeal m →
    θ_run (Cert.DownGradIdeal.defs (F := Ideal)) (onTc (τ := Cert.DownGradIdeal.τ) (Cert.DownGradIdeal.main (F := Ideal))) ⟨m, fun _ => 0, g⟩ (fun r => (∀ c : Dev Cert.DownGradIdeal.nD,
      r.2.mem ((c.tc : Thread Cert.DownGradIdeal.nD Cert.DownGradIdeal.τ).loc Cert.DownGradIdeal.main_arg0) = m ((c.tc : Thread Cert.DownGradIdeal.nD Cert.DownGradIdeal.τ).loc Cert.DownGradIdeal.main_arg0)
      ∧ r.2.mem ((c.tc : Thread Cert.DownGradIdeal.nD Cert.DownGradIdeal.τ).loc Cert.DownGradIdeal.main_arg1) = m ((c.tc : Thread Cert.DownGradIdeal.nD Cert.DownGradIdeal.τ).loc Cert.DownGradIdeal.main_arg1))
      ∧ r.2.sem = fun _ => 0)

def quiescent_DownGradRefIdeal [hDownGradRefIdeal : Cert.DownGradRefIdeal.Facts] : Prop :=
  ∀ (m : (ℓ : Loc Cert.DownGradRefIdeal.nD Cert.DownGradRefIdeal.τ Cert.DownGradRefIdeal.sig) → Buf (Elt Ideal) ℓ) (g : Dev Cert.DownGradRefIdeal.nD → PrngReg), Pre_DownGradRefIdeal m →
    θ_run (Cert.DownGradRefIdeal.defs (F := Ideal)) (onTc (τ := Cert.DownGradRefIdeal.τ) (Cert.DownGradRefIdeal.main (F := Ideal))) ⟨m, fun _ => 0, g⟩ (fun r => (∀ c : Dev Cert.DownGradRefIdeal.nD,
      r.2.mem ((c.tc : Thread Cert.DownGradRefIdeal.nD Cert.DownGradRefIdeal.τ).loc Cert.DownGradRefIdeal.main_arg0) = m ((c.tc : Thread Cert.DownGradRefIdeal.nD Cert.DownGradRefIdeal.τ).loc Cert.DownGradRefIdeal.main_arg0)
      ∧ r.2.mem ((c.tc : Thread Cert.DownGradRefIdeal.nD Cert.DownGradRefIdeal.τ).loc Cert.DownGradRefIdeal.main_arg1) = m ((c.tc : Thread Cert.DownGradRefIdeal.nD Cert.DownGradRefIdeal.τ).loc Cert.DownGradRefIdeal.main_arg1))
      ∧ r.2.sem = fun _ => 0)

def quiescent_RetGrad [hRetGrad : Cert.RetGrad.Facts] : Prop :=
  ∀ (m : (ℓ : Loc Cert.RetGrad.nD Cert.RetGrad.τ Cert.RetGrad.sig) → Buf (Elt Bits) ℓ) (g : Dev Cert.RetGrad.nD → PrngReg), Pre_RetGrad m →
    θ_run (Cert.RetGrad.defs (F := Bits)) (onTc (τ := Cert.RetGrad.τ) (Cert.RetGrad.main (F := Bits))) ⟨m, fun _ => 0, g⟩ (fun r => (∀ c : Dev Cert.RetGrad.nD,
      r.2.mem ((c.tc : Thread Cert.RetGrad.nD Cert.RetGrad.τ).loc Cert.RetGrad.main_arg0) = m ((c.tc : Thread Cert.RetGrad.nD Cert.RetGrad.τ).loc Cert.RetGrad.main_arg0)
      ∧ r.2.mem ((c.tc : Thread Cert.RetGrad.nD Cert.RetGrad.τ).loc Cert.RetGrad.main_arg1) = m ((c.tc : Thread Cert.RetGrad.nD Cert.RetGrad.τ).loc Cert.RetGrad.main_arg1))
      ∧ r.2.sem = fun _ => 0)

def quiescent_RetGradIdeal [hRetGradIdeal : Cert.RetGradIdeal.Facts] : Prop :=
  ∀ (m : (ℓ : Loc Cert.RetGradIdeal.nD Cert.RetGradIdeal.τ Cert.RetGradIdeal.sig) → Buf (Elt Ideal) ℓ) (g : Dev Cert.RetGradIdeal.nD → PrngReg), Pre_RetGradIdeal m →
    θ_run (Cert.RetGradIdeal.defs (F := Ideal)) (onTc (τ := Cert.RetGradIdeal.τ) (Cert.RetGradIdeal.main (F := Ideal))) ⟨m, fun _ => 0, g⟩ (fun r => (∀ c : Dev Cert.RetGradIdeal.nD,
      r.2.mem ((c.tc : Thread Cert.RetGradIdeal.nD Cert.RetGradIdeal.τ).loc Cert.RetGradIdeal.main_arg0) = m ((c.tc : Thread Cert.RetGradIdeal.nD Cert.RetGradIdeal.τ).loc Cert.RetGradIdeal.main_arg0)
      ∧ r.2.mem ((c.tc : Thread Cert.RetGradIdeal.nD Cert.RetGradIdeal.τ).loc Cert.RetGradIdeal.main_arg1) = m ((c.tc : Thread Cert.RetGradIdeal.nD Cert.RetGradIdeal.τ).loc Cert.RetGradIdeal.main_arg1))
      ∧ r.2.sem = fun _ => 0)

def quiescent_RetGradRefIdeal [hRetGradRefIdeal : Cert.RetGradRefIdeal.Facts] : Prop :=
  ∀ (m : (ℓ : Loc Cert.RetGradRefIdeal.nD Cert.RetGradRefIdeal.τ Cert.RetGradRefIdeal.sig) → Buf (Elt Ideal) ℓ) (g : Dev Cert.RetGradRefIdeal.nD → PrngReg), Pre_RetGradRefIdeal m →
    θ_run (Cert.RetGradRefIdeal.defs (F := Ideal)) (onTc (τ := Cert.RetGradRefIdeal.τ) (Cert.RetGradRefIdeal.main (F := Ideal))) ⟨m, fun _ => 0, g⟩ (fun r => (∀ c : Dev Cert.RetGradRefIdeal.nD,
      r.2.mem ((c.tc : Thread Cert.RetGradRefIdeal.nD Cert.RetGradRefIdeal.τ).loc Cert.RetGradRefIdeal.main_arg0) = m ((c.tc : Thread Cert.RetGradRefIdeal.nD Cert.RetGradRefIdeal.τ).loc Cert.RetGradRefIdeal.main_arg0)
      ∧ r.2.mem ((c.tc : Thread Cert.RetGradRefIdeal.nD Cert.RetGradRefIdeal.τ).loc Cert.RetGradRefIdeal.main_arg1) = m ((c.tc : Thread Cert.RetGradRefIdeal.nD Cert.RetGradRefIdeal.τ).loc Cert.RetGradRefIdeal.main_arg1))
      ∧ r.2.sem = fun _ => 0)

def quiescent_OutGrad [hOutGrad : Cert.OutGrad.Facts] : Prop :=
  ∀ (m : (ℓ : Loc Cert.OutGrad.nD Cert.OutGrad.τ Cert.OutGrad.sig) → Buf (Elt Bits) ℓ) (g : Dev Cert.OutGrad.nD → PrngReg), Pre_OutGrad m →
    θ_run (Cert.OutGrad.defs (F := Bits)) (onTc (τ := Cert.OutGrad.τ) (Cert.OutGrad.main (F := Bits))) ⟨m, fun _ => 0, g⟩ (fun r => (∀ c : Dev Cert.OutGrad.nD,
      r.2.mem ((c.tc : Thread Cert.OutGrad.nD Cert.OutGrad.τ).loc Cert.OutGrad.main_arg0) = m ((c.tc : Thread Cert.OutGrad.nD Cert.OutGrad.τ).loc Cert.OutGrad.main_arg0)
      ∧ r.2.mem ((c.tc : Thread Cert.OutGrad.nD Cert.OutGrad.τ).loc Cert.OutGrad.main_arg1) = m ((c.tc : Thread Cert.OutGrad.nD Cert.OutGrad.τ).loc Cert.OutGrad.main_arg1))
      ∧ r.2.sem = fun _ => 0)

def quiescent_OutGradIdeal [hOutGradIdeal : Cert.OutGradIdeal.Facts] : Prop :=
  ∀ (m : (ℓ : Loc Cert.OutGradIdeal.nD Cert.OutGradIdeal.τ Cert.OutGradIdeal.sig) → Buf (Elt Ideal) ℓ) (g : Dev Cert.OutGradIdeal.nD → PrngReg), Pre_OutGradIdeal m →
    θ_run (Cert.OutGradIdeal.defs (F := Ideal)) (onTc (τ := Cert.OutGradIdeal.τ) (Cert.OutGradIdeal.main (F := Ideal))) ⟨m, fun _ => 0, g⟩ (fun r => (∀ c : Dev Cert.OutGradIdeal.nD,
      r.2.mem ((c.tc : Thread Cert.OutGradIdeal.nD Cert.OutGradIdeal.τ).loc Cert.OutGradIdeal.main_arg0) = m ((c.tc : Thread Cert.OutGradIdeal.nD Cert.OutGradIdeal.τ).loc Cert.OutGradIdeal.main_arg0)
      ∧ r.2.mem ((c.tc : Thread Cert.OutGradIdeal.nD Cert.OutGradIdeal.τ).loc Cert.OutGradIdeal.main_arg1) = m ((c.tc : Thread Cert.OutGradIdeal.nD Cert.OutGradIdeal.τ).loc Cert.OutGradIdeal.main_arg1))
      ∧ r.2.sem = fun _ => 0)

def quiescent_OutGradRefIdeal [hOutGradRefIdeal : Cert.OutGradRefIdeal.Facts] : Prop :=
  ∀ (m : (ℓ : Loc Cert.OutGradRefIdeal.nD Cert.OutGradRefIdeal.τ Cert.OutGradRefIdeal.sig) → Buf (Elt Ideal) ℓ) (g : Dev Cert.OutGradRefIdeal.nD → PrngReg), Pre_OutGradRefIdeal m →
    θ_run (Cert.OutGradRefIdeal.defs (F := Ideal)) (onTc (τ := Cert.OutGradRefIdeal.τ) (Cert.OutGradRefIdeal.main (F := Ideal))) ⟨m, fun _ => 0, g⟩ (fun r => (∀ c : Dev Cert.OutGradRefIdeal.nD,
      r.2.mem ((c.tc : Thread Cert.OutGradRefIdeal.nD Cert.OutGradRefIdeal.τ).loc Cert.OutGradRefIdeal.main_arg0) = m ((c.tc : Thread Cert.OutGradRefIdeal.nD Cert.OutGradRefIdeal.τ).loc Cert.OutGradRefIdeal.main_arg0)
      ∧ r.2.mem ((c.tc : Thread Cert.OutGradRefIdeal.nD Cert.OutGradRefIdeal.τ).loc Cert.OutGradRefIdeal.main_arg1) = m ((c.tc : Thread Cert.OutGradRefIdeal.nD Cert.OutGradRefIdeal.τ).loc Cert.OutGradRefIdeal.main_arg1))
      ∧ r.2.sem = fun _ => 0)

def quiescent_OutNorm [hOutNorm : Cert.OutNorm.Facts] : Prop :=
  ∀ (m : (ℓ : Loc Cert.OutNorm.nD Cert.OutNorm.τ Cert.OutNorm.sig) → Buf (Elt Bits) ℓ) (g : Dev Cert.OutNorm.nD → PrngReg), Pre_OutNorm m →
    θ_run (Cert.OutNorm.defs (F := Bits)) (onTc (τ := Cert.OutNorm.τ) (Cert.OutNorm.main (F := Bits))) ⟨m, fun _ => 0, g⟩ (fun r => (∀ c : Dev Cert.OutNorm.nD,
      r.2.mem ((c.tc : Thread Cert.OutNorm.nD Cert.OutNorm.τ).loc Cert.OutNorm.main_arg0) = m ((c.tc : Thread Cert.OutNorm.nD Cert.OutNorm.τ).loc Cert.OutNorm.main_arg0)
      ∧ r.2.mem ((c.tc : Thread Cert.OutNorm.nD Cert.OutNorm.τ).loc Cert.OutNorm.main_arg1) = m ((c.tc : Thread Cert.OutNorm.nD Cert.OutNorm.τ).loc Cert.OutNorm.main_arg1)
      ∧ r.2.mem ((c.tc : Thread Cert.OutNorm.nD Cert.OutNorm.τ).loc Cert.OutNorm.main_arg2) = m ((c.tc : Thread Cert.OutNorm.nD Cert.OutNorm.τ).loc Cert.OutNorm.main_arg2)
      ∧ r.2.mem ((c.tc : Thread Cert.OutNorm.nD Cert.OutNorm.τ).loc Cert.OutNorm.main_arg3) = m ((c.tc : Thread Cert.OutNorm.nD Cert.OutNorm.τ).loc Cert.OutNorm.main_arg3))
      ∧ r.2.sem = fun _ => 0)

def quiescent_OutNormIdeal [hOutNormIdeal : Cert.OutNormIdeal.Facts] : Prop :=
  ∀ (m : (ℓ : Loc Cert.OutNormIdeal.nD Cert.OutNormIdeal.τ Cert.OutNormIdeal.sig) → Buf (Elt Ideal) ℓ) (g : Dev Cert.OutNormIdeal.nD → PrngReg), Pre_OutNormIdeal m →
    θ_run (Cert.OutNormIdeal.defs (F := Ideal)) (onTc (τ := Cert.OutNormIdeal.τ) (Cert.OutNormIdeal.main (F := Ideal))) ⟨m, fun _ => 0, g⟩ (fun r => (∀ c : Dev Cert.OutNormIdeal.nD,
      r.2.mem ((c.tc : Thread Cert.OutNormIdeal.nD Cert.OutNormIdeal.τ).loc Cert.OutNormIdeal.main_arg0) = m ((c.tc : Thread Cert.OutNormIdeal.nD Cert.OutNormIdeal.τ).loc Cert.OutNormIdeal.main_arg0)
      ∧ r.2.mem ((c.tc : Thread Cert.OutNormIdeal.nD Cert.OutNormIdeal.τ).loc Cert.OutNormIdeal.main_arg1) = m ((c.tc : Thread Cert.OutNormIdeal.nD Cert.OutNormIdeal.τ).loc Cert.OutNormIdeal.main_arg1)
      ∧ r.2.mem ((c.tc : Thread Cert.OutNormIdeal.nD Cert.OutNormIdeal.τ).loc Cert.OutNormIdeal.main_arg2) = m ((c.tc : Thread Cert.OutNormIdeal.nD Cert.OutNormIdeal.τ).loc Cert.OutNormIdeal.main_arg2)
      ∧ r.2.mem ((c.tc : Thread Cert.OutNormIdeal.nD Cert.OutNormIdeal.τ).loc Cert.OutNormIdeal.main_arg3) = m ((c.tc : Thread Cert.OutNormIdeal.nD Cert.OutNormIdeal.τ).loc Cert.OutNormIdeal.main_arg3))
      ∧ r.2.sem = fun _ => 0)

def quiescent_OutNormRefIdeal [hOutNormRefIdeal : Cert.OutNormRefIdeal.Facts] : Prop :=
  ∀ (m : (ℓ : Loc Cert.OutNormRefIdeal.nD Cert.OutNormRefIdeal.τ Cert.OutNormRefIdeal.sig) → Buf (Elt Ideal) ℓ) (g : Dev Cert.OutNormRefIdeal.nD → PrngReg), Pre_OutNormRefIdeal m →
    θ_run (Cert.OutNormRefIdeal.defs (F := Ideal)) (onTc (τ := Cert.OutNormRefIdeal.τ) (Cert.OutNormRefIdeal.main (F := Ideal))) ⟨m, fun _ => 0, g⟩ (fun r => (∀ c : Dev Cert.OutNormRefIdeal.nD,
      r.2.mem ((c.tc : Thread Cert.OutNormRefIdeal.nD Cert.OutNormRefIdeal.τ).loc Cert.OutNormRefIdeal.main_arg0) = m ((c.tc : Thread Cert.OutNormRefIdeal.nD Cert.OutNormRefIdeal.τ).loc Cert.OutNormRefIdeal.main_arg0)
      ∧ r.2.mem ((c.tc : Thread Cert.OutNormRefIdeal.nD Cert.OutNormRefIdeal.τ).loc Cert.OutNormRefIdeal.main_arg1) = m ((c.tc : Thread Cert.OutNormRefIdeal.nD Cert.OutNormRefIdeal.τ).loc Cert.OutNormRefIdeal.main_arg1)
      ∧ r.2.mem ((c.tc : Thread Cert.OutNormRefIdeal.nD Cert.OutNormRefIdeal.τ).loc Cert.OutNormRefIdeal.main_arg2) = m ((c.tc : Thread Cert.OutNormRefIdeal.nD Cert.OutNormRefIdeal.τ).loc Cert.OutNormRefIdeal.main_arg2)
      ∧ r.2.mem ((c.tc : Thread Cert.OutNormRefIdeal.nD Cert.OutNormRefIdeal.τ).loc Cert.OutNormRefIdeal.main_arg3) = m ((c.tc : Thread Cert.OutNormRefIdeal.nD Cert.OutNormRefIdeal.τ).loc Cert.OutNormRefIdeal.main_arg3))
      ∧ r.2.sem = fun _ => 0)

def quiescent_MergeBwd [hMergeBwd : Cert.MergeBwd.Facts] : Prop :=
  ∀ (m : (ℓ : Loc Cert.MergeBwd.nD Cert.MergeBwd.τ Cert.MergeBwd.sig) → Buf (Elt Bits) ℓ) (g : Dev Cert.MergeBwd.nD → PrngReg), Pre_MergeBwd m →
    θ_run (Cert.MergeBwd.defs (F := Bits)) (onTc (τ := Cert.MergeBwd.τ) (Cert.MergeBwd.main (F := Bits))) ⟨m, fun _ => 0, g⟩ (fun r => (∀ c : Dev Cert.MergeBwd.nD,
      r.2.mem ((c.tc : Thread Cert.MergeBwd.nD Cert.MergeBwd.τ).loc Cert.MergeBwd.main_arg0) = m ((c.tc : Thread Cert.MergeBwd.nD Cert.MergeBwd.τ).loc Cert.MergeBwd.main_arg0)
      ∧ r.2.mem ((c.tc : Thread Cert.MergeBwd.nD Cert.MergeBwd.τ).loc Cert.MergeBwd.main_arg1) = m ((c.tc : Thread Cert.MergeBwd.nD Cert.MergeBwd.τ).loc Cert.MergeBwd.main_arg1)
      ∧ r.2.mem ((c.tc : Thread Cert.MergeBwd.nD Cert.MergeBwd.τ).loc Cert.MergeBwd.main_arg2) = m ((c.tc : Thread Cert.MergeBwd.nD Cert.MergeBwd.τ).loc Cert.MergeBwd.main_arg2)
      ∧ r.2.mem ((c.tc : Thread Cert.MergeBwd.nD Cert.MergeBwd.τ).loc Cert.MergeBwd.main_arg3) = m ((c.tc : Thread Cert.MergeBwd.nD Cert.MergeBwd.τ).loc Cert.MergeBwd.main_arg3)
      ∧ r.2.mem ((c.tc : Thread Cert.MergeBwd.nD Cert.MergeBwd.τ).loc Cert.MergeBwd.main_arg4) = m ((c.tc : Thread Cert.MergeBwd.nD Cert.MergeBwd.τ).loc Cert.MergeBwd.main_arg4)
      ∧ r.2.mem ((c.tc : Thread Cert.MergeBwd.nD Cert.MergeBwd.τ).loc Cert.MergeBwd.main_arg5) = m ((c.tc : Thread Cert.MergeBwd.nD Cert.MergeBwd.τ).loc Cert.MergeBwd.main_arg5))
      ∧ r.2.sem = fun _ => 0)

def quiescent_MergeBwdIdeal [hMergeBwdIdeal : Cert.MergeBwdIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg), Pre_MergeBwdIdeal m →
    θ_run (Cert.MergeBwdIdeal.defs (F := Ideal)) (onTc (τ := Cert.MergeBwdIdeal.τ) (Cert.MergeBwdIdeal.main (F := Ideal))) ⟨m, fun _ => 0, g⟩ (fun r => (∀ c : Dev Cert.MergeBwdIdeal.nD,
      r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
      ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
      ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
      ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
      ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4)
      ∧ r.2.mem ((c.tc : Thread Cert.MergeBwdIdeal.nD Cert.MergeBwdIdeal.τ).loc Cert.MergeBwdIdeal.main_arg5) = m ((c.tc : Thread Cert.MergeBwdIdeal.nD Cert.MergeBwdIdeal.τ).loc Cert.MergeBwdIdeal.main_arg5))
      ∧ r.2.sem = fun _ => 0)

def quiescent_MergeBwdRefIdeal [hMergeBwdRefIdeal : Cert.MergeBwdRefIdeal.Facts] : Prop :=
  ∀ (m : (ℓ : Loc Cert.MergeBwdRefIdeal.nD Cert.MergeBwdRefIdeal.τ Cert.MergeBwdRefIdeal.sig) → Buf (Elt Ideal) ℓ) (g : Dev Cert.MergeBwdRefIdeal.nD → PrngReg), Pre_MergeBwdRefIdeal m →
    θ_run (Cert.MergeBwdRefIdeal.defs (F := Ideal)) (onTc (τ := Cert.MergeBwdRefIdeal.τ) (Cert.MergeBwdRefIdeal.main (F := Ideal))) ⟨m, fun _ => 0, g⟩ (fun r => (∀ c : Dev Cert.MergeBwdRefIdeal.nD,
      r.2.mem ((c.tc : Thread Cert.MergeBwdRefIdeal.nD Cert.MergeBwdRefIdeal.τ).loc Cert.MergeBwdRefIdeal.main_arg0) = m ((c.tc : Thread Cert.MergeBwdRefIdeal.nD Cert.MergeBwdRefIdeal.τ).loc Cert.MergeBwdRefIdeal.main_arg0)
      ∧ r.2.mem ((c.tc : Thread Cert.MergeBwdRefIdeal.nD Cert.MergeBwdRefIdeal.τ).loc Cert.MergeBwdRefIdeal.main_arg1) = m ((c.tc : Thread Cert.MergeBwdRefIdeal.nD Cert.MergeBwdRefIdeal.τ).loc Cert.MergeBwdRefIdeal.main_arg1)
      ∧ r.2.mem ((c.tc : Thread Cert.MergeBwdRefIdeal.nD Cert.MergeBwdRefIdeal.τ).loc Cert.MergeBwdRefIdeal.main_arg2) = m ((c.tc : Thread Cert.MergeBwdRefIdeal.nD Cert.MergeBwdRefIdeal.τ).loc Cert.MergeBwdRefIdeal.main_arg2)
      ∧ r.2.mem ((c.tc : Thread Cert.MergeBwdRefIdeal.nD Cert.MergeBwdRefIdeal.τ).loc Cert.MergeBwdRefIdeal.main_arg3) = m ((c.tc : Thread Cert.MergeBwdRefIdeal.nD Cert.MergeBwdRefIdeal.τ).loc Cert.MergeBwdRefIdeal.main_arg3)
      ∧ r.2.mem ((c.tc : Thread Cert.MergeBwdRefIdeal.nD Cert.MergeBwdRefIdeal.τ).loc Cert.MergeBwdRefIdeal.main_arg4) = m ((c.tc : Thread Cert.MergeBwdRefIdeal.nD Cert.MergeBwdRefIdeal.τ).loc Cert.MergeBwdRefIdeal.main_arg4)
      ∧ r.2.mem ((c.tc : Thread Cert.MergeBwdRefIdeal.nD Cert.MergeBwdRefIdeal.τ).loc Cert.MergeBwdRefIdeal.main_arg5) = m ((c.tc : Thread Cert.MergeBwdRefIdeal.nD Cert.MergeBwdRefIdeal.τ).loc Cert.MergeBwdRefIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v25_0)) (v1 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25_0) = v0 c
          ∧ r.2.mem ((c.tc : Thread Cert.KernelIdeal.nD Cert.KernelIdeal.τ).loc Cert.KernelIdeal.main_v27) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v265) = v0 c
          ∧ r.2.mem ((c.tc : Thread Cert.ReferenceIdeal.nD Cert.ReferenceIdeal.τ).loc Cert.ReferenceIdeal.main_v269) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_NormBwd_NormBwdIdeal : Prop :=
  True

def algebraic_NormBwdIdeal_NormBwdRefIdeal [hNormBwdIdeal : Cert.NormBwdIdeal.Facts] [hNormBwdRefIdeal : Cert.NormBwdRefIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.NormBwdRefIdeal.nD Cert.NormBwdRefIdeal.τ Cert.NormBwdRefIdeal.sig) → Buf (Elt Ideal) ℓ) (g' : Dev Cert.NormBwdRefIdeal.nD → PrngReg), Pre_NormBwdIdeal m →
    (∀ c : Dev Cert.NormBwdIdeal.nD,
      m' ((c.tc : Thread Cert.NormBwdRefIdeal.nD Cert.NormBwdRefIdeal.τ).loc Cert.NormBwdRefIdeal.main_arg0) = m ((c.tc : Thread Cert.NormBwdIdeal.nD Cert.NormBwdIdeal.τ).loc Cert.NormBwdIdeal.main_arg0)
      ∧ m' ((c.tc : Thread Cert.NormBwdRefIdeal.nD Cert.NormBwdRefIdeal.τ).loc Cert.NormBwdRefIdeal.main_arg1) = m ((c.tc : Thread Cert.NormBwdIdeal.nD Cert.NormBwdIdeal.τ).loc Cert.NormBwdIdeal.main_arg1)
      ∧ m' ((c.tc : Thread Cert.NormBwdRefIdeal.nD Cert.NormBwdRefIdeal.τ).loc Cert.NormBwdRefIdeal.main_arg2) = m ((c.tc : Thread Cert.NormBwdIdeal.nD Cert.NormBwdIdeal.τ).loc Cert.NormBwdIdeal.main_arg2)
      ∧ m' ((c.tc : Thread Cert.NormBwdRefIdeal.nD Cert.NormBwdRefIdeal.τ).loc Cert.NormBwdRefIdeal.main_arg3) = m ((c.tc : Thread Cert.NormBwdIdeal.nD Cert.NormBwdIdeal.τ).loc Cert.NormBwdIdeal.main_arg3)
      ∧ m' ((c.tc : Thread Cert.NormBwdRefIdeal.nD Cert.NormBwdRefIdeal.τ).loc Cert.NormBwdRefIdeal.main_arg4) = m ((c.tc : Thread Cert.NormBwdIdeal.nD Cert.NormBwdIdeal.τ).loc Cert.NormBwdIdeal.main_arg4)
      ∧ m' ((c.tc : Thread Cert.NormBwdRefIdeal.nD Cert.NormBwdRefIdeal.τ).loc Cert.NormBwdRefIdeal.main_arg5) = m ((c.tc : Thread Cert.NormBwdIdeal.nD Cert.NormBwdIdeal.τ).loc Cert.NormBwdIdeal.main_arg5)) →
    ∃ (v0 : (c : Dev Cert.NormBwdIdeal.nD) → Buf (Elt Ideal) ((c.tc : Thread Cert.NormBwdIdeal.nD Cert.NormBwdIdeal.τ).loc Cert.NormBwdIdeal.main_v0_0)) (v1 : (c : Dev Cert.NormBwdIdeal.nD) → Buf (Elt Ideal) ((c.tc : Thread Cert.NormBwdIdeal.nD Cert.NormBwdIdeal.τ).loc Cert.NormBwdIdeal.main_v0_1)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v0_0) = v0 c
          ∧ r.2.mem ((c.tc : Thread Cert.NormBwdIdeal.nD Cert.NormBwdIdeal.τ).loc Cert.NormBwdIdeal.main_v0_1) = v1 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
          ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
          ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4)
          ∧ r.2.mem ((c.tc : Thread Cert.NormBwdIdeal.nD Cert.NormBwdIdeal.τ).loc Cert.NormBwdIdeal.main_arg5) = m ((c.tc : Thread Cert.NormBwdIdeal.nD Cert.NormBwdIdeal.τ).loc Cert.NormBwdIdeal.main_arg5))
      ∧ θ_run (Cert.NormBwdRefIdeal.defs (F := Ideal)) (onTc (τ := Cert.NormBwdRefIdeal.τ) (Cert.NormBwdRefIdeal.main (F := Ideal))) ⟨m', fun _ => 0, g'⟩ (fun r => ∀ c : Dev Cert.NormBwdRefIdeal.nD,
          r.2.mem ((c.tc : Thread Cert.NormBwdRefIdeal.nD Cert.NormBwdRefIdeal.τ).loc Cert.NormBwdRefIdeal.main_v38) = v0 c
          ∧ r.2.mem ((c.tc : Thread Cert.NormBwdRefIdeal.nD Cert.NormBwdRefIdeal.τ).loc Cert.NormBwdRefIdeal.main_v21) = v1 c
          ∧ r.2.mem ((c.tc : Thread Cert.NormBwdRefIdeal.nD Cert.NormBwdRefIdeal.τ).loc Cert.NormBwdRefIdeal.main_arg0) = m' ((c.tc : Thread Cert.NormBwdRefIdeal.nD Cert.NormBwdRefIdeal.τ).loc Cert.NormBwdRefIdeal.main_arg0)
          ∧ r.2.mem ((c.tc : Thread Cert.NormBwdRefIdeal.nD Cert.NormBwdRefIdeal.τ).loc Cert.NormBwdRefIdeal.main_arg1) = m' ((c.tc : Thread Cert.NormBwdRefIdeal.nD Cert.NormBwdRefIdeal.τ).loc Cert.NormBwdRefIdeal.main_arg1)
          ∧ r.2.mem ((c.tc : Thread Cert.NormBwdRefIdeal.nD Cert.NormBwdRefIdeal.τ).loc Cert.NormBwdRefIdeal.main_arg2) = m' ((c.tc : Thread Cert.NormBwdRefIdeal.nD Cert.NormBwdRefIdeal.τ).loc Cert.NormBwdRefIdeal.main_arg2)
          ∧ r.2.mem ((c.tc : Thread Cert.NormBwdRefIdeal.nD Cert.NormBwdRefIdeal.τ).loc Cert.NormBwdRefIdeal.main_arg3) = m' ((c.tc : Thread Cert.NormBwdRefIdeal.nD Cert.NormBwdRefIdeal.τ).loc Cert.NormBwdRefIdeal.main_arg3)
          ∧ r.2.mem ((c.tc : Thread Cert.NormBwdRefIdeal.nD Cert.NormBwdRefIdeal.τ).loc Cert.NormBwdRefIdeal.main_arg4) = m' ((c.tc : Thread Cert.NormBwdRefIdeal.nD Cert.NormBwdRefIdeal.τ).loc Cert.NormBwdRefIdeal.main_arg4)
          ∧ r.2.mem ((c.tc : Thread Cert.NormBwdRefIdeal.nD Cert.NormBwdRefIdeal.τ).loc Cert.NormBwdRefIdeal.main_arg5) = m' ((c.tc : Thread Cert.NormBwdRefIdeal.nD Cert.NormBwdRefIdeal.τ).loc Cert.NormBwdRefIdeal.main_arg5))

def preserves_WeightGrad_WeightGradIdeal : Prop :=
  True

def algebraic_WeightGradIdeal_WeightGradRefIdeal [hWeightGradIdeal : Cert.WeightGradIdeal.Facts] [hWeightGradRefIdeal : Cert.WeightGradRefIdeal.Facts] : Prop :=
  ∀ (m : (ℓ : Loc Cert.WeightGradIdeal.nD Cert.WeightGradIdeal.τ Cert.WeightGradIdeal.sig) → Buf (Elt Ideal) ℓ) (g : Dev Cert.WeightGradIdeal.nD → PrngReg)
    (m' : (ℓ : Loc Cert.WeightGradRefIdeal.nD Cert.WeightGradRefIdeal.τ Cert.WeightGradRefIdeal.sig) → Buf (Elt Ideal) ℓ) (g' : Dev Cert.WeightGradRefIdeal.nD → PrngReg), Pre_WeightGradIdeal m →
    (∀ c : Dev Cert.WeightGradIdeal.nD,
      m' ((c.tc : Thread Cert.WeightGradRefIdeal.nD Cert.WeightGradRefIdeal.τ).loc Cert.WeightGradRefIdeal.main_arg0) = m ((c.tc : Thread Cert.WeightGradIdeal.nD Cert.WeightGradIdeal.τ).loc Cert.WeightGradIdeal.main_arg0)
      ∧ m' ((c.tc : Thread Cert.WeightGradRefIdeal.nD Cert.WeightGradRefIdeal.τ).loc Cert.WeightGradRefIdeal.main_arg1) = m ((c.tc : Thread Cert.WeightGradIdeal.nD Cert.WeightGradIdeal.τ).loc Cert.WeightGradIdeal.main_arg1)) →
    ∃ (v0 : (c : Dev Cert.WeightGradIdeal.nD) → Buf (Elt Ideal) ((c.tc : Thread Cert.WeightGradIdeal.nD Cert.WeightGradIdeal.τ).loc Cert.WeightGradIdeal.main_v0)),
      θ_run (Cert.WeightGradIdeal.defs (F := Ideal)) (onTc (τ := Cert.WeightGradIdeal.τ) (Cert.WeightGradIdeal.main (F := Ideal))) ⟨m, fun _ => 0, g⟩ (fun r => ∀ c : Dev Cert.WeightGradIdeal.nD,
          r.2.mem ((c.tc : Thread Cert.WeightGradIdeal.nD Cert.WeightGradIdeal.τ).loc Cert.WeightGradIdeal.main_v0) = v0 c
          ∧ r.2.mem ((c.tc : Thread Cert.WeightGradIdeal.nD Cert.WeightGradIdeal.τ).loc Cert.WeightGradIdeal.main_arg0) = m ((c.tc : Thread Cert.WeightGradIdeal.nD Cert.WeightGradIdeal.τ).loc Cert.WeightGradIdeal.main_arg0)
          ∧ r.2.mem ((c.tc : Thread Cert.WeightGradIdeal.nD Cert.WeightGradIdeal.τ).loc Cert.WeightGradIdeal.main_arg1) = m ((c.tc : Thread Cert.WeightGradIdeal.nD Cert.WeightGradIdeal.τ).loc Cert.WeightGradIdeal.main_arg1))
      ∧ θ_run (Cert.WeightGradRefIdeal.defs (F := Ideal)) (onTc (τ := Cert.WeightGradRefIdeal.τ) (Cert.WeightGradRefIdeal.main (F := Ideal))) ⟨m', fun _ => 0, g'⟩ (fun r => ∀ c : Dev Cert.WeightGradRefIdeal.nD,
          r.2.mem ((c.tc : Thread Cert.WeightGradRefIdeal.nD Cert.WeightGradRefIdeal.τ).loc Cert.WeightGradRefIdeal.main_v5) = v0 c
          ∧ r.2.mem ((c.tc : Thread Cert.WeightGradRefIdeal.nD Cert.WeightGradRefIdeal.τ).loc Cert.WeightGradRefIdeal.main_arg0) = m' ((c.tc : Thread Cert.WeightGradRefIdeal.nD Cert.WeightGradRefIdeal.τ).loc Cert.WeightGradRefIdeal.main_arg0)
          ∧ r.2.mem ((c.tc : Thread Cert.WeightGradRefIdeal.nD Cert.WeightGradRefIdeal.τ).loc Cert.WeightGradRefIdeal.main_arg1) = m' ((c.tc : Thread Cert.WeightGradRefIdeal.nD Cert.WeightGradRefIdeal.τ).loc Cert.WeightGradRefIdeal.main_arg1))

def preserves_ProjQkvg_ProjQkvgIdeal : Prop :=
  True

def algebraic_ProjQkvgIdeal_ProjQkvgRefIdeal [hProjQkvgIdeal : Cert.ProjQkvgIdeal.Facts] [hProjQkvgRefIdeal : Cert.ProjQkvgRefIdeal.Facts] : Prop :=
  ∀ (m : (ℓ : Loc Cert.ProjQkvgIdeal.nD Cert.ProjQkvgIdeal.τ Cert.ProjQkvgIdeal.sig) → Buf (Elt Ideal) ℓ) (g : Dev Cert.ProjQkvgIdeal.nD → PrngReg)
    (m' : (ℓ : Loc Cert.ProjQkvgRefIdeal.nD Cert.ProjQkvgRefIdeal.τ Cert.ProjQkvgRefIdeal.sig) → Buf (Elt Ideal) ℓ) (g' : Dev Cert.ProjQkvgRefIdeal.nD → PrngReg), Pre_ProjQkvgIdeal m →
    (∀ c : Dev Cert.ProjQkvgIdeal.nD,
      m' ((c.tc : Thread Cert.ProjQkvgRefIdeal.nD Cert.ProjQkvgRefIdeal.τ).loc Cert.ProjQkvgRefIdeal.main_arg0) = m ((c.tc : Thread Cert.ProjQkvgIdeal.nD Cert.ProjQkvgIdeal.τ).loc Cert.ProjQkvgIdeal.main_arg0)
      ∧ m' ((c.tc : Thread Cert.ProjQkvgRefIdeal.nD Cert.ProjQkvgRefIdeal.τ).loc Cert.ProjQkvgRefIdeal.main_arg1) = m ((c.tc : Thread Cert.ProjQkvgIdeal.nD Cert.ProjQkvgIdeal.τ).loc Cert.ProjQkvgIdeal.main_arg1)) →
    ∃ (v0 : (c : Dev Cert.ProjQkvgIdeal.nD) → Buf (Elt Ideal) ((c.tc : Thread Cert.ProjQkvgIdeal.nD Cert.ProjQkvgIdeal.τ).loc Cert.ProjQkvgIdeal.main_v0)),
      θ_run (Cert.ProjQkvgIdeal.defs (F := Ideal)) (onTc (τ := Cert.ProjQkvgIdeal.τ) (Cert.ProjQkvgIdeal.main (F := Ideal))) ⟨m, fun _ => 0, g⟩ (fun r => ∀ c : Dev Cert.ProjQkvgIdeal.nD,
          r.2.mem ((c.tc : Thread Cert.ProjQkvgIdeal.nD Cert.ProjQkvgIdeal.τ).loc Cert.ProjQkvgIdeal.main_v0) = v0 c
          ∧ r.2.mem ((c.tc : Thread Cert.ProjQkvgIdeal.nD Cert.ProjQkvgIdeal.τ).loc Cert.ProjQkvgIdeal.main_arg0) = m ((c.tc : Thread Cert.ProjQkvgIdeal.nD Cert.ProjQkvgIdeal.τ).loc Cert.ProjQkvgIdeal.main_arg0)
          ∧ r.2.mem ((c.tc : Thread Cert.ProjQkvgIdeal.nD Cert.ProjQkvgIdeal.τ).loc Cert.ProjQkvgIdeal.main_arg1) = m ((c.tc : Thread Cert.ProjQkvgIdeal.nD Cert.ProjQkvgIdeal.τ).loc Cert.ProjQkvgIdeal.main_arg1))
      ∧ θ_run (Cert.ProjQkvgRefIdeal.defs (F := Ideal)) (onTc (τ := Cert.ProjQkvgRefIdeal.τ) (Cert.ProjQkvgRefIdeal.main (F := Ideal))) ⟨m', fun _ => 0, g'⟩ (fun r => ∀ c : Dev Cert.ProjQkvgRefIdeal.nD,
          r.2.mem ((c.tc : Thread Cert.ProjQkvgRefIdeal.nD Cert.ProjQkvgRefIdeal.τ).loc Cert.ProjQkvgRefIdeal.main_v4) = v0 c
          ∧ r.2.mem ((c.tc : Thread Cert.ProjQkvgRefIdeal.nD Cert.ProjQkvgRefIdeal.τ).loc Cert.ProjQkvgRefIdeal.main_arg0) = m' ((c.tc : Thread Cert.ProjQkvgRefIdeal.nD Cert.ProjQkvgRefIdeal.τ).loc Cert.ProjQkvgRefIdeal.main_arg0)
          ∧ r.2.mem ((c.tc : Thread Cert.ProjQkvgRefIdeal.nD Cert.ProjQkvgRefIdeal.τ).loc Cert.ProjQkvgRefIdeal.main_arg1) = m' ((c.tc : Thread Cert.ProjQkvgRefIdeal.nD Cert.ProjQkvgRefIdeal.τ).loc Cert.ProjQkvgRefIdeal.main_arg1))

def preserves_UpBwd_UpBwdIdeal : Prop :=
  True

def algebraic_UpBwdIdeal_UpBwdRefIdeal [hUpBwdIdeal : Cert.UpBwdIdeal.Facts] [hUpBwdRefIdeal : Cert.UpBwdRefIdeal.Facts] : Prop :=
  ∀ (m : (ℓ : Loc Cert.UpBwdIdeal.nD Cert.UpBwdIdeal.τ Cert.UpBwdIdeal.sig) → Buf (Elt Ideal) ℓ) (g : Dev Cert.UpBwdIdeal.nD → PrngReg)
    (m' : (ℓ : Loc Cert.UpBwdRefIdeal.nD Cert.UpBwdRefIdeal.τ Cert.UpBwdRefIdeal.sig) → Buf (Elt Ideal) ℓ) (g' : Dev Cert.UpBwdRefIdeal.nD → PrngReg), Pre_UpBwdIdeal m →
    (∀ c : Dev Cert.UpBwdIdeal.nD,
      m' ((c.tc : Thread Cert.UpBwdRefIdeal.nD Cert.UpBwdRefIdeal.τ).loc Cert.UpBwdRefIdeal.main_arg0) = m ((c.tc : Thread Cert.UpBwdIdeal.nD Cert.UpBwdIdeal.τ).loc Cert.UpBwdIdeal.main_arg0)
      ∧ m' ((c.tc : Thread Cert.UpBwdRefIdeal.nD Cert.UpBwdRefIdeal.τ).loc Cert.UpBwdRefIdeal.main_arg1) = m ((c.tc : Thread Cert.UpBwdIdeal.nD Cert.UpBwdIdeal.τ).loc Cert.UpBwdIdeal.main_arg1)
      ∧ m' ((c.tc : Thread Cert.UpBwdRefIdeal.nD Cert.UpBwdRefIdeal.τ).loc Cert.UpBwdRefIdeal.main_arg2) = m ((c.tc : Thread Cert.UpBwdIdeal.nD Cert.UpBwdIdeal.τ).loc Cert.UpBwdIdeal.main_arg2)
      ∧ m' ((c.tc : Thread Cert.UpBwdRefIdeal.nD Cert.UpBwdRefIdeal.τ).loc Cert.UpBwdRefIdeal.main_arg3) = m ((c.tc : Thread Cert.UpBwdIdeal.nD Cert.UpBwdIdeal.τ).loc Cert.UpBwdIdeal.main_arg3)
      ∧ m' ((c.tc : Thread Cert.UpBwdRefIdeal.nD Cert.UpBwdRefIdeal.τ).loc Cert.UpBwdRefIdeal.main_arg4) = m ((c.tc : Thread Cert.UpBwdIdeal.nD Cert.UpBwdIdeal.τ).loc Cert.UpBwdIdeal.main_arg4)
      ∧ m' ((c.tc : Thread Cert.UpBwdRefIdeal.nD Cert.UpBwdRefIdeal.τ).loc Cert.UpBwdRefIdeal.main_arg5) = m ((c.tc : Thread Cert.UpBwdIdeal.nD Cert.UpBwdIdeal.τ).loc Cert.UpBwdIdeal.main_arg5)
      ∧ m' ((c.tc : Thread Cert.UpBwdRefIdeal.nD Cert.UpBwdRefIdeal.τ).loc Cert.UpBwdRefIdeal.main_arg6) = m ((c.tc : Thread Cert.UpBwdIdeal.nD Cert.UpBwdIdeal.τ).loc Cert.UpBwdIdeal.main_arg6)) →
    ∃ (v0 : (c : Dev Cert.UpBwdIdeal.nD) → Buf (Elt Ideal) ((c.tc : Thread Cert.UpBwdIdeal.nD Cert.UpBwdIdeal.τ).loc Cert.UpBwdIdeal.main_v0_0)) (v1 : (c : Dev Cert.UpBwdIdeal.nD) → Buf (Elt Ideal) ((c.tc : Thread Cert.UpBwdIdeal.nD Cert.UpBwdIdeal.τ).loc Cert.UpBwdIdeal.main_v0_1)) (v2 : (c : Dev Cert.UpBwdIdeal.nD) → Buf (Elt Ideal) ((c.tc : Thread Cert.UpBwdIdeal.nD Cert.UpBwdIdeal.τ).loc Cert.UpBwdIdeal.main_v0_2)),
      θ_run (Cert.UpBwdIdeal.defs (F := Ideal)) (onTc (τ := Cert.UpBwdIdeal.τ) (Cert.UpBwdIdeal.main (F := Ideal))) ⟨m, fun _ => 0, g⟩ (fun r => ∀ c : Dev Cert.UpBwdIdeal.nD,
          r.2.mem ((c.tc : Thread Cert.UpBwdIdeal.nD Cert.UpBwdIdeal.τ).loc Cert.UpBwdIdeal.main_v0_0) = v0 c
          ∧ r.2.mem ((c.tc : Thread Cert.UpBwdIdeal.nD Cert.UpBwdIdeal.τ).loc Cert.UpBwdIdeal.main_v0_1) = v1 c
          ∧ r.2.mem ((c.tc : Thread Cert.UpBwdIdeal.nD Cert.UpBwdIdeal.τ).loc Cert.UpBwdIdeal.main_v0_2) = v2 c
          ∧ r.2.mem ((c.tc : Thread Cert.UpBwdIdeal.nD Cert.UpBwdIdeal.τ).loc Cert.UpBwdIdeal.main_arg0) = m ((c.tc : Thread Cert.UpBwdIdeal.nD Cert.UpBwdIdeal.τ).loc Cert.UpBwdIdeal.main_arg0)
          ∧ r.2.mem ((c.tc : Thread Cert.UpBwdIdeal.nD Cert.UpBwdIdeal.τ).loc Cert.UpBwdIdeal.main_arg1) = m ((c.tc : Thread Cert.UpBwdIdeal.nD Cert.UpBwdIdeal.τ).loc Cert.UpBwdIdeal.main_arg1)
          ∧ r.2.mem ((c.tc : Thread Cert.UpBwdIdeal.nD Cert.UpBwdIdeal.τ).loc Cert.UpBwdIdeal.main_arg2) = m ((c.tc : Thread Cert.UpBwdIdeal.nD Cert.UpBwdIdeal.τ).loc Cert.UpBwdIdeal.main_arg2)
          ∧ r.2.mem ((c.tc : Thread Cert.UpBwdIdeal.nD Cert.UpBwdIdeal.τ).loc Cert.UpBwdIdeal.main_arg3) = m ((c.tc : Thread Cert.UpBwdIdeal.nD Cert.UpBwdIdeal.τ).loc Cert.UpBwdIdeal.main_arg3)
          ∧ r.2.mem ((c.tc : Thread Cert.UpBwdIdeal.nD Cert.UpBwdIdeal.τ).loc Cert.UpBwdIdeal.main_arg4) = m ((c.tc : Thread Cert.UpBwdIdeal.nD Cert.UpBwdIdeal.τ).loc Cert.UpBwdIdeal.main_arg4)
          ∧ r.2.mem ((c.tc : Thread Cert.UpBwdIdeal.nD Cert.UpBwdIdeal.τ).loc Cert.UpBwdIdeal.main_arg5) = m ((c.tc : Thread Cert.UpBwdIdeal.nD Cert.UpBwdIdeal.τ).loc Cert.UpBwdIdeal.main_arg5)
          ∧ r.2.mem ((c.tc : Thread Cert.UpBwdIdeal.nD Cert.UpBwdIdeal.τ).loc Cert.UpBwdIdeal.main_arg6) = m ((c.tc : Thread Cert.UpBwdIdeal.nD Cert.UpBwdIdeal.τ).loc Cert.UpBwdIdeal.main_arg6))
      ∧ θ_run (Cert.UpBwdRefIdeal.defs (F := Ideal)) (onTc (τ := Cert.UpBwdRefIdeal.τ) (Cert.UpBwdRefIdeal.main (F := Ideal))) ⟨m', fun _ => 0, g'⟩ (fun r => ∀ c : Dev Cert.UpBwdRefIdeal.nD,
          r.2.mem ((c.tc : Thread Cert.UpBwdRefIdeal.nD Cert.UpBwdRefIdeal.τ).loc Cert.UpBwdRefIdeal.main_v39) = v0 c
          ∧ r.2.mem ((c.tc : Thread Cert.UpBwdRefIdeal.nD Cert.UpBwdRefIdeal.τ).loc Cert.UpBwdRefIdeal.main_v22) = v1 c
          ∧ r.2.mem ((c.tc : Thread Cert.UpBwdRefIdeal.nD Cert.UpBwdRefIdeal.τ).loc Cert.UpBwdRefIdeal.main_v40) = v2 c
          ∧ r.2.mem ((c.tc : Thread Cert.UpBwdRefIdeal.nD Cert.UpBwdRefIdeal.τ).loc Cert.UpBwdRefIdeal.main_arg0) = m' ((c.tc : Thread Cert.UpBwdRefIdeal.nD Cert.UpBwdRefIdeal.τ).loc Cert.UpBwdRefIdeal.main_arg0)
          ∧ r.2.mem ((c.tc : Thread Cert.UpBwdRefIdeal.nD Cert.UpBwdRefIdeal.τ).loc Cert.UpBwdRefIdeal.main_arg1) = m' ((c.tc : Thread Cert.UpBwdRefIdeal.nD Cert.UpBwdRefIdeal.τ).loc Cert.UpBwdRefIdeal.main_arg1)
          ∧ r.2.mem ((c.tc : Thread Cert.UpBwdRefIdeal.nD Cert.UpBwdRefIdeal.τ).loc Cert.UpBwdRefIdeal.main_arg2) = m' ((c.tc : Thread Cert.UpBwdRefIdeal.nD Cert.UpBwdRefIdeal.τ).loc Cert.UpBwdRefIdeal.main_arg2)
          ∧ r.2.mem ((c.tc : Thread Cert.UpBwdRefIdeal.nD Cert.UpBwdRefIdeal.τ).loc Cert.UpBwdRefIdeal.main_arg3) = m' ((c.tc : Thread Cert.UpBwdRefIdeal.nD Cert.UpBwdRefIdeal.τ).loc Cert.UpBwdRefIdeal.main_arg3)
          ∧ r.2.mem ((c.tc : Thread Cert.UpBwdRefIdeal.nD Cert.UpBwdRefIdeal.τ).loc Cert.UpBwdRefIdeal.main_arg4) = m' ((c.tc : Thread Cert.UpBwdRefIdeal.nD Cert.UpBwdRefIdeal.τ).loc Cert.UpBwdRefIdeal.main_arg4)
          ∧ r.2.mem ((c.tc : Thread Cert.UpBwdRefIdeal.nD Cert.UpBwdRefIdeal.τ).loc Cert.UpBwdRefIdeal.main_arg5) = m' ((c.tc : Thread Cert.UpBwdRefIdeal.nD Cert.UpBwdRefIdeal.τ).loc Cert.UpBwdRefIdeal.main_arg5)
          ∧ r.2.mem ((c.tc : Thread Cert.UpBwdRefIdeal.nD Cert.UpBwdRefIdeal.τ).loc Cert.UpBwdRefIdeal.main_arg6) = m' ((c.tc : Thread Cert.UpBwdRefIdeal.nD Cert.UpBwdRefIdeal.τ).loc Cert.UpBwdRefIdeal.main_arg6))

def preserves_ActGrad_ActGradIdeal : Prop :=
  True

def algebraic_ActGradIdeal_ActGradRefIdeal [hActGradIdeal : Cert.ActGradIdeal.Facts] [hActGradRefIdeal : Cert.ActGradRefIdeal.Facts] : Prop :=
  ∀ (m : (ℓ : Loc Cert.ActGradIdeal.nD Cert.ActGradIdeal.τ Cert.ActGradIdeal.sig) → Buf (Elt Ideal) ℓ) (g : Dev Cert.ActGradIdeal.nD → PrngReg)
    (m' : (ℓ : Loc Cert.ActGradRefIdeal.nD Cert.ActGradRefIdeal.τ Cert.ActGradRefIdeal.sig) → Buf (Elt Ideal) ℓ) (g' : Dev Cert.ActGradRefIdeal.nD → PrngReg), Pre_ActGradIdeal m →
    (∀ c : Dev Cert.ActGradIdeal.nD,
      m' ((c.tc : Thread Cert.ActGradRefIdeal.nD Cert.ActGradRefIdeal.τ).loc Cert.ActGradRefIdeal.main_arg0) = m ((c.tc : Thread Cert.ActGradIdeal.nD Cert.ActGradIdeal.τ).loc Cert.ActGradIdeal.main_arg0)
      ∧ m' ((c.tc : Thread Cert.ActGradRefIdeal.nD Cert.ActGradRefIdeal.τ).loc Cert.ActGradRefIdeal.main_arg1) = m ((c.tc : Thread Cert.ActGradIdeal.nD Cert.ActGradIdeal.τ).loc Cert.ActGradIdeal.main_arg1)) →
    ∃ (v0 : (c : Dev Cert.ActGradIdeal.nD) → Buf (Elt Ideal) ((c.tc : Thread Cert.ActGradIdeal.nD Cert.ActGradIdeal.τ).loc Cert.ActGradIdeal.main_v0)),
      θ_run (Cert.ActGradIdeal.defs (F := Ideal)) (onTc (τ := Cert.ActGradIdeal.τ) (Cert.ActGradIdeal.main (F := Ideal))) ⟨m, fun _ => 0, g⟩ (fun r => ∀ c : Dev Cert.ActGradIdeal.nD,
          r.2.mem ((c.tc : Thread Cert.ActGradIdeal.nD Cert.ActGradIdeal.τ).loc Cert.ActGradIdeal.main_v0) = v0 c
          ∧ r.2.mem ((c.tc : Thread Cert.ActGradIdeal.nD Cert.ActGradIdeal.τ).loc Cert.ActGradIdeal.main_arg0) = m ((c.tc : Thread Cert.ActGradIdeal.nD Cert.ActGradIdeal.τ).loc Cert.ActGradIdeal.main_arg0)
          ∧ r.2.mem ((c.tc : Thread Cert.ActGradIdeal.nD Cert.ActGradIdeal.τ).loc Cert.ActGradIdeal.main_arg1) = m ((c.tc : Thread Cert.ActGradIdeal.nD Cert.ActGradIdeal.τ).loc Cert.ActGradIdeal.main_arg1))
      ∧ θ_run (Cert.ActGradRefIdeal.defs (F := Ideal)) (onTc (τ := Cert.ActGradRefIdeal.τ) (Cert.ActGradRefIdeal.main (F := Ideal))) ⟨m', fun _ => 0, g'⟩ (fun r => ∀ c : Dev Cert.ActGradRefIdeal.nD,
          r.2.mem ((c.tc : Thread Cert.ActGradRefIdeal.nD Cert.ActGradRefIdeal.τ).loc Cert.ActGradRefIdeal.main_v5) = v0 c
          ∧ r.2.mem ((c.tc : Thread Cert.ActGradRefIdeal.nD Cert.ActGradRefIdeal.τ).loc Cert.ActGradRefIdeal.main_arg0) = m' ((c.tc : Thread Cert.ActGradRefIdeal.nD Cert.ActGradRefIdeal.τ).loc Cert.ActGradRefIdeal.main_arg0)
          ∧ r.2.mem ((c.tc : Thread Cert.ActGradRefIdeal.nD Cert.ActGradRefIdeal.τ).loc Cert.ActGradRefIdeal.main_arg1) = m' ((c.tc : Thread Cert.ActGradRefIdeal.nD Cert.ActGradRefIdeal.τ).loc Cert.ActGradRefIdeal.main_arg1))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v23) = v0 c
          ∧ r.2.mem ((c.tc : Thread Cert.AdamSmallRefIdeal.nD Cert.AdamSmallRefIdeal.τ).loc Cert.AdamSmallRefIdeal.main_v4) = v1 c
          ∧ r.2.mem ((c.tc : Thread Cert.AdamSmallRefIdeal.nD Cert.AdamSmallRefIdeal.τ).loc Cert.AdamSmallRefIdeal.main_v10) = v2 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v0_0)) (v1 : (c : Dev Cert.MergeIdeal.nD) → Buf (Elt Ideal) ((c.tc : Thread Cert.MergeIdeal.nD Cert.MergeIdeal.τ).loc Cert.MergeIdeal.main_v0_1)) (v2 : (c : Dev Cert.MergeIdeal.nD) → Buf (Elt Ideal) ((c.tc : Thread Cert.MergeIdeal.nD Cert.MergeIdeal.τ).loc Cert.MergeIdeal.main_v0_2)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0_0) = v0 c
          ∧ r.2.mem ((c.tc : Thread Cert.MergeIdeal.nD Cert.MergeIdeal.τ).loc Cert.MergeIdeal.main_v0_1) = v1 c
          ∧ r.2.mem ((c.tc : Thread Cert.MergeIdeal.nD Cert.MergeIdeal.τ).loc Cert.MergeIdeal.main_v0_2) = v2 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v24) = v0 c
          ∧ r.2.mem ((c.tc : Thread Cert.MergeRefIdeal.nD Cert.MergeRefIdeal.τ).loc Cert.MergeRefIdeal.main_v25) = v1 c
          ∧ r.2.mem ((c.tc : Thread Cert.MergeRefIdeal.nD Cert.MergeRefIdeal.τ).loc Cert.MergeRefIdeal.main_v26) = v2 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4))

def preserves_BranchGrad_BranchGradIdeal : Prop :=
  True

def algebraic_BranchGradIdeal_BranchGradRefIdeal [hBranchGradIdeal : Cert.BranchGradIdeal.Facts] [hBranchGradRefIdeal : Cert.BranchGradRefIdeal.Facts] : Prop :=
  ∀ (m : (ℓ : Loc Cert.BranchGradIdeal.nD Cert.BranchGradIdeal.τ Cert.BranchGradIdeal.sig) → Buf (Elt Ideal) ℓ) (g : Dev Cert.BranchGradIdeal.nD → PrngReg)
    (m' : (ℓ : Loc Cert.BranchGradRefIdeal.nD Cert.BranchGradRefIdeal.τ Cert.BranchGradRefIdeal.sig) → Buf (Elt Ideal) ℓ) (g' : Dev Cert.BranchGradRefIdeal.nD → PrngReg), Pre_BranchGradIdeal m →
    (∀ c : Dev Cert.BranchGradIdeal.nD,
      m' ((c.tc : Thread Cert.BranchGradRefIdeal.nD Cert.BranchGradRefIdeal.τ).loc Cert.BranchGradRefIdeal.main_arg0) = m ((c.tc : Thread Cert.BranchGradIdeal.nD Cert.BranchGradIdeal.τ).loc Cert.BranchGradIdeal.main_arg0)
      ∧ m' ((c.tc : Thread Cert.BranchGradRefIdeal.nD Cert.BranchGradRefIdeal.τ).loc Cert.BranchGradRefIdeal.main_arg1) = m ((c.tc : Thread Cert.BranchGradIdeal.nD Cert.BranchGradIdeal.τ).loc Cert.BranchGradIdeal.main_arg1)) →
    ∃ (v0 : (c : Dev Cert.BranchGradIdeal.nD) → Buf (Elt Ideal) ((c.tc : Thread Cert.BranchGradIdeal.nD Cert.BranchGradIdeal.τ).loc Cert.BranchGradIdeal.main_v0)),
      θ_run (Cert.BranchGradIdeal.defs (F := Ideal)) (onTc (τ := Cert.BranchGradIdeal.τ) (Cert.BranchGradIdeal.main (F := Ideal))) ⟨m, fun _ => 0, g⟩ (fun r => ∀ c : Dev Cert.BranchGradIdeal.nD,
          r.2.mem ((c.tc : Thread Cert.BranchGradIdeal.nD Cert.BranchGradIdeal.τ).loc Cert.BranchGradIdeal.main_v0) = v0 c
          ∧ r.2.mem ((c.tc : Thread Cert.BranchGradIdeal.nD Cert.BranchGradIdeal.τ).loc Cert.BranchGradIdeal.main_arg0) = m ((c.tc : Thread Cert.BranchGradIdeal.nD Cert.BranchGradIdeal.τ).loc Cert.BranchGradIdeal.main_arg0)
          ∧ r.2.mem ((c.tc : Thread Cert.BranchGradIdeal.nD Cert.BranchGradIdeal.τ).loc Cert.BranchGradIdeal.main_arg1) = m ((c.tc : Thread Cert.BranchGradIdeal.nD Cert.BranchGradIdeal.τ).loc Cert.BranchGradIdeal.main_arg1))
      ∧ θ_run (Cert.BranchGradRefIdeal.defs (F := Ideal)) (onTc (τ := Cert.BranchGradRefIdeal.τ) (Cert.BranchGradRefIdeal.main (F := Ideal))) ⟨m', fun _ => 0, g'⟩ (fun r => ∀ c : Dev Cert.BranchGradRefIdeal.nD,
          r.2.mem ((c.tc : Thread Cert.BranchGradRefIdeal.nD Cert.BranchGradRefIdeal.τ).loc Cert.BranchGradRefIdeal.main_v6) = v0 c
          ∧ r.2.mem ((c.tc : Thread Cert.BranchGradRefIdeal.nD Cert.BranchGradRefIdeal.τ).loc Cert.BranchGradRefIdeal.main_arg0) = m' ((c.tc : Thread Cert.BranchGradRefIdeal.nD Cert.BranchGradRefIdeal.τ).loc Cert.BranchGradRefIdeal.main_arg0)
          ∧ r.2.mem ((c.tc : Thread Cert.BranchGradRefIdeal.nD Cert.BranchGradRefIdeal.τ).loc Cert.BranchGradRefIdeal.main_arg1) = m' ((c.tc : Thread Cert.BranchGradRefIdeal.nD Cert.BranchGradRefIdeal.τ).loc Cert.BranchGradRefIdeal.main_arg1))

def preserves_ProjZ_ProjZIdeal : Prop :=
  True

def algebraic_ProjZIdeal_ProjZRefIdeal [hProjZIdeal : Cert.ProjZIdeal.Facts] [hProjZRefIdeal : Cert.ProjZRefIdeal.Facts] : Prop :=
  ∀ (m : (ℓ : Loc Cert.ProjZIdeal.nD Cert.ProjZIdeal.τ Cert.ProjZIdeal.sig) → Buf (Elt Ideal) ℓ) (g : Dev Cert.ProjZIdeal.nD → PrngReg)
    (m' : (ℓ : Loc Cert.ProjZRefIdeal.nD Cert.ProjZRefIdeal.τ Cert.ProjZRefIdeal.sig) → Buf (Elt Ideal) ℓ) (g' : Dev Cert.ProjZRefIdeal.nD → PrngReg), Pre_ProjZIdeal m →
    (∀ c : Dev Cert.ProjZIdeal.nD,
      m' ((c.tc : Thread Cert.ProjZRefIdeal.nD Cert.ProjZRefIdeal.τ).loc Cert.ProjZRefIdeal.main_arg0) = m ((c.tc : Thread Cert.ProjZIdeal.nD Cert.ProjZIdeal.τ).loc Cert.ProjZIdeal.main_arg0)
      ∧ m' ((c.tc : Thread Cert.ProjZRefIdeal.nD Cert.ProjZRefIdeal.τ).loc Cert.ProjZRefIdeal.main_arg1) = m ((c.tc : Thread Cert.ProjZIdeal.nD Cert.ProjZIdeal.τ).loc Cert.ProjZIdeal.main_arg1)) →
    ∃ (v0 : (c : Dev Cert.ProjZIdeal.nD) → Buf (Elt Ideal) ((c.tc : Thread Cert.ProjZIdeal.nD Cert.ProjZIdeal.τ).loc Cert.ProjZIdeal.main_v0)),
      θ_run (Cert.ProjZIdeal.defs (F := Ideal)) (onTc (τ := Cert.ProjZIdeal.τ) (Cert.ProjZIdeal.main (F := Ideal))) ⟨m, fun _ => 0, g⟩ (fun r => ∀ c : Dev Cert.ProjZIdeal.nD,
          r.2.mem ((c.tc : Thread Cert.ProjZIdeal.nD Cert.ProjZIdeal.τ).loc Cert.ProjZIdeal.main_v0) = v0 c
          ∧ r.2.mem ((c.tc : Thread Cert.ProjZIdeal.nD Cert.ProjZIdeal.τ).loc Cert.ProjZIdeal.main_arg0) = m ((c.tc : Thread Cert.ProjZIdeal.nD Cert.ProjZIdeal.τ).loc Cert.ProjZIdeal.main_arg0)
          ∧ r.2.mem ((c.tc : Thread Cert.ProjZIdeal.nD Cert.ProjZIdeal.τ).loc Cert.ProjZIdeal.main_arg1) = m ((c.tc : Thread Cert.ProjZIdeal.nD Cert.ProjZIdeal.τ).loc Cert.ProjZIdeal.main_arg1))
      ∧ θ_run (Cert.ProjZRefIdeal.defs (F := Ideal)) (onTc (τ := Cert.ProjZRefIdeal.τ) (Cert.ProjZRefIdeal.main (F := Ideal))) ⟨m', fun _ => 0, g'⟩ (fun r => ∀ c : Dev Cert.ProjZRefIdeal.nD,
          r.2.mem ((c.tc : Thread Cert.ProjZRefIdeal.nD Cert.ProjZRefIdeal.τ).loc Cert.ProjZRefIdeal.main_v4) = v0 c
          ∧ r.2.mem ((c.tc : Thread Cert.ProjZRefIdeal.nD Cert.ProjZRefIdeal.τ).loc Cert.ProjZRefIdeal.main_arg0) = m' ((c.tc : Thread Cert.ProjZRefIdeal.nD Cert.ProjZRefIdeal.τ).loc Cert.ProjZRefIdeal.main_arg0)
          ∧ r.2.mem ((c.tc : Thread Cert.ProjZRefIdeal.nD Cert.ProjZRefIdeal.τ).loc Cert.ProjZRefIdeal.main_arg1) = m' ((c.tc : Thread Cert.ProjZRefIdeal.nD Cert.ProjZRefIdeal.τ).loc Cert.ProjZRefIdeal.main_arg1))

def preserves_ProjGates_ProjGatesIdeal : Prop :=
  True

def algebraic_ProjGatesIdeal_ProjGatesRefIdeal [hProjGatesIdeal : Cert.ProjGatesIdeal.Facts] [hProjGatesRefIdeal : Cert.ProjGatesRefIdeal.Facts] : Prop :=
  ∀ (m : (ℓ : Loc Cert.ProjGatesIdeal.nD Cert.ProjGatesIdeal.τ Cert.ProjGatesIdeal.sig) → Buf (Elt Ideal) ℓ) (g : Dev Cert.ProjGatesIdeal.nD → PrngReg)
    (m' : (ℓ : Loc Cert.ProjGatesRefIdeal.nD Cert.ProjGatesRefIdeal.τ Cert.ProjGatesRefIdeal.sig) → Buf (Elt Ideal) ℓ) (g' : Dev Cert.ProjGatesRefIdeal.nD → PrngReg), Pre_ProjGatesIdeal m →
    (∀ c : Dev Cert.ProjGatesIdeal.nD,
      m' ((c.tc : Thread Cert.ProjGatesRefIdeal.nD Cert.ProjGatesRefIdeal.τ).loc Cert.ProjGatesRefIdeal.main_arg0) = m ((c.tc : Thread Cert.ProjGatesIdeal.nD Cert.ProjGatesIdeal.τ).loc Cert.ProjGatesIdeal.main_arg0)
      ∧ m' ((c.tc : Thread Cert.ProjGatesRefIdeal.nD Cert.ProjGatesRefIdeal.τ).loc Cert.ProjGatesRefIdeal.main_arg1) = m ((c.tc : Thread Cert.ProjGatesIdeal.nD Cert.ProjGatesIdeal.τ).loc Cert.ProjGatesIdeal.main_arg1)) →
    ∃ (v0 : (c : Dev Cert.ProjGatesIdeal.nD) → Buf (Elt Ideal) ((c.tc : Thread Cert.ProjGatesIdeal.nD Cert.ProjGatesIdeal.τ).loc Cert.ProjGatesIdeal.main_v0)),
      θ_run (Cert.ProjGatesIdeal.defs (F := Ideal)) (onTc (τ := Cert.ProjGatesIdeal.τ) (Cert.ProjGatesIdeal.main (F := Ideal))) ⟨m, fun _ => 0, g⟩ (fun r => ∀ c : Dev Cert.ProjGatesIdeal.nD,
          r.2.mem ((c.tc : Thread Cert.ProjGatesIdeal.nD Cert.ProjGatesIdeal.τ).loc Cert.ProjGatesIdeal.main_v0) = v0 c
          ∧ r.2.mem ((c.tc : Thread Cert.ProjGatesIdeal.nD Cert.ProjGatesIdeal.τ).loc Cert.ProjGatesIdeal.main_arg0) = m ((c.tc : Thread Cert.ProjGatesIdeal.nD Cert.ProjGatesIdeal.τ).loc Cert.ProjGatesIdeal.main_arg0)
          ∧ r.2.mem ((c.tc : Thread Cert.ProjGatesIdeal.nD Cert.ProjGatesIdeal.τ).loc Cert.ProjGatesIdeal.main_arg1) = m ((c.tc : Thread Cert.ProjGatesIdeal.nD Cert.ProjGatesIdeal.τ).loc Cert.ProjGatesIdeal.main_arg1))
      ∧ θ_run (Cert.ProjGatesRefIdeal.defs (F := Ideal)) (onTc (τ := Cert.ProjGatesRefIdeal.τ) (Cert.ProjGatesRefIdeal.main (F := Ideal))) ⟨m', fun _ => 0, g'⟩ (fun r => ∀ c : Dev Cert.ProjGatesRefIdeal.nD,
          r.2.mem ((c.tc : Thread Cert.ProjGatesRefIdeal.nD Cert.ProjGatesRefIdeal.τ).loc Cert.ProjGatesRefIdeal.main_v4) = v0 c
          ∧ r.2.mem ((c.tc : Thread Cert.ProjGatesRefIdeal.nD Cert.ProjGatesRefIdeal.τ).loc Cert.ProjGatesRefIdeal.main_arg0) = m' ((c.tc : Thread Cert.ProjGatesRefIdeal.nD Cert.ProjGatesRefIdeal.τ).loc Cert.ProjGatesRefIdeal.main_arg0)
          ∧ r.2.mem ((c.tc : Thread Cert.ProjGatesRefIdeal.nD Cert.ProjGatesRefIdeal.τ).loc Cert.ProjGatesRefIdeal.main_arg1) = m' ((c.tc : Thread Cert.ProjGatesRefIdeal.nD Cert.ProjGatesRefIdeal.τ).loc Cert.ProjGatesRefIdeal.main_arg1))

def preserves_DownGrad_DownGradIdeal : Prop :=
  True

def algebraic_DownGradIdeal_DownGradRefIdeal [hDownGradIdeal : Cert.DownGradIdeal.Facts] [hDownGradRefIdeal : Cert.DownGradRefIdeal.Facts] : Prop :=
  ∀ (m : (ℓ : Loc Cert.DownGradIdeal.nD Cert.DownGradIdeal.τ Cert.DownGradIdeal.sig) → Buf (Elt Ideal) ℓ) (g : Dev Cert.DownGradIdeal.nD → PrngReg)
    (m' : (ℓ : Loc Cert.DownGradRefIdeal.nD Cert.DownGradRefIdeal.τ Cert.DownGradRefIdeal.sig) → Buf (Elt Ideal) ℓ) (g' : Dev Cert.DownGradRefIdeal.nD → PrngReg), Pre_DownGradIdeal m →
    (∀ c : Dev Cert.DownGradIdeal.nD,
      m' ((c.tc : Thread Cert.DownGradRefIdeal.nD Cert.DownGradRefIdeal.τ).loc Cert.DownGradRefIdeal.main_arg0) = m ((c.tc : Thread Cert.DownGradIdeal.nD Cert.DownGradIdeal.τ).loc Cert.DownGradIdeal.main_arg0)
      ∧ m' ((c.tc : Thread Cert.DownGradRefIdeal.nD Cert.DownGradRefIdeal.τ).loc Cert.DownGradRefIdeal.main_arg1) = m ((c.tc : Thread Cert.DownGradIdeal.nD Cert.DownGradIdeal.τ).loc Cert.DownGradIdeal.main_arg1)) →
    ∃ (v0 : (c : Dev Cert.DownGradIdeal.nD) → Buf (Elt Ideal) ((c.tc : Thread Cert.DownGradIdeal.nD Cert.DownGradIdeal.τ).loc Cert.DownGradIdeal.main_v0)),
      θ_run (Cert.DownGradIdeal.defs (F := Ideal)) (onTc (τ := Cert.DownGradIdeal.τ) (Cert.DownGradIdeal.main (F := Ideal))) ⟨m, fun _ => 0, g⟩ (fun r => ∀ c : Dev Cert.DownGradIdeal.nD,
          r.2.mem ((c.tc : Thread Cert.DownGradIdeal.nD Cert.DownGradIdeal.τ).loc Cert.DownGradIdeal.main_v0) = v0 c
          ∧ r.2.mem ((c.tc : Thread Cert.DownGradIdeal.nD Cert.DownGradIdeal.τ).loc Cert.DownGradIdeal.main_arg0) = m ((c.tc : Thread Cert.DownGradIdeal.nD Cert.DownGradIdeal.τ).loc Cert.DownGradIdeal.main_arg0)
          ∧ r.2.mem ((c.tc : Thread Cert.DownGradIdeal.nD Cert.DownGradIdeal.τ).loc Cert.DownGradIdeal.main_arg1) = m ((c.tc : Thread Cert.DownGradIdeal.nD Cert.DownGradIdeal.τ).loc Cert.DownGradIdeal.main_arg1))
      ∧ θ_run (Cert.DownGradRefIdeal.defs (F := Ideal)) (onTc (τ := Cert.DownGradRefIdeal.τ) (Cert.DownGradRefIdeal.main (F := Ideal))) ⟨m', fun _ => 0, g'⟩ (fun r => ∀ c : Dev Cert.DownGradRefIdeal.nD,
          r.2.mem ((c.tc : Thread Cert.DownGradRefIdeal.nD Cert.DownGradRefIdeal.τ).loc Cert.DownGradRefIdeal.main_v6) = v0 c
          ∧ r.2.mem ((c.tc : Thread Cert.DownGradRefIdeal.nD Cert.DownGradRefIdeal.τ).loc Cert.DownGradRefIdeal.main_arg0) = m' ((c.tc : Thread Cert.DownGradRefIdeal.nD Cert.DownGradRefIdeal.τ).loc Cert.DownGradRefIdeal.main_arg0)
          ∧ r.2.mem ((c.tc : Thread Cert.DownGradRefIdeal.nD Cert.DownGradRefIdeal.τ).loc Cert.DownGradRefIdeal.main_arg1) = m' ((c.tc : Thread Cert.DownGradRefIdeal.nD Cert.DownGradRefIdeal.τ).loc Cert.DownGradRefIdeal.main_arg1))

def preserves_RetGrad_RetGradIdeal : Prop :=
  True

def algebraic_RetGradIdeal_RetGradRefIdeal [hRetGradIdeal : Cert.RetGradIdeal.Facts] [hRetGradRefIdeal : Cert.RetGradRefIdeal.Facts] : Prop :=
  ∀ (m : (ℓ : Loc Cert.RetGradIdeal.nD Cert.RetGradIdeal.τ Cert.RetGradIdeal.sig) → Buf (Elt Ideal) ℓ) (g : Dev Cert.RetGradIdeal.nD → PrngReg)
    (m' : (ℓ : Loc Cert.RetGradRefIdeal.nD Cert.RetGradRefIdeal.τ Cert.RetGradRefIdeal.sig) → Buf (Elt Ideal) ℓ) (g' : Dev Cert.RetGradRefIdeal.nD → PrngReg), Pre_RetGradIdeal m →
    (∀ c : Dev Cert.RetGradIdeal.nD,
      m' ((c.tc : Thread Cert.RetGradRefIdeal.nD Cert.RetGradRefIdeal.τ).loc Cert.RetGradRefIdeal.main_arg0) = m ((c.tc : Thread Cert.RetGradIdeal.nD Cert.RetGradIdeal.τ).loc Cert.RetGradIdeal.main_arg0)
      ∧ m' ((c.tc : Thread Cert.RetGradRefIdeal.nD Cert.RetGradRefIdeal.τ).loc Cert.RetGradRefIdeal.main_arg1) = m ((c.tc : Thread Cert.RetGradIdeal.nD Cert.RetGradIdeal.τ).loc Cert.RetGradIdeal.main_arg1)) →
    ∃ (v0 : (c : Dev Cert.RetGradIdeal.nD) → Buf (Elt Ideal) ((c.tc : Thread Cert.RetGradIdeal.nD Cert.RetGradIdeal.τ).loc Cert.RetGradIdeal.main_v0)),
      θ_run (Cert.RetGradIdeal.defs (F := Ideal)) (onTc (τ := Cert.RetGradIdeal.τ) (Cert.RetGradIdeal.main (F := Ideal))) ⟨m, fun _ => 0, g⟩ (fun r => ∀ c : Dev Cert.RetGradIdeal.nD,
          r.2.mem ((c.tc : Thread Cert.RetGradIdeal.nD Cert.RetGradIdeal.τ).loc Cert.RetGradIdeal.main_v0) = v0 c
          ∧ r.2.mem ((c.tc : Thread Cert.RetGradIdeal.nD Cert.RetGradIdeal.τ).loc Cert.RetGradIdeal.main_arg0) = m ((c.tc : Thread Cert.RetGradIdeal.nD Cert.RetGradIdeal.τ).loc Cert.RetGradIdeal.main_arg0)
          ∧ r.2.mem ((c.tc : Thread Cert.RetGradIdeal.nD Cert.RetGradIdeal.τ).loc Cert.RetGradIdeal.main_arg1) = m ((c.tc : Thread Cert.RetGradIdeal.nD Cert.RetGradIdeal.τ).loc Cert.RetGradIdeal.main_arg1))
      ∧ θ_run (Cert.RetGradRefIdeal.defs (F := Ideal)) (onTc (τ := Cert.RetGradRefIdeal.τ) (Cert.RetGradRefIdeal.main (F := Ideal))) ⟨m', fun _ => 0, g'⟩ (fun r => ∀ c : Dev Cert.RetGradRefIdeal.nD,
          r.2.mem ((c.tc : Thread Cert.RetGradRefIdeal.nD Cert.RetGradRefIdeal.τ).loc Cert.RetGradRefIdeal.main_v5) = v0 c
          ∧ r.2.mem ((c.tc : Thread Cert.RetGradRefIdeal.nD Cert.RetGradRefIdeal.τ).loc Cert.RetGradRefIdeal.main_arg0) = m' ((c.tc : Thread Cert.RetGradRefIdeal.nD Cert.RetGradRefIdeal.τ).loc Cert.RetGradRefIdeal.main_arg0)
          ∧ r.2.mem ((c.tc : Thread Cert.RetGradRefIdeal.nD Cert.RetGradRefIdeal.τ).loc Cert.RetGradRefIdeal.main_arg1) = m' ((c.tc : Thread Cert.RetGradRefIdeal.nD Cert.RetGradRefIdeal.τ).loc Cert.RetGradRefIdeal.main_arg1))

def preserves_OutGrad_OutGradIdeal : Prop :=
  True

def algebraic_OutGradIdeal_OutGradRefIdeal [hOutGradIdeal : Cert.OutGradIdeal.Facts] [hOutGradRefIdeal : Cert.OutGradRefIdeal.Facts] : Prop :=
  ∀ (m : (ℓ : Loc Cert.OutGradIdeal.nD Cert.OutGradIdeal.τ Cert.OutGradIdeal.sig) → Buf (Elt Ideal) ℓ) (g : Dev Cert.OutGradIdeal.nD → PrngReg)
    (m' : (ℓ : Loc Cert.OutGradRefIdeal.nD Cert.OutGradRefIdeal.τ Cert.OutGradRefIdeal.sig) → Buf (Elt Ideal) ℓ) (g' : Dev Cert.OutGradRefIdeal.nD → PrngReg), Pre_OutGradIdeal m →
    (∀ c : Dev Cert.OutGradIdeal.nD,
      m' ((c.tc : Thread Cert.OutGradRefIdeal.nD Cert.OutGradRefIdeal.τ).loc Cert.OutGradRefIdeal.main_arg0) = m ((c.tc : Thread Cert.OutGradIdeal.nD Cert.OutGradIdeal.τ).loc Cert.OutGradIdeal.main_arg0)
      ∧ m' ((c.tc : Thread Cert.OutGradRefIdeal.nD Cert.OutGradRefIdeal.τ).loc Cert.OutGradRefIdeal.main_arg1) = m ((c.tc : Thread Cert.OutGradIdeal.nD Cert.OutGradIdeal.τ).loc Cert.OutGradIdeal.main_arg1)) →
    ∃ (v0 : (c : Dev Cert.OutGradIdeal.nD) → Buf (Elt Ideal) ((c.tc : Thread Cert.OutGradIdeal.nD Cert.OutGradIdeal.τ).loc Cert.OutGradIdeal.main_v0)),
      θ_run (Cert.OutGradIdeal.defs (F := Ideal)) (onTc (τ := Cert.OutGradIdeal.τ) (Cert.OutGradIdeal.main (F := Ideal))) ⟨m, fun _ => 0, g⟩ (fun r => ∀ c : Dev Cert.OutGradIdeal.nD,
          r.2.mem ((c.tc : Thread Cert.OutGradIdeal.nD Cert.OutGradIdeal.τ).loc Cert.OutGradIdeal.main_v0) = v0 c
          ∧ r.2.mem ((c.tc : Thread Cert.OutGradIdeal.nD Cert.OutGradIdeal.τ).loc Cert.OutGradIdeal.main_arg0) = m ((c.tc : Thread Cert.OutGradIdeal.nD Cert.OutGradIdeal.τ).loc Cert.OutGradIdeal.main_arg0)
          ∧ r.2.mem ((c.tc : Thread Cert.OutGradIdeal.nD Cert.OutGradIdeal.τ).loc Cert.OutGradIdeal.main_arg1) = m ((c.tc : Thread Cert.OutGradIdeal.nD Cert.OutGradIdeal.τ).loc Cert.OutGradIdeal.main_arg1))
      ∧ θ_run (Cert.OutGradRefIdeal.defs (F := Ideal)) (onTc (τ := Cert.OutGradRefIdeal.τ) (Cert.OutGradRefIdeal.main (F := Ideal))) ⟨m', fun _ => 0, g'⟩ (fun r => ∀ c : Dev Cert.OutGradRefIdeal.nD,
          r.2.mem ((c.tc : Thread Cert.OutGradRefIdeal.nD Cert.OutGradRefIdeal.τ).loc Cert.OutGradRefIdeal.main_v6) = v0 c
          ∧ r.2.mem ((c.tc : Thread Cert.OutGradRefIdeal.nD Cert.OutGradRefIdeal.τ).loc Cert.OutGradRefIdeal.main_arg0) = m' ((c.tc : Thread Cert.OutGradRefIdeal.nD Cert.OutGradRefIdeal.τ).loc Cert.OutGradRefIdeal.main_arg0)
          ∧ r.2.mem ((c.tc : Thread Cert.OutGradRefIdeal.nD Cert.OutGradRefIdeal.τ).loc Cert.OutGradRefIdeal.main_arg1) = m' ((c.tc : Thread Cert.OutGradRefIdeal.nD Cert.OutGradRefIdeal.τ).loc Cert.OutGradRefIdeal.main_arg1))

def preserves_OutNorm_OutNormIdeal : Prop :=
  True

def algebraic_OutNormIdeal_OutNormRefIdeal [hOutNormIdeal : Cert.OutNormIdeal.Facts] [hOutNormRefIdeal : Cert.OutNormRefIdeal.Facts] : Prop :=
  ∀ (m : (ℓ : Loc Cert.OutNormIdeal.nD Cert.OutNormIdeal.τ Cert.OutNormIdeal.sig) → Buf (Elt Ideal) ℓ) (g : Dev Cert.OutNormIdeal.nD → PrngReg)
    (m' : (ℓ : Loc Cert.OutNormRefIdeal.nD Cert.OutNormRefIdeal.τ Cert.OutNormRefIdeal.sig) → Buf (Elt Ideal) ℓ) (g' : Dev Cert.OutNormRefIdeal.nD → PrngReg), Pre_OutNormIdeal m →
    (∀ c : Dev Cert.OutNormIdeal.nD,
      m' ((c.tc : Thread Cert.OutNormRefIdeal.nD Cert.OutNormRefIdeal.τ).loc Cert.OutNormRefIdeal.main_arg0) = m ((c.tc : Thread Cert.OutNormIdeal.nD Cert.OutNormIdeal.τ).loc Cert.OutNormIdeal.main_arg0)
      ∧ m' ((c.tc : Thread Cert.OutNormRefIdeal.nD Cert.OutNormRefIdeal.τ).loc Cert.OutNormRefIdeal.main_arg1) = m ((c.tc : Thread Cert.OutNormIdeal.nD Cert.OutNormIdeal.τ).loc Cert.OutNormIdeal.main_arg1)
      ∧ m' ((c.tc : Thread Cert.OutNormRefIdeal.nD Cert.OutNormRefIdeal.τ).loc Cert.OutNormRefIdeal.main_arg2) = m ((c.tc : Thread Cert.OutNormIdeal.nD Cert.OutNormIdeal.τ).loc Cert.OutNormIdeal.main_arg2)
      ∧ m' ((c.tc : Thread Cert.OutNormRefIdeal.nD Cert.OutNormRefIdeal.τ).loc Cert.OutNormRefIdeal.main_arg3) = m ((c.tc : Thread Cert.OutNormIdeal.nD Cert.OutNormIdeal.τ).loc Cert.OutNormIdeal.main_arg3)) →
    ∃ (v0 : (c : Dev Cert.OutNormIdeal.nD) → Buf (Elt Ideal) ((c.tc : Thread Cert.OutNormIdeal.nD Cert.OutNormIdeal.τ).loc Cert.OutNormIdeal.main_v0_0)) (v1 : (c : Dev Cert.OutNormIdeal.nD) → Buf (Elt Ideal) ((c.tc : Thread Cert.OutNormIdeal.nD Cert.OutNormIdeal.τ).loc Cert.OutNormIdeal.main_v0_1)),
      θ_run (Cert.OutNormIdeal.defs (F := Ideal)) (onTc (τ := Cert.OutNormIdeal.τ) (Cert.OutNormIdeal.main (F := Ideal))) ⟨m, fun _ => 0, g⟩ (fun r => ∀ c : Dev Cert.OutNormIdeal.nD,
          r.2.mem ((c.tc : Thread Cert.OutNormIdeal.nD Cert.OutNormIdeal.τ).loc Cert.OutNormIdeal.main_v0_0) = v0 c
          ∧ r.2.mem ((c.tc : Thread Cert.OutNormIdeal.nD Cert.OutNormIdeal.τ).loc Cert.OutNormIdeal.main_v0_1) = v1 c
          ∧ r.2.mem ((c.tc : Thread Cert.OutNormIdeal.nD Cert.OutNormIdeal.τ).loc Cert.OutNormIdeal.main_arg0) = m ((c.tc : Thread Cert.OutNormIdeal.nD Cert.OutNormIdeal.τ).loc Cert.OutNormIdeal.main_arg0)
          ∧ r.2.mem ((c.tc : Thread Cert.OutNormIdeal.nD Cert.OutNormIdeal.τ).loc Cert.OutNormIdeal.main_arg1) = m ((c.tc : Thread Cert.OutNormIdeal.nD Cert.OutNormIdeal.τ).loc Cert.OutNormIdeal.main_arg1)
          ∧ r.2.mem ((c.tc : Thread Cert.OutNormIdeal.nD Cert.OutNormIdeal.τ).loc Cert.OutNormIdeal.main_arg2) = m ((c.tc : Thread Cert.OutNormIdeal.nD Cert.OutNormIdeal.τ).loc Cert.OutNormIdeal.main_arg2)
          ∧ r.2.mem ((c.tc : Thread Cert.OutNormIdeal.nD Cert.OutNormIdeal.τ).loc Cert.OutNormIdeal.main_arg3) = m ((c.tc : Thread Cert.OutNormIdeal.nD Cert.OutNormIdeal.τ).loc Cert.OutNormIdeal.main_arg3))
      ∧ θ_run (Cert.OutNormRefIdeal.defs (F := Ideal)) (onTc (τ := Cert.OutNormRefIdeal.τ) (Cert.OutNormRefIdeal.main (F := Ideal))) ⟨m', fun _ => 0, g'⟩ (fun r => ∀ c : Dev Cert.OutNormRefIdeal.nD,
          r.2.mem ((c.tc : Thread Cert.OutNormRefIdeal.nD Cert.OutNormRefIdeal.τ).loc Cert.OutNormRefIdeal.main_v3) = v0 c
          ∧ r.2.mem ((c.tc : Thread Cert.OutNormRefIdeal.nD Cert.OutNormRefIdeal.τ).loc Cert.OutNormRefIdeal.main_v16) = v1 c
          ∧ r.2.mem ((c.tc : Thread Cert.OutNormRefIdeal.nD Cert.OutNormRefIdeal.τ).loc Cert.OutNormRefIdeal.main_arg0) = m' ((c.tc : Thread Cert.OutNormRefIdeal.nD Cert.OutNormRefIdeal.τ).loc Cert.OutNormRefIdeal.main_arg0)
          ∧ r.2.mem ((c.tc : Thread Cert.OutNormRefIdeal.nD Cert.OutNormRefIdeal.τ).loc Cert.OutNormRefIdeal.main_arg1) = m' ((c.tc : Thread Cert.OutNormRefIdeal.nD Cert.OutNormRefIdeal.τ).loc Cert.OutNormRefIdeal.main_arg1)
          ∧ r.2.mem ((c.tc : Thread Cert.OutNormRefIdeal.nD Cert.OutNormRefIdeal.τ).loc Cert.OutNormRefIdeal.main_arg2) = m' ((c.tc : Thread Cert.OutNormRefIdeal.nD Cert.OutNormRefIdeal.τ).loc Cert.OutNormRefIdeal.main_arg2)
          ∧ r.2.mem ((c.tc : Thread Cert.OutNormRefIdeal.nD Cert.OutNormRefIdeal.τ).loc Cert.OutNormRefIdeal.main_arg3) = m' ((c.tc : Thread Cert.OutNormRefIdeal.nD Cert.OutNormRefIdeal.τ).loc Cert.OutNormRefIdeal.main_arg3))

def preserves_MergeBwd_MergeBwdIdeal : Prop :=
  True

def algebraic_MergeBwdIdeal_MergeBwdRefIdeal [hMergeBwdIdeal : Cert.MergeBwdIdeal.Facts] [hMergeBwdRefIdeal : Cert.MergeBwdRefIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg)
    (m' : (ℓ : Loc Cert.MergeBwdRefIdeal.nD Cert.MergeBwdRefIdeal.τ Cert.MergeBwdRefIdeal.sig) → Buf (Elt Ideal) ℓ) (g' : Dev Cert.MergeBwdRefIdeal.nD → PrngReg), Pre_MergeBwdIdeal m →
    (∀ c : Dev Cert.MergeBwdIdeal.nD,
      m' ((c.tc : Thread Cert.MergeBwdRefIdeal.nD Cert.MergeBwdRefIdeal.τ).loc Cert.MergeBwdRefIdeal.main_arg0) = m ((c.tc : Thread Cert.MergeBwdIdeal.nD Cert.MergeBwdIdeal.τ).loc Cert.MergeBwdIdeal.main_arg0)
      ∧ m' ((c.tc : Thread Cert.MergeBwdRefIdeal.nD Cert.MergeBwdRefIdeal.τ).loc Cert.MergeBwdRefIdeal.main_arg1) = m ((c.tc : Thread Cert.MergeBwdIdeal.nD Cert.MergeBwdIdeal.τ).loc Cert.MergeBwdIdeal.main_arg1)
      ∧ m' ((c.tc : Thread Cert.MergeBwdRefIdeal.nD Cert.MergeBwdRefIdeal.τ).loc Cert.MergeBwdRefIdeal.main_arg2) = m ((c.tc : Thread Cert.MergeBwdIdeal.nD Cert.MergeBwdIdeal.τ).loc Cert.MergeBwdIdeal.main_arg2)
      ∧ m' ((c.tc : Thread Cert.MergeBwdRefIdeal.nD Cert.MergeBwdRefIdeal.τ).loc Cert.MergeBwdRefIdeal.main_arg3) = m ((c.tc : Thread Cert.MergeBwdIdeal.nD Cert.MergeBwdIdeal.τ).loc Cert.MergeBwdIdeal.main_arg3)
      ∧ m' ((c.tc : Thread Cert.MergeBwdRefIdeal.nD Cert.MergeBwdRefIdeal.τ).loc Cert.MergeBwdRefIdeal.main_arg4) = m ((c.tc : Thread Cert.MergeBwdIdeal.nD Cert.MergeBwdIdeal.τ).loc Cert.MergeBwdIdeal.main_arg4)
      ∧ m' ((c.tc : Thread Cert.MergeBwdRefIdeal.nD Cert.MergeBwdRefIdeal.τ).loc Cert.MergeBwdRefIdeal.main_arg5) = m ((c.tc : Thread Cert.MergeBwdIdeal.nD Cert.MergeBwdIdeal.τ).loc Cert.MergeBwdIdeal.main_arg5)) →
    ∃ (v0 : (c : Dev Cert.MergeBwdIdeal.nD) → Buf (Elt Ideal) ((c.tc : Thread Cert.MergeBwdIdeal.nD Cert.MergeBwdIdeal.τ).loc Cert.MergeBwdIdeal.main_v0_0)) (v1 : (c : Dev Cert.MergeBwdIdeal.nD) → Buf (Elt Ideal) ((c.tc : Thread Cert.MergeBwdIdeal.nD Cert.MergeBwdIdeal.τ).loc Cert.MergeBwdIdeal.main_v0_1)) (v2 : (c : Dev Cert.MergeBwdIdeal.nD) → Buf (Elt Ideal) ((c.tc : Thread Cert.MergeBwdIdeal.nD Cert.MergeBwdIdeal.τ).loc Cert.MergeBwdIdeal.main_v0_2)),
      θ_run (Cert.MergeBwdIdeal.defs (F := Ideal)) (onTc (τ := Cert.MergeBwdIdeal.τ) (Cert.MergeBwdIdeal.main (F := Ideal))) ⟨m, fun _ => 0, g⟩ (fun r => ∀ c : Dev Cert.MergeBwdIdeal.nD,
          r.2.mem ((c.tc : Thread Cert.MergeBwdIdeal.nD Cert.MergeBwdIdeal.τ).loc Cert.MergeBwdIdeal.main_v0_0) = v0 c
          ∧ r.2.mem ((c.tc : Thread Cert.MergeBwdIdeal.nD Cert.MergeBwdIdeal.τ).loc Cert.MergeBwdIdeal.main_v0_1) = v1 c
          ∧ r.2.mem ((c.tc : Thread Cert.MergeBwdIdeal.nD Cert.MergeBwdIdeal.τ).loc Cert.MergeBwdIdeal.main_v0_2) = v2 c
          ∧ r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
          ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
          ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
          ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
          ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4)
          ∧ r.2.mem ((c.tc : Thread Cert.MergeBwdIdeal.nD Cert.MergeBwdIdeal.τ).loc Cert.MergeBwdIdeal.main_arg5) = m ((c.tc : Thread Cert.MergeBwdIdeal.nD Cert.MergeBwdIdeal.τ).loc Cert.MergeBwdIdeal.main_arg5))
      ∧ θ_run (Cert.MergeBwdRefIdeal.defs (F := Ideal)) (onTc (τ := Cert.MergeBwdRefIdeal.τ) (Cert.MergeBwdRefIdeal.main (F := Ideal))) ⟨m', fun _ => 0, g'⟩ (fun r => ∀ c : Dev Cert.MergeBwdRefIdeal.nD,
          r.2.mem ((c.tc : Thread Cert.MergeBwdRefIdeal.nD Cert.MergeBwdRefIdeal.τ).loc Cert.MergeBwdRefIdeal.main_v36) = v0 c
          ∧ r.2.mem ((c.tc : Thread Cert.MergeBwdRefIdeal.nD Cert.MergeBwdRefIdeal.τ).loc Cert.MergeBwdRefIdeal.main_v37) = v1 c
          ∧ r.2.mem ((c.tc : Thread Cert.MergeBwdRefIdeal.nD Cert.MergeBwdRefIdeal.τ).loc Cert.MergeBwdRefIdeal.main_v42) = v2 c
          ∧ r.2.mem ((c.tc : Thread Cert.MergeBwdRefIdeal.nD Cert.MergeBwdRefIdeal.τ).loc Cert.MergeBwdRefIdeal.main_arg0) = m' ((c.tc : Thread Cert.MergeBwdRefIdeal.nD Cert.MergeBwdRefIdeal.τ).loc Cert.MergeBwdRefIdeal.main_arg0)
          ∧ r.2.mem ((c.tc : Thread Cert.MergeBwdRefIdeal.nD Cert.MergeBwdRefIdeal.τ).loc Cert.MergeBwdRefIdeal.main_arg1) = m' ((c.tc : Thread Cert.MergeBwdRefIdeal.nD Cert.MergeBwdRefIdeal.τ).loc Cert.MergeBwdRefIdeal.main_arg1)
          ∧ r.2.mem ((c.tc : Thread Cert.MergeBwdRefIdeal.nD Cert.MergeBwdRefIdeal.τ).loc Cert.MergeBwdRefIdeal.main_arg2) = m' ((c.tc : Thread Cert.MergeBwdRefIdeal.nD Cert.MergeBwdRefIdeal.τ).loc Cert.MergeBwdRefIdeal.main_arg2)
          ∧ r.2.mem ((c.tc : Thread Cert.MergeBwdRefIdeal.nD Cert.MergeBwdRefIdeal.τ).loc Cert.MergeBwdRefIdeal.main_arg3) = m' ((c.tc : Thread Cert.MergeBwdRefIdeal.nD Cert.MergeBwdRefIdeal.τ).loc Cert.MergeBwdRefIdeal.main_arg3)
          ∧ r.2.mem ((c.tc : Thread Cert.MergeBwdRefIdeal.nD Cert.MergeBwdRefIdeal.τ).loc Cert.MergeBwdRefIdeal.main_arg4) = m' ((c.tc : Thread Cert.MergeBwdRefIdeal.nD Cert.MergeBwdRefIdeal.τ).loc Cert.MergeBwdRefIdeal.main_arg4)
          ∧ r.2.mem ((c.tc : Thread Cert.MergeBwdRefIdeal.nD Cert.MergeBwdRefIdeal.τ).loc Cert.MergeBwdRefIdeal.main_arg5) = m' ((c.tc : Thread Cert.MergeBwdRefIdeal.nD Cert.MergeBwdRefIdeal.τ).loc Cert.MergeBwdRefIdeal.main_arg5))

def Claim : Prop :=
  ∃ (hKernel : Cert.Kernel.Facts) (hKernelIdeal : Cert.KernelIdeal.Facts) (hReferenceIdeal : Cert.ReferenceIdeal.Facts) (hNormBwd : Cert.NormBwd.Facts) (hNormBwdIdeal : Cert.NormBwdIdeal.Facts) (hNormBwdRefIdeal : Cert.NormBwdRefIdeal.Facts) (hWeightGrad : Cert.WeightGrad.Facts) (hWeightGradIdeal : Cert.WeightGradIdeal.Facts) (hWeightGradRefIdeal : Cert.WeightGradRefIdeal.Facts) (hProjQkvg : Cert.ProjQkvg.Facts) (hProjQkvgIdeal : Cert.ProjQkvgIdeal.Facts) (hProjQkvgRefIdeal : Cert.ProjQkvgRefIdeal.Facts) (hUpBwd : Cert.UpBwd.Facts) (hUpBwdIdeal : Cert.UpBwdIdeal.Facts) (hUpBwdRefIdeal : Cert.UpBwdRefIdeal.Facts) (hActGrad : Cert.ActGrad.Facts) (hActGradIdeal : Cert.ActGradIdeal.Facts) (hActGradRefIdeal : Cert.ActGradRefIdeal.Facts) (hAdamSmall : Cert.AdamSmall.Facts) (hAdamSmallIdeal : Cert.AdamSmallIdeal.Facts) (hAdamSmallRefIdeal : Cert.AdamSmallRefIdeal.Facts) (hMerge : Cert.Merge.Facts) (hMergeIdeal : Cert.MergeIdeal.Facts) (hMergeRefIdeal : Cert.MergeRefIdeal.Facts) (hBranchGrad : Cert.BranchGrad.Facts) (hBranchGradIdeal : Cert.BranchGradIdeal.Facts) (hBranchGradRefIdeal : Cert.BranchGradRefIdeal.Facts) (hProjZ : Cert.ProjZ.Facts) (hProjZIdeal : Cert.ProjZIdeal.Facts) (hProjZRefIdeal : Cert.ProjZRefIdeal.Facts) (hProjGates : Cert.ProjGates.Facts) (hProjGatesIdeal : Cert.ProjGatesIdeal.Facts) (hProjGatesRefIdeal : Cert.ProjGatesRefIdeal.Facts) (hDownGrad : Cert.DownGrad.Facts) (hDownGradIdeal : Cert.DownGradIdeal.Facts) (hDownGradRefIdeal : Cert.DownGradRefIdeal.Facts) (hRetGrad : Cert.RetGrad.Facts) (hRetGradIdeal : Cert.RetGradIdeal.Facts) (hRetGradRefIdeal : Cert.RetGradRefIdeal.Facts) (hOutGrad : Cert.OutGrad.Facts) (hOutGradIdeal : Cert.OutGradIdeal.Facts) (hOutGradRefIdeal : Cert.OutGradRefIdeal.Facts) (hOutNorm : Cert.OutNorm.Facts) (hOutNormIdeal : Cert.OutNormIdeal.Facts) (hOutNormRefIdeal : Cert.OutNormRefIdeal.Facts) (hMergeBwd : Cert.MergeBwd.Facts) (hMergeBwdIdeal : Cert.MergeBwdIdeal.Facts) (hMergeBwdRefIdeal : Cert.MergeBwdRefIdeal.Facts),
    quiescent_Kernel (hKernel := hKernel)
    ∧ quiescent_KernelIdeal (hKernelIdeal := hKernelIdeal)
    ∧ quiescent_ReferenceIdeal (hReferenceIdeal := hReferenceIdeal)
    ∧ quiescent_NormBwd (hNormBwd := hNormBwd)
    ∧ quiescent_NormBwdIdeal (hNormBwdIdeal := hNormBwdIdeal)
    ∧ quiescent_NormBwdRefIdeal (hNormBwdRefIdeal := hNormBwdRefIdeal)
    ∧ quiescent_WeightGrad (hWeightGrad := hWeightGrad)
    ∧ quiescent_WeightGradIdeal (hWeightGradIdeal := hWeightGradIdeal)
    ∧ quiescent_WeightGradRefIdeal (hWeightGradRefIdeal := hWeightGradRefIdeal)
    ∧ quiescent_ProjQkvg (hProjQkvg := hProjQkvg)
    ∧ quiescent_ProjQkvgIdeal (hProjQkvgIdeal := hProjQkvgIdeal)
    ∧ quiescent_ProjQkvgRefIdeal (hProjQkvgRefIdeal := hProjQkvgRefIdeal)
    ∧ quiescent_UpBwd (hUpBwd := hUpBwd)
    ∧ quiescent_UpBwdIdeal (hUpBwdIdeal := hUpBwdIdeal)
    ∧ quiescent_UpBwdRefIdeal (hUpBwdRefIdeal := hUpBwdRefIdeal)
    ∧ quiescent_ActGrad (hActGrad := hActGrad)
    ∧ quiescent_ActGradIdeal (hActGradIdeal := hActGradIdeal)
    ∧ quiescent_ActGradRefIdeal (hActGradRefIdeal := hActGradRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_Merge (hMerge := hMerge)
    ∧ quiescent_MergeIdeal (hMergeIdeal := hMergeIdeal)
    ∧ quiescent_MergeRefIdeal (hMergeRefIdeal := hMergeRefIdeal)
    ∧ quiescent_BranchGrad (hBranchGrad := hBranchGrad)
    ∧ quiescent_BranchGradIdeal (hBranchGradIdeal := hBranchGradIdeal)
    ∧ quiescent_BranchGradRefIdeal (hBranchGradRefIdeal := hBranchGradRefIdeal)
    ∧ quiescent_ProjZ (hProjZ := hProjZ)
    ∧ quiescent_ProjZIdeal (hProjZIdeal := hProjZIdeal)
    ∧ quiescent_ProjZRefIdeal (hProjZRefIdeal := hProjZRefIdeal)
    ∧ quiescent_ProjGates (hProjGates := hProjGates)
    ∧ quiescent_ProjGatesIdeal (hProjGatesIdeal := hProjGatesIdeal)
    ∧ quiescent_ProjGatesRefIdeal (hProjGatesRefIdeal := hProjGatesRefIdeal)
    ∧ quiescent_DownGrad (hDownGrad := hDownGrad)
    ∧ quiescent_DownGradIdeal (hDownGradIdeal := hDownGradIdeal)
    ∧ quiescent_DownGradRefIdeal (hDownGradRefIdeal := hDownGradRefIdeal)
    ∧ quiescent_RetGrad (hRetGrad := hRetGrad)
    ∧ quiescent_RetGradIdeal (hRetGradIdeal := hRetGradIdeal)
    ∧ quiescent_RetGradRefIdeal (hRetGradRefIdeal := hRetGradRefIdeal)
    ∧ quiescent_OutGrad (hOutGrad := hOutGrad)
    ∧ quiescent_OutGradIdeal (hOutGradIdeal := hOutGradIdeal)
    ∧ quiescent_OutGradRefIdeal (hOutGradRefIdeal := hOutGradRefIdeal)
    ∧ quiescent_OutNorm (hOutNorm := hOutNorm)
    ∧ quiescent_OutNormIdeal (hOutNormIdeal := hOutNormIdeal)
    ∧ quiescent_OutNormRefIdeal (hOutNormRefIdeal := hOutNormRefIdeal)
    ∧ quiescent_MergeBwd (hMergeBwd := hMergeBwd)
    ∧ quiescent_MergeBwdIdeal (hMergeBwdIdeal := hMergeBwdIdeal)
    ∧ quiescent_MergeBwdRefIdeal (hMergeBwdRefIdeal := hMergeBwdRefIdeal)
    ∧ preserves_Kernel_KernelIdeal
    ∧ algebraic_KernelIdeal_ReferenceIdeal (hKernelIdeal := hKernelIdeal) (hReferenceIdeal := hReferenceIdeal)
    ∧ preserves_NormBwd_NormBwdIdeal
    ∧ algebraic_NormBwdIdeal_NormBwdRefIdeal (hNormBwdIdeal := hNormBwdIdeal) (hNormBwdRefIdeal := hNormBwdRefIdeal)
    ∧ preserves_WeightGrad_WeightGradIdeal
    ∧ algebraic_WeightGradIdeal_WeightGradRefIdeal (hWeightGradIdeal := hWeightGradIdeal) (hWeightGradRefIdeal := hWeightGradRefIdeal)
    ∧ preserves_ProjQkvg_ProjQkvgIdeal
    ∧ algebraic_ProjQkvgIdeal_ProjQkvgRefIdeal (hProjQkvgIdeal := hProjQkvgIdeal) (hProjQkvgRefIdeal := hProjQkvgRefIdeal)
    ∧ preserves_UpBwd_UpBwdIdeal
    ∧ algebraic_UpBwdIdeal_UpBwdRefIdeal (hUpBwdIdeal := hUpBwdIdeal) (hUpBwdRefIdeal := hUpBwdRefIdeal)
    ∧ preserves_ActGrad_ActGradIdeal
    ∧ algebraic_ActGradIdeal_ActGradRefIdeal (hActGradIdeal := hActGradIdeal) (hActGradRefIdeal := hActGradRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_Merge_MergeIdeal
    ∧ algebraic_MergeIdeal_MergeRefIdeal (hMergeIdeal := hMergeIdeal) (hMergeRefIdeal := hMergeRefIdeal)
    ∧ preserves_BranchGrad_BranchGradIdeal
    ∧ algebraic_BranchGradIdeal_BranchGradRefIdeal (hBranchGradIdeal := hBranchGradIdeal) (hBranchGradRefIdeal := hBranchGradRefIdeal)
    ∧ preserves_ProjZ_ProjZIdeal
    ∧ algebraic_ProjZIdeal_ProjZRefIdeal (hProjZIdeal := hProjZIdeal) (hProjZRefIdeal := hProjZRefIdeal)
    ∧ preserves_ProjGates_ProjGatesIdeal
    ∧ algebraic_ProjGatesIdeal_ProjGatesRefIdeal (hProjGatesIdeal := hProjGatesIdeal) (hProjGatesRefIdeal := hProjGatesRefIdeal)
    ∧ preserves_DownGrad_DownGradIdeal
    ∧ algebraic_DownGradIdeal_DownGradRefIdeal (hDownGradIdeal := hDownGradIdeal) (hDownGradRefIdeal := hDownGradRefIdeal)
    ∧ preserves_RetGrad_RetGradIdeal
    ∧ algebraic_RetGradIdeal_RetGradRefIdeal (hRetGradIdeal := hRetGradIdeal) (hRetGradRefIdeal := hRetGradRefIdeal)
    ∧ preserves_OutGrad_OutGradIdeal
    ∧ algebraic_OutGradIdeal_OutGradRefIdeal (hOutGradIdeal := hOutGradIdeal) (hOutGradRefIdeal := hOutGradRefIdeal)
    ∧ preserves_OutNorm_OutNormIdeal
    ∧ algebraic_OutNormIdeal_OutNormRefIdeal (hOutNormIdeal := hOutNormIdeal) (hOutNormRefIdeal := hOutNormRefIdeal)
    ∧ preserves_MergeBwd_MergeBwdIdeal
    ∧ algebraic_MergeBwdIdeal_MergeBwdRefIdeal (hMergeBwdIdeal := hMergeBwdIdeal) (hMergeBwdRefIdeal := hMergeBwdRefIdeal)
-- ==== Kernel.lean ====
abbrev S8208x6144 : Shape := ⟨2, ![8208, 6144]⟩
abbrev S8208x2048 : Shape := ⟨2, ![8208, 2048]⟩
abbrev S8320x13824 : Shape := ⟨2, ![8320, 13824]⟩
abbrev S8320 : Shape := ⟨1, ![8320]⟩
abbrev S_ : Shape := ⟨0, ![]⟩
abbrev S127 : Shape := ⟨1, ![127]⟩
abbrev S1 : Shape := ⟨1, ![1]⟩
abbrev S128 : Shape := ⟨1, ![128]⟩
abbrev S8320x1 : Shape := ⟨2, ![8320, 1]⟩
abbrev S1x128 : Shape := ⟨2, ![1, 128]⟩
abbrev S8320x128 : Shape := ⟨2, ![8320, 128]⟩
abbrev S4 : Shape := ⟨1, ![4]⟩
abbrev S4x1x1 : Shape := ⟨3, ![4, 1, 1]⟩
abbrev S4x8x128 : Shape := ⟨3, ![4, 8, 128]⟩
abbrev S8320x6144 : Shape := ⟨2, ![8320, 6144]⟩
abbrev S8320x2048 : Shape := ⟨2, ![8320, 2048]⟩
abbrev S65x4x256x512 : Shape := ⟨4, ![65, 4, 256, 512]⟩
abbrev S1664x256 : Shape := ⟨2, ![1664, 256]⟩
abbrev S1664x512 : Shape := ⟨2, ![1664, 512]⟩
abbrev S1664x128 : Shape := ⟨2, ![1664, 128]⟩
abbrev S1x8x128 : Shape := ⟨3, ![1, 8, 128]⟩
abbrev S13x1x256x512 : Shape := ⟨4, ![13, 1, 256, 512]⟩
abbrev S256x512 : Shape := ⟨2, ![256, 512]⟩
abbrev S1x1x256x512 : Shape := ⟨4, ![1, 1, 256, 512]⟩
abbrev S128x256 : Shape := ⟨2, ![128, 256]⟩
abbrev S128x512 : Shape := ⟨2, ![128, 512]⟩
abbrev S128x128 : Shape := ⟨2, ![128, 128]⟩
abbrev S1x1x1 : Shape := ⟨3, ![1, 1, 1]⟩
abbrev S1x1 : Shape := ⟨2, ![1, 1]⟩
abbrev S128x1 : Shape := ⟨2, ![128, 1]⟩
abbrev S1664x1536 : Shape := ⟨2, ![1664, 1536]⟩

abbrev nBuf : Space → Nat
  | .hbm => 63
  | .vmem => 40
  | .smem => 0
  | _ => 0

abbrev bufTy : (tb : Table) → Fin (tcTables nBuf tb) → BufTy
  | .hbm, ⟨0, _⟩ => ⟨S8208x6144, .bf16⟩
  | .hbm, ⟨1, _⟩ => ⟨S8208x2048, .bf16⟩
  | .hbm, ⟨2, _⟩ => ⟨S8320x13824, .bf16⟩
  | .hbm, ⟨3, _⟩ => ⟨S8320, .f32⟩
  | .hbm, ⟨4, _⟩ => ⟨S_, .f32⟩
  | .hbm, ⟨5, _⟩ => ⟨S8320, .f32⟩
  | .hbm, ⟨6, _⟩ => ⟨S8320, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S127, .f32⟩
  | .hbm, ⟨15, _⟩ => ⟨S_, .f32⟩
  | .hbm, ⟨16, _⟩ => ⟨S127, .f32⟩
  | .hbm, ⟨17, _⟩ => ⟨S127, .f32⟩
  | .hbm, ⟨18, _⟩ => ⟨S1, .f32⟩
  | .hbm, ⟨19, _⟩ => ⟨S_, .f32⟩
  | .hbm, ⟨20, _⟩ => ⟨S127, .f32⟩
  | .hbm, ⟨21, _⟩ => ⟨S127, .f32⟩
  | .hbm, ⟨22, _⟩ => ⟨S127, .f32⟩
  | .hbm, ⟨23, _⟩ => ⟨S127, .f32⟩
  | .hbm, ⟨24, _⟩ => ⟨S1, .f32⟩
  | .hbm, ⟨25, _⟩ => ⟨S127, .f32⟩
  | .hbm, ⟨26, _⟩ => ⟨S127, .f32⟩
  | .hbm, ⟨27, _⟩ => ⟨S127, .f32⟩
  | .hbm, ⟨28, _⟩ => ⟨S1, .f32⟩
  | .hbm, ⟨29, _⟩ => ⟨S128, .f32⟩
  | .hbm, ⟨30, _⟩ => ⟨S128, .f32⟩
  | .hbm, ⟨31, _⟩ => ⟨S_, .f32⟩
  | .hbm, ⟨32, _⟩ => ⟨S128, .f32⟩
  | .hbm, ⟨33, _⟩ => ⟨S128, .f32⟩
  | .hbm, ⟨34, _⟩ => ⟨S8320x1, .f32⟩
  | .hbm, ⟨35, _⟩ => ⟨S1x128, .f32⟩
  | .hbm, ⟨36, _⟩ => ⟨S8320x128, .f32⟩
  | .hbm, ⟨37, _⟩ => ⟨S8320x128, .f32⟩
  | .hbm, ⟨38, _⟩ => ⟨S8320x128, .f32⟩
  | .hbm, ⟨39, _⟩ => ⟨S4, .f32⟩
  | .hbm, ⟨40, _⟩ => ⟨S_, .f32⟩
  | .hbm, ⟨41, _⟩ => ⟨S4, .f32⟩
  | .hbm, ⟨42, _⟩ => ⟨S4, .f32⟩
  | .hbm, ⟨43, _⟩ => ⟨S_, .f32⟩
  | .hbm, ⟨44, _⟩ => ⟨S4, .f32⟩
  | .hbm, ⟨45, _⟩ => ⟨S4, .f32⟩
  | .hbm, ⟨46, _⟩ => ⟨S_, .f32⟩
  | .hbm, ⟨47, _⟩ => ⟨S4, .f32⟩
  | .hbm, ⟨48, _⟩ => ⟨S4, .f32⟩
  | .hbm, ⟨49, _⟩ => ⟨S4, .f32⟩
  | .hbm, ⟨50, _⟩ => ⟨S4x1x1, .f32⟩
  | .hbm, ⟨51, _⟩ => ⟨S4x8x128, .f32⟩
  | .hbm, ⟨52, _⟩ => ⟨S8320x128, .f32⟩
  | .hbm, ⟨53, _⟩ => ⟨S8320x128, .f32⟩
  | .hbm, ⟨54, _⟩ => ⟨S_, .i32⟩
  | .hbm, ⟨55, _⟩ => ⟨S_, .bf16⟩
  | .hbm, ⟨56, _⟩ => ⟨S8320x6144, .bf16⟩
  | .hbm, ⟨57, _⟩ => ⟨S8320x2048, .bf16⟩
  | .hbm, ⟨58, _⟩ => ⟨S65x4x256x512, .bf16⟩
  | .hbm, ⟨59, _⟩ => ⟨S_, .i32⟩
  | .hbm, ⟨60, _⟩ => ⟨S_, .bf16⟩
  | .hbm, ⟨61, _⟩ => ⟨S8320x2048, .bf16⟩
  | .hbm, ⟨62, _⟩ => ⟨S8320x13824, .bf16⟩
  | .local _ .vmem, ⟨0, _⟩ => ⟨S1664x256, .bf16⟩
  | .local _ .vmem, ⟨1, _⟩ => ⟨S1664x256, .bf16⟩
  | .local _ .vmem, ⟨2, _⟩ => ⟨S1664x256, .bf16⟩
  | .local _ .vmem, ⟨3, _⟩ => ⟨S1664x256, .bf16⟩
  | .local _ .vmem, ⟨4, _⟩ => ⟨S1664x512, .bf16⟩
  | .local _ .vmem, ⟨5, _⟩ => ⟨S1664x512, .bf16⟩
  | .local _ .vmem, ⟨6, _⟩ => ⟨S1664x512, .bf16⟩
  | .local _ .vmem, ⟨7, _⟩ => ⟨S1664x512, .bf16⟩
  | .local _ .vmem, ⟨8, _⟩ => ⟨S1664x128, .f32⟩
  | .local _ .vmem, ⟨9, _⟩ => ⟨S1664x128, .f32⟩
  | .local _ .vmem, ⟨10, _⟩ => ⟨S1664x128, .f32⟩
  | .local _ .vmem, ⟨11, _⟩ => ⟨S1664x128, .f32⟩
  | .local _ .vmem, ⟨12, _⟩ => ⟨S1x8x128, .f32⟩
  | .local _ .vmem, ⟨13, _⟩ => ⟨S1x8x128, .f32⟩
  | .local _ .vmem, ⟨14, _⟩ => ⟨S1664x512, .bf16⟩
  | .local _ .vmem, ⟨15, _⟩ => ⟨S1664x512, .bf16⟩
  | .local _ .vmem, ⟨16, _⟩ => ⟨S13x1x256x512, .bf16⟩
  | .local _ .vmem, ⟨17, _⟩ => ⟨S13x1x256x512, .bf16⟩
  | .local _ .vmem, ⟨18, _⟩ => ⟨S256x512, .f32⟩
  | .local _ .vmem, ⟨19, _⟩ => ⟨S1664x256, .bf16⟩
  | .local _ .vmem, ⟨20, _⟩ => ⟨S1664x256, .bf16⟩
  | .local _ .vmem, ⟨21, _⟩ => ⟨S1664x256, .bf16⟩
  | .local _ .vmem, ⟨22, _⟩ => ⟨S1664x256, .bf16⟩
  | .local _ .vmem, ⟨23, _⟩ => ⟨S1664x512, .bf16⟩
  | .local _ .vmem, ⟨24, _⟩ => ⟨S1664x512, .bf16⟩
  | .local _ .vmem, ⟨25, _⟩ => ⟨S1664x512, .bf16⟩
  | .local _ .vmem, ⟨26, _⟩ => ⟨S1664x512, .bf16⟩
  | .local _ .vmem, ⟨27, _⟩ => ⟨S1664x128, .f32⟩
  | .local _ .vmem, ⟨28, _⟩ => ⟨S1664x128, .f32⟩
  | .local _ .vmem, ⟨29, _⟩ => ⟨S1664x128, .f32⟩
  | .local _ .vmem, ⟨30, _⟩ => ⟨S1664x128, .f32⟩
  | .local _ .vmem, ⟨31, _⟩ => ⟨S1x8x128, .f32⟩
  | .local _ .vmem, ⟨32, _⟩ => ⟨S1x8x128, .f32⟩
  | .local _ .vmem, ⟨33, _⟩ => ⟨S13x1x256x512, .bf16⟩
  | .local _ .vmem, ⟨34, _⟩ => ⟨S13x1x256x512, .bf16⟩
  | .local _ .vmem, ⟨35, _⟩ => ⟨S1664x512, .bf16⟩
  | .local _ .vmem, ⟨36, _⟩ => ⟨S1664x512, .bf16⟩
  | .local _ .vmem, ⟨37, _⟩ => ⟨S1664x1536, .bf16⟩
  | .local _ .vmem, ⟨38, _⟩ => ⟨S1664x1536, .bf16⟩
  | .local _ .vmem, ⟨39, _⟩ => ⟨S256x512, .f32⟩
  | _, _ => ⟨S8208x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_cst_1 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_cst : Ref sig .tc := ⟨.hbm, 12, rfl⟩
abbrev main_call0_v3 : Ref sig .tc := ⟨.hbm, 13, rfl⟩
abbrev main_call0_v4 : Ref sig .tc := ⟨.hbm, 14, rfl⟩
abbrev main_call0_cst_0 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_cst_1 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_v15 : Ref sig .tc := ⟨.hbm, 27, rfl⟩
abbrev main_call0_v16 : Ref sig .tc := ⟨.hbm, 28, rfl⟩
abbrev main_v3 : Ref sig .tc := ⟨.hbm, 29, rfl⟩
abbrev main_v4 : Ref sig .tc := ⟨.hbm, 30, rfl⟩
abbrev main_cst_2 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_cst_3 : Ref sig .tc := ⟨.hbm, 40, rfl⟩
abbrev main_v13 : Ref sig .tc := ⟨.hbm, 41, rfl⟩
abbrev main_v14 : Ref sig .tc := ⟨.hbm, 42, rfl⟩
abbrev main_cst_4 : Ref sig .tc := ⟨.hbm, 43, rfl⟩
abbrev main_v15 : Ref sig .tc := ⟨.hbm, 44, rfl⟩
abbrev main_v16 : Ref sig .tc := ⟨.hbm, 45, rfl⟩
abbrev main_cst_5 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_c : Ref sig .tc := ⟨.hbm, 54, rfl⟩
abbrev main_call1_v0 : Ref sig .tc := ⟨.hbm, 55, rfl⟩
abbrev main_v24 : Ref sig .tc := ⟨.hbm, 56, rfl⟩
abbrev main_v25_0 : Ref sig .tc := ⟨.hbm, 57, rfl⟩
abbrev main_v25_1 : Ref sig .tc := ⟨.hbm, 58, rfl⟩
abbrev main_c_6 : Ref sig .tc := ⟨.hbm, 59, rfl⟩
abbrev main_call2_v0 : Ref sig .tc := ⟨.hbm, 60, rfl⟩
abbrev main_v26 : Ref sig .tc := ⟨.hbm, 61, rfl⟩
abbrev main_v27 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc1_stg0_0 : Ref sig .tc := ⟨.vmem, 19, rfl⟩
abbrev cc1_stg0_1 : Ref sig .tc := ⟨.vmem, 20, rfl⟩
abbrev cc1_stg1_0 : Ref sig .tc := ⟨.vmem, 21, rfl⟩
abbrev cc1_stg1_1 : Ref sig .tc := ⟨.vmem, 22, rfl⟩
abbrev cc1_stg2_0 : Ref sig .tc := ⟨.vmem, 23, rfl⟩
abbrev cc1_stg2_1 : Ref sig .tc := ⟨.vmem, 24, rfl⟩
abbrev cc1_stg3_0 : Ref sig .tc := ⟨.vmem, 25, rfl⟩
abbrev cc1_stg3_1 : Ref sig .tc := ⟨.vmem, 26, rfl⟩
abbrev cc1_stg4_0 : Ref sig .tc := ⟨.vmem, 27, rfl⟩
abbrev cc1_stg4_1 : Ref sig .tc := ⟨.vmem, 28, rfl⟩
abbrev cc1_stg5_0 : Ref sig .tc := ⟨.vmem, 29, rfl⟩
abbrev cc1_stg5_1 : Ref sig .tc := ⟨.vmem, 30, rfl⟩
abbrev cc1_stg6_0 : Ref sig .tc := ⟨.vmem, 31, rfl⟩
abbrev cc1_stg6_1 : Ref sig .tc := ⟨.vmem, 32, rfl⟩
abbrev cc1_stg7_0 : Ref sig .tc := ⟨.vmem, 33, rfl⟩
abbrev cc1_stg7_1 : Ref sig .tc := ⟨.vmem, 34, rfl⟩
abbrev cc1_stg8_0 : Ref sig .tc := ⟨.vmem, 35, rfl⟩
abbrev cc1_stg8_1 : Ref sig .tc := ⟨.vmem, 36, rfl⟩
abbrev cc1_stg9_0 : Ref sig .tc := ⟨.vmem, 37, rfl⟩
abbrev cc1_stg9_1 : Ref sig .tc := ⟨.vmem, 38, rfl⟩
abbrev cc1_scratch0 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25
abbrev cc1_sem4_0 : DmaSem sig := 26
abbrev cc1_sem4_1 : DmaSem sig := 27
abbrev cc1_sem5_0 : DmaSem sig := 28
abbrev cc1_sem5_1 : DmaSem sig := 29
abbrev cc1_sem6_0 : DmaSem sig := 30
abbrev cc1_sem6_1 : DmaSem sig := 31
abbrev cc1_sem7_0 : DmaSem sig := 32
abbrev cc1_sem7_1 : DmaSem sig := 33
abbrev cc1_sem8_0 : DmaSem sig := 34
abbrev cc1_sem8_1 : DmaSem sig := 35
abbrev cc1_sem9_0 : DmaSem sig := 36
abbrev cc1_sem9_1 : DmaSem sig := 37

abbrev nD : Nat := 1
abbrev τ : Topo := Topo.v7x

variable {F : FTy → Type} [FloatOps F]

abbrev grid0 : Pipeline.Grid := ⟨2, ![4, 5], ![false, false]⟩

def cc0_transform_0 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.muli arg0 c6_i32
  let c0_i32 : BitVec 32 := 0#32
  let v1 : BitVec 32 := Scalar.addi v0 c0_i32
  let c0_i32_0 : BitVec 32 := 0#32
  ![arg1.toNat, v1.toNat]

def cc0_transform_1 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.muli arg0 c6_i32
  let c1_i32 : BitVec 32 := 1#32
  let v1 : BitVec 32 := Scalar.addi v0 c1_i32
  let c0_i32 : BitVec 32 := 0#32
  ![arg1.toNat, v1.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let c1_i32 : BitVec 32 := 1#32
  let v1 : BitVec 32 := Scalar.addi v0 c1_i32
  let c0_i32 : BitVec 32 := 0#32
  ![arg1.toNat, v1.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let c2_i32 : BitVec 32 := 2#32
  let v1 : BitVec 32 := Scalar.addi v0 c2_i32
  let c0_i32 : BitVec 32 := 0#32
  ![arg1.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 2 → Memref sig .tc .vmem S1664x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1664x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1664x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1664x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1664x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1664x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1664x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S13x1x256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev grid1 : Pipeline.Grid := ⟨2, ![4, 5], ![false, false]⟩

def cc1_transform_0 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi c4_i32 arg1
  let c6_i32 : BitVec 32 := 6#32
  let v1 : BitVec 32 := Scalar.muli arg0 c6_i32
  let c0_i32 : BitVec 32 := 0#32
  let v2 : BitVec 32 := Scalar.addi v1 c0_i32
  let c0_i32_0 : BitVec 32 := 0#32
  ![v0.toNat, v2.toNat]

def cc1_transform_1 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi c4_i32 arg1
  let c6_i32 : BitVec 32 := 6#32
  let v1 : BitVec 32 := Scalar.muli arg0 c6_i32
  let c1_i32 : BitVec 32 := 1#32
  let v2 : BitVec 32 := Scalar.addi v1 c1_i32
  let c0_i32 : BitVec 32 := 0#32
  ![v0.toNat, v2.toNat]

def cc1_transform_2 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi c4_i32 arg1
  let c3_i32 : BitVec 32 := 3#32
  let v1 : BitVec 32 := Scalar.muli arg0 c3_i32
  let c1_i32 : BitVec 32 := 1#32
  let v2 : BitVec 32 := Scalar.addi v1 c1_i32
  let c0_i32 : BitVec 32 := 0#32
  ![v0.toNat, v2.toNat]

def cc1_transform_3 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi c4_i32 arg1
  let c3_i32 : BitVec 32 := 3#32
  let v1 : BitVec 32 := Scalar.muli arg0 c3_i32
  let c2_i32 : BitVec 32 := 2#32
  let v2 : BitVec 32 := Scalar.addi v1 c2_i32
  let c0_i32 : BitVec 32 := 0#32
  ![v0.toNat, v2.toNat]

def cc1_transform_4 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi c4_i32 arg1
  let c0_i32 : BitVec 32 := 0#32
  let c0_i32_0 : BitVec 32 := 0#32
  ![v0.toNat, c0_i32.toNat]

def cc1_transform_5 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi c4_i32 arg1
  let c0_i32 : BitVec 32 := 0#32
  let c0_i32_0 : BitVec 32 := 0#32
  ![v0.toNat, c0_i32.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.subi c4_i32 arg1
  let c0_i32 : BitVec 32 := 0#32
  let c0_i32_0 : BitVec 32 := 0#32
  let c0_i32_1 : BitVec 32 := 0#32
  ![v0.toNat, arg0.toNat, c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi c4_i32 arg1
  let c0_i32 : BitVec 32 := 0#32
  ![v0.toNat, arg0.toNat]

def cc1_transform_10 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi c4_i32 arg1
  let c0_i32 : BitVec 32 := 0#32
  ![v0.toNat, arg0.toNat]

abbrev stage1_0 : Fin 2 → Memref sig .tc .vmem S1664x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1664x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1664x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1664x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1664x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S1664x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]

abbrev stage1_6 : Fin 2 → Memref sig .tc .vmem S1x8x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S13x1x256x512 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S1664x512 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S1664x1536 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]
-- ==== ReferenceIdeal.lean ====
abbrev S8208x6144 : Shape := ⟨2, ![8208, 6144]⟩
abbrev S8208x2048 : Shape := ⟨2, ![8208, 2048]⟩
abbrev S8320x13824 : Shape := ⟨2, ![8320, 13824]⟩
abbrev S8208x4x1536 : Shape := ⟨3, ![8208, 4, 1536]⟩
abbrev S8208x4x256 : Shape := ⟨3, ![8208, 4, 256]⟩
abbrev S1x8208x1024 : Shape := ⟨3, ![1, 8208, 1024]⟩
abbrev S8208x4x512 : Shape := ⟨3, ![8208, 4, 512]⟩
abbrev S1x8208x2048 : Shape := ⟨3, ![1, 8208, 2048]⟩
abbrev S1x8208x4x256 : Shape := ⟨4, ![1, 8208, 4, 256]⟩
abbrev S1x8208x4x512 : Shape := ⟨4, ![1, 8208, 4, 512]⟩
abbrev S8208 : Shape := ⟨1, ![8208]⟩
abbrev S_ : Shape := ⟨0, ![]⟩
abbrev S127 : Shape := ⟨1, ![127]⟩
abbrev S1 : Shape := ⟨1, ![1]⟩
abbrev S128 : Shape := ⟨1, ![128]⟩
abbrev S8208x1 : Shape := ⟨2, ![8208, 1]⟩
abbrev S1x128 : Shape := ⟨2, ![1, 128]⟩
abbrev S8208x128 : Shape := ⟨2, ![8208, 128]⟩
abbrev S1x8208x1x128 : Shape := ⟨4, ![1, 8208, 1, 128]⟩
abbrev S1x8208x4x128 : Shape := ⟨4, ![1, 8208, 4, 128]⟩
abbrev S1x112x4x256 : Shape := ⟨4, ![1, 112, 4, 256]⟩
abbrev S1x8320x4x256 : Shape := ⟨4, ![1, 8320, 4, 256]⟩
abbrev S1x112x4x512 : Shape := ⟨4, ![1, 112, 4, 512]⟩
abbrev S1x8320x4x512 : Shape := ⟨4, ![1, 8320, 4, 512]⟩
abbrev S1x65x128x4x256 : Shape := ⟨5, ![1, 65, 128, 4, 256]⟩
abbrev S1x65x128x4x512 : Shape := ⟨5, ![1, 65, 128, 4, 512]⟩
abbrev S4 : Shape := ⟨1, ![4]⟩
abbrev S128x128 : Shape := ⟨2, ![128, 128]⟩
abbrev S128x1 : Shape := ⟨2, ![128, 1]⟩
abbrev S128x128x1 : Shape := ⟨3, ![128, 128, 1]⟩
abbrev S1x1x4 : Shape := ⟨3, ![1, 1, 4]⟩
abbrev S128x128x4 : Shape := ⟨3, ![128, 128, 4]⟩
abbrev S4x128x128 : Shape := ⟨3, ![4, 128, 128]⟩
abbrev S1x65x4x128x128 : Shape := ⟨5, ![1, 65, 4, 128, 128]⟩
abbrev S1x1x4x128x128 : Shape := ⟨5, ![1, 1, 4, 128, 128]⟩
abbrev S1x65x4x512x128 : Shape := ⟨5, ![1, 65, 4, 512, 128]⟩
abbrev S1x4 : Shape := ⟨2, ![1, 4]⟩
abbrev S128x4 : Shape := ⟨2, ![128, 4]⟩
abbrev S128x4x1 : Shape := ⟨3, ![128, 4, 1]⟩
abbrev S1x1x128x4x1 : Shape := ⟨5, ![1, 1, 128, 4, 1]⟩
abbrev S1x65x4x256x512 : Shape := ⟨5, ![1, 65, 4, 256, 512]⟩
abbrev S1x1x4x256x512 : Shape := ⟨5, ![1, 1, 4, 256, 512]⟩
abbrev S1x4x256x512 : Shape := ⟨4, ![1, 4, 256, 512]⟩
abbrev S65x1x4x256x512 : Shape := ⟨5, ![65, 1, 4, 256, 512]⟩
abbrev S4x1x1 : Shape := ⟨3, ![4, 1, 1]⟩
abbrev S1x4x1x1 : Shape := ⟨4, ![1, 4, 1, 1]⟩
abbrev S1x8208x4 : Shape := ⟨3, ![1, 8208, 4]⟩
abbrev S1x8208x4x1 : Shape := ⟨4, ![1, 8208, 4, 1]⟩
abbrev S8208x4 : Shape := ⟨2, ![8208, 4]⟩
abbrev S1x65x4x128x256 : Shape := ⟨5, ![1, 65, 4, 128, 256]⟩
abbrev S1x65x4x512x256 : Shape := ⟨5, ![1, 65, 4, 512, 256]⟩
abbrev S1x65x4x256x128 : Shape := ⟨5, ![1, 65, 4, 256, 128]⟩
abbrev S8320x2048 : Shape := ⟨2, ![8320, 2048]⟩
abbrev S8320x6144 : Shape := ⟨2, ![8320, 6144]⟩
abbrev S8320x7680 : Shape := ⟨2, ![8320, 7680]⟩

abbrev nBuf : Space → Nat
  | .hbm => 411
  | .vmem => 0
  | .smem => 0
  | _ => 0

abbrev hbmTy0_0 (i : Nat) : BufTy := match i % 128 with
  | 0 => ⟨S8208x6144, .bf16⟩
  | 1 => ⟨S8208x2048, .bf16⟩
  | 2 => ⟨S8320x13824, .bf16⟩
  | 3 => ⟨S8208x6144, .f32⟩
  | 4 => ⟨S8208x4x1536, .f32⟩
  | 5 => ⟨S8208x4x256, .f32⟩
  | 6 => ⟨S1x8208x1024, .f32⟩
  | 7 => ⟨S8208x4x256, .f32⟩
  | 8 => ⟨S1x8208x1024, .f32⟩
  | 9 => ⟨S8208x4x512, .f32⟩
  | 10 => ⟨S1x8208x2048, .f32⟩
  | 11 => ⟨S8208x4x512, .f32⟩
  | 12 => ⟨S1x8208x2048, .f32⟩
  | 13 => ⟨S1x8208x4x256, .f32⟩
  | 14 => ⟨S1x8208x4x256, .f32⟩
  | 15 => ⟨S1x8208x4x512, .f32⟩
  | 16 => ⟨S8208, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S127, .f32⟩
  | 25 => ⟨S_, .f32⟩
  | 26 => ⟨S127, .f32⟩
  | 27 => ⟨S127, .f32⟩
  | 28 => ⟨S1, .f32⟩
  | 29 => ⟨S_, .f32⟩
  | 30 => ⟨S127, .f32⟩
  | 31 => ⟨S127, .f32⟩
  | 32 => ⟨S127, .f32⟩
  | 33 => ⟨S127, .f32⟩
  | 34 => ⟨S1, .f32⟩
  | 35 => ⟨S127, .f32⟩
  | 36 => ⟨S127, .f32⟩
  | 37 => ⟨S127, .f32⟩
  | 38 => ⟨S1, .f32⟩
  | 39 => ⟨S128, .f32⟩
  | 40 => ⟨S128, .f32⟩
  | 41 => ⟨S_, .f32⟩
  | 42 => ⟨S128, .f32⟩
  | 43 => ⟨S128, .f32⟩
  | 44 => ⟨S8208x1, .f32⟩
  | 45 => ⟨S1x128, .f32⟩
  | 46 => ⟨S8208x128, .f32⟩
  | 47 => ⟨S8208x128, .f32⟩
  | 48 => ⟨S8208x128, .f32⟩
  | 49 => ⟨S8208x128, .f32⟩
  | 50 => ⟨S1x8208x1x128, .f32⟩
  | 51 => ⟨S8208x128, .f32⟩
  | 52 => ⟨S1x8208x1x128, .f32⟩
  | 53 => ⟨S1x8208x4x128, .f32⟩
  | 54 => ⟨S1x8208x4x128, .f32⟩
  | 55 => ⟨S1x8208x4x128, .f32⟩
  | 56 => ⟨S1x8208x4x128, .f32⟩
  | 57 => ⟨S1x8208x4x128, .f32⟩
  | 58 => ⟨S1x8208x4x128, .f32⟩
  | 59 => ⟨S1x8208x4x128, .f32⟩
  | 60 => ⟨S1x8208x4x128, .f32⟩
  | 61 => ⟨S1x8208x4x128, .f32⟩
  | 62 => ⟨S1x8208x4x128, .f32⟩
  | 63 => ⟨S1x8208x4x128, .f32⟩
  | 64 => ⟨S1x8208x4x128, .f32⟩
  | 65 => ⟨S1x8208x4x256, .f32⟩
  | 66 => ⟨S1x8208x4x128, .f32⟩
  | 67 => ⟨S1x8208x4x128, .f32⟩
  | 68 => ⟨S1x8208x4x128, .f32⟩
  | 69 => ⟨S1x8208x4x128, .f32⟩
  | 70 => ⟨S1x8208x4x128, .f32⟩
  | 71 => ⟨S1x8208x4x128, .f32⟩
  | 72 => ⟨S1x8208x4x128, .f32⟩
  | 73 => ⟨S1x8208x4x128, .f32⟩
  | 74 => ⟨S1x8208x4x128, .f32⟩
  | 75 => ⟨S1x8208x4x128, .f32⟩
  | 76 => ⟨S1x8208x4x128, .f32⟩
  | 77 => ⟨S1x8208x4x128, .f32⟩
  | 78 => ⟨S1x8208x4x256, .f32⟩
  | 79 => ⟨S_, .f32⟩
  | 80 => ⟨S1x8208x4x256, .f32⟩
  | 81 => ⟨S1x8208x4x256, .f32⟩
  | 82 => ⟨S_, .f32⟩
  | 83 => ⟨S1x112x4x256, .f32⟩
  | 84 => ⟨S1x8320x4x256, .f32⟩
  | 85 => ⟨S_, .f32⟩
  | 86 => ⟨S1x112x4x256, .f32⟩
  | 87 => ⟨S_, .f32⟩
  | 88 => ⟨S1x112x4x256, .f32⟩
  | 89 => ⟨S1x8320x4x256, .f32⟩
  | 90 => ⟨S_, .f32⟩
  | 91 => ⟨S1x112x4x256, .f32⟩
  | 92 => ⟨S_, .f32⟩
  | 93 => ⟨S1x112x4x512, .f32⟩
  | 94 => ⟨S1x8320x4x512, .f32⟩
  | 95 => ⟨S_, .f32⟩
  | 96 => ⟨S1x112x4x512, .f32⟩
  | 97 => ⟨S1x65x128x4x256, .f32⟩
  | 98 => ⟨S1x65x128x4x256, .f32⟩
  | 99 => ⟨S1x65x128x4x512, .f32⟩
  | 100 => ⟨S4, .f32⟩
  | 101 => ⟨S_, .f32⟩
  | 102 => ⟨S4, .f32⟩
  | 103 => ⟨S4, .f32⟩
  | 104 => ⟨S_, .f32⟩
  | 105 => ⟨S4, .f32⟩
  | 106 => ⟨S4, .f32⟩
  | 107 => ⟨S_, .f32⟩
  | 108 => ⟨S4, .f32⟩
  | 109 => ⟨S4, .f32⟩
  | 110 => ⟨S4, .f32⟩
  | 111 => ⟨S128, .f32⟩
  | 112 => ⟨S_, .i1⟩
  | 113 => ⟨S128x128, .i1⟩
  | 114 => ⟨S128x128, .i32⟩
  | 115 => ⟨S_, .i32⟩
  | 116 => ⟨S128x128, .i32⟩
  | 117 => ⟨S128x128, .i32⟩
  | 118 => ⟨S128x128, .i32⟩
  | 119 => ⟨S128x128, .i1⟩
  | 120 => ⟨S_, .i1⟩
  | 121 => ⟨S128x128, .i1⟩
  | 122 => ⟨S128x128, .i1⟩
  | 123 => ⟨S128x1, .f32⟩
  | 124 => ⟨S1x128, .f32⟩
  | 125 => ⟨S128x128, .f32⟩
  | 126 => ⟨S128x128, .f32⟩
  | 127 => ⟨S128x128, .f32⟩
  | _ => ⟨S8208x6144, .bf16⟩

abbrev hbmTy0_1 (i : Nat) : BufTy := match i % 128 with
  | 0 => ⟨S128x128x1, .f32⟩
  | 1 => ⟨S1x1x4, .f32⟩
  | 2 => ⟨S128x128x4, .f32⟩
  | 3 => ⟨S128x128x4, .f32⟩
  | 4 => ⟨S128x128x4, .f32⟩
  | 5 => ⟨S128x128x1, .i1⟩
  | 6 => ⟨S_, .f32⟩
  | 7 => ⟨S_, .f32⟩
  | 8 => ⟨S128x128x4, .i1⟩
  | 9 => ⟨S128x128x4, .f32⟩
  | 10 => ⟨S128x128x4, .f32⟩
  | 11 => ⟨S128x128x4, .f32⟩
  | 12 => ⟨S4x128x128, .f32⟩
  | 13 => ⟨S1x65x4x128x128, .f32⟩
  | 14 => ⟨S1x1x4x128x128, .f32⟩
  | 15 => ⟨S1x65x4x128x128, .f32⟩
  | 16 => ⟨S1x65x4x128x128, .f32⟩
  | 17 => ⟨S1x65x4x512x128, .f32⟩
  | 18 => ⟨S1x65x128x4x512, .f32⟩
  | 19 => ⟨S_, .f32⟩
  | 20 => ⟨S128, .f32⟩
  | 21 => ⟨S128, .f32⟩
  | 22 => ⟨S128x1, .f32⟩
  | 23 => ⟨S1x4, .f32⟩
  | 24 => ⟨S128x4, .f32⟩
  | 25 => ⟨S128x4, .f32⟩
  | 26 => ⟨S128x4, .f32⟩
  | 27 => ⟨S128x4, .f32⟩
  | 28 => ⟨S128x4x1, .f32⟩
  | 29 => ⟨S1x1x128x4x1, .f32⟩
  | 30 => ⟨S1x65x128x4x256, .f32⟩
  | 31 => ⟨S1x65x128x4x256, .f32⟩
  | 32 => ⟨S1x65x4x256x512, .f32⟩
  | 33 => ⟨S_, .f32⟩
  | 34 => ⟨S4, .f32⟩
  | 35 => ⟨S4, .f32⟩
  | 36 => ⟨S4, .f32⟩
  | 37 => ⟨S1x1x4x256x512, .f32⟩
  | 38 => ⟨S1x4x256x512, .f32⟩
  | 39 => ⟨S_, .f32⟩
  | 40 => ⟨S1x4x256x512, .f32⟩
  | 41 => ⟨S65x1x4x256x512, .f32⟩
  | 42 => ⟨S4x1x1, .f32⟩
  | 43 => ⟨S1x4x1x1, .f32⟩
  | 44 => ⟨S_, .f32⟩
  | 45 => ⟨S65x1x4x256x512, .f32⟩
  | 46 => ⟨S_, .i32⟩
  | 47 => ⟨S65x1x4x256x512, .f32⟩
  | 48 => ⟨S1x4x1x1, .f32⟩
  | 49 => ⟨S_, .i32⟩
  | 50 => ⟨S1x4x256x512, .f32⟩
  | 51 => ⟨S65x1x4x256x512, .f32⟩
  | 52 => ⟨S_, .i32⟩
  | 53 => ⟨S_, .i1⟩
  | 54 => ⟨S_, .i32⟩
  | 55 => ⟨S_, .i32⟩
  | 56 => ⟨S_, .i32⟩
  | 57 => ⟨S_, .i32⟩
  | 58 => ⟨S1x1x4x256x512, .f32⟩
  | 59 => ⟨S1x4x256x512, .f32⟩
  | 60 => ⟨S1x4x256x512, .f32⟩
  | 61 => ⟨S1x4x256x512, .f32⟩
  | 62 => ⟨S1x4x256x512, .f32⟩
  | 63 => ⟨S1x1x4x256x512, .f32⟩
  | 64 => ⟨S_, .i32⟩
  | 65 => ⟨S_, .i32⟩
  | 66 => ⟨S_, .i32⟩
  | 67 => ⟨S_, .i32⟩
  | 68 => ⟨S65x1x4x256x512, .f32⟩
  | 69 => ⟨S_, .i32⟩
  | 70 => ⟨S_, .i32⟩
  | 71 => ⟨S1x65x4x256x512, .f32⟩
  | 72 => ⟨S1x65x4x512x128, .f32⟩
  | 73 => ⟨S1x65x128x4x512, .f32⟩
  | 74 => ⟨S_, .f32⟩
  | 75 => ⟨S128, .f32⟩
  | 76 => ⟨S128, .f32⟩
  | 77 => ⟨S128x1, .f32⟩
  | 78 => ⟨S1x4, .f32⟩
  | 79 => ⟨S128x4, .f32⟩
  | 80 => ⟨S128x4, .f32⟩
  | 81 => ⟨S128x4, .f32⟩
  | 82 => ⟨S128x4, .f32⟩
  | 83 => ⟨S128x4x1, .f32⟩
  | 84 => ⟨S1x1x128x4x1, .f32⟩
  | 85 => ⟨S1x65x128x4x512, .f32⟩
  | 86 => ⟨S1x65x128x4x512, .f32⟩
  | 87 => ⟨S1x65x128x4x512, .f32⟩
  | 88 => ⟨S1x8320x4x512, .f32⟩
  | 89 => ⟨S1x8208x4x512, .f32⟩
  | 90 => ⟨S1x8208x4x512, .f32⟩
  | 91 => ⟨S_, .f32⟩
  | 92 => ⟨S1x8208x4, .f32⟩
  | 93 => ⟨S1x8208x4x1, .f32⟩
  | 94 => ⟨S_, .f32⟩
  | 95 => ⟨S1x8208x4x1, .f32⟩
  | 96 => ⟨S1x8208x4x1, .f32⟩
  | 97 => ⟨S_, .f32⟩
  | 98 => ⟨S1x8208x4x1, .f32⟩
  | 99 => ⟨S1x8208x4x1, .f32⟩
  | 100 => ⟨S1x8208x4x1, .f32⟩
  | 101 => ⟨S1x8208x4x1, .f32⟩
  | 102 => ⟨S_, .f32⟩
  | 103 => ⟨S1x8208x4x1, .f32⟩
  | 104 => ⟨S1x8208x4x1, .f32⟩
  | 105 => ⟨S1x8208x4x512, .f32⟩
  | 106 => ⟨S1x8208x4x512, .f32⟩
  | 107 => ⟨S1x8208x2048, .f32⟩
  | 108 => ⟨S1x8208x2048, .f32⟩
  | 109 => ⟨S_, .f32⟩
  | 110 => ⟨S1x8208x2048, .f32⟩
  | 111 => ⟨S1x8208x2048, .f32⟩
  | 112 => ⟨S_, .f32⟩
  | 113 => ⟨S1x8208x2048, .f32⟩
  | 114 => ⟨S1x8208x2048, .f32⟩
  | 115 => ⟨S_, .f32⟩
  | 116 => ⟨S1x8208x2048, .f32⟩
  | 117 => ⟨S1x8208x2048, .f32⟩
  | 118 => ⟨S1x8208x2048, .f32⟩
  | 119 => ⟨S1x8208x2048, .f32⟩
  | 120 => ⟨S1x8208x2048, .f32⟩
  | 121 => ⟨S1x8208x2048, .f32⟩
  | 122 => ⟨S8208x2048, .f32⟩
  | 123 => ⟨S1x8208x2048, .f32⟩
  | 124 => ⟨S_, .f32⟩
  | 125 => ⟨S1x4x256x512, .f32⟩
  | 126 => ⟨S1x8208x2048, .f32⟩
  | 127 => ⟨S1x8208x2048, .f32⟩
  | _ => ⟨S8208x6144, .bf16⟩

abbrev hbmTy0_2 (i : Nat) : BufTy := match i % 128 with
  | 0 => ⟨S1x8208x4x512, .f32⟩
  | 1 => ⟨S1x8208x2048, .f32⟩
  | 2 => ⟨S1x8208x2048, .f32⟩
  | 3 => ⟨S1x8208x2048, .f32⟩
  | 4 => ⟨S1x8208x2048, .f32⟩
  | 5 => ⟨S1x8208x4x512, .f32⟩
  | 6 => ⟨S_, .f32⟩
  | 7 => ⟨S1x8208x4, .f32⟩
  | 8 => ⟨S1x8208x4x1, .f32⟩
  | 9 => ⟨S1x8208x4x512, .f32⟩
  | 10 => ⟨S1x8208x4x512, .f32⟩
  | 11 => ⟨S1x8208x4x1, .f32⟩
  | 12 => ⟨S_, .f32⟩
  | 13 => ⟨S1x8208x4x1, .f32⟩
  | 14 => ⟨S1x8208x4x1, .f32⟩
  | 15 => ⟨S_, .f32⟩
  | 16 => ⟨S8208x4, .f32⟩
  | 17 => ⟨S1x8208x4, .f32⟩
  | 18 => ⟨S1x8208x4x512, .f32⟩
  | 19 => ⟨S1x8208x4x512, .f32⟩
  | 20 => ⟨S1x8208x4x512, .f32⟩
  | 21 => ⟨S1x8208x4x512, .f32⟩
  | 22 => ⟨S1x8208x4x512, .f32⟩
  | 23 => ⟨S_, .f32⟩
  | 24 => ⟨S1x8320x4x512, .f32⟩
  | 25 => ⟨S1x65x128x4x512, .f32⟩
  | 26 => ⟨S1x65x128x4x512, .f32⟩
  | 27 => ⟨S1x65x128x4x512, .f32⟩
  | 28 => ⟨S1x65x4x512x128, .f32⟩
  | 29 => ⟨S1x65x4x128x256, .f32⟩
  | 30 => ⟨S1x65x128x4x256, .f32⟩
  | 31 => ⟨S1x65x4x512x256, .f32⟩
  | 32 => ⟨S1x65x4x256x512, .f32⟩
  | 33 => ⟨S65x1x4x256x512, .f32⟩
  | 34 => ⟨S_, .f32⟩
  | 35 => ⟨S1x4x256x512, .f32⟩
  | 36 => ⟨S_, .f32⟩
  | 37 => ⟨S65x1x4x256x512, .f32⟩
  | 38 => ⟨S_, .i32⟩
  | 39 => ⟨S65x1x4x256x512, .f32⟩
  | 40 => ⟨S1x4x1x1, .f32⟩
  | 41 => ⟨S_, .i32⟩
  | 42 => ⟨S1x4x256x512, .f32⟩
  | 43 => ⟨S65x1x4x256x512, .f32⟩
  | 44 => ⟨S_, .i32⟩
  | 45 => ⟨S_, .i1⟩
  | 46 => ⟨S_, .i32⟩
  | 47 => ⟨S_, .i32⟩
  | 48 => ⟨S_, .i32⟩
  | 49 => ⟨S_, .i32⟩
  | 50 => ⟨S_, .i32⟩
  | 51 => ⟨S_, .i32⟩
  | 52 => ⟨S_, .i32⟩
  | 53 => ⟨S_, .i32⟩
  | 54 => ⟨S1x1x4x256x512, .f32⟩
  | 55 => ⟨S1x4x256x512, .f32⟩
  | 56 => ⟨S1x4x256x512, .f32⟩
  | 57 => ⟨S1x4x256x512, .f32⟩
  | 58 => ⟨S1x4x256x512, .f32⟩
  | 59 => ⟨S1x1x4x256x512, .f32⟩
  | 60 => ⟨S_, .i32⟩
  | 61 => ⟨S_, .i32⟩
  | 62 => ⟨S_, .i32⟩
  | 63 => ⟨S_, .i32⟩
  | 64 => ⟨S65x1x4x256x512, .f32⟩
  | 65 => ⟨S_, .i32⟩
  | 66 => ⟨S_, .i32⟩
  | 67 => ⟨S1x65x4x256x512, .f32⟩
  | 68 => ⟨S1x65x4x512x128, .f32⟩
  | 69 => ⟨S1x65x128x4x512, .f32⟩
  | 70 => ⟨S1x65x4x256x128, .f32⟩
  | 71 => ⟨S1x65x128x4x256, .f32⟩
  | 72 => ⟨S1x65x128x4x256, .f32⟩
  | 73 => ⟨S1x65x128x4x256, .f32⟩
  | 74 => ⟨S1x65x4x512x128, .f32⟩
  | 75 => ⟨S1x65x4x128x128, .f32⟩
  | 76 => ⟨S1x65x4x512x128, .f32⟩
  | 77 => ⟨S1x65x128x4x512, .f32⟩
  | 78 => ⟨S1x65x128x4x512, .f32⟩
  | 79 => ⟨S1x65x4x128x128, .f32⟩
  | 80 => ⟨S1x65x4x128x128, .f32⟩
  | 81 => ⟨S1x65x4x128x256, .f32⟩
  | 82 => ⟨S1x65x128x4x256, .f32⟩
  | 83 => ⟨S1x65x128x4x256, .f32⟩
  | 84 => ⟨S1x65x4x128x256, .f32⟩
  | 85 => ⟨S1x65x128x4x256, .f32⟩
  | 86 => ⟨S1x65x128x4x256, .f32⟩
  | 87 => ⟨S1x8320x4x512, .f32⟩
  | 88 => ⟨S1x8320x4x256, .f32⟩
  | 89 => ⟨S1x8320x4x256, .f32⟩
  | 90 => ⟨S1x112x4x512, .f32⟩
  | 91 => ⟨S1x8208x4x512, .f32⟩
  | 92 => ⟨S1x112x4x256, .f32⟩
  | 93 => ⟨S1x8208x4x256, .f32⟩
  | 94 => ⟨S1x112x4x256, .f32⟩
  | 95 => ⟨S1x8208x4x256, .f32⟩
  | 96 => ⟨S_, .f32⟩
  | 97 => ⟨S1x8208x4x256, .f32⟩
  | 98 => ⟨S1x8208x4x256, .f32⟩
  | 99 => ⟨S1x8208x4x128, .f32⟩
  | 100 => ⟨S1x8208x4x128, .f32⟩
  | 101 => ⟨S1x8208x4x128, .f32⟩
  | 102 => ⟨S1x8208x4x128, .f32⟩
  | 103 => ⟨S1x8208x4x128, .f32⟩
  | 104 => ⟨S1x8208x4x128, .f32⟩
  | 105 => ⟨S1x8208x4x128, .f32⟩
  | 106 => ⟨S1x8208x4x128, .f32⟩
  | 107 => ⟨S1x8208x4x128, .f32⟩
  | 108 => ⟨S1x8208x4x128, .f32⟩
  | 109 => ⟨S1x8208x4x128, .f32⟩
  | 110 => ⟨S1x8208x4x128, .f32⟩
  | 111 => ⟨S1x8208x4x128, .f32⟩
  | 112 => ⟨S_, .f32⟩
  | 113 => ⟨S1x8208x4x256, .f32⟩
  | 114 => ⟨S_, .f32⟩
  | 115 => ⟨S1x8208x4x256, .f32⟩
  | 116 => ⟨S1x8208x4x256, .f32⟩
  | 117 => ⟨S1x8208x4x128, .f32⟩
  | 118 => ⟨S1x8208x4x128, .f32⟩
  | 119 => ⟨S1x8208x4x128, .f32⟩
  | 120 => ⟨S1x8208x4x128, .f32⟩
  | 121 => ⟨S1x8208x4x128, .f32⟩
  | 122 => ⟨S1x8208x4x128, .f32⟩
  | 123 => ⟨S1x8208x4x128, .f32⟩
  | 124 => ⟨S1x8208x4x128, .f32⟩
  | 125 => ⟨S1x8208x4x128, .f32⟩
  | 126 => ⟨S1x8208x4x128, .f32⟩
  | 127 => ⟨S1x8208x4x128, .f32⟩
  | _ => ⟨S8208x6144, .bf16⟩

abbrev hbmTy0_3 (i : Nat) : BufTy := match i % 128 with
  | 0 => ⟨S1x8208x4x128, .f32⟩
  | 1 => ⟨S1x8208x4x128, .f32⟩
  | 2 => ⟨S_, .f32⟩
  | 3 => ⟨S1x8208x4x256, .f32⟩
  | 4 => ⟨S_, .f32⟩
  | 5 => ⟨S1x8208x4x256, .f32⟩
  | 6 => ⟨S1x8208x4x256, .f32⟩
  | 7 => ⟨S1x8208x2048, .f32⟩
  | 8 => ⟨S1x8208x1024, .f32⟩
  | 9 => ⟨S1x8208x1024, .f32⟩
  | 10 => ⟨S8208x4x256, .f32⟩
  | 11 => ⟨S8208x4x256, .f32⟩
  | 12 => ⟨S8208x4x512, .f32⟩
  | 13 => ⟨S8208x4x512, .f32⟩
  | 14 => ⟨S8208x4x1536, .f32⟩
  | 15 => ⟨S8208x6144, .f32⟩
  | 16 => ⟨S8208x2048, .f32⟩
  | 17 => ⟨S_, .i32⟩
  | 18 => ⟨S_, .f32⟩
  | 19 => ⟨S8320x2048, .f32⟩
  | 20 => ⟨S8320x2048, .bf16⟩
  | 21 => ⟨S_, .i32⟩
  | 22 => ⟨S_, .f32⟩
  | 23 => ⟨S8320x6144, .f32⟩
  | 24 => ⟨S8320x6144, .bf16⟩
  | 25 => ⟨S8320x7680, .bf16⟩
  | 26 => ⟨S8320x13824, .bf16⟩
  | _ => ⟨S8208x6144, .bf16⟩

abbrev hbmTy (i : Nat) : BufTy := match i / 128 with
  | 0 => hbmTy0_0 i
  | 1 => hbmTy0_1 i
  | 2 => hbmTy0_2 i
  | 3 => hbmTy0_3 i
  | _ => ⟨S8208x6144, .bf16⟩

abbrev bufTy : (tb : Table) → Fin (tcTables nBuf tb) → BufTy
  | .hbm, ⟨i, _⟩ => hbmTy i
  | _, _ => ⟨S8208x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_cst_0 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_cst : Ref sig .tc := ⟨.hbm, 22, rfl⟩
abbrev main_call0_v3 : Ref sig .tc := ⟨.hbm, 23, rfl⟩
abbrev main_call0_v4 : Ref sig .tc := ⟨.hbm, 24, rfl⟩
abbrev main_call0_cst_0 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_cst_1 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_call0_v15 : Ref sig .tc := ⟨.hbm, 37, rfl⟩
abbrev main_call0_v16 : Ref sig .tc := ⟨.hbm, 38, rfl⟩
abbrev main_v14 : Ref sig .tc := ⟨.hbm, 39, rfl⟩
abbrev main_v15 : Ref sig .tc := ⟨.hbm, 40, rfl⟩
abbrev main_cst_1 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_2 : Ref sig .tc := ⟨.hbm, 79, rfl⟩
abbrev main_v53 : Ref sig .tc := ⟨.hbm, 80, rfl⟩
abbrev main_v54 : Ref sig .tc := ⟨.hbm, 81, rfl⟩
abbrev main_cst_3 : Ref sig .tc := ⟨.hbm, 82, rfl⟩
abbrev main_v55 : Ref sig .tc := ⟨.hbm, 83, rfl⟩
abbrev main_v56 : Ref sig .tc := ⟨.hbm, 84, rfl⟩
abbrev main_cst_4 : Ref sig .tc := ⟨.hbm, 85, rfl⟩
abbrev main_v57 : Ref sig .tc := ⟨.hbm, 86, rfl⟩
abbrev main_cst_5 : Ref sig .tc := ⟨.hbm, 87, rfl⟩
abbrev main_v58 : Ref sig .tc := ⟨.hbm, 88, rfl⟩
abbrev main_v59 : Ref sig .tc := ⟨.hbm, 89, rfl⟩
abbrev main_cst_6 : Ref sig .tc := ⟨.hbm, 90, rfl⟩
abbrev main_v60 : Ref sig .tc := ⟨.hbm, 91, rfl⟩
abbrev main_cst_7 : Ref sig .tc := ⟨.hbm, 92, rfl⟩
abbrev main_v61 : Ref sig .tc := ⟨.hbm, 93, rfl⟩
abbrev main_v62 : Ref sig .tc := ⟨.hbm, 94, rfl⟩
abbrev main_cst_8 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_cst_9 : Ref sig .tc := ⟨.hbm, 101, rfl⟩
abbrev main_v68 : Ref sig .tc := ⟨.hbm, 102, rfl⟩
abbrev main_v69 : Ref sig .tc := ⟨.hbm, 103, rfl⟩
abbrev main_cst_10 : Ref sig .tc := ⟨.hbm, 104, rfl⟩
abbrev main_v70 : Ref sig .tc := ⟨.hbm, 105, rfl⟩
abbrev main_v71 : Ref sig .tc := ⟨.hbm, 106, rfl⟩
abbrev main_cst_11 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_c : Ref sig .tc := ⟨.hbm, 112, rfl⟩
abbrev main_v76 : Ref sig .tc := ⟨.hbm, 113, rfl⟩
abbrev main_call1_v0 : Ref sig .tc := ⟨.hbm, 114, rfl⟩
abbrev main_call1_c : Ref sig .tc := ⟨.hbm, 115, rfl⟩
abbrev main_call1_v1 : Ref sig .tc := ⟨.hbm, 116, rfl⟩
abbrev main_call1_v2 : Ref sig .tc := ⟨.hbm, 117, rfl⟩
abbrev main_call1_v3 : Ref sig .tc := ⟨.hbm, 118, rfl⟩
abbrev main_call1_v4 : Ref sig .tc := ⟨.hbm, 119, rfl⟩
abbrev main_call1_c_0 : Ref sig .tc := ⟨.hbm, 120, rfl⟩
abbrev main_call1_v5 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_cst_12 : Ref sig .tc := ⟨.hbm, 134, rfl⟩
abbrev main_call2_v0 : Ref sig .tc := ⟨.hbm, 135, rfl⟩
abbrev main_call2_v1 : Ref sig .tc := ⟨.hbm, 136, rfl⟩
abbrev main_call2_v2 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_cst_13 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_cst_14 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_cst_15 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_cst_16 : Ref sig .tc := ⟨.hbm, 172, rfl⟩
abbrev main_v120 : Ref sig .tc := ⟨.hbm, 173, rfl⟩
abbrev main_c_17 : Ref sig .tc := ⟨.hbm, 174, rfl⟩
abbrev main_v121_0 : Ref sig .tc := ⟨.hbm, 175, rfl⟩
abbrev main_v121_1 : Ref sig .tc := ⟨.hbm, 176, rfl⟩
abbrev main_v121_2 : Ref sig .tc := ⟨.hbm, 177, rfl⟩
abbrev main_v121_3 : Ref sig .tc := ⟨.hbm, 178, rfl⟩
abbrev main_v121_4 : Ref sig .tc := ⟨.hbm, 179, rfl⟩
abbrev main_while0c_c_42 : Ref sig .tc := ⟨.hbm, 180, rfl⟩
abbrev main_while0c_v270 : Ref sig .tc := ⟨.hbm, 181, rfl⟩
abbrev main_while0b_call3_c : Ref sig .tc := ⟨.hbm, 182, rfl⟩
abbrev main_while0b_call3_c_0 : Ref sig .tc := ⟨.hbm, 183, rfl⟩
abbrev main_while0b_call3_c_1 : Ref sig .tc := ⟨.hbm, 184, rfl⟩
abbrev main_while0b_call3_c_2 : Ref sig .tc := ⟨.hbm, 185, rfl⟩
abbrev main_while0b_call3_v0 : Ref sig .tc := ⟨.hbm, 186, rfl⟩
abbrev main_while0b_v270 : Ref sig .tc := ⟨.hbm, 187, rfl⟩
abbrev main_while0b_v271 : Ref sig .tc := ⟨.hbm, 188, rfl⟩
abbrev main_while0b_v272 : Ref sig .tc := ⟨.hbm, 189, rfl⟩
abbrev main_while0b_v273 : Ref sig .tc := ⟨.hbm, 190, rfl⟩
abbrev main_while0b_call4_v0 : Ref sig .tc := ⟨.hbm, 191, rfl⟩
abbrev main_while0b_call4_c : Ref sig .tc := ⟨.hbm, 192, rfl⟩
abbrev main_while0b_call4_c_0 : Ref sig .tc := ⟨.hbm, 193, rfl⟩
abbrev main_while0b_call4_c_1 : Ref sig .tc := ⟨.hbm, 194, rfl⟩
abbrev main_while0b_call4_c_2 : Ref sig .tc := ⟨.hbm, 195, rfl⟩
abbrev main_while0b_v274 : Ref sig .tc := ⟨.hbm, 196, rfl⟩
abbrev main_while0b_c_42 : Ref sig .tc := ⟨.hbm, 197, rfl⟩
abbrev main_while0b_v275 : Ref sig .tc := ⟨.hbm, 198, rfl⟩
abbrev main_v122 : Ref sig .tc := ⟨.hbm, 199, rfl⟩
abbrev main_v123 : Ref sig .tc := ⟨.hbm, 200, rfl⟩
abbrev main_v124 : Ref sig .tc := ⟨.hbm, 201, rfl⟩
abbrev main_cst_18 : Ref sig .tc := ⟨.hbm, 202, rfl⟩
abbrev main_v125 : Ref sig .tc := ⟨.hbm, 203, rfl⟩
abbrev main_v126 : Ref sig .tc := ⟨.hbm, 204, rfl⟩
abbrev main_v127 : Ref sig .tc := ⟨.hbm, 205, rfl⟩
abbrev main_v128 : Ref sig .tc := ⟨.hbm, 206, rfl⟩
abbrev main_v129 : Ref sig .tc := ⟨.hbm, 207, rfl⟩
abbrev main_v130 : Ref sig .tc := ⟨.hbm, 208, rfl⟩
abbrev main_v131 : Ref sig .tc := ⟨.hbm, 209, rfl⟩
abbrev main_v132 : Ref sig .tc := ⟨.hbm, 210, rfl⟩
abbrev main_v133 : Ref sig .tc := ⟨.hbm, 211, rfl⟩
abbrev main_v134 : Ref sig .tc := ⟨.hbm, 212, rfl⟩
abbrev main_v135 : Ref sig .tc := ⟨.hbm, 213, rfl⟩
abbrev main_v136 : Ref sig .tc := ⟨.hbm, 214, rfl⟩
abbrev main_v137 : Ref sig .tc := ⟨.hbm, 215, rfl⟩
abbrev main_v138 : Ref sig .tc := ⟨.hbm, 216, rfl⟩
abbrev main_v139 : Ref sig .tc := ⟨.hbm, 217, rfl⟩
abbrev main_v140 : Ref sig .tc := ⟨.hbm, 218, rfl⟩
abbrev main_cst_19 : Ref sig .tc := ⟨.hbm, 219, rfl⟩
abbrev main_v141 : Ref sig .tc := ⟨.hbm, 220, rfl⟩
abbrev main_v142 : Ref sig .tc := ⟨.hbm, 221, rfl⟩
abbrev main_cst_20 : Ref sig .tc := ⟨.hbm, 222, rfl⟩
abbrev main_v143 : Ref sig .tc := ⟨.hbm, 223, rfl⟩
abbrev main_v144 : Ref sig .tc := ⟨.hbm, 224, rfl⟩
abbrev main_cst_21 : Ref sig .tc := ⟨.hbm, 225, rfl⟩
abbrev main_v145 : Ref sig .tc := ⟨.hbm, 226, rfl⟩
abbrev main_v146 : Ref sig .tc := ⟨.hbm, 227, rfl⟩
abbrev main_v147 : Ref sig .tc := ⟨.hbm, 228, rfl⟩
abbrev main_v148 : Ref sig .tc := ⟨.hbm, 229, rfl⟩
abbrev main_cst_22 : Ref sig .tc := ⟨.hbm, 230, rfl⟩
abbrev main_v149 : Ref sig .tc := ⟨.hbm, 231, rfl⟩
abbrev main_v150 : Ref sig .tc := ⟨.hbm, 232, rfl⟩
abbrev main_v151 : Ref sig .tc := ⟨.hbm, 233, rfl⟩
abbrev main_v152 : Ref sig .tc := ⟨.hbm, 234, rfl⟩
abbrev main_call5_v0 : Ref sig .tc := ⟨.hbm, 235, rfl⟩
abbrev main_call5_v1 : Ref sig .tc := ⟨.hbm, 236, rfl⟩
abbrev main_call5_cst : Ref sig .tc := ⟨.hbm, 237, rfl⟩
abbrev main_call5_v2 : Ref sig .tc := ⟨.hbm, 238, rfl⟩
abbrev main_call5_v3 : Ref sig .tc := ⟨.hbm, 239, rfl⟩
abbrev main_call5_cst_0 : Ref sig .tc := ⟨.hbm, 240, rfl⟩
abbrev main_call5_v4 : Ref sig .tc := ⟨.hbm, 241, rfl⟩
abbrev main_v153_2 : Ref sig .tc := ⟨.hbm, 242, rfl⟩
abbrev main_call5_cst_1 : Ref sig .tc := ⟨.hbm, 243, rfl⟩
abbrev main_call5_v6 : Ref sig .tc := ⟨.hbm, 244, rfl⟩
abbrev main_call5_v7 : Ref sig .tc := ⟨.hbm, 245, rfl⟩
abbrev main_v153_1 : Ref sig .tc := ⟨.hbm, 246, rfl⟩
abbrev main_v153_0 : Ref sig .tc := ⟨.hbm, 247, rfl⟩
abbrev main_v154 : Ref sig .tc := ⟨.hbm, 248, rfl⟩
abbrev main_v155 : Ref sig .tc := ⟨.hbm, 249, rfl⟩
abbrev main_v156 : Ref sig .tc := ⟨.hbm, 250, rfl⟩
abbrev main_v157 : Ref sig .tc := ⟨.hbm, 251, rfl⟩
abbrev main_cst_23 : Ref sig .tc := ⟨.hbm, 252, rfl⟩
abbrev main_v158 : Ref sig .tc := ⟨.hbm, 253, rfl⟩
abbrev main_v159 : Ref sig .tc := ⟨.hbm, 254, rfl⟩
abbrev main_v160 : Ref sig .tc := ⟨.hbm, 255, rfl⟩
abbrev main_v161 : Ref sig .tc := ⟨.hbm, 256, rfl⟩
abbrev main_call6_v0 : Ref sig .tc := ⟨.hbm, 257, rfl⟩
abbrev main_call6_v1 : Ref sig .tc := ⟨.hbm, 258, rfl⟩
abbrev main_call6_v2 : Ref sig .tc := ⟨.hbm, 259, rfl⟩
abbrev main_v162 : Ref sig .tc := ⟨.hbm, 260, rfl⟩
abbrev main_v163 : Ref sig .tc := ⟨.hbm, 261, rfl⟩
abbrev main_cst_24 : Ref sig .tc := ⟨.hbm, 262, rfl⟩
abbrev main_v164 : Ref sig .tc := ⟨.hbm, 263, rfl⟩
abbrev main_v165 : Ref sig .tc := ⟨.hbm, 264, rfl⟩
abbrev main_v166 : Ref sig .tc := ⟨.hbm, 265, rfl⟩
abbrev main_v167 : Ref sig .tc := ⟨.hbm, 266, rfl⟩
abbrev main_v168 : Ref sig .tc := ⟨.hbm, 267, rfl⟩
abbrev main_cst_25 : Ref sig .tc := ⟨.hbm, 268, rfl⟩
abbrev main_v169 : Ref sig .tc := ⟨.hbm, 269, rfl⟩
abbrev main_v170 : Ref sig .tc := ⟨.hbm, 270, rfl⟩
abbrev main_cst_26 : Ref sig .tc := ⟨.hbm, 271, rfl⟩
abbrev main_v171 : Ref sig .tc := ⟨.hbm, 272, rfl⟩
abbrev main_v172 : Ref sig .tc := ⟨.hbm, 273, rfl⟩
abbrev main_v173 : Ref sig .tc := ⟨.hbm, 274, rfl⟩
abbrev main_v174 : Ref sig .tc := ⟨.hbm, 275, rfl⟩
abbrev main_v175 : Ref sig .tc := ⟨.hbm, 276, rfl⟩
abbrev main_v176 : Ref sig .tc := ⟨.hbm, 277, rfl⟩
abbrev main_v177 : Ref sig .tc := ⟨.hbm, 278, rfl⟩
abbrev main_cst_27 : Ref sig .tc := ⟨.hbm, 279, rfl⟩
abbrev main_v178 : Ref sig .tc := ⟨.hbm, 280, rfl⟩
abbrev main_v179 : Ref sig .tc := ⟨.hbm, 281, rfl⟩
abbrev main_v180 : Ref sig .tc := ⟨.hbm, 282, rfl⟩
abbrev main_v181 : Ref sig .tc := ⟨.hbm, 283, rfl⟩
abbrev main_v182 : Ref sig .tc := ⟨.hbm, 284, rfl⟩
abbrev main_v183 : Ref sig .tc := ⟨.hbm, 285, rfl⟩
abbrev main_v184 : Ref sig .tc := ⟨.hbm, 286, rfl⟩
abbrev main_v185 : Ref sig .tc := ⟨.hbm, 287, rfl⟩
abbrev main_v186 : Ref sig .tc := ⟨.hbm, 288, rfl⟩
abbrev main_v187 : Ref sig .tc := ⟨.hbm, 289, rfl⟩
abbrev main_cst_28 : Ref sig .tc := ⟨.hbm, 290, rfl⟩
abbrev main_v188 : Ref sig .tc := ⟨.hbm, 291, rfl⟩
abbrev main_cst_29 : Ref sig .tc := ⟨.hbm, 292, rfl⟩
abbrev main_v189 : Ref sig .tc := ⟨.hbm, 293, rfl⟩
abbrev main_c_30 : Ref sig .tc := ⟨.hbm, 294, rfl⟩
abbrev main_v190_0 : Ref sig .tc := ⟨.hbm, 295, rfl⟩
abbrev main_v190_1 : Ref sig .tc := ⟨.hbm, 296, rfl⟩
abbrev main_v190_2 : Ref sig .tc := ⟨.hbm, 297, rfl⟩
abbrev main_v190_3 : Ref sig .tc := ⟨.hbm, 298, rfl⟩
abbrev main_v190_4 : Ref sig .tc := ⟨.hbm, 299, rfl⟩
abbrev main_while1c_c_42 : Ref sig .tc := ⟨.hbm, 300, rfl⟩
abbrev main_while1c_v270 : Ref sig .tc := ⟨.hbm, 301, rfl⟩
abbrev main_while1b_c_42 : Ref sig .tc := ⟨.hbm, 302, rfl⟩
abbrev main_while1b_v270 : Ref sig .tc := ⟨.hbm, 303, rfl⟩
abbrev main_while1b_c_43 : Ref sig .tc := ⟨.hbm, 304, rfl⟩
abbrev main_while1b_v271 : Ref sig .tc := ⟨.hbm, 305, rfl⟩
abbrev main_while1b_call7_c : Ref sig .tc := ⟨.hbm, 306, rfl⟩
abbrev main_while1b_call7_c_0 : Ref sig .tc := ⟨.hbm, 307, rfl⟩
abbrev main_while1b_call7_c_1 : Ref sig .tc := ⟨.hbm, 308, rfl⟩
abbrev main_while1b_call7_c_2 : Ref sig .tc := ⟨.hbm, 309, rfl⟩
abbrev main_while1b_call7_v0 : Ref sig .tc := ⟨.hbm, 310, rfl⟩
abbrev main_while1b_v272 : Ref sig .tc := ⟨.hbm, 311, rfl⟩
abbrev main_while1b_v273 : Ref sig .tc := ⟨.hbm, 312, rfl⟩
abbrev main_while1b_v274 : Ref sig .tc := ⟨.hbm, 313, rfl⟩
abbrev main_while1b_v275 : Ref sig .tc := ⟨.hbm, 314, rfl⟩
abbrev main_while1b_call8_v0 : Ref sig .tc := ⟨.hbm, 315, rfl⟩
abbrev main_while1b_call8_c : Ref sig .tc := ⟨.hbm, 316, rfl⟩
abbrev main_while1b_call8_c_0 : Ref sig .tc := ⟨.hbm, 317, rfl⟩
abbrev main_while1b_call8_c_1 : Ref sig .tc := ⟨.hbm, 318, rfl⟩
abbrev main_while1b_call8_c_2 : Ref sig .tc := ⟨.hbm, 319, rfl⟩
abbrev main_while1b_v276 : Ref sig .tc := ⟨.hbm, 320, rfl⟩
abbrev main_while1b_c_44 : Ref sig .tc := ⟨.hbm, 321, rfl⟩
abbrev main_while1b_v277 : Ref sig .tc := ⟨.hbm, 322, rfl⟩
abbrev main_v191 : Ref sig .tc := ⟨.hbm, 323, rfl⟩
abbrev main_v192 : Ref sig .tc := ⟨.hbm, 324, rfl⟩
abbrev main_v193 : Ref sig .tc := ⟨.hbm, 325, rfl⟩
abbrev main_v194 : Ref sig .tc := ⟨.hbm, 326, rfl⟩
abbrev main_v195 : Ref sig .tc := ⟨.hbm, 327, rfl⟩
abbrev main_v196 : Ref sig .tc := ⟨.hbm, 328, rfl⟩
abbrev main_v197 : Ref sig .tc := ⟨.hbm, 329, rfl⟩
abbrev main_v198 : Ref sig .tc := ⟨.hbm, 330, rfl⟩
abbrev main_v199 : Ref sig .tc := ⟨.hbm, 331, rfl⟩
abbrev main_v200 : Ref sig .tc := ⟨.hbm, 332, rfl⟩
abbrev main_v201 : Ref sig .tc := ⟨.hbm, 333, rfl⟩
abbrev main_v202 : Ref sig .tc := ⟨.hbm, 334, rfl⟩
abbrev main_v203 : Ref sig .tc := ⟨.hbm, 335, rfl⟩
abbrev main_v204 : Ref sig .tc := ⟨.hbm, 336, rfl⟩
abbrev main_v205 : Ref sig .tc := ⟨.hbm, 337, rfl⟩
abbrev main_v206 : Ref sig .tc := ⟨.hbm, 338, rfl⟩
abbrev main_v207 : Ref sig .tc := ⟨.hbm, 339, rfl⟩
abbrev main_v208 : Ref sig .tc := ⟨.hbm, 340, rfl⟩
abbrev main_v209 : Ref sig .tc := ⟨.hbm, 341, rfl⟩
abbrev main_v210 : Ref sig .tc := ⟨.hbm, 342, rfl⟩
abbrev main_v211 : Ref sig .tc := ⟨.hbm, 343, rfl⟩
abbrev main_v212 : Ref sig .tc := ⟨.hbm, 344, rfl⟩
abbrev main_v213 : Ref sig .tc := ⟨.hbm, 345, rfl⟩
abbrev main_v214 : Ref sig .tc := ⟨.hbm, 346, rfl⟩
abbrev main_v215 : Ref sig .tc := ⟨.hbm, 347, rfl⟩
abbrev main_v216 : Ref sig .tc := ⟨.hbm, 348, rfl⟩
abbrev main_v217 : Ref sig .tc := ⟨.hbm, 349, rfl⟩
abbrev main_v218 : Ref sig .tc := ⟨.hbm, 350, rfl⟩
abbrev main_v219 : Ref sig .tc := ⟨.hbm, 351, rfl⟩
abbrev main_cst_31 : Ref sig .tc := ⟨.hbm, 352, rfl⟩
abbrev main_v220 : Ref sig .tc := ⟨.hbm, 353, rfl⟩
abbrev main_v221 : Ref sig .tc := ⟨.hbm, 354, rfl⟩
abbrev main_v222 : Ref sig .tc := ⟨.hbm, 355, rfl⟩
abbrev main_v223 : Ref sig .tc := ⟨.hbm, 356, rfl⟩
abbrev main_v224 : Ref sig .tc := ⟨.hbm, 357, rfl⟩
abbrev main_v225 : Ref sig .tc := ⟨.hbm, 358, rfl⟩
abbrev main_v226 : Ref sig .tc := ⟨.hbm, 359, rfl⟩
abbrev main_v227 : Ref sig .tc := ⟨.hbm, 360, rfl⟩
abbrev main_v228 : Ref sig .tc := ⟨.hbm, 361, rfl⟩
abbrev main_v229 : Ref sig .tc := ⟨.hbm, 362, rfl⟩
abbrev main_v230 : Ref sig .tc := ⟨.hbm, 363, rfl⟩
abbrev main_v231 : Ref sig .tc := ⟨.hbm, 364, rfl⟩
abbrev main_v232 : Ref sig .tc := ⟨.hbm, 365, rfl⟩
abbrev main_v233 : Ref sig .tc := ⟨.hbm, 366, rfl⟩
abbrev main_v234 : Ref sig .tc := ⟨.hbm, 367, rfl⟩
abbrev main_cst_32 : Ref sig .tc := ⟨.hbm, 368, rfl⟩
abbrev main_v235 : Ref sig .tc := ⟨.hbm, 369, rfl⟩
abbrev main_cst_33 : Ref sig .tc := ⟨.hbm, 370, rfl⟩
abbrev main_v236 : Ref sig .tc := ⟨.hbm, 371, rfl⟩
abbrev main_v237 : Ref sig .tc := ⟨.hbm, 372, rfl⟩
abbrev main_v238 : Ref sig .tc := ⟨.hbm, 373, rfl⟩
abbrev main_v239 : Ref sig .tc := ⟨.hbm, 374, rfl⟩
abbrev main_v240 : Ref sig .tc := ⟨.hbm, 375, rfl⟩
abbrev main_v241 : Ref sig .tc := ⟨.hbm, 376, rfl⟩
abbrev main_v242 : Ref sig .tc := ⟨.hbm, 377, rfl⟩
abbrev main_v243 : Ref sig .tc := ⟨.hbm, 378, rfl⟩
abbrev main_v244 : Ref sig .tc := ⟨.hbm, 379, rfl⟩
abbrev main_v245 : Ref sig .tc := ⟨.hbm, 380, rfl⟩
abbrev main_v246 : Ref sig .tc := ⟨.hbm, 381, rfl⟩
abbrev main_v247 : Ref sig .tc := ⟨.hbm, 382, rfl⟩
abbrev main_v248 : Ref sig .tc := ⟨.hbm, 383, rfl⟩
abbrev main_v249 : Ref sig .tc := ⟨.hbm, 384, rfl⟩
abbrev main_v250 : Ref sig .tc := ⟨.hbm, 385, rfl⟩
abbrev main_cst_34 : Ref sig .tc := ⟨.hbm, 386, rfl⟩
abbrev main_v251 : Ref sig .tc := ⟨.hbm, 387, rfl⟩
abbrev main_cst_35 : Ref sig .tc := ⟨.hbm, 388, rfl⟩
abbrev main_v252 : Ref sig .tc := ⟨.hbm, 389, rfl⟩
abbrev main_v253 : Ref sig .tc := ⟨.hbm, 390, rfl⟩
abbrev main_v254 : Ref sig .tc := ⟨.hbm, 391, rfl⟩
abbrev main_v255 : Ref sig .tc := ⟨.hbm, 392, rfl⟩
abbrev main_v256 : Ref sig .tc := ⟨.hbm, 393, rfl⟩
abbrev main_v257 : Ref sig .tc := ⟨.hbm, 394, rfl⟩
abbrev main_v258 : Ref sig .tc := ⟨.hbm, 395, rfl⟩
abbrev main_v259 : Ref sig .tc := ⟨.hbm, 396, rfl⟩
abbrev main_v260 : Ref sig .tc := ⟨.hbm, 397, rfl⟩
abbrev main_v261 : Ref sig .tc := ⟨.hbm, 398, rfl⟩
abbrev main_v262 : Ref sig .tc := ⟨.hbm, 399, rfl⟩
abbrev main_v263 : Ref sig .tc := ⟨.hbm, 400, rfl⟩
abbrev main_c_36 : Ref sig .tc := ⟨.hbm, 401, rfl⟩
abbrev main_call9_v0 : Ref sig .tc := ⟨.hbm, 402, rfl⟩
abbrev main_v264 : Ref sig .tc := ⟨.hbm, 403, rfl⟩
abbrev main_v265 : Ref sig .tc := ⟨.hbm, 404, rfl⟩
abbrev main_c_37 : Ref sig .tc := ⟨.hbm, 405, rfl⟩
abbrev main_call10_v0 : Ref sig .tc := ⟨.hbm, 406, rfl⟩
abbrev main_v266 : Ref sig .tc := ⟨.hbm, 407, rfl⟩
abbrev main_v267 : Ref sig .tc := ⟨.hbm, 408, rfl⟩
abbrev main_v268 : Ref sig .tc := ⟨.hbm, 409, rfl⟩
abbrev main_v269 : Ref sig .tc := ⟨.hbm, 410, rfl⟩

abbrev nD : Nat := 1
abbrev τ : Topo := Topo.v7x

variable {F : FTy → Type} [FloatOps F]

abbrev main_while0_count : Scf.Loop 32 := ⟨0#32, 65#32, 1#32⟩

abbrev main_while1_count : Scf.Loop 32 := ⟨0#32, 65#32, 1#32⟩
-- ==== NormBwd.lean ====
abbrev S8320x13824 : Shape := ⟨2, ![8320, 13824]⟩
abbrev S1024x13824 : Shape := ⟨2, ![1024, 13824]⟩
abbrev S8320x1024 : Shape := ⟨2, ![8320, 1024]⟩
abbrev S1x1024 : Shape := ⟨2, ![1, 1024]⟩
abbrev S8x128 : Shape := ⟨2, ![8, 128]⟩
abbrev S640x4608 : Shape := ⟨2, ![640, 4608]⟩
abbrev S1024x4608 : Shape := ⟨2, ![1024, 4608]⟩
abbrev S640x1024 : Shape := ⟨2, ![640, 1024]⟩
abbrev S640 : Shape := ⟨1, ![640]⟩
abbrev S640x1 : Shape := ⟨2, ![640, 1]⟩
abbrev S1024 : Shape := ⟨1, ![1024]⟩

abbrev nBuf : Space → Nat
  | .hbm => 8
  | .vmem => 13
  | .smem => 0
  | _ => 0

abbrev bufTy : (tb : Table) → Fin (tcTables nBuf tb) → BufTy
  | .hbm, ⟨0, _⟩ => ⟨S8320x13824, .bf16⟩
  | .hbm, ⟨1, _⟩ => ⟨S1024x13824, .bf16⟩
  | .hbm, ⟨2, _⟩ => ⟨S8320x1024, .f32⟩
  | .hbm, ⟨3, _⟩ => ⟨S1x1024, .f32⟩
  | .hbm, ⟨4, _⟩ => ⟨S8320x1024, .f32⟩
  | .hbm, ⟨5, _⟩ => ⟨S8x128, .f32⟩
  | .hbm, ⟨6, _⟩ => ⟨S8320x1024, .f32⟩
  | .hbm, ⟨7, _⟩ => ⟨S1x1024, .f32⟩
  | .local _ .vmem, ⟨0, _⟩ => ⟨S640x4608, .bf16⟩
  | .local _ .vmem, ⟨1, _⟩ => ⟨S640x4608, .bf16⟩
  | .local _ .vmem, ⟨2, _⟩ => ⟨S1024x4608, .bf16⟩
  | .local _ .vmem, ⟨3, _⟩ => ⟨S1024x4608, .bf16⟩
  | .local _ .vmem, ⟨4, _⟩ => ⟨S640x1024, .f32⟩
  | .local _ .vmem, ⟨5, _⟩ => ⟨S640x1024, .f32⟩
  | .local _ .vmem, ⟨6, _⟩ => ⟨S1x1024, .f32⟩
  | .local _ .vmem, ⟨7, _⟩ => ⟨S640x1024, .f32⟩
  | .local _ .vmem, ⟨8, _⟩ => ⟨S640x1024, .f32⟩
  | .local _ .vmem, ⟨9, _⟩ => ⟨S640x1024, .f32⟩
  | .local _ .vmem, ⟨10, _⟩ => ⟨S640x1024, .f32⟩
  | .local _ .vmem, ⟨11, _⟩ => ⟨S1x1024, .f32⟩
  | .local _ .vmem, ⟨12, _⟩ => ⟨S640x1024, .f32⟩
  | _, _ => ⟨S8320x13824, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![13, 3], ![false, false]⟩

def k0_cond4 (i : grid0.Coords) : BitVec 1 :=
  let arg1 : BitVec 32 := BitVec.ofNat 32 (i 1).val
  let c2_i32 : BitVec 32 := 2#32
  let v5 : BitVec 1 := Scalar.cmpi .eq arg1 c2_i32
  let v6 : BitVec 32 := Scalar.extui v5
  let c0_i32_1 : BitVec 32 := 0#32
  let v7 : BitVec 1 := Scalar.cmpi .ne v6 c0_i32_1
  v7

def k0_cond5 (i : grid0.Coords) : BitVec 1 :=
  let arg0 : BitVec 32 := BitVec.ofNat 32 (i 0).val
  let c0_i32_15 : BitVec 32 := 0#32
  let v36 : BitVec 1 := Scalar.cmpi .eq arg0 c0_i32_15
  let v37 : BitVec 32 := Scalar.extui v36
  let c0_i32_16 : BitVec 32 := 0#32
  let v38 : BitVec 1 := Scalar.cmpi .ne v37 c0_i32_16
  v38

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c2_i32 : BitVec 32 := 2#32
  let v1 : BitVec 32 := Scalar.maxsi c0_i32_0 v0
  let v2 : BitVec 32 := Scalar.minsi c2_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S640x4608 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x4608 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S640x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S640x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== NormBwdRefIdeal.lean ====
abbrev S8320x13824 : Shape := ⟨2, ![8320, 13824]⟩
abbrev S1024x13824 : Shape := ⟨2, ![1024, 13824]⟩
abbrev S8320x1024 : Shape := ⟨2, ![8320, 1024]⟩
abbrev S1x1024 : Shape := ⟨2, ![1, 1024]⟩
abbrev S8x128 : Shape := ⟨2, ![8, 128]⟩
abbrev S_ : Shape := ⟨0, ![]⟩
abbrev S8320 : Shape := ⟨1, ![8320]⟩
abbrev S8320x1 : Shape := ⟨2, ![8320, 1]⟩
abbrev S1024 : Shape := ⟨1, ![1024]⟩

abbrev nBuf : Space → Nat
  | .hbm => 53
  | .vmem => 0
  | .smem => 0
  | _ => 0

abbrev bufTy : (tb : Table) → Fin (tcTables nBuf tb) → BufTy
  | .hbm, ⟨0, _⟩ => ⟨S8320x13824, .bf16⟩
  | .hbm, ⟨1, _⟩ => ⟨S1024x13824, .bf16⟩
  | .hbm, ⟨2, _⟩ => ⟨S8320x1024, .f32⟩
  | .hbm, ⟨3, _⟩ => ⟨S1x1024, .f32⟩
  | .hbm, ⟨4, _⟩ => ⟨S8320x1024, .f32⟩
  | .hbm, ⟨5, _⟩ => ⟨S8x128, .f32⟩
  | .hbm, ⟨6, _⟩ => ⟨S8320x1024, .f32⟩
  | .hbm, ⟨7, _⟩ => ⟨S_, .f32⟩
  | .hbm, ⟨8, _⟩ => ⟨S8320, .f32⟩
  | .hbm, ⟨9, _⟩ => ⟨S8320x1, .f32⟩
  | .hbm, ⟨10, _⟩ => ⟨S_, .f32⟩
  | .hbm, ⟨11, _⟩ => ⟨S8320x1, .f32⟩
  | .hbm, ⟨12, _⟩ => ⟨S8320x1, .f32⟩
  | .hbm, ⟨13, _⟩ => ⟨S_, .f32⟩
  | .hbm, ⟨14, _⟩ => ⟨S8320x1, .f32⟩
  | .hbm, ⟨15, _⟩ => ⟨S8320x1, .f32⟩
  | .hbm, ⟨16, _⟩ => ⟨S8320x1, .f32⟩
  | .hbm, ⟨17, _⟩ => ⟨S8320x1, .f32⟩
  | .hbm, ⟨18, _⟩ => ⟨S_, .f32⟩
  | .hbm, ⟨19, _⟩ => ⟨S8320x1, .f32⟩
  | .hbm, ⟨20, _⟩ => ⟨S8320x1, .f32⟩
  | .hbm, ⟨21, _⟩ => ⟨S8320x1024, .f32⟩
  | .hbm, ⟨22, _⟩ => ⟨S8320x1024, .f32⟩
  | .hbm, ⟨23, _⟩ => ⟨S8320x1024, .f32⟩
  | .hbm, ⟨24, _⟩ => ⟨S8320x1024, .f32⟩
  | .hbm, ⟨25, _⟩ => ⟨S1024x13824, .f32⟩
  | .hbm, ⟨26, _⟩ => ⟨S8320x13824, .f32⟩
  | .hbm, ⟨27, _⟩ => ⟨S8320x13824, .f32⟩
  | .hbm, ⟨28, _⟩ => ⟨S8320x1024, .f32⟩
  | .hbm, ⟨29, _⟩ => ⟨S8320x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S8320x1024, .f32⟩
  | .hbm, ⟨34, _⟩ => ⟨S8320x1024, .f32⟩
  | .hbm, ⟨35, _⟩ => ⟨S8320x1024, .f32⟩
  | .hbm, ⟨36, _⟩ => ⟨S_, .f32⟩
  | .hbm, ⟨37, _⟩ => ⟨S8320, .f32⟩
  | .hbm, ⟨38, _⟩ => ⟨S8320x1, .f32⟩
  | .hbm, ⟨39, _⟩ => ⟨S8320x1024, .f32⟩
  | .hbm, ⟨40, _⟩ => ⟨S8320x1024, .f32⟩
  | .hbm, ⟨41, _⟩ => ⟨S8320x1024, .f32⟩
  | .hbm, ⟨42, _⟩ => ⟨S8320x1, .f32⟩
  | .hbm, ⟨43, _⟩ => ⟨S_, .f32⟩
  | .hbm, ⟨44, _⟩ => ⟨S8320x1, .f32⟩
  | .hbm, ⟨45, _⟩ => ⟨S8320x1, .f32⟩
  | .hbm, ⟨46, _⟩ => ⟨S_, .f32⟩
  | .hbm, ⟨47, _⟩ => ⟨S8320, .f32⟩
  | .hbm, ⟨48, _⟩ => ⟨S8320x1024, .f32⟩
  | .hbm, ⟨49, _⟩ => ⟨S8320x1024, .f32⟩
  | .hbm, ⟨50, _⟩ => ⟨S8320x1024, .f32⟩
  | .hbm, ⟨51, _⟩ => ⟨S8320x1024, .f32⟩
  | .hbm, ⟨52, _⟩ => ⟨S8320x1024, .f32⟩
  | _, _ => ⟨S8320x13824, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩

abbrev nD : Nat := 1
abbrev τ : Topo := Topo.v7x

variable {F : FTy → Type} [FloatOps F]
-- ==== WeightGrad.lean ====
abbrev S8320x1024 : Shape := ⟨2, ![8320, 1024]⟩
abbrev S8320x13824 : Shape := ⟨2, ![8320, 13824]⟩
abbrev S1024x13824 : Shape := ⟨2, ![1024, 13824]⟩
abbrev S4160x1024 : Shape := ⟨2, ![4160, 1024]⟩
abbrev S4160x768 : Shape := ⟨2, ![4160, 768]⟩
abbrev S1024x768 : Shape := ⟨2, ![1024, 768]⟩

abbrev nBuf : Space → Nat
  | .hbm => 3
  | .vmem => 7
  | .smem => 0
  | _ => 0

abbrev bufTy : (tb : Table) → Fin (tcTables nBuf tb) → BufTy
  | .hbm, ⟨0, _⟩ => ⟨S8320x1024, .bf16⟩
  | .hbm, ⟨1, _⟩ => ⟨S8320x13824, .bf16⟩
  | .hbm, ⟨2, _⟩ => ⟨S1024x13824, .f32⟩
  | .local _ .vmem, ⟨0, _⟩ => ⟨S4160x1024, .bf16⟩
  | .local _ .vmem, ⟨1, _⟩ => ⟨S4160x1024, .bf16⟩
  | .local _ .vmem, ⟨2, _⟩ => ⟨S4160x768, .bf16⟩
  | .local _ .vmem, ⟨3, _⟩ => ⟨S4160x768, .bf16⟩
  | .local _ .vmem, ⟨4, _⟩ => ⟨S1024x768, .f32⟩
  | .local _ .vmem, ⟨5, _⟩ => ⟨S1024x768, .f32⟩
  | .local _ .vmem, ⟨6, _⟩ => ⟨S1024x768, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![18, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S4160x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S4160x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WeightGradRefIdeal.lean ====
abbrev S8320x1024 : Shape := ⟨2, ![8320, 1024]⟩
abbrev S8320x13824 : Shape := ⟨2, ![8320, 13824]⟩
abbrev S_ : Shape := ⟨0, ![]⟩
abbrev S1024x13824 : Shape := ⟨2, ![1024, 13824]⟩
abbrev S13824x1024 : Shape := ⟨2, ![13824, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S8320x13824, .bf16⟩
  | .hbm, ⟨2, _⟩ => ⟨S_, .f32⟩
  | .hbm, ⟨3, _⟩ => ⟨S1024x13824, .f32⟩
  | .hbm, ⟨4, _⟩ => ⟨S8320x1024, .f32⟩
  | .hbm, ⟨5, _⟩ => ⟨S8320x13824, .f32⟩
  | .hbm, ⟨6, _⟩ => ⟨S8320x13824, .f32⟩
  | .hbm, ⟨7, _⟩ => ⟨S13824x1024, .f32⟩
  | .hbm, ⟨8, _⟩ => ⟨S1024x13824, .f32⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== ProjQkvg.lean ====
abbrev S8320x1024 : Shape := ⟨2, ![8320, 1024]⟩
abbrev S1024x13824 : Shape := ⟨2, ![1024, 13824]⟩
abbrev S8320x6144 : Shape := ⟨2, ![8320, 6144]⟩
abbrev S640x1024 : Shape := ⟨2, ![640, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8320x1024, .bf16⟩
  | .hbm, ⟨1, _⟩ => ⟨S1024x13824, .bf16⟩
  | .hbm, ⟨2, _⟩ => ⟨S8320x6144, .bf16⟩
  | .local _ .vmem, ⟨0, _⟩ => ⟨S640x1024, .bf16⟩
  | .local _ .vmem, ⟨1, _⟩ => ⟨S640x1024, .bf16⟩
  | .local _ .vmem, ⟨2, _⟩ => ⟨S1024x1024, .bf16⟩
  | .local _ .vmem, ⟨3, _⟩ => ⟨S1024x1024, .bf16⟩
  | .local _ .vmem, ⟨4, _⟩ => ⟨S640x1024, .bf16⟩
  | .local _ .vmem, ⟨5, _⟩ => ⟨S640x1024, .bf16⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 13, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S640x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S640x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjQkvgRefIdeal.lean ====
abbrev S8320x1024 : Shape := ⟨2, ![8320, 1024]⟩
abbrev S1024x13824 : Shape := ⟨2, ![1024, 13824]⟩
abbrev S8320x13824 : Shape := ⟨2, ![8320, 13824]⟩
abbrev S8320x6144 : Shape := ⟨2, ![8320, 6144]⟩

abbrev nBuf : Space → Nat
  | .hbm => 7
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S1024x13824, .bf16⟩
  | .hbm, ⟨2, _⟩ => ⟨S8320x1024, .f32⟩
  | .hbm, ⟨3, _⟩ => ⟨S1024x13824, .f32⟩
  | .hbm, ⟨4, _⟩ => ⟨S8320x13824, .f32⟩
  | .hbm, ⟨5, _⟩ => ⟨S8320x6144, .f32⟩
  | .hbm, ⟨6, _⟩ => ⟨S8320x6144, .bf16⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== UpBwd.lean ====
abbrev S8320x2816 : Shape := ⟨2, ![8320, 2816]⟩
abbrev S1024x5632 : Shape := ⟨2, ![1024, 5632]⟩
abbrev S8320x1024 : Shape := ⟨2, ![8320, 1024]⟩
abbrev S1x1024 : Shape := ⟨2, ![1, 1024]⟩
abbrev S8x128 : Shape := ⟨2, ![8, 128]⟩
abbrev S640x2816 : Shape := ⟨2, ![640, 2816]⟩
abbrev S1024x2816 : Shape := ⟨2, ![1024, 2816]⟩
abbrev S640x1024 : Shape := ⟨2, ![640, 1024]⟩
abbrev S640 : Shape := ⟨1, ![640]⟩
abbrev S640x1 : Shape := ⟨2, ![640, 1]⟩
abbrev S1024 : Shape := ⟨1, ![1024]⟩

abbrev nBuf : Space → Nat
  | .hbm => 10
  | .vmem => 17
  | .smem => 0
  | _ => 0

abbrev bufTy : (tb : Table) → Fin (tcTables nBuf tb) → BufTy
  | .hbm, ⟨0, _⟩ => ⟨S8320x2816, .bf16⟩
  | .hbm, ⟨1, _⟩ => ⟨S8320x2816, .bf16⟩
  | .hbm, ⟨2, _⟩ => ⟨S1024x5632, .bf16⟩
  | .hbm, ⟨3, _⟩ => ⟨S8320x1024, .f32⟩
  | .hbm, ⟨4, _⟩ => ⟨S1x1024, .f32⟩
  | .hbm, ⟨5, _⟩ => ⟨S8320x1024, .f32⟩
  | .hbm, ⟨6, _⟩ => ⟨S8x128, .f32⟩
  | .hbm, ⟨7, _⟩ => ⟨S8320x1024, .f32⟩
  | .hbm, ⟨8, _⟩ => ⟨S1x1024, .f32⟩
  | .hbm, ⟨9, _⟩ => ⟨S8320x1024, .bf16⟩
  | .local _ .vmem, ⟨0, _⟩ => ⟨S640x2816, .bf16⟩
  | .local _ .vmem, ⟨1, _⟩ => ⟨S640x2816, .bf16⟩
  | .local _ .vmem, ⟨2, _⟩ => ⟨S640x2816, .bf16⟩
  | .local _ .vmem, ⟨3, _⟩ => ⟨S640x2816, .bf16⟩
  | .local _ .vmem, ⟨4, _⟩ => ⟨S1024x2816, .bf16⟩
  | .local _ .vmem, ⟨5, _⟩ => ⟨S1024x2816, .bf16⟩
  | .local _ .vmem, ⟨6, _⟩ => ⟨S640x1024, .f32⟩
  | .local _ .vmem, ⟨7, _⟩ => ⟨S640x1024, .f32⟩
  | .local _ .vmem, ⟨8, _⟩ => ⟨S1x1024, .f32⟩
  | .local _ .vmem, ⟨9, _⟩ => ⟨S640x1024, .f32⟩
  | .local _ .vmem, ⟨10, _⟩ => ⟨S640x1024, .f32⟩
  | .local _ .vmem, ⟨11, _⟩ => ⟨S640x1024, .f32⟩
  | .local _ .vmem, ⟨12, _⟩ => ⟨S640x1024, .f32⟩
  | .local _ .vmem, ⟨13, _⟩ => ⟨S1x1024, .f32⟩
  | .local _ .vmem, ⟨14, _⟩ => ⟨S640x1024, .bf16⟩
  | .local _ .vmem, ⟨15, _⟩ => ⟨S640x1024, .bf16⟩
  | .local _ .vmem, ⟨16, _⟩ => ⟨S640x1024, .f32⟩
  | _, _ => ⟨S8320x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![13, 2], ![false, false]⟩

def k0_cond5 (i : grid0.Coords) : BitVec 1 :=
  let arg1 : BitVec 32 := BitVec.ofNat 32 (i 1).val
  let c1_i32_3 : BitVec 32 := 1#32
  let v10 : BitVec 1 := Scalar.cmpi .eq arg1 c1_i32_3
  let v11 : BitVec 32 := Scalar.extui v10
  let c0_i32_4 : BitVec 32 := 0#32
  let v12 : BitVec 1 := Scalar.cmpi .ne v11 c0_i32_4
  v12

def k0_cond6 (i : grid0.Coords) : BitVec 1 :=
  let arg0 : BitVec 32 := BitVec.ofNat 32 (i 0).val
  let c0_i32_20 : BitVec 32 := 0#32
  let v43 : BitVec 1 := Scalar.cmpi .eq arg0 c0_i32_20
  let v44 : BitVec 32 := Scalar.extui v43
  let c0_i32_21 : BitVec 32 := 0#32
  let v45 : BitVec 1 := Scalar.cmpi .ne v44 c0_i32_21
  v45

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S640x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S640x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S640x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S640x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S640x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S640x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== UpBwdRefIdeal.lean ====
abbrev S8320x2816 : Shape := ⟨2, ![8320, 2816]⟩
abbrev S1024x5632 : Shape := ⟨2, ![1024, 5632]⟩
abbrev S8320x1024 : Shape := ⟨2, ![8320, 1024]⟩
abbrev S1x1024 : Shape := ⟨2, ![1, 1024]⟩
abbrev S8x128 : Shape := ⟨2, ![8, 128]⟩
abbrev S8320x5632 : Shape := ⟨2, ![8320, 5632]⟩
abbrev S_ : Shape := ⟨0, ![]⟩
abbrev S8320 : Shape := ⟨1, ![8320]⟩
abbrev S8320x1 : Shape := ⟨2, ![8320, 1]⟩
abbrev S1024 : Shape := ⟨1, ![1024]⟩

abbrev nBuf : Space → Nat
  | .hbm => 56
  | .vmem => 0
  | .smem => 0
  | _ => 0

abbrev bufTy : (tb : Table) → Fin (tcTables nBuf tb) → BufTy
  | .hbm, ⟨0, _⟩ => ⟨S8320x2816, .bf16⟩
  | .hbm, ⟨1, _⟩ => ⟨S8320x2816, .bf16⟩
  | .hbm, ⟨2, _⟩ => ⟨S1024x5632, .bf16⟩
  | .hbm, ⟨3, _⟩ => ⟨S8320x1024, .f32⟩
  | .hbm, ⟨4, _⟩ => ⟨S1x1024, .f32⟩
  | .hbm, ⟨5, _⟩ => ⟨S8320x1024, .f32⟩
  | .hbm, ⟨6, _⟩ => ⟨S8x128, .f32⟩
  | .hbm, ⟨7, _⟩ => ⟨S8320x5632, .bf16⟩
  | .hbm, ⟨8, _⟩ => ⟨S8320x5632, .f32⟩
  | .hbm, ⟨9, _⟩ => ⟨S8320x1024, .f32⟩
  | .hbm, ⟨10, _⟩ => ⟨S_, .f32⟩
  | .hbm, ⟨11, _⟩ => ⟨S8320, .f32⟩
  | .hbm, ⟨12, _⟩ => ⟨S8320x1, .f32⟩
  | .hbm, ⟨13, _⟩ => ⟨S_, .f32⟩
  | .hbm, ⟨14, _⟩ => ⟨S8320x1, .f32⟩
  | .hbm, ⟨15, _⟩ => ⟨S8320x1, .f32⟩
  | .hbm, ⟨16, _⟩ => ⟨S_, .f32⟩
  | .hbm, ⟨17, _⟩ => ⟨S8320x1, .f32⟩
  | .hbm, ⟨18, _⟩ => ⟨S8320x1, .f32⟩
  | .hbm, ⟨19, _⟩ => ⟨S8320x1, .f32⟩
  | .hbm, ⟨20, _⟩ => ⟨S8320x1, .f32⟩
  | .hbm, ⟨21, _⟩ => ⟨S_, .f32⟩
  | .hbm, ⟨22, _⟩ => ⟨S8320x1, .f32⟩
  | .hbm, ⟨23, _⟩ => ⟨S8320x1, .f32⟩
  | .hbm, ⟨24, _⟩ => ⟨S8320x1024, .f32⟩
  | .hbm, ⟨25, _⟩ => ⟨S8320x1024, .f32⟩
  | .hbm, ⟨26, _⟩ => ⟨S8320x1024, .f32⟩
  | .hbm, ⟨27, _⟩ => ⟨S8320x1024, .f32⟩
  | .hbm, ⟨28, _⟩ => ⟨S1024x5632, .f32⟩
  | .hbm, ⟨29, _⟩ => ⟨S8320x5632, .f32⟩
  | .hbm, ⟨30, _⟩ => ⟨S8320x1024, .f32⟩
  | .hbm, ⟨31, _⟩ => ⟨S8320x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S8320x1024, .f32⟩
  | .hbm, ⟨36, _⟩ => ⟨S8320x1024, .f32⟩
  | .hbm, ⟨37, _⟩ => ⟨S8320x1024, .f32⟩
  | .hbm, ⟨38, _⟩ => ⟨S_, .f32⟩
  | .hbm, ⟨39, _⟩ => ⟨S8320, .f32⟩
  | .hbm, ⟨40, _⟩ => ⟨S8320x1, .f32⟩
  | .hbm, ⟨41, _⟩ => ⟨S8320x1024, .f32⟩
  | .hbm, ⟨42, _⟩ => ⟨S8320x1024, .f32⟩
  | .hbm, ⟨43, _⟩ => ⟨S8320x1024, .f32⟩
  | .hbm, ⟨44, _⟩ => ⟨S8320x1, .f32⟩
  | .hbm, ⟨45, _⟩ => ⟨S_, .f32⟩
  | .hbm, ⟨46, _⟩ => ⟨S8320x1, .f32⟩
  | .hbm, ⟨47, _⟩ => ⟨S8320x1, .f32⟩
  | .hbm, ⟨48, _⟩ => ⟨S_, .f32⟩
  | .hbm, ⟨49, _⟩ => ⟨S8320, .f32⟩
  | .hbm, ⟨50, _⟩ => ⟨S8320x1024, .f32⟩
  | .hbm, ⟨51, _⟩ => ⟨S8320x1024, .f32⟩
  | .hbm, ⟨52, _⟩ => ⟨S8320x1024, .f32⟩
  | .hbm, ⟨53, _⟩ => ⟨S8320x1024, .f32⟩
  | .hbm, ⟨54, _⟩ => ⟨S8320x1024, .f32⟩
  | .hbm, ⟨55, _⟩ => ⟨S8320x1024, .bf16⟩
  | _, _ => ⟨S8320x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩

abbrev nD : Nat := 1
abbrev τ : Topo := Topo.v7x

variable {F : FTy → Type} [FloatOps F]
-- ==== ActGrad.lean ====
abbrev S8320x1024 : Shape := ⟨2, ![8320, 1024]⟩
abbrev S2816x1024 : Shape := ⟨2, ![2816, 1024]⟩
abbrev S8320x2816 : Shape := ⟨2, ![8320, 2816]⟩
abbrev S640x1024 : Shape := ⟨2, ![640, 1024]⟩
abbrev S1408x1024 : Shape := ⟨2, ![1408, 1024]⟩
abbrev S640x1408 : Shape := ⟨2, ![640, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8320x1024, .bf16⟩
  | .hbm, ⟨1, _⟩ => ⟨S2816x1024, .bf16⟩
  | .hbm, ⟨2, _⟩ => ⟨S8320x2816, .bf16⟩
  | .local _ .vmem, ⟨0, _⟩ => ⟨S640x1024, .bf16⟩
  | .local _ .vmem, ⟨1, _⟩ => ⟨S640x1024, .bf16⟩
  | .local _ .vmem, ⟨2, _⟩ => ⟨S1408x1024, .bf16⟩
  | .local _ .vmem, ⟨3, _⟩ => ⟨S1408x1024, .bf16⟩
  | .local _ .vmem, ⟨4, _⟩ => ⟨S640x1408, .bf16⟩
  | .local _ .vmem, ⟨5, _⟩ => ⟨S640x1408, .bf16⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 13, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S640x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S640x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ActGradRefIdeal.lean ====
abbrev S8320x1024 : Shape := ⟨2, ![8320, 1024]⟩
abbrev S2816x1024 : Shape := ⟨2, ![2816, 1024]⟩
abbrev S_ : Shape := ⟨0, ![]⟩
abbrev S8320x2816 : Shape := ⟨2, ![8320, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S2816x1024, .bf16⟩
  | .hbm, ⟨2, _⟩ => ⟨S_, .f32⟩
  | .hbm, ⟨3, _⟩ => ⟨S8320x2816, .f32⟩
  | .hbm, ⟨4, _⟩ => ⟨S2816x1024, .f32⟩
  | .hbm, ⟨5, _⟩ => ⟨S8320x1024, .f32⟩
  | .hbm, ⟨6, _⟩ => ⟨S8320x1024, .f32⟩
  | .hbm, ⟨7, _⟩ => ⟨S8320x2816, .f32⟩
  | .hbm, ⟨8, _⟩ => ⟨S8320x2816, .bf16⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== AdamSmall.lean ====
abbrev S192x128 : Shape := ⟨2, ![192, 128]⟩

abbrev nBuf : Space → Nat
  | .hbm => 7
  | .vmem => 7
  | .smem => 0
  | _ => 0

abbrev bufTy : (tb : Table) → Fin (tcTables nBuf tb) → BufTy
  | .hbm, ⟨0, _⟩ => ⟨S192x128, .f32⟩
  | .hbm, ⟨1, _⟩ => ⟨S192x128, .f32⟩
  | .hbm, ⟨2, _⟩ => ⟨S192x128, .f32⟩
  | .hbm, ⟨3, _⟩ => ⟨S192x128, .f32⟩
  | .hbm, ⟨4, _⟩ => ⟨S192x128, .f32⟩
  | .hbm, ⟨5, _⟩ => ⟨S192x128, .f32⟩
  | .hbm, ⟨6, _⟩ => ⟨S192x128, .f32⟩
  | .local _ .vmem, ⟨0, _⟩ => ⟨S192x128, .f32⟩
  | .local _ .vmem, ⟨1, _⟩ => ⟨S192x128, .f32⟩
  | .local _ .vmem, ⟨2, _⟩ => ⟨S192x128, .f32⟩
  | .local _ .vmem, ⟨3, _⟩ => ⟨S192x128, .f32⟩
  | .local _ .vmem, ⟨4, _⟩ => ⟨S192x128, .f32⟩
  | .local _ .vmem, ⟨5, _⟩ => ⟨S192x128, .f32⟩
  | .local _ .vmem, ⟨6, _⟩ => ⟨S192x128, .f32⟩
  | _, _ => ⟨S192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S192x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S192x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S192x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S192x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S192x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S192x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S192x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== AdamSmallRefIdeal.lean ====
abbrev S192x128 : Shape := ⟨2, ![192, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S192x128, .f32⟩
  | .hbm, ⟨1, _⟩ => ⟨S192x128, .f32⟩
  | .hbm, ⟨2, _⟩ => ⟨S192x128, .f32⟩
  | .hbm, ⟨3, _⟩ => ⟨S192x128, .f32⟩
  | .hbm, ⟨4, _⟩ => ⟨S_, .f32⟩
  | .hbm, ⟨5, _⟩ => ⟨S192x128, .f32⟩
  | .hbm, ⟨6, _⟩ => ⟨S192x128, .f32⟩
  | .hbm, ⟨7, _⟩ => ⟨S_, .f32⟩
  | .hbm, ⟨8, _⟩ => ⟨S192x128, .f32⟩
  | .hbm, ⟨9, _⟩ => ⟨S192x128, .f32⟩
  | .hbm, ⟨10, _⟩ => ⟨S192x128, .f32⟩
  | .hbm, ⟨11, _⟩ => ⟨S_, .f32⟩
  | .hbm, ⟨12, _⟩ => ⟨S192x128, .f32⟩
  | .hbm, ⟨13, _⟩ => ⟨S192x128, .f32⟩
  | .hbm, ⟨14, _⟩ => ⟨S192x128, .f32⟩
  | .hbm, ⟨15, _⟩ => ⟨S_, .f32⟩
  | .hbm, ⟨16, _⟩ => ⟨S192x128, .f32⟩
  | .hbm, ⟨17, _⟩ => ⟨S192x128, .f32⟩
  | .hbm, ⟨18, _⟩ => ⟨S192x128, .f32⟩
  | .hbm, ⟨19, _⟩ => ⟨S_, .f32⟩
  | .hbm, ⟨20, _⟩ => ⟨S192x128, .f32⟩
  | .hbm, ⟨21, _⟩ => ⟨S192x128, .f32⟩
  | .hbm, ⟨22, _⟩ => ⟨S_, .f32⟩
  | .hbm, ⟨23, _⟩ => ⟨S192x128, .f32⟩
  | .hbm, ⟨24, _⟩ => ⟨S192x128, .f32⟩
  | .hbm, ⟨25, _⟩ => ⟨S192x128, .f32⟩
  | .hbm, ⟨26, _⟩ => ⟨S_, .f32⟩
  | .hbm, ⟨27, _⟩ => ⟨S192x128, .f32⟩
  | .hbm, ⟨28, _⟩ => ⟨S192x128, .f32⟩
  | .hbm, ⟨29, _⟩ => ⟨S192x128, .f32⟩
  | .hbm, ⟨30, _⟩ => ⟨S_, .f32⟩
  | .hbm, ⟨31, _⟩ => ⟨S192x128, .f32⟩
  | .hbm, ⟨32, _⟩ => ⟨S192x128, .f32⟩
  | .hbm, ⟨33, _⟩ => ⟨S192x128, .f32⟩
  | .hbm, ⟨34, _⟩ => ⟨S_, .f32⟩
  | .hbm, ⟨35, _⟩ => ⟨S192x128, .f32⟩
  | .hbm, ⟨36, _⟩ => ⟨S192x128, .f32⟩
  | _, _ => ⟨S192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Merge.lean ====
abbrev S8320x2048 : Shape := ⟨2, ![8320, 2048]⟩
abbrev S2048x1024 : Shape := ⟨2, ![2048, 1024]⟩
abbrev S8320x1024 : Shape := ⟨2, ![8320, 1024]⟩
abbrev S640x2048 : Shape := ⟨2, ![640, 2048]⟩
abbrev S640x1024 : Shape := ⟨2, ![640, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8320x2048, .bf16⟩
  | .hbm, ⟨1, _⟩ => ⟨S8320x2048, .bf16⟩
  | .hbm, ⟨2, _⟩ => ⟨S2048x1024, .bf16⟩
  | .hbm, ⟨3, _⟩ => ⟨S2048x1024, .bf16⟩
  | .hbm, ⟨4, _⟩ => ⟨S8320x2048, .bf16⟩
  | .hbm, ⟨5, _⟩ => ⟨S8320x1024, .bf16⟩
  | .hbm, ⟨6, _⟩ => ⟨S8320x1024, .bf16⟩
  | .hbm, ⟨7, _⟩ => ⟨S8320x1024, .bf16⟩
  | .local _ .vmem, ⟨0, _⟩ => ⟨S640x2048, .bf16⟩
  | .local _ .vmem, ⟨1, _⟩ => ⟨S640x2048, .bf16⟩
  | .local _ .vmem, ⟨2, _⟩ => ⟨S640x2048, .bf16⟩
  | .local _ .vmem, ⟨3, _⟩ => ⟨S640x2048, .bf16⟩
  | .local _ .vmem, ⟨4, _⟩ => ⟨S2048x1024, .bf16⟩
  | .local _ .vmem, ⟨5, _⟩ => ⟨S2048x1024, .bf16⟩
  | .local _ .vmem, ⟨6, _⟩ => ⟨S640x1024, .bf16⟩
  | .local _ .vmem, ⟨7, _⟩ => ⟨S640x1024, .bf16⟩
  | .local _ .vmem, ⟨8, _⟩ => ⟨S640x1024, .bf16⟩
  | .local _ .vmem, ⟨9, _⟩ => ⟨S640x1024, .bf16⟩
  | .local _ .vmem, ⟨10, _⟩ => ⟨S640x1024, .bf16⟩
  | .local _ .vmem, ⟨11, _⟩ => ⟨S640x1024, .bf16⟩
  | .local _ .vmem, ⟨12, _⟩ => ⟨S640x1024, .bf16⟩
  | .local _ .vmem, ⟨13, _⟩ => ⟨S640x1024, .bf16⟩
  | .local _ .vmem, ⟨14, _⟩ => ⟨S640x1024, .bf16⟩
  | .local _ .vmem, ⟨15, _⟩ => ⟨S640x1024, .bf16⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S640x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S640x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S640x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S640x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S640x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S640x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MergeRefIdeal.lean ====
abbrev S8320x2048 : Shape := ⟨2, ![8320, 2048]⟩
abbrev S2048x1024 : Shape := ⟨2, ![2048, 1024]⟩
abbrev S8320x1024 : Shape := ⟨2, ![8320, 1024]⟩
abbrev S_ : Shape := ⟨0, ![]⟩

abbrev nBuf : Space → Nat
  | .hbm => 36
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S8320x2048, .bf16⟩
  | .hbm, ⟨2, _⟩ => ⟨S2048x1024, .bf16⟩
  | .hbm, ⟨3, _⟩ => ⟨S2048x1024, .bf16⟩
  | .hbm, ⟨4, _⟩ => ⟨S8320x2048, .bf16⟩
  | .hbm, ⟨5, _⟩ => ⟨S8320x2048, .f32⟩
  | .hbm, ⟨6, _⟩ => ⟨S8320x2048, .f32⟩
  | .hbm, ⟨7, _⟩ => ⟨S2048x1024, .f32⟩
  | .hbm, ⟨8, _⟩ => ⟨S2048x1024, .f32⟩
  | .hbm, ⟨9, _⟩ => ⟨S8320x2048, .f32⟩
  | .hbm, ⟨10, _⟩ => ⟨S8320x1024, .f32⟩
  | .hbm, ⟨11, _⟩ => ⟨S8320x1024, .f32⟩
  | .hbm, ⟨12, _⟩ => ⟨S8320x1024, .f32⟩
  | .hbm, ⟨13, _⟩ => ⟨S8320x1024, .f32⟩
  | .hbm, ⟨14, _⟩ => ⟨S8320x1024, .f32⟩
  | .hbm, ⟨15, _⟩ => ⟨S_, .f32⟩
  | .hbm, ⟨16, _⟩ => ⟨S8320x1024, .f32⟩
  | .hbm, ⟨17, _⟩ => ⟨S8320x1024, .f32⟩
  | .hbm, ⟨18, _⟩ => ⟨S_, .f32⟩
  | .hbm, ⟨19, _⟩ => ⟨S8320x1024, .f32⟩
  | .hbm, ⟨20, _⟩ => ⟨S8320x1024, .f32⟩
  | .hbm, ⟨21, _⟩ => ⟨S8320x1024, .f32⟩
  | .hbm, ⟨22, _⟩ => ⟨S8320x1024, .f32⟩
  | .hbm, ⟨23, _⟩ => ⟨S8320x1024, .f32⟩
  | .hbm, ⟨24, _⟩ => ⟨S8320x1024, .f32⟩
  | .hbm, ⟨25, _⟩ => ⟨S_, .f32⟩
  | .hbm, ⟨26, _⟩ => ⟨S8320x1024, .f32⟩
  | .hbm, ⟨27, _⟩ => ⟨S8320x1024, .f32⟩
  | .hbm, ⟨28, _⟩ => ⟨S_, .f32⟩
  | .hbm, ⟨29, _⟩ => ⟨S8320x1024, .f32⟩
  | .hbm, ⟨30, _⟩ => ⟨S8320x1024, .f32⟩
  | .hbm, ⟨31, _⟩ => ⟨S8320x1024, .f32⟩
  | .hbm, ⟨32, _⟩ => ⟨S8320x1024, .f32⟩
  | .hbm, ⟨33, _⟩ => ⟨S8320x1024, .bf16⟩
  | .hbm, ⟨34, _⟩ => ⟨S8320x1024, .bf16⟩
  | .hbm, ⟨35, _⟩ => ⟨S8320x1024, .bf16⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]
-- ==== BranchGrad.lean ====
abbrev S8320x2048 : Shape := ⟨2, ![8320, 2048]⟩
abbrev S8320x1024 : Shape := ⟨2, ![8320, 1024]⟩
abbrev S2048x1024 : Shape := ⟨2, ![2048, 1024]⟩
abbrev S4160x1024 : Shape := ⟨2, ![4160, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8320x2048, .bf16⟩
  | .hbm, ⟨1, _⟩ => ⟨S8320x1024, .bf16⟩
  | .hbm, ⟨2, _⟩ => ⟨S2048x1024, .bf16⟩
  | .local _ .vmem, ⟨0, _⟩ => ⟨S4160x1024, .bf16⟩
  | .local _ .vmem, ⟨1, _⟩ => ⟨S4160x1024, .bf16⟩
  | .local _ .vmem, ⟨2, _⟩ => ⟨S4160x1024, .bf16⟩
  | .local _ .vmem, ⟨3, _⟩ => ⟨S4160x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S4160x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S4160x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchGradRefIdeal.lean ====
abbrev S8320x2048 : Shape := ⟨2, ![8320, 2048]⟩
abbrev S8320x1024 : Shape := ⟨2, ![8320, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S8320x1024, .bf16⟩
  | .hbm, ⟨2, _⟩ => ⟨S_, .f32⟩
  | .hbm, ⟨3, _⟩ => ⟨S2048x1024, .f32⟩
  | .hbm, ⟨4, _⟩ => ⟨S8320x2048, .f32⟩
  | .hbm, ⟨5, _⟩ => ⟨S8320x1024, .f32⟩
  | .hbm, ⟨6, _⟩ => ⟨S8320x1024, .f32⟩
  | .hbm, ⟨7, _⟩ => ⟨S1024x2048, .f32⟩
  | .hbm, ⟨8, _⟩ => ⟨S2048x1024, .f32⟩
  | .hbm, ⟨9, _⟩ => ⟨S2048x1024, .bf16⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== ProjZ.lean ====
abbrev S8320x1024 : Shape := ⟨2, ![8320, 1024]⟩
abbrev S1024x13824 : Shape := ⟨2, ![1024, 13824]⟩
abbrev S8320x2048 : Shape := ⟨2, ![8320, 2048]⟩
abbrev S640x1024 : Shape := ⟨2, ![640, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8320x1024, .bf16⟩
  | .hbm, ⟨1, _⟩ => ⟨S1024x13824, .bf16⟩
  | .hbm, ⟨2, _⟩ => ⟨S8320x2048, .bf16⟩
  | .local _ .vmem, ⟨0, _⟩ => ⟨S640x1024, .bf16⟩
  | .local _ .vmem, ⟨1, _⟩ => ⟨S640x1024, .bf16⟩
  | .local _ .vmem, ⟨2, _⟩ => ⟨S1024x1024, .bf16⟩
  | .local _ .vmem, ⟨3, _⟩ => ⟨S1024x1024, .bf16⟩
  | .local _ .vmem, ⟨4, _⟩ => ⟨S640x1024, .bf16⟩
  | .local _ .vmem, ⟨5, _⟩ => ⟨S640x1024, .bf16⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 13, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.addi arg0 c6_i32
  let c0_i32 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S640x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S640x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjZRefIdeal.lean ====
abbrev S8320x1024 : Shape := ⟨2, ![8320, 1024]⟩
abbrev S1024x13824 : Shape := ⟨2, ![1024, 13824]⟩
abbrev S8320x13824 : Shape := ⟨2, ![8320, 13824]⟩
abbrev S8320x2048 : Shape := ⟨2, ![8320, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S1024x13824, .bf16⟩
  | .hbm, ⟨2, _⟩ => ⟨S8320x1024, .f32⟩
  | .hbm, ⟨3, _⟩ => ⟨S1024x13824, .f32⟩
  | .hbm, ⟨4, _⟩ => ⟨S8320x13824, .f32⟩
  | .hbm, ⟨5, _⟩ => ⟨S8320x2048, .f32⟩
  | .hbm, ⟨6, _⟩ => ⟨S8320x2048, .bf16⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== ProjGates.lean ====
abbrev S8320x1024 : Shape := ⟨2, ![8320, 1024]⟩
abbrev S1024x13824 : Shape := ⟨2, ![1024, 13824]⟩
abbrev S8320x2048 : Shape := ⟨2, ![8320, 2048]⟩
abbrev S640x1024 : Shape := ⟨2, ![640, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8320x1024, .bf16⟩
  | .hbm, ⟨1, _⟩ => ⟨S1024x13824, .bf16⟩
  | .hbm, ⟨2, _⟩ => ⟨S8320x2048, .bf16⟩
  | .local _ .vmem, ⟨0, _⟩ => ⟨S640x1024, .bf16⟩
  | .local _ .vmem, ⟨1, _⟩ => ⟨S640x1024, .bf16⟩
  | .local _ .vmem, ⟨2, _⟩ => ⟨S1024x1024, .bf16⟩
  | .local _ .vmem, ⟨3, _⟩ => ⟨S1024x1024, .bf16⟩
  | .local _ .vmem, ⟨4, _⟩ => ⟨S640x1024, .bf16⟩
  | .local _ .vmem, ⟨5, _⟩ => ⟨S640x1024, .bf16⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 13, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi arg0 c8_i32
  let c0_i32 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S640x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S640x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjGatesRefIdeal.lean ====
abbrev S8320x1024 : Shape := ⟨2, ![8320, 1024]⟩
abbrev S1024x13824 : Shape := ⟨2, ![1024, 13824]⟩
abbrev S8320x13824 : Shape := ⟨2, ![8320, 13824]⟩
abbrev S8320x2048 : Shape := ⟨2, ![8320, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S1024x13824, .bf16⟩
  | .hbm, ⟨2, _⟩ => ⟨S8320x1024, .f32⟩
  | .hbm, ⟨3, _⟩ => ⟨S1024x13824, .f32⟩
  | .hbm, ⟨4, _⟩ => ⟨S8320x13824, .f32⟩
  | .hbm, ⟨5, _⟩ => ⟨S8320x2048, .f32⟩
  | .hbm, ⟨6, _⟩ => ⟨S8320x2048, .bf16⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== DownGrad.lean ====
abbrev S8320x2816 : Shape := ⟨2, ![8320, 2816]⟩
abbrev S8320x1024 : Shape := ⟨2, ![8320, 1024]⟩
abbrev S2816x1024 : Shape := ⟨2, ![2816, 1024]⟩
abbrev S1664x1408 : Shape := ⟨2, ![1664, 1408]⟩
abbrev S1664x1024 : Shape := ⟨2, ![1664, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8320x2816, .bf16⟩
  | .hbm, ⟨1, _⟩ => ⟨S8320x1024, .bf16⟩
  | .hbm, ⟨2, _⟩ => ⟨S2816x1024, .bf16⟩
  | .local _ .vmem, ⟨0, _⟩ => ⟨S1664x1408, .bf16⟩
  | .local _ .vmem, ⟨1, _⟩ => ⟨S1664x1408, .bf16⟩
  | .local _ .vmem, ⟨2, _⟩ => ⟨S1664x1024, .bf16⟩
  | .local _ .vmem, ⟨3, _⟩ => ⟨S1664x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8320x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 5], ![false, false, false]⟩

def k0_cond3 (i : grid0.Coords) : BitVec 1 :=
  let arg2 : BitVec 32 := BitVec.ofNat 32 (i 2).val
  let c4_i32 : BitVec 32 := 4#32
  let v9 : BitVec 1 := Scalar.cmpi .eq arg2 c4_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1664x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1664x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownGradRefIdeal.lean ====
abbrev S8320x2816 : Shape := ⟨2, ![8320, 2816]⟩
abbrev S8320x1024 : Shape := ⟨2, ![8320, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S8320x2816, .bf16⟩
  | .hbm, ⟨1, _⟩ => ⟨S8320x1024, .bf16⟩
  | .hbm, ⟨2, _⟩ => ⟨S_, .f32⟩
  | .hbm, ⟨3, _⟩ => ⟨S2816x1024, .f32⟩
  | .hbm, ⟨4, _⟩ => ⟨S8320x2816, .f32⟩
  | .hbm, ⟨5, _⟩ => ⟨S8320x1024, .f32⟩
  | .hbm, ⟨6, _⟩ => ⟨S8320x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S8320x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== RetGrad.lean ====
abbrev S8320x1024 : Shape := ⟨2, ![8320, 1024]⟩
abbrev S2048x1024 : Shape := ⟨2, ![2048, 1024]⟩
abbrev S8320x2048 : Shape := ⟨2, ![8320, 2048]⟩
abbrev S640x1024 : Shape := ⟨2, ![640, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8320x1024, .bf16⟩
  | .hbm, ⟨1, _⟩ => ⟨S2048x1024, .bf16⟩
  | .hbm, ⟨2, _⟩ => ⟨S8320x2048, .bf16⟩
  | .local _ .vmem, ⟨0, _⟩ => ⟨S640x1024, .bf16⟩
  | .local _ .vmem, ⟨1, _⟩ => ⟨S640x1024, .bf16⟩
  | .local _ .vmem, ⟨2, _⟩ => ⟨S1024x1024, .bf16⟩
  | .local _ .vmem, ⟨3, _⟩ => ⟨S1024x1024, .bf16⟩
  | .local _ .vmem, ⟨4, _⟩ => ⟨S640x1024, .bf16⟩
  | .local _ .vmem, ⟨5, _⟩ => ⟨S640x1024, .bf16⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 13, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S640x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S640x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RetGradRefIdeal.lean ====
abbrev S8320x1024 : Shape := ⟨2, ![8320, 1024]⟩
abbrev S2048x1024 : Shape := ⟨2, ![2048, 1024]⟩
abbrev S_ : Shape := ⟨0, ![]⟩
abbrev S8320x2048 : Shape := ⟨2, ![8320, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S2048x1024, .bf16⟩
  | .hbm, ⟨2, _⟩ => ⟨S_, .f32⟩
  | .hbm, ⟨3, _⟩ => ⟨S8320x2048, .f32⟩
  | .hbm, ⟨4, _⟩ => ⟨S2048x1024, .f32⟩
  | .hbm, ⟨5, _⟩ => ⟨S8320x1024, .f32⟩
  | .hbm, ⟨6, _⟩ => ⟨S8320x1024, .f32⟩
  | .hbm, ⟨7, _⟩ => ⟨S8320x2048, .f32⟩
  | .hbm, ⟨8, _⟩ => ⟨S8320x2048, .bf16⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OutGrad.lean ====
abbrev S8320x1024 : Shape := ⟨2, ![8320, 1024]⟩
abbrev S1024x1024 : Shape := ⟨2, ![1024, 1024]⟩
abbrev S4160x1024 : Shape := ⟨2, ![4160, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8320x1024, .bf16⟩
  | .hbm, ⟨1, _⟩ => ⟨S8320x1024, .bf16⟩
  | .hbm, ⟨2, _⟩ => ⟨S1024x1024, .bf16⟩
  | .local _ .vmem, ⟨0, _⟩ => ⟨S4160x1024, .bf16⟩
  | .local _ .vmem, ⟨1, _⟩ => ⟨S4160x1024, .bf16⟩
  | .local _ .vmem, ⟨2, _⟩ => ⟨S4160x1024, .bf16⟩
  | .local _ .vmem, ⟨3, _⟩ => ⟨S4160x1024, .bf16⟩
  | .local _ .vmem, ⟨4, _⟩ => ⟨S1024x1024, .bf16⟩
  | .local _ .vmem, ⟨5, _⟩ => ⟨S1024x1024, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S4160x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S4160x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutGradRefIdeal.lean ====
abbrev S8320x1024 : Shape := ⟨2, ![8320, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S8320x1024, .bf16⟩
  | .hbm, ⟨2, _⟩ => ⟨S_, .f32⟩
  | .hbm, ⟨3, _⟩ => ⟨S1024x1024, .f32⟩
  | .hbm, ⟨4, _⟩ => ⟨S8320x1024, .f32⟩
  | .hbm, ⟨5, _⟩ => ⟨S8320x1024, .f32⟩
  | .hbm, ⟨6, _⟩ => ⟨S8320x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== OutNorm.lean ====
abbrev S8320x1024 : Shape := ⟨2, ![8320, 1024]⟩
abbrev S1024x1024 : Shape := ⟨2, ![1024, 1024]⟩
abbrev S1x1024 : Shape := ⟨2, ![1, 1024]⟩
abbrev S640x1024 : Shape := ⟨2, ![640, 1024]⟩
abbrev S640 : Shape := ⟨1, ![640]⟩
abbrev S640x1 : Shape := ⟨2, ![640, 1]⟩

abbrev nBuf : Space → Nat
  | .hbm => 6
  | .vmem => 10
  | .smem => 0
  | _ => 0

abbrev bufTy : (tb : Table) → Fin (tcTables nBuf tb) → BufTy
  | .hbm, ⟨0, _⟩ => ⟨S8320x1024, .bf16⟩
  | .hbm, ⟨1, _⟩ => ⟨S1024x1024, .bf16⟩
  | .hbm, ⟨2, _⟩ => ⟨S8320x1024, .f32⟩
  | .hbm, ⟨3, _⟩ => ⟨S1x1024, .f32⟩
  | .hbm, ⟨4, _⟩ => ⟨S8320x1024, .f32⟩
  | .hbm, ⟨5, _⟩ => ⟨S8320x1024, .bf16⟩
  | .local _ .vmem, ⟨0, _⟩ => ⟨S640x1024, .bf16⟩
  | .local _ .vmem, ⟨1, _⟩ => ⟨S640x1024, .bf16⟩
  | .local _ .vmem, ⟨2, _⟩ => ⟨S1024x1024, .bf16⟩
  | .local _ .vmem, ⟨3, _⟩ => ⟨S640x1024, .f32⟩
  | .local _ .vmem, ⟨4, _⟩ => ⟨S640x1024, .f32⟩
  | .local _ .vmem, ⟨5, _⟩ => ⟨S1x1024, .f32⟩
  | .local _ .vmem, ⟨6, _⟩ => ⟨S640x1024, .f32⟩
  | .local _ .vmem, ⟨7, _⟩ => ⟨S640x1024, .f32⟩
  | .local _ .vmem, ⟨8, _⟩ => ⟨S640x1024, .bf16⟩
  | .local _ .vmem, ⟨9, _⟩ => ⟨S640x1024, .bf16⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S640x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S640x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutNormRefIdeal.lean ====
abbrev S8320x1024 : Shape := ⟨2, ![8320, 1024]⟩
abbrev S1024x1024 : Shape := ⟨2, ![1024, 1024]⟩
abbrev S1x1024 : Shape := ⟨2, ![1, 1024]⟩
abbrev S_ : Shape := ⟨0, ![]⟩
abbrev S8320 : Shape := ⟨1, ![8320]⟩
abbrev S8320x1 : Shape := ⟨2, ![8320, 1]⟩

abbrev nBuf : Space → Nat
  | .hbm => 24
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S1024x1024, .bf16⟩
  | .hbm, ⟨2, _⟩ => ⟨S8320x1024, .f32⟩
  | .hbm, ⟨3, _⟩ => ⟨S1x1024, .f32⟩
  | .hbm, ⟨4, _⟩ => ⟨S8320x1024, .f32⟩
  | .hbm, ⟨5, _⟩ => ⟨S1024x1024, .f32⟩
  | .hbm, ⟨6, _⟩ => ⟨S8320x1024, .f32⟩
  | .hbm, ⟨7, _⟩ => ⟨S8320x1024, .f32⟩
  | .hbm, ⟨8, _⟩ => ⟨S8320x1024, .f32⟩
  | .hbm, ⟨9, _⟩ => ⟨S_, .f32⟩
  | .hbm, ⟨10, _⟩ => ⟨S8320, .f32⟩
  | .hbm, ⟨11, _⟩ => ⟨S8320x1, .f32⟩
  | .hbm, ⟨12, _⟩ => ⟨S_, .f32⟩
  | .hbm, ⟨13, _⟩ => ⟨S8320x1, .f32⟩
  | .hbm, ⟨14, _⟩ => ⟨S8320x1, .f32⟩
  | .hbm, ⟨15, _⟩ => ⟨S_, .f32⟩
  | .hbm, ⟨16, _⟩ => ⟨S8320x1, .f32⟩
  | .hbm, ⟨17, _⟩ => ⟨S8320x1, .f32⟩
  | .hbm, ⟨18, _⟩ => ⟨S8320x1, .f32⟩
  | .hbm, ⟨19, _⟩ => ⟨S8320x1024, .f32⟩
  | .hbm, ⟨20, _⟩ => ⟨S8320x1024, .f32⟩
  | .hbm, ⟨21, _⟩ => ⟨S8320x1024, .f32⟩
  | .hbm, ⟨22, _⟩ => ⟨S8320x1024, .f32⟩
  | .hbm, ⟨23, _⟩ => ⟨S8320x1024, .bf16⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== MergeBwd.lean ====
abbrev S8320x1024 : Shape := ⟨2, ![8320, 1024]⟩
abbrev S1024x1024 : Shape := ⟨2, ![1024, 1024]⟩
abbrev S8320x2048 : Shape := ⟨2, ![8320, 2048]⟩
abbrev S8320x13824 : Shape := ⟨2, ![8320, 13824]⟩
abbrev S640x1024 : Shape := ⟨2, ![640, 1024]⟩
abbrev S640x2048 : Shape := ⟨2, ![640, 2048]⟩

abbrev nBuf : Space → Nat
  | .hbm => 9
  | .vmem => 17
  | .smem => 0
  | _ => 0

abbrev bufTy : (tb : Table) → Fin (tcTables nBuf tb) → BufTy
  | .hbm, ⟨0, _⟩ => ⟨S8320x1024, .bf16⟩
  | .hbm, ⟨1, _⟩ => ⟨S1024x1024, .bf16⟩
  | .hbm, ⟨2, _⟩ => ⟨S8320x1024, .bf16⟩
  | .hbm, ⟨3, _⟩ => ⟨S8320x1024, .bf16⟩
  | .hbm, ⟨4, _⟩ => ⟨S8320x2048, .bf16⟩
  | .hbm, ⟨5, _⟩ => ⟨S8320x13824, .bf16⟩
  | .hbm, ⟨6, _⟩ => ⟨S8320x1024, .bf16⟩
  | .hbm, ⟨7, _⟩ => ⟨S8320x1024, .bf16⟩
  | .hbm, ⟨8, _⟩ => ⟨S8320x13824, .bf16⟩
  | .local _ .vmem, ⟨0, _⟩ => ⟨S640x1024, .bf16⟩
  | .local _ .vmem, ⟨1, _⟩ => ⟨S640x1024, .bf16⟩
  | .local _ .vmem, ⟨2, _⟩ => ⟨S1024x1024, .bf16⟩
  | .local _ .vmem, ⟨3, _⟩ => ⟨S640x1024, .bf16⟩
  | .local _ .vmem, ⟨4, _⟩ => ⟨S640x1024, .bf16⟩
  | .local _ .vmem, ⟨5, _⟩ => ⟨S640x1024, .bf16⟩
  | .local _ .vmem, ⟨6, _⟩ => ⟨S640x1024, .bf16⟩
  | .local _ .vmem, ⟨7, _⟩ => ⟨S640x1024, .bf16⟩
  | .local _ .vmem, ⟨8, _⟩ => ⟨S640x1024, .bf16⟩
  | .local _ .vmem, ⟨9, _⟩ => ⟨S640x1024, .bf16⟩
  | .local _ .vmem, ⟨10, _⟩ => ⟨S640x1024, .bf16⟩
  | .local _ .vmem, ⟨11, _⟩ => ⟨S640x1024, .bf16⟩
  | .local _ .vmem, ⟨12, _⟩ => ⟨S640x1024, .bf16⟩
  | .local _ .vmem, ⟨13, _⟩ => ⟨S640x1024, .bf16⟩
  | .local _ .vmem, ⟨14, _⟩ => ⟨S640x1024, .bf16⟩
  | .local _ .vmem, ⟨15, _⟩ => ⟨S640x2048, .bf16⟩
  | .local _ .vmem, ⟨16, _⟩ => ⟨S640x2048, .bf16⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

abbrev stage0_0 : Fin 2 → Memref sig .tc .vmem S640x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S640x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S640x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S640x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S640x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S640x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S640x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S640x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MergeBwdRefIdeal.lean ====
abbrev S8320x1024 : Shape := ⟨2, ![8320, 1024]⟩
abbrev S1024x1024 : Shape := ⟨2, ![1024, 1024]⟩
abbrev S8320x2048 : Shape := ⟨2, ![8320, 2048]⟩
abbrev S8320x13824 : Shape := ⟨2, ![8320, 13824]⟩
abbrev S_ : Shape := ⟨0, ![]⟩
abbrev S8320x8192 : Shape := ⟨2, ![8320, 8192]⟩
abbrev S8320x3584 : Shape := ⟨2, ![8320, 3584]⟩

abbrev nBuf : Space → Nat
  | .hbm => 55
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S1024x1024, .bf16⟩
  | .hbm, ⟨2, _⟩ => ⟨S8320x1024, .bf16⟩
  | .hbm, ⟨3, _⟩ => ⟨S8320x1024, .bf16⟩
  | .hbm, ⟨4, _⟩ => ⟨S8320x2048, .bf16⟩
  | .hbm, ⟨5, _⟩ => ⟨S8320x13824, .bf16⟩
  | .hbm, ⟨6, _⟩ => ⟨S8320x1024, .f32⟩
  | .hbm, ⟨7, _⟩ => ⟨S1024x1024, .f32⟩
  | .hbm, ⟨8, _⟩ => ⟨S8320x1024, .f32⟩
  | .hbm, ⟨9, _⟩ => ⟨S8320x1024, .f32⟩
  | .hbm, ⟨10, _⟩ => ⟨S8320x2048, .f32⟩
  | .hbm, ⟨11, _⟩ => ⟨S8320x1024, .f32⟩
  | .hbm, ⟨12, _⟩ => ⟨S8320x1024, .f32⟩
  | .hbm, ⟨13, _⟩ => ⟨S8320x1024, .f32⟩
  | .hbm, ⟨14, _⟩ => ⟨S8320x1024, .f32⟩
  | .hbm, ⟨15, _⟩ => ⟨S_, .f32⟩
  | .hbm, ⟨16, _⟩ => ⟨S8320x1024, .f32⟩
  | .hbm, ⟨17, _⟩ => ⟨S8320x1024, .f32⟩
  | .hbm, ⟨18, _⟩ => ⟨S_, .f32⟩
  | .hbm, ⟨19, _⟩ => ⟨S8320x1024, .f32⟩
  | .hbm, ⟨20, _⟩ => ⟨S8320x1024, .f32⟩
  | .hbm, ⟨21, _⟩ => ⟨S_, .f32⟩
  | .hbm, ⟨22, _⟩ => ⟨S8320x1024, .f32⟩
  | .hbm, ⟨23, _⟩ => ⟨S8320x1024, .f32⟩
  | .hbm, ⟨24, _⟩ => ⟨S8320x1024, .f32⟩
  | .hbm, ⟨25, _⟩ => ⟨S8320x1024, .f32⟩
  | .hbm, ⟨26, _⟩ => ⟨S8320x1024, .f32⟩
  | .hbm, ⟨27, _⟩ => ⟨S8320x1024, .f32⟩
  | .hbm, ⟨28, _⟩ => ⟨S_, .f32⟩
  | .hbm, ⟨29, _⟩ => ⟨S8320x1024, .f32⟩
  | .hbm, ⟨30, _⟩ => ⟨S8320x1024, .f32⟩
  | .hbm, ⟨31, _⟩ => ⟨S_, .f32⟩
  | .hbm, ⟨32, _⟩ => ⟨S8320x1024, .f32⟩
  | .hbm, ⟨33, _⟩ => ⟨S8320x1024, .f32⟩
  | .hbm, ⟨34, _⟩ => ⟨S_, .f32⟩
  | .hbm, ⟨35, _⟩ => ⟨S8320x1024, .f32⟩
  | .hbm, ⟨36, _⟩ => ⟨S8320x1024, .f32⟩
  | .hbm, ⟨37, _⟩ => ⟨S8320x1024, .f32⟩
  | .hbm, ⟨38, _⟩ => ⟨S8320x1024, .f32⟩
  | .hbm, ⟨39, _⟩ => ⟨S8320x1024, .f32⟩
  | .hbm, ⟨40, _⟩ => ⟨S8320x1024, .f32⟩
  | .hbm, ⟨41, _⟩ => ⟨S8320x1024, .f32⟩
  | .hbm, ⟨42, _⟩ => ⟨S8320x1024, .f32⟩
  | .hbm, ⟨43, _⟩ => ⟨S8320x1024, .f32⟩
  | .hbm, ⟨44, _⟩ => ⟨S8320x1024, .f32⟩
  | .hbm, ⟨45, _⟩ => ⟨S8320x1024, .f32⟩
  | .hbm, ⟨46, _⟩ => ⟨S8320x1024, .f32⟩
  | .hbm, ⟨47, _⟩ => ⟨S8320x1024, .f32⟩
  | .hbm, ⟨48, _⟩ => ⟨S8320x1024, .bf16⟩
  | .hbm, ⟨49, _⟩ => ⟨S8320x1024, .bf16⟩
  | .hbm, ⟨50, _⟩ => ⟨S8320x1024, .bf16⟩
  | .hbm, ⟨51, _⟩ => ⟨S8320x1024, .bf16⟩
  | .hbm, ⟨52, _⟩ => ⟨S8320x8192, .bf16⟩
  | .hbm, ⟨53, _⟩ => ⟨S8320x3584, .bf16⟩
  | .hbm, ⟨54, _⟩ => ⟨S8320x13824, .bf16⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩

abbrev nD : Nat := 1
abbrev τ : Topo := Topo.v7x

variable {F : FTy → Type} [FloatOps F]
-- ==== Proof.Setup.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Retention

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition under which a point of the forward call resets the carried state: the step within the head is the first. -/
abbrev cond0 (i : grid0.Coords) : Prop :=
  (Scalar.cmpi .ne (Scalar.extui (Scalar.cmpi .eq (BitVec.ofNat 32 (i 1).val) 0#32)) 0#32) = 1#1
/-- The same condition in the backward call. -/
abbrev cond1 (i : grid1.Coords) : Prop :=
  (Scalar.cmpi .ne (Scalar.extui (Scalar.cmpi .eq (BitVec.ofNat 32 (i 1).val) 0#32)) 0#32) = 1#1

/-- The state is reset at the points divisible by five. -/
theorem cond0_iff : ∀ t : Fin cfg0.N, cond0 (grid0.coords t) ↔ t.val % 5 = 0 :=
  (fun t => by
    have ht : t.val < 20 := Nat.lt_of_lt_of_eq t.isLt N_0
    have e1 : (grid0.coords t 1).val = t.val / 1 % 5 := Pipeline.Grid.coords_val t 1 (by decide) rfl
    simp only [cond0, e1]
    word_cmp
   : ∀ t : Fin grid0.N, cond0 (grid0.coords t) ↔ t.val % 5 = 0)
theorem cond1_iff : ∀ t : Fin cfg1.N, cond1 (grid1.coords t) ↔ t.val % 5 = 0 :=
  (fun t => by
    have ht : t.val < 20 := Nat.lt_of_lt_of_eq t.isLt N_1
    have e1 : (grid1.coords t 1).val = t.val / 1 % 5 := Pipeline.Grid.coords_val t 1 (by decide) rfl
    simp only [cond1, e1]
    word_cmp
   : ∀ t : Fin grid1.N, cond1 (grid1.coords t) ↔ t.val % 5 = 0)

end Cert.Retention

end
-- ==== Proof.Chunk.lean ====
module

public import proofs.«01_k».proof.Proof.Setup
public import Idealize.ShloMosaic.Lib.ValueIdxCore

@[expose] public section

set_option maxRecDepth 16384

noncomputable section

namespace Cert.Retention

open Cert.KernelIdeal Cert.KernelIdeal.Gen
open Idealize.ShloMosaic Idealize.ShloMosaic.TcCoe Idealize.ShloMosaic.Tactic
open Idealize.ShloMosaic.ValueIdx

variable {F : FTy → Type} [FloatOps F]

/-! ## Chunks: what the two calls compute on 128 rows, as functions of those rows -/

/-- Chunk `j` of a block of 1664 rows: its rows `128 j` to `128 j + 127`. -/
def rows {n : ℕ} {e : EltTy} (x : Vec F ⟨2, ![1664, n]⟩ e) (j : ℕ) : Vec F ⟨2, ![128, n]⟩ e :=
  fun y => x (ix2 (n0 := 1664) (n1 := n) ⟨(128 * j + (y 0).val) % 1664, Nat.mod_lt _ (by decide)⟩ (y 1))

/-- The one entry of the head's table of log decays that a body reads. -/
def lgOf (x : Vec F S1x8x128 .f32) : Vec F S1x1x1 .f32 := fun _ => x (fun a => ⟨0, by fin_cases a <;> decide⟩)

/-- The load of chunk `j` that the body makes from a whole staging buffer. -/
def rowsAt {n : ℕ} {e : EltTy} (arg : Memref sig .tc .vmem ⟨2, ![1664, n]⟩ e) (h : arg.IsWhole)
    (x : Vec F ⟨2, ![1664, n]⟩ e) (j : Fin 13) : Vec F ⟨2, ![128, n]⟩ e :=
  View.readAt (Elt F) arg.view
    (Rect.unit (s := ⟨2, ![1664, n]⟩) ![128 * j.val, 0] (⟨2, ![128, n]⟩ : Shape).size
      (fun a => by fin_cases a <;> simp <;> omega)).toLoadRect (h.unread x)

theorem rowsAt_eq {n : ℕ} {e : EltTy} (arg : Memref sig .tc .vmem ⟨2, ![1664, n]⟩ e) (h : arg.IsWhole)
    (x : Vec F ⟨2, ![1664, n]⟩ e) (j : Fin 13) : rowsAt arg h x j = rows x j.val := by
  unfold rowsAt
  rw [View.readAt_eq_ld, h.read_unread]
  funext y
  refine congrArg x (funext fun a => Fin.ext ?_)
  have hy : (y 0).val < 128 := (y 0).isLt
  fin_cases a
  · show 128 * j.val + 1 * (y 0).val = (128 * j.val + (y 0).val) % 1664
    omega
  · show 0 + 1 * (y 1).val = (y 1).val
    omega

/-- The load of the log decay. -/
def lgAt (arg : Memref sig .tc .vmem S1x8x128 .f32) (h : arg.IsWhole) (x : Vec F S1x8x128 .f32) : Vec F S1x1x1 .f32 :=
  View.readAt (Elt F) arg.view (Rect.unit (s := S1x8x128) ![0, 0, 0] S1x1x1.size inb_S1x8x128_S1x1x1_0_0_0).toLoadRect (h.unread x)

theorem lgAt_eq (arg : Memref sig .tc .vmem S1x8x128 .f32) (h : arg.IsWhole) (x : Vec F S1x8x128 .f32) :
    lgAt arg h x = lgOf x := by
  unfold lgAt
  rw [View.readAt_eq_ld, h.read_unread]
  funext y
  refine congrArg x (funext fun a => Fin.ext ?_)
  have h0 : (y 0).val < 1 := (y 0).isLt
  have h1 : (y 1).val < 1 := (y 1).isLt
  have h2 : (y 2).val < 1 := (y 2).isLt
  fin_cases a
  · show 0 + 1 * (y 0).val = 0
    omega
  · show 0 + 1 * (y 1).val = 0
    omega
  · show 0 + 1 * (y 2).val = 0
    omega

/-- The carried state's load, and the rectangle its stores go to: the whole buffer. -/
abbrev wholeState : Rect S256x512 := Rect.unit (s := S256x512) ![0, 0] S256x512.size inb_S256x512_S256x512_0_0

theorem wholeState_emb (y : S256x512.Idx) : wholeState.emb y = y :=
  funext fun a => Fin.ext (by
    fin_cases a
    · show 0 + 1 * (y 0).val = (y 0).val
      omega
    · show 0 + 1 * (y 1).val = (y 1).val
      omega)

/-- The carried state read back after a store is what was stored last. -/
theorem readCov_state (arg : Memref sig .tc .vmem S256x512 .f32) (w : Vec F S256x512 .f32)
    (L : List (View.Piece (Elt F) S256x512 .f32)) :
    arg.view.readCov (⟨wholeState, w⟩ :: L) wholeState.toLoadRect = w := by
  funext y
  exact View.read_writes_cons_hit arg.view _ wholeState w L y _ rfl

theorem readAt_state (arg : Memref sig .tc .vmem S256x512 .f32) (h : arg.IsWhole) (x : Vec F S256x512 .f32) :
    View.readAt (Elt F) arg.view wholeState.toLoadRect (h.unread x) = x := by
  rw [View.readAt_eq_ld, h.read_unread]
  funext y
  exact congrArg x (wholeState_emb y)

theorem writes_state (v : View sig .tc .vmem S256x512 .f32) (f : v.ty.Contents (Elt F)) (w : Vec F S256x512 .f32)
    (L : List (View.Piece (Elt F) S256x512 .f32)) :
    v.read (Elt F) (v.writes (Elt F) f (⟨wholeState, w⟩ :: L)) = w := by
  funext y
  exact View.read_writes_cons_hit v f wholeState w L y y (wholeState_emb y)

/-- A store of one chunk's rows in a block of 1664 rows that is assembled from its chunks. -/
theorem piece_rows {n m : ℕ} {e : EltTy} (c : ℕ) (G : (⟨2, ![1664, n]⟩ : Shape).Idx → Elt F e)
    (w : Vec F ⟨2, ![128, m]⟩ e) (o : ℕ)
    (inb : ∀ a, (![o, c] : Fin 2 → ℕ) a + (⟨2, ![128, m]⟩ : Shape).size a ≤ (⟨2, ![1664, n]⟩ : Shape).size a)
    (h : ∀ y : (⟨2, ![128, m]⟩ : Shape).Idx, ∀ (h0 : o + (y 0).val < 1664) (h1 : c + (y 1).val < n),
      w y = G (ix2 ⟨o + (y 0).val, h0⟩ ⟨c + (y 1).val, h1⟩)) :
    ∀ y : (Rect.unit (s := ⟨2, ![1664, n]⟩) ![o, c] (⟨2, ![128, m]⟩ : Shape).size inb).shape.Idx,
      w y = G ((Rect.unit (s := ⟨2, ![1664, n]⟩) ![o, c] (⟨2, ![128, m]⟩ : Shape).size inb).emb y) := by
  intro y
  have i0 : o + 128 ≤ 1664 := inb 0
  have i1 : c + m ≤ n := inb 1
  have y0 : (y 0).val < 128 := (y 0).isLt
  have y1 : (y 1).val < m := (y 1).isLt
  refine (h y (by omega) (by omega)).trans (congrArg G (funext fun a => Fin.ext ?_))
  fin_cases a
  · show o + (y 0).val = o + 1 * (y 0).val
    omega
  · show c + (y 1).val = c + 1 * (y 1).val
    omega

/-! ### The forward call -/

/-- The forward chunk's output rows. -/
def fwdOut (q k : Vec F S128x256 .bf16) (v g : Vec F S128x512 .bf16) (cs sn : Vec F S128x128 .f32)
    (lg : Vec F S1x1x1 .f32) (prev : Vec F S256x512 .f32) : Vec F S128x512 .bf16 :=
  k0_pay23 (k0_pay8 g)
    (k0_pay20 (k0_pay6 k) (k0_pay7 v) (k0_pay9 cs) (k0_pay10 sn) (k0_pay11 lg) (k0_pay14 q cs sn) (k0_pay15 q cs)
      (k0_pay16 q sn))
    (k0_pay22 prev (k0_pay11 lg) (k0_pay14 q cs sn) (k0_pay15 q cs) (k0_pay16 q sn))

/-- The state the forward chunk hands on. -/
def fwdNew (k : Vec F S128x256 .bf16) (v : Vec F S128x512 .bf16) (cs sn : Vec F S128x128 .f32) (lg : Vec F S1x1x1 .f32)
    (prev : Vec F S256x512 .f32) : Vec F S256x512 .f32 :=
  k0_pay24 prev (k0_pay11 lg) (k0_pay21 (k0_pay6 k) (k0_pay7 v) (k0_pay9 cs) (k0_pay10 sn) (k0_pay11 lg))

/-- The state before chunk `j` of a block, from the state before the block. -/
def fwdCarry (x1 : Vec F S1664x256 .bf16) (x2 : Vec F S1664x512 .bf16) (x4 x5 : Vec F S1664x128 .f32)
    (x6 : Vec F S1x8x128 .f32) (xs : Vec F S256x512 .f32) : ℕ → Vec F S256x512 .f32
  | 0 => xs
  | j + 1 => fwdNew (rows x1 j) (rows x2 j) (rows x4 j) (rows x5 j) (lgOf x6) (fwdCarry x1 x2 x4 x5 x6 xs j)

/-- The block of output rows of one grid point of the forward call. -/
def fwdY (x0 x1 : Vec F S1664x256 .bf16) (x2 x3 : Vec F S1664x512 .bf16) (x4 x5 : Vec F S1664x128 .f32)
    (x6 : Vec F S1x8x128 .f32) (xs : Vec F S256x512 .f32) : Vec F S1664x512 .bf16 := fun y =>
  fwdOut (rows x0 ((y 0).val / 128)) (rows x1 ((y 0).val / 128)) (rows x2 ((y 0).val / 128)) (rows x3 ((y 0).val / 128))
    (rows x4 ((y 0).val / 128)) (rows x5 ((y 0).val / 128)) (lgOf x6) (fwdCarry x1 x2 x4 x5 x6 xs ((y 0).val / 128))
    (ix2 (n0 := 128) (n1 := 512) ⟨(y 0).val % 128, Nat.mod_lt _ (by decide)⟩ (y 1))

/-- The block of saved states of one grid point of the forward call. -/
def fwdS (x1 : Vec F S1664x256 .bf16) (x2 : Vec F S1664x512 .bf16) (x4 x5 : Vec F S1664x128 .f32)
    (x6 : Vec F S1x8x128 .f32) (xs : Vec F S256x512 .f32) : Vec F S13x1x256x512 .bf16 := fun y =>
  k0_pay4 (fwdCarry x1 x2 x4 x5 x6 xs (y 0).val) (ix4 (n0 := 1) (n1 := 1) (n2 := 256) (n3 := 512) 0 (y 1) (y 2) (y 3))

/-! ### The backward call -/

section Bwd
variable (q k : Vec F S128x256 .bf16) (v g : Vec F S128x512 .bf16) (cs sn : Vec F S128x128 .f32)
  (lg : Vec F S1x1x1 .f32) (st : Vec F S1x1x256x512 .bf16) (dy : Vec F S128x512 .bf16) (dnew : Vec F S256x512 .f32)

/-- The key rows after the rotary embedding and their scale. -/
def bwdKr : FVec F S128x256 .f32 :=
  k1_pay16 (k1_pay5 cs) (k1_pay6 sn) (k1_pay13 k) (k1_pay14 k) (k1_pay15 cs k)

/-- The chunk's output before its norm. -/
def bwdAttn : FVec F S128x512 .f32 :=
  k1_pay23 (k1_pay5 cs) (k1_pay6 sn) (k1_pay7 lg) (k1_pay9 v) (k1_pay11 st) (k1_pay12 cs sn q) (k1_pay13 k) (k1_pay14 k)
    (k1_pay15 cs k)

/-- The sum of its squares over a row. -/
def bwdSq : FVec F S128x1 .f32 :=
  k1_pay25 (k1_pay5 cs) (k1_pay6 sn) (k1_pay7 lg) (k1_pay9 v) (k1_pay11 st) (k1_pay12 cs sn q) (k1_pay13 k) (k1_pay14 k)
    (k1_pay15 cs k)

/-- The gradient of the output before its norm. -/
def bwdDout : FVec F S128x512 .f32 :=
  k1_pay31 (k1_pay10 g) (bwdAttn q k v cs sn lg st) (bwdSq q k v cs sn lg st) dy

/-- The gradient of the gate rows. -/
def bwdG : FVec F S128x512 .bf16 :=
  k1_pay48 (k1_pay30 (k1_pay10 g) (bwdAttn q k v cs sn lg st) (bwdSq q k v cs sn lg st) dy)

/-- The gradient of the value rows. -/
def bwdV : FVec F S128x512 .bf16 :=
  k1_pay47 (k1_pay38
    (k1_pay19 (k1_pay5 cs) (k1_pay6 sn) (k1_pay7 lg) (k1_pay12 cs sn q) (k1_pay13 k) (k1_pay14 k) (k1_pay15 cs k))
    (k1_pay21 (k1_pay5 cs) (k1_pay6 sn) (k1_pay7 lg) (k1_pay13 k) (k1_pay14 k) (k1_pay15 cs k))
    (bwdDout q k v g cs sn lg st dy) (k1_pay32 dnew))

/-- The gradient of the key rows. -/
def bwdK : FVec F S128x256 .bf16 :=
  k1_pay46 (k1_pay41 (k1_pay5 cs) (k1_pay6 sn) (k1_pay9 v) (k1_pay12 cs sn q) (k1_pay17 (k1_pay7 lg)) (k1_pay20 (k1_pay7 lg))
    (bwdDout q k v g cs sn lg st dy) (k1_pay32 dnew))

/-- The gradient of the output's part through the state, scaled by the decay from the chunk's start. -/
def bwdCross : FVec F S128x512 .f32 :=
  k1_pay34 (k1_pay10 g) (k1_pay22 (k1_pay7 lg)) (bwdAttn q k v cs sn lg st) (bwdSq q k v cs sn lg st) dy

/-- The gradient of the rotated query rows. -/
def bwdQr : FVec F S128x256 .f32 :=
  k1_pay40 (k1_pay9 v) (bwdKr k cs sn) (k1_pay17 (k1_pay7 lg)) (bwdDout q k v g cs sn lg st dy)
    (k1_pay35 (k1_pay10 g) (k1_pay22 (k1_pay7 lg)) (bwdAttn q k v cs sn lg st) (bwdSq q k v cs sn lg st) dy)
    (k1_pay36 (k1_pay11 st)) (constant S128x256 .f32 0x00000000#32)

/-- The gradient of the query rows. -/
def bwdQ : FVec F S128x256 .bf16 :=
  k1_pay45 (k1_pay5 cs) (k1_pay6 sn)
    (extractStridedSlice S128x128 ![0, 0] (bwdQr q k v g cs sn lg st dy) slices_S128x256_o0_0_S128x128)
    (extractStridedSlice S128x128 ![0, 128] (bwdQr q k v g cs sn lg st dy) slices_S128x256_o0_128_S128x128)
    (mulf (extractStridedSlice S128x128 ![0, 128] (bwdQr q k v g cs sn lg st dy) slices_S128x256_o0_128_S128x128)
      (k1_pay6 sn))

/-- The gradient of the state before the chunk. -/
def bwdPrev : FVec F S256x512 .f32 :=
  k1_pay49 (k1_pay37 (k1_pay12 cs sn q) (k1_pay33 (k1_pay24 (k1_pay7 lg)) dnew) (bwdCross q k v g cs sn lg st dy))

end Bwd

/-- The saved state of chunk `j`. -/
def stOf (x : Vec F S13x1x256x512 .bf16) (j : ℕ) : Vec F S1x1x256x512 .bf16 :=
  fun y => x (ix4 (n0 := 13) (n1 := 1) (n2 := 256) (n3 := 512) ⟨j % 13, Nat.mod_lt _ (by decide)⟩ (y 1) (y 2) (y 3))

/-- The load of chunk `j`'s saved state. -/
def stAt (arg : Memref sig .tc .vmem S13x1x256x512 .bf16) (h : arg.IsWhole) (x : Vec F S13x1x256x512 .bf16) (j : Fin 13) :
    Vec F S1x1x256x512 .bf16 :=
  View.readAt (Elt F) arg.view
    (Rect.unit (s := S13x1x256x512) ![j.val, 0, 0, 0] S1x1x256x512.size
      (fun a => by fin_cases a <;> simp <;> omega)).toLoadRect (h.unread x)

theorem stAt_eq (arg : Memref sig .tc .vmem S13x1x256x512 .bf16) (h : arg.IsWhole) (x : Vec F S13x1x256x512 .bf16)
    (j : Fin 13) : stAt arg h x j = stOf x j.val := by
  unfold stAt
  rw [View.readAt_eq_ld, h.read_unread]
  funext y
  refine congrArg x (funext fun a => Fin.ext ?_)
  have hy : (y 0).val < 1 := (y 0).isLt
  fin_cases a
  · show j.val + 1 * (y 0).val = j.val % 13
    omega
  · show 0 + 1 * (y 1).val = (y 1).val
    omega
  · show 0 + 1 * (y 2).val = (y 2).val
    omega
  · show 0 + 1 * (y 3).val = (y 3).val
    omega

section BwdBlock
variable (x0 x1 : Vec F S1664x256 .bf16) (x2 x3 : Vec F S1664x512 .bf16) (x4 x5 : Vec F S1664x128 .f32)
  (x6 : Vec F S1x8x128 .f32) (x7 : Vec F S13x1x256x512 .bf16) (x8 : Vec F S1664x512 .bf16) (xs : Vec F S256x512 .f32)

/-- The state's gradient after the `n` last chunks of a block have been taken, from the one that enters the block. -/
def bwdCarry : ℕ → Vec F S256x512 .f32
  | 0 => xs
  | n + 1 => bwdPrev (rows x0 (12 - n)) (rows x1 (12 - n)) (rows x2 (12 - n)) (rows x3 (12 - n)) (rows x4 (12 - n))
      (rows x5 (12 - n)) (lgOf x6) (stOf x7 (12 - n)) (rows x8 (12 - n)) (bwdCarry n)

/-- The block of gradient rows of one grid point of the backward call: each row the query's, key's, value's and gate's
    gradients side by side. -/
def bwdO : Vec F S1664x1536 .bf16 := fun y =>
  if h1 : (y 1).val < 256 then
    bwdQ (rows x0 ((y 0).val / 128)) (rows x1 ((y 0).val / 128)) (rows x2 ((y 0).val / 128)) (rows x3 ((y 0).val / 128))
      (rows x4 ((y 0).val / 128)) (rows x5 ((y 0).val / 128)) (lgOf x6) (stOf x7 ((y 0).val / 128))
      (rows x8 ((y 0).val / 128)) (ix2 (n0 := 128) (n1 := 256) ⟨(y 0).val % 128, Nat.mod_lt _ (by decide)⟩ ⟨(y 1).val, h1⟩)
  else if h2 : (y 1).val < 512 then
    bwdK (rows x0 ((y 0).val / 128)) (rows x1 ((y 0).val / 128)) (rows x2 ((y 0).val / 128)) (rows x3 ((y 0).val / 128))
      (rows x4 ((y 0).val / 128)) (rows x5 ((y 0).val / 128)) (lgOf x6) (stOf x7 ((y 0).val / 128))
      (rows x8 ((y 0).val / 128)) (bwdCarry x0 x1 x2 x3 x4 x5 x6 x7 x8 xs (12 - (y 0).val / 128))
      (ix2 (n0 := 128) (n1 := 256) ⟨(y 0).val % 128, Nat.mod_lt _ (by decide)⟩ ⟨(y 1).val - 256, by omega⟩)
  else if h3 : (y 1).val < 1024 then
    bwdV (rows x0 ((y 0).val / 128)) (rows x1 ((y 0).val / 128)) (rows x2 ((y 0).val / 128)) (rows x3 ((y 0).val / 128))
      (rows x4 ((y 0).val / 128)) (rows x5 ((y 0).val / 128)) (lgOf x6) (stOf x7 ((y 0).val / 128))
      (rows x8 ((y 0).val / 128)) (bwdCarry x0 x1 x2 x3 x4 x5 x6 x7 x8 xs (12 - (y 0).val / 128))
      (ix2 (n0 := 128) (n1 := 512) ⟨(y 0).val % 128, Nat.mod_lt _ (by decide)⟩ ⟨(y 1).val - 512, by omega⟩)
  else
    bwdG (rows x0 ((y 0).val / 128)) (rows x1 ((y 0).val / 128)) (rows x2 ((y 0).val / 128)) (rows x3 ((y 0).val / 128))
      (rows x4 ((y 0).val / 128)) (rows x5 ((y 0).val / 128)) (lgOf x6) (stOf x7 ((y 0).val / 128))
      (rows x8 ((y 0).val / 128)) (ix2 (n0 := 128) (n1 := 512) ⟨(y 0).val % 128, Nat.mod_lt _ (by decide)⟩
        ⟨(y 1).val - 1024, by have h : (y 1).val < 1536 := (y 1).isLt; omega⟩)
end BwdBlock

end Cert.Retention

end
-- ==== Proof.FwdRunFirst.lean ====
module

public import proofs.«01_k».proof.Proof.Setup

@[expose] public section

set_option maxRecDepth 16384

noncomputable section

namespace Cert.Retention

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (c : Dev nD) (i : grid0.Coords)
  (arg2 : Memref sig .tc .vmem S1664x256 .bf16) (harg2 : arg2.IsWhole)
  (arg3 : Memref sig .tc .vmem S1664x256 .bf16) (harg3 : arg3.IsWhole)
  (arg4 : Memref sig .tc .vmem S1664x512 .bf16) (harg4 : arg4.IsWhole)
  (arg5 : Memref sig .tc .vmem S1664x512 .bf16) (harg5 : arg5.IsWhole)
  (arg6 : Memref sig .tc .vmem S1664x128 .f32) (harg6 : arg6.IsWhole)
  (arg7 : Memref sig .tc .vmem S1664x128 .f32) (harg7 : arg7.IsWhole)
  (arg8 : Memref sig .tc .vmem S1x8x128 .f32) (harg8 : arg8.IsWhole)
  (arg9 : Memref sig .tc .vmem S1664x512 .bf16) (harg9 : arg9.IsWhole)
  (arg10 : Memref sig .tc .vmem S13x1x256x512 .bf16) (harg10 : arg10.IsWhole)
  (arg11 : Memref sig .tc .vmem S256x512 .f32) (harg11 : arg11.IsWhole)
  (x0 : Vec F S1664x256 .bf16) (x1 : Vec F S1664x256 .bf16) (x2 : Vec F S1664x512 .bf16) (x3 : Vec F S1664x512 .bf16) (x4 : Vec F S1664x128 .f32) (x5 : Vec F S1664x128 .f32) (x6 : Vec F S1x8x128 .f32)

set_option maxHeartbeats 1204000 in
/-- One grid point of the forward call, where the carried state is reset (the first point of a head): the stores it leaves
    in its outputs and in the carried state, as lists found by the run, beside the run itself. -/
def fwdRunFirst (hc : cond0 i) :
    Σ' (Ly : List (View.Piece (Elt F) S1664x512 .bf16)),
    Σ' (Ls : List (View.Piece (Elt F) S13x1x256x512 .bf16)),
    { Lc : List (View.Piece (Elt F) S256x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
                ∗ (∃ f, arg9.view.loc (c : Thread nD τ) ↦[arg9.view.set]{fullShare} arg9.view.writes (Elt F) f Ly) ∗ (∃ f, arg10.view.loc (c : Thread nD τ) ↦[arg10.view.set]{fullShare} arg10.view.writes (Elt F) f Ls) ∗ (∃ f, arg11.view.loc (c : Thread nD τ) ↦[arg11.view.set]{fullShare} arg11.view.writes (Elt F) f Lc)) -∗ K ⟨⟩))
          ⊢ wp frame (wpE (defs₀ (F := F)) Variants.none c none) E
              (cc0_ret_fwd i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0_ret_fwd_eq_skeleton]; unfold cc0_ret_fwd_skel
    simp only [k0_part32_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    iexists _; iexact HS0

end

end Cert.Retention

end
-- ==== Proof.FwdRunNext.lean ====
module

public import proofs.«01_k».proof.Proof.FwdRunFirst

@[expose] public section

set_option maxRecDepth 16384

noncomputable section

namespace Cert.Retention

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (c : Dev nD) (i : grid0.Coords)
  (arg2 : Memref sig .tc .vmem S1664x256 .bf16) (harg2 : arg2.IsWhole)
  (arg3 : Memref sig .tc .vmem S1664x256 .bf16) (harg3 : arg3.IsWhole)
  (arg4 : Memref sig .tc .vmem S1664x512 .bf16) (harg4 : arg4.IsWhole)
  (arg5 : Memref sig .tc .vmem S1664x512 .bf16) (harg5 : arg5.IsWhole)
  (arg6 : Memref sig .tc .vmem S1664x128 .f32) (harg6 : arg6.IsWhole)
  (arg7 : Memref sig .tc .vmem S1664x128 .f32) (harg7 : arg7.IsWhole)
  (arg8 : Memref sig .tc .vmem S1x8x128 .f32) (harg8 : arg8.IsWhole)
  (arg9 : Memref sig .tc .vmem S1664x512 .bf16) (harg9 : arg9.IsWhole)
  (arg10 : Memref sig .tc .vmem S13x1x256x512 .bf16) (harg10 : arg10.IsWhole)
  (arg11 : Memref sig .tc .vmem S256x512 .f32) (harg11 : arg11.IsWhole)
  (x0 : Vec F S1664x256 .bf16) (x1 : Vec F S1664x256 .bf16) (x2 : Vec F S1664x512 .bf16) (x3 : Vec F S1664x512 .bf16) (x4 : Vec F S1664x128 .f32) (x5 : Vec F S1664x128 .f32) (x6 : Vec F S1x8x128 .f32)

set_option maxHeartbeats 1204000 in
/-- One grid point of the forward call, where the carried state is taken over from the point before: the stores it leaves
    in its outputs and in the carried state, as lists found by the run, beside the run itself. -/
def fwdRunNext (hc : ¬cond0 i) (xs : Vec F S256x512 .f32) :
    Σ' (Ly : List (View.Piece (Elt F) S1664x512 .bf16)),
    Σ' (Ls : List (View.Piece (Elt F) S13x1x256x512 .bf16)),
    { Lc : List (View.Piece (Elt F) S256x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ (∃ d, owns (c : Thread nD τ) arg9 fullShare d) ∗ (∃ d, owns (c : Thread nD τ) arg10 fullShare d) ∗ owns (c : Thread nD τ) arg11 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
                ∗ (∃ f, arg9.view.loc (c : Thread nD τ) ↦[arg9.view.set]{fullShare} arg9.view.writes (Elt F) f Ly) ∗ (∃ f, arg10.view.loc (c : Thread nD τ) ↦[arg10.view.set]{fullShare} arg10.view.writes (Elt F) f Ls) ∗ (∃ f, arg11.view.loc (c : Thread nD τ) ↦[arg11.view.set]{fullShare} arg11.view.writes (Elt F) f Lc)) -∗ K ⟨⟩))
          ⊢ wp frame (wpE (defs₀ (F := F)) Variants.none c none) E
              (cc0_ret_fwd i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0_ret_fwd_eq_skeleton]; unfold cc0_ret_fwd_skel
    simp only [k0_part32_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg11.eq_unread hfs0
    sl_exec (disch := first | sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    iexists _; iexact HS0

end

end Cert.Retention

end
-- ==== Proof.FwdValFirst.lean ====
module

public import proofs.«01_k».proof.Proof.Chunk
public import proofs.«01_k».proof.Proof.FwdRunFirst

@[expose] public section

set_option maxRecDepth 16384

noncomputable section

namespace Cert.Retention

open Cert.KernelIdeal Cert.KernelIdeal.Gen
open Idealize.ShloMosaic Idealize.ShloMosaic.TcCoe Idealize.ShloMosaic.Tactic
open Idealize.ShloMosaic.ValueIdx

variable {F : FTy → Type} [FloatOps F]

/-- One step of the chain of states through a block: what chunk `j` stored, read back, is the state before chunk `j + 1`. -/
theorem fwd_step (arg3 : Memref sig .tc .vmem S1664x256 .bf16) (harg3 : arg3.IsWhole)
    (arg4 : Memref sig .tc .vmem S1664x512 .bf16) (harg4 : arg4.IsWhole)
    (arg6 : Memref sig .tc .vmem S1664x128 .f32) (harg6 : arg6.IsWhole)
    (arg7 : Memref sig .tc .vmem S1664x128 .f32) (harg7 : arg7.IsWhole)
    (arg8 : Memref sig .tc .vmem S1x8x128 .f32) (harg8 : arg8.IsWhole)
    (x1 : Vec F S1664x256 .bf16) (x2 : Vec F S1664x512 .bf16) (x4 x5 : Vec F S1664x128 .f32) (x6 : Vec F S1x8x128 .f32)
    (xs : Vec F S256x512 .f32) (j : Fin 13) {prev new : Vec F S256x512 .f32} (hp : prev = fwdCarry x1 x2 x4 x5 x6 xs j.val)
    (hn : new = fwdNew (rowsAt arg3 harg3 x1 j) (rowsAt arg4 harg4 x2 j) (rowsAt arg6 harg6 x4 j) (rowsAt arg7 harg7 x5 j)
      (lgAt arg8 harg8 x6) prev) : new = fwdCarry x1 x2 x4 x5 x6 xs (j.val + 1) := by
  rw [hn, hp, rowsAt_eq, rowsAt_eq, rowsAt_eq, rowsAt_eq, lgAt_eq]
  rfl

/-- One store of output rows. -/
theorem fwd_piece (arg2 : Memref sig .tc .vmem S1664x256 .bf16) (harg2 : arg2.IsWhole)
    (arg3 : Memref sig .tc .vmem S1664x256 .bf16) (harg3 : arg3.IsWhole)
    (arg4 : Memref sig .tc .vmem S1664x512 .bf16) (harg4 : arg4.IsWhole)
    (arg5 : Memref sig .tc .vmem S1664x512 .bf16) (harg5 : arg5.IsWhole)
    (arg6 : Memref sig .tc .vmem S1664x128 .f32) (harg6 : arg6.IsWhole)
    (arg7 : Memref sig .tc .vmem S1664x128 .f32) (harg7 : arg7.IsWhole)
    (arg8 : Memref sig .tc .vmem S1x8x128 .f32) (harg8 : arg8.IsWhole)
    (x0 x1 : Vec F S1664x256 .bf16) (x2 x3 : Vec F S1664x512 .bf16) (x4 x5 : Vec F S1664x128 .f32)
    (x6 : Vec F S1x8x128 .f32) (xs : Vec F S256x512 .f32) (j : Fin 13) {prev : Vec F S256x512 .f32}
    {w : Vec F S128x512 .bf16} (hp : prev = fwdCarry x1 x2 x4 x5 x6 xs j.val)
    (hw : w = fwdOut (rowsAt arg2 harg2 x0 j) (rowsAt arg3 harg3 x1 j) (rowsAt arg4 harg4 x2 j) (rowsAt arg5 harg5 x3 j)
      (rowsAt arg6 harg6 x4 j) (rowsAt arg7 harg7 x5 j) (lgAt arg8 harg8 x6) prev)
    (inb : ∀ a, (![128 * j.val, 0] : Fin 2 → ℕ) a + S128x512.size a ≤ S1664x512.size a) :
    ∀ y : (Rect.unit (s := S1664x512) ![128 * j.val, 0] S128x512.size inb).shape.Idx,
      w y = fwdY x0 x1 x2 x3 x4 x5 x6 xs ((Rect.unit (s := S1664x512) ![128 * j.val, 0] S128x512.size inb).emb y) := by
  subst hp
  rw [rowsAt_eq, rowsAt_eq, rowsAt_eq, rowsAt_eq, rowsAt_eq, rowsAt_eq, lgAt_eq] at hw
  refine piece_rows (n := 512) (m := 512) 0 (fwdY x0 x1 x2 x3 x4 x5 x6 xs) w (128 * j.val) inb (fun y h0 h1 => ?_)
  have y0 : (y 0).val < 128 := (y 0).isLt
  have e : (128 * j.val + (y 0).val) / 128 = j.val := by omega
  have e' : (128 * j.val + (y 0).val) % 128 = (y 0).val := by omega
  rw [hw]
  unfold fwdY
  have a0 : ((ix2 (n0 := 1664) (n1 := 512) ⟨128 * j.val + (y 0).val, h0⟩ ⟨0 + (y 1).val, h1⟩) 0).val = 128 * j.val + (y 0).val := rfl
  simp only [a0, e, e']
  refine congrArg _ (funext fun a => Fin.ext ?_)
  fin_cases a
  · rfl
  · exact (Nat.zero_add _).symm

/-- One store of a saved state. -/
theorem save_piece (x1 : Vec F S1664x256 .bf16) (x2 : Vec F S1664x512 .bf16) (x4 x5 : Vec F S1664x128 .f32)
    (x6 : Vec F S1x8x128 .f32) (xs : Vec F S256x512 .f32) (j : Fin 13) {prev : Vec F S256x512 .f32}
    {w : Vec F S1x1x256x512 .bf16} (hp : prev = fwdCarry x1 x2 x4 x5 x6 xs j.val) (hw : w = k0_pay4 prev)
    (inb : ∀ a, (![j.val, 0, 0, 0] : Fin 4 → ℕ) a + S1x1x256x512.size a ≤ S13x1x256x512.size a) :
    ∀ y : (Rect.unit (s := S13x1x256x512) ![j.val, 0, 0, 0] S1x1x256x512.size inb).shape.Idx,
      w y = fwdS x1 x2 x4 x5 x6 xs
        ((Rect.unit (s := S13x1x256x512) ![j.val, 0, 0, 0] S1x1x256x512.size inb).emb y) := by
  subst hp
  intro y
  rw [hw]
  have y0 : (y 0).val < 1 := (y 0).isLt
  have e : (((Rect.unit (s := S13x1x256x512) ![j.val, 0, 0, 0] S1x1x256x512.size inb).emb y) 0).val = j.val := by
    show j.val + 1 * (y 0).val = j.val
    omega
  unfold fwdS
  rw [e]
  refine congrArg _ (funext fun a => Fin.ext ?_)
  fin_cases a
  · show (y 0).val = 0
    omega
  · show (y 1).val = 0 + 1 * (y 1).val
    omega
  · show (y 2).val = 0 + 1 * (y 2).val
    omega
  · show (y 3).val = 0 + 1 * (y 3).val
    omega

section
variable (c : Dev nD) (i : grid0.Coords)
  (arg2 : Memref sig .tc .vmem S1664x256 .bf16) (harg2 : arg2.IsWhole)
  (arg3 : Memref sig .tc .vmem S1664x256 .bf16) (harg3 : arg3.IsWhole)
  (arg4 : Memref sig .tc .vmem S1664x512 .bf16) (harg4 : arg4.IsWhole)
  (arg5 : Memref sig .tc .vmem S1664x512 .bf16) (harg5 : arg5.IsWhole)
  (arg6 : Memref sig .tc .vmem S1664x128 .f32) (harg6 : arg6.IsWhole)
  (arg7 : Memref sig .tc .vmem S1664x128 .f32) (harg7 : arg7.IsWhole)
  (arg8 : Memref sig .tc .vmem S1x8x128 .f32) (harg8 : arg8.IsWhole)
  (arg9 : Memref sig .tc .vmem S1664x512 .bf16) (harg9 : arg9.IsWhole)
  (arg10 : Memref sig .tc .vmem S13x1x256x512 .bf16) (harg10 : arg10.IsWhole)
  (arg11 : Memref sig .tc .vmem S256x512 .f32) (harg11 : arg11.IsWhole)
  (x0 : Vec F S1664x256 .bf16) (x1 : Vec F S1664x256 .bf16) (x2 : Vec F S1664x512 .bf16) (x3 : Vec F S1664x512 .bf16) (x4 : Vec F S1664x128 .f32) (x5 : Vec F S1664x128 .f32) (x6 : Vec F S1x8x128 .f32)

/-- The states a run reads back, chunk by chunk, are the chain of states. -/
theorem fwdRunFirst_states : fwdRunFirst.sl.v3 c arg11 = fwdCarry x1 x2 x4 x5 x6 (k0_pay3 (F := F)) 0
      ∧ fwdRunFirst.sl.v110 c arg3 harg3 arg4 harg4 arg6 harg6 arg7 harg7 arg8 harg8 arg11 x1 x2 x4 x5 x6 = fwdCarry x1 x2 x4 x5 x6 (k0_pay3 (F := F)) 1
      ∧ fwdRunFirst.sl.v217 c arg3 harg3 arg4 harg4 arg6 harg6 arg7 harg7 arg8 harg8 arg11 x1 x2 x4 x5 x6 = fwdCarry x1 x2 x4 x5 x6 (k0_pay3 (F := F)) 2
      ∧ fwdRunFirst.sl.v324 c arg3 harg3 arg4 harg4 arg6 harg6 arg7 harg7 arg8 harg8 arg11 x1 x2 x4 x5 x6 = fwdCarry x1 x2 x4 x5 x6 (k0_pay3 (F := F)) 3
      ∧ fwdRunFirst.sl.v431 c arg3 harg3 arg4 harg4 arg6 harg6 arg7 harg7 arg8 harg8 arg11 x1 x2 x4 x5 x6 = fwdCarry x1 x2 x4 x5 x6 (k0_pay3 (F := F)) 4
      ∧ fwdRunFirst.sl.v538 c arg3 harg3 arg4 harg4 arg6 harg6 arg7 harg7 arg8 harg8 arg11 x1 x2 x4 x5 x6 = fwdCarry x1 x2 x4 x5 x6 (k0_pay3 (F := F)) 5
      ∧ fwdRunFirst.sl.v645 c arg3 harg3 arg4 harg4 arg6 harg6 arg7 harg7 arg8 harg8 arg11 x1 x2 x4 x5 x6 = fwdCarry x1 x2 x4 x5 x6 (k0_pay3 (F := F)) 6
      ∧ fwdRunFirst.sl.v752 c arg3 harg3 arg4 harg4 arg6 harg6 arg7 harg7 arg8 harg8 arg11 x1 x2 x4 x5 x6 = fwdCarry x1 x2 x4 x5 x6 (k0_pay3 (F := F)) 7
      ∧ fwdRunFirst.sl.v859 c arg3 harg3 arg4 harg4 arg6 harg6 arg7 harg7 arg8 harg8 arg11 x1 x2 x4 x5 x6 = fwdCarry x1 x2 x4 x5 x6 (k0_pay3 (F := F)) 8
      ∧ fwdRunFirst.sl.v966 c arg3 harg3 arg4 harg4 arg6 harg6 arg7 harg7 arg8 harg8 arg11 x1 x2 x4 x5 x6 = fwdCarry x1 x2 x4 x5 x6 (k0_pay3 (F := F)) 9
      ∧ fwdRunFirst.sl.v1073 c arg3 harg3 arg4 harg4 arg6 harg6 arg7 harg7 arg8 harg8 arg11 x1 x2 x4 x5 x6 = fwdCarry x1 x2 x4 x5 x6 (k0_pay3 (F := F)) 10
      ∧ fwdRunFirst.sl.v1180 c arg3 harg3 arg4 harg4 arg6 harg6 arg7 harg7 arg8 harg8 arg11 x1 x2 x4 x5 x6 = fwdCarry x1 x2 x4 x5 x6 (k0_pay3 (F := F)) 11
      ∧ fwdRunFirst.sl.v1287 c arg3 harg3 arg4 harg4 arg6 harg6 arg7 harg7 arg8 harg8 arg11 x1 x2 x4 x5 x6 = fwdCarry x1 x2 x4 x5 x6 (k0_pay3 (F := F)) 12 := by
  have h0 : fwdRunFirst.sl.v3 c arg11 = fwdCarry x1 x2 x4 x5 x6 (k0_pay3 (F := F)) 0 := readCov_state arg11 _ _
  have h1 := fwd_step arg3 harg3 arg4 harg4 arg6 harg6 arg7 harg7 arg8 harg8 x1 x2 x4 x5 x6 (k0_pay3 (F := F)) 0 h0
    ((readCov_state arg11 _ _ : fwdRunFirst.sl.v110 c arg3 harg3 arg4 harg4 arg6 harg6 arg7 harg7 arg8 harg8 arg11 x1 x2 x4 x5 x6 = _).trans rfl)
  have h2 := fwd_step arg3 harg3 arg4 harg4 arg6 harg6 arg7 harg7 arg8 harg8 x1 x2 x4 x5 x6 (k0_pay3 (F := F)) 1 h1
    ((readCov_state arg11 _ _ : fwdRunFirst.sl.v217 c arg3 harg3 arg4 harg4 arg6 harg6 arg7 harg7 arg8 harg8 arg11 x1 x2 x4 x5 x6 = _).trans rfl)
  have h3 := fwd_step arg3 harg3 arg4 harg4 arg6 harg6 arg7 harg7 arg8 harg8 x1 x2 x4 x5 x6 (k0_pay3 (F := F)) 2 h2
    ((readCov_state arg11 _ _ : fwdRunFirst.sl.v324 c arg3 harg3 arg4 harg4 arg6 harg6 arg7 harg7 arg8 harg8 arg11 x1 x2 x4 x5 x6 = _).trans rfl)
  have h4 := fwd_step arg3 harg3 arg4 harg4 arg6 harg6 arg7 harg7 arg8 harg8 x1 x2 x4 x5 x6 (k0_pay3 (F := F)) 3 h3
    ((readCov_state arg11 _ _ : fwdRunFirst.sl.v431 c arg3 harg3 arg4 harg4 arg6 harg6 arg7 harg7 arg8 harg8 arg11 x1 x2 x4 x5 x6 = _).trans rfl)
  have h5 := fwd_step arg3 harg3 arg4 harg4 arg6 harg6 arg7 harg7 arg8 harg8 x1 x2 x4 x5 x6 (k0_pay3 (F := F)) 4 h4
    ((readCov_state arg11 _ _ : fwdRunFirst.sl.v538 c arg3 harg3 arg4 harg4 arg6 harg6 arg7 harg7 arg8 harg8 arg11 x1 x2 x4 x5 x6 = _).trans rfl)
  have h6 := fwd_step arg3 harg3 arg4 harg4 arg6 harg6 arg7 harg7 arg8 harg8 x1 x2 x4 x5 x6 (k0_pay3 (F := F)) 5 h5
    ((readCov_state arg11 _ _ : fwdRunFirst.sl.v645 c arg3 harg3 arg4 harg4 arg6 harg6 arg7 harg7 arg8 harg8 arg11 x1 x2 x4 x5 x6 = _).trans rfl)
  have h7 := fwd_step arg3 harg3 arg4 harg4 arg6 harg6 arg7 harg7 arg8 harg8 x1 x2 x4 x5 x6 (k0_pay3 (F := F)) 6 h6
    ((readCov_state arg11 _ _ : fwdRunFirst.sl.v752 c arg3 harg3 arg4 harg4 arg6 harg6 arg7 harg7 arg8 harg8 arg11 x1 x2 x4 x5 x6 = _).trans rfl)
  have h8 := fwd_step arg3 harg3 arg4 harg4 arg6 harg6 arg7 harg7 arg8 harg8 x1 x2 x4 x5 x6 (k0_pay3 (F := F)) 7 h7
    ((readCov_state arg11 _ _ : fwdRunFirst.sl.v859 c arg3 harg3 arg4 harg4 arg6 harg6 arg7 harg7 arg8 harg8 arg11 x1 x2 x4 x5 x6 = _).trans rfl)
  have h9 := fwd_step arg3 harg3 arg4 harg4 arg6 harg6 arg7 harg7 arg8 harg8 x1 x2 x4 x5 x6 (k0_pay3 (F := F)) 8 h8
    ((readCov_state arg11 _ _ : fwdRunFirst.sl.v966 c arg3 harg3 arg4 harg4 arg6 harg6 arg7 harg7 arg8 harg8 arg11 x1 x2 x4 x5 x6 = _).trans rfl)
  have h10 := fwd_step arg3 harg3 arg4 harg4 arg6 harg6 arg7 harg7 arg8 harg8 x1 x2 x4 x5 x6 (k0_pay3 (F := F)) 9 h9
    ((readCov_state arg11 _ _ : fwdRunFirst.sl.v1073 c arg3 harg3 arg4 harg4 arg6 harg6 arg7 harg7 arg8 harg8 arg11 x1 x2 x4 x5 x6 = _).trans rfl)
  have h11 := fwd_step arg3 harg3 arg4 harg4 arg6 harg6 arg7 harg7 arg8 harg8 x1 x2 x4 x5 x6 (k0_pay3 (F := F)) 10 h10
    ((readCov_state arg11 _ _ : fwdRunFirst.sl.v1180 c arg3 harg3 arg4 harg4 arg6 harg6 arg7 harg7 arg8 harg8 arg11 x1 x2 x4 x5 x6 = _).trans rfl)
  have h12 := fwd_step arg3 harg3 arg4 harg4 arg6 harg6 arg7 harg7 arg8 harg8 x1 x2 x4 x5 x6 (k0_pay3 (F := F)) 11 h11
    ((readCov_state arg11 _ _ : fwdRunFirst.sl.v1287 c arg3 harg3 arg4 harg4 arg6 harg6 arg7 harg7 arg8 harg8 arg11 x1 x2 x4 x5 x6 = _).trans rfl)
  exact ⟨h0, h1, h2, h3, h4, h5, h6, h7, h8, h9, h10, h11, h12⟩

/-- The output rows one grid point leaves. -/
theorem fwdRunFirst_Y (hc : cond0 i) : ∀ p ∈ (fwdRunFirst c i arg2 harg2 arg3 harg3 arg4 harg4 arg5 harg5 arg6 harg6 arg7 harg7 arg8 harg8 arg9 harg9 arg10 harg10 arg11 harg11 x0 x1 x2 x3 x4 x5 x6 hc).1, ∀ y, p.2 y = fwdY x0 x1 x2 x3 x4 x5 x6 (k0_pay3 (F := F)) (p.1.emb y) := by
  obtain ⟨h0, h1, h2, h3, h4, h5, h6, h7, h8, h9, h10, h11, h12⟩ := fwdRunFirst_states c arg3 harg3 arg4 harg4 arg6 harg6 arg7 harg7 arg8 harg8 arg11 x1 x2 x4 x5 x6
  unfold fwdRunFirst
  simp only [List.forall_mem_cons]
  exact ⟨fwd_piece arg2 harg2 arg3 harg3 arg4 harg4 arg5 harg5 arg6 harg6 arg7 harg7 arg8 harg8 x0 x1 x2 x3 x4 x5 x6 (k0_pay3 (F := F)) 12 h12 rfl _,
    fwd_piece arg2 harg2 arg3 harg3 arg4 harg4 arg5 harg5 arg6 harg6 arg7 harg7 arg8 harg8 x0 x1 x2 x3 x4 x5 x6 (k0_pay3 (F := F)) 11 h11 rfl _,
    fwd_piece arg2 harg2 arg3 harg3 arg4 harg4 arg5 harg5 arg6 harg6 arg7 harg7 arg8 harg8 x0 x1 x2 x3 x4 x5 x6 (k0_pay3 (F := F)) 10 h10 rfl _,
    fwd_piece arg2 harg2 arg3 harg3 arg4 harg4 arg5 harg5 arg6 harg6 arg7 harg7 arg8 harg8 x0 x1 x2 x3 x4 x5 x6 (k0_pay3 (F := F)) 9 h9 rfl _,
    fwd_piece arg2 harg2 arg3 harg3 arg4 harg4 arg5 harg5 arg6 harg6 arg7 harg7 arg8 harg8 x0 x1 x2 x3 x4 x5 x6 (k0_pay3 (F := F)) 8 h8 rfl _,
    fwd_piece arg2 harg2 arg3 harg3 arg4 harg4 arg5 harg5 arg6 harg6 arg7 harg7 arg8 harg8 x0 x1 x2 x3 x4 x5 x6 (k0_pay3 (F := F)) 7 h7 rfl _,
    fwd_piece arg2 harg2 arg3 harg3 arg4 harg4 arg5 harg5 arg6 harg6 arg7 harg7 arg8 harg8 x0 x1 x2 x3 x4 x5 x6 (k0_pay3 (F := F)) 6 h6 rfl _,
    fwd_piece arg2 harg2 arg3 harg3 arg4 harg4 arg5 harg5 arg6 harg6 arg7 harg7 arg8 harg8 x0 x1 x2 x3 x4 x5 x6 (k0_pay3 (F := F)) 5 h5 rfl _,
    fwd_piece arg2 harg2 arg3 harg3 arg4 harg4 arg5 harg5 arg6 harg6 arg7 harg7 arg8 harg8 x0 x1 x2 x3 x4 x5 x6 (k0_pay3 (F := F)) 4 h4 rfl _,
    fwd_piece arg2 harg2 arg3 harg3 arg4 harg4 arg5 harg5 arg6 harg6 arg7 harg7 arg8 harg8 x0 x1 x2 x3 x4 x5 x6 (k0_pay3 (F := F)) 3 h3 rfl _,
    fwd_piece arg2 harg2 arg3 harg3 arg4 harg4 arg5 harg5 arg6 harg6 arg7 harg7 arg8 harg8 x0 x1 x2 x3 x4 x5 x6 (k0_pay3 (F := F)) 2 h2 rfl _,
    fwd_piece arg2 harg2 arg3 harg3 arg4 harg4 arg5 harg5 arg6 harg6 arg7 harg7 arg8 harg8 x0 x1 x2 x3 x4 x5 x6 (k0_pay3 (F := F)) 1 h1 rfl _,
    fwd_piece arg2 harg2 arg3 harg3 arg4 harg4 arg5 harg5 arg6 harg6 arg7 harg7 arg8 harg8 x0 x1 x2 x3 x4 x5 x6 (k0_pay3 (F := F)) 0 h0 rfl _,
    fun p hp => absurd hp List.not_mem_nil⟩

/-- The saved states one grid point leaves. -/
theorem fwdRunFirst_S (hc : cond0 i) : ∀ p ∈ (fwdRunFirst c i arg2 harg2 arg3 harg3 arg4 harg4 arg5 harg5 arg6 harg6 arg7 harg7 arg8 harg8 arg9 harg9 arg10 harg10 arg11 harg11 x0 x1 x2 x3 x4 x5 x6 hc).2.1, ∀ y, p.2 y = fwdS x1 x2 x4 x5 x6 (k0_pay3 (F := F)) (p.1.emb y) := by
  obtain ⟨h0, h1, h2, h3, h4, h5, h6, h7, h8, h9, h10, h11, h12⟩ := fwdRunFirst_states c arg3 harg3 arg4 harg4 arg6 harg6 arg7 harg7 arg8 harg8 arg11 x1 x2 x4 x5 x6
  unfold fwdRunFirst
  simp only [List.forall_mem_cons]
  exact ⟨save_piece x1 x2 x4 x5 x6 (k0_pay3 (F := F)) 12 h12 rfl _,
    save_piece x1 x2 x4 x5 x6 (k0_pay3 (F := F)) 11 h11 rfl _,
    save_piece x1 x2 x4 x5 x6 (k0_pay3 (F := F)) 10 h10 rfl _,
    save_piece x1 x2 x4 x5 x6 (k0_pay3 (F := F)) 9 h9 rfl _,
    save_piece x1 x2 x4 x5 x6 (k0_pay3 (F := F)) 8 h8 rfl _,
    save_piece x1 x2 x4 x5 x6 (k0_pay3 (F := F)) 7 h7 rfl _,
    save_piece x1 x2 x4 x5 x6 (k0_pay3 (F := F)) 6 h6 rfl _,
    save_piece x1 x2 x4 x5 x6 (k0_pay3 (F := F)) 5 h5 rfl _,
    save_piece x1 x2 x4 x5 x6 (k0_pay3 (F := F)) 4 h4 rfl _,
    save_piece x1 x2 x4 x5 x6 (k0_pay3 (F := F)) 3 h3 rfl _,
    save_piece x1 x2 x4 x5 x6 (k0_pay3 (F := F)) 2 h2 rfl _,
    save_piece x1 x2 x4 x5 x6 (k0_pay3 (F := F)) 1 h1 rfl _,
    save_piece x1 x2 x4 x5 x6 (k0_pay3 (F := F)) 0 h0 rfl _,
    fun p hp => absurd hp List.not_mem_nil⟩

/-- The state one grid point hands on. -/
theorem fwdRunFirst_C (hc : cond0 i) (v : View sig .tc .vmem S256x512 .f32) (f : v.ty.Contents (Elt F)) :
    v.read (Elt F) (v.writes (Elt F) f (fwdRunFirst c i arg2 harg2 arg3 harg3 arg4 harg4 arg5 harg5 arg6 harg6 arg7 harg7 arg8 harg8 arg9 harg9 arg10 harg10 arg11 harg11 x0 x1 x2 x3 x4 x5 x6 hc).2.2.1) = fwdCarry x1 x2 x4 x5 x6 (k0_pay3 (F := F)) 13 := by
  obtain ⟨h0, h1, h2, h3, h4, h5, h6, h7, h8, h9, h10, h11, h12⟩ := fwdRunFirst_states c arg3 harg3 arg4 harg4 arg6 harg6 arg7 harg7 arg8 harg8 arg11 x1 x2 x4 x5 x6
  exact fwd_step arg3 harg3 arg4 harg4 arg6 harg6 arg7 harg7 arg8 harg8 x1 x2 x4 x5 x6 (k0_pay3 (F := F)) 12 h12
    ((writes_state v f _ _).trans rfl)

end

end Cert.Retention

end
-- ==== Proof.FwdValNext.lean ====
module

public import proofs.«01_k».proof.Proof.Chunk
public import proofs.«01_k».proof.Proof.FwdRunNext
public import proofs.«01_k».proof.Proof.FwdValFirst

@[expose] public section

set_option maxRecDepth 16384

noncomputable section

namespace Cert.Retention

open Cert.KernelIdeal Cert.KernelIdeal.Gen
open Idealize.ShloMosaic Idealize.ShloMosaic.TcCoe Idealize.ShloMosaic.Tactic
open Idealize.ShloMosaic.ValueIdx

variable {F : FTy → Type} [FloatOps F]

section
variable (c : Dev nD) (i : grid0.Coords)
  (arg2 : Memref sig .tc .vmem S1664x256 .bf16) (harg2 : arg2.IsWhole)
  (arg3 : Memref sig .tc .vmem S1664x256 .bf16) (harg3 : arg3.IsWhole)
  (arg4 : Memref sig .tc .vmem S1664x512 .bf16) (harg4 : arg4.IsWhole)
  (arg5 : Memref sig .tc .vmem S1664x512 .bf16) (harg5 : arg5.IsWhole)
  (arg6 : Memref sig .tc .vmem S1664x128 .f32) (harg6 : arg6.IsWhole)
  (arg7 : Memref sig .tc .vmem S1664x128 .f32) (harg7 : arg7.IsWhole)
  (arg8 : Memref sig .tc .vmem S1x8x128 .f32) (harg8 : arg8.IsWhole)
  (arg9 : Memref sig .tc .vmem S1664x512 .bf16) (harg9 : arg9.IsWhole)
  (arg10 : Memref sig .tc .vmem S13x1x256x512 .bf16) (harg10 : arg10.IsWhole)
  (arg11 : Memref sig .tc .vmem S256x512 .f32) (harg11 : arg11.IsWhole)
  (x0 : Vec F S1664x256 .bf16) (x1 : Vec F S1664x256 .bf16) (x2 : Vec F S1664x512 .bf16) (x3 : Vec F S1664x512 .bf16) (x4 : Vec F S1664x128 .f32) (x5 : Vec F S1664x128 .f32) (x6 : Vec F S1x8x128 .f32)

/-- The states a run reads back, chunk by chunk, are the chain of states. -/
theorem fwdRunNext_states (xs : Vec F S256x512 .f32) : View.readAt (Elt F) arg11.view wholeState.toLoadRect (harg11.unread xs) = fwdCarry x1 x2 x4 x5 x6 xs 0
      ∧ fwdRunNext.sl.v110 c arg3 harg3 arg4 harg4 arg6 harg6 arg7 harg7 arg8 harg8 arg11 harg11 x1 x2 x4 x5 x6 xs = fwdCarry x1 x2 x4 x5 x6 xs 1
      ∧ fwdRunNext.sl.v217 c arg3 harg3 arg4 harg4 arg6 harg6 arg7 harg7 arg8 harg8 arg11 harg11 x1 x2 x4 x5 x6 xs = fwdCarry x1 x2 x4 x5 x6 xs 2
      ∧ fwdRunNext.sl.v324 c arg3 harg3 arg4 harg4 arg6 harg6 arg7 harg7 arg8 harg8 arg11 harg11 x1 x2 x4 x5 x6 xs = fwdCarry x1 x2 x4 x5 x6 xs 3
      ∧ fwdRunNext.sl.v431 c arg3 harg3 arg4 harg4 arg6 harg6 arg7 harg7 arg8 harg8 arg11 harg11 x1 x2 x4 x5 x6 xs = fwdCarry x1 x2 x4 x5 x6 xs 4
      ∧ fwdRunNext.sl.v538 c arg3 harg3 arg4 harg4 arg6 harg6 arg7 harg7 arg8 harg8 arg11 harg11 x1 x2 x4 x5 x6 xs = fwdCarry x1 x2 x4 x5 x6 xs 5
      ∧ fwdRunNext.sl.v645 c arg3 harg3 arg4 harg4 arg6 harg6 arg7 harg7 arg8 harg8 arg11 harg11 x1 x2 x4 x5 x6 xs = fwdCarry x1 x2 x4 x5 x6 xs 6
      ∧ fwdRunNext.sl.v752 c arg3 harg3 arg4 harg4 arg6 harg6 arg7 harg7 arg8 harg8 arg11 harg11 x1 x2 x4 x5 x6 xs = fwdCarry x1 x2 x4 x5 x6 xs 7
      ∧ fwdRunNext.sl.v859 c arg3 harg3 arg4 harg4 arg6 harg6 arg7 harg7 arg8 harg8 arg11 harg11 x1 x2 x4 x5 x6 xs = fwdCarry x1 x2 x4 x5 x6 xs 8
      ∧ fwdRunNext.sl.v966 c arg3 harg3 arg4 harg4 arg6 harg6 arg7 harg7 arg8 harg8 arg11 harg11 x1 x2 x4 x5 x6 xs = fwdCarry x1 x2 x4 x5 x6 xs 9
      ∧ fwdRunNext.sl.v1073 c arg3 harg3 arg4 harg4 arg6 harg6 arg7 harg7 arg8 harg8 arg11 harg11 x1 x2 x4 x5 x6 xs = fwdCarry x1 x2 x4 x5 x6 xs 10
      ∧ fwdRunNext.sl.v1180 c arg3 harg3 arg4 harg4 arg6 harg6 arg7 harg7 arg8 harg8 arg11 harg11 x1 x2 x4 x5 x6 xs = fwdCarry x1 x2 x4 x5 x6 xs 11
      ∧ fwdRunNext.sl.v1287 c arg3 harg3 arg4 harg4 arg6 harg6 arg7 harg7 arg8 harg8 arg11 harg11 x1 x2 x4 x5 x6 xs = fwdCarry x1 x2 x4 x5 x6 xs 12 := by
  have h0 : View.readAt (Elt F) arg11.view wholeState.toLoadRect (harg11.unread xs) = fwdCarry x1 x2 x4 x5 x6 xs 0 := readAt_state arg11 harg11 xs
  have h1 := fwd_step arg3 harg3 arg4 harg4 arg6 harg6 arg7 harg7 arg8 harg8 x1 x2 x4 x5 x6 xs 0 h0
    ((readCov_state arg11 _ _ : fwdRunNext.sl.v110 c arg3 harg3 arg4 harg4 arg6 harg6 arg7 harg7 arg8 harg8 arg11 harg11 x1 x2 x4 x5 x6 xs = _).trans rfl)
  have h2 := fwd_step arg3 harg3 arg4 harg4 arg6 harg6 arg7 harg7 arg8 harg8 x1 x2 x4 x5 x6 xs 1 h1
    ((readCov_state arg11 _ _ : fwdRunNext.sl.v217 c arg3 harg3 arg4 harg4 arg6 harg6 arg7 harg7 arg8 harg8 arg11 harg11 x1 x2 x4 x5 x6 xs = _).trans rfl)
  have h3 := fwd_step arg3 harg3 arg4 harg4 arg6 harg6 arg7 harg7 arg8 harg8 x1 x2 x4 x5 x6 xs 2 h2
    ((readCov_state arg11 _ _ : fwdRunNext.sl.v324 c arg3 harg3 arg4 harg4 arg6 harg6 arg7 harg7 arg8 harg8 arg11 harg11 x1 x2 x4 x5 x6 xs = _).trans rfl)
  have h4 := fwd_step arg3 harg3 arg4 harg4 arg6 harg6 arg7 harg7 arg8 harg8 x1 x2 x4 x5 x6 xs 3 h3
    ((readCov_state arg11 _ _ : fwdRunNext.sl.v431 c arg3 harg3 arg4 harg4 arg6 harg6 arg7 harg7 arg8 harg8 arg11 harg11 x1 x2 x4 x5 x6 xs = _).trans rfl)
  have h5 := fwd_step arg3 harg3 arg4 harg4 arg6 harg6 arg7 harg7 arg8 harg8 x1 x2 x4 x5 x6 xs 4 h4
    ((readCov_state arg11 _ _ : fwdRunNext.sl.v538 c arg3 harg3 arg4 harg4 arg6 harg6 arg7 harg7 arg8 harg8 arg11 harg11 x1 x2 x4 x5 x6 xs = _).trans rfl)
  have h6 := fwd_step arg3 harg3 arg4 harg4 arg6 harg6 arg7 harg7 arg8 harg8 x1 x2 x4 x5 x6 xs 5 h5
    ((readCov_state arg11 _ _ : fwdRunNext.sl.v645 c arg3 harg3 arg4 harg4 arg6 harg6 arg7 harg7 arg8 harg8 arg11 harg11 x1 x2 x4 x5 x6 xs = _).trans rfl)
  have h7 := fwd_step arg3 harg3 arg4 harg4 arg6 harg6 arg7 harg7 arg8 harg8 x1 x2 x4 x5 x6 xs 6 h6
    ((readCov_state arg11 _ _ : fwdRunNext.sl.v752 c arg3 harg3 arg4 harg4 arg6 harg6 arg7 harg7 arg8 harg8 arg11 harg11 x1 x2 x4 x5 x6 xs = _).trans rfl)
  have h8 := fwd_step arg3 harg3 arg4 harg4 arg6 harg6 arg7 harg7 arg8 harg8 x1 x2 x4 x5 x6 xs 7 h7
    ((readCov_state arg11 _ _ : fwdRunNext.sl.v859 c arg3 harg3 arg4 harg4 arg6 harg6 arg7 harg7 arg8 harg8 arg11 harg11 x1 x2 x4 x5 x6 xs = _).trans rfl)
  have h9 := fwd_step arg3 harg3 arg4 harg4 arg6 harg6 arg7 harg7 arg8 harg8 x1 x2 x4 x5 x6 xs 8 h8
    ((readCov_state arg11 _ _ : fwdRunNext.sl.v966 c arg3 harg3 arg4 harg4 arg6 harg6 arg7 harg7 arg8 harg8 arg11 harg11 x1 x2 x4 x5 x6 xs = _).trans rfl)
  have h10 := fwd_step arg3 harg3 arg4 harg4 arg6 harg6 arg7 harg7 arg8 harg8 x1 x2 x4 x5 x6 xs 9 h9
    ((readCov_state arg11 _ _ : fwdRunNext.sl.v1073 c arg3 harg3 arg4 harg4 arg6 harg6 arg7 harg7 arg8 harg8 arg11 harg11 x1 x2 x4 x5 x6 xs = _).trans rfl)
  have h11 := fwd_step arg3 harg3 arg4 harg4 arg6 harg6 arg7 harg7 arg8 harg8 x1 x2 x4 x5 x6 xs 10 h10
    ((readCov_state arg11 _ _ : fwdRunNext.sl.v1180 c arg3 harg3 arg4 harg4 arg6 harg6 arg7 harg7 arg8 harg8 arg11 harg11 x1 x2 x4 x5 x6 xs = _).trans rfl)
  have h12 := fwd_step arg3 harg3 arg4 harg4 arg6 harg6 arg7 harg7 arg8 harg8 x1 x2 x4 x5 x6 xs 11 h11
    ((readCov_state arg11 _ _ : fwdRunNext.sl.v1287 c arg3 harg3 arg4 harg4 arg6 harg6 arg7 harg7 arg8 harg8 arg11 harg11 x1 x2 x4 x5 x6 xs = _).trans rfl)
  exact ⟨h0, h1, h2, h3, h4, h5, h6, h7, h8, h9, h10, h11, h12⟩

/-- The output rows one grid point leaves. -/
theorem fwdRunNext_Y (hc : ¬cond0 i) (xs : Vec F S256x512 .f32) : ∀ p ∈ (fwdRunNext c i arg2 harg2 arg3 harg3 arg4 harg4 arg5 harg5 arg6 harg6 arg7 harg7 arg8 harg8 arg9 harg9 arg10 harg10 arg11 harg11 x0 x1 x2 x3 x4 x5 x6 hc xs).1, ∀ y, p.2 y = fwdY x0 x1 x2 x3 x4 x5 x6 xs (p.1.emb y) := by
  obtain ⟨h0, h1, h2, h3, h4, h5, h6, h7, h8, h9, h10, h11, h12⟩ := fwdRunNext_states c arg3 harg3 arg4 harg4 arg6 harg6 arg7 harg7 arg8 harg8 arg11 harg11 x1 x2 x4 x5 x6 xs
  unfold fwdRunNext
  simp only [List.forall_mem_cons]
  exact ⟨fwd_piece arg2 harg2 arg3 harg3 arg4 harg4 arg5 harg5 arg6 harg6 arg7 harg7 arg8 harg8 x0 x1 x2 x3 x4 x5 x6 xs 12 h12 rfl _,
    fwd_piece arg2 harg2 arg3 harg3 arg4 harg4 arg5 harg5 arg6 harg6 arg7 harg7 arg8 harg8 x0 x1 x2 x3 x4 x5 x6 xs 11 h11 rfl _,
    fwd_piece arg2 harg2 arg3 harg3 arg4 harg4 arg5 harg5 arg6 harg6 arg7 harg7 arg8 harg8 x0 x1 x2 x3 x4 x5 x6 xs 10 h10 rfl _,
    fwd_piece arg2 harg2 arg3 harg3 arg4 harg4 arg5 harg5 arg6 harg6 arg7 harg7 arg8 harg8 x0 x1 x2 x3 x4 x5 x6 xs 9 h9 rfl _,
    fwd_piece arg2 harg2 arg3 harg3 arg4 harg4 arg5 harg5 arg6 harg6 arg7 harg7 arg8 harg8 x0 x1 x2 x3 x4 x5 x6 xs 8 h8 rfl _,
    fwd_piece arg2 harg2 arg3 harg3 arg4 harg4 arg5 harg5 arg6 harg6 arg7 harg7 arg8 harg8 x0 x1 x2 x3 x4 x5 x6 xs 7 h7 rfl _,
    fwd_piece arg2 harg2 arg3 harg3 arg4 harg4 arg5 harg5 arg6 harg6 arg7 harg7 arg8 harg8 x0 x1 x2 x3 x4 x5 x6 xs 6 h6 rfl _,
    fwd_piece arg2 harg2 arg3 harg3 arg4 harg4 arg5 harg5 arg6 harg6 arg7 harg7 arg8 harg8 x0 x1 x2 x3 x4 x5 x6 xs 5 h5 rfl _,
    fwd_piece arg2 harg2 arg3 harg3 arg4 harg4 arg5 harg5 arg6 harg6 arg7 harg7 arg8 harg8 x0 x1 x2 x3 x4 x5 x6 xs 4 h4 rfl _,
    fwd_piece arg2 harg2 arg3 harg3 arg4 harg4 arg5 harg5 arg6 harg6 arg7 harg7 arg8 harg8 x0 x1 x2 x3 x4 x5 x6 xs 3 h3 rfl _,
    fwd_piece arg2 harg2 arg3 harg3 arg4 harg4 arg5 harg5 arg6 harg6 arg7 harg7 arg8 harg8 x0 x1 x2 x3 x4 x5 x6 xs 2 h2 rfl _,
    fwd_piece arg2 harg2 arg3 harg3 arg4 harg4 arg5 harg5 arg6 harg6 arg7 harg7 arg8 harg8 x0 x1 x2 x3 x4 x5 x6 xs 1 h1 rfl _,
    fwd_piece arg2 harg2 arg3 harg3 arg4 harg4 arg5 harg5 arg6 harg6 arg7 harg7 arg8 harg8 x0 x1 x2 x3 x4 x5 x6 xs 0 h0 rfl _,
    fun p hp => absurd hp List.not_mem_nil⟩

/-- The saved states one grid point leaves. -/
theorem fwdRunNext_S (hc : ¬cond0 i) (xs : Vec F S256x512 .f32) : ∀ p ∈ (fwdRunNext c i arg2 harg2 arg3 harg3 arg4 harg4 arg5 harg5 arg6 harg6 arg7 harg7 arg8 harg8 arg9 harg9 arg10 harg10 arg11 harg11 x0 x1 x2 x3 x4 x5 x6 hc xs).2.1, ∀ y, p.2 y = fwdS x1 x2 x4 x5 x6 xs (p.1.emb y) := by
  obtain ⟨h0, h1, h2, h3, h4, h5, h6, h7, h8, h9, h10, h11, h12⟩ := fwdRunNext_states c arg3 harg3 arg4 harg4 arg6 harg6 arg7 harg7 arg8 harg8 arg11 harg11 x1 x2 x4 x5 x6 xs
  unfold fwdRunNext
  simp only [List.forall_mem_cons]
  exact ⟨save_piece x1 x2 x4 x5 x6 xs 12 h12 rfl _,
    save_piece x1 x2 x4 x5 x6 xs 11 h11 rfl _,
    save_piece x1 x2 x4 x5 x6 xs 10 h10 rfl _,
    save_piece x1 x2 x4 x5 x6 xs 9 h9 rfl _,
    save_piece x1 x2 x4 x5 x6 xs 8 h8 rfl _,
    save_piece x1 x2 x4 x5 x6 xs 7 h7 rfl _,
    save_piece x1 x2 x4 x5 x6 xs 6 h6 rfl _,
    save_piece x1 x2 x4 x5 x6 xs 5 h5 rfl _,
    save_piece x1 x2 x4 x5 x6 xs 4 h4 rfl _,
    save_piece x1 x2 x4 x5 x6 xs 3 h3 rfl _,
    save_piece x1 x2 x4 x5 x6 xs 2 h2 rfl _,
    save_piece x1 x2 x4 x5 x6 xs 1 h1 rfl _,
    save_piece x1 x2 x4 x5 x6 xs 0 h0 rfl _,
    fun p hp => absurd hp List.not_mem_nil⟩

/-- The state one grid point hands on. -/
theorem fwdRunNext_C (hc : ¬cond0 i) (xs : Vec F S256x512 .f32) (v : View sig .tc .vmem S256x512 .f32) (f : v.ty.Contents (Elt F)) :
    v.read (Elt F) (v.writes (Elt F) f (fwdRunNext c i arg2 harg2 arg3 harg3 arg4 harg4 arg5 harg5 arg6 harg6 arg7 harg7 arg8 harg8 arg9 harg9 arg10 harg10 arg11 harg11 x0 x1 x2 x3 x4 x5 x6 hc xs).2.2.1) = fwdCarry x1 x2 x4 x5 x6 xs 13 := by
  obtain ⟨h0, h1, h2, h3, h4, h5, h6, h7, h8, h9, h10, h11, h12⟩ := fwdRunNext_states c arg3 harg3 arg4 harg4 arg6 harg6 arg7 harg7 arg8 harg8 arg11 harg11 x1 x2 x4 x5 x6 xs
  exact fwd_step arg3 harg3 arg4 harg4 arg6 harg6 arg7 harg7 arg8 harg8 x1 x2 x4 x5 x6 xs 12 h12
    ((writes_state v f _ _).trans rfl)

end

end Cert.Retention

end
-- ==== Proof.FwdBody.lean ====
module

public import proofs.«01_k».proof.Proof.FwdValNext

@[expose] public section

set_option maxRecDepth 16384

noncomputable section

namespace Cert.Retention

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (c : Dev nD) (i : grid0.Coords)
  (arg2 : Memref sig .tc .vmem S1664x256 .bf16) (harg2 : arg2.IsWhole)
  (arg3 : Memref sig .tc .vmem S1664x256 .bf16) (harg3 : arg3.IsWhole)
  (arg4 : Memref sig .tc .vmem S1664x512 .bf16) (harg4 : arg4.IsWhole)
  (arg5 : Memref sig .tc .vmem S1664x512 .bf16) (harg5 : arg5.IsWhole)
  (arg6 : Memref sig .tc .vmem S1664x128 .f32) (harg6 : arg6.IsWhole)
  (arg7 : Memref sig .tc .vmem S1664x128 .f32) (harg7 : arg7.IsWhole)
  (arg8 : Memref sig .tc .vmem S1x8x128 .f32) (harg8 : arg8.IsWhole)
  (arg9 : Memref sig .tc .vmem S1664x512 .bf16) (harg9 : arg9.IsWhole)
  (arg10 : Memref sig .tc .vmem S13x1x256x512 .bf16) (harg10 : arg10.IsWhole)
  (arg11 : Memref sig .tc .vmem S256x512 .f32) (harg11 : arg11.IsWhole)
  (x0 : Vec F S1664x256 .bf16) (x1 : Vec F S1664x256 .bf16) (x2 : Vec F S1664x512 .bf16) (x3 : Vec F S1664x512 .bf16) (x4 : Vec F S1664x128 .f32) (x5 : Vec F S1664x128 .f32) (x6 : Vec F S1x8x128 .f32)

/-- The stores of output rows of such a point reach every row of the block. -/
theorem fwdRunFirst_coverY (hc : cond0 i) (y : S1664x512.Idx) : ∃ p ∈ (fwdRunFirst c i arg2 harg2 arg3 harg3 arg4 harg4 arg5 harg5 arg6 harg6 arg7 harg7 arg8 harg8 arg9 harg9 arg10 harg10 arg11 harg11 x0 x1 x2 x3 x4 x5 x6 hc).1, y ∈ p.1.set :=
  View.cover_of_tiledL (fwdRunFirst c i arg2 harg2 arg3 harg3 arg4 harg4 arg5 harg5 arg6 harg6 arg7 harg7 arg8 harg8 arg9 harg9 arg10 harg10 arg11 harg11 x0 x1 x2 x3 x4 x5 x6 hc).1 S128x512.size (by sl_kernel_rfl) y

/-- The stores of saved states of such a point reach the whole block. -/
theorem fwdRunFirst_coverS (hc : cond0 i) (y : S13x1x256x512.Idx) : ∃ p ∈ (fwdRunFirst c i arg2 harg2 arg3 harg3 arg4 harg4 arg5 harg5 arg6 harg6 arg7 harg7 arg8 harg8 arg9 harg9 arg10 harg10 arg11 harg11 x0 x1 x2 x3 x4 x5 x6 hc).2.1, y ∈ p.1.set :=
  View.cover_of_tiledL (fwdRunFirst c i arg2 harg2 arg3 harg3 arg4 harg4 arg5 harg5 arg6 harg6 arg7 harg7 arg8 harg8 arg9 harg9 arg10 harg10 arg11 harg11 x0 x1 x2 x3 x4 x5 x6 hc).2.1 S1x1x256x512.size (by sl_kernel_rfl) y

set_option maxHeartbeats 1600000 in
/-- The first point of a head: the carried state may be anything, and counts as zero. The block of output rows, the block of
    saved states and the carried state are left at their closed forms. -/
theorem fwd_bodyFirst (hc : cond0 i) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
        ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ owns (c : Thread nD τ) arg9 fullShare (fwdY x0 x1 x2 x3 x4 x5 x6 (k0_pay3 (F := F))) ∗ owns (c : Thread nD τ) arg10 fullShare (fwdS x1 x2 x4 x5 x6 (k0_pay3 (F := F)))
            ∗ owns (c : Thread nD τ) arg11 fullShare (fwdCarry x1 x2 x4 x5 x6 (k0_pay3 (F := F)) 13)) -∗ K ⟨⟩))
      ⊢ wp frame (wpE (defs₀ (F := F)) Variants.none c none) E (cc0_ret_fwd i arg2 harg2 arg3 harg3 arg4 harg4 arg5 harg5 arg6 harg6 arg7 harg7 arg8 harg8 arg9 harg9 arg10 harg10 arg11 harg11) K := by
  iintro ⟨H0, H1, H2, H3, H4, H5, H6, H7, H8, HS, Hk⟩
  iapply ((fwdRunFirst c i arg2 harg2 arg3 harg3 arg4 harg4 arg5 harg5 arg6 harg6 arg7 harg7 arg8 harg8 arg9 harg9 arg10 harg10 arg11 harg11 x0 x1 x2 x3 x4 x5 x6 hc).2.2.2 E _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS]; · iexact HS
  iintro ⟨H0, H1, H2, H3, H4, H5, H6, ⟨%e7, H7⟩, ⟨%e8, H8⟩, ⟨%es, HS⟩⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro
    exact funext fun y => View.read_writes_apply_of_pieces arg9.view e7 _ _ (fwdRunFirst_Y c i arg2 harg2 arg3 harg3 arg4 harg4 arg5 harg5 arg6 harg6 arg7 harg7 arg8 harg8 arg9 harg9 arg10 harg10 arg11 harg11 x0 x1 x2 x3 x4 x5 x6 hc) y
      (fwdRunFirst_coverY c i arg2 harg2 arg3 harg3 arg4 harg4 arg5 harg5 arg6 harg6 arg7 harg7 arg8 harg8 arg9 harg9 arg10 harg10 arg11 harg11 x0 x1 x2 x3 x4 x5 x6 hc y)
  isplitl [H8]
  · unfold owns; iexists _; isplitr
    swap; · iexact H8
    ipureintro
    exact funext fun y => View.read_writes_apply_of_pieces arg10.view e8 _ _ (fwdRunFirst_S c i arg2 harg2 arg3 harg3 arg4 harg4 arg5 harg5 arg6 harg6 arg7 harg7 arg8 harg8 arg9 harg9 arg10 harg10 arg11 harg11 x0 x1 x2 x3 x4 x5 x6 hc) y
      (fwdRunFirst_coverS c i arg2 harg2 arg3 harg3 arg4 harg4 arg5 harg5 arg6 harg6 arg7 harg7 arg8 harg8 arg9 harg9 arg10 harg10 arg11 harg11 x0 x1 x2 x3 x4 x5 x6 hc y)
  unfold owns; iexists _; isplitr
  swap; · iexact HS
  ipureintro; exact fwdRunFirst_C c i arg2 harg2 arg3 harg3 arg4 harg4 arg5 harg5 arg6 harg6 arg7 harg7 arg8 harg8 arg9 harg9 arg10 harg10 arg11 harg11 x0 x1 x2 x3 x4 x5 x6 hc arg11.view es

/-- The stores of output rows of such a point reach every row of the block. -/
theorem fwdRunNext_coverY (hc : ¬cond0 i) (xs : Vec F S256x512 .f32) (y : S1664x512.Idx) : ∃ p ∈ (fwdRunNext c i arg2 harg2 arg3 harg3 arg4 harg4 arg5 harg5 arg6 harg6 arg7 harg7 arg8 harg8 arg9 harg9 arg10 harg10 arg11 harg11 x0 x1 x2 x3 x4 x5 x6 hc xs).1, y ∈ p.1.set :=
  View.cover_of_tiledL (fwdRunNext c i arg2 harg2 arg3 harg3 arg4 harg4 arg5 harg5 arg6 harg6 arg7 harg7 arg8 harg8 arg9 harg9 arg10 harg10 arg11 harg11 x0 x1 x2 x3 x4 x5 x6 hc xs).1 S128x512.size (by sl_kernel_rfl) y

/-- The stores of saved states of such a point reach the whole block. -/
theorem fwdRunNext_coverS (hc : ¬cond0 i) (xs : Vec F S256x512 .f32) (y : S13x1x256x512.Idx) : ∃ p ∈ (fwdRunNext c i arg2 harg2 arg3 harg3 arg4 harg4 arg5 harg5 arg6 harg6 arg7 harg7 arg8 harg8 arg9 harg9 arg10 harg10 arg11 harg11 x0 x1 x2 x3 x4 x5 x6 hc xs).2.1, y ∈ p.1.set :=
  View.cover_of_tiledL (fwdRunNext c i arg2 harg2 arg3 harg3 arg4 harg4 arg5 harg5 arg6 harg6 arg7 harg7 arg8 harg8 arg9 harg9 arg10 harg10 arg11 harg11 x0 x1 x2 x3 x4 x5 x6 hc xs).2.1 S1x1x256x512.size (by sl_kernel_rfl) y

set_option maxHeartbeats 1600000 in
/-- A later point of a head: the carried state enters at `xs`. The block of output rows, the block of
    saved states and the carried state are left at their closed forms. -/
theorem fwd_bodyNext (hc : ¬cond0 i) (xs : Vec F S256x512 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
        ∗ (∃ d, owns (c : Thread nD τ) arg9 fullShare d) ∗ (∃ d, owns (c : Thread nD τ) arg10 fullShare d) ∗ owns (c : Thread nD τ) arg11 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ owns (c : Thread nD τ) arg9 fullShare (fwdY x0 x1 x2 x3 x4 x5 x6 xs) ∗ owns (c : Thread nD τ) arg10 fullShare (fwdS x1 x2 x4 x5 x6 xs)
            ∗ owns (c : Thread nD τ) arg11 fullShare (fwdCarry x1 x2 x4 x5 x6 xs 13)) -∗ K ⟨⟩))
      ⊢ wp frame (wpE (defs₀ (F := F)) Variants.none c none) E (cc0_ret_fwd i arg2 harg2 arg3 harg3 arg4 harg4 arg5 harg5 arg6 harg6 arg7 harg7 arg8 harg8 arg9 harg9 arg10 harg10 arg11 harg11) K := by
  iintro ⟨H0, H1, H2, H3, H4, H5, H6, H7, H8, HS, Hk⟩
  iapply ((fwdRunNext c i arg2 harg2 arg3 harg3 arg4 harg4 arg5 harg5 arg6 harg6 arg7 harg7 arg8 harg8 arg9 harg9 arg10 harg10 arg11 harg11 x0 x1 x2 x3 x4 x5 x6 hc xs).2.2.2 E _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS]; · iexact HS
  iintro ⟨H0, H1, H2, H3, H4, H5, H6, ⟨%e7, H7⟩, ⟨%e8, H8⟩, ⟨%es, HS⟩⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro
    exact funext fun y => View.read_writes_apply_of_pieces arg9.view e7 _ _ (fwdRunNext_Y c i arg2 harg2 arg3 harg3 arg4 harg4 arg5 harg5 arg6 harg6 arg7 harg7 arg8 harg8 arg9 harg9 arg10 harg10 arg11 harg11 x0 x1 x2 x3 x4 x5 x6 hc xs) y
      (fwdRunNext_coverY c i arg2 harg2 arg3 harg3 arg4 harg4 arg5 harg5 arg6 harg6 arg7 harg7 arg8 harg8 arg9 harg9 arg10 harg10 arg11 harg11 x0 x1 x2 x3 x4 x5 x6 hc xs y)
  isplitl [H8]
  · unfold owns; iexists _; isplitr
    swap; · iexact H8
    ipureintro
    exact funext fun y => View.read_writes_apply_of_pieces arg10.view e8 _ _ (fwdRunNext_S c i arg2 harg2 arg3 harg3 arg4 harg4 arg5 harg5 arg6 harg6 arg7 harg7 arg8 harg8 arg9 harg9 arg10 harg10 arg11 harg11 x0 x1 x2 x3 x4 x5 x6 hc xs) y
      (fwdRunNext_coverS c i arg2 harg2 arg3 harg3 arg4 harg4 arg5 harg5 arg6 harg6 arg7 harg7 arg8 harg8 arg9 harg9 arg10 harg10 arg11 harg11 x0 x1 x2 x3 x4 x5 x6 hc xs y)
  unfold owns; iexists _; isplitr
  swap; · iexact HS
  ipureintro; exact fwdRunNext_C c i arg2 harg2 arg3 harg3 arg4 harg4 arg5 harg5 arg6 harg6 arg7 harg7 arg8 harg8 arg9 harg9 arg10 harg10 arg11 harg11 x0 x1 x2 x3 x4 x5 x6 hc xs arg11.view es

end

end Cert.Retention
-- ==== Proof.Held.lean ====
module

public import proofs.«01_k».proof.Proof.Chunk
public import Idealize.ShloMosaic.Lib.Pipeline.FrameBody

/-! A buffer a call does not touch. -/

@[expose] public section

noncomputable section

namespace Cert.Retention

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The buffer is held whole, with anything in it. -/
abbrev held (c : Dev nD) (b : Ref sig .tc) : sProp 𝕄 :=
  iprop(∃ f : Buf (Elt F) ((c : Thread nD τ).loc b), ((c : Thread nD τ).loc b) ↦{fullShare} f)

end Cert.Retention
-- ==== Proof.FwdRegion.lean ====
module

public import proofs.«01_k».proof.Proof.FwdBody
public import proofs.«01_k».proof.Proof.Held
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Retention

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-- Window `w`'s block at grid point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each window's buffer at point `t`, which is a whole buffer. -/

abbrev ms0_0 (t : Fin cfg0.N) : Memref sig .tc .vmem S1664x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1664x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1664x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1664x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1664x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1664x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x8x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1664x512 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S13x1x256x512 .bf16 := win0_8.stage (cfg0.slots t 8)
abbrev hs0_8 (t : Fin cfg0.N) : (ms0_8 t).IsWhole := hstage0_8 ((cfg0.slots t 8).cast nbuf0_8)
/-- The carried state's buffer. -/
abbrev scM0_0 : Memref sig .tc .vmem S256x512 .f32 := Memref.whole cc0_scratch0

/-- What the call keeps untouched beside its windows and the carried state: the other call's buffers. -/
def rest0 (c : Dev nD) : sProp 𝕄 :=
  iprop(held c cc1_stg0_0 ∗ held c cc1_stg0_1
    ∗ held c cc1_stg1_0 ∗ held c cc1_stg1_1
    ∗ held c cc1_stg2_0 ∗ held c cc1_stg2_1
    ∗ held c cc1_stg3_0 ∗ held c cc1_stg3_1
    ∗ held c cc1_stg4_0 ∗ held c cc1_stg4_1
    ∗ held c cc1_stg5_0 ∗ held c cc1_stg5_1
    ∗ held c cc1_stg6_0 ∗ held c cc1_stg6_1
    ∗ held c cc1_stg7_0 ∗ held c cc1_stg7_1
    ∗ held c cc1_stg8_0 ∗ held c cc1_stg8_1
    ∗ held c cc1_stg9_0 ∗ held c cc1_stg9_1 ∗ held c cc1_scratch0)

/-- The call's invariant, with the carried state set apart. -/
theorem inv0_eq (c : Dev nD) : (Pipeline.ΦA spec0 c : sProp 𝕄)
    = iprop(((∃ d, owns (c : Thread nD τ) scM0_0 fullShare d) ∗ rest0 (F := F) c) ∗ (∃ r, prngReg c r)) := by
  unfold Pipeline.ΦA rest0; rw [scopedRest0_eq]; simp only [scM0_0, owns_whole]; rfl

theorem inv0_split (c : Dev nD) : (Pipeline.ΦA spec0 c : sProp 𝕄)
    ⊢ iprop(((∃ d, owns (c : Thread nD τ) scM0_0 fullShare d) ∗ rest0 (F := F) c) ∗ (∃ r, prngReg c r)) := by
  rw [inv0_eq]

/-- and put together again. -/
theorem inv0_join (c : Dev nD) :
    iprop(((∃ d, owns (c : Thread nD τ) scM0_0 fullShare d) ∗ rest0 (F := F) c) ∗ (∃ r, prngReg c r))
      ⊢ (Pipeline.ΦA spec0 c : sProp 𝕄) := by
  rw [inv0_eq]

/-- The carried state a grid point starts from: zero at the first point of a head, what the point before left at the others. -/
def enter0 (c : Dev nD) : (n : ℕ) → n < cfg0.N → Vec F S256x512 .f32
  | 0, _ => (k0_pay3 (F := F))
  | n + 1, h => if (n + 1) % 5 = 0 then (k0_pay3 (F := F))
      else fwdCarry (iblk0 V c 1 ⟨n, Nat.lt_of_succ_lt h⟩) (iblk0 V c 2 ⟨n, Nat.lt_of_succ_lt h⟩) (iblk0 V c 4 ⟨n, Nat.lt_of_succ_lt h⟩) (iblk0 V c 5 ⟨n, Nat.lt_of_succ_lt h⟩) (iblk0 V c 6 ⟨n, Nat.lt_of_succ_lt h⟩) (enter0 c n (Nat.lt_of_succ_lt h)) 13

/-- The carried state a grid point leaves. -/
def left0 (c : Dev nD) (n : ℕ) (h : n < cfg0.N) : Vec F S256x512 .f32 :=
  fwdCarry (iblk0 V c 1 ⟨n, h⟩) (iblk0 V c 2 ⟨n, h⟩) (iblk0 V c 4 ⟨n, h⟩) (iblk0 V c 5 ⟨n, h⟩) (iblk0 V c 6 ⟨n, h⟩) (enter0 V c n h) 13

theorem enter0_first (c : Dev nD) (n : ℕ) (h : n < cfg0.N) (h0 : n % 5 = 0) : enter0 V c n h = (k0_pay3 (F := F)) := by
  cases n with
  | zero => rfl
  | succ n => exact if_pos h0

theorem enter0_next (c : Dev nD) (n : ℕ) (h : n + 1 < cfg0.N) (h0 : ¬(n + 1) % 5 = 0) :
    enter0 V c (n + 1) h = left0 V c n (Nat.lt_of_succ_lt h) := if_neg h0

/-- The carried state's buffer before point `n`: anything at the start, then what the point before left. -/
def state0 (c : Dev nD) : (n : ℕ) → n ≤ cfg0.N → sProp 𝕄
  | 0, _ => iprop(∃ d, owns (c : Thread nD τ) scM0_0 fullShare d)
  | n + 1, h => owns (c : Thread nD τ) scM0_0 fullShare (left0 V c n h)

theorem state0_any (c : Dev nD) (n : ℕ) (h : n ≤ cfg0.N) :
    state0 V c n h ⊢ iprop(∃ d, owns (c : Thread nD τ) scM0_0 fullShare d) := by
  cases n with
  | zero => exact .rfl
  | succ n =>
    show owns (c : Thread nD τ) scM0_0 fullShare (left0 V c n h) ⊢ _
    iintro H; iexists _; iexact H

theorem state0_next (c : Dev nD) (t : Fin cfg0.N) (h0 : ¬t.val % 5 = 0) :
    state0 V c t.val (Nat.le_of_lt t.isLt) = owns (c : Thread nD τ) scM0_0 fullShare (enter0 V c t.val t.isLt) := by
  obtain ⟨n, hn⟩ := t
  cases n with
  | zero => exact absurd rfl h0
  | succ n => exact congrArg (fun x => owns (c : Thread nD τ) scM0_0 fullShare x) (enter0_next V c n hn h0).symm

/-- The call's invariant before point `n`. -/
def Inv0 (c : Dev nD) (n : ℕ) (h : n ≤ cfg0.N) : sProp 𝕄 :=
  iprop((state0 V c n h ∗ rest0 (F := F) c) ∗ (∃ r, prngReg c r))

/-- What each window's buffer holds after the body at point `t`, and the invariant between points. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => fwdY (iblk0 V c 0 t) (iblk0 V c 1 t) (iblk0 V c 2 t) (iblk0 V c 3 t) (iblk0 V c 4 t) (iblk0 V c 5 t) (iblk0 V c 6 t) (enter0 V c t.val t.isLt)
    | ⟨8, _⟩ => fwdS (iblk0 V c 1 t) (iblk0 V c 2 t) (iblk0 V c 4 t) (iblk0 V c 5 t) (iblk0 V c 6 t) (enter0 V c t.val t.isLt)
  Φ t := Inv0 V c t.val (Nat.le_of_lt_succ t.isLt)
  q w := Pipeline.shareOf spec0 w
  owed _ := 0

theorem A_eq0 (c : Dev nD) (w : Fin cfg0.W) : (dat0 V c).A w = V c (Pipeline.arrRef spec0 w) := by
  dsimp only [dat0]

theorem Inv0_castSucc (c : Dev nD) (t : Fin cfg0.N) : (dat0 V c).Φ t.castSucc = Inv0 V c t.val (Nat.le_of_lt t.isLt) := by
  dsimp only [dat0]; exact Pipeline.Dat.Φ_castSucc (Inv0 V c) t

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = fwdY (iblk0 V c 0 t) (iblk0 V c 1 t) (iblk0 V c 2 t) (iblk0 V c 3 t) (iblk0 V c 4 t) (iblk0 V c 5 t) (iblk0 V c 6 t) (enter0 V c t.val t.isLt) := by dsimp only [dat0]
theorem after0_8 (c : Dev nD) (t : Fin cfg0.N) : (dat0 V c).after 8 t = fwdS (iblk0 V c 1 t) (iblk0 V c 2 t) (iblk0 V c 4 t) (iblk0 V c 5 t) (iblk0 V c 6 t) (enter0 V c t.val t.isLt) := by dsimp only [dat0]

/-! Each input window holds its block whenever the body runs. -/

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun _ => rfl) t d).trans rfl
theorem before0_3 (c : Dev nD) (t : Fin cfg0.N) (d) : (dat0 V c).before 3 t d = iblk0 V c 3 t :=
  ((dat0 V c).before_in_eq_fetched 3 rfl (fun _ => rfl) (fun _ _ _ => rfl) (fun _ => rfl) t d).trans rfl
theorem before0_4 (c : Dev nD) (t : Fin cfg0.N) (d) : (dat0 V c).before 4 t d = iblk0 V c 4 t :=
  ((dat0 V c).before_in_eq_fetched 4 rfl (fun _ => rfl) (fun _ _ _ => rfl) (fun _ => rfl) t d).trans rfl
theorem before0_5 (c : Dev nD) (t : Fin cfg0.N) (d) : (dat0 V c).before 5 t d = iblk0 V c 5 t :=
  ((dat0 V c).before_in_eq_fetched 5 rfl (fun _ => rfl) (fun _ _ _ => rfl) (fun _ => rfl) t d).trans rfl
theorem before0_6 (c : Dev nD) (t : Fin cfg0.N) (d) : (dat0 V c).before 6 t d = iblk0 V c 6 t :=
  ((dat0 V c).before_in_eq_fetched 6 rfl (fun _ => rfl) (fun _ _ _ => rfl) (fun _ => rfl) t d).trans rfl

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d)))

/-- and what it gives back. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t)
    ∗ owns (c : Thread nD τ) (ms0_8 t) fullShare ((dat0 V c).after 8 t))

set_option maxHeartbeats 3200000 in
/-- The body at the first point of a head. -/
theorem sound_body0First (c : Dev nD) (t : Fin cfg0.N) (h0 : t.val % 5 = 0) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).owesAt () t.succ = (dat0 V c).owesAt () t.castSucc from rfl, Inv0_castSucc,
    show (dat0 V c).Φ t.succ = Inv0 V c (t.val + 1) t.isLt from rfl,
    after0_0, after0_1, after0_2, after0_3, after0_4, after0_5, after0_6, after0_7, after0_8]
  unfold Inv0
  rw [show state0 V c (t.val + 1) t.isLt = owns (c : Thread nD τ) scM0_0 fullShare (fwdCarry (iblk0 V c 1 t) (iblk0 V c 2 t) (iblk0 V c 4 t) (iblk0 V c 5 t) (iblk0 V c 6 t) (enter0 V c t.val t.isLt) 13) from rfl]
  rw [enter0_first V c t.val t.isLt h0]
  iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  ihave HS' := (state0_any V c t.val (Nat.le_of_lt t.isLt)) $$ HS
  iapply (fwd_bodyFirst c (grid0.coords t) _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) ((cond0_iff t).mpr h0) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [HS']; · iexact HS'
  iintro ⟨H0, H1, H2, H3, H4, H5, H6, H7, H8, HS⟩
  isplitl [HS HR Hg]
  · isplitl [HS HR]
    · isplitl [HS]; · iexact HS
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

set_option maxHeartbeats 3200000 in
/-- The body at a later point of a head. -/
theorem sound_body0Next (c : Dev nD) (t : Fin cfg0.N) (h0 : ¬t.val % 5 = 0) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).owesAt () t.succ = (dat0 V c).owesAt () t.castSucc from rfl, Inv0_castSucc,
    show (dat0 V c).Φ t.succ = Inv0 V c (t.val + 1) t.isLt from rfl,
    after0_0, after0_1, after0_2, after0_3, after0_4, after0_5, after0_6, after0_7, after0_8]
  unfold Inv0
  rw [show state0 V c (t.val + 1) t.isLt = owns (c : Thread nD τ) scM0_0 fullShare (fwdCarry (iblk0 V c 1 t) (iblk0 V c 2 t) (iblk0 V c 4 t) (iblk0 V c 5 t) (iblk0 V c 6 t) (enter0 V c t.val t.isLt) 13) from rfl]
  rw [state0_next V c t h0]
  iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (fwd_bodyNext c (grid0.coords t) _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (fun h => h0 ((cond0_iff t).mp h)) (enter0 V c t.val t.isLt) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [HS]; · iexact HS
  iintro ⟨H0, H1, H2, H3, H4, H5, H6, H7, H8, HS⟩
  isplitl [HS HR Hg]
  · isplitl [HS HR]
    · isplitl [HS]; · iexact HS
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem row0 (t : Fin cfg0.N) : defs₀ (F := F) .tc cfg0.body (cfg0.bodyArgs t (cfg0.slots t)) = bodyAt0 t := by
  unfold defs₀; rw [Defs.onTc_tc]

/-- The body keeps the invariant at every point. -/
theorem body_obligation0 (c : Dev nD) : BodyObligation (dat0 (F := F) V c) (defs₀ (F := F)) Variants.none () Set.univ := fun t => by
  rw [bigSep_W0, bigSep_W0, row0]
  by_cases h0 : t.val % 5 = 0
  · exact triple_restated (sound_body0First V c t h0) rfl .rfl fun _ => .rfl
  · exact triple_restated (sound_body0Next V c t h0) rfl .rfl fun _ => .rfl

end Regions

end Cert.Retention
-- ==== Proof.BwdRunFirst.lean ====
module

public import proofs.«01_k».proof.Proof.Setup

@[expose] public section

set_option maxRecDepth 16384

noncomputable section

namespace Cert.Retention

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (c : Dev nD) (i : grid1.Coords)
  (arg2 : Memref sig .tc .vmem S1664x256 .bf16) (harg2 : arg2.IsWhole)
  (arg3 : Memref sig .tc .vmem S1664x256 .bf16) (harg3 : arg3.IsWhole)
  (arg4 : Memref sig .tc .vmem S1664x512 .bf16) (harg4 : arg4.IsWhole)
  (arg5 : Memref sig .tc .vmem S1664x512 .bf16) (harg5 : arg5.IsWhole)
  (arg6 : Memref sig .tc .vmem S1664x128 .f32) (harg6 : arg6.IsWhole)
  (arg7 : Memref sig .tc .vmem S1664x128 .f32) (harg7 : arg7.IsWhole)
  (arg8 : Memref sig .tc .vmem S1x8x128 .f32) (harg8 : arg8.IsWhole)
  (arg9 : Memref sig .tc .vmem S13x1x256x512 .bf16) (harg9 : arg9.IsWhole)
  (arg10 : Memref sig .tc .vmem S1664x512 .bf16) (harg10 : arg10.IsWhole)
  (arg12 : Memref sig .tc .vmem S1664x1536 .bf16) (harg12 : arg12.IsWhole)
  (arg13 : Memref sig .tc .vmem S256x512 .f32) (harg13 : arg13.IsWhole)
  (x0 : Vec F S1664x256 .bf16) (x1 : Vec F S1664x256 .bf16) (x2 : Vec F S1664x512 .bf16) (x3 : Vec F S1664x512 .bf16) (x4 : Vec F S1664x128 .f32) (x5 : Vec F S1664x128 .f32) (x6 : Vec F S1x8x128 .f32) (x7 : Vec F S13x1x256x512 .bf16) (x8 : Vec F S1664x512 .bf16)

set_option maxHeartbeats 2108000 in
/-- One grid point of the backward call, where the carried state is reset (the first point of a head): the stores it leaves
    in its outputs and in the carried state, as lists found by the run, beside the run itself. -/
def bwdRunFirst (hc : cond1 i) :
    Σ' (Lo : List (View.Piece (Elt F) S1664x1536 .bf16)),
    { Lc : List (View.Piece (Elt F) S256x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8
            ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8
                ∗ (∃ f, arg12.view.loc (c : Thread nD τ) ↦[arg12.view.set]{fullShare} arg12.view.writes (Elt F) f Lo) ∗ (∃ f, arg13.view.loc (c : Thread nD τ) ↦[arg13.view.set]{fullShare} arg13.view.writes (Elt F) f Lc)) -∗ K ⟨⟩))
          ⊢ wp frame (wpE (defs₀ (F := F)) Variants.none c none) E
              (cc1_ret_bwd i arg2 harg2 arg3 harg3 arg4 harg4 arg5 harg5 arg6 harg6 arg7 harg7 arg8 harg8 arg9 harg9 arg10 harg10 (Memref.whole main_arg2) (Memref.isWhole_whole _) arg12 harg12 arg13 harg13) K } := by
  refine ⟨?_, ?_, fun E K => ?run⟩
  case run =>
    simp only [cc1_ret_bwd_eq_skeleton]; unfold cc1_ret_bwd_skel
    simp only [k1_part60_eq_skeleton, k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton, k1_part34_eq_skeleton, k1_part35_eq_skeleton, k1_part36_eq_skeleton, k1_part37_eq_skeleton, k1_part38_eq_skeleton, k1_part39_eq_skeleton, k1_part40_eq_skeleton, k1_part41_eq_skeleton, k1_part42_eq_skeleton, k1_part43_eq_skeleton, k1_part44_eq_skeleton, k1_part45_eq_skeleton, k1_part46_eq_skeleton, k1_part47_eq_skeleton, k1_part48_eq_skeleton, k1_part49_eq_skeleton, k1_part50_eq_skeleton, k1_part51_eq_skeleton, k1_part52_eq_skeleton, k1_part53_eq_skeleton, k1_part54_eq_skeleton, k1_part55_eq_skeleton, k1_part56_eq_skeleton, k1_part57_eq_skeleton, k1_part58_eq_skeleton, k1_part59_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    iexists _; iexact HS0

end

end Cert.Retention

end
-- ==== Proof.BwdRunNext.lean ====
module

public import proofs.«01_k».proof.Proof.BwdRunFirst

@[expose] public section

set_option maxRecDepth 16384

noncomputable section

namespace Cert.Retention

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (c : Dev nD) (i : grid1.Coords)
  (arg2 : Memref sig .tc .vmem S1664x256 .bf16) (harg2 : arg2.IsWhole)
  (arg3 : Memref sig .tc .vmem S1664x256 .bf16) (harg3 : arg3.IsWhole)
  (arg4 : Memref sig .tc .vmem S1664x512 .bf16) (harg4 : arg4.IsWhole)
  (arg5 : Memref sig .tc .vmem S1664x512 .bf16) (harg5 : arg5.IsWhole)
  (arg6 : Memref sig .tc .vmem S1664x128 .f32) (harg6 : arg6.IsWhole)
  (arg7 : Memref sig .tc .vmem S1664x128 .f32) (harg7 : arg7.IsWhole)
  (arg8 : Memref sig .tc .vmem S1x8x128 .f32) (harg8 : arg8.IsWhole)
  (arg9 : Memref sig .tc .vmem S13x1x256x512 .bf16) (harg9 : arg9.IsWhole)
  (arg10 : Memref sig .tc .vmem S1664x512 .bf16) (harg10 : arg10.IsWhole)
  (arg12 : Memref sig .tc .vmem S1664x1536 .bf16) (harg12 : arg12.IsWhole)
  (arg13 : Memref sig .tc .vmem S256x512 .f32) (harg13 : arg13.IsWhole)
  (x0 : Vec F S1664x256 .bf16) (x1 : Vec F S1664x256 .bf16) (x2 : Vec F S1664x512 .bf16) (x3 : Vec F S1664x512 .bf16) (x4 : Vec F S1664x128 .f32) (x5 : Vec F S1664x128 .f32) (x6 : Vec F S1x8x128 .f32) (x7 : Vec F S13x1x256x512 .bf16) (x8 : Vec F S1664x512 .bf16)

set_option maxHeartbeats 2108000 in
/-- One grid point of the backward call, where the carried state is taken over from the point before: the stores it leaves
    in its outputs and in the carried state, as lists found by the run, beside the run itself. -/
def bwdRunNext (hc : ¬cond1 i) (xs : Vec F S256x512 .f32) :
    Σ' (Lo : List (View.Piece (Elt F) S1664x1536 .bf16)),
    { Lc : List (View.Piece (Elt F) S256x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8
            ∗ (∃ d, owns (c : Thread nD τ) arg12 fullShare d) ∗ owns (c : Thread nD τ) arg13 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8
                ∗ (∃ f, arg12.view.loc (c : Thread nD τ) ↦[arg12.view.set]{fullShare} arg12.view.writes (Elt F) f Lo) ∗ (∃ f, arg13.view.loc (c : Thread nD τ) ↦[arg13.view.set]{fullShare} arg13.view.writes (Elt F) f Lc)) -∗ K ⟨⟩))
          ⊢ wp frame (wpE (defs₀ (F := F)) Variants.none c none) E
              (cc1_ret_bwd i arg2 harg2 arg3 harg3 arg4 harg4 arg5 harg5 arg6 harg6 arg7 harg7 arg8 harg8 arg9 harg9 arg10 harg10 (Memref.whole main_arg2) (Memref.isWhole_whole _) arg12 harg12 arg13 harg13) K } := by
  refine ⟨?_, ?_, fun E K => ?run⟩
  case run =>
    simp only [cc1_ret_bwd_eq_skeleton]; unfold cc1_ret_bwd_skel
    simp only [k1_part60_eq_skeleton, k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton, k1_part34_eq_skeleton, k1_part35_eq_skeleton, k1_part36_eq_skeleton, k1_part37_eq_skeleton, k1_part38_eq_skeleton, k1_part39_eq_skeleton, k1_part40_eq_skeleton, k1_part41_eq_skeleton, k1_part42_eq_skeleton, k1_part43_eq_skeleton, k1_part44_eq_skeleton, k1_part45_eq_skeleton, k1_part46_eq_skeleton, k1_part47_eq_skeleton, k1_part48_eq_skeleton, k1_part49_eq_skeleton, k1_part50_eq_skeleton, k1_part51_eq_skeleton, k1_part52_eq_skeleton, k1_part53_eq_skeleton, k1_part54_eq_skeleton, k1_part55_eq_skeleton, k1_part56_eq_skeleton, k1_part57_eq_skeleton, k1_part58_eq_skeleton, k1_part59_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg13.eq_unread hfs0
    sl_exec (disch := first | sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    iexists _; iexact HS0

end

end Cert.Retention

end
-- ==== Proof.BwdValFirst.lean ====
module

public import proofs.«01_k».proof.Proof.Chunk
public import proofs.«01_k».proof.Proof.BwdRunFirst

@[expose] public section

set_option maxRecDepth 16384

noncomputable section

namespace Cert.Retention

open Cert.KernelIdeal Cert.KernelIdeal.Gen
open Idealize.ShloMosaic Idealize.ShloMosaic.TcCoe Idealize.ShloMosaic.Tactic
open Idealize.ShloMosaic.ValueIdx

variable {F : FTy → Type} [FloatOps F]

section
variable (arg2 : Memref sig .tc .vmem S1664x256 .bf16) (harg2 : arg2.IsWhole)
    (arg3 : Memref sig .tc .vmem S1664x256 .bf16) (harg3 : arg3.IsWhole)
    (arg4 : Memref sig .tc .vmem S1664x512 .bf16) (harg4 : arg4.IsWhole)
    (arg5 : Memref sig .tc .vmem S1664x512 .bf16) (harg5 : arg5.IsWhole)
    (arg6 : Memref sig .tc .vmem S1664x128 .f32) (harg6 : arg6.IsWhole)
    (arg7 : Memref sig .tc .vmem S1664x128 .f32) (harg7 : arg7.IsWhole)
    (arg8 : Memref sig .tc .vmem S1x8x128 .f32) (harg8 : arg8.IsWhole)
    (arg9 : Memref sig .tc .vmem S13x1x256x512 .bf16) (harg9 : arg9.IsWhole)
    (arg10 : Memref sig .tc .vmem S1664x512 .bf16) (harg10 : arg10.IsWhole)
    (x0 x1 : Vec F S1664x256 .bf16) (x2 x3 : Vec F S1664x512 .bf16) (x4 x5 : Vec F S1664x128 .f32)
    (x6 : Vec F S1x8x128 .f32) (x7 : Vec F S13x1x256x512 .bf16) (x8 : Vec F S1664x512 .bf16) (xs : Vec F S256x512 .f32)

/-- One step of the chain of state gradients through a block, from its last chunk to its first. -/
theorem bwd_step (n : ℕ) (j : Fin 13) (hj : j.val = 12 - n) {prev new : Vec F S256x512 .f32}
    (hp : prev = bwdCarry x0 x1 x2 x3 x4 x5 x6 x7 x8 xs n) (hn : new = bwdPrev (rowsAt arg2 harg2 x0 j) (rowsAt arg3 harg3 x1 j) (rowsAt arg4 harg4 x2 j) (rowsAt arg5 harg5 x3 j)
      (rowsAt arg6 harg6 x4 j) (rowsAt arg7 harg7 x5 j) (lgAt arg8 harg8 x6) (stAt arg9 harg9 x7 j) (rowsAt arg10 harg10 x8 j) prev) : new = bwdCarry x0 x1 x2 x3 x4 x5 x6 x7 x8 xs (n + 1) := by
  rw [hn, hp, rowsAt_eq, rowsAt_eq, rowsAt_eq, rowsAt_eq, rowsAt_eq, rowsAt_eq, rowsAt_eq, lgAt_eq, stAt_eq, hj]
  rfl

/-- One store of the rows of gradient Q. -/
theorem bwd_pieceQ (j : Fin 13) {w : Vec F S128x256 .bf16} (hw : w = bwdQ (rowsAt arg2 harg2 x0 j) (rowsAt arg3 harg3 x1 j) (rowsAt arg4 harg4 x2 j) (rowsAt arg5 harg5 x3 j)
      (rowsAt arg6 harg6 x4 j) (rowsAt arg7 harg7 x5 j) (lgAt arg8 harg8 x6) (stAt arg9 harg9 x7 j) (rowsAt arg10 harg10 x8 j))
    (inb : ∀ a, (![128 * j.val, 0] : Fin 2 → ℕ) a + S128x256.size a ≤ S1664x1536.size a) :
    ∀ y : (Rect.unit (s := S1664x1536) ![128 * j.val, 0] S128x256.size inb).shape.Idx,
      w y = bwdO x0 x1 x2 x3 x4 x5 x6 x7 x8 xs ((Rect.unit (s := S1664x1536) ![128 * j.val, 0] S128x256.size inb).emb y) := by
  rw [rowsAt_eq, rowsAt_eq, rowsAt_eq, rowsAt_eq, rowsAt_eq, rowsAt_eq, rowsAt_eq, lgAt_eq, stAt_eq] at hw
  refine piece_rows (n := 1536) (m := 256) 0 (bwdO x0 x1 x2 x3 x4 x5 x6 x7 x8 xs) w (128 * j.val) inb (fun y h0 h1 => ?_)
  have y0 : (y 0).val < 128 := (y 0).isLt
  have y1 : (y 1).val < 256 := (y 1).isLt
  have e : (128 * j.val + (y 0).val) / 128 = j.val := by omega
  have e' : (128 * j.val + (y 0).val) % 128 = (y 0).val := by omega
  rw [hw]
  unfold bwdO
  have a0 : ((ix2 (n0 := 1664) (n1 := 1536) ⟨128 * j.val + (y 0).val, h0⟩ ⟨0 + (y 1).val, h1⟩) 0).val = 128 * j.val + (y 0).val := rfl
  have a1 : ((ix2 (n0 := 1664) (n1 := 1536) ⟨128 * j.val + (y 0).val, h0⟩ ⟨0 + (y 1).val, h1⟩) 1).val = 0 + (y 1).val := rfl
  simp only [a0, a1, e, e']
  have b1 : 0 + (y 1).val < 256 := by omega
  rw [dif_pos b1]
  refine congrArg _ (funext fun a => Fin.ext ?_)
  fin_cases a
  · rfl
  · show (y 1).val = 0 + (y 1).val
    omega

/-- One store of the rows of gradient K. -/
theorem bwd_pieceK (j : Fin 13) {prev : Vec F S256x512 .f32} (hp : prev = bwdCarry x0 x1 x2 x3 x4 x5 x6 x7 x8 xs (12 - j.val)) {w : Vec F S128x256 .bf16} (hw : w = bwdK (rowsAt arg2 harg2 x0 j) (rowsAt arg3 harg3 x1 j) (rowsAt arg4 harg4 x2 j) (rowsAt arg5 harg5 x3 j)
      (rowsAt arg6 harg6 x4 j) (rowsAt arg7 harg7 x5 j) (lgAt arg8 harg8 x6) (stAt arg9 harg9 x7 j) (rowsAt arg10 harg10 x8 j) prev)
    (inb : ∀ a, (![128 * j.val, 256] : Fin 2 → ℕ) a + S128x256.size a ≤ S1664x1536.size a) :
    ∀ y : (Rect.unit (s := S1664x1536) ![128 * j.val, 256] S128x256.size inb).shape.Idx,
      w y = bwdO x0 x1 x2 x3 x4 x5 x6 x7 x8 xs ((Rect.unit (s := S1664x1536) ![128 * j.val, 256] S128x256.size inb).emb y) := by
  subst hp
  rw [rowsAt_eq, rowsAt_eq, rowsAt_eq, rowsAt_eq, rowsAt_eq, rowsAt_eq, rowsAt_eq, lgAt_eq, stAt_eq] at hw
  refine piece_rows (n := 1536) (m := 256) 256 (bwdO x0 x1 x2 x3 x4 x5 x6 x7 x8 xs) w (128 * j.val) inb (fun y h0 h1 => ?_)
  have y0 : (y 0).val < 128 := (y 0).isLt
  have y1 : (y 1).val < 256 := (y 1).isLt
  have e : (128 * j.val + (y 0).val) / 128 = j.val := by omega
  have e' : (128 * j.val + (y 0).val) % 128 = (y 0).val := by omega
  rw [hw]
  unfold bwdO
  have a0 : ((ix2 (n0 := 1664) (n1 := 1536) ⟨128 * j.val + (y 0).val, h0⟩ ⟨256 + (y 1).val, h1⟩) 0).val = 128 * j.val + (y 0).val := rfl
  have a1 : ((ix2 (n0 := 1664) (n1 := 1536) ⟨128 * j.val + (y 0).val, h0⟩ ⟨256 + (y 1).val, h1⟩) 1).val = 256 + (y 1).val := rfl
  simp only [a0, a1, e, e']
  have b1 : ¬ 256 + (y 1).val < 256 := by omega
  have b2 : 256 + (y 1).val < 512 := by omega
  rw [dif_neg b1, dif_pos b2]
  refine congrArg _ (funext fun a => Fin.ext ?_)
  fin_cases a
  · rfl
  · show (y 1).val = 256 + (y 1).val - 256
    omega

/-- One store of the rows of gradient V. -/
theorem bwd_pieceV (j : Fin 13) {prev : Vec F S256x512 .f32} (hp : prev = bwdCarry x0 x1 x2 x3 x4 x5 x6 x7 x8 xs (12 - j.val)) {w : Vec F S128x512 .bf16} (hw : w = bwdV (rowsAt arg2 harg2 x0 j) (rowsAt arg3 harg3 x1 j) (rowsAt arg4 harg4 x2 j) (rowsAt arg5 harg5 x3 j)
      (rowsAt arg6 harg6 x4 j) (rowsAt arg7 harg7 x5 j) (lgAt arg8 harg8 x6) (stAt arg9 harg9 x7 j) (rowsAt arg10 harg10 x8 j) prev)
    (inb : ∀ a, (![128 * j.val, 512] : Fin 2 → ℕ) a + S128x512.size a ≤ S1664x1536.size a) :
    ∀ y : (Rect.unit (s := S1664x1536) ![128 * j.val, 512] S128x512.size inb).shape.Idx,
      w y = bwdO x0 x1 x2 x3 x4 x5 x6 x7 x8 xs ((Rect.unit (s := S1664x1536) ![128 * j.val, 512] S128x512.size inb).emb y) := by
  subst hp
  rw [rowsAt_eq, rowsAt_eq, rowsAt_eq, rowsAt_eq, rowsAt_eq, rowsAt_eq, rowsAt_eq, lgAt_eq, stAt_eq] at hw
  refine piece_rows (n := 1536) (m := 512) 512 (bwdO x0 x1 x2 x3 x4 x5 x6 x7 x8 xs) w (128 * j.val) inb (fun y h0 h1 => ?_)
  have y0 : (y 0).val < 128 := (y 0).isLt
  have y1 : (y 1).val < 512 := (y 1).isLt
  have e : (128 * j.val + (y 0).val) / 128 = j.val := by omega
  have e' : (128 * j.val + (y 0).val) % 128 = (y 0).val := by omega
  rw [hw]
  unfold bwdO
  have a0 : ((ix2 (n0 := 1664) (n1 := 1536) ⟨128 * j.val + (y 0).val, h0⟩ ⟨512 + (y 1).val, h1⟩) 0).val = 128 * j.val + (y 0).val := rfl
  have a1 : ((ix2 (n0 := 1664) (n1 := 1536) ⟨128 * j.val + (y 0).val, h0⟩ ⟨512 + (y 1).val, h1⟩) 1).val = 512 + (y 1).val := rfl
  simp only [a0, a1, e, e']
  have b1 : ¬ 512 + (y 1).val < 256 := by omega
  have b2 : ¬ 512 + (y 1).val < 512 := by omega
  have b3 : 512 + (y 1).val < 1024 := by omega
  rw [dif_neg b1, dif_neg b2, dif_pos b3]
  refine congrArg _ (funext fun a => Fin.ext ?_)
  fin_cases a
  · rfl
  · show (y 1).val = 512 + (y 1).val - 512
    omega

/-- One store of the rows of gradient G. -/
theorem bwd_pieceG (j : Fin 13) {w : Vec F S128x512 .bf16} (hw : w = bwdG (rowsAt arg2 harg2 x0 j) (rowsAt arg3 harg3 x1 j) (rowsAt arg4 harg4 x2 j) (rowsAt arg5 harg5 x3 j)
      (rowsAt arg6 harg6 x4 j) (rowsAt arg7 harg7 x5 j) (lgAt arg8 harg8 x6) (stAt arg9 harg9 x7 j) (rowsAt arg10 harg10 x8 j))
    (inb : ∀ a, (![128 * j.val, 1024] : Fin 2 → ℕ) a + S128x512.size a ≤ S1664x1536.size a) :
    ∀ y : (Rect.unit (s := S1664x1536) ![128 * j.val, 1024] S128x512.size inb).shape.Idx,
      w y = bwdO x0 x1 x2 x3 x4 x5 x6 x7 x8 xs ((Rect.unit (s := S1664x1536) ![128 * j.val, 1024] S128x512.size inb).emb y) := by
  rw [rowsAt_eq, rowsAt_eq, rowsAt_eq, rowsAt_eq, rowsAt_eq, rowsAt_eq, rowsAt_eq, lgAt_eq, stAt_eq] at hw
  refine piece_rows (n := 1536) (m := 512) 1024 (bwdO x0 x1 x2 x3 x4 x5 x6 x7 x8 xs) w (128 * j.val) inb (fun y h0 h1 => ?_)
  have y0 : (y 0).val < 128 := (y 0).isLt
  have y1 : (y 1).val < 512 := (y 1).isLt
  have e : (128 * j.val + (y 0).val) / 128 = j.val := by omega
  have e' : (128 * j.val + (y 0).val) % 128 = (y 0).val := by omega
  rw [hw]
  unfold bwdO
  have a0 : ((ix2 (n0 := 1664) (n1 := 1536) ⟨128 * j.val + (y 0).val, h0⟩ ⟨1024 + (y 1).val, h1⟩) 0).val = 128 * j.val + (y 0).val := rfl
  have a1 : ((ix2 (n0 := 1664) (n1 := 1536) ⟨128 * j.val + (y 0).val, h0⟩ ⟨1024 + (y 1).val, h1⟩) 1).val = 1024 + (y 1).val := rfl
  simp only [a0, a1, e, e']
  have b1 : ¬ 1024 + (y 1).val < 256 := by omega
  have b2 : ¬ 1024 + (y 1).val < 512 := by omega
  have b3 : ¬ 1024 + (y 1).val < 1024 := by omega
  rw [dif_neg b1, dif_neg b2, dif_neg b3]
  refine congrArg _ (funext fun a => Fin.ext ?_)
  fin_cases a
  · rfl
  · show (y 1).val = 1024 + (y 1).val - 1024
    omega

end

section
variable (c : Dev nD) (i : grid1.Coords)
  (arg2 : Memref sig .tc .vmem S1664x256 .bf16) (harg2 : arg2.IsWhole)
  (arg3 : Memref sig .tc .vmem S1664x256 .bf16) (harg3 : arg3.IsWhole)
  (arg4 : Memref sig .tc .vmem S1664x512 .bf16) (harg4 : arg4.IsWhole)
  (arg5 : Memref sig .tc .vmem S1664x512 .bf16) (harg5 : arg5.IsWhole)
  (arg6 : Memref sig .tc .vmem S1664x128 .f32) (harg6 : arg6.IsWhole)
  (arg7 : Memref sig .tc .vmem S1664x128 .f32) (harg7 : arg7.IsWhole)
  (arg8 : Memref sig .tc .vmem S1x8x128 .f32) (harg8 : arg8.IsWhole)
  (arg9 : Memref sig .tc .vmem S13x1x256x512 .bf16) (harg9 : arg9.IsWhole)
  (arg10 : Memref sig .tc .vmem S1664x512 .bf16) (harg10 : arg10.IsWhole)
  (arg12 : Memref sig .tc .vmem S1664x1536 .bf16) (harg12 : arg12.IsWhole)
  (arg13 : Memref sig .tc .vmem S256x512 .f32) (harg13 : arg13.IsWhole)
  (x0 : Vec F S1664x256 .bf16) (x1 : Vec F S1664x256 .bf16) (x2 : Vec F S1664x512 .bf16) (x3 : Vec F S1664x512 .bf16) (x4 : Vec F S1664x128 .f32) (x5 : Vec F S1664x128 .f32) (x6 : Vec F S1x8x128 .f32) (x7 : Vec F S13x1x256x512 .bf16) (x8 : Vec F S1664x512 .bf16)

/-- The state gradients a run reads back, chunk by chunk, are the chain of them. -/
theorem bwdRunFirst_states : bwdRunFirst.sl.v105 c arg13 = bwdCarry x0 x1 x2 x3 x4 x5 x6 x7 x8 (k1_pay4 (F := F)) 0
      ∧ bwdRunFirst.sl.v309 c arg2 harg2 arg3 harg3 arg4 harg4 arg5 harg5 arg6 harg6 arg7 harg7 arg8 harg8 arg9 harg9 arg10 harg10 arg13 x0 x1 x2 x3 x4 x5 x6 x7 x8 = bwdCarry x0 x1 x2 x3 x4 x5 x6 x7 x8 (k1_pay4 (F := F)) 1
      ∧ bwdRunFirst.sl.v513 c arg2 harg2 arg3 harg3 arg4 harg4 arg5 harg5 arg6 harg6 arg7 harg7 arg8 harg8 arg9 harg9 arg10 harg10 arg13 x0 x1 x2 x3 x4 x5 x6 x7 x8 = bwdCarry x0 x1 x2 x3 x4 x5 x6 x7 x8 (k1_pay4 (F := F)) 2
      ∧ bwdRunFirst.sl.v717 c arg2 harg2 arg3 harg3 arg4 harg4 arg5 harg5 arg6 harg6 arg7 harg7 arg8 harg8 arg9 harg9 arg10 harg10 arg13 x0 x1 x2 x3 x4 x5 x6 x7 x8 = bwdCarry x0 x1 x2 x3 x4 x5 x6 x7 x8 (k1_pay4 (F := F)) 3
      ∧ bwdRunFirst.sl.v921 c arg2 harg2 arg3 harg3 arg4 harg4 arg5 harg5 arg6 harg6 arg7 harg7 arg8 harg8 arg9 harg9 arg10 harg10 arg13 x0 x1 x2 x3 x4 x5 x6 x7 x8 = bwdCarry x0 x1 x2 x3 x4 x5 x6 x7 x8 (k1_pay4 (F := F)) 4
      ∧ bwdRunFirst.sl.v1125 c arg2 harg2 arg3 harg3 arg4 harg4 arg5 harg5 arg6 harg6 arg7 harg7 arg8 harg8 arg9 harg9 arg10 harg10 arg13 x0 x1 x2 x3 x4 x5 x6 x7 x8 = bwdCarry x0 x1 x2 x3 x4 x5 x6 x7 x8 (k1_pay4 (F := F)) 5
      ∧ bwdRunFirst.sl.v1329 c arg2 harg2 arg3 harg3 arg4 harg4 arg5 harg5 arg6 harg6 arg7 harg7 arg8 harg8 arg9 harg9 arg10 harg10 arg13 x0 x1 x2 x3 x4 x5 x6 x7 x8 = bwdCarry x0 x1 x2 x3 x4 x5 x6 x7 x8 (k1_pay4 (F := F)) 6
      ∧ bwdRunFirst.sl.v1533 c arg2 harg2 arg3 harg3 arg4 harg4 arg5 harg5 arg6 harg6 arg7 harg7 arg8 harg8 arg9 harg9 arg10 harg10 arg13 x0 x1 x2 x3 x4 x5 x6 x7 x8 = bwdCarry x0 x1 x2 x3 x4 x5 x6 x7 x8 (k1_pay4 (F := F)) 7
      ∧ bwdRunFirst.sl.v1737 c arg2 harg2 arg3 harg3 arg4 harg4 arg5 harg5 arg6 harg6 arg7 harg7 arg8 harg8 arg9 harg9 arg10 harg10 arg13 x0 x1 x2 x3 x4 x5 x6 x7 x8 = bwdCarry x0 x1 x2 x3 x4 x5 x6 x7 x8 (k1_pay4 (F := F)) 8
      ∧ bwdRunFirst.sl.v1941 c arg2 harg2 arg3 harg3 arg4 harg4 arg5 harg5 arg6 harg6 arg7 harg7 arg8 harg8 arg9 harg9 arg10 harg10 arg13 x0 x1 x2 x3 x4 x5 x6 x7 x8 = bwdCarry x0 x1 x2 x3 x4 x5 x6 x7 x8 (k1_pay4 (F := F)) 9
      ∧ bwdRunFirst.sl.v2145 c arg2 harg2 arg3 harg3 arg4 harg4 arg5 harg5 arg6 harg6 arg7 harg7 arg8 harg8 arg9 harg9 arg10 harg10 arg13 x0 x1 x2 x3 x4 x5 x6 x7 x8 = bwdCarry x0 x1 x2 x3 x4 x5 x6 x7 x8 (k1_pay4 (F := F)) 10
      ∧ bwdRunFirst.sl.v2349 c arg2 harg2 arg3 harg3 arg4 harg4 arg5 harg5 arg6 harg6 arg7 harg7 arg8 harg8 arg9 harg9 arg10 harg10 arg13 x0 x1 x2 x3 x4 x5 x6 x7 x8 = bwdCarry x0 x1 x2 x3 x4 x5 x6 x7 x8 (k1_pay4 (F := F)) 11
      ∧ bwdRunFirst.sl.v2553 c arg2 harg2 arg3 harg3 arg4 harg4 arg5 harg5 arg6 harg6 arg7 harg7 arg8 harg8 arg9 harg9 arg10 harg10 arg13 x0 x1 x2 x3 x4 x5 x6 x7 x8 = bwdCarry x0 x1 x2 x3 x4 x5 x6 x7 x8 (k1_pay4 (F := F)) 12 := by
  have h0 : bwdRunFirst.sl.v105 c arg13 = bwdCarry x0 x1 x2 x3 x4 x5 x6 x7 x8 (k1_pay4 (F := F)) 0 := readCov_state arg13 _ _
  have h1 := bwd_step arg2 harg2 arg3 harg3 arg4 harg4 arg5 harg5 arg6 harg6 arg7 harg7 arg8 harg8 arg9 harg9 arg10 harg10 x0 x1 x2 x3 x4 x5 x6 x7 x8 (k1_pay4 (F := F)) 0 12 rfl h0
    ((readCov_state arg13 _ _ : bwdRunFirst.sl.v309 c arg2 harg2 arg3 harg3 arg4 harg4 arg5 harg5 arg6 harg6 arg7 harg7 arg8 harg8 arg9 harg9 arg10 harg10 arg13 x0 x1 x2 x3 x4 x5 x6 x7 x8 = _).trans rfl)
  have h2 := bwd_step arg2 harg2 arg3 harg3 arg4 harg4 arg5 harg5 arg6 harg6 arg7 harg7 arg8 harg8 arg9 harg9 arg10 harg10 x0 x1 x2 x3 x4 x5 x6 x7 x8 (k1_pay4 (F := F)) 1 11 rfl h1
    ((readCov_state arg13 _ _ : bwdRunFirst.sl.v513 c arg2 harg2 arg3 harg3 arg4 harg4 arg5 harg5 arg6 harg6 arg7 harg7 arg8 harg8 arg9 harg9 arg10 harg10 arg13 x0 x1 x2 x3 x4 x5 x6 x7 x8 = _).trans rfl)
  have h3 := bwd_step arg2 harg2 arg3 harg3 arg4 harg4 arg5 harg5 arg6 harg6 arg7 harg7 arg8 harg8 arg9 harg9 arg10 harg10 x0 x1 x2 x3 x4 x5 x6 x7 x8 (k1_pay4 (F := F)) 2 10 rfl h2
    ((readCov_state arg13 _ _ : bwdRunFirst.sl.v717 c arg2 harg2 arg3 harg3 arg4 harg4 arg5 harg5 arg6 harg6 arg7 harg7 arg8 harg8 arg9 harg9 arg10 harg10 arg13 x0 x1 x2 x3 x4 x5 x6 x7 x8 = _).trans rfl)
  have h4 := bwd_step arg2 harg2 arg3 harg3 arg4 harg4 arg5 harg5 arg6 harg6 arg7 harg7 arg8 harg8 arg9 harg9 arg10 harg10 x0 x1 x2 x3 x4 x5 x6 x7 x8 (k1_pay4 (F := F)) 3 9 rfl h3
    ((readCov_state arg13 _ _ : bwdRunFirst.sl.v921 c arg2 harg2 arg3 harg3 arg4 harg4 arg5 harg5 arg6 harg6 arg7 harg7 arg8 harg8 arg9 harg9 arg10 harg10 arg13 x0 x1 x2 x3 x4 x5 x6 x7 x8 = _).trans rfl)
  have h5 := bwd_step arg2 harg2 arg3 harg3 arg4 harg4 arg5 harg5 arg6 harg6 arg7 harg7 arg8 harg8 arg9 harg9 arg10 harg10 x0 x1 x2 x3 x4 x5 x6 x7 x8 (k1_pay4 (F := F)) 4 8 rfl h4
    ((readCov_state arg13 _ _ : bwdRunFirst.sl.v1125 c arg2 harg2 arg3 harg3 arg4 harg4 arg5 harg5 arg6 harg6 arg7 harg7 arg8 harg8 arg9 harg9 arg10 harg10 arg13 x0 x1 x2 x3 x4 x5 x6 x7 x8 = _).trans rfl)
  have h6 := bwd_step arg2 harg2 arg3 harg3 arg4 harg4 arg5 harg5 arg6 harg6 arg7 harg7 arg8 harg8 arg9 harg9 arg10 harg10 x0 x1 x2 x3 x4 x5 x6 x7 x8 (k1_pay4 (F := F)) 5 7 rfl h5
    ((readCov_state arg13 _ _ : bwdRunFirst.sl.v1329 c arg2 harg2 arg3 harg3 arg4 harg4 arg5 harg5 arg6 harg6 arg7 harg7 arg8 harg8 arg9 harg9 arg10 harg10 arg13 x0 x1 x2 x3 x4 x5 x6 x7 x8 = _).trans rfl)
  have h7 := bwd_step arg2 harg2 arg3 harg3 arg4 harg4 arg5 harg5 arg6 harg6 arg7 harg7 arg8 harg8 arg9 harg9 arg10 harg10 x0 x1 x2 x3 x4 x5 x6 x7 x8 (k1_pay4 (F := F)) 6 6 rfl h6
    ((readCov_state arg13 _ _ : bwdRunFirst.sl.v1533 c arg2 harg2 arg3 harg3 arg4 harg4 arg5 harg5 arg6 harg6 arg7 harg7 arg8 harg8 arg9 harg9 arg10 harg10 arg13 x0 x1 x2 x3 x4 x5 x6 x7 x8 = _).trans rfl)
  have h8 := bwd_step arg2 harg2 arg3 harg3 arg4 harg4 arg5 harg5 arg6 harg6 arg7 harg7 arg8 harg8 arg9 harg9 arg10 harg10 x0 x1 x2 x3 x4 x5 x6 x7 x8 (k1_pay4 (F := F)) 7 5 rfl h7
    ((readCov_state arg13 _ _ : bwdRunFirst.sl.v1737 c arg2 harg2 arg3 harg3 arg4 harg4 arg5 harg5 arg6 harg6 arg7 harg7 arg8 harg8 arg9 harg9 arg10 harg10 arg13 x0 x1 x2 x3 x4 x5 x6 x7 x8 = _).trans rfl)
  have h9 := bwd_step arg2 harg2 arg3 harg3 arg4 harg4 arg5 harg5 arg6 harg6 arg7 harg7 arg8 harg8 arg9 harg9 arg10 harg10 x0 x1 x2 x3 x4 x5 x6 x7 x8 (k1_pay4 (F := F)) 8 4 rfl h8
    ((readCov_state arg13 _ _ : bwdRunFirst.sl.v1941 c arg2 harg2 arg3 harg3 arg4 harg4 arg5 harg5 arg6 harg6 arg7 harg7 arg8 harg8 arg9 harg9 arg10 harg10 arg13 x0 x1 x2 x3 x4 x5 x6 x7 x8 = _).trans rfl)
  have h10 := bwd_step arg2 harg2 arg3 harg3 arg4 harg4 arg5 harg5 arg6 harg6 arg7 harg7 arg8 harg8 arg9 harg9 arg10 harg10 x0 x1 x2 x3 x4 x5 x6 x7 x8 (k1_pay4 (F := F)) 9 3 rfl h9
    ((readCov_state arg13 _ _ : bwdRunFirst.sl.v2145 c arg2 harg2 arg3 harg3 arg4 harg4 arg5 harg5 arg6 harg6 arg7 harg7 arg8 harg8 arg9 harg9 arg10 harg10 arg13 x0 x1 x2 x3 x4 x5 x6 x7 x8 = _).trans rfl)
  have h11 := bwd_step arg2 harg2 arg3 harg3 arg4 harg4 arg5 harg5 arg6 harg6 arg7 harg7 arg8 harg8 arg9 harg9 arg10 harg10 x0 x1 x2 x3 x4 x5 x6 x7 x8 (k1_pay4 (F := F)) 10 2 rfl h10
    ((readCov_state arg13 _ _ : bwdRunFirst.sl.v2349 c arg2 harg2 arg3 harg3 arg4 harg4 arg5 harg5 arg6 harg6 arg7 harg7 arg8 harg8 arg9 harg9 arg10 harg10 arg13 x0 x1 x2 x3 x4 x5 x6 x7 x8 = _).trans rfl)
  have h12 := bwd_step arg2 harg2 arg3 harg3 arg4 harg4 arg5 harg5 arg6 harg6 arg7 harg7 arg8 harg8 arg9 harg9 arg10 harg10 x0 x1 x2 x3 x4 x5 x6 x7 x8 (k1_pay4 (F := F)) 11 1 rfl h11
    ((readCov_state arg13 _ _ : bwdRunFirst.sl.v2553 c arg2 harg2 arg3 harg3 arg4 harg4 arg5 harg5 arg6 harg6 arg7 harg7 arg8 harg8 arg9 harg9 arg10 harg10 arg13 x0 x1 x2 x3 x4 x5 x6 x7 x8 = _).trans rfl)
  exact ⟨h0, h1, h2, h3, h4, h5, h6, h7, h8, h9, h10, h11, h12⟩

set_option maxHeartbeats 1600000 in
/-- The gradient rows one grid point leaves. -/
theorem bwdRunFirst_O (hc : cond1 i) : ∀ p ∈ (bwdRunFirst c i arg2 harg2 arg3 harg3 arg4 harg4 arg5 harg5 arg6 harg6 arg7 harg7 arg8 harg8 arg9 harg9 arg10 harg10 arg12 harg12 arg13 harg13 x0 x1 x2 x3 x4 x5 x6 x7 x8 hc).1, ∀ y, p.2 y = bwdO x0 x1 x2 x3 x4 x5 x6 x7 x8 (k1_pay4 (F := F)) (p.1.emb y) := by
  obtain ⟨h0, h1, h2, h3, h4, h5, h6, h7, h8, h9, h10, h11, h12⟩ := bwdRunFirst_states c arg2 harg2 arg3 harg3 arg4 harg4 arg5 harg5 arg6 harg6 arg7 harg7 arg8 harg8 arg9 harg9 arg10 harg10 arg13 x0 x1 x2 x3 x4 x5 x6 x7 x8
  unfold bwdRunFirst
  simp only [List.forall_mem_cons]
  exact ⟨bwd_pieceG arg2 harg2 arg3 harg3 arg4 harg4 arg5 harg5 arg6 harg6 arg7 harg7 arg8 harg8 arg9 harg9 arg10 harg10 x0 x1 x2 x3 x4 x5 x6 x7 x8 (k1_pay4 (F := F)) 0 rfl _,
    bwd_pieceV arg2 harg2 arg3 harg3 arg4 harg4 arg5 harg5 arg6 harg6 arg7 harg7 arg8 harg8 arg9 harg9 arg10 harg10 x0 x1 x2 x3 x4 x5 x6 x7 x8 (k1_pay4 (F := F)) 0 h12 rfl _,
    bwd_pieceK arg2 harg2 arg3 harg3 arg4 harg4 arg5 harg5 arg6 harg6 arg7 harg7 arg8 harg8 arg9 harg9 arg10 harg10 x0 x1 x2 x3 x4 x5 x6 x7 x8 (k1_pay4 (F := F)) 0 h12 rfl _,
    bwd_pieceQ arg2 harg2 arg3 harg3 arg4 harg4 arg5 harg5 arg6 harg6 arg7 harg7 arg8 harg8 arg9 harg9 arg10 harg10 x0 x1 x2 x3 x4 x5 x6 x7 x8 (k1_pay4 (F := F)) 0 rfl _,
    bwd_pieceG arg2 harg2 arg3 harg3 arg4 harg4 arg5 harg5 arg6 harg6 arg7 harg7 arg8 harg8 arg9 harg9 arg10 harg10 x0 x1 x2 x3 x4 x5 x6 x7 x8 (k1_pay4 (F := F)) 1 rfl _,
    bwd_pieceV arg2 harg2 arg3 harg3 arg4 harg4 arg5 harg5 arg6 harg6 arg7 harg7 arg8 harg8 arg9 harg9 arg10 harg10 x0 x1 x2 x3 x4 x5 x6 x7 x8 (k1_pay4 (F := F)) 1 h11 rfl _,
    bwd_pieceK arg2 harg2 arg3 harg3 arg4 harg4 arg5 harg5 arg6 harg6 arg7 harg7 arg8 harg8 arg9 harg9 arg10 harg10 x0 x1 x2 x3 x4 x5 x6 x7 x8 (k1_pay4 (F := F)) 1 h11 rfl _,
    bwd_pieceQ arg2 harg2 arg3 harg3 arg4 harg4 arg5 harg5 arg6 harg6 arg7 harg7 arg8 harg8 arg9 harg9 arg10 harg10 x0 x1 x2 x3 x4 x5 x6 x7 x8 (k1_pay4 (F := F)) 1 rfl _,
    bwd_pieceG arg2 harg2 arg3 harg3 arg4 harg4 arg5 harg5 arg6 harg6 arg7 harg7 arg8 harg8 arg9 harg9 arg10 harg10 x0 x1 x2 x3 x4 x5 x6 x7 x8 (k1_pay4 (F := F)) 2 rfl _,
    bwd_pieceV arg2 harg2 arg3 harg3 arg4 harg4 arg5 harg5 arg6 harg6 arg7 harg7 arg8 harg8 arg9 harg9 arg10 harg10 x0 x1 x2 x3 x4 x5 x6 x7 x8 (k1_pay4 (F := F)) 2 h10 rfl _,
    bwd_pieceK arg2 harg2 arg3 harg3 arg4 harg4 arg5 harg5 arg6 harg6 arg7 harg7 arg8 harg8 arg9 harg9 arg10 harg10 x0 x1 x2 x3 x4 x5 x6 x7 x8 (k1_pay4 (F := F)) 2 h10 rfl _,
    bwd_pieceQ arg2 harg2 arg3 harg3 arg4 harg4 arg5 harg5 arg6 harg6 arg7 harg7 arg8 harg8 arg9 harg9 arg10 harg10 x0 x1 x2 x3 x4 x5 x6 x7 x8 (k1_pay4 (F := F)) 2 rfl _,
    bwd_pieceG arg2 harg2 arg3 harg3 arg4 harg4 arg5 harg5 arg6 harg6 arg7 harg7 arg8 harg8 arg9 harg9 arg10 harg10 x0 x1 x2 x3 x4 x5 x6 x7 x8 (k1_pay4 (F := F)) 3 rfl _,
    bwd_pieceV arg2 harg2 arg3 harg3 arg4 harg4 arg5 harg5 arg6 harg6 arg7 harg7 arg8 harg8 arg9 harg9 arg10 harg10 x0 x1 x2 x3 x4 x5 x6 x7 x8 (k1_pay4 (F := F)) 3 h9 rfl _,
    bwd_pieceK arg2 harg2 arg3 harg3 arg4 harg4 arg5 harg5 arg6 harg6 arg7 harg7 arg8 harg8 arg9 harg9 arg10 harg10 x0 x1 x2 x3 x4 x5 x6 x7 x8 (k1_pay4 (F := F)) 3 h9 rfl _,
    bwd_pieceQ arg2 harg2 arg3 harg3 arg4 harg4 arg5 harg5 arg6 harg6 arg7 harg7 arg8 harg8 arg9 harg9 arg10 harg10 x0 x1 x2 x3 x4 x5 x6 x7 x8 (k1_pay4 (F := F)) 3 rfl _,
    bwd_pieceG arg2 harg2 arg3 harg3 arg4 harg4 arg5 harg5 arg6 harg6 arg7 harg7 arg8 harg8 arg9 harg9 arg10 harg10 x0 x1 x2 x3 x4 x5 x6 x7 x8 (k1_pay4 (F := F)) 4 rfl _,
    bwd_pieceV arg2 harg2 arg3 harg3 arg4 harg4 arg5 harg5 arg6 harg6 arg7 harg7 arg8 harg8 arg9 harg9 arg10 harg10 x0 x1 x2 x3 x4 x5 x6 x7 x8 (k1_pay4 (F := F)) 4 h8 rfl _,
    bwd_pieceK arg2 harg2 arg3 harg3 arg4 harg4 arg5 harg5 arg6 harg6 arg7 harg7 arg8 harg8 arg9 harg9 arg10 harg10 x0 x1 x2 x3 x4 x5 x6 x7 x8 (k1_pay4 (F := F)) 4 h8 rfl _,
    bwd_pieceQ arg2 harg2 arg3 harg3 arg4 harg4 arg5 harg5 arg6 harg6 arg7 harg7 arg8 harg8 arg9 harg9 arg10 harg10 x0 x1 x2 x3 x4 x5 x6 x7 x8 (k1_pay4 (F := F)) 4 rfl _,
    bwd_pieceG arg2 harg2 arg3 harg3 arg4 harg4 arg5 harg5 arg6 harg6 arg7 harg7 arg8 harg8 arg9 harg9 arg10 harg10 x0 x1 x2 x3 x4 x5 x6 x7 x8 (k1_pay4 (F := F)) 5 rfl _,
    bwd_pieceV arg2 harg2 arg3 harg3 arg4 harg4 arg5 harg5 arg6 harg6 arg7 harg7 arg8 harg8 arg9 harg9 arg10 harg10 x0 x1 x2 x3 x4 x5 x6 x7 x8 (k1_pay4 (F := F)) 5 h7 rfl _,
    bwd_pieceK arg2 harg2 arg3 harg3 arg4 harg4 arg5 harg5 arg6 harg6 arg7 harg7 arg8 harg8 arg9 harg9 arg10 harg10 x0 x1 x2 x3 x4 x5 x6 x7 x8 (k1_pay4 (F := F)) 5 h7 rfl _,
    bwd_pieceQ arg2 harg2 arg3 harg3 arg4 harg4 arg5 harg5 arg6 harg6 arg7 harg7 arg8 harg8 arg9 harg9 arg10 harg10 x0 x1 x2 x3 x4 x5 x6 x7 x8 (k1_pay4 (F := F)) 5 rfl _,
    bwd_pieceG arg2 harg2 arg3 harg3 arg4 harg4 arg5 harg5 arg6 harg6 arg7 harg7 arg8 harg8 arg9 harg9 arg10 harg10 x0 x1 x2 x3 x4 x5 x6 x7 x8 (k1_pay4 (F := F)) 6 rfl _,
    bwd_pieceV arg2 harg2 arg3 harg3 arg4 harg4 arg5 harg5 arg6 harg6 arg7 harg7 arg8 harg8 arg9 harg9 arg10 harg10 x0 x1 x2 x3 x4 x5 x6 x7 x8 (k1_pay4 (F := F)) 6 h6 rfl _,
    bwd_pieceK arg2 harg2 arg3 harg3 arg4 harg4 arg5 harg5 arg6 harg6 arg7 harg7 arg8 harg8 arg9 harg9 arg10 harg10 x0 x1 x2 x3 x4 x5 x6 x7 x8 (k1_pay4 (F := F)) 6 h6 rfl _,
    bwd_pieceQ arg2 harg2 arg3 harg3 arg4 harg4 arg5 harg5 arg6 harg6 arg7 harg7 arg8 harg8 arg9 harg9 arg10 harg10 x0 x1 x2 x3 x4 x5 x6 x7 x8 (k1_pay4 (F := F)) 6 rfl _,
    bwd_pieceG arg2 harg2 arg3 harg3 arg4 harg4 arg5 harg5 arg6 harg6 arg7 harg7 arg8 harg8 arg9 harg9 arg10 harg10 x0 x1 x2 x3 x4 x5 x6 x7 x8 (k1_pay4 (F := F)) 7 rfl _,
    bwd_pieceV arg2 harg2 arg3 harg3 arg4 harg4 arg5 harg5 arg6 harg6 arg7 harg7 arg8 harg8 arg9 harg9 arg10 harg10 x0 x1 x2 x3 x4 x5 x6 x7 x8 (k1_pay4 (F := F)) 7 h5 rfl _,
    bwd_pieceK arg2 harg2 arg3 harg3 arg4 harg4 arg5 harg5 arg6 harg6 arg7 harg7 arg8 harg8 arg9 harg9 arg10 harg10 x0 x1 x2 x3 x4 x5 x6 x7 x8 (k1_pay4 (F := F)) 7 h5 rfl _,
    bwd_pieceQ arg2 harg2 arg3 harg3 arg4 harg4 arg5 harg5 arg6 harg6 arg7 harg7 arg8 harg8 arg9 harg9 arg10 harg10 x0 x1 x2 x3 x4 x5 x6 x7 x8 (k1_pay4 (F := F)) 7 rfl _,
    bwd_pieceG arg2 harg2 arg3 harg3 arg4 harg4 arg5 harg5 arg6 harg6 arg7 harg7 arg8 harg8 arg9 harg9 arg10 harg10 x0 x1 x2 x3 x4 x5 x6 x7 x8 (k1_pay4 (F := F)) 8 rfl _,
    bwd_pieceV arg2 harg2 arg3 harg3 arg4 harg4 arg5 harg5 arg6 harg6 arg7 harg7 arg8 harg8 arg9 harg9 arg10 harg10 x0 x1 x2 x3 x4 x5 x6 x7 x8 (k1_pay4 (F := F)) 8 h4 rfl _,
    bwd_pieceK arg2 harg2 arg3 harg3 arg4 harg4 arg5 harg5 arg6 harg6 arg7 harg7 arg8 harg8 arg9 harg9 arg10 harg10 x0 x1 x2 x3 x4 x5 x6 x7 x8 (k1_pay4 (F := F)) 8 h4 rfl _,
    bwd_pieceQ arg2 harg2 arg3 harg3 arg4 harg4 arg5 harg5 arg6 harg6 arg7 harg7 arg8 harg8 arg9 harg9 arg10 harg10 x0 x1 x2 x3 x4 x5 x6 x7 x8 (k1_pay4 (F := F)) 8 rfl _,
    bwd_pieceG arg2 harg2 arg3 harg3 arg4 harg4 arg5 harg5 arg6 harg6 arg7 harg7 arg8 harg8 arg9 harg9 arg10 harg10 x0 x1 x2 x3 x4 x5 x6 x7 x8 (k1_pay4 (F := F)) 9 rfl _,
    bwd_pieceV arg2 harg2 arg3 harg3 arg4 harg4 arg5 harg5 arg6 harg6 arg7 harg7 arg8 harg8 arg9 harg9 arg10 harg10 x0 x1 x2 x3 x4 x5 x6 x7 x8 (k1_pay4 (F := F)) 9 h3 rfl _,
    bwd_pieceK arg2 harg2 arg3 harg3 arg4 harg4 arg5 harg5 arg6 harg6 arg7 harg7 arg8 harg8 arg9 harg9 arg10 harg10 x0 x1 x2 x3 x4 x5 x6 x7 x8 (k1_pay4 (F := F)) 9 h3 rfl _,
    bwd_pieceQ arg2 harg2 arg3 harg3 arg4 harg4 arg5 harg5 arg6 harg6 arg7 harg7 arg8 harg8 arg9 harg9 arg10 harg10 x0 x1 x2 x3 x4 x5 x6 x7 x8 (k1_pay4 (F := F)) 9 rfl _,
    bwd_pieceG arg2 harg2 arg3 harg3 arg4 harg4 arg5 harg5 arg6 harg6 arg7 harg7 arg8 harg8 arg9 harg9 arg10 harg10 x0 x1 x2 x3 x4 x5 x6 x7 x8 (k1_pay4 (F := F)) 10 rfl _,
    bwd_pieceV arg2 harg2 arg3 harg3 arg4 harg4 arg5 harg5 arg6 harg6 arg7 harg7 arg8 harg8 arg9 harg9 arg10 harg10 x0 x1 x2 x3 x4 x5 x6 x7 x8 (k1_pay4 (F := F)) 10 h2 rfl _,
    bwd_pieceK arg2 harg2 arg3 harg3 arg4 harg4 arg5 harg5 arg6 harg6 arg7 harg7 arg8 harg8 arg9 harg9 arg10 harg10 x0 x1 x2 x3 x4 x5 x6 x7 x8 (k1_pay4 (F := F)) 10 h2 rfl _,
    bwd_pieceQ arg2 harg2 arg3 harg3 arg4 harg4 arg5 harg5 arg6 harg6 arg7 harg7 arg8 harg8 arg9 harg9 arg10 harg10 x0 x1 x2 x3 x4 x5 x6 x7 x8 (k1_pay4 (F := F)) 10 rfl _,
    bwd_pieceG arg2 harg2 arg3 harg3 arg4 harg4 arg5 harg5 arg6 harg6 arg7 harg7 arg8 harg8 arg9 harg9 arg10 harg10 x0 x1 x2 x3 x4 x5 x6 x7 x8 (k1_pay4 (F := F)) 11 rfl _,
    bwd_pieceV arg2 harg2 arg3 harg3 arg4 harg4 arg5 harg5 arg6 harg6 arg7 harg7 arg8 harg8 arg9 harg9 arg10 harg10 x0 x1 x2 x3 x4 x5 x6 x7 x8 (k1_pay4 (F := F)) 11 h1 rfl _,
    bwd_pieceK arg2 harg2 arg3 harg3 arg4 harg4 arg5 harg5 arg6 harg6 arg7 harg7 arg8 harg8 arg9 harg9 arg10 harg10 x0 x1 x2 x3 x4 x5 x6 x7 x8 (k1_pay4 (F := F)) 11 h1 rfl _,
    bwd_pieceQ arg2 harg2 arg3 harg3 arg4 harg4 arg5 harg5 arg6 harg6 arg7 harg7 arg8 harg8 arg9 harg9 arg10 harg10 x0 x1 x2 x3 x4 x5 x6 x7 x8 (k1_pay4 (F := F)) 11 rfl _,
    bwd_pieceG arg2 harg2 arg3 harg3 arg4 harg4 arg5 harg5 arg6 harg6 arg7 harg7 arg8 harg8 arg9 harg9 arg10 harg10 x0 x1 x2 x3 x4 x5 x6 x7 x8 (k1_pay4 (F := F)) 12 rfl _,
    bwd_pieceV arg2 harg2 arg3 harg3 arg4 harg4 arg5 harg5 arg6 harg6 arg7 harg7 arg8 harg8 arg9 harg9 arg10 harg10 x0 x1 x2 x3 x4 x5 x6 x7 x8 (k1_pay4 (F := F)) 12 h0 rfl _,
    bwd_pieceK arg2 harg2 arg3 harg3 arg4 harg4 arg5 harg5 arg6 harg6 arg7 harg7 arg8 harg8 arg9 harg9 arg10 harg10 x0 x1 x2 x3 x4 x5 x6 x7 x8 (k1_pay4 (F := F)) 12 h0 rfl _,
    bwd_pieceQ arg2 harg2 arg3 harg3 arg4 harg4 arg5 harg5 arg6 harg6 arg7 harg7 arg8 harg8 arg9 harg9 arg10 harg10 x0 x1 x2 x3 x4 x5 x6 x7 x8 (k1_pay4 (F := F)) 12 rfl _,
    fun p hp => absurd hp List.not_mem_nil⟩

/-- The state gradient one grid point hands on. -/
theorem bwdRunFirst_C (hc : cond1 i) (v : View sig .tc .vmem S256x512 .f32) (f : v.ty.Contents (Elt F)) :
    v.read (Elt F) (v.writes (Elt F) f (bwdRunFirst c i arg2 harg2 arg3 harg3 arg4 harg4 arg5 harg5 arg6 harg6 arg7 harg7 arg8 harg8 arg9 harg9 arg10 harg10 arg12 harg12 arg13 harg13 x0 x1 x2 x3 x4 x5 x6 x7 x8 hc).2.1) = bwdCarry x0 x1 x2 x3 x4 x5 x6 x7 x8 (k1_pay4 (F := F)) 13 := by
  obtain ⟨h0, h1, h2, h3, h4, h5, h6, h7, h8, h9, h10, h11, h12⟩ := bwdRunFirst_states c arg2 harg2 arg3 harg3 arg4 harg4 arg5 harg5 arg6 harg6 arg7 harg7 arg8 harg8 arg9 harg9 arg10 harg10 arg13 x0 x1 x2 x3 x4 x5 x6 x7 x8
  exact bwd_step arg2 harg2 arg3 harg3 arg4 harg4 arg5 harg5 arg6 harg6 arg7 harg7 arg8 harg8 arg9 harg9 arg10 harg10 x0 x1 x2 x3 x4 x5 x6 x7 x8 (k1_pay4 (F := F)) 12 0 rfl h12 ((writes_state v f _ _).trans rfl)

end

end Cert.Retention

end
-- ==== Proof.BwdValNext.lean ====
module

public import proofs.«01_k».proof.Proof.Chunk
public import proofs.«01_k».proof.Proof.BwdRunNext
public import proofs.«01_k».proof.Proof.BwdValFirst

@[expose] public section

set_option maxRecDepth 16384

noncomputable section

namespace Cert.Retention

open Cert.KernelIdeal Cert.KernelIdeal.Gen
open Idealize.ShloMosaic Idealize.ShloMosaic.TcCoe Idealize.ShloMosaic.Tactic
open Idealize.ShloMosaic.ValueIdx

variable {F : FTy → Type} [FloatOps F]

section
variable (c : Dev nD) (i : grid1.Coords)
  (arg2 : Memref sig .tc .vmem S1664x256 .bf16) (harg2 : arg2.IsWhole)
  (arg3 : Memref sig .tc .vmem S1664x256 .bf16) (harg3 : arg3.IsWhole)
  (arg4 : Memref sig .tc .vmem S1664x512 .bf16) (harg4 : arg4.IsWhole)
  (arg5 : Memref sig .tc .vmem S1664x512 .bf16) (harg5 : arg5.IsWhole)
  (arg6 : Memref sig .tc .vmem S1664x128 .f32) (harg6 : arg6.IsWhole)
  (arg7 : Memref sig .tc .vmem S1664x128 .f32) (harg7 : arg7.IsWhole)
  (arg8 : Memref sig .tc .vmem S1x8x128 .f32) (harg8 : arg8.IsWhole)
  (arg9 : Memref sig .tc .vmem S13x1x256x512 .bf16) (harg9 : arg9.IsWhole)
  (arg10 : Memref sig .tc .vmem S1664x512 .bf16) (harg10 : arg10.IsWhole)
  (arg12 : Memref sig .tc .vmem S1664x1536 .bf16) (harg12 : arg12.IsWhole)
  (arg13 : Memref sig .tc .vmem S256x512 .f32) (harg13 : arg13.IsWhole)
  (x0 : Vec F S1664x256 .bf16) (x1 : Vec F S1664x256 .bf16) (x2 : Vec F S1664x512 .bf16) (x3 : Vec F S1664x512 .bf16) (x4 : Vec F S1664x128 .f32) (x5 : Vec F S1664x128 .f32) (x6 : Vec F S1x8x128 .f32) (x7 : Vec F S13x1x256x512 .bf16) (x8 : Vec F S1664x512 .bf16)

/-- The state gradients a run reads back, chunk by chunk, are the chain of them. -/
theorem bwdRunNext_states (xs : Vec F S256x512 .f32) : View.readAt (Elt F) arg13.view wholeState.toLoadRect (harg13.unread xs) = bwdCarry x0 x1 x2 x3 x4 x5 x6 x7 x8 xs 0
      ∧ bwdRunNext.sl.v309 c arg2 harg2 arg3 harg3 arg4 harg4 arg5 harg5 arg6 harg6 arg7 harg7 arg8 harg8 arg9 harg9 arg10 harg10 arg13 harg13 x0 x1 x2 x3 x4 x5 x6 x7 x8 xs = bwdCarry x0 x1 x2 x3 x4 x5 x6 x7 x8 xs 1
      ∧ bwdRunNext.sl.v513 c arg2 harg2 arg3 harg3 arg4 harg4 arg5 harg5 arg6 harg6 arg7 harg7 arg8 harg8 arg9 harg9 arg10 harg10 arg13 harg13 x0 x1 x2 x3 x4 x5 x6 x7 x8 xs = bwdCarry x0 x1 x2 x3 x4 x5 x6 x7 x8 xs 2
      ∧ bwdRunNext.sl.v717 c arg2 harg2 arg3 harg3 arg4 harg4 arg5 harg5 arg6 harg6 arg7 harg7 arg8 harg8 arg9 harg9 arg10 harg10 arg13 harg13 x0 x1 x2 x3 x4 x5 x6 x7 x8 xs = bwdCarry x0 x1 x2 x3 x4 x5 x6 x7 x8 xs 3
      ∧ bwdRunNext.sl.v921 c arg2 harg2 arg3 harg3 arg4 harg4 arg5 harg5 arg6 harg6 arg7 harg7 arg8 harg8 arg9 harg9 arg10 harg10 arg13 harg13 x0 x1 x2 x3 x4 x5 x6 x7 x8 xs = bwdCarry x0 x1 x2 x3 x4 x5 x6 x7 x8 xs 4
      ∧ bwdRunNext.sl.v1125 c arg2 harg2 arg3 harg3 arg4 harg4 arg5 harg5 arg6 harg6 arg7 harg7 arg8 harg8 arg9 harg9 arg10 harg10 arg13 harg13 x0 x1 x2 x3 x4 x5 x6 x7 x8 xs = bwdCarry x0 x1 x2 x3 x4 x5 x6 x7 x8 xs 5
      ∧ bwdRunNext.sl.v1329 c arg2 harg2 arg3 harg3 arg4 harg4 arg5 harg5 arg6 harg6 arg7 harg7 arg8 harg8 arg9 harg9 arg10 harg10 arg13 harg13 x0 x1 x2 x3 x4 x5 x6 x7 x8 xs = bwdCarry x0 x1 x2 x3 x4 x5 x6 x7 x8 xs 6
      ∧ bwdRunNext.sl.v1533 c arg2 harg2 arg3 harg3 arg4 harg4 arg5 harg5 arg6 harg6 arg7 harg7 arg8 harg8 arg9 harg9 arg10 harg10 arg13 harg13 x0 x1 x2 x3 x4 x5 x6 x7 x8 xs = bwdCarry x0 x1 x2 x3 x4 x5 x6 x7 x8 xs 7
      ∧ bwdRunNext.sl.v1737 c arg2 harg2 arg3 harg3 arg4 harg4 arg5 harg5 arg6 harg6 arg7 harg7 arg8 harg8 arg9 harg9 arg10 harg10 arg13 harg13 x0 x1 x2 x3 x4 x5 x6 x7 x8 xs = bwdCarry x0 x1 x2 x3 x4 x5 x6 x7 x8 xs 8
      ∧ bwdRunNext.sl.v1941 c arg2 harg2 arg3 harg3 arg4 harg4 arg5 harg5 arg6 harg6 arg7 harg7 arg8 harg8 arg9 harg9 arg10 harg10 arg13 harg13 x0 x1 x2 x3 x4 x5 x6 x7 x8 xs = bwdCarry x0 x1 x2 x3 x4 x5 x6 x7 x8 xs 9
      ∧ bwdRunNext.sl.v2145 c arg2 harg2 arg3 harg3 arg4 harg4 arg5 harg5 arg6 harg6 arg7 harg7 arg8 harg8 arg9 harg9 arg10 harg10 arg13 harg13 x0 x1 x2 x3 x4 x5 x6 x7 x8 xs = bwdCarry x0 x1 x2 x3 x4 x5 x6 x7 x8 xs 10
      ∧ bwdRunNext.sl.v2349 c arg2 harg2 arg3 harg3 arg4 harg4 arg5 harg5 arg6 harg6 arg7 harg7 arg8 harg8 arg9 harg9 arg10 harg10 arg13 harg13 x0 x1 x2 x3 x4 x5 x6 x7 x8 xs = bwdCarry x0 x1 x2 x3 x4 x5 x6 x7 x8 xs 11
      ∧ bwdRunNext.sl.v2553 c arg2 harg2 arg3 harg3 arg4 harg4 arg5 harg5 arg6 harg6 arg7 harg7 arg8 harg8 arg9 harg9 arg10 harg10 arg13 harg13 x0 x1 x2 x3 x4 x5 x6 x7 x8 xs = bwdCarry x0 x1 x2 x3 x4 x5 x6 x7 x8 xs 12 := by
  have h0 : View.readAt (Elt F) arg13.view wholeState.toLoadRect (harg13.unread xs) = bwdCarry x0 x1 x2 x3 x4 x5 x6 x7 x8 xs 0 := readAt_state arg13 harg13 xs
  have h1 := bwd_step arg2 harg2 arg3 harg3 arg4 harg4 arg5 harg5 arg6 harg6 arg7 harg7 arg8 harg8 arg9 harg9 arg10 harg10 x0 x1 x2 x3 x4 x5 x6 x7 x8 xs 0 12 rfl h0
    ((readCov_state arg13 _ _ : bwdRunNext.sl.v309 c arg2 harg2 arg3 harg3 arg4 harg4 arg5 harg5 arg6 harg6 arg7 harg7 arg8 harg8 arg9 harg9 arg10 harg10 arg13 harg13 x0 x1 x2 x3 x4 x5 x6 x7 x8 xs = _).trans rfl)
  have h2 := bwd_step arg2 harg2 arg3 harg3 arg4 harg4 arg5 harg5 arg6 harg6 arg7 harg7 arg8 harg8 arg9 harg9 arg10 harg10 x0 x1 x2 x3 x4 x5 x6 x7 x8 xs 1 11 rfl h1
    ((readCov_state arg13 _ _ : bwdRunNext.sl.v513 c arg2 harg2 arg3 harg3 arg4 harg4 arg5 harg5 arg6 harg6 arg7 harg7 arg8 harg8 arg9 harg9 arg10 harg10 arg13 harg13 x0 x1 x2 x3 x4 x5 x6 x7 x8 xs = _).trans rfl)
  have h3 := bwd_step arg2 harg2 arg3 harg3 arg4 harg4 arg5 harg5 arg6 harg6 arg7 harg7 arg8 harg8 arg9 harg9 arg10 harg10 x0 x1 x2 x3 x4 x5 x6 x7 x8 xs 2 10 rfl h2
    ((readCov_state arg13 _ _ : bwdRunNext.sl.v717 c arg2 harg2 arg3 harg3 arg4 harg4 arg5 harg5 arg6 harg6 arg7 harg7 arg8 harg8 arg9 harg9 arg10 harg10 arg13 harg13 x0 x1 x2 x3 x4 x5 x6 x7 x8 xs = _).trans rfl)
  have h4 := bwd_step arg2 harg2 arg3 harg3 arg4 harg4 arg5 harg5 arg6 harg6 arg7 harg7 arg8 harg8 arg9 harg9 arg10 harg10 x0 x1 x2 x3 x4 x5 x6 x7 x8 xs 3 9 rfl h3
    ((readCov_state arg13 _ _ : bwdRunNext.sl.v921 c arg2 harg2 arg3 harg3 arg4 harg4 arg5 harg5 arg6 harg6 arg7 harg7 arg8 harg8 arg9 harg9 arg10 harg10 arg13 harg13 x0 x1 x2 x3 x4 x5 x6 x7 x8 xs = _).trans rfl)
  have h5 := bwd_step arg2 harg2 arg3 harg3 arg4 harg4 arg5 harg5 arg6 harg6 arg7 harg7 arg8 harg8 arg9 harg9 arg10 harg10 x0 x1 x2 x3 x4 x5 x6 x7 x8 xs 4 8 rfl h4
    ((readCov_state arg13 _ _ : bwdRunNext.sl.v1125 c arg2 harg2 arg3 harg3 arg4 harg4 arg5 harg5 arg6 harg6 arg7 harg7 arg8 harg8 arg9 harg9 arg10 harg10 arg13 harg13 x0 x1 x2 x3 x4 x5 x6 x7 x8 xs = _).trans rfl)
  have h6 := bwd_step arg2 harg2 arg3 harg3 arg4 harg4 arg5 harg5 arg6 harg6 arg7 harg7 arg8 harg8 arg9 harg9 arg10 harg10 x0 x1 x2 x3 x4 x5 x6 x7 x8 xs 5 7 rfl h5
    ((readCov_state arg13 _ _ : bwdRunNext.sl.v1329 c arg2 harg2 arg3 harg3 arg4 harg4 arg5 harg5 arg6 harg6 arg7 harg7 arg8 harg8 arg9 harg9 arg10 harg10 arg13 harg13 x0 x1 x2 x3 x4 x5 x6 x7 x8 xs = _).trans rfl)
  have h7 := bwd_step arg2 harg2 arg3 harg3 arg4 harg4 arg5 harg5 arg6 harg6 arg7 harg7 arg8 harg8 arg9 harg9 arg10 harg10 x0 x1 x2 x3 x4 x5 x6 x7 x8 xs 6 6 rfl h6
    ((readCov_state arg13 _ _ : bwdRunNext.sl.v1533 c arg2 harg2 arg3 harg3 arg4 harg4 arg5 harg5 arg6 harg6 arg7 harg7 arg8 harg8 arg9 harg9 arg10 harg10 arg13 harg13 x0 x1 x2 x3 x4 x5 x6 x7 x8 xs = _).trans rfl)
  have h8 := bwd_step arg2 harg2 arg3 harg3 arg4 harg4 arg5 harg5 arg6 harg6 arg7 harg7 arg8 harg8 arg9 harg9 arg10 harg10 x0 x1 x2 x3 x4 x5 x6 x7 x8 xs 7 5 rfl h7
    ((readCov_state arg13 _ _ : bwdRunNext.sl.v1737 c arg2 harg2 arg3 harg3 arg4 harg4 arg5 harg5 arg6 harg6 arg7 harg7 arg8 harg8 arg9 harg9 arg10 harg10 arg13 harg13 x0 x1 x2 x3 x4 x5 x6 x7 x8 xs = _).trans rfl)
  have h9 := bwd_step arg2 harg2 arg3 harg3 arg4 harg4 arg5 harg5 arg6 harg6 arg7 harg7 arg8 harg8 arg9 harg9 arg10 harg10 x0 x1 x2 x3 x4 x5 x6 x7 x8 xs 8 4 rfl h8
    ((readCov_state arg13 _ _ : bwdRunNext.sl.v1941 c arg2 harg2 arg3 harg3 arg4 harg4 arg5 harg5 arg6 harg6 arg7 harg7 arg8 harg8 arg9 harg9 arg10 harg10 arg13 harg13 x0 x1 x2 x3 x4 x5 x6 x7 x8 xs = _).trans rfl)
  have h10 := bwd_step arg2 harg2 arg3 harg3 arg4 harg4 arg5 harg5 arg6 harg6 arg7 harg7 arg8 harg8 arg9 harg9 arg10 harg10 x0 x1 x2 x3 x4 x5 x6 x7 x8 xs 9 3 rfl h9
    ((readCov_state arg13 _ _ : bwdRunNext.sl.v2145 c arg2 harg2 arg3 harg3 arg4 harg4 arg5 harg5 arg6 harg6 arg7 harg7 arg8 harg8 arg9 harg9 arg10 harg10 arg13 harg13 x0 x1 x2 x3 x4 x5 x6 x7 x8 xs = _).trans rfl)
  have h11 := bwd_step arg2 harg2 arg3 harg3 arg4 harg4 arg5 harg5 arg6 harg6 arg7 harg7 arg8 harg8 arg9 harg9 arg10 harg10 x0 x1 x2 x3 x4 x5 x6 x7 x8 xs 10 2 rfl h10
    ((readCov_state arg13 _ _ : bwdRunNext.sl.v2349 c arg2 harg2 arg3 harg3 arg4 harg4 arg5 harg5 arg6 harg6 arg7 harg7 arg8 harg8 arg9 harg9 arg10 harg10 arg13 harg13 x0 x1 x2 x3 x4 x5 x6 x7 x8 xs = _).trans rfl)
  have h12 := bwd_step arg2 harg2 arg3 harg3 arg4 harg4 arg5 harg5 arg6 harg6 arg7 harg7 arg8 harg8 arg9 harg9 arg10 harg10 x0 x1 x2 x3 x4 x5 x6 x7 x8 xs 11 1 rfl h11
    ((readCov_state arg13 _ _ : bwdRunNext.sl.v2553 c arg2 harg2 arg3 harg3 arg4 harg4 arg5 harg5 arg6 harg6 arg7 harg7 arg8 harg8 arg9 harg9 arg10 harg10 arg13 harg13 x0 x1 x2 x3 x4 x5 x6 x7 x8 xs = _).trans rfl)
  exact ⟨h0, h1, h2, h3, h4, h5, h6, h7, h8, h9, h10, h11, h12⟩

set_option maxHeartbeats 1600000 in
/-- The gradient rows one grid point leaves. -/
theorem bwdRunNext_O (hc : ¬cond1 i) (xs : Vec F S256x512 .f32) : ∀ p ∈ (bwdRunNext c i arg2 harg2 arg3 harg3 arg4 harg4 arg5 harg5 arg6 harg6 arg7 harg7 arg8 harg8 arg9 harg9 arg10 harg10 arg12 harg12 arg13 harg13 x0 x1 x2 x3 x4 x5 x6 x7 x8 hc xs).1, ∀ y, p.2 y = bwdO x0 x1 x2 x3 x4 x5 x6 x7 x8 xs (p.1.emb y) := by
  obtain ⟨h0, h1, h2, h3, h4, h5, h6, h7, h8, h9, h10, h11, h12⟩ := bwdRunNext_states c arg2 harg2 arg3 harg3 arg4 harg4 arg5 harg5 arg6 harg6 arg7 harg7 arg8 harg8 arg9 harg9 arg10 harg10 arg13 harg13 x0 x1 x2 x3 x4 x5 x6 x7 x8 xs
  unfold bwdRunNext
  simp only [List.forall_mem_cons]
  exact ⟨bwd_pieceG arg2 harg2 arg3 harg3 arg4 harg4 arg5 harg5 arg6 harg6 arg7 harg7 arg8 harg8 arg9 harg9 arg10 harg10 x0 x1 x2 x3 x4 x5 x6 x7 x8 xs 0 rfl _,
    bwd_pieceV arg2 harg2 arg3 harg3 arg4 harg4 arg5 harg5 arg6 harg6 arg7 harg7 arg8 harg8 arg9 harg9 arg10 harg10 x0 x1 x2 x3 x4 x5 x6 x7 x8 xs 0 h12 rfl _,
    bwd_pieceK arg2 harg2 arg3 harg3 arg4 harg4 arg5 harg5 arg6 harg6 arg7 harg7 arg8 harg8 arg9 harg9 arg10 harg10 x0 x1 x2 x3 x4 x5 x6 x7 x8 xs 0 h12 rfl _,
    bwd_pieceQ arg2 harg2 arg3 harg3 arg4 harg4 arg5 harg5 arg6 harg6 arg7 harg7 arg8 harg8 arg9 harg9 arg10 harg10 x0 x1 x2 x3 x4 x5 x6 x7 x8 xs 0 rfl _,
    bwd_pieceG arg2 harg2 arg3 harg3 arg4 harg4 arg5 harg5 arg6 harg6 arg7 harg7 arg8 harg8 arg9 harg9 arg10 harg10 x0 x1 x2 x3 x4 x5 x6 x7 x8 xs 1 rfl _,
    bwd_pieceV arg2 harg2 arg3 harg3 arg4 harg4 arg5 harg5 arg6 harg6 arg7 harg7 arg8 harg8 arg9 harg9 arg10 harg10 x0 x1 x2 x3 x4 x5 x6 x7 x8 xs 1 h11 rfl _,
    bwd_pieceK arg2 harg2 arg3 harg3 arg4 harg4 arg5 harg5 arg6 harg6 arg7 harg7 arg8 harg8 arg9 harg9 arg10 harg10 x0 x1 x2 x3 x4 x5 x6 x7 x8 xs 1 h11 rfl _,
    bwd_pieceQ arg2 harg2 arg3 harg3 arg4 harg4 arg5 harg5 arg6 harg6 arg7 harg7 arg8 harg8 arg9 harg9 arg10 harg10 x0 x1 x2 x3 x4 x5 x6 x7 x8 xs 1 rfl _,
    bwd_pieceG arg2 harg2 arg3 harg3 arg4 harg4 arg5 harg5 arg6 harg6 arg7 harg7 arg8 harg8 arg9 harg9 arg10 harg10 x0 x1 x2 x3 x4 x5 x6 x7 x8 xs 2 rfl _,
    bwd_pieceV arg2 harg2 arg3 harg3 arg4 harg4 arg5 harg5 arg6 harg6 arg7 harg7 arg8 harg8 arg9 harg9 arg10 harg10 x0 x1 x2 x3 x4 x5 x6 x7 x8 xs 2 h10 rfl _,
    bwd_pieceK arg2 harg2 arg3 harg3 arg4 harg4 arg5 harg5 arg6 harg6 arg7 harg7 arg8 harg8 arg9 harg9 arg10 harg10 x0 x1 x2 x3 x4 x5 x6 x7 x8 xs 2 h10 rfl _,
    bwd_pieceQ arg2 harg2 arg3 harg3 arg4 harg4 arg5 harg5 arg6 harg6 arg7 harg7 arg8 harg8 arg9 harg9 arg10 harg10 x0 x1 x2 x3 x4 x5 x6 x7 x8 xs 2 rfl _,
    bwd_pieceG arg2 harg2 arg3 harg3 arg4 harg4 arg5 harg5 arg6 harg6 arg7 harg7 arg8 harg8 arg9 harg9 arg10 harg10 x0 x1 x2 x3 x4 x5 x6 x7 x8 xs 3 rfl _,
    bwd_pieceV arg2 harg2 arg3 harg3 arg4 harg4 arg5 harg5 arg6 harg6 arg7 harg7 arg8 harg8 arg9 harg9 arg10 harg10 x0 x1 x2 x3 x4 x5 x6 x7 x8 xs 3 h9 rfl _,
    bwd_pieceK arg2 harg2 arg3 harg3 arg4 harg4 arg5 harg5 arg6 harg6 arg7 harg7 arg8 harg8 arg9 harg9 arg10 harg10 x0 x1 x2 x3 x4 x5 x6 x7 x8 xs 3 h9 rfl _,
    bwd_pieceQ arg2 harg2 arg3 harg3 arg4 harg4 arg5 harg5 arg6 harg6 arg7 harg7 arg8 harg8 arg9 harg9 arg10 harg10 x0 x1 x2 x3 x4 x5 x6 x7 x8 xs 3 rfl _,
    bwd_pieceG arg2 harg2 arg3 harg3 arg4 harg4 arg5 harg5 arg6 harg6 arg7 harg7 arg8 harg8 arg9 harg9 arg10 harg10 x0 x1 x2 x3 x4 x5 x6 x7 x8 xs 4 rfl _,
    bwd_pieceV arg2 harg2 arg3 harg3 arg4 harg4 arg5 harg5 arg6 harg6 arg7 harg7 arg8 harg8 arg9 harg9 arg10 harg10 x0 x1 x2 x3 x4 x5 x6 x7 x8 xs 4 h8 rfl _,
    bwd_pieceK arg2 harg2 arg3 harg3 arg4 harg4 arg5 harg5 arg6 harg6 arg7 harg7 arg8 harg8 arg9 harg9 arg10 harg10 x0 x1 x2 x3 x4 x5 x6 x7 x8 xs 4 h8 rfl _,
    bwd_pieceQ arg2 harg2 arg3 harg3 arg4 harg4 arg5 harg5 arg6 harg6 arg7 harg7 arg8 harg8 arg9 harg9 arg10 harg10 x0 x1 x2 x3 x4 x5 x6 x7 x8 xs 4 rfl _,
    bwd_pieceG arg2 harg2 arg3 harg3 arg4 harg4 arg5 harg5 arg6 harg6 arg7 harg7 arg8 harg8 arg9 harg9 arg10 harg10 x0 x1 x2 x3 x4 x5 x6 x7 x8 xs 5 rfl _,
    bwd_pieceV arg2 harg2 arg3 harg3 arg4 harg4 arg5 harg5 arg6 harg6 arg7 harg7 arg8 harg8 arg9 harg9 arg10 harg10 x0 x1 x2 x3 x4 x5 x6 x7 x8 xs 5 h7 rfl _,
    bwd_pieceK arg2 harg2 arg3 harg3 arg4 harg4 arg5 harg5 arg6 harg6 arg7 harg7 arg8 harg8 arg9 harg9 arg10 harg10 x0 x1 x2 x3 x4 x5 x6 x7 x8 xs 5 h7 rfl _,
    bwd_pieceQ arg2 harg2 arg3 harg3 arg4 harg4 arg5 harg5 arg6 harg6 arg7 harg7 arg8 harg8 arg9 harg9 arg10 harg10 x0 x1 x2 x3 x4 x5 x6 x7 x8 xs 5 rfl _,
    bwd_pieceG arg2 harg2 arg3 harg3 arg4 harg4 arg5 harg5 arg6 harg6 arg7 harg7 arg8 harg8 arg9 harg9 arg10 harg10 x0 x1 x2 x3 x4 x5 x6 x7 x8 xs 6 rfl _,
    bwd_pieceV arg2 harg2 arg3 harg3 arg4 harg4 arg5 harg5 arg6 harg6 arg7 harg7 arg8 harg8 arg9 harg9 arg10 harg10 x0 x1 x2 x3 x4 x5 x6 x7 x8 xs 6 h6 rfl _,
    bwd_pieceK arg2 harg2 arg3 harg3 arg4 harg4 arg5 harg5 arg6 harg6 arg7 harg7 arg8 harg8 arg9 harg9 arg10 harg10 x0 x1 x2 x3 x4 x5 x6 x7 x8 xs 6 h6 rfl _,
    bwd_pieceQ arg2 harg2 arg3 harg3 arg4 harg4 arg5 harg5 arg6 harg6 arg7 harg7 arg8 harg8 arg9 harg9 arg10 harg10 x0 x1 x2 x3 x4 x5 x6 x7 x8 xs 6 rfl _,
    bwd_pieceG arg2 harg2 arg3 harg3 arg4 harg4 arg5 harg5 arg6 harg6 arg7 harg7 arg8 harg8 arg9 harg9 arg10 harg10 x0 x1 x2 x3 x4 x5 x6 x7 x8 xs 7 rfl _,
    bwd_pieceV arg2 harg2 arg3 harg3 arg4 harg4 arg5 harg5 arg6 harg6 arg7 harg7 arg8 harg8 arg9 harg9 arg10 harg10 x0 x1 x2 x3 x4 x5 x6 x7 x8 xs 7 h5 rfl _,
    bwd_pieceK arg2 harg2 arg3 harg3 arg4 harg4 arg5 harg5 arg6 harg6 arg7 harg7 arg8 harg8 arg9 harg9 arg10 harg10 x0 x1 x2 x3 x4 x5 x6 x7 x8 xs 7 h5 rfl _,
    bwd_pieceQ arg2 harg2 arg3 harg3 arg4 harg4 arg5 harg5 arg6 harg6 arg7 harg7 arg8 harg8 arg9 harg9 arg10 harg10 x0 x1 x2 x3 x4 x5 x6 x7 x8 xs 7 rfl _,
    bwd_pieceG arg2 harg2 arg3 harg3 arg4 harg4 arg5 harg5 arg6 harg6 arg7 harg7 arg8 harg8 arg9 harg9 arg10 harg10 x0 x1 x2 x3 x4 x5 x6 x7 x8 xs 8 rfl _,
    bwd_pieceV arg2 harg2 arg3 harg3 arg4 harg4 arg5 harg5 arg6 harg6 arg7 harg7 arg8 harg8 arg9 harg9 arg10 harg10 x0 x1 x2 x3 x4 x5 x6 x7 x8 xs 8 h4 rfl _,
    bwd_pieceK arg2 harg2 arg3 harg3 arg4 harg4 arg5 harg5 arg6 harg6 arg7 harg7 arg8 harg8 arg9 harg9 arg10 harg10 x0 x1 x2 x3 x4 x5 x6 x7 x8 xs 8 h4 rfl _,
    bwd_pieceQ arg2 harg2 arg3 harg3 arg4 harg4 arg5 harg5 arg6 harg6 arg7 harg7 arg8 harg8 arg9 harg9 arg10 harg10 x0 x1 x2 x3 x4 x5 x6 x7 x8 xs 8 rfl _,
    bwd_pieceG arg2 harg2 arg3 harg3 arg4 harg4 arg5 harg5 arg6 harg6 arg7 harg7 arg8 harg8 arg9 harg9 arg10 harg10 x0 x1 x2 x3 x4 x5 x6 x7 x8 xs 9 rfl _,
    bwd_pieceV arg2 harg2 arg3 harg3 arg4 harg4 arg5 harg5 arg6 harg6 arg7 harg7 arg8 harg8 arg9 harg9 arg10 harg10 x0 x1 x2 x3 x4 x5 x6 x7 x8 xs 9 h3 rfl _,
    bwd_pieceK arg2 harg2 arg3 harg3 arg4 harg4 arg5 harg5 arg6 harg6 arg7 harg7 arg8 harg8 arg9 harg9 arg10 harg10 x0 x1 x2 x3 x4 x5 x6 x7 x8 xs 9 h3 rfl _,
    bwd_pieceQ arg2 harg2 arg3 harg3 arg4 harg4 arg5 harg5 arg6 harg6 arg7 harg7 arg8 harg8 arg9 harg9 arg10 harg10 x0 x1 x2 x3 x4 x5 x6 x7 x8 xs 9 rfl _,
    bwd_pieceG arg2 harg2 arg3 harg3 arg4 harg4 arg5 harg5 arg6 harg6 arg7 harg7 arg8 harg8 arg9 harg9 arg10 harg10 x0 x1 x2 x3 x4 x5 x6 x7 x8 xs 10 rfl _,
    bwd_pieceV arg2 harg2 arg3 harg3 arg4 harg4 arg5 harg5 arg6 harg6 arg7 harg7 arg8 harg8 arg9 harg9 arg10 harg10 x0 x1 x2 x3 x4 x5 x6 x7 x8 xs 10 h2 rfl _,
    bwd_pieceK arg2 harg2 arg3 harg3 arg4 harg4 arg5 harg5 arg6 harg6 arg7 harg7 arg8 harg8 arg9 harg9 arg10 harg10 x0 x1 x2 x3 x4 x5 x6 x7 x8 xs 10 h2 rfl _,
    bwd_pieceQ arg2 harg2 arg3 harg3 arg4 harg4 arg5 harg5 arg6 harg6 arg7 harg7 arg8 harg8 arg9 harg9 arg10 harg10 x0 x1 x2 x3 x4 x5 x6 x7 x8 xs 10 rfl _,
    bwd_pieceG arg2 harg2 arg3 harg3 arg4 harg4 arg5 harg5 arg6 harg6 arg7 harg7 arg8 harg8 arg9 harg9 arg10 harg10 x0 x1 x2 x3 x4 x5 x6 x7 x8 xs 11 rfl _,
    bwd_pieceV arg2 harg2 arg3 harg3 arg4 harg4 arg5 harg5 arg6 harg6 arg7 harg7 arg8 harg8 arg9 harg9 arg10 harg10 x0 x1 x2 x3 x4 x5 x6 x7 x8 xs 11 h1 rfl _,
    bwd_pieceK arg2 harg2 arg3 harg3 arg4 harg4 arg5 harg5 arg6 harg6 arg7 harg7 arg8 harg8 arg9 harg9 arg10 harg10 x0 x1 x2 x3 x4 x5 x6 x7 x8 xs 11 h1 rfl _,
    bwd_pieceQ arg2 harg2 arg3 harg3 arg4 harg4 arg5 harg5 arg6 harg6 arg7 harg7 arg8 harg8 arg9 harg9 arg10 harg10 x0 x1 x2 x3 x4 x5 x6 x7 x8 xs 11 rfl _,
    bwd_pieceG arg2 harg2 arg3 harg3 arg4 harg4 arg5 harg5 arg6 harg6 arg7 harg7 arg8 harg8 arg9 harg9 arg10 harg10 x0 x1 x2 x3 x4 x5 x6 x7 x8 xs 12 rfl _,
    bwd_pieceV arg2 harg2 arg3 harg3 arg4 harg4 arg5 harg5 arg6 harg6 arg7 harg7 arg8 harg8 arg9 harg9 arg10 harg10 x0 x1 x2 x3 x4 x5 x6 x7 x8 xs 12 h0 rfl _,
    bwd_pieceK arg2 harg2 arg3 harg3 arg4 harg4 arg5 harg5 arg6 harg6 arg7 harg7 arg8 harg8 arg9 harg9 arg10 harg10 x0 x1 x2 x3 x4 x5 x6 x7 x8 xs 12 h0 rfl _,
    bwd_pieceQ arg2 harg2 arg3 harg3 arg4 harg4 arg5 harg5 arg6 harg6 arg7 harg7 arg8 harg8 arg9 harg9 arg10 harg10 x0 x1 x2 x3 x4 x5 x6 x7 x8 xs 12 rfl _,
    fun p hp => absurd hp List.not_mem_nil⟩

/-- The state gradient one grid point hands on. -/
theorem bwdRunNext_C (hc : ¬cond1 i) (xs : Vec F S256x512 .f32) (v : View sig .tc .vmem S256x512 .f32) (f : v.ty.Contents (Elt F)) :
    v.read (Elt F) (v.writes (Elt F) f (bwdRunNext c i arg2 harg2 arg3 harg3 arg4 harg4 arg5 harg5 arg6 harg6 arg7 harg7 arg8 harg8 arg9 harg9 arg10 harg10 arg12 harg12 arg13 harg13 x0 x1 x2 x3 x4 x5 x6 x7 x8 hc xs).2.1) = bwdCarry x0 x1 x2 x3 x4 x5 x6 x7 x8 xs 13 := by
  obtain ⟨h0, h1, h2, h3, h4, h5, h6, h7, h8, h9, h10, h11, h12⟩ := bwdRunNext_states c arg2 harg2 arg3 harg3 arg4 harg4 arg5 harg5 arg6 harg6 arg7 harg7 arg8 harg8 arg9 harg9 arg10 harg10 arg13 harg13 x0 x1 x2 x3 x4 x5 x6 x7 x8 xs
  exact bwd_step arg2 harg2 arg3 harg3 arg4 harg4 arg5 harg5 arg6 harg6 arg7 harg7 arg8 harg8 arg9 harg9 arg10 harg10 x0 x1 x2 x3 x4 x5 x6 x7 x8 xs 12 0 rfl h12 ((writes_state v f _ _).trans rfl)

end

end Cert.Retention

end
-- ==== Proof.BwdBody.lean ====
module

public import proofs.«01_k».proof.Proof.BwdValNext

@[expose] public section

set_option maxRecDepth 16384

noncomputable section

namespace Cert.Retention

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (c : Dev nD) (i : grid1.Coords)
  (arg2 : Memref sig .tc .vmem S1664x256 .bf16) (harg2 : arg2.IsWhole)
  (arg3 : Memref sig .tc .vmem S1664x256 .bf16) (harg3 : arg3.IsWhole)
  (arg4 : Memref sig .tc .vmem S1664x512 .bf16) (harg4 : arg4.IsWhole)
  (arg5 : Memref sig .tc .vmem S1664x512 .bf16) (harg5 : arg5.IsWhole)
  (arg6 : Memref sig .tc .vmem S1664x128 .f32) (harg6 : arg6.IsWhole)
  (arg7 : Memref sig .tc .vmem S1664x128 .f32) (harg7 : arg7.IsWhole)
  (arg8 : Memref sig .tc .vmem S1x8x128 .f32) (harg8 : arg8.IsWhole)
  (arg9 : Memref sig .tc .vmem S13x1x256x512 .bf16) (harg9 : arg9.IsWhole)
  (arg10 : Memref sig .tc .vmem S1664x512 .bf16) (harg10 : arg10.IsWhole)
  (arg12 : Memref sig .tc .vmem S1664x1536 .bf16) (harg12 : arg12.IsWhole)
  (arg13 : Memref sig .tc .vmem S256x512 .f32) (harg13 : arg13.IsWhole)
  (x0 : Vec F S1664x256 .bf16) (x1 : Vec F S1664x256 .bf16) (x2 : Vec F S1664x512 .bf16) (x3 : Vec F S1664x512 .bf16) (x4 : Vec F S1664x128 .f32) (x5 : Vec F S1664x128 .f32) (x6 : Vec F S1x8x128 .f32) (x7 : Vec F S13x1x256x512 .bf16) (x8 : Vec F S1664x512 .bf16)

/-- The stores of gradients of such a point reach every element of the block. -/
theorem bwdRunFirst_cover (hc : cond1 i) (y : S1664x1536.Idx) : ∃ p ∈ (bwdRunFirst c i arg2 harg2 arg3 harg3 arg4 harg4 arg5 harg5 arg6 harg6 arg7 harg7 arg8 harg8 arg9 harg9 arg10 harg10 arg12 harg12 arg13 harg13 x0 x1 x2 x3 x4 x5 x6 x7 x8 hc).1, y ∈ p.1.set :=
  View.cover_of_tiledBy (bwdRunFirst c i arg2 harg2 arg3 harg3 arg4 harg4 arg5 harg5 arg6 harg6 arg7 harg7 arg8 harg8 arg9 harg9 arg10 harg10 arg12 harg12 arg13 harg13 x0 x1 x2 x3 x4 x5 x6 x7 x8 hc).1 ![128, 256] (by sl_kernel_rfl) y

set_option maxHeartbeats 1600000 in
/-- The first point of a head: the gradient of the carried state may be anything, and counts as zero. The block of gradients and
    the gradient of the carried state are left at their closed forms. -/
theorem bwd_bodyFirst (hc : cond1 i) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8
        ∗ (∃ d, owns (c : Thread nD τ) arg12 fullShare d) ∗ (∃ d, owns (c : Thread nD τ) arg13 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8
            ∗ owns (c : Thread nD τ) arg12 fullShare (bwdO x0 x1 x2 x3 x4 x5 x6 x7 x8 (k1_pay4 (F := F)))
            ∗ owns (c : Thread nD τ) arg13 fullShare (bwdCarry x0 x1 x2 x3 x4 x5 x6 x7 x8 (k1_pay4 (F := F)) 13)) -∗ K ⟨⟩))
      ⊢ wp frame (wpE (defs₀ (F := F)) Variants.none c none) E (cc1_ret_bwd i arg2 harg2 arg3 harg3 arg4 harg4 arg5 harg5 arg6 harg6 arg7 harg7 arg8 harg8 arg9 harg9 arg10 harg10 (Memref.whole main_arg2) (Memref.isWhole_whole _) arg12 harg12 arg13 harg13) K := by
  iintro ⟨H0, H1, H2, H3, H4, H5, H6, H7, H8, H9, HS, Hk⟩
  iapply ((bwdRunFirst c i arg2 harg2 arg3 harg3 arg4 harg4 arg5 harg5 arg6 harg6 arg7 harg7 arg8 harg8 arg9 harg9 arg10 harg10 arg12 harg12 arg13 harg13 x0 x1 x2 x3 x4 x5 x6 x7 x8 hc).2.2 E _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS]; · iexact HS
  iintro ⟨H0, H1, H2, H3, H4, H5, H6, H7, H8, ⟨%e9, H9⟩, ⟨%es, HS⟩⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr
    swap; · iexact H9
    ipureintro
    exact funext fun y => View.read_writes_apply_of_pieces arg12.view e9 _ _ (bwdRunFirst_O c i arg2 harg2 arg3 harg3 arg4 harg4 arg5 harg5 arg6 harg6 arg7 harg7 arg8 harg8 arg9 harg9 arg10 harg10 arg12 harg12 arg13 harg13 x0 x1 x2 x3 x4 x5 x6 x7 x8 hc) y
      (bwdRunFirst_cover c i arg2 harg2 arg3 harg3 arg4 harg4 arg5 harg5 arg6 harg6 arg7 harg7 arg8 harg8 arg9 harg9 arg10 harg10 arg12 harg12 arg13 harg13 x0 x1 x2 x3 x4 x5 x6 x7 x8 hc y)
  unfold owns; iexists _; isplitr
  swap; · iexact HS
  ipureintro; exact bwdRunFirst_C c i arg2 harg2 arg3 harg3 arg4 harg4 arg5 harg5 arg6 harg6 arg7 harg7 arg8 harg8 arg9 harg9 arg10 harg10 arg12 harg12 arg13 harg13 x0 x1 x2 x3 x4 x5 x6 x7 x8 hc arg13.view es

/-- The stores of gradients of such a point reach every element of the block. -/
theorem bwdRunNext_cover (hc : ¬cond1 i) (xs : Vec F S256x512 .f32) (y : S1664x1536.Idx) : ∃ p ∈ (bwdRunNext c i arg2 harg2 arg3 harg3 arg4 harg4 arg5 harg5 arg6 harg6 arg7 harg7 arg8 harg8 arg9 harg9 arg10 harg10 arg12 harg12 arg13 harg13 x0 x1 x2 x3 x4 x5 x6 x7 x8 hc xs).1, y ∈ p.1.set :=
  View.cover_of_tiledBy (bwdRunNext c i arg2 harg2 arg3 harg3 arg4 harg4 arg5 harg5 arg6 harg6 arg7 harg7 arg8 harg8 arg9 harg9 arg10 harg10 arg12 harg12 arg13 harg13 x0 x1 x2 x3 x4 x5 x6 x7 x8 hc xs).1 ![128, 256] (by sl_kernel_rfl) y

set_option maxHeartbeats 1600000 in
/-- A later point of a head: the gradient of the carried state enters at `xs`. The block of gradients and
    the gradient of the carried state are left at their closed forms. -/
theorem bwd_bodyNext (hc : ¬cond1 i) (xs : Vec F S256x512 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8
        ∗ (∃ d, owns (c : Thread nD τ) arg12 fullShare d) ∗ owns (c : Thread nD τ) arg13 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8
            ∗ owns (c : Thread nD τ) arg12 fullShare (bwdO x0 x1 x2 x3 x4 x5 x6 x7 x8 xs)
            ∗ owns (c : Thread nD τ) arg13 fullShare (bwdCarry x0 x1 x2 x3 x4 x5 x6 x7 x8 xs 13)) -∗ K ⟨⟩))
      ⊢ wp frame (wpE (defs₀ (F := F)) Variants.none c none) E (cc1_ret_bwd i arg2 harg2 arg3 harg3 arg4 harg4 arg5 harg5 arg6 harg6 arg7 harg7 arg8 harg8 arg9 harg9 arg10 harg10 (Memref.whole main_arg2) (Memref.isWhole_whole _) arg12 harg12 arg13 harg13) K := by
  iintro ⟨H0, H1, H2, H3, H4, H5, H6, H7, H8, H9, HS, Hk⟩
  iapply ((bwdRunNext c i arg2 harg2 arg3 harg3 arg4 harg4 arg5 harg5 arg6 harg6 arg7 harg7 arg8 harg8 arg9 harg9 arg10 harg10 arg12 harg12 arg13 harg13 x0 x1 x2 x3 x4 x5 x6 x7 x8 hc xs).2.2 E _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS]; · iexact HS
  iintro ⟨H0, H1, H2, H3, H4, H5, H6, H7, H8, ⟨%e9, H9⟩, ⟨%es, HS⟩⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr
    swap; · iexact H9
    ipureintro
    exact funext fun y => View.read_writes_apply_of_pieces arg12.view e9 _ _ (bwdRunNext_O c i arg2 harg2 arg3 harg3 arg4 harg4 arg5 harg5 arg6 harg6 arg7 harg7 arg8 harg8 arg9 harg9 arg10 harg10 arg12 harg12 arg13 harg13 x0 x1 x2 x3 x4 x5 x6 x7 x8 hc xs) y
      (bwdRunNext_cover c i arg2 harg2 arg3 harg3 arg4 harg4 arg5 harg5 arg6 harg6 arg7 harg7 arg8 harg8 arg9 harg9 arg10 harg10 arg12 harg12 arg13 harg13 x0 x1 x2 x3 x4 x5 x6 x7 x8 hc xs y)
  unfold owns; iexists _; isplitr
  swap; · iexact HS
  ipureintro; exact bwdRunNext_C c i arg2 harg2 arg3 harg3 arg4 harg4 arg5 harg5 arg6 harg6 arg7 harg7 arg8 harg8 arg9 harg9 arg10 harg10 arg12 harg12 arg13 harg13 x0 x1 x2 x3 x4 x5 x6 x7 x8 hc xs arg13.view es

end

end Cert.Retention
-- ==== Proof.BwdRegion.lean ====
module

public import proofs.«01_k».proof.Proof.BwdBody
public import proofs.«01_k».proof.Proof.Held
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Retention

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-- Window `w`'s block at grid point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each window's buffer at point `t`, which is a whole buffer. -/

abbrev ms1_0 (t : Fin cfg1.N) : Memref sig .tc .vmem S1664x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1664x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1664x512 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1664x512 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1664x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1664x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x8x128 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S13x1x256x512 .bf16 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1664x512 .bf16 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S1664x1536 .bf16 := win1_9.stage (cfg1.slots t 9)
abbrev hs1_9 (t : Fin cfg1.N) : (ms1_9 t).IsWhole := hstage1_9 ((cfg1.slots t 9).cast nbuf1_9)
/-- The carried state's buffer. -/
abbrev scM1_0 : Memref sig .tc .vmem S256x512 .f32 := Memref.whole cc1_scratch0

/-- What the call keeps untouched beside its windows and the carried state: the other call's buffers. -/
def rest1 (c : Dev nD) : sProp 𝕄 :=
  iprop(held c cc0_stg0_0 ∗ held c cc0_stg0_1
    ∗ held c cc0_stg1_0 ∗ held c cc0_stg1_1
    ∗ held c cc0_stg2_0 ∗ held c cc0_stg2_1
    ∗ held c cc0_stg3_0 ∗ held c cc0_stg3_1
    ∗ held c cc0_stg4_0 ∗ held c cc0_stg4_1
    ∗ held c cc0_stg5_0 ∗ held c cc0_stg5_1
    ∗ held c cc0_stg6_0 ∗ held c cc0_stg6_1
    ∗ held c cc0_stg7_0 ∗ held c cc0_stg7_1
    ∗ held c cc0_stg8_0 ∗ held c cc0_stg8_1 ∗ held c cc0_scratch0)

/-- The call's invariant, with the carried state set apart. -/
theorem inv1_eq (c : Dev nD) : (Pipeline.ΦA spec1 c : sProp 𝕄)
    = iprop(((∃ d, owns (c : Thread nD τ) scM1_0 fullShare d) ∗ rest1 (F := F) c) ∗ (∃ r, prngReg c r)) := by
  have comm (P Q : sProp 𝕄) : iprop(P ∗ Q) = iprop(Q ∗ P) := equiv_iff.mp ⟨BI.sep_comm, BI.sep_comm⟩
  have assoc (P Q R : sProp 𝕄) : iprop((P ∗ Q) ∗ R) = iprop(P ∗ Q ∗ R) := equiv_iff.mp ⟨BI.sep_assoc, BI.sep_assoc'⟩
  rw [comm _ (rest1 (F := F) c)]
  unfold Pipeline.ΦA rest1
  rw [scopedRest1_eq]
  simp only [scM1_0, owns_whole, assoc]
  rfl

theorem inv1_split (c : Dev nD) : (Pipeline.ΦA spec1 c : sProp 𝕄)
    ⊢ iprop(((∃ d, owns (c : Thread nD τ) scM1_0 fullShare d) ∗ rest1 (F := F) c) ∗ (∃ r, prngReg c r)) := by
  rw [inv1_eq]

/-- and put together again. -/
theorem inv1_join (c : Dev nD) :
    iprop(((∃ d, owns (c : Thread nD τ) scM1_0 fullShare d) ∗ rest1 (F := F) c) ∗ (∃ r, prngReg c r))
      ⊢ (Pipeline.ΦA spec1 c : sProp 𝕄) := by
  rw [inv1_eq]

/-- The gradient of the carried state a grid point starts from: zero at the first point of a head, what the point before left at the others. -/
def enter1 (c : Dev nD) : (n : ℕ) → n < cfg1.N → Vec F S256x512 .f32
  | 0, _ => (k1_pay4 (F := F))
  | n + 1, h => if (n + 1) % 5 = 0 then (k1_pay4 (F := F))
      else bwdCarry (iblk1 V c 0 ⟨n, Nat.lt_of_succ_lt h⟩) (iblk1 V c 1 ⟨n, Nat.lt_of_succ_lt h⟩) (iblk1 V c 2 ⟨n, Nat.lt_of_succ_lt h⟩) (iblk1 V c 3 ⟨n, Nat.lt_of_succ_lt h⟩) (iblk1 V c 4 ⟨n, Nat.lt_of_succ_lt h⟩) (iblk1 V c 5 ⟨n, Nat.lt_of_succ_lt h⟩) (iblk1 V c 6 ⟨n, Nat.lt_of_succ_lt h⟩) (iblk1 V c 7 ⟨n, Nat.lt_of_succ_lt h⟩) (iblk1 V c 8 ⟨n, Nat.lt_of_succ_lt h⟩) (enter1 c n (Nat.lt_of_succ_lt h)) 13

/-- The gradient of the carried state a grid point leaves. -/
def left1 (c : Dev nD) (n : ℕ) (h : n < cfg1.N) : Vec F S256x512 .f32 :=
  bwdCarry (iblk1 V c 0 ⟨n, h⟩) (iblk1 V c 1 ⟨n, h⟩) (iblk1 V c 2 ⟨n, h⟩) (iblk1 V c 3 ⟨n, h⟩) (iblk1 V c 4 ⟨n, h⟩) (iblk1 V c 5 ⟨n, h⟩) (iblk1 V c 6 ⟨n, h⟩) (iblk1 V c 7 ⟨n, h⟩) (iblk1 V c 8 ⟨n, h⟩) (enter1 V c n h) 13

theorem enter1_first (c : Dev nD) (n : ℕ) (h : n < cfg1.N) (h0 : n % 5 = 0) : enter1 V c n h = (k1_pay4 (F := F)) := by
  cases n with
  | zero => rfl
  | succ n => exact if_pos h0

theorem enter1_next (c : Dev nD) (n : ℕ) (h : n + 1 < cfg1.N) (h0 : ¬(n + 1) % 5 = 0) :
    enter1 V c (n + 1) h = left1 V c n (Nat.lt_of_succ_lt h) := if_neg h0

/-- The carried state's buffer before point `n`: anything at the start, then what the point before left. -/
def state1 (c : Dev nD) : (n : ℕ) → n ≤ cfg1.N → sProp 𝕄
  | 0, _ => iprop(∃ d, owns (c : Thread nD τ) scM1_0 fullShare d)
  | n + 1, h => owns (c : Thread nD τ) scM1_0 fullShare (left1 V c n h)

theorem state1_any (c : Dev nD) (n : ℕ) (h : n ≤ cfg1.N) :
    state1 V c n h ⊢ iprop(∃ d, owns (c : Thread nD τ) scM1_0 fullShare d) := by
  cases n with
  | zero => exact .rfl
  | succ n =>
    show owns (c : Thread nD τ) scM1_0 fullShare (left1 V c n h) ⊢ _
    iintro H; iexists _; iexact H

theorem state1_next (c : Dev nD) (t : Fin cfg1.N) (h0 : ¬t.val % 5 = 0) :
    state1 V c t.val (Nat.le_of_lt t.isLt) = owns (c : Thread nD τ) scM1_0 fullShare (enter1 V c t.val t.isLt) := by
  obtain ⟨n, hn⟩ := t
  cases n with
  | zero => exact absurd rfl h0
  | succ n => exact congrArg (fun x => owns (c : Thread nD τ) scM1_0 fullShare x) (enter1_next V c n hn h0).symm

/-- The call's invariant before point `n`. -/
def Inv1 (c : Dev nD) (n : ℕ) (h : n ≤ cfg1.N) : sProp 𝕄 :=
  iprop((state1 V c n h ∗ rest1 (F := F) c) ∗ (∃ r, prngReg c r))

/-- What each window's buffer holds after the body at point `t`, and the invariant between points. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => bwdO (iblk1 V c 0 t) (iblk1 V c 1 t) (iblk1 V c 2 t) (iblk1 V c 3 t) (iblk1 V c 4 t) (iblk1 V c 5 t) (iblk1 V c 6 t) (iblk1 V c 7 t) (iblk1 V c 8 t) (enter1 V c t.val t.isLt)
  Φ t := Inv1 V c t.val (Nat.le_of_lt_succ t.isLt)
  q w := Pipeline.shareOf spec1 w
  owed _ := 0

theorem A_eq1 (c : Dev nD) (w : Fin cfg1.W) : (dat1 V c).A w = V c (Pipeline.arrRef spec1 w) := by
  dsimp only [dat1]

theorem Inv1_castSucc (c : Dev nD) (t : Fin cfg1.N) : (dat1 V c).Φ t.castSucc = Inv1 V c t.val (Nat.le_of_lt t.isLt) := by
  dsimp only [dat1]; exact Pipeline.Dat.Φ_castSucc (Inv1 V c) t

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = bwdO (iblk1 V c 0 t) (iblk1 V c 1 t) (iblk1 V c 2 t) (iblk1 V c 3 t) (iblk1 V c 4 t) (iblk1 V c 5 t) (iblk1 V c 6 t) (iblk1 V c 7 t) (iblk1 V c 8 t) (enter1 V c t.val t.isLt) := by dsimp only [dat1]

/-! Each input window holds its block whenever the body runs. -/

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl
theorem before1_3 (c : Dev nD) (t : Fin cfg1.N) (d) : (dat1 V c).before 3 t d = iblk1 V c 3 t :=
  ((dat1 V c).before_in_eq_fetched 3 rfl (fun _ => rfl) (fun _ _ _ => rfl) (fun _ => rfl) t d).trans rfl
theorem before1_4 (c : Dev nD) (t : Fin cfg1.N) (d) : (dat1 V c).before 4 t d = iblk1 V c 4 t :=
  ((dat1 V c).before_in_eq_fetched 4 rfl (fun _ => rfl) (fun _ _ _ => rfl) (fun _ => rfl) t d).trans rfl
theorem before1_5 (c : Dev nD) (t : Fin cfg1.N) (d) : (dat1 V c).before 5 t d = iblk1 V c 5 t :=
  ((dat1 V c).before_in_eq_fetched 5 rfl (fun _ => rfl) (fun _ _ _ => rfl) (fun _ => rfl) t d).trans rfl
theorem before1_6 (c : Dev nD) (t : Fin cfg1.N) (d) : (dat1 V c).before 6 t d = iblk1 V c 6 t :=
  ((dat1 V c).before_in_eq_fetched 6 rfl (fun _ => rfl) (fun _ _ _ => rfl) (fun _ => rfl) t d).trans rfl
theorem before1_7 (c : Dev nD) (t : Fin cfg1.N) (d) : (dat1 V c).before 7 t d = iblk1 V c 7 t :=
  ((dat1 V c).before_in_eq_fetched 7 rfl (fun _ => rfl) (fun _ _ _ => rfl) (fun _ => rfl) t d).trans rfl
theorem before1_8 (c : Dev nD) (t : Fin cfg1.N) (d) : (dat1 V c).before 8 t d = iblk1 V c 8 t :=
  ((dat1 V c).before_in_eq_fetched 8 rfl (fun _ => rfl) (fun _ _ _ => rfl) (fun _ => rfl) t d).trans rfl

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d)))

/-- and what it gives back. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t)
    ∗ owns (c : Thread nD τ) (ms1_9 t) fullShare ((dat1 V c).after 9 t))

set_option maxHeartbeats 3200000 in
/-- The body at the first point of a head. -/
theorem sound_body1First (c : Dev nD) (t : Fin cfg1.N) (h0 : t.val % 5 = 0) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).owesAt () t.succ = (dat1 V c).owesAt () t.castSucc from rfl, Inv1_castSucc,
    show (dat1 V c).Φ t.succ = Inv1 V c (t.val + 1) t.isLt from rfl,
    after1_0, after1_1, after1_2, after1_3, after1_4, after1_5, after1_6, after1_7, after1_8, after1_9]
  unfold Inv1
  rw [show state1 V c (t.val + 1) t.isLt = owns (c : Thread nD τ) scM1_0 fullShare (bwdCarry (iblk1 V c 0 t) (iblk1 V c 1 t) (iblk1 V c 2 t) (iblk1 V c 3 t) (iblk1 V c 4 t) (iblk1 V c 5 t) (iblk1 V c 6 t) (iblk1 V c 7 t) (iblk1 V c 8 t) (enter1 V c t.val t.isLt) 13) from rfl]
  rw [enter1_first V c t.val t.isLt h0]
  iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  ihave HS' := (state1_any V c t.val (Nat.le_of_lt t.isLt)) $$ HS
  iapply (bwd_bodyFirst c (grid1.coords t) _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) ((cond1_iff t).mpr h0) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [HS']; · iexact HS'
  iintro ⟨H0, H1, H2, H3, H4, H5, H6, H7, H8, H9, HS⟩
  isplitl [HS HR Hg]
  · isplitl [HS HR]
    · isplitl [HS]; · iexact HS
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

set_option maxHeartbeats 3200000 in
/-- The body at a later point of a head. -/
theorem sound_body1Next (c : Dev nD) (t : Fin cfg1.N) (h0 : ¬t.val % 5 = 0) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).owesAt () t.succ = (dat1 V c).owesAt () t.castSucc from rfl, Inv1_castSucc,
    show (dat1 V c).Φ t.succ = Inv1 V c (t.val + 1) t.isLt from rfl,
    after1_0, after1_1, after1_2, after1_3, after1_4, after1_5, after1_6, after1_7, after1_8, after1_9]
  unfold Inv1
  rw [show state1 V c (t.val + 1) t.isLt = owns (c : Thread nD τ) scM1_0 fullShare (bwdCarry (iblk1 V c 0 t) (iblk1 V c 1 t) (iblk1 V c 2 t) (iblk1 V c 3 t) (iblk1 V c 4 t) (iblk1 V c 5 t) (iblk1 V c 6 t) (iblk1 V c 7 t) (iblk1 V c 8 t) (enter1 V c t.val t.isLt) 13) from rfl]
  rw [state1_next V c t h0]
  iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (bwd_bodyNext c (grid1.coords t) _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (fun h => h0 ((cond1_iff t).mp h)) (enter1 V c t.val t.isLt) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [HS]; · iexact HS
  iintro ⟨H0, H1, H2, H3, H4, H5, H6, H7, H8, H9, HS⟩
  isplitl [HS HR Hg]
  · isplitl [HS HR]
    · isplitl [HS]; · iexact HS
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem row1 (t : Fin cfg1.N) : defs₀ (F := F) .tc cfg1.body (cfg1.bodyArgs t (cfg1.slots t)) = bodyAt1 t := by
  unfold defs₀; rw [Defs.onTc_tc]

/-- The body keeps the invariant at every point. -/
theorem body_obligation1 (c : Dev nD) : BodyObligation (dat1 (F := F) V c) (defs₀ (F := F)) Variants.none () Set.univ := fun t => by
  rw [bigSep_W1, bigSep_W1, row1]
  by_cases h0 : t.val % 5 = 0
  · exact triple_restated (sound_body1First V c t h0) rfl .rfl fun _ => .rfl
  · exact triple_restated (sound_body1Next V c t h0) rfl .rfl fun _ => .rfl

end Regions

end Cert.Retention
-- ==== Proof.KernelRun.lean ====
module

public import proofs.«01_k».proof.Proof.FwdRegion
public import proofs.«01_k».proof.Proof.BwdRegion

@[expose] public section

set_option maxRecDepth 16384

noncomputable section

namespace Cert.Retention

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What every buffer holds. -/
abbrev Bufs (F : FTy → Type) : Type := (c : Dev nD) → (b : Ref sig .tc) → Buf (Elt F) ((c : Thread nD τ).loc b)

/-- After the last point the call's invariant holds with the carried state at some contents. -/
theorem last0 (V : Bufs F) (c : Dev nD) :
    (dat0 V c).Φ (Fin.last _) ⊢ (Pipeline.ΦA spec0 c : sProp 𝕄) := by
  refine BI.BIBase.Entails.trans ?_ (inv0_join c)
  show Inv0 V c cfg0.N (Nat.le_refl _) ⊢ _
  unfold Inv0
  iintro ⟨⟨HS, HR⟩, Hg⟩
  ihave HS' := (state0_any V c cfg0.N (Nat.le_refl _)) $$ HS
  isplitl [HS' HR]
  · isplitl [HS']; · iexact HS'
    iexact HR
  iexact Hg

/-- After the last point the call's invariant holds with the carried state at some contents. -/
theorem last1 (V : Bufs F) (c : Dev nD) :
    (dat1 V c).Φ (Fin.last _) ⊢ (Pipeline.ΦA spec1 c : sProp 𝕄) := by
  refine BI.BIBase.Entails.trans ?_ (inv1_join c)
  show Inv1 V c cfg1.N (Nat.le_refl _) ⊢ _
  unfold Inv1
  iintro ⟨⟨HS, HR⟩, Hg⟩
  ihave HS' := (state1_any V c cfg1.N (Nat.le_refl _)) $$ HS
  isplitl [HS' HR]
  · isplitl [HS']; · iexact HS'
    iexact HR
  iexact Hg

/-- The program's argument arrays. -/
abbrev argRefs : List (Ref sig .tc) := [main_arg0, main_arg1, main_arg2]

/-! ## The host stretches: none allocates a buffer, and each lists the references its operations write, in order.
    A reference absent from the list keeps its contents, and the arguments are absent from every list. -/

/-- The operations write within a list of references. -/
abbrev WritesIn (ops : List (HloOp τ sig (Elt F))) (ws : List (Ref sig .tc)) : Prop :=
  ops.Forall fun op => op.writes ⊆ (ws.map (Proc.devRef (τ := τ) .tc)).toFinset
/-- The operations allocate nothing. -/
abbrev Fresh (ops : List (HloOp τ sig (Elt F))) : Prop := ops.Forall fun op => op.fresh = ∅

theorem hostOps0_fresh : Fresh (F := F) hostOps0 := by
  simp only [List.Forall]; repeat' constructor
abbrev hostOps0_W : List (Ref sig .tc) := [main_v0, main_cst, main_v1, main_v2, main_cst_0, main_cst_1]
theorem hostOps0_writes : WritesIn (F := F) hostOps0 hostOps0_W :=
  StableHlo.forall_writes_sub_of_map rfl
theorem hostOps0_args : ∀ a ∈ argRefs, a ∉ hostOps0_W := ListAll.forall_mem_of_all_decide (by decide +kernel)

theorem hostOps0_1_fresh : Fresh (F := F) hostOps0_1 := by
  simp only [List.Forall]; repeat' constructor
abbrev hostOps0_1_W : List (Ref sig .tc) := [main_call0_v0, main_call0_v1, main_call0_v2, main_call0_cst, main_call0_v3, main_call0_v4, main_call0_cst_0, main_call0_v5, main_call0_v6, main_call0_v7, main_call0_cst_1, main_call0_v8, main_call0_v9, main_call0_v10, main_call0_v11, main_call0_v12, main_call0_v13, main_call0_v14, main_call0_v15, main_call0_v16, main_v3]
theorem hostOps0_1_writes : WritesIn (F := F) hostOps0_1 hostOps0_1_W :=
  StableHlo.forall_writes_sub_of_map rfl
theorem hostOps0_1_args : ∀ a ∈ argRefs, a ∉ hostOps0_1_W := ListAll.forall_mem_of_all_decide (by decide +kernel)

theorem hostOps0_2_fresh : Fresh (F := F) hostOps0_2 := by
  simp only [List.Forall]; repeat' constructor
abbrev hostOps0_2_W : List (Ref sig .tc) := [main_v4, main_cst_2, main_v5, main_v6, main_v7, main_v8, main_v9, main_v10, main_v11, main_v12, main_cst_3, main_v13, main_v14, main_cst_4, main_v15, main_v16, main_cst_5, main_v17, main_v18, main_v19, main_v20, main_v21, main_v22, main_v23, main_c]
theorem hostOps0_2_writes : WritesIn (F := F) hostOps0_2 hostOps0_2_W :=
  StableHlo.forall_writes_sub_of_map rfl
theorem hostOps0_2_args : ∀ a ∈ argRefs, a ∉ hostOps0_2_W := ListAll.forall_mem_of_all_decide (by decide +kernel)

theorem hostOps0_3_fresh : Fresh (F := F) hostOps0_3 := by
  simp only [List.Forall]; repeat' constructor
abbrev hostOps0_3_W : List (Ref sig .tc) := [main_call1_v0, main_v24]
theorem hostOps0_3_writes : WritesIn (F := F) hostOps0_3 hostOps0_3_W :=
  StableHlo.forall_writes_sub_of_map rfl
theorem hostOps0_3_args : ∀ a ∈ argRefs, a ∉ hostOps0_3_W := ListAll.forall_mem_of_all_decide (by decide +kernel)

theorem hostOps1_fresh : Fresh (F := F) hostOps1 := by
  simp only [List.Forall]; repeat' constructor
abbrev hostOps1_W : List (Ref sig .tc) := [main_c_6]
theorem hostOps1_writes : WritesIn (F := F) hostOps1 hostOps1_W :=
  StableHlo.forall_writes_sub_of_map rfl
theorem hostOps1_args : ∀ a ∈ argRefs, a ∉ hostOps1_W := ListAll.forall_mem_of_all_decide (by decide +kernel)

theorem hostOps1_1_fresh : Fresh (F := F) hostOps1_1 := by
  simp only [List.Forall]; repeat' constructor
abbrev hostOps1_1_W : List (Ref sig .tc) := [main_call2_v0, main_v26]
theorem hostOps1_1_writes : WritesIn (F := F) hostOps1_1 hostOps1_1_W :=
  StableHlo.forall_writes_sub_of_map rfl
theorem hostOps1_1_args : ∀ a ∈ argRefs, a ∉ hostOps1_1_W := ListAll.forall_mem_of_all_decide (by decide +kernel)

theorem hostOps1_2_fresh : Fresh (F := F) hostOps1_2 := by
  simp only [List.Forall]; repeat' constructor
abbrev hostOps1_2_W : List (Ref sig .tc) := [main_v27]
theorem hostOps1_2_writes : WritesIn (F := F) hostOps1_2 hostOps1_2_W :=
  StableHlo.forall_writes_sub_of_map rfl
theorem hostOps1_2_args : ∀ a ∈ argRefs, a ∉ hostOps1_2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0`. -/
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- After `hostOps0_1`. -/
abbrev W2 : Dev nD → Valuation τ sig (Elt F) := fun c => StableHlo.after hostOps0_1 (W1 m ρ c)
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
theorem W2_args (c : Dev nD) : ∀ a ∈ argRefs, W2 m ρ c (Proc.devRef .tc a) = m ((c : Thread nD τ).loc a) :=
  fun a ha => (W2_of m ρ c a (hostOps0_1_args a ha)).trans (W1_args m ρ c a ha)
/-- After `hostOps0_2`. -/
abbrev W3 : Dev nD → Valuation τ sig (Elt F) := fun c => StableHlo.after hostOps0_2 (W2 m ρ c)
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h
theorem W3_args (c : Dev nD) : ∀ a ∈ argRefs, W3 m ρ c (Proc.devRef .tc a) = m ((c : Thread nD τ).loc a) :=
  fun a ha => (W3_of m ρ c a (hostOps0_2_args a ha)).trans (W2_args m ρ c a ha)
/-- After `hostOps0_3` (region 0's entry). -/
abbrev W4 : Dev nD → Valuation τ sig (Elt F) := fun c => StableHlo.after hostOps0_3 (W3 m ρ c)
theorem W4_of (c : Dev nD) (r : Ref sig .tc) (h : r ∉ hostOps0_3_W) : W4 m ρ c (Proc.devRef .tc r) = W3 m ρ c (Proc.devRef .tc r) :=
  StableHlo.after_of_writes_sub hostOps0_3 _ hostOps0_3_writes h
theorem W4_args (c : Dev nD) : ∀ a ∈ argRefs, W4 m ρ c (Proc.devRef .tc a) = m ((c : Thread nD τ).loc a) :=
  fun a ha => (W4_of m ρ c a (hostOps0_3_args a ha)).trans (W3_args m ρ c a ha)
/-- The same read at the TensorCore's references (what region 0's proof data take). -/
abbrev V4 : Bufs F := fun c b => W4 m ρ c b
/-- At region 0's exit: its arrays at what the call leaves, every other buffer as entered. -/
def W5 (c : Dev nD) : Valuation τ sig (Elt F) :=
  Pipeline.withArrays spec0 c (W4 m ρ c) fun w => (dat0 (V4 m ρ) c).arrAt w cfg0.N
theorem W5_arr (c : Dev nD) (w : Fin cfg0.W) :
    W5 m ρ c (Proc.devRef .tc (Pipeline.arrRef spec0 w)) = (dat0 (V4 m ρ) c).arrAt w cfg0.N := by
  unfold W5; exact (dat0 (V4 m ρ) c).withArrays_arrAt launch₀0.sharedIn _ (A_eq0 (V4 m ρ) c) w
theorem W5_of_ne (c : Dev nD) (b : Ref sig .tc) (hb : ∀ w, Pipeline.arrRef spec0 w ≠ b) :
    W5 m ρ c (Proc.devRef .tc b) = W4 m ρ c (Proc.devRef .tc b) := by
  unfold W5; exact Pipeline.withArrays_of_ne spec0 c _ _ b hb
/-- A reference that is none of region 0's output arrays keeps its contents across it. -/
theorem W5_of (c : Dev nD) (r : Ref sig .tc) (h : ∀ w : Fin cfg0.W, Pipeline.arrRef spec0 w = r → (cfg0.win w).isOut = false) :
    W5 m ρ c (Proc.devRef .tc r) = W4 m ρ c (Proc.devRef .tc r) := by
  by_cases hw : ∃ w : Fin cfg0.W, Pipeline.arrRef spec0 w = r
  · obtain ⟨w, rfl⟩ := hw
    exact (W5_arr m ρ c w).trans (((dat0 (V4 m ρ) c).arrAt_in w (h w rfl) _).trans (A_eq0 (V4 m ρ) c w))
  · exact W5_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W5_args (c : Dev nD) : ∀ a ∈ argRefs, W5 m ρ c (Proc.devRef .tc a) = m ((c : Thread nD τ).loc a) :=
  fun a ha => (W5_of m ρ c a (argsIn0 a ha)).trans (W4_args m ρ c a ha)
/-- The same read at the TensorCore's references (region 0's exit contents). -/
abbrev V5 : Bufs F := fun c b => W5 m ρ c b
/-- The same, as the region is told of it. -/
theorem hF0 (c : Dev nD) (w : Fin cfg0.W) : (dat0 (V4 m ρ) c).arrAt w cfg0.N = V5 m ρ c (Pipeline.arrRef spec0 w) :=
  (W5_arr m ρ c w).symm
theorem hrest0 (c : Dev nD) : ∀ b, b ∉ Finset.univ.image (Pipeline.arrRef spec0) → V5 m ρ c b = V4 m ρ c b :=
  fun b hb => W5_of_ne m ρ c b fun w e => hb (Finset.mem_image.mpr ⟨w, Finset.mem_univ _, e⟩)

/-- After `hostOps1`. -/
abbrev W6 : Dev nD → Valuation τ sig (Elt F) := fun c => StableHlo.after hostOps1 (W5 m ρ c)
theorem W6_of (c : Dev nD) (r : Ref sig .tc) (h : r ∉ hostOps1_W) : W6 m ρ c (Proc.devRef .tc r) = W5 m ρ c (Proc.devRef .tc r) :=
  StableHlo.after_of_writes_sub hostOps1 _ hostOps1_writes h
theorem W6_args (c : Dev nD) : ∀ a ∈ argRefs, W6 m ρ c (Proc.devRef .tc a) = m ((c : Thread nD τ).loc a) :=
  fun a ha => (W6_of m ρ c a (hostOps1_args a ha)).trans (W5_args m ρ c a ha)
/-- After `hostOps1_1`. -/
abbrev W7 : Dev nD → Valuation τ sig (Elt F) := fun c => StableHlo.after hostOps1_1 (W6 m ρ c)
theorem W7_of (c : Dev nD) (r : Ref sig .tc) (h : r ∉ hostOps1_1_W) : W7 m ρ c (Proc.devRef .tc r) = W6 m ρ c (Proc.devRef .tc r) :=
  StableHlo.after_of_writes_sub hostOps1_1 _ hostOps1_1_writes h
theorem W7_args (c : Dev nD) : ∀ a ∈ argRefs, W7 m ρ c (Proc.devRef .tc a) = m ((c : Thread nD τ).loc a) :=
  fun a ha => (W7_of m ρ c a (hostOps1_1_args a ha)).trans (W6_args m ρ c a ha)
/-- After `hostOps1_2` (region 1's entry). -/
abbrev W8 : Dev nD → Valuation τ sig (Elt F) := fun c => StableHlo.after hostOps1_2 (W7 m ρ c)
theorem W8_of (c : Dev nD) (r : Ref sig .tc) (h : r ∉ hostOps1_2_W) : W8 m ρ c (Proc.devRef .tc r) = W7 m ρ c (Proc.devRef .tc r) :=
  StableHlo.after_of_writes_sub hostOps1_2 _ hostOps1_2_writes h
theorem W8_args (c : Dev nD) : ∀ a ∈ argRefs, W8 m ρ c (Proc.devRef .tc a) = m ((c : Thread nD τ).loc a) :=
  fun a ha => (W8_of m ρ c a (hostOps1_2_args a ha)).trans (W7_args m ρ c a ha)
/-- The same read at the TensorCore's references (what region 1's proof data take). -/
abbrev V8 : Bufs F := fun c b => W8 m ρ c b
/-- At region 1's exit: its arrays at what the call leaves, every other buffer as entered. -/
def W9 (c : Dev nD) : Valuation τ sig (Elt F) :=
  Pipeline.withArrays spec1 c (W8 m ρ c) fun w => (dat1 (V8 m ρ) c).arrAt w cfg1.N
theorem W9_arr (c : Dev nD) (w : Fin cfg1.W) :
    W9 m ρ c (Proc.devRef .tc (Pipeline.arrRef spec1 w)) = (dat1 (V8 m ρ) c).arrAt w cfg1.N := by
  unfold W9; exact (dat1 (V8 m ρ) c).withArrays_arrAt launch₀1.sharedIn _ (A_eq1 (V8 m ρ) c) w
theorem W9_of_ne (c : Dev nD) (b : Ref sig .tc) (hb : ∀ w, Pipeline.arrRef spec1 w ≠ b) :
    W9 m ρ c (Proc.devRef .tc b) = W8 m ρ c (Proc.devRef .tc b) := by
  unfold W9; exact Pipeline.withArrays_of_ne spec1 c _ _ b hb
/-- A reference that is none of region 1's output arrays keeps its contents across it. -/
theorem W9_of (c : Dev nD) (r : Ref sig .tc) (h : ∀ w : Fin cfg1.W, Pipeline.arrRef spec1 w = r → (cfg1.win w).isOut = false) :
    W9 m ρ c (Proc.devRef .tc r) = W8 m ρ c (Proc.devRef .tc r) := by
  by_cases hw : ∃ w : Fin cfg1.W, Pipeline.arrRef spec1 w = r
  · obtain ⟨w, rfl⟩ := hw
    exact (W9_arr m ρ c w).trans (((dat1 (V8 m ρ) c).arrAt_in w (h w rfl) _).trans (A_eq1 (V8 m ρ) c w))
  · exact W9_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W9_args (c : Dev nD) : ∀ a ∈ argRefs, W9 m ρ c (Proc.devRef .tc a) = m ((c : Thread nD τ).loc a) :=
  fun a ha => (W9_of m ρ c a (argsIn1 a ha)).trans (W8_args m ρ c a ha)
/-- The same read at the TensorCore's references (region 1's exit contents). -/
abbrev V9 : Bufs F := fun c b => W9 m ρ c b
/-- The same, as the region is told of it. -/
theorem hF1 (c : Dev nD) (w : Fin cfg1.W) : (dat1 (V8 m ρ) c).arrAt w cfg1.N = V9 m ρ c (Pipeline.arrRef spec1 w) :=
  (W9_arr m ρ c w).symm
theorem hrest1 (c : Dev nD) : ∀ b, b ∉ Finset.univ.image (Pipeline.arrRef spec1) → V9 m ρ c b = V8 m ρ c b :=
  fun b hb => W9_of_ne m ρ c b fun w e => hb (Finset.mem_image.mpr ⟨w, Finset.mem_univ _, e⟩)

/-! ### The arguments end as launched -/

theorem W9_main_arg0 (c : Dev nD) : W9 m ρ c (Proc.devRef .tc main_arg0) = m ((c : Thread nD τ).loc main_arg0) :=
  W9_args m ρ c main_arg0 (by decide)
theorem W9_main_arg1 (c : Dev nD) : W9 m ρ c (Proc.devRef .tc main_arg1) = m ((c : Thread nD τ).loc main_arg1) :=
  W9_args m ρ c main_arg1 (by decide)
theorem W9_main_arg2 (c : Dev nD) : W9 m ρ c (Proc.devRef .tc main_arg2) = m ((c : Thread nD τ).loc main_arg2) :=
  W9_args m ρ c main_arg2 (by decide)

/-! ## The proof data family and the thread state -/

/-- The prefetched tables' admissible contents: no pipeline has a table. -/
abbrev adm : (p : Fin 2) → (pcfgs (F := F) p).Adm := fun p => (cfgs p).toPCfg_adm
/-- Each call's proof data, at its region's entry contents. -/
def pdats : (p : Fin 2) → (c : Dev nD) → Dat τ (Elt F) Unit ℕ (UR sig nD τ) ℕ (Pipeline.pin (pcfgs (F := F)) adm p) c
  | ⟨0, _⟩ => fun c => dat0 (V4 m ρ) c
  | ⟨1, _⟩ => fun c => dat1 (V8 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and what it owes, nothing. -/
abbrev R (c : Dev nD) : sProp 𝕄 := iprop((∃ r, prngReg c r) ∗ ∃ W, owes (c : Thread nD τ) (0 : CellTallies nD τ sig Unit) W)
/-- A host stretch as a segment: from the contents `W` to those after its operations. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every unscoped buffer at the last boundary's contents, the generator register at some state. -/
abbrev Tₙ (c : Dev nD) : sProp 𝕄 := iprop(StableHlo.held (c : Thread nD τ) (Pipeline.ucRefs τ sig) (W9 m ρ c) ∗ ∃ r, prngReg c r)

/-! ## The regions as segments -/

set_option backward.isDefEq.respectTransparency.types false in
/-- Region 0 over the thread state: its arrays are split out of the unscoped buffers and put back at the exit contents. -/
def reg0 : Pipeline.RegionSeg (pcfgs (F := F)) adm (pdats m ρ) () defs₀ 𝒱₀ L lv 0 where
  win := launch₀0.win
  block_pos := launch₀0.block_pos
  stage_whole := launch₀0.stage_whole
  K := PEmpty
  osem k := k.elim
  ho := Pipeline.OwnSemFacts.none _
  hbody c := (body_obligation0 (V4 m ρ) c).loose
  hwaits := Pipeline.hwaits_of_owed_zero _ _ _ _ L lv 0 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec0 c (V4 m ρ c)
  hentry c := by
    rw [Pipeline.ownSems0_none]
    have hsplit := Pipeline.arrays_of_unscopedBufs_shared (p := 0) (pcfgs (F := F)) adm (pdats m ρ) launch₀0.win launch₀0.sharedIn launch₀0.arr_whole c
      (fun _ _ => rfl) (V4 m ρ c) (A_eq0 (V4 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Inv0 (V4 m ρ) c 0 (Nat.zero_le _) from rfl]
    refine BI.BIBase.Entails.trans ?_ (inv0_split c)
    unfold Pipeline.ΦA
    iintro ⟨Hp, -, Hr⟩
    isplitl [Hr]; · iexact Hr
    iexact Hp
  hout c := by
    rw [Pipeline.ownSems0_none]
    refine BI.BIBase.Entails.trans (last0 (V4 m ρ) c) ?_
    unfold Pipeline.ΦA
    iintro ⟨Hr, Hp⟩
    isplitl [Hp]; · iexact Hp
    isplitr; · iempintro
    iexact Hr
  hexit c := by
    have hjoin := Pipeline.unscopedBufs_of_arrays_shared (p := 0) (pcfgs (F := F)) adm (Ix := Unit) (Name := ℕ) (U := UR sig nD τ) (Lvl := ℕ)
      launch₀0.win launch₀0.sharedIn launch₀0.arr_whole c (pdats m ρ) (fun _ _ => rfl)
      (V4 m ρ c) (V5 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: its arrays are split out of the unscoped buffers and put back at the exit contents. -/
def reg1 : Pipeline.RegionSeg (pcfgs (F := F)) adm (pdats m ρ) () defs₀ 𝒱₀ L lv 1 where
  win := launch₀1.win
  block_pos := launch₀1.block_pos
  stage_whole := launch₀1.stage_whole
  K := PEmpty
  osem k := k.elim
  ho := Pipeline.OwnSemFacts.none _
  hbody c := (body_obligation1 (V8 m ρ) c).loose
  hwaits := Pipeline.hwaits_of_owed_zero _ _ _ _ L lv 1 fun _ _ => rfl
  pre c := iprop(StableHlo.held (c : Thread nD τ) (Pipeline.ucRefs τ sig) (W8 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V8 m ρ c)
  hentry c := by
    rw [Pipeline.ownSems0_none]
    have hsplit := Pipeline.arrays_of_unscopedBufs_shared (p := 1) (pcfgs (F := F)) adm (pdats m ρ) launch₀1.win launch₀1.sharedIn launch₀1.arr_whole c
      (fun _ _ => rfl) (V8 m ρ c) (A_eq1 (V8 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Inv1 (V8 m ρ) c 0 (Nat.zero_le _) from rfl]
    refine BI.BIBase.Entails.trans ?_ (inv1_split c)
    unfold Pipeline.ΦA
    iintro ⟨Hp, -, Hr⟩
    isplitl [Hr]; · iexact Hr
    iexact Hp
  hout c := by
    rw [Pipeline.ownSems0_none]
    refine BI.BIBase.Entails.trans (last1 (V8 m ρ) c) ?_
    unfold Pipeline.ΦA
    iintro ⟨Hr, Hp⟩
    isplitl [Hp]; · iexact Hp
    isplitr; · iempintro
    iexact Hr
  hexit c := by
    have hjoin := Pipeline.unscopedBufs_of_arrays_shared (p := 1) (pcfgs (F := F)) adm (Ix := Unit) (Name := ℕ) (U := UR sig nD τ) (Lvl := ℕ)
      launch₀1.win launch₀1.sharedIn launch₀1.arr_whole c (pdats m ρ) (fun _ _ => rfl)
      (V8 m ρ c) (V9 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 9 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .region (reg0 m ρ),
    .host (hseg hostOps1 hostOps1_sub hostOps1_fresh (W5 m ρ)),
    .host (hseg hostOps1_1 hostOps1_1_sub hostOps1_1_fresh (W6 m ρ)),
    .host (hseg hostOps1_2 hostOps1_2_sub hostOps1_2_fresh (W7 m ρ)),
    .region (reg1 m ρ) ]
/-- @main is the run of the segments. -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

set_option backward.isDefEq.respectTransparency.types false in
/-- The run: every execution ends, with every counter at zero and every array of the program at the contents the last
    boundary names. -/
theorem kernel_run : θ_run defs (onTc (τ := τ) (main (F := F))) ⟨m, fun _ => 0, ρ⟩ (fun r =>
    (∀ c : Dev nD, ∀ b ∈ Pipeline.ucRefs τ sig, r.2.mem (((c : Thread nD τ)).1, b) = W9 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h hz => ⟨h, funext fun g => hz g (.inr (no_unscoped g.2))⟩)

/-- What the run leaves in an array of the program. -/
theorem kernel_reads {s : MemSt nD τ sig (Elt F)} {c : Dev nD}
    (h : ∀ b ∈ Pipeline.ucRefs τ sig, s.mem (((c : Thread nD τ)).1, b) = W9 m ρ c b) (b : Ref sig .tc)
    (hb : ¬ (Proc.devRef .tc b : DevRef τ sig).isScoped) : s.mem ((c : Thread nD τ).loc b) = W9 m ρ c (Proc.devRef .tc b) :=
  h _ (mem_uc b hb)

/-- The arguments end as they were launched. -/
theorem kernel_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨(kernel_reads m ρ (h.1 c) main_arg0 (by decide)).trans (W9_main_arg0 m ρ c),
     (kernel_reads m ρ (h.1 c) main_arg1 (by decide)).trans (W9_main_arg1 m ρ c),
     (kernel_reads m ρ (h.1 c) main_arg2 (by decide)).trans (W9_main_arg2 m ρ c)⟩, h.2⟩) (kernel_run m ρ)

end Cert.Retention
-- ==== Proof.Spec.lean ====
module

public import Idealize.ShloMosaic.Lib.Pointwise

@[expose] public section

set_option maxRecDepth 16384

noncomputable section

/-! The retention step on one chunk of 128 rows, over the extended reals: plain formulas on rows and matrices of numbers.
`q`, `k`, `v`, `g` are the chunk's rows of one head, `cs` and `sn` the rows of the rotary tables, `lg` the head's log decay,
`p` the state before the chunk, `dy` the gradient of the chunk's result and `dn` the gradient of the state after the chunk. -/

namespace Cert.Retention.Spec

open Idealize.ShloMosaic

/-- A matrix of extended reals. -/
abbrev Mat (m n : ℕ) := Fin m → Fin n → EReal

/-- The rotary embedding of one row. -/
def rot (x : Fin 256 → EReal) (c s : Fin 128 → EReal) (d : Fin 256) : EReal :=
  if h : d.val < 128 then x ⟨d.val, d.isLt⟩ * c ⟨d.val, h⟩ - x ⟨128 + d.val, by omega⟩ * s ⟨d.val, h⟩
  else x ⟨128 + (d.val - 128), by omega⟩ * c ⟨d.val - 128, by omega⟩ + x ⟨d.val - 128, by omega⟩ * s ⟨d.val - 128, by omega⟩

/-- Its transpose, by which a gradient goes back through it. -/
def rotT (x : Fin 256 → EReal) (c s : Fin 128 → EReal) (d : Fin 256) : EReal :=
  if h : d.val < 128 then x ⟨128 + d.val, by omega⟩ * s ⟨d.val, h⟩ + x ⟨d.val, d.isLt⟩ * c ⟨d.val, h⟩
  else x ⟨128 + (d.val - 128), by omega⟩ * c ⟨d.val - 128, by omega⟩ + -x ⟨d.val - 128, by omega⟩ * s ⟨d.val - 128, by omega⟩

/-- The scale of the keys. -/
def kscale : EReal := Ideal.ofBits .f32 0x3D800000#32

/-- The decay from row `s` to row `l`, zero above the diagonal. -/
def dec (lg : EReal) (l s : Fin 128) : EReal :=
  Ideal.exp (if s.val ≤ l.val then (((l.val : ℝ) : EReal) - ((s.val : ℝ) : EReal)) * lg else Ideal.ofBits .f32 0xFF800000#32)

/-- The decay from row `l` to the chunk's end. -/
def kdec (lg : EReal) (l : Fin 128) : EReal := Ideal.exp ((Ideal.ofBits .f32 0x42FE0000#32 - ((l.val : ℝ) : EReal)) * lg)

/-- The decay from the chunk's start to row `l`. -/
def qdec (lg : EReal) (l : Fin 128) : EReal := Ideal.exp ((((l.val : ℝ) : EReal) + 1) * lg)

/-- The decay over a whole chunk. -/
def cdec (lg : EReal) : EReal := Ideal.exp (Ideal.ofBits .f32 0x43000000#32 * lg)

section
variable (q k : Mat 128 256) (v g : Mat 128 512) (cs sn : Mat 128 128) (lg : EReal) (p : Mat 256 512)
  (dy : Mat 128 512) (dn : Mat 256 512)

/-- The rotated query rows. -/
def qr : Mat 128 256 := fun l => rot (q l) (cs l) (sn l)
/-- The rotated and scaled key rows. -/
def kr : Mat 128 256 := fun l d => rot (k l) (cs l) (sn l) d * kscale

/-- The decayed scores of the chunk's rows with each other. -/
def sc : Mat 128 128 := fun l s => (∑ d : Fin 256, qr q cs sn l d * kr k cs sn s d) * dec lg l s

/-- The state after the chunk. -/
def new : Mat 256 512 := fun d e =>
  p d e * cdec lg + ∑ s : Fin 128, kr k cs sn s d * kdec lg s * v s e

/-- The chunk's output before its norm. -/
def out : Mat 128 512 := fun l e =>
  (∑ s : Fin 128, sc q k cs sn lg l s * v s e) + (∑ d : Fin 256, qr q cs sn l d * p d e) * qdec lg l

/-- The mean square of an output row, and the norm's small constant. -/
def ms (x : Fin 512 → EReal) : EReal :=
  Ideal.div (∑ e : Fin 512, x e * x e) (Ideal.ofBits .f32 0x44000000#32) + Ideal.ofBits .f32 0x358637BD#32

/-- A result row from the output row and the gate row. -/
def gated (x g : Fin 512 → EReal) (e : Fin 512) : EReal := g e * Ideal.logistic (g e) * (x e * Ideal.rsqrt (ms x))

/-- The chunk's result. -/
def y : Mat 128 512 := fun l => gated (out q k v cs sn lg p l) (g l)

/-- The gradient of the normed row. -/
def dnorm (g dy : Fin 512 → EReal) (e : Fin 512) : EReal := g e * Ideal.logistic (g e) * dy e

/-- The gradient of a row's mean square, shared over the row. -/
def dms (x a : Fin 512 → EReal) : EReal :=
  Ideal.div ((∑ e : Fin 512, x e * a e) * (Ideal.ofBits .f32 0xBF000000#32 * Ideal.div (Ideal.rsqrt (ms x)) (ms x)))
    (Ideal.ofBits .f32 0x44000000#32)

/-- The gradient of an output row before its norm, from the gradient `a` of the normed row. -/
def dnormed (x a : Fin 512 → EReal) (e : Fin 512) : EReal :=
  a e * Ideal.rsqrt (ms x) + x e * dms x a + dms x a * x e

/-- The gradient of a gate row, from the output row `x`, the gate row `g` and the gradient row `dy`. -/
def dgate (x g dy : Fin 512 → EReal) (e : Fin 512) : EReal :=
  dy e * (x e * Ideal.rsqrt (ms x)) * Ideal.logistic (g e)
    + g e * (dy e * (x e * Ideal.rsqrt (ms x))) * (Ideal.logistic (g e) * (1 - Ideal.logistic (g e)))

/-- The gradient of the output before its norm. -/
def dout : Mat 128 512 := fun l => dnormed (out q k v cs sn lg p l) (dnorm (g l) (dy l))

/-- The gradient of the gate rows. -/
def dg : Mat 128 512 := fun l => dgate (out q k v cs sn lg p l) (g l) (dy l)

section
variable (d' : Mat 128 512)
/-- From the output's gradient `d'`: the state before the chunk's gradient. -/
def dprev : Mat 256 512 := fun d e =>
  dn d e * cdec lg + ∑ l : Fin 128, qr q cs sn l d * (d' l e * qdec lg l)
/-- The scores' gradient. -/
def ds : Mat 128 128 := fun l s => (∑ e : Fin 512, d' l e * v s e) * dec lg l s
/-- The rotated query rows' gradient. -/
def dqr : Mat 128 256 := fun l d =>
  (∑ e : Fin 512, d' l e * qdec lg l * p d e) + ∑ s : Fin 128, ds v lg d' l s * kr k cs sn s d
/-- The rotated key rows' gradient. -/
def dkr : Mat 128 256 := fun s d =>
  ((∑ e : Fin 512, v s e * dn d e) * kdec lg s + ∑ l : Fin 128, ds v lg d' l s * qr q cs sn l d) * kscale
/-- The value rows' gradient. -/
def dv : Mat 128 512 := fun s e =>
  (∑ d : Fin 256, kr k cs sn s d * kdec lg s * dn d e) + ∑ l : Fin 128, sc q k cs sn lg l s * d' l e
end

/-- The query rows' gradient. -/
def dq : Mat 128 256 := fun l => rotT (dqr k v cs sn lg p (dout q k v g cs sn lg p dy) l) (cs l) (sn l)
/-- The key rows' gradient. -/
def dk : Mat 128 256 := fun l => rotT (dkr q v cs sn lg dn (dout q k v g cs sn lg p dy) l) (cs l) (sn l)
end

end Cert.Retention.Spec

end
-- ==== Proof.ChunkFwd.lean ====
module

public import proofs.«01_k».proof.Proof.Chunk
public import proofs.«01_k».proof.Proof.Spec

@[expose] public section

set_option maxRecDepth 16384

noncomputable section

namespace Cert.Retention

open Cert.KernelIdeal Cert.KernelIdeal.Gen
open Idealize.ShloMosaic Idealize.ShloMosaic.TcCoe

/-- A vector of two axes as a matrix of extended reals. -/
def mat {m n : ℕ} {φ : FTy} (x : FVec Ideal ⟨2, ![m, n]⟩ φ) : Spec.Mat m n := fun a b => x (ix2 a b)

section
variable (q k : FVec Ideal S128x256 .bf16) (v g : FVec Ideal S128x512 .bf16) (cs sn : FVec Ideal S128x128 .f32)
  (lg : FVec Ideal S1x1x1 .f32) (p : FVec Ideal S256x512 .f32)

theorem sitofp_of (w : BitVec 32) (z : ℤ) (h : w.toInt = z) :
    (FloatOps.sitofp FTy.f32 w : Ideal .f32) = ((z : ℝ) : EReal) := by
  subst h; rfl

theorem toInt_nat (n : ℕ) (h : n < 10000) : (BitVec.ofNat 32 n).toInt = n := by
  rw [BitVec.toInt_eq_toNat_of_lt (by simp; omega)]
  simp; omega

theorem sitofp_nat (n : ℕ) (h : n < 10000) :
    (FloatOps.sitofp FTy.f32 (BitVec.ofNat 32 n) : Ideal .f32) = ((n : ℝ) : EReal) := by
  rw [sitofp_of _ _ (toInt_nat n h)]; simp

theorem sge_nat (l s : ℕ) (hl : l < 10000) (hs : s < 10000) :
    IntOp.cmpi CmpIPredicate.sge (BitVec.ofNat 32 l) (BitVec.ofNat 32 s) = BitVec.ofBool (decide (s ≤ l)) := by
  show BitVec.ofBool ((BitVec.ofNat 32 s).sle (BitVec.ofNat 32 l)) = _
  rw [BitVec.sle_eq_decide, toInt_nat l hl, toInt_nat s hs]
  simp

/-- The kernel's masked distance, and the decay it gives. -/
theorem dec_word (l s : Fin 128) (x : EReal) :
    Ideal.exp (Scalar.select (IntOp.cmpi CmpIPredicate.sge (BitVec.ofNat 32 l.val) (BitVec.ofNat 32 s.val))
        ((FloatOps.sitofp FTy.f32 (IntOp.subi (BitVec.ofNat 32 l.val) (BitVec.ofNat 32 s.val)) : Ideal .f32) * x : EReal)
        (Ideal.ofBits FTy.f32 4286578688#32))
      = Spec.dec x l s := by
  have e : (IntOp.subi (BitVec.ofNat 32 l.val) (BitVec.ofNat 32 s.val)).toInt = (l.val : ℤ) - s.val := by
    show (BitVec.ofNat 32 l.val - BitVec.ofNat 32 s.val).toInt = _
    rw [BitVec.toInt_sub, toInt_nat _ (by omega), toInt_nat _ (by omega)]
    have := l.isLt; have := s.isLt
    simp [Int.bmod_def]; omega
  rw [sitofp_of _ _ e, sge_nat _ _ (by omega) (by omega)]
  unfold Spec.dec
  by_cases h : s.val ≤ l.val
  · simp [h, Scalar.select]
  · simp [h, Scalar.select]

theorem qr_at (l : Fin 128) (d : Fin 256) :
    k0_pay17 (F := Ideal) (k0_pay14 q cs sn) (k0_pay15 q cs) (k0_pay16 q sn) (ix2 l d)
      = Spec.qr (mat q) (mat cs) (mat sn) l d := by
  unfold_payloads
  pointwise
  rfl

theorem kr_at (l : Fin 128) (d : Fin 256) :
    k0_pay18 (F := Ideal) (k0_pay6 k) (k0_pay9 cs) (k0_pay10 sn) (ix2 l d) = Spec.kr (mat k) (mat cs) (mat sn) l d := by
  unfold_payloads
  pointwise
  rfl

theorem row_at (l : Fin 128) : k0_pay19 (F := Ideal) (ix2 l 0) = ((l.val : ℝ) : EReal) := by
  unfold_payloads
  pointwise
  exact sitofp_nat _ (by omega)

theorem lg_at : k0_pay11 (F := Ideal) lg (ix2 0 0) = lg (ix3 0 0 0) := by
  unfold_payloads
  pointwise

theorem v_at (l : Fin 128) (e : Fin 512) : k0_pay7 (F := Ideal) v (ix2 l e) = v (ix2 l e) := by
  unfold_payloads
  pointwise

theorem intra_at (l : Fin 128) (e : Fin 512) :
    k0_pay20 (F := Ideal) (k0_pay6 k) (k0_pay7 v) (k0_pay9 cs) (k0_pay10 sn) (k0_pay11 lg) (k0_pay14 q cs sn) (k0_pay15 q cs)
      (k0_pay16 q sn) (ix2 l e)
      = ∑ s : Fin 128, Spec.sc (mat q) (mat k) (mat cs) (mat sn) (lg (ix3 0 0 0)) l s * v (ix2 s e) := by
  pointwise [k0_pay20, qr_at, kr_at, dec_word, lg_at, v_at]
  rfl

theorem kv_at (d : Fin 256) (e : Fin 512) :
    k0_pay21 (F := Ideal) (k0_pay6 k) (k0_pay7 v) (k0_pay9 cs) (k0_pay10 sn) (k0_pay11 lg) (ix2 d e)
      = ∑ s : Fin 128, Spec.kr (mat k) (mat cs) (mat sn) s d * Spec.kdec (lg (ix3 0 0 0)) s * v (ix2 s e) := by
  pointwise [k0_pay21, qr_at, kr_at, lg_at, v_at, row_at]
  rfl

theorem cross_at (l : Fin 128) (e : Fin 512) :
    k0_pay22 (F := Ideal) p (k0_pay11 lg) (k0_pay14 q cs sn) (k0_pay15 q cs) (k0_pay16 q sn) (ix2 l e)
      = (∑ d : Fin 256, Spec.qr (mat q) (mat cs) (mat sn) l d * p (ix2 d e)) * Spec.qdec (lg (ix3 0 0 0)) l := by
  pointwise [k0_pay22, qr_at, lg_at, row_at]
  rfl

theorem fwdOut_at (l : Fin 128) (e : Fin 512) :
    fwdOut (F := Ideal) q k v g cs sn lg p (ix2 l e)
      = Spec.y (mat q) (mat k) (mat v) (mat g) (mat cs) (mat sn) (lg (ix3 0 0 0)) (mat p) l e := by
  pointwise [fwdOut, k0_pay23, intra_at, cross_at, k0_pay8]
  rfl

theorem fwdNew_at (d : Fin 256) (e : Fin 512) :
    fwdNew (F := Ideal) k v cs sn lg p (ix2 d e)
      = Spec.new (mat k) (mat v) (mat cs) (mat sn) (lg (ix3 0 0 0)) (mat p) d e := by
  pointwise [fwdNew, k0_pay24, kv_at, lg_at]
  rfl

end
end Cert.Retention
end
-- ==== Proof.ChunkBwd.lean ====
module

public import proofs.«01_k».proof.Proof.ChunkFwd

@[expose] public section

set_option maxRecDepth 16384

noncomputable section

/-! The backward body on one chunk, read at an index: the plain formulas of the chunk's gradients. -/

namespace Cert.Retention

open Cert.KernelIdeal Cert.KernelIdeal.Gen
open Idealize.ShloMosaic Idealize.ShloMosaic.TcCoe

section
variable (q k : FVec Ideal S128x256 .bf16) (v g : FVec Ideal S128x512 .bf16) (cs sn : FVec Ideal S128x128 .f32)
  (lg : FVec Ideal S1x1x1 .f32) (st : FVec Ideal S1x1x256x512 .bf16) (dy : FVec Ideal S128x512 .bf16)
  (dn : FVec Ideal S256x512 .f32)

/-- The saved state as a matrix. -/
def stMat : Spec.Mat 256 512 := fun d e => st (ix4 0 0 d e)

/-- The chunk's output before its norm. -/
abbrev outM : Spec.Mat 128 512 :=
  Spec.out (mat q) (mat k) (mat v) (mat cs) (mat sn) (lg (ix3 0 0 0)) (stMat st)

/-- Its gradient. -/
abbrev doutM : Spec.Mat 128 512 :=
  Spec.dout (mat q) (mat k) (mat v) (mat g) (mat cs) (mat sn) (lg (ix3 0 0 0)) (stMat st) (mat dy)

theorem bqr_at (l : Fin 128) (d : Fin 256) :
    k1_pay12 (F := Ideal) cs sn q (ix2 l d) = Spec.qr (mat q) (mat cs) (mat sn) l d := by
  unfold_payloads
  pointwise
  rfl

theorem bkr_at (l : Fin 128) (d : Fin 256) :
    k1_pay16 (F := Ideal) (k1_pay5 cs) (k1_pay6 sn) (k1_pay13 k) (k1_pay14 k) (k1_pay15 cs k) (ix2 l d)
      = Spec.kr (mat k) (mat cs) (mat sn) l d := by
  unfold_payloads
  pointwise
  rfl

theorem bkr_at' (l : Fin 128) (d : Fin 256) :
    bwdKr (F := Ideal) k cs sn (ix2 l d) = Spec.kr (mat k) (mat cs) (mat sn) l d := bkr_at k cs sn l d

theorem brow_at (l : Fin 128) : k1_pay18 (F := Ideal) (ix2 l 0) = ((l.val : ℝ) : EReal) := by
  unfold_payloads
  pointwise
  exact sitofp_nat _ (by omega)

theorem blg_at : k1_pay7 (F := Ideal) lg (ix2 0 0) = lg (ix3 0 0 0) := by
  unfold_payloads
  pointwise

theorem bv_at (l : Fin 128) (e : Fin 512) : k1_pay9 (F := Ideal) v (ix2 l e) = v (ix2 l e) := by
  unfold_payloads
  pointwise

theorem bg_at (l : Fin 128) (e : Fin 512) : k1_pay10 (F := Ideal) g (ix2 l e) = g (ix2 l e) := by
  unfold_payloads
  pointwise

theorem bdy_at (l : Fin 128) (e : Fin 512) : k1_pay29 (F := Ideal) dy (ix2 l e) = dy (ix2 l e) := by
  unfold_payloads
  pointwise

theorem bst_at (d : Fin 256) (e : Fin 512) : k1_pay11 (F := Ideal) st (ix2 d e) = stMat st d e := by
  unfold_payloads
  pointwise
  rfl

theorem bst_at' (d : Fin 256) (e : Fin 512) : k1_pay36 (F := Ideal) (k1_pay11 st) (ix2 d e) = stMat st d e := by
  pointwise [k1_pay36, bst_at]

theorem bdn_at (d : Fin 256) (e : Fin 512) : k1_pay32 (F := Ideal) dn (ix2 d e) = dn (ix2 d e) := by
  unfold_payloads
  pointwise

theorem bcs_at (l : Fin 128) (d : Fin 128) : k1_pay5 (F := Ideal) cs (ix2 l d) = cs (ix2 l d) := by
  unfold_payloads
  pointwise

theorem bsn_at (l : Fin 128) (d : Fin 128) : k1_pay6 (F := Ideal) sn (ix2 l d) = sn (ix2 l d) := by
  unfold_payloads
  pointwise

theorem bdec_at (l s : Fin 128) : k1_pay17 (F := Ideal) (k1_pay7 lg) (ix2 l s) = Spec.dec (lg (ix3 0 0 0)) l s := by
  pointwise [k1_pay17, blg_at, dec_word]

theorem bkdec_at (l : Fin 128) : k1_pay20 (F := Ideal) (k1_pay7 lg) (ix2 l 0) = Spec.kdec (lg (ix3 0 0 0)) l := by
  pointwise [k1_pay20, blg_at, brow_at]
  rfl

theorem bqdec_at (l : Fin 128) : k1_pay22 (F := Ideal) (k1_pay7 lg) (ix2 l 0) = Spec.qdec (lg (ix3 0 0 0)) l := by
  pointwise [k1_pay22, blg_at, brow_at]
  rfl

theorem bcdec_at : k1_pay24 (F := Ideal) (k1_pay7 lg) (ix2 0 0) = Spec.cdec (lg (ix3 0 0 0)) := by
  pointwise [k1_pay24, blg_at]
  rfl

theorem bsc_at (l s : Fin 128) :
    k1_pay19 (F := Ideal) (k1_pay5 cs) (k1_pay6 sn) (k1_pay7 lg) (k1_pay12 cs sn q) (k1_pay13 k) (k1_pay14 k) (k1_pay15 cs k)
        (ix2 l s)
      = Spec.sc (mat q) (mat k) (mat cs) (mat sn) (lg (ix3 0 0 0)) l s := by
  pointwise [k1_pay19, bqr_at, bkr_at, bdec_at]
  rfl

theorem bkd_at (l : Fin 128) (d : Fin 256) :
    k1_pay21 (F := Ideal) (k1_pay5 cs) (k1_pay6 sn) (k1_pay7 lg) (k1_pay13 k) (k1_pay14 k) (k1_pay15 cs k) (ix2 l d)
      = Spec.kr (mat k) (mat cs) (mat sn) l d * Spec.kdec (lg (ix3 0 0 0)) l := by
  pointwise [k1_pay21, bkr_at, bkdec_at]

theorem bwdAttn_at (l : Fin 128) (e : Fin 512) :
    bwdAttn (F := Ideal) q k v cs sn lg st (ix2 l e) = outM q k v cs sn lg st l e := by
  pointwise [bwdAttn, k1_pay23, bsc_at, bv_at, bqr_at, bst_at, bqdec_at]
  rfl

theorem bwdMs_at (l : Fin 128) :
    k1_pay26 (F := Ideal) (bwdSq q k v cs sn lg st) (ix2 l 0) = Spec.ms (outM q k v cs sn lg st l) := by
  have h (l : Fin 128) (e : Fin 512) := bwdAttn_at q k v cs sn lg st l e
  simp only [bwdAttn] at h
  pointwise [k1_pay26, bwdSq, k1_pay25, h]
  rfl

theorem bwdRs_at (l : Fin 128) :
    k1_pay27 (F := Ideal) (bwdSq q k v cs sn lg st) (ix2 l 0) = Ideal.rsqrt (Spec.ms (outM q k v cs sn lg st l)) := by
  pointwise [k1_pay27, bwdMs_at]

theorem bwdDout_at (l : Fin 128) (e : Fin 512) :
    bwdDout (F := Ideal) q k v g cs sn lg st dy (ix2 l e) = doutM q k v g cs sn lg st dy l e := by
  pointwise [bwdDout, k1_pay31, bwdMs_at, bwdRs_at, bwdAttn_at, bg_at, bdy_at, k1_pay28]
  simp only [Fin.sum_univ_one, bwdRs_at, bwdMs_at]
  rfl

theorem bwdG_at (l : Fin 128) (e : Fin 512) :
    bwdG (F := Ideal) q k v g cs sn lg st dy (ix2 l e)
      = Spec.dg (mat q) (mat k) (mat v) (mat g) (mat cs) (mat sn) (lg (ix3 0 0 0)) (stMat st) (mat dy) l e := by
  pointwise [bwdG, k1_pay48, k1_pay30, bwdRs_at, bwdAttn_at, bg_at, bdy_at, k1_pay28]
  rfl

theorem bwdV_at (l : Fin 128) (e : Fin 512) :
    bwdV (F := Ideal) q k v g cs sn lg st dy dn (ix2 l e)
      = Spec.dv (mat q) (mat k) (mat cs) (mat sn) (lg (ix3 0 0 0)) (mat dn) (doutM q k v g cs sn lg st dy) l e := by
  pointwise [bwdV, k1_pay47, k1_pay38, bsc_at, bkd_at, bwdDout_at, bdn_at]
  rfl

theorem bds_at (l s : Fin 128) :
    k1_pay39 (F := Ideal) (k1_pay9 v) (k1_pay17 (k1_pay7 lg)) (bwdDout q k v g cs sn lg st dy) (ix2 l s)
      = Spec.ds (mat v) (lg (ix3 0 0 0)) (doutM q k v g cs sn lg st dy) l s := by
  pointwise [k1_pay39, bv_at, bdec_at, bwdDout_at]
  rfl

theorem bwdCross_at (l : Fin 128) (e : Fin 512) :
    bwdCross (F := Ideal) q k v g cs sn lg st dy (ix2 l e)
      = doutM q k v g cs sn lg st dy l e * Spec.qdec (lg (ix3 0 0 0)) l := by
  have h (l : Fin 128) (e : Fin 512) := bwdDout_at q k v g cs sn lg st dy l e
  simp only [bwdDout] at h
  pointwise [bwdCross, k1_pay34, h, bqdec_at]

theorem bwdQr_at (l : Fin 128) (d : Fin 256) :
    bwdQr (F := Ideal) q k v g cs sn lg st dy (ix2 l d)
      = Spec.dqr (mat k) (mat v) (mat cs) (mat sn) (lg (ix3 0 0 0)) (stMat st) (doutM q k v g cs sn lg st dy) l d := by
  have h (l : Fin 128) (e : Fin 512) := bwdCross_at q k v g cs sn lg st dy l e
  simp only [bwdCross] at h
  pointwise [bwdQr, k1_pay40, k1_pay35, h, bst_at', bds_at, bkr_at']
  rfl

theorem bwdPrev_at (d : Fin 256) (e : Fin 512) :
    bwdPrev (F := Ideal) q k v g cs sn lg st dy dn (ix2 d e)
      = Spec.dprev (mat q) (mat cs) (mat sn) (lg (ix3 0 0 0)) (mat dn) (doutM q k v g cs sn lg st dy) d e := by
  pointwise [bwdPrev, k1_pay49, k1_pay37, k1_pay33, bqr_at, bwdCross_at, bcdec_at]
  rfl

theorem neg_of_zero_sub (x : EReal) : (0 : EReal) - x = -x := by
  rw [sub_eq_add_neg, zero_add]

theorem bwdQ_at (l : Fin 128) (d : Fin 256) :
    bwdQ (F := Ideal) q k v g cs sn lg st dy (ix2 l d)
      = Spec.dq (mat q) (mat k) (mat v) (mat g) (mat cs) (mat sn) (lg (ix3 0 0 0)) (stMat st) (mat dy) l d := by
  pointwise [bwdQ, k1_pay45, bwdQr_at, bcs_at, bsn_at, neg_of_zero_sub]
  unfold Spec.dq Spec.rotT
  split <;> rename_i h <;> simp only [h, ↓reduceDIte, zero_add, add_zero] <;> rfl

theorem bwdK_at (l : Fin 128) (d : Fin 256) :
    bwdK (F := Ideal) q k v g cs sn lg st dy dn (ix2 l d)
      = Spec.dk (mat q) (mat k) (mat v) (mat g) (mat cs) (mat sn) (lg (ix3 0 0 0)) (stMat st) (mat dy) (mat dn) l d := by
  pointwise [bwdK, k1_pay46, k1_pay41, bds_at, bqr_at, bkdec_at, bdn_at, bv_at, bcs_at, bsn_at, neg_of_zero_sub]
  unfold Spec.dk Spec.rotT
  split <;> rename_i h <;> simp only [h, ↓reduceDIte, zero_add, add_zero] <;> rfl

end
end Cert.Retention
end
-- ==== Proof.Global.lean ====
module

public import proofs.«01_k».proof.Proof.Spec

@[expose] public section

set_option maxRecDepth 16384

noncomputable section

/-! The retention step on the whole sequence: 65 chunks for each of 4 heads, the state passed from chunk to chunk and its
gradient passed back. Arrays are read by natural numbers, zero outside their shape. -/

namespace Cert.Retention.Spec

open Idealize.ShloMosaic

/-- An array of rank 2, zero outside its shape. -/
def nat2 {a b : ℕ} (X : (⟨2, ![a, b]⟩ : Shape).Idx → EReal) (r c : ℕ) : EReal :=
  if h : r < a ∧ c < b then X (ix2 ⟨r, h.1⟩ ⟨c, h.2⟩) else 0

theorem nat2_of {a b : ℕ} (X : (⟨2, ![a, b]⟩ : Shape).Idx → EReal) (r : Fin a) (c : Fin b) :
    nat2 X r.val c.val = X (ix2 r c) := by
  unfold nat2
  rw [dif_pos ⟨r.isLt, c.isLt⟩]

/-- The part of an array from row `r` and column `c` on. -/
def part (A : ℕ → ℕ → EReal) (r c : ℕ) {m n : ℕ} : Mat m n := fun i j => A (r + i.val) (c + j.val)

/-- What the step reads: the rows of all the heads' `q`, `k`, `v` and `g`, the gradient of the result, the two tables of the
rotary embedding, and the heads' log decays. -/
structure Inputs where
  /-- the rows of `q`, `k`, `v`, `g`, 1536 columns to a head -/
  x : ℕ → ℕ → EReal
  /-- the result's gradient, 512 columns to a head -/
  dy : ℕ → ℕ → EReal
  /-- cosines -/
  c : ℕ → ℕ → EReal
  /-- sines -/
  s : ℕ → ℕ → EReal
  /-- log decays -/
  l : ℕ → EReal

namespace Inputs
variable (I : Inputs) (h n : ℕ)

/-- Chunk `n` of head `h`. -/
def q : Mat 128 256 := part I.x (128 * n) (1536 * h)
/-- Its keys. -/
def k : Mat 128 256 := part I.x (128 * n) (1536 * h + 256)
/-- Its values. -/
def v : Mat 128 512 := part I.x (128 * n) (1536 * h + 512)
/-- Its gates. -/
def g : Mat 128 512 := part I.x (128 * n) (1536 * h + 1024)
/-- Its result's gradient. -/
def d : Mat 128 512 := part I.dy (128 * n) (512 * h)
/-- The chunk's cosines. -/
def cs : Mat 128 128 := part I.c (128 * n) 0
/-- The chunk's sines. -/
def sn : Mat 128 128 := part I.s (128 * n) 0

/-- The state before chunk `n`. -/
def st : ℕ → Mat 256 512
  | 0 => fun _ _ => 0
  | n + 1 => new (I.k h n) (I.v h n) (I.cs n) (I.sn n) (I.l h) (st n)

/-- The gradient of a chunk's output before its norm. -/
def dout' : Mat 128 512 := dout (I.q h n) (I.k h n) (I.v h n) (I.g h n) (I.cs n) (I.sn n) (I.l h) (I.st h n) (I.d h n)

/-- The gradient of the state after the last chunk but `m`. -/
def gr : ℕ → Mat 256 512
  | 0 => fun _ _ => 0
  | m + 1 => dprev (I.q h (64 - m)) (I.cs (64 - m)) (I.sn (64 - m)) (I.l h) (gr m) (I.dout' h (64 - m))

/-- A chunk's result. -/
def y' : Mat 128 512 := y (I.q h n) (I.k h n) (I.v h n) (I.g h n) (I.cs n) (I.sn n) (I.l h) (I.st h n)
/-- The gradient of a chunk's queries. -/
def dq' : Mat 128 256 := dq (I.q h n) (I.k h n) (I.v h n) (I.g h n) (I.cs n) (I.sn n) (I.l h) (I.st h n) (I.d h n)
/-- The gradient of a chunk's keys. -/
def dk' : Mat 128 256 :=
  dk (I.q h n) (I.k h n) (I.v h n) (I.g h n) (I.cs n) (I.sn n) (I.l h) (I.st h n) (I.d h n) (I.gr h (64 - n))
/-- The gradient of a chunk's values. -/
def dv' : Mat 128 512 := dv (I.q h n) (I.k h n) (I.cs n) (I.sn n) (I.l h) (I.gr h (64 - n)) (I.dout' h n)
/-- The gradient of a chunk's gates. -/
def dg' : Mat 128 512 := dg (I.q h n) (I.k h n) (I.v h n) (I.g h n) (I.cs n) (I.sn n) (I.l h) (I.st h n) (I.d h n)

/-- The result at row `r` and column `c`. -/
def yAt (r c : ℕ) : EReal :=
  I.y' (c / 512) (r / 128) ⟨r % 128, Nat.mod_lt _ (by decide)⟩ ⟨c % 512, Nat.mod_lt _ (by decide)⟩

/-- The gradient of `q`, `k`, `v`, `g` in row `r`, at column `c` of head `h`'s 1536. -/
def dxAt (r h c : ℕ) : EReal :=
  if c < 256 then I.dq' h (r / 128) ⟨r % 128, Nat.mod_lt _ (by decide)⟩ ⟨c % 256, Nat.mod_lt _ (by decide)⟩
  else if c < 512 then I.dk' h (r / 128) ⟨r % 128, Nat.mod_lt _ (by decide)⟩ ⟨(c - 256) % 256, Nat.mod_lt _ (by decide)⟩
  else if c < 1024 then I.dv' h (r / 128) ⟨r % 128, Nat.mod_lt _ (by decide)⟩ ⟨(c - 512) % 512, Nat.mod_lt _ (by decide)⟩
  else I.dg' h (r / 128) ⟨r % 128, Nat.mod_lt _ (by decide)⟩ ⟨(c - 1024) % 512, Nat.mod_lt _ (by decide)⟩

end Inputs

end Cert.Retention.Spec

end
-- ==== Proof.FwdArr.lean ====
module

public import proofs.«01_k».proof.Proof.FwdRegion
public import proofs.«01_k».proof.Proof.ChunkFwd
public import proofs.«01_k».proof.Proof.Global
public import Idealize.ShloMosaic.Lib.Pipeline.ValueKit

@[expose] public section

set_option maxRecDepth 16384

noncomputable section

/-! The arrays the forward call leaves, read at an index: the whole sequence's formulas on the arrays it finds. -/

namespace Cert.Retention

open Cert.KernelIdeal Cert.KernelIdeal.Gen
open Idealize.ShloMosaic Idealize.ShloMosaic.TcCoe

variable (V : (c : Dev nD) → (b : Ref sig .tc) → Buf (Elt Ideal) ((c : Thread nD τ).loc b)) (c : Dev nD)

/-- Where each window's block lies, for every grid point. -/
theorem index0 : ∀ t : Fin cfg0.N,
    (win0_0.index t = ![t.val % 5, t.val / 5 * 6] ∧ win0_1.index t = ![t.val % 5, t.val / 5 * 6 + 1]
    ∧ win0_2.index t = ![t.val % 5, t.val / 5 * 3 + 1] ∧ win0_3.index t = ![t.val % 5, t.val / 5 * 3 + 2])
    ∧ win0_4.index t = ![t.val % 5, 0] ∧ win0_5.index t = ![t.val % 5, 0] ∧ win0_6.index t = ![t.val / 5, 0, 0]
    ∧ win0_7.index t = ![t.val % 5, t.val / 5] ∧ win0_8.index t = ![t.val % 5, t.val / 5, 0, 0] :=
  (by decide +kernel : ∀ t : Fin grid0.N, _)

/-- What the call reads, as the whole sequence's inputs. -/
def in0 : Spec.Inputs where
  x := Spec.nat2 (a := 8320) (b := 6144) (V c main_v24)
  dy := fun _ _ => 0
  c := Spec.nat2 (a := 8320) (b := 128) (V c main_v22)
  s := Spec.nat2 (a := 8320) (b := 128) (V c main_v23)
  l h := if hh : h < 4 then (V c main_v21 : S4x8x128.Idx → EReal) (ix3 ⟨h, hh⟩ 0 0) else 0

theorem rows_at {n : ℕ} (x : FVec Ideal ⟨2, ![1664, n]⟩ .bf16) (j : ℕ) (l : Fin 128) (d : Fin n) :
    mat (φ := .bf16) (rows (F := Ideal) (e := .bf16) x j) l d = x (ix2 ⟨(128 * j + l.val) % 1664, Nat.mod_lt _ (by decide)⟩ d) := by
  simp only [mat, rows, ← ix2_eq_valueIdx]
  rfl

theorem rows_at' {n : ℕ} (x : FVec Ideal ⟨2, ![1664, n]⟩ .f32) (j : ℕ) (l : Fin 128) (d : Fin n) :
    mat (φ := .f32) (rows (F := Ideal) (e := .f32) x j) l d = x (ix2 ⟨(128 * j + l.val) % 1664, Nat.mod_lt _ (by decide)⟩ d) := by
  simp only [mat, rows, ← ix2_eq_valueIdx]
  rfl

section
variable (t : Fin cfg0.N) (j : ℕ) (hj : j < 13)
include hj

theorem blk0_q : mat (φ := .bf16) (rows (F := Ideal) (n := 256) (iblk0 V c 0 t) j)
    = (in0 V c).q (t.val / 5) (13 * (t.val % 5) + j) := by
  have ht : t.val < 20 := t.isLt
  obtain ⟨⟨e0, e1, e2, e3⟩, e4, e5, e6, e7, e8⟩ := index0 t
  funext l d
  rw [rows_at]
  simp only [Spec.Inputs.q, Spec.part, in0, Spec.nat2]
  rw [dif_pos (by constructor <;> omega)]
  blk_ext [iblk0, e0]

theorem blk0_k : mat (φ := .bf16) (rows (F := Ideal) (n := 256) (iblk0 V c 1 t) j)
    = (in0 V c).k (t.val / 5) (13 * (t.val % 5) + j) := by
  have ht : t.val < 20 := t.isLt
  obtain ⟨⟨e0, e1, e2, e3⟩, e4, e5, e6, e7, e8⟩ := index0 t
  funext l d
  rw [rows_at]
  simp only [Spec.Inputs.k, Spec.part, in0, Spec.nat2]
  rw [dif_pos (by constructor <;> omega)]
  blk_ext [iblk0, e1]

theorem blk0_v : mat (φ := .bf16) (rows (F := Ideal) (n := 512) (iblk0 V c 2 t) j)
    = (in0 V c).v (t.val / 5) (13 * (t.val % 5) + j) := by
  have ht : t.val < 20 := t.isLt
  obtain ⟨⟨e0, e1, e2, e3⟩, e4, e5, e6, e7, e8⟩ := index0 t
  funext l d
  rw [rows_at]
  simp only [Spec.Inputs.v, Spec.part, in0, Spec.nat2]
  rw [dif_pos (by constructor <;> omega)]
  blk_ext [iblk0, e2]

theorem blk0_g : mat (φ := .bf16) (rows (F := Ideal) (n := 512) (iblk0 V c 3 t) j)
    = (in0 V c).g (t.val / 5) (13 * (t.val % 5) + j) := by
  have ht : t.val < 20 := t.isLt
  obtain ⟨⟨e0, e1, e2, e3⟩, e4, e5, e6, e7, e8⟩ := index0 t
  funext l d
  rw [rows_at]
  simp only [Spec.Inputs.g, Spec.part, in0, Spec.nat2]
  rw [dif_pos (by constructor <;> omega)]
  blk_ext [iblk0, e3]

theorem blk0_cs : mat (φ := .f32) (rows (F := Ideal) (n := 128) (iblk0 V c 4 t) j)
    = (in0 V c).cs (13 * (t.val % 5) + j) := by
  have ht : t.val < 20 := t.isLt
  obtain ⟨⟨e0, e1, e2, e3⟩, e4, e5, e6, e7, e8⟩ := index0 t
  funext l d
  rw [rows_at']
  simp only [Spec.Inputs.cs, Spec.part, in0, Spec.nat2]
  rw [dif_pos (by constructor <;> omega)]
  blk_ext [iblk0, e4]

theorem blk0_sn : mat (φ := .f32) (rows (F := Ideal) (n := 128) (iblk0 V c 5 t) j)
    = (in0 V c).sn (13 * (t.val % 5) + j) := by
  have ht : t.val < 20 := t.isLt
  obtain ⟨⟨e0, e1, e2, e3⟩, e4, e5, e6, e7, e8⟩ := index0 t
  funext l d
  rw [rows_at']
  simp only [Spec.Inputs.sn, Spec.part, in0, Spec.nat2]
  rw [dif_pos (by constructor <;> omega)]
  blk_ext [iblk0, e5]
end

theorem blk0_lg (t : Fin cfg0.N) : lgOf (F := Ideal) (iblk0 V c 6 t) (ix3 0 0 0) = (in0 V c).l (t.val / 5) := by
  have ht : t.val < 20 := t.isLt
  obtain ⟨⟨e0, e1, e2, e3⟩, e4, e5, e6, e7, e8⟩ := index0 t
  simp only [lgOf, in0]
  rw [dif_pos (by omega)]
  blk_ext [iblk0, e6]

/-- The carried state inside a grid point, from the state the point enters with. -/
theorem carry0 (t : Fin cfg0.N) (xs : FVec Ideal S256x512 .f32)
    (hx : mat xs = (in0 V c).st (t.val / 5) (13 * (t.val % 5))) : ∀ j, j ≤ 13 →
    mat (φ := .f32) (fwdCarry (F := Ideal) (iblk0 V c 1 t) (iblk0 V c 2 t) (iblk0 V c 4 t) (iblk0 V c 5 t) (iblk0 V c 6 t) xs j)
      = (in0 V c).st (t.val / 5) (13 * (t.val % 5) + j)
  | 0, _ => hx
  | j + 1, hj => by
    funext d e
    have ih := carry0 t xs hx j (by omega)
    show fwdNew (F := Ideal) _ _ _ _ _ _ (ix2 d e) = _
    rw [fwdNew_at, ih, blk0_k V c t j (by omega), blk0_v V c t j (by omega), blk0_cs V c t j (by omega),
      blk0_sn V c t j (by omega), blk0_lg]
    rfl

/-- The state a grid point enters with. -/
theorem enter0_at : ∀ (n : ℕ) (h : n < cfg0.N), mat (φ := .f32) (enter0 (F := Ideal) V c n h) = (in0 V c).st (n / 5) (13 * (n % 5))
  | 0, h => by
    funext d e
    rw [enter0_first V c 0 h rfl]
    pointwise [k0_pay3]
    rfl
  | n + 1, h => by
    by_cases h0 : (n + 1) % 5 = 0
    · funext d e
      rw [enter0_first V c (n + 1) h h0, h0]
      pointwise [k0_pay3]
      rfl
    · rw [enter0_next V c n h h0]
      have ih := carry0 V c ⟨n, Nat.lt_of_succ_lt h⟩ _ (enter0_at n (Nat.lt_of_succ_lt h)) 13 le_rfl
      rw [show (n + 1) / 5 = n / 5 by omega, show 13 * ((n + 1) % 5) = 13 * (n % 5) + 13 by omega]
      exact ih

/-- The block of result rows of one grid point. -/
theorem fwdY_at (t : Fin cfg0.N) (y : S1664x512.Idx) :
    fwdY (F := Ideal) (iblk0 V c 0 t) (iblk0 V c 1 t) (iblk0 V c 2 t) (iblk0 V c 3 t) (iblk0 V c 4 t) (iblk0 V c 5 t)
      (iblk0 V c 6 t) (enter0 V c t.val t.isLt) y
      = (in0 V c).yAt (t.val % 5 * 1664 + (y 0).val) (t.val / 5 * 512 + (y 1).val) := by
  have ht : t.val < 20 := t.isLt
  idx_bounds y
  have hc := carry0 V c t _ (enter0_at V c t.val t.isLt) ((y 0).val / 128) (by omega)
  have hj : (y 0).val / 128 < 13 := by omega
  simp only [fwdY, ← ix2_eq_valueIdx]
  refine (fwdOut_at _ _ _ _ _ _ _ _ _ _).trans ?_
  rw [hc, blk0_q V c t _ hj, blk0_k V c t _ hj, blk0_v V c t _ hj, blk0_g V c t _ hj, blk0_cs V c t _ hj,
    blk0_sn V c t _ hj, blk0_lg]
  unfold Spec.Inputs.yAt
  have e1 : (t.val / 5 * 512 + (y 1).val) / 512 = t.val / 5 := by omega
  have e2 : (t.val % 5 * 1664 + (y 0).val) / 128 = 13 * (t.val % 5) + (y 0).val / 128 := by omega
  have e3 : (t.val % 5 * 1664 + (y 0).val) % 128 = (y 0).val % 128 := by omega
  have e4 : (t.val / 5 * 512 + (y 1).val) % 512 = (y 1).val := by omega
  simp only [e1, e2, e3, e4]
  rfl

/-- The block of saved states of one grid point. -/
theorem fwdS_at (t : Fin cfg0.N) (y : S13x1x256x512.Idx) :
    fwdS (F := Ideal) (iblk0 V c 1 t) (iblk0 V c 2 t) (iblk0 V c 4 t) (iblk0 V c 5 t) (iblk0 V c 6 t)
      (enter0 V c t.val t.isLt) y = (in0 V c).st (t.val / 5) (t.val % 5 * 13 + (y 0).val) (y 2) (y 3) := by
  idx_bounds y
  have hc := carry0 V c t _ (enter0_at V c t.val t.isLt) (y 0).val (by omega)
  have hp (x : FVec Ideal S256x512 .f32) (b : Fin 1) (d : Fin 256) (e : Fin 512) :
      k0_pay4 (F := Ideal) x (ix4 0 b d e) = mat x d e := by
    pointwise [k0_pay4]
    rfl
  rw [show t.val % 5 * 13 + (y 0).val = 13 * (t.val % 5) + (y 0).val by omega, ← hc]
  exact hp _ _ _ _

/-- The result's array after the call. -/
theorem arr0_y : (dat0 (F := Ideal) V c).arrAt 7 cfg0.N
    = (fun i : S8320x2048.Idx => (in0 V c).yAt (i 0).val (i 1).val) := by
  refine (dat0 (F := Ideal) V c).arrAt_eq_of_covers 7 _ (by decide +kernel) fun t hf y => ?_
  obtain ⟨-, e4, e5, e6, e7, e8⟩ := index0 t
  blk_simp [e7]
  rw [after0_7]
  exact fwdY_at V c t y

/-- The saved states' array after the call. -/
theorem arr0_st : (dat0 (F := Ideal) V c).arrAt 8 cfg0.N
    = (fun i : S65x4x256x512.Idx => (in0 V c).st (i 1).val (i 0).val ⟨(i 2).val % 256, Nat.mod_lt _ (by decide)⟩
      ⟨(i 3).val % 512, Nat.mod_lt _ (by decide)⟩) := by
  refine (dat0 (F := Ideal) V c).arrAt_eq_of_covers 8 _ (by decide +kernel) fun t hf y => ?_
  obtain ⟨-, e4, e5, e6, e7, e8⟩ := index0 t
  idx_bounds y
  blk_simp [e8]
  rw [after0_8]
  have h1 : (y 1).val = 0 := by omega
  have h2 : (y 2).val % 256 = (y 2).val := by omega
  have h3 : (y 3).val % 512 = (y 3).val := by omega
  simp only [h1, h2, h3, Nat.add_zero]
  exact fwdS_at V c t y

end Cert.Retention

end
-- ==== Proof.BwdArr.lean ====
module

public import proofs.«01_k».proof.Proof.BwdRegion
public import proofs.«01_k».proof.Proof.ChunkBwd
public import proofs.«01_k».proof.Proof.FwdArr
public import Idealize.ShloMosaic.Lib.Pipeline.ValueKit

@[expose] public section

set_option maxRecDepth 16384

noncomputable section

/-! The array the backward call leaves, read at an index: the whole sequence's formulas on the arrays it finds,
which are the forward call's saved states among them. -/

namespace Cert.Retention

open Cert.KernelIdeal Cert.KernelIdeal.Gen
open Idealize.ShloMosaic Idealize.ShloMosaic.TcCoe

variable (V : (c : Dev nD) → (b : Ref sig .tc) → Buf (Elt Ideal) ((c : Thread nD τ).loc b)) (c : Dev nD)

/-- Where each window's block lies, for every grid point. -/
theorem index1 : ∀ t : Fin cfg1.N,
    (win1_0.index t = ![4 - t.val % 5, t.val / 5 * 6] ∧ win1_1.index t = ![4 - t.val % 5, t.val / 5 * 6 + 1]
    ∧ win1_2.index t = ![4 - t.val % 5, t.val / 5 * 3 + 1] ∧ win1_3.index t = ![4 - t.val % 5, t.val / 5 * 3 + 2])
    ∧ win1_4.index t = ![4 - t.val % 5, 0] ∧ win1_5.index t = ![4 - t.val % 5, 0] ∧ win1_6.index t = ![t.val / 5, 0, 0]
    ∧ win1_7.index t = ![4 - t.val % 5, t.val / 5, 0, 0] ∧ win1_8.index t = ![4 - t.val % 5, t.val / 5]
    ∧ win1_9.index t = ![4 - t.val % 5, t.val / 5] :=
  (by decide +kernel : ∀ t : Fin grid1.N, _)

/-- What the call reads, as the whole sequence's inputs. -/
def in1 : Spec.Inputs where
  x := Spec.nat2 (a := 8320) (b := 6144) (V c main_v24)
  dy := Spec.nat2 (a := 8320) (b := 2048) (V c main_v26)
  c := Spec.nat2 (a := 8320) (b := 128) (V c main_v22)
  s := Spec.nat2 (a := 8320) (b := 128) (V c main_v23)
  l h := if hh : h < 4 then (V c main_v21 : S4x8x128.Idx → EReal) (ix3 ⟨h, hh⟩ 0 0) else 0

section
variable (t : Fin cfg1.N) (j : ℕ) (hj : j < 13)
include hj

theorem blk1_q : mat (φ := .bf16) (rows (F := Ideal) (n := 256) (iblk1 V c 0 t) j)
    = (in1 V c).q (t.val / 5) (13 * (4 - t.val % 5) + j) := by
  have ht : t.val < 20 := t.isLt
  obtain ⟨⟨e0, e1, e2, e3⟩, e4, e5, e6, e7, e8, e9⟩ := index1 t
  funext l d
  rw [rows_at]
  simp only [Spec.Inputs.q, Spec.part, in1, Spec.nat2]
  rw [dif_pos (by constructor <;> omega)]
  blk_ext [iblk1, e0]

theorem blk1_k : mat (φ := .bf16) (rows (F := Ideal) (n := 256) (iblk1 V c 1 t) j)
    = (in1 V c).k (t.val / 5) (13 * (4 - t.val % 5) + j) := by
  have ht : t.val < 20 := t.isLt
  obtain ⟨⟨e0, e1, e2, e3⟩, e4, e5, e6, e7, e8, e9⟩ := index1 t
  funext l d
  rw [rows_at]
  simp only [Spec.Inputs.k, Spec.part, in1, Spec.nat2]
  rw [dif_pos (by constructor <;> omega)]
  blk_ext [iblk1, e1]

theorem blk1_v : mat (φ := .bf16) (rows (F := Ideal) (n := 512) (iblk1 V c 2 t) j)
    = (in1 V c).v (t.val / 5) (13 * (4 - t.val % 5) + j) := by
  have ht : t.val < 20 := t.isLt
  obtain ⟨⟨e0, e1, e2, e3⟩, e4, e5, e6, e7, e8, e9⟩ := index1 t
  funext l d
  rw [rows_at]
  simp only [Spec.Inputs.v, Spec.part, in1, Spec.nat2]
  rw [dif_pos (by constructor <;> omega)]
  blk_ext [iblk1, e2]

theorem blk1_g : mat (φ := .bf16) (rows (F := Ideal) (n := 512) (iblk1 V c 3 t) j)
    = (in1 V c).g (t.val / 5) (13 * (4 - t.val % 5) + j) := by
  have ht : t.val < 20 := t.isLt
  obtain ⟨⟨e0, e1, e2, e3⟩, e4, e5, e6, e7, e8, e9⟩ := index1 t
  funext l d
  rw [rows_at]
  simp only [Spec.Inputs.g, Spec.part, in1, Spec.nat2]
  rw [dif_pos (by constructor <;> omega)]
  blk_ext [iblk1, e3]

theorem blk1_cs : mat (φ := .f32) (rows (F := Ideal) (n := 128) (iblk1 V c 4 t) j)
    = (in1 V c).cs (13 * (4 - t.val % 5) + j) := by
  have ht : t.val < 20 := t.isLt
  obtain ⟨⟨e0, e1, e2, e3⟩, e4, e5, e6, e7, e8, e9⟩ := index1 t
  funext l d
  rw [rows_at']
  simp only [Spec.Inputs.cs, Spec.part, in1, Spec.nat2]
  rw [dif_pos (by constructor <;> omega)]
  blk_ext [iblk1, e4]

theorem blk1_sn : mat (φ := .f32) (rows (F := Ideal) (n := 128) (iblk1 V c 5 t) j)
    = (in1 V c).sn (13 * (4 - t.val % 5) + j) := by
  have ht : t.val < 20 := t.isLt
  obtain ⟨⟨e0, e1, e2, e3⟩, e4, e5, e6, e7, e8, e9⟩ := index1 t
  funext l d
  rw [rows_at']
  simp only [Spec.Inputs.sn, Spec.part, in1, Spec.nat2]
  rw [dif_pos (by constructor <;> omega)]
  blk_ext [iblk1, e5]

theorem blk1_dy : mat (φ := .bf16) (rows (F := Ideal) (n := 512) (iblk1 V c 8 t) j)
    = (in1 V c).d (t.val / 5) (13 * (4 - t.val % 5) + j) := by
  have ht : t.val < 20 := t.isLt
  obtain ⟨⟨e0, e1, e2, e3⟩, e4, e5, e6, e7, e8, e9⟩ := index1 t
  funext l d
  rw [rows_at]
  simp only [Spec.Inputs.d, Spec.part, in1, Spec.nat2]
  rw [dif_pos (by constructor <;> omega)]
  blk_ext [iblk1, e8]

theorem blk1_st (hst : ∀ (n : Fin 65) (h : Fin 4) (d : Fin 256) (e : Fin 512),
      (V c main_v25_1 : S65x4x256x512.Idx → EReal) (ix4 n h d e) = (in1 V c).st h.val n.val d e) :
    stMat (stOf (F := Ideal) (iblk1 V c 7 t) j) = (in1 V c).st (t.val / 5) (13 * (4 - t.val % 5) + j) := by
  have ht : t.val < 20 := t.isLt
  obtain ⟨⟨e0, e1, e2, e3⟩, e4, e5, e6, e7, e8, e9⟩ := index1 t
  funext d e
  rw [← hst ⟨13 * (4 - t.val % 5) + j, by omega⟩ ⟨t.val / 5, by omega⟩ d e]
  simp only [stMat, stOf]
  show iblk1 V c 7 t (ix4 ⟨j % 13, _⟩ 0 d e) = _
  blk_ext [iblk1, e7]
end

theorem blk1_lg (t : Fin cfg1.N) : lgOf (F := Ideal) (iblk1 V c 6 t) (ix3 0 0 0) = (in1 V c).l (t.val / 5) := by
  have ht : t.val < 20 := t.isLt
  obtain ⟨⟨e0, e1, e2, e3⟩, e4, e5, e6, e7, e8, e9⟩ := index1 t
  simp only [lgOf, in1]
  rw [dif_pos (by omega)]
  blk_ext [iblk1, e6]

section
variable (hst : ∀ (n : Fin 65) (h : Fin 4) (d : Fin 256) (e : Fin 512),
  (V c main_v25_1 : S65x4x256x512.Idx → EReal) (ix4 n h d e) = (in1 V c).st h.val n.val d e)
include hst

/-- The state's gradient inside a grid point, from the one the point enters with. -/
theorem carry1 (t : Fin cfg1.N) (xs : FVec Ideal S256x512 .f32)
    (hx : mat xs = (in1 V c).gr (t.val / 5) (13 * (t.val % 5))) : ∀ j, j ≤ 13 →
    mat (φ := .f32) (bwdCarry (F := Ideal) (iblk1 V c 0 t) (iblk1 V c 1 t) (iblk1 V c 2 t) (iblk1 V c 3 t) (iblk1 V c 4 t)
      (iblk1 V c 5 t) (iblk1 V c 6 t) (iblk1 V c 7 t) (iblk1 V c 8 t) xs j)
      = (in1 V c).gr (t.val / 5) (13 * (t.val % 5) + j)
  | 0, _ => hx
  | j + 1, hj => by
    funext d e
    have ih := carry1 t xs hx j (by omega)
    have h12 : 12 - j < 13 := by omega
    show bwdPrev (F := Ideal) _ _ _ _ _ _ _ _ _ _ (ix2 d e) = _
    rw [bwdPrev_at, doutM, ih, blk1_q V c t _ h12, blk1_k V c t _ h12, blk1_v V c t _ h12, blk1_g V c t _ h12,
      blk1_cs V c t _ h12, blk1_sn V c t _ h12, blk1_dy V c t _ h12, blk1_st V c t _ h12 hst, blk1_lg,
      show 13 * (4 - t.val % 5) + (12 - j) = 64 - (13 * (t.val % 5) + j) by omega]
    rfl

/-- The gradient a grid point enters with. -/
theorem enter1_at : ∀ (n : ℕ) (h : n < cfg1.N),
    mat (φ := .f32) (enter1 (F := Ideal) V c n h) = (in1 V c).gr (n / 5) (13 * (n % 5))
  | 0, h => by
    funext d e
    rw [enter1_first V c 0 h rfl]
    pointwise [k1_pay4]
    rfl
  | n + 1, h => by
    by_cases h0 : (n + 1) % 5 = 0
    · funext d e
      rw [enter1_first V c (n + 1) h h0, h0]
      pointwise [k1_pay4]
      rfl
    · rw [enter1_next V c n h h0]
      have ih := carry1 V c hst ⟨n, Nat.lt_of_succ_lt h⟩ _ (enter1_at n (Nat.lt_of_succ_lt h)) 13 le_rfl
      rw [show (n + 1) / 5 = n / 5 by omega, show 13 * ((n + 1) % 5) = 13 * (n % 5) + 13 by omega]
      exact ih

/-- The block of gradient rows of one grid point. -/
theorem bwdO_at (t : Fin cfg1.N) (y : S1664x1536.Idx) :
    bwdO (F := Ideal) (iblk1 V c 0 t) (iblk1 V c 1 t) (iblk1 V c 2 t) (iblk1 V c 3 t) (iblk1 V c 4 t) (iblk1 V c 5 t)
      (iblk1 V c 6 t) (iblk1 V c 7 t) (iblk1 V c 8 t) (enter1 V c t.val t.isLt) y
      = (in1 V c).dxAt ((4 - t.val % 5) * 1664 + (y 0).val) (t.val / 5) (y 1).val := by
  have ht : t.val < 20 := t.isLt
  idx_bounds y
  have hc := carry1 V c hst t _ (enter1_at V c hst t.val t.isLt) (12 - (y 0).val / 128) (by omega)
  have hj : (y 0).val / 128 < 13 := by omega
  have e2 : ((4 - t.val % 5) * 1664 + (y 0).val) / 128 = 13 * (4 - t.val % 5) + (y 0).val / 128 := by omega
  have e3 : ((4 - t.val % 5) * 1664 + (y 0).val) % 128 = (y 0).val % 128 := by omega
  have e4 : 13 * (t.val % 5) + (12 - (y 0).val / 128) = 64 - (13 * (4 - t.val % 5) + (y 0).val / 128) := by omega
  rw [e4] at hc
  unfold Spec.Inputs.dxAt
  simp only [bwdO, ← ix2_eq_valueIdx, e2, e3]
  by_cases h1 : (y 1).val < 256
  · rw [dif_pos h1, if_pos h1]
    refine (bwdQ_at _ _ _ _ _ _ _ _ _ _ _).trans ?_
    rw [blk1_q V c t _ hj, blk1_k V c t _ hj, blk1_v V c t _ hj, blk1_g V c t _ hj,
      blk1_cs V c t _ hj, blk1_sn V c t _ hj, blk1_dy V c t _ hj, blk1_st V c t _ hj hst, blk1_lg]
    simp only [Nat.mod_eq_of_lt h1]
    rfl
  rw [dif_neg h1, if_neg h1]
  by_cases h2 : (y 1).val < 512
  · rw [dif_pos h2, if_pos h2]
    refine (bwdK_at _ _ _ _ _ _ _ _ _ _ _ _).trans ?_
    rw [blk1_q V c t _ hj, blk1_k V c t _ hj, blk1_v V c t _ hj, blk1_g V c t _ hj,
      blk1_cs V c t _ hj, blk1_sn V c t _ hj, blk1_dy V c t _ hj, blk1_st V c t _ hj hst, blk1_lg, hc]
    simp only [Nat.mod_eq_of_lt (show (y 1).val - 256 < 256 by omega)]
    rfl
  rw [dif_neg h2, if_neg h2]
  by_cases h3 : (y 1).val < 1024
  · rw [dif_pos h3, if_pos h3]
    refine (bwdV_at _ _ _ _ _ _ _ _ _ _ _ _).trans ?_
    rw [doutM, blk1_q V c t _ hj, blk1_k V c t _ hj, blk1_v V c t _ hj, blk1_g V c t _ hj,
      blk1_cs V c t _ hj, blk1_sn V c t _ hj, blk1_dy V c t _ hj, blk1_st V c t _ hj hst, blk1_lg, hc]
    simp only [Nat.mod_eq_of_lt (show (y 1).val - 512 < 512 by omega)]
    rfl
  · rw [dif_neg h3, if_neg h3]
    refine (bwdG_at _ _ _ _ _ _ _ _ _ _ _).trans ?_
    rw [blk1_q V c t _ hj, blk1_k V c t _ hj, blk1_v V c t _ hj, blk1_g V c t _ hj,
      blk1_cs V c t _ hj, blk1_sn V c t _ hj, blk1_dy V c t _ hj, blk1_st V c t _ hj hst, blk1_lg]
    simp only [Nat.mod_eq_of_lt (show (y 1).val - 1024 < 512 by omega)]
    rfl

/-- The gradient's array after the call: the first 6144 columns written, the others as found. -/
theorem arr1 : (dat1 (F := Ideal) V c).arrAt 9 cfg1.N
    = (fun i : S8320x13824.Idx => if (i 1).val < 6144 then (in1 V c).dxAt (i 0).val ((i 1).val / 1536) ((i 1).val % 1536)
        else (V c main_v27 : S8320x13824.Idx → EReal) i) := by
  refine ((dat1 (F := Ideal) V c).arrAt_eq_of_coversWhere 9
    (fun i : S8320x13824.Idx => (in1 V c).dxAt (i 0).val ((i 1).val / 1536) ((i 1).val % 1536))
    (P := fun i : S8320x13824.Idx => (i 1).val < 6144)
    (fun b => b ⟨1, by decide⟩ < 4) (by decide +kernel) (fun t hf y => ?_) (fun j => ?_)).trans ?_
  · obtain ⟨⟨e0, e1, e2, e3⟩, e4, e5, e6, e7, e8, e9⟩ := index1 t
    idx_bounds y
    blk_simp [e9]
    rw [after1_9, show (t.val / 5 * 1536 + (y 1).val) / 1536 = t.val / 5 by omega,
      show (t.val / 5 * 1536 + (y 1).val) % 1536 = (y 1).val by omega]
    exact bwdO_at V c hst t y
  · blk_simp [Pipeline.Window.cell_apply]
    omega
  · rw [A_eq1]
    rfl
end

end Cert.Retention

end
-- ==== Proof.Ins.lean ====
module

public import proofs.«01_k».proof.Proof.Global

@[expose] public section

set_option maxRecDepth 16384

noncomputable section

/-! The whole step's inputs from the two arrays it is given: 112 rows of zeros in front, the tables of the rotary embedding
by position, and the heads' log decays. -/

namespace Cert.Retention.Spec

open Idealize.ShloMosaic

/-- An array of 8208 rows with 112 rows of zeros in front. -/
def front {n : ℕ} (X : (⟨2, ![8208, n]⟩ : Shape).Idx → EReal) (r : Fin 8320) (j : Fin n) : EReal :=
  if h : 112 ≤ r.val ∧ r.val - 112 < 8208 then X (ix2 ⟨r.val - 112, h.2⟩ j) else 0

/-- The evenly spaced points from 0 to 1. -/
def lin (j : ℕ) : EReal :=
  if j < 127 then
    0 * (1 - Ideal.div (FloatOps.sitofp (F := Ideal) FTy.f32 (BitVec.ofNat 32 j)) (Ideal.ofBits FTy.f32 0x42FE0000#32))
      + 1 * Ideal.div (FloatOps.sitofp (F := Ideal) FTy.f32 (BitVec.ofNat 32 j)) (Ideal.ofBits FTy.f32 0x42FE0000#32)
  else 1

/-- The angle of position `p` at frequency `j`. -/
def angle (p j : ℕ) : EReal :=
  ((((p : ℝ) : EReal)) - Ideal.ofBits FTy.f32 0x42E00000#32) * Ideal.pow (Ideal.ofBits FTy.f32 0x461C4000#32) (-lin j)

/-- A head's log decay. -/
def lgam (h : ℕ) : EReal :=
  Ideal.log (1 - Ideal.pow (Ideal.ofBits FTy.f32 0x40000000#32)
    (Ideal.ofBits FTy.f32 0xC0A00000#32 - FloatOps.sitofp (F := Ideal) FTy.f32 (BitVec.ofNat 32 h)))

/-- The step's inputs. -/
def ins (a0 : (⟨2, ![8208, 6144]⟩ : Shape).Idx → EReal) (a1 : (⟨2, ![8208, 2048]⟩ : Shape).Idx → EReal) : Inputs where
  x := nat2 (a := 8320) (b := 6144) fun i => front a0 (i 0) (i 1)
  dy := nat2 (a := 8320) (b := 2048) fun i => front a1 (i 0) (i 1)
  c := nat2 (a := 8320) (b := 128) fun i => Ideal.cos (angle (i 0).val (i 1).val)
  s := nat2 (a := 8320) (b := 128) fun i => Ideal.sin (angle (i 0).val (i 1).val)
  l h := if h < 4 then lgam h else 0

end Cert.Retention.Spec

end
-- ==== Proof.KernelHost.lean ====
module

public import proofs.«01_k».proof.Proof.KernelRun
public import proofs.«01_k».proof.Proof.BwdArr
public import proofs.«01_k».proof.Proof.Ins
public import Idealize.ShloMosaic.Lib.StableHlo.ReadAt
public import Idealize.ShloMosaic.Lib.KernelVsHost

@[expose] public section

set_option maxRecDepth 16384

noncomputable section

/-! What the host's own lines prepare for the two calls, read at an index: the padded rows, the rotary tables and the log
decays. -/

namespace Cert.Retention

open Cert.KernelIdeal Cert.KernelIdeal.Gen
open Idealize.ShloMosaic Idealize.ShloMosaic.TcCoe

section
variable (U : Valuation τ sig (Elt Ideal))

/-- The buffers before the first call. -/
abbrev host0 : Valuation τ sig (Elt Ideal) :=
  StableHlo.after hostOps0_3 (StableHlo.after hostOps0_2 (StableHlo.after hostOps0_1 (StableHlo.after hostOps0 U)))

/-- The evenly spaced points, as the host's lines leave them. -/
theorem lin_eq (j : ℕ) :
    (if j < 127 then
      id (constant (F := Ideal) S_ FTy.f32 0#32) ix0 *
          (1 - Ideal.div (FloatOps.sitofp (F := Ideal) FTy.f32 (BitVec.ofNat 32 j)) (Ideal.ofBits FTy.f32 1123942400#32)) +
        id (constant (F := Ideal) S_ FTy.f32 1065353216#32) ix0 *
          Ideal.div (FloatOps.sitofp (F := Ideal) FTy.f32 (BitVec.ofNat 32 j)) (Ideal.ofBits FTy.f32 1123942400#32)
      else id (constant (F := Ideal) S_ FTy.f32 1065353216#32) ix0 : EReal) = Spec.lin j := by
  unfold Spec.lin
  simp only [id, constant_apply, Ideal.ofBits_def, Ideal.ofBits_zero_f32, Ideal.ofBits_one_f32]

theorem cos_at (r : Fin 8320) (j : Fin 128) :
    (host0 U (Proc.devRef .tc main_v22) : S8320x128.Idx → EReal) (ix2 r j) = (Ideal.cos (Spec.angle r.val j.val) : EReal) := by
  after_reads_at
  after_reads_at
  unfold Spec.angle
  rw [← lin_eq, sitofp_nat r.val (by omega)]
  simp only [dite_eq_ite]

theorem sin_at (r : Fin 8320) (j : Fin 128) :
    (host0 U (Proc.devRef .tc main_v23) : S8320x128.Idx → EReal) (ix2 r j) = (Ideal.sin (Spec.angle r.val j.val) : EReal) := by
  after_reads_at
  after_reads_at
  unfold Spec.angle
  rw [← lin_eq, sitofp_nat r.val (by omega)]
  simp only [dite_eq_ite]

theorem x_at (r : Fin 8320) (j : Fin 6144) :
    (host0 U (Proc.devRef .tc main_v24) : S8320x6144.Idx → EReal) (ix2 r j)
      = (Spec.front (U (Proc.devRef .tc main_arg0) : S8208x6144.Idx → EReal) r j : EReal) := by
  after_reads_at
  unfold Spec.front
  split
  · rfl
  · exact sitofp_zero (φ := .bf16)

theorem lgam_at (h : Fin 4) (a : Fin 8) (b : Fin 128) :
    (host0 U (Proc.devRef .tc main_v21) : S4x8x128.Idx → EReal) (ix3 h a b) = (Spec.lgam h.val : EReal) := by
  after_reads_at
  rfl

/-- The padded gradient rows, between the two calls. -/
theorem dy_at (r : Fin 8320) (j : Fin 2048) :
    (StableHlo.after hostOps1_2 (StableHlo.after hostOps1_1 (StableHlo.after hostOps1 U)) (Proc.devRef .tc main_v26) : S8320x2048.Idx → EReal) (ix2 r j)
      = (Spec.front (U (Proc.devRef .tc main_arg1) : S8208x2048.Idx → EReal) r j : EReal) := by
  after_reads_at
  unfold Spec.front
  split
  · rfl
  · exact sitofp_zero (φ := .bf16)

/-- The third argument, handed on. -/
theorem dproj_at :
    StableHlo.after hostOps1_2 (StableHlo.after hostOps1_1 (StableHlo.after hostOps1 U)) (Proc.devRef .tc main_v27)
      = U (Proc.devRef .tc main_arg2) := by
  after_reads_simp
  rfl

end

end Cert.Retention

end
-- ==== Proof.KernelValue.lean ====
module

public import proofs.«01_k».proof.Proof.KernelHost

@[expose] public section

set_option maxRecDepth 16384

noncomputable section

/-! The kernel's two results, read at an index, as the whole sequence's formulas on the arguments. -/

namespace Cert.Retention

open Cert.KernelIdeal Cert.KernelIdeal.Gen
open Idealize.ShloMosaic Idealize.ShloMosaic.TcCoe

/-- Two arrays that agree at every index are read alike. -/
theorem nat2_congr {a b : ℕ} {X Y : (⟨2, ![a, b]⟩ : Shape).Idx → EReal} (h : ∀ (r : Fin a) (j : Fin b), X (ix2 r j) = Y (ix2 r j)) :
    Spec.nat2 X = Spec.nat2 Y := by
  funext r j
  unfold Spec.nat2
  split
  · exact h _ _
  · rfl

/-- The states do not read the gradient. -/
theorem st_congr (I J : Spec.Inputs) (hx : I.x = J.x) (hc : I.c = J.c) (hs : I.s = J.s) (hl : I.l = J.l) (h n : ℕ) :
    I.st h n = J.st h n := by
  obtain ⟨x, dy, c, s, l⟩ := I
  obtain ⟨x', dy', c', s', l'⟩ := J
  simp only at hx hc hs hl
  subst hx hc hs hl
  induction n with
  | zero => rfl
  | succ n ih =>
    simp only [Spec.Inputs.st, ih]
    rfl

/-- The result does not read the gradient. -/
theorem y_congr (I J : Spec.Inputs) (hx : I.x = J.x) (hc : I.c = J.c) (hs : I.s = J.s) (hl : I.l = J.l) (r c : ℕ) :
    I.yAt r c = J.yAt r c := by
  unfold Spec.Inputs.yAt Spec.Inputs.y'
  rw [st_congr I J hx hc hs hl]
  simp only [Spec.Inputs.q, Spec.Inputs.k, Spec.Inputs.v, Spec.Inputs.g, Spec.Inputs.cs, Spec.Inputs.sn, hx, hc, hs, hl]

variable (m : (ℓ : Loc nD τ sig) → Buf (Elt Ideal) ℓ) (ρ : Dev nD → PrngReg) (c : Dev nD)

/-- The inputs given by the launched arguments. -/
abbrev insM : Spec.Inputs :=
  Spec.ins (m ((c.tc : Thread nD τ).loc main_arg0) : S8208x6144.Idx → EReal) (m ((c.tc : Thread nD τ).loc main_arg1) : S8208x2048.Idx → EReal)

theorem in0_x : (in0 (V4 m ρ) c).x = (insM m c).x :=
  nat2_congr (a := 8320) (b := 6144) (X := (W4 m ρ c (Proc.devRef .tc main_v24) : S8320x6144.Idx → EReal))
    (Y := fun i => Spec.front (m ((c.tc : Thread nD τ).loc main_arg0) : S8208x6144.Idx → EReal) (i 0) (i 1)) fun r j => x_at (W0 m ρ c) r j

theorem in0_c : (in0 (V4 m ρ) c).c = (insM m c).c :=
  nat2_congr (a := 8320) (b := 128) (X := (W4 m ρ c (Proc.devRef .tc main_v22) : S8320x128.Idx → EReal))
    (Y := fun i => Ideal.cos (Spec.angle (i 0).val (i 1).val)) fun r j => cos_at (W0 m ρ c) r j

theorem in0_s : (in0 (V4 m ρ) c).s = (insM m c).s :=
  nat2_congr (a := 8320) (b := 128) (X := (W4 m ρ c (Proc.devRef .tc main_v23) : S8320x128.Idx → EReal))
    (Y := fun i => Ideal.sin (Spec.angle (i 0).val (i 1).val)) fun r j => sin_at (W0 m ρ c) r j

theorem in0_l : (in0 (V4 m ρ) c).l = (insM m c).l := by
  funext h
  show (if hh : h < 4 then _ else _) = (if h < 4 then _ else _)
  split
  · exact lgam_at (W0 m ρ c) ⟨h, by assumption⟩ 0 0
  · rfl

/-- A buffer that neither region 0 nor the lines after it write is at region 1 as it was at region 0. -/
theorem kept8 (r : Ref sig .tc) (h : ∀ w : Fin cfg0.W, Pipeline.arrRef spec0 w = r → (cfg0.win w).isOut = false)
    (h6 : r ∉ hostOps1_W) (h7 : r ∉ hostOps1_1_W) (h8 : r ∉ hostOps1_2_W) :
    W8 m ρ c (Proc.devRef .tc r) = W4 m ρ c (Proc.devRef .tc r) := by
  rw [W8_of m ρ c r h8, W7_of m ρ c r h7, W6_of m ρ c r h6, W5_of m ρ c r h]

theorem in1_eq : in1 (V8 m ρ) c = insM m c := by
  have hx : (in1 (V8 m ρ) c).x = (insM m c).x := by
    refine Eq.trans ?_ (in0_x m ρ c)
    show Spec.nat2 (a := 8320) (b := 6144) (W8 m ρ c (Proc.devRef .tc main_v24)) = Spec.nat2 (a := 8320) (b := 6144) (W4 m ρ c (Proc.devRef .tc main_v24))
    rw [kept8 m ρ c main_v24 (by decide +kernel) (by decide) (by decide) (by decide)]
  have hc : (in1 (V8 m ρ) c).c = (insM m c).c := by
    refine Eq.trans ?_ (in0_c m ρ c)
    show Spec.nat2 (a := 8320) (b := 128) (W8 m ρ c (Proc.devRef .tc main_v22)) = Spec.nat2 (a := 8320) (b := 128) (W4 m ρ c (Proc.devRef .tc main_v22))
    rw [kept8 m ρ c main_v22 (by decide +kernel) (by decide) (by decide) (by decide)]
  have hs : (in1 (V8 m ρ) c).s = (insM m c).s := by
    refine Eq.trans ?_ (in0_s m ρ c)
    show Spec.nat2 (a := 8320) (b := 128) (W8 m ρ c (Proc.devRef .tc main_v23)) = Spec.nat2 (a := 8320) (b := 128) (W4 m ρ c (Proc.devRef .tc main_v23))
    rw [kept8 m ρ c main_v23 (by decide +kernel) (by decide) (by decide) (by decide)]
  have hl : (in1 (V8 m ρ) c).l = (insM m c).l := by
    refine Eq.trans ?_ (in0_l m ρ c)
    funext h
    show (if hh : h < 4 then (W8 m ρ c (Proc.devRef .tc main_v21) : S4x8x128.Idx → EReal) (ix3 ⟨h, hh⟩ 0 0) else (0 : EReal) : EReal)
      = (if hh : h < 4 then (W4 m ρ c (Proc.devRef .tc main_v21) : S4x8x128.Idx → EReal) (ix3 ⟨h, hh⟩ 0 0) else (0 : EReal) : EReal)
    rw [kept8 m ρ c main_v21 (by decide +kernel) (by decide) (by decide) (by decide)]
  have hd : (in1 (V8 m ρ) c).dy = (insM m c).dy :=
    nat2_congr (a := 8320) (b := 2048) (X := (W8 m ρ c (Proc.devRef .tc main_v26) : S8320x2048.Idx → EReal))
    (Y := fun i => Spec.front (m ((c.tc : Thread nD τ).loc main_arg1) : S8208x2048.Idx → EReal) (i 0) (i 1)) fun r j => (dy_at (W5 m ρ c) r j).trans (by rw [W5_args m ρ c main_arg1 (by decide)]; rfl)
  rw [show insM m c = ⟨(insM m c).x, (insM m c).dy, (insM m c).c, (insM m c).s, (insM m c).l⟩ from rfl, ← hx, ← hd, ← hc, ← hs, ← hl]

/-- The first result. -/
theorem kernel_y (i : S8320x2048.Idx) :
    (W9 m ρ c (Proc.devRef .tc main_v25_0) : S8320x2048.Idx → EReal) i = ((insM m c).yAt (i 0).val (i 1).val : EReal) := by
  rw [W9_of m ρ c main_v25_0 (by decide +kernel), W8_of m ρ c main_v25_0 (by decide), W7_of m ρ c main_v25_0 (by decide),
    W6_of m ρ c main_v25_0 (by decide)]
  refine (congrFun ((W5_arr m ρ c 7).trans (arr0_y (V4 m ρ) c)) i).trans ?_
  exact y_congr _ _ (in0_x m ρ c) (in0_c m ρ c) (in0_s m ρ c) (in0_l m ρ c) _ _

/-- The states the backward call finds. -/
theorem states_found (n : Fin 65) (h : Fin 4) (d : Fin 256) (e : Fin 512) :
    (V8 m ρ c main_v25_1 : S65x4x256x512.Idx → EReal) (ix4 n h d e) = ((in1 (V8 m ρ) c).st h.val n.val d e : EReal) := by
  show (W8 m ρ c (Proc.devRef .tc main_v25_1) : S65x4x256x512.Idx → EReal) (ix4 n h d e) = _
  rw [W8_of m ρ c main_v25_1 (by decide), W7_of m ρ c main_v25_1 (by decide), W6_of m ρ c main_v25_1 (by decide), in1_eq]
  refine (congrFun ((W5_arr m ρ c 8).trans (arr0_st (V4 m ρ) c)) (ix4 n h d e)).trans ?_
  rw [← st_congr (in0 (V4 m ρ) c) (insM m c) (in0_x m ρ c) (in0_c m ρ c) (in0_s m ρ c) (in0_l m ρ c)]
  show (in0 (V4 m ρ) c).st h.val n.val ⟨d.val % 256, _⟩ ⟨e.val % 512, _⟩ = _
  congr 1
  · exact Fin.ext (Nat.mod_eq_of_lt d.isLt)
  · exact Fin.ext (Nat.mod_eq_of_lt e.isLt)

/-- The second result. -/
theorem kernel_dx (i : S8320x13824.Idx) :
    (W9 m ρ c (Proc.devRef .tc main_v27) : S8320x13824.Idx → EReal) i
      = (if (i 1).val < 6144 then (insM m c).dxAt (i 0).val ((i 1).val / 1536) ((i 1).val % 1536)
        else (m ((c.tc : Thread nD τ).loc main_arg2) : S8320x13824.Idx → EReal) i : EReal) := by
  refine (congrFun ((W9_arr m ρ c 9).trans (arr1 (V8 m ρ) c (states_found m ρ c))) i).trans ?_
  rw [in1_eq]
  have h : V8 m ρ c main_v27 = m ((c.tc : Thread nD τ).loc main_arg2) :=
    (dproj_at (W5 m ρ c)).trans (W5_args m ρ c main_arg2 (by decide))
  rw [h]

end Cert.Retention

end
-- ==== Proof.RefOps.lean ====
module

public import proofs.«01_k».proof.Proof.Gen.ReferenceIdeal
public import Idealize.ShloMosaic.Lib.StableHlo.RunLoop
public import Idealize.ShloMosaic.Lib.StableHlo.RunRead

/-! The reference as a list of its operations: the stretches before the forward scan, between the two scans and after the
reverse scan, and the two scans' tests and trips. -/

@[expose] public section

set_option maxRecDepth 16384
set_option maxHeartbeats 4000000

noncomputable section

namespace Cert.Retention.Ref

open Idealize Idealize.SL Idealize.SL.Sem Idealize.ShloMosaic
open Idealize.ShloMosaic.TcCoe
open Cert.ReferenceIdeal Cert.ReferenceIdeal.Facts₀ Cert.ReferenceIdeal.Facts

open StableHlo (binary nullary reshape ternary unary)
open StableHlo renaming unary_bufs_sub → unaryIn, binary_bufs_sub → binaryIn, ternary_bufs_sub → ternaryIn, nary_bufs_sub → naryIn,
  nullary_bufs_sub → nullaryIn, reshape_bufs_sub → reshapeIn, unaryIndexed_bufs_sub → unaryIndexedIn, binaryIndexed_bufs_sub → binaryIndexedIn

/-- The contents of an array of a shape and an element type. -/
abbrev Arr (F : FTy → Type) (S : Shape) (t : EltTy) : Type := BufTy.Contents (Elt F) ⟨S, t⟩
/-- A function of one array of floats. -/
abbrev One (F : FTy → Type) (A B : Shape) : Type := Arr F A .f32 → Arr F B .f32
/-- A function of two arrays of floats. -/
abbrev Two (F : FTy → Type) (A B C : Shape) : Type := Arr F A .f32 → Arr F B .f32 → Arr F C .f32
/-- A function of two arrays of one shape, entry by entry. -/
abbrev Pair (F : FTy → Type) (A : Shape) : Type := Two F A A A
/-- A stretch of operations. -/
abbrev Ops (F : FTy → Type) [FloatOps F] : Type := List (HloOp τ sig (Elt F))
/-- The reference's own code. -/
abbrev Code (F : FTy → Type) [FloatOps F] : Type 1 :=
  Prog (TpuEff nD τ sig (Elt F) (HostLoop.Sig (Pipeline.Sig Λ₀ (Fin 0) fun p => (pcfgs (F := F) p).Adm) 2) .tc) PUnit

variable {F : FTy → Type} [FloatOps F]

/-- The operations of a stretch write these buffers, one each. -/
abbrev Writes (ops : Ops F) (ws : List (Ref sig .tc)) : Prop :=
  ops.map HloOp.writes = ws.map fun w => {Proc.devRef (τ := τ) .tc w}
/-- The operations of a stretch touch no buffer but the TensorCore's. -/
abbrev Inside (ops : Ops F) : Prop := ops.Forall fun op => op.bufs ⊆ StableHlo.tcRefs τ sig

/-- A stretch of the reference’s own operations, number 1 in order. -/
abbrev line0 : Ops F :=
  [ unary main_arg0 main_v0 ((extf .f32 · bitsLt_bf16_f32) : Arr F S8208x6144 .bf16 → Arr F S8208x6144 .f32),
    reshape main_v0 main_v1 rfl shapeCasts_S8208x6144_S8208x4x1536,
    unary main_v1 main_v2 ((extractStridedSlice S8208x4x256 ![0, 0, 0] · slices_S8208x4x1536_S8208x4x256_0_0_0) : One F S8208x4x1536 S8208x4x256),
    reshape main_v2 main_v3 rfl shapeCasts_S8208x4x256_S1x8208x1024,
    unary main_v1 main_v4 ((extractStridedSlice S8208x4x256 ![0, 0, 256] · slices_S8208x4x1536_S8208x4x256_0_0_256) : One F S8208x4x1536 S8208x4x256),
    reshape main_v4 main_v5 rfl shapeCasts_S8208x4x256_S1x8208x1024,
    unary main_v1 main_v6 ((extractStridedSlice S8208x4x512 ![0, 0, 512] · slices_S8208x4x1536_S8208x4x512_0_0_512) : One F S8208x4x1536 S8208x4x512),
    reshape main_v6 main_v7 rfl shapeCasts_S8208x4x512_S1x8208x2048,
    unary main_v1 main_v8 ((extractStridedSlice S8208x4x512 ![0, 0, 1024] · slices_S8208x4x1536_S8208x4x512_0_0_1024) : One F S8208x4x1536 S8208x4x512),
    reshape main_v8 main_v9 rfl shapeCasts_S8208x4x512_S1x8208x2048,
    reshape main_v3 main_v10 rfl shapeCasts_S1x8208x1024_S1x8208x4x256,
    reshape main_v5 main_v11 rfl shapeCasts_S1x8208x1024_S1x8208x4x256,
    reshape main_v7 main_v12 rfl shapeCasts_S1x8208x2048_S1x8208x4x512,
    nullary main_v13 (sitofp .f32 (iotaInDim S8208 32 0)),
    nullary main_cst (constant S_ .f32 0x00000000#32),
    nullary main_cst_0 (constant S_ .f32 0x3F800000#32) ]
theorem line0_sub : Inside (F := F) line0 :=
  ⟨unaryIn .., reshapeIn .., unaryIn .., reshapeIn .., unaryIn .., reshapeIn .., unaryIn .., reshapeIn .., unaryIn .., reshapeIn .., reshapeIn .., reshapeIn .., reshapeIn .., nullaryIn .., nullaryIn .., nullaryIn ..⟩
theorem line0_writes : Writes (F := F) line0 [main_v0, main_v1, main_v2, main_v3, main_v4, main_v5, main_v6, main_v7, main_v8, main_v9, main_v10, main_v11, main_v12, main_v13, main_cst, main_cst_0] := rfl
/-- The operations of one called function, number 2 in order. -/
abbrev line1 : Ops F :=
  [ unary main_cst main_call0_v0 (id : One F S_ S_),
    unary main_cst_0 main_call0_v1 (id : One F S_ S_),
    binary main_call0_v1 main_call0_v0 main_call0_v2 (subf : Pair F S_),
    nullary main_call0_cst ((constant S_ .f32 0x42FE0000#32) : Arr F S_ .f32),
    binary main_call0_v2 main_call0_cst main_call0_v3 (Host.divf : Pair F S_),
    nullary main_call0_v4 ((sitofp .f32 (iotaInDim S127 32 0)) : Arr F S127 .f32),
    nullary main_call0_cst_0 ((constant S_ .f32 0x42FE0000#32) : Arr F S_ .f32),
    unary main_call0_cst_0 main_call0_v5 ((broadcastInDim S127 ![] bcast_S_S127) : One F S_ S127),
    binary main_call0_v4 main_call0_v5 main_call0_v6 (Host.divf : Pair F S127),
    reshape main_call0_v0 main_call0_v7 rfl shapeCasts_S_S1,
    nullary main_call0_cst_1 ((constant S_ .f32 0x3F800000#32) : Arr F S_ .f32),
    unary main_call0_cst_1 main_call0_v8 ((broadcastInDim S127 ![] bcast_S_S127) : One F S_ S127),
    binary main_call0_v8 main_call0_v6 main_call0_v9 (subf : Pair F S127),
    unary main_call0_v7 main_call0_v10 ((broadcastInDim S127 ![0] bcast_S1_S127_0) : One F S1 S127),
    binary main_call0_v10 main_call0_v9 main_call0_v11 (mulf : Pair F S127),
    reshape main_call0_v1 main_call0_v12 rfl shapeCasts_S_S1,
    unary main_call0_v12 main_call0_v13 ((broadcastInDim S127 ![0] bcast_S1_S127_0) : One F S1 S127),
    binary main_call0_v13 main_call0_v6 main_call0_v14 (mulf : Pair F S127),
    binary main_call0_v11 main_call0_v14 main_call0_v15 (addf : Pair F S127),
    unary main_call0_v1 main_call0_v16 ((broadcastInDim S1 ![] bcast_S_S1) : One F S_ S1),
    binary main_call0_v15 main_call0_v16 main_v14 ((fun a b => concatenate S128 0 [⟨S127, a⟩, ⟨S1, b⟩] concatenates_S127_S1_S128_d0) : Two F S127 S1 S128) ]
theorem line1_sub : Inside (F := F) line1 :=
  ⟨unaryIn .., unaryIn .., binaryIn .., nullaryIn .., binaryIn .., nullaryIn .., nullaryIn .., unaryIn .., binaryIn .., reshapeIn .., nullaryIn .., unaryIn .., binaryIn .., unaryIn .., binaryIn .., reshapeIn .., unaryIn .., binaryIn .., binaryIn .., unaryIn .., binaryIn ..⟩
theorem line1_writes : Writes (F := F) line1 [main_call0_v0, main_call0_v1, main_call0_v2, main_call0_cst, main_call0_v3, main_call0_v4, main_call0_cst_0, main_call0_v5, main_call0_v6, main_call0_v7, main_call0_cst_1, main_call0_v8, main_call0_v9, main_call0_v10, main_call0_v11, main_call0_v12, main_call0_v13, main_call0_v14, main_call0_v15, main_call0_v16, main_v14] := rfl
/-- A stretch of the reference’s own operations, number 3 in order. -/
abbrev line2 : Ops F :=
  [ unary main_v14 main_v15 (Host.negf : One F S128 S128),
    nullary main_cst_1 (constant S_ .f32 0x461C4000#32),
    unary main_cst_1 main_v16 (broadcastInDim S128 ![] bcast_S_S128 : One F S_ S128),
    binary main_v16 main_v15 main_v17 (Host.powf : Pair F S128),
    unary main_v13 main_v18 (broadcastInDim S8208x1 ![0] bcast_S8208_S8208x1_0 : One F S8208 S8208x1),
    unary main_v17 main_v19 (broadcastInDim S1x128 ![1] bcast_S128_S1x128_1 : One F S128 S1x128),
    unary main_v18 main_v20 (broadcastInDim S8208x128 ![0, 1] bcast_S8208x1_S8208x128_0_1 : One F S8208x1 S8208x128),
    unary main_v19 main_v21 (broadcastInDim S8208x128 ![0, 1] bcast_S1x128_S8208x128_0_1 : One F S1x128 S8208x128),
    binary main_v20 main_v21 main_v22 (mulf : Pair F S8208x128),
    unary main_v22 main_v23 (Host.cos : One F S8208x128 S8208x128),
    unary main_v23 main_v24 (broadcastInDim S1x8208x1x128 ![1, 3] bcast_S8208x128_S1x8208x1x128_1_3 : One F S8208x128 S1x8208x1x128),
    unary main_v22 main_v25 (Host.sin : One F S8208x128 S8208x128),
    unary main_v25 main_v26 (broadcastInDim S1x8208x1x128 ![1, 3] bcast_S8208x128_S1x8208x1x128_1_3 : One F S8208x128 S1x8208x1x128),
    unary main_v10 main_v27 ((extractStridedSlice S1x8208x4x128 ![0, 0, 0, 0] · slices_S1x8208x4x256_S1x8208x4x128_0_0_0_0) : One F S1x8208x4x256 S1x8208x4x128),
    unary main_v10 main_v28 ((extractStridedSlice S1x8208x4x128 ![0, 0, 0, 128] · slices_S1x8208x4x256_S1x8208x4x128_0_0_0_128) : One F S1x8208x4x256 S1x8208x4x128),
    unary main_v24 main_v29 (broadcastInDim S1x8208x4x128 ![0, 1, 2, 3] bcast_S1x8208x1x128_S1x8208x4x128_0_1_2_3 : One F S1x8208x1x128 S1x8208x4x128),
    binary main_v27 main_v29 main_v30 (mulf : Pair F S1x8208x4x128),
    unary main_v26 main_v31 (broadcastInDim S1x8208x4x128 ![0, 1, 2, 3] bcast_S1x8208x1x128_S1x8208x4x128_0_1_2_3 : One F S1x8208x1x128 S1x8208x4x128),
    binary main_v28 main_v31 main_v32 (mulf : Pair F S1x8208x4x128),
    binary main_v30 main_v32 main_v33 (subf : Pair F S1x8208x4x128),
    unary main_v24 main_v34 (broadcastInDim S1x8208x4x128 ![0, 1, 2, 3] bcast_S1x8208x1x128_S1x8208x4x128_0_1_2_3 : One F S1x8208x1x128 S1x8208x4x128),
    binary main_v28 main_v34 main_v35 (mulf : Pair F S1x8208x4x128),
    unary main_v26 main_v36 (broadcastInDim S1x8208x4x128 ![0, 1, 2, 3] bcast_S1x8208x1x128_S1x8208x4x128_0_1_2_3 : One F S1x8208x1x128 S1x8208x4x128),
    binary main_v27 main_v36 main_v37 (mulf : Pair F S1x8208x4x128),
    binary main_v35 main_v37 main_v38 (addf : Pair F S1x8208x4x128),
    binary main_v33 main_v38 main_v39 ((fun a b => concatenate S1x8208x4x256 3 [⟨S1x8208x4x128, a⟩, ⟨S1x8208x4x128, b⟩] concatenates_S1x8208x4x128_S1x8208x4x128_S1x8208x4x256_d3) : Two F S1x8208x4x128 S1x8208x4x128 S1x8208x4x256),
    unary main_v11 main_v40 ((extractStridedSlice S1x8208x4x128 ![0, 0, 0, 0] · slices_S1x8208x4x256_S1x8208x4x128_0_0_0_0) : One F S1x8208x4x256 S1x8208x4x128),
    unary main_v11 main_v41 ((extractStridedSlice S1x8208x4x128 ![0, 0, 0, 128] · slices_S1x8208x4x256_S1x8208x4x128_0_0_0_128) : One F S1x8208x4x256 S1x8208x4x128),
    unary main_v24 main_v42 (broadcastInDim S1x8208x4x128 ![0, 1, 2, 3] bcast_S1x8208x1x128_S1x8208x4x128_0_1_2_3 : One F S1x8208x1x128 S1x8208x4x128),
    binary main_v40 main_v42 main_v43 (mulf : Pair F S1x8208x4x128),
    unary main_v26 main_v44 (broadcastInDim S1x8208x4x128 ![0, 1, 2, 3] bcast_S1x8208x1x128_S1x8208x4x128_0_1_2_3 : One F S1x8208x1x128 S1x8208x4x128),
    binary main_v41 main_v44 main_v45 (mulf : Pair F S1x8208x4x128),
    binary main_v43 main_v45 main_v46 (subf : Pair F S1x8208x4x128),
    unary main_v24 main_v47 (broadcastInDim S1x8208x4x128 ![0, 1, 2, 3] bcast_S1x8208x1x128_S1x8208x4x128_0_1_2_3 : One F S1x8208x1x128 S1x8208x4x128),
    binary main_v41 main_v47 main_v48 (mulf : Pair F S1x8208x4x128),
    unary main_v26 main_v49 (broadcastInDim S1x8208x4x128 ![0, 1, 2, 3] bcast_S1x8208x1x128_S1x8208x4x128_0_1_2_3 : One F S1x8208x1x128 S1x8208x4x128),
    binary main_v40 main_v49 main_v50 (mulf : Pair F S1x8208x4x128),
    binary main_v48 main_v50 main_v51 (addf : Pair F S1x8208x4x128),
    binary main_v46 main_v51 main_v52 ((fun a b => concatenate S1x8208x4x256 3 [⟨S1x8208x4x128, a⟩, ⟨S1x8208x4x128, b⟩] concatenates_S1x8208x4x128_S1x8208x4x128_S1x8208x4x256_d3) : Two F S1x8208x4x128 S1x8208x4x128 S1x8208x4x256),
    nullary main_cst_2 (constant S_ .f32 0x3D800000#32),
    unary main_cst_2 main_v53 (broadcastInDim S1x8208x4x256 ![] bcast_S_S1x8208x4x256 : One F S_ S1x8208x4x256),
    binary main_v52 main_v53 main_v54 (mulf : Pair F S1x8208x4x256),
    nullary main_cst_3 (constant S_ .f32 0x00000000#32) ]
theorem line2_sub : Inside (F := F) line2 :=
  ⟨unaryIn .., nullaryIn .., unaryIn .., binaryIn .., unaryIn .., unaryIn .., unaryIn .., unaryIn .., binaryIn .., unaryIn .., unaryIn .., unaryIn .., unaryIn .., unaryIn .., unaryIn .., unaryIn .., binaryIn .., unaryIn .., binaryIn .., binaryIn .., unaryIn .., binaryIn .., unaryIn .., binaryIn .., binaryIn .., binaryIn .., unaryIn .., unaryIn .., unaryIn .., binaryIn .., unaryIn .., binaryIn .., binaryIn .., unaryIn .., binaryIn .., unaryIn .., binaryIn .., binaryIn .., binaryIn .., nullaryIn .., unaryIn .., binaryIn .., nullaryIn ..⟩
theorem line2_writes : Writes (F := F) line2 [main_v15, main_cst_1, main_v16, main_v17, main_v18, main_v19, main_v20, main_v21, main_v22, main_v23, main_v24, main_v25, main_v26, main_v27, main_v28, main_v29, main_v30, main_v31, main_v32, main_v33, main_v34, main_v35, main_v36, main_v37, main_v38, main_v39, main_v40, main_v41, main_v42, main_v43, main_v44, main_v45, main_v46, main_v47, main_v48, main_v49, main_v50, main_v51, main_v52, main_cst_2, main_v53, main_v54, main_cst_3] := rfl
/-- A stretch of the reference’s own operations, number 4 in order. -/
abbrev line3 : Ops F :=
  [ unary main_cst_3 main_v55 (broadcastInDim S1x112x4x256 ![] bcast_S_S1x112x4x256 : One F S_ S1x112x4x256),
    binary main_v55 main_v39 main_v56 ((fun a b => concatenate S1x8320x4x256 1 [⟨S1x112x4x256, a⟩, ⟨S1x8208x4x256, b⟩] concatenates_S1x112x4x256_S1x8208x4x256_S1x8320x4x256_d1) : Two F S1x112x4x256 S1x8208x4x256 S1x8320x4x256),
    nullary main_cst_4 (constant S_ .f32 0x00000000#32),
    unary main_cst_4 main_v57 (broadcastInDim S1x112x4x256 ![] bcast_S_S1x112x4x256 : One F S_ S1x112x4x256),
    nullary main_cst_5 (constant S_ .f32 0x00000000#32),
    unary main_cst_5 main_v58 (broadcastInDim S1x112x4x256 ![] bcast_S_S1x112x4x256 : One F S_ S1x112x4x256),
    binary main_v58 main_v54 main_v59 ((fun a b => concatenate S1x8320x4x256 1 [⟨S1x112x4x256, a⟩, ⟨S1x8208x4x256, b⟩] concatenates_S1x112x4x256_S1x8208x4x256_S1x8320x4x256_d1) : Two F S1x112x4x256 S1x8208x4x256 S1x8320x4x256),
    nullary main_cst_6 (constant S_ .f32 0x00000000#32),
    unary main_cst_6 main_v60 (broadcastInDim S1x112x4x256 ![] bcast_S_S1x112x4x256 : One F S_ S1x112x4x256),
    nullary main_cst_7 (constant S_ .f32 0x00000000#32),
    unary main_cst_7 main_v61 (broadcastInDim S1x112x4x512 ![] bcast_S_S1x112x4x512 : One F S_ S1x112x4x512),
    binary main_v61 main_v12 main_v62 ((fun a b => concatenate S1x8320x4x512 1 [⟨S1x112x4x512, a⟩, ⟨S1x8208x4x512, b⟩] concatenates_S1x112x4x512_S1x8208x4x512_S1x8320x4x512_d1) : Two F S1x112x4x512 S1x8208x4x512 S1x8320x4x512),
    nullary main_cst_8 (constant S_ .f32 0x00000000#32),
    unary main_cst_8 main_v63 (broadcastInDim S1x112x4x512 ![] bcast_S_S1x112x4x512 : One F S_ S1x112x4x512),
    reshape main_v56 main_v64 rfl shapeCasts_S1x8320x4x256_S1x65x128x4x256,
    reshape main_v59 main_v65 rfl shapeCasts_S1x8320x4x256_S1x65x128x4x256,
    reshape main_v62 main_v66 rfl shapeCasts_S1x8320x4x512_S1x65x128x4x512,
    nullary main_v67 (sitofp .f32 (iotaInDim S4 32 0)),
    nullary main_cst_9 (constant S_ .f32 0xC0A00000#32),
    unary main_cst_9 main_v68 (broadcastInDim S4 ![] bcast_S_S4 : One F S_ S4),
    binary main_v68 main_v67 main_v69 (subf : Pair F S4),
    nullary main_cst_10 (constant S_ .f32 0x40000000#32),
    unary main_cst_10 main_v70 (broadcastInDim S4 ![] bcast_S_S4 : One F S_ S4),
    binary main_v70 main_v69 main_v71 (Host.powf : Pair F S4),
    nullary main_cst_11 (constant S_ .f32 0x3F800000#32),
    unary main_cst_11 main_v72 (broadcastInDim S4 ![] bcast_S_S4 : One F S_ S4),
    binary main_v72 main_v71 main_v73 (subf : Pair F S4),
    unary main_v73 main_v74 (Host.log : One F S4 S4),
    nullary main_v75 (sitofp .f32 (iotaInDim S128 32 0)),
    nullary main_c (constantI S_ 1 1#1),
    unary main_c main_v76 (broadcastInDim S128x128 ![] bcast_S_S128x128 : Arr F S_ .i1 → Arr F S128x128 .i1) ]
theorem line3_sub : Inside (F := F) line3 :=
  ⟨unaryIn .., binaryIn .., nullaryIn .., unaryIn .., nullaryIn .., unaryIn .., binaryIn .., nullaryIn .., unaryIn .., nullaryIn .., unaryIn .., binaryIn .., nullaryIn .., unaryIn .., reshapeIn .., reshapeIn .., reshapeIn .., nullaryIn .., nullaryIn .., unaryIn .., binaryIn .., nullaryIn .., unaryIn .., binaryIn .., nullaryIn .., unaryIn .., binaryIn .., unaryIn .., nullaryIn .., nullaryIn .., unaryIn ..⟩
theorem line3_writes : Writes (F := F) line3 [main_v55, main_v56, main_cst_4, main_v57, main_cst_5, main_v58, main_v59, main_cst_6, main_v60, main_cst_7, main_v61, main_v62, main_cst_8, main_v63, main_v64, main_v65, main_v66, main_v67, main_cst_9, main_v68, main_v69, main_cst_10, main_v70, main_v71, main_cst_11, main_v72, main_v73, main_v74, main_v75, main_c, main_v76] := rfl
/-- The operations of one called function, number 5 in order. -/
abbrev line4 : Ops F :=
  [ nullary main_call1_v0 ((iotaInDim S128x128 32 0) : Arr F S128x128 .i32),
    nullary main_call1_c ((constantI S_ 32 0#32) : Arr F S_ .i32),
    unary main_call1_c main_call1_v1 ((broadcastInDim S128x128 ![] bcast_S_S128x128) : Arr F S_ .i32 → Arr F S128x128 .i32),
    binary main_call1_v0 main_call1_v1 main_call1_v2 (addi : Arr F S128x128 .i32 → Arr F S128x128 .i32 → Arr F S128x128 .i32),
    nullary main_call1_v3 ((iotaInDim S128x128 32 1) : Arr F S128x128 .i32),
    binary main_call1_v2 main_call1_v3 main_call1_v4 ((cmpi .sge) : Arr F S128x128 .i32 → Arr F S128x128 .i32 → Arr F S128x128 .i1),
    nullary main_call1_c_0 ((constantI S_ 1 0#1) : Arr F S_ .i1),
    unary main_call1_c_0 main_call1_v5 ((broadcastInDim S128x128 ![] bcast_S_S128x128) : Arr F S_ .i1 → Arr F S128x128 .i1),
    ternary main_call1_v4 main_v76 main_call1_v5 main_v77 (select : Arr F S128x128 .i1 → Arr F S128x128 .i1 → Arr F S128x128 .i1 → Arr F S128x128 .i1) ]
theorem line4_sub : Inside (F := F) line4 :=
  ⟨nullaryIn .., nullaryIn .., unaryIn .., binaryIn .., nullaryIn .., binaryIn .., nullaryIn .., unaryIn .., ternaryIn ..⟩
theorem line4_writes : Writes (F := F) line4 [main_call1_v0, main_call1_c, main_call1_v1, main_call1_v2, main_call1_v3, main_call1_v4, main_call1_c_0, main_call1_v5, main_v77] := rfl
/-- A stretch of the reference’s own operations, number 6 in order. -/
abbrev line5 : Ops F :=
  [ unary main_v75 main_v78 (broadcastInDim S128x1 ![0] bcast_S128_S128x1_0 : One F S128 S128x1),
    unary main_v75 main_v79 (broadcastInDim S1x128 ![1] bcast_S128_S1x128_1 : One F S128 S1x128),
    unary main_v78 main_v80 (broadcastInDim S128x128 ![0, 1] bcast_S128x1_S128x128_0_1 : One F S128x1 S128x128),
    unary main_v79 main_v81 (broadcastInDim S128x128 ![0, 1] bcast_S1x128_S128x128_0_1 : One F S1x128 S128x128),
    binary main_v80 main_v81 main_v82 (subf : Pair F S128x128),
    unary main_v82 main_v83 (broadcastInDim S128x128x1 ![0, 1] bcast_S128x128_S128x128x1_0_1 : One F S128x128 S128x128x1),
    unary main_v74 main_v84 (broadcastInDim S1x1x4 ![2] bcast_S4_S1x1x4_2 : One F S4 S1x1x4),
    unary main_v83 main_v85 (broadcastInDim S128x128x4 ![0, 1, 2] bcast_S128x128x1_S128x128x4_0_1_2 : One F S128x128x1 S128x128x4),
    unary main_v84 main_v86 (broadcastInDim S128x128x4 ![0, 1, 2] bcast_S1x1x4_S128x128x4_0_1_2 : One F S1x1x4 S128x128x4),
    binary main_v85 main_v86 main_v87 (mulf : Pair F S128x128x4),
    unary main_v77 main_v88 (broadcastInDim S128x128x1 ![0, 1] bcast_S128x128_S128x128x1_0_1 : Arr F S128x128 .i1 → Arr F S128x128x1 .i1),
    nullary main_cst_12 (constant S_ .f32 0xFF800000#32) ]
theorem line5_sub : Inside (F := F) line5 :=
  ⟨unaryIn .., unaryIn .., unaryIn .., unaryIn .., binaryIn .., unaryIn .., unaryIn .., unaryIn .., unaryIn .., binaryIn .., unaryIn .., nullaryIn ..⟩
theorem line5_writes : Writes (F := F) line5 [main_v78, main_v79, main_v80, main_v81, main_v82, main_v83, main_v84, main_v85, main_v86, main_v87, main_v88, main_cst_12] := rfl
/-- The operations of one called function, number 7 in order. -/
abbrev line6 : Ops F :=
  [ unary main_cst_12 main_call2_v0 (id : One F S_ S_),
    unary main_v88 main_call2_v1 ((broadcastInDim S128x128x4 ![0, 1, 2] bcast_S128x128x1_S128x128x4_0_1_2) : Arr F S128x128x1 .i1 → Arr F S128x128x4 .i1),
    unary main_call2_v0 main_call2_v2 ((broadcastInDim S128x128x4 ![] bcast_S_S128x128x4) : One F S_ S128x128x4),
    ternary main_call2_v1 main_v87 main_call2_v2 main_v89 (select : Arr F S128x128x4 .i1 → Pair F S128x128x4) ]
theorem line6_sub : Inside (F := F) line6 :=
  ⟨unaryIn .., unaryIn .., unaryIn .., ternaryIn ..⟩
theorem line6_writes : Writes (F := F) line6 [main_call2_v0, main_call2_v1, main_call2_v2, main_v89] := rfl
/-- A stretch of the reference’s own operations, number 8 in order. -/
abbrev line7 : Ops F :=
  [ unary main_v89 main_v90 (Host.exp : One F S128x128x4 S128x128x4),
    unary main_v90 main_v91 ((transpose S4x128x128 [2, 0, 1] · transposes_S128x128x4_S4x128x128_2_0_1) : One F S128x128x4 S4x128x128),
    binary main_v64 main_v65 main_v92 ((fun l r => Host.dotGeneral dot_S1x65x128x4x256_S1x65x128x4x256_S1x65x4x128x128_4_4_2_2_013_013 none l r) : Two F S1x65x128x4x256 S1x65x128x4x256 S1x65x4x128x128),
    unary main_v91 main_v93 (broadcastInDim S1x1x4x128x128 ![2, 3, 4] bcast_S4x128x128_S1x1x4x128x128_2_3_4 : One F S4x128x128 S1x1x4x128x128),
    unary main_v93 main_v94 (broadcastInDim S1x65x4x128x128 ![0, 1, 2, 3, 4] bcast_S1x1x4x128x128_S1x65x4x128x128_0_1_2_3_4 : One F S1x1x4x128x128 S1x65x4x128x128),
    binary main_v92 main_v94 main_v95 (mulf : Pair F S1x65x4x128x128),
    binary main_v66 main_v95 main_v96 ((fun l r => Host.dotGeneral dot_S1x65x128x4x512_S1x65x4x128x128_S1x65x4x512x128_2_4_4_3_013_012 none l r) : Two F S1x65x128x4x512 S1x65x4x128x128 S1x65x4x512x128),
    unary main_v96 main_v97 ((transpose S1x65x128x4x512 [0, 1, 4, 2, 3] · transposes_S1x65x4x512x128_S1x65x128x4x512_0_1_4_2_3) : One F S1x65x4x512x128 S1x65x128x4x512),
    nullary main_cst_13 (constant S_ .f32 0x42FE0000#32),
    unary main_cst_13 main_v98 (broadcastInDim S128 ![] bcast_S_S128 : One F S_ S128),
    binary main_v98 main_v75 main_v99 (subf : Pair F S128),
    unary main_v99 main_v100 (broadcastInDim S128x1 ![0] bcast_S128_S128x1_0 : One F S128 S128x1),
    unary main_v74 main_v101 (broadcastInDim S1x4 ![1] bcast_S4_S1x4_1 : One F S4 S1x4),
    unary main_v100 main_v102 (broadcastInDim S128x4 ![0, 1] bcast_S128x1_S128x4_0_1 : One F S128x1 S128x4),
    unary main_v101 main_v103 (broadcastInDim S128x4 ![0, 1] bcast_S1x4_S128x4_0_1 : One F S1x4 S128x4) ]
theorem line7_sub : Inside (F := F) line7 :=
  ⟨unaryIn .., unaryIn .., binaryIn .., unaryIn .., unaryIn .., binaryIn .., binaryIn .., unaryIn .., nullaryIn .., unaryIn .., binaryIn .., unaryIn .., unaryIn .., unaryIn .., unaryIn ..⟩
theorem line7_writes : Writes (F := F) line7 [main_v90, main_v91, main_v92, main_v93, main_v94, main_v95, main_v96, main_v97, main_cst_13, main_v98, main_v99, main_v100, main_v101, main_v102, main_v103] := rfl
/-- A stretch of the reference’s own operations, number 9 in order. -/
abbrev line8 : Ops F :=
  [ binary main_v102 main_v103 main_v104 (mulf : Pair F S128x4),
    unary main_v104 main_v105 (Host.exp : One F S128x4 S128x4),
    unary main_v105 main_v106 (broadcastInDim S128x4x1 ![0, 1] bcast_S128x4_S128x4x1_0_1 : One F S128x4 S128x4x1),
    unary main_v106 main_v107 (broadcastInDim S1x1x128x4x1 ![2, 3, 4] bcast_S128x4x1_S1x1x128x4x1_2_3_4 : One F S128x4x1 S1x1x128x4x1),
    unary main_v107 main_v108 (broadcastInDim S1x65x128x4x256 ![0, 1, 2, 3, 4] bcast_S1x1x128x4x1_S1x65x128x4x256_0_1_2_3_4 : One F S1x1x128x4x1 S1x65x128x4x256),
    binary main_v65 main_v108 main_v109 (mulf : Pair F S1x65x128x4x256),
    binary main_v109 main_v66 main_v110 ((fun l r => Host.dotGeneral dot_S1x65x128x4x256_S1x65x128x4x512_S1x65x4x256x512_2_2_4_4_013_013 none l r) : Two F S1x65x128x4x256 S1x65x128x4x512 S1x65x4x256x512),
    nullary main_cst_14 (constant S_ .f32 0x43000000#32),
    unary main_cst_14 main_v111 (broadcastInDim S4 ![] bcast_S_S4 : One F S_ S4),
    binary main_v111 main_v74 main_v112 (mulf : Pair F S4),
    unary main_v112 main_v113 (Host.exp : One F S4 S4),
    unary main_v110 main_v114 ((extractStridedSlice S1x1x4x256x512 ![0, 0, 0, 0, 0] · slices_S1x65x4x256x512_S1x1x4x256x512_0_0_0_0_0) : One F S1x65x4x256x512 S1x1x4x256x512),
    reshape main_v114 main_v115 rfl shapeCasts_S1x1x4x256x512_S1x4x256x512,
    nullary main_cst_15 (constant S_ .f32 0x00000000#32),
    unary main_cst_15 main_v116 (broadcastInDim S1x4x256x512 ![] bcast_S_S1x4x256x512 : One F S_ S1x4x256x512),
    unary main_v110 main_v117 ((transpose S65x1x4x256x512 [1, 0, 2, 3, 4] · transposes_S1x65x4x256x512_S65x1x4x256x512_1_0_2_3_4) : One F S1x65x4x256x512 S65x1x4x256x512),
    unary main_v113 main_v118 (broadcastInDim S4x1x1 ![0] bcast_S4_S4x1x1_0 : One F S4 S4x1x1),
    unary main_v118 main_v119 (broadcastInDim S1x4x1x1 ![1, 2, 3] bcast_S4x1x1_S1x4x1x1_1_2_3 : One F S4x1x1 S1x4x1x1),
    nullary main_cst_16 (constant S_ .f32 0x00000000#32),
    unary main_cst_16 main_v120 (broadcastInDim S65x1x4x256x512 ![] bcast_S_S65x1x4x256x512 : One F S_ S65x1x4x256x512),
    nullary main_c_17 (constantI S_ 32 0#32),
    unary main_v117 main_v121_0 id,
    unary main_v119 main_v121_1 id,
    unary main_c_17 main_v121_2 id,
    unary main_v116 main_v121_3 id,
    unary main_v120 main_v121_4 id ]
theorem line8_sub : Inside (F := F) line8 :=
  ⟨binaryIn .., unaryIn .., unaryIn .., unaryIn .., unaryIn .., binaryIn .., binaryIn .., nullaryIn .., unaryIn .., binaryIn .., unaryIn .., unaryIn .., reshapeIn .., nullaryIn .., unaryIn .., unaryIn .., unaryIn .., unaryIn .., nullaryIn .., unaryIn .., nullaryIn .., unaryIn .., unaryIn .., unaryIn .., unaryIn .., unaryIn ..⟩
theorem line8_writes : Writes (F := F) line8 [main_v104, main_v105, main_v106, main_v107, main_v108, main_v109, main_v110, main_cst_14, main_v111, main_v112, main_v113, main_v114, main_v115, main_cst_15, main_v116, main_v117, main_v118, main_v119, main_cst_16, main_v120, main_c_17, main_v121_0, main_v121_1, main_v121_2, main_v121_3, main_v121_4] := rfl
/-- A stretch of the reference’s own operations, number 10 in order. -/
abbrev line9 : Ops F :=
  [ unary main_v121_4 main_v122 ((transpose S1x65x4x256x512 [1, 0, 2, 3, 4] · transposes_S65x1x4x256x512_S1x65x4x256x512_1_0_2_3_4) : One F S65x1x4x256x512 S1x65x4x256x512),
    binary main_v122 main_v64 main_v123 ((fun l r => Host.dotGeneral dot_S1x65x4x256x512_S1x65x128x4x256_S1x65x4x512x128_3_4_4_2_012_013 none l r) : Two F S1x65x4x256x512 S1x65x128x4x256 S1x65x4x512x128),
    unary main_v123 main_v124 ((transpose S1x65x128x4x512 [0, 1, 4, 2, 3] · transposes_S1x65x4x512x128_S1x65x128x4x512_0_1_4_2_3) : One F S1x65x4x512x128 S1x65x128x4x512),
    nullary main_cst_18 (constant S_ .f32 0x3F800000#32),
    unary main_cst_18 main_v125 (broadcastInDim S128 ![] bcast_S_S128 : One F S_ S128),
    binary main_v75 main_v125 main_v126 (addf : Pair F S128),
    unary main_v126 main_v127 (broadcastInDim S128x1 ![0] bcast_S128_S128x1_0 : One F S128 S128x1),
    unary main_v74 main_v128 (broadcastInDim S1x4 ![1] bcast_S4_S1x4_1 : One F S4 S1x4),
    unary main_v127 main_v129 (broadcastInDim S128x4 ![0, 1] bcast_S128x1_S128x4_0_1 : One F S128x1 S128x4),
    unary main_v128 main_v130 (broadcastInDim S128x4 ![0, 1] bcast_S1x4_S128x4_0_1 : One F S1x4 S128x4),
    binary main_v129 main_v130 main_v131 (mulf : Pair F S128x4),
    unary main_v131 main_v132 (Host.exp : One F S128x4 S128x4),
    unary main_v132 main_v133 (broadcastInDim S128x4x1 ![0, 1] bcast_S128x4_S128x4x1_0_1 : One F S128x4 S128x4x1),
    unary main_v133 main_v134 (broadcastInDim S1x1x128x4x1 ![2, 3, 4] bcast_S128x4x1_S1x1x128x4x1_2_3_4 : One F S128x4x1 S1x1x128x4x1),
    unary main_v134 main_v135 (broadcastInDim S1x65x128x4x512 ![0, 1, 2, 3, 4] bcast_S1x1x128x4x1_S1x65x128x4x512_0_1_2_3_4 : One F S1x1x128x4x1 S1x65x128x4x512),
    binary main_v124 main_v135 main_v136 (mulf : Pair F S1x65x128x4x512),
    binary main_v97 main_v136 main_v137 (addf : Pair F S1x65x128x4x512),
    reshape main_v137 main_v138 rfl shapeCasts_S1x65x128x4x512_S1x8320x4x512,
    unary main_v138 main_v139 ((extractStridedSlice S1x8208x4x512 ![0, 112, 0, 0] · slices_S1x8320x4x512_S1x8208x4x512_0_112_0_0) : One F S1x8320x4x512 S1x8208x4x512),
    binary main_v139 main_v139 main_v140 (mulf : Pair F S1x8208x4x512),
    nullary main_cst_19 (constant S_ .f32 0x00000000#32),
    binary main_v140 main_cst_19 main_v141 ((fun x v => Host.reduceAdd x v reducesTo_S1x8208x4x512_S1x8208x4_d3 h_S_) : Two F S1x8208x4x512 S_ S1x8208x4),
    unary main_v141 main_v142 (broadcastInDim S1x8208x4x1 ![0, 1, 2] bcast_S1x8208x4_S1x8208x4x1_0_1_2 : One F S1x8208x4 S1x8208x4x1),
    nullary main_cst_20 (constant S_ .f32 0x44000000#32),
    unary main_cst_20 main_v143 (broadcastInDim S1x8208x4x1 ![] bcast_S_S1x8208x4x1 : One F S_ S1x8208x4x1),
    binary main_v142 main_v143 main_v144 (Host.divf : Pair F S1x8208x4x1),
    nullary main_cst_21 (constant S_ .f32 0x358637BD#32),
    unary main_cst_21 main_v145 (broadcastInDim S1x8208x4x1 ![] bcast_S_S1x8208x4x1 : One F S_ S1x8208x4x1),
    binary main_v144 main_v145 main_v146 (addf : Pair F S1x8208x4x1),
    unary main_v146 main_v147 (Host.rsqrt : One F S1x8208x4x1 S1x8208x4x1),
    binary main_v147 main_v146 main_v148 (Host.divf : Pair F S1x8208x4x1),
    nullary main_cst_22 (constant S_ .f32 0xBF000000#32),
    unary main_cst_22 main_v149 (broadcastInDim S1x8208x4x1 ![] bcast_S_S1x8208x4x1 : One F S_ S1x8208x4x1) ]
theorem line9_sub : Inside (F := F) line9 :=
  ⟨unaryIn .., binaryIn .., unaryIn .., nullaryIn .., unaryIn .., binaryIn .., unaryIn .., unaryIn .., unaryIn .., unaryIn .., binaryIn .., unaryIn .., unaryIn .., unaryIn .., unaryIn .., binaryIn .., binaryIn .., reshapeIn .., unaryIn .., binaryIn .., nullaryIn .., binaryIn .., unaryIn .., nullaryIn .., unaryIn .., binaryIn .., nullaryIn .., unaryIn .., binaryIn .., unaryIn .., binaryIn .., nullaryIn .., unaryIn ..⟩
theorem line9_writes : Writes (F := F) line9 [main_v122, main_v123, main_v124, main_cst_18, main_v125, main_v126, main_v127, main_v128, main_v129, main_v130, main_v131, main_v132, main_v133, main_v134, main_v135, main_v136, main_v137, main_v138, main_v139, main_v140, main_cst_19, main_v141, main_v142, main_cst_20, main_v143, main_v144, main_cst_21, main_v145, main_v146, main_v147, main_v148, main_cst_22, main_v149] := rfl
/-- A stretch of the reference’s own operations, number 11 in order. -/
abbrev line10 : Ops F :=
  [ binary main_v149 main_v148 main_v150 (mulf : Pair F S1x8208x4x1),
    unary main_v147 main_v151 (broadcastInDim S1x8208x4x512 ![0, 1, 2, 3] bcast_S1x8208x4x1_S1x8208x4x512_0_1_2_3 : One F S1x8208x4x1 S1x8208x4x512),
    binary main_v139 main_v151 main_v152 (mulf : Pair F S1x8208x4x512) ]
theorem line10_sub : Inside (F := F) line10 :=
  ⟨binaryIn .., unaryIn .., binaryIn ..⟩
theorem line10_writes : Writes (F := F) line10 [main_v150, main_v151, main_v152] := rfl
/-- The operations of one called function, number 12 in order. -/
abbrev line11 : Ops F :=
  [ unary main_v9 main_call5_v0 (Host.negf : One F S1x8208x2048 S1x8208x2048),
    unary main_call5_v0 main_call5_v1 (Host.exp : One F S1x8208x2048 S1x8208x2048),
    nullary main_call5_cst ((constant S_ .f32 0x3F800000#32) : Arr F S_ .f32),
    unary main_call5_cst main_call5_v2 ((broadcastInDim S1x8208x2048 ![] bcast_S_S1x8208x2048) : One F S_ S1x8208x2048),
    binary main_call5_v2 main_call5_v1 main_call5_v3 (addf : Pair F S1x8208x2048),
    nullary main_call5_cst_0 ((constant S_ .f32 0x3F800000#32) : Arr F S_ .f32),
    unary main_call5_cst_0 main_call5_v4 ((broadcastInDim S1x8208x2048 ![] bcast_S_S1x8208x2048) : One F S_ S1x8208x2048),
    binary main_call5_v4 main_call5_v3 main_v153_2 (Host.divf : Pair F S1x8208x2048),
    nullary main_call5_cst_1 ((constant S_ .f32 0x3F800000#32) : Arr F S_ .f32),
    unary main_call5_cst_1 main_call5_v6 ((broadcastInDim S1x8208x2048 ![] bcast_S_S1x8208x2048) : One F S_ S1x8208x2048),
    binary main_call5_v6 main_v153_2 main_call5_v7 (subf : Pair F S1x8208x2048),
    binary main_v153_2 main_call5_v7 main_v153_1 (mulf : Pair F S1x8208x2048),
    binary main_v9 main_v153_2 main_v153_0 (mulf : Pair F S1x8208x2048) ]
theorem line11_sub : Inside (F := F) line11 :=
  ⟨unaryIn .., unaryIn .., nullaryIn .., unaryIn .., binaryIn .., nullaryIn .., unaryIn .., binaryIn .., nullaryIn .., unaryIn .., binaryIn .., binaryIn .., binaryIn ..⟩
theorem line11_writes : Writes (F := F) line11 [main_call5_v0, main_call5_v1, main_call5_cst, main_call5_v2, main_call5_v3, main_call5_cst_0, main_call5_v4, main_v153_2, main_call5_cst_1, main_call5_v6, main_call5_v7, main_v153_1, main_v153_0] := rfl
/-- A stretch of the reference’s own operations, number 13 in order. -/
abbrev line12 : Ops F :=
  [ reshape main_v152 main_v154 rfl shapeCasts_S1x8208x4x512_S1x8208x2048,
    binary main_v153_0 main_v154 main_v155 (mulf : Pair F S1x8208x2048),
    unary main_arg1 main_v156 ((extf .f32 · bitsLt_bf16_f32) : Arr F S8208x2048 .bf16 → Arr F S8208x2048 .f32),
    unary main_v156 main_v157 (broadcastInDim S1x8208x2048 ![1, 2] bcast_S8208x2048_S1x8208x2048_1_2 : One F S8208x2048 S1x8208x2048),
    nullary main_cst_23 (constant S_ .f32 0x00000000#32),
    unary main_cst_23 main_v158 (broadcastInDim S1x4x256x512 ![] bcast_S_S1x4x256x512 : One F S_ S1x4x256x512),
    binary main_v153_0 main_v157 main_v159 (mulf : Pair F S1x8208x2048),
    binary main_v157 main_v154 main_v160 (mulf : Pair F S1x8208x2048),
    reshape main_v159 main_v161 rfl shapeCasts_S1x8208x2048_S1x8208x4x512 ]
theorem line12_sub : Inside (F := F) line12 :=
  ⟨reshapeIn .., binaryIn .., unaryIn .., unaryIn .., nullaryIn .., unaryIn .., binaryIn .., binaryIn .., reshapeIn ..⟩
theorem line12_writes : Writes (F := F) line12 [main_v154, main_v155, main_v156, main_v157, main_cst_23, main_v158, main_v159, main_v160, main_v161] := rfl
/-- The operations of one called function, number 14 in order. -/
abbrev line13 : Ops F :=
  [ binary main_v9 main_v160 main_call6_v0 (mulf : Pair F S1x8208x2048),
    binary main_v160 main_v153_2 main_call6_v1 (mulf : Pair F S1x8208x2048),
    binary main_call6_v0 main_v153_1 main_call6_v2 (mulf : Pair F S1x8208x2048),
    binary main_call6_v1 main_call6_v2 main_v162 (addf : Pair F S1x8208x2048) ]
theorem line13_sub : Inside (F := F) line13 :=
  ⟨binaryIn .., binaryIn .., binaryIn .., binaryIn ..⟩
theorem line13_writes : Writes (F := F) line13 [main_call6_v0, main_call6_v1, main_call6_v2, main_v162] := rfl
/-- A stretch of the reference’s own operations, number 15 in order. -/
abbrev line14 : Ops F :=
  [ binary main_v139 main_v161 main_v163 (mulf : Pair F S1x8208x4x512),
    nullary main_cst_24 (constant S_ .f32 0x00000000#32),
    binary main_v163 main_cst_24 main_v164 ((fun x v => Host.reduceAdd x v reducesTo_S1x8208x4x512_S1x8208x4_d3 h_S_) : Two F S1x8208x4x512 S_ S1x8208x4),
    reshape main_v164 main_v165 rfl shapeCasts_S1x8208x4_S1x8208x4x1,
    unary main_v147 main_v166 (broadcastInDim S1x8208x4x512 ![0, 1, 2, 3] bcast_S1x8208x4x1_S1x8208x4x512_0_1_2_3 : One F S1x8208x4x1 S1x8208x4x512),
    binary main_v161 main_v166 main_v167 (mulf : Pair F S1x8208x4x512),
    binary main_v165 main_v150 main_v168 (mulf : Pair F S1x8208x4x1),
    nullary main_cst_25 (constant S_ .f32 0x44000000#32),
    unary main_cst_25 main_v169 (broadcastInDim S1x8208x4x1 ![] bcast_S_S1x8208x4x1 : One F S_ S1x8208x4x1),
    binary main_v168 main_v169 main_v170 (Host.divf : Pair F S1x8208x4x1),
    nullary main_cst_26 (constant S_ .f32 0x00000000#32),
    binary main_v170 main_cst_26 main_v171 ((fun x v => Host.reduceAdd x v reducesTo_S1x8208x4x1_S8208x4_d0_3 h_S_) : Two F S1x8208x4x1 S_ S8208x4),
    unary main_v171 main_v172 (broadcastInDim S1x8208x4 ![1, 2] bcast_S8208x4_S1x8208x4_1_2 : One F S8208x4 S1x8208x4),
    unary main_v172 main_v173 (broadcastInDim S1x8208x4x512 ![0, 1, 2] bcast_S1x8208x4_S1x8208x4x512_0_1_2 : One F S1x8208x4 S1x8208x4x512),
    binary main_v139 main_v173 main_v174 (mulf : Pair F S1x8208x4x512),
    binary main_v167 main_v174 main_v175 (addf : Pair F S1x8208x4x512),
    binary main_v173 main_v139 main_v176 (mulf : Pair F S1x8208x4x512),
    binary main_v175 main_v176 main_v177 (addf : Pair F S1x8208x4x512),
    nullary main_cst_27 (constant S_ .f32 0x00000000#32),
    binary main_v177 main_cst_27 main_v178 ((fun x v => pad S1x8320x4x512 ![0, 112, 0, 0] ![0, 0, 0, 0] ![0, 0, 0, 0] x v pads_S1x8208x4x512_S1x8320x4x512_000_11200_000_000 h_S_) : Two F S1x8208x4x512 S_ S1x8320x4x512),
    reshape main_v178 main_v179 rfl shapeCasts_S1x8320x4x512_S1x65x128x4x512,
    unary main_v134 main_v180 (broadcastInDim S1x65x128x4x512 ![0, 1, 2, 3, 4] bcast_S1x1x128x4x1_S1x65x128x4x512_0_1_2_3_4 : One F S1x1x128x4x1 S1x65x128x4x512),
    binary main_v179 main_v180 main_v181 (mulf : Pair F S1x65x128x4x512),
    unary main_v181 main_v182 ((transpose S1x65x4x512x128 [0, 1, 3, 4, 2] · transposes_S1x65x128x4x512_S1x65x4x512x128_0_1_3_4_2) : One F S1x65x128x4x512 S1x65x4x512x128),
    binary main_v182 main_v122 main_v183 ((fun l r => Host.dotGeneral dot_S1x65x4x512x128_S1x65x4x256x512_S1x65x4x128x256_3_4_4_3_012_012 none l r) : Two F S1x65x4x512x128 S1x65x4x256x512 S1x65x4x128x256),
    unary main_v183 main_v184 ((transpose S1x65x128x4x256 [0, 1, 3, 2, 4] · transposes_S1x65x4x128x256_S1x65x128x4x256_0_1_3_2_4) : One F S1x65x4x128x256 S1x65x128x4x256),
    binary main_v182 main_v64 main_v185 ((fun l r => Host.dotGeneral dot_S1x65x4x512x128_S1x65x128x4x256_S1x65x4x512x256_4_2_3_4_012_013 none l r) : Two F S1x65x4x512x128 S1x65x128x4x256 S1x65x4x512x256),
    unary main_v185 main_v186 ((transpose S1x65x4x256x512 [0, 1, 2, 4, 3] · transposes_S1x65x4x512x256_S1x65x4x256x512_0_1_2_4_3) : One F S1x65x4x512x256 S1x65x4x256x512),
    unary main_v186 main_v187 ((transpose S65x1x4x256x512 [1, 0, 2, 3, 4] · transposes_S1x65x4x256x512_S65x1x4x256x512_1_0_2_3_4) : One F S1x65x4x256x512 S65x1x4x256x512),
    nullary main_cst_28 (constant S_ .f32 0x00000000#32),
    unary main_cst_28 main_v188 (broadcastInDim S1x4x256x512 ![] bcast_S_S1x4x256x512 : One F S_ S1x4x256x512),
    nullary main_cst_29 (constant S_ .f32 0x00000000#32),
    unary main_cst_29 main_v189 (broadcastInDim S65x1x4x256x512 ![] bcast_S_S65x1x4x256x512 : One F S_ S65x1x4x256x512),
    nullary main_c_30 (constantI S_ 32 0#32),
    unary main_v187 main_v190_0 id,
    unary main_v119 main_v190_1 id,
    unary main_c_30 main_v190_2 id,
    unary main_v188 main_v190_3 id,
    unary main_v189 main_v190_4 id ]
theorem line14_sub : Inside (F := F) line14 :=
  ⟨binaryIn .., nullaryIn .., binaryIn .., reshapeIn .., unaryIn .., binaryIn .., binaryIn .., nullaryIn .., unaryIn .., binaryIn .., nullaryIn .., binaryIn .., unaryIn .., unaryIn .., binaryIn .., binaryIn .., binaryIn .., binaryIn .., nullaryIn .., binaryIn .., reshapeIn .., unaryIn .., binaryIn .., unaryIn .., binaryIn .., unaryIn .., binaryIn .., unaryIn .., unaryIn .., nullaryIn .., unaryIn .., nullaryIn .., unaryIn .., nullaryIn .., unaryIn .., unaryIn .., unaryIn .., unaryIn .., unaryIn ..⟩
theorem line14_writes : Writes (F := F) line14 [main_v163, main_cst_24, main_v164, main_v165, main_v166, main_v167, main_v168, main_cst_25, main_v169, main_v170, main_cst_26, main_v171, main_v172, main_v173, main_v174, main_v175, main_v176, main_v177, main_cst_27, main_v178, main_v179, main_v180, main_v181, main_v182, main_v183, main_v184, main_v185, main_v186, main_v187, main_cst_28, main_v188, main_cst_29, main_v189, main_c_30, main_v190_0, main_v190_1, main_v190_2, main_v190_3, main_v190_4] := rfl
/-- A stretch of the reference’s own operations, number 16 in order. -/
abbrev line15 : Ops F :=
  [ unary main_v190_4 main_v191 ((transpose S1x65x4x256x512 [1, 0, 2, 3, 4] · transposes_S65x1x4x256x512_S1x65x4x256x512_1_0_2_3_4) : One F S65x1x4x256x512 S1x65x4x256x512),
    binary main_v191 main_v109 main_v192 ((fun l r => Host.dotGeneral dot_S1x65x4x256x512_S1x65x128x4x256_S1x65x4x512x128_3_4_4_2_012_013 none l r) : Two F S1x65x4x256x512 S1x65x128x4x256 S1x65x4x512x128),
    unary main_v192 main_v193 ((transpose S1x65x128x4x512 [0, 1, 4, 2, 3] · transposes_S1x65x4x512x128_S1x65x128x4x512_0_1_4_2_3) : One F S1x65x4x512x128 S1x65x128x4x512),
    binary main_v191 main_v66 main_v194 ((fun l r => Host.dotGeneral dot_S1x65x4x256x512_S1x65x128x4x512_S1x65x4x256x128_4_4_3_2_012_013 none l r) : Two F S1x65x4x256x512 S1x65x128x4x512 S1x65x4x256x128),
    unary main_v194 main_v195 ((transpose S1x65x128x4x256 [0, 1, 4, 2, 3] · transposes_S1x65x4x256x128_S1x65x128x4x256_0_1_4_2_3) : One F S1x65x4x256x128 S1x65x128x4x256),
    unary main_v107 main_v196 (broadcastInDim S1x65x128x4x256 ![0, 1, 2, 3, 4] bcast_S1x1x128x4x1_S1x65x128x4x256_0_1_2_3_4 : One F S1x1x128x4x1 S1x65x128x4x256) ]
theorem line15_sub : Inside (F := F) line15 :=
  ⟨unaryIn .., binaryIn .., unaryIn .., binaryIn .., unaryIn .., unaryIn ..⟩
theorem line15_writes : Writes (F := F) line15 [main_v191, main_v192, main_v193, main_v194, main_v195, main_v196] := rfl
/-- A stretch of the reference’s own operations, number 17 in order. -/
abbrev line16 : Ops F :=
  [ binary main_v195 main_v196 main_v197 (mulf : Pair F S1x65x128x4x256),
    unary main_v179 main_v198 ((transpose S1x65x4x512x128 [0, 1, 3, 4, 2] · transposes_S1x65x128x4x512_S1x65x4x512x128_0_1_3_4_2) : One F S1x65x128x4x512 S1x65x4x512x128),
    binary main_v198 main_v66 main_v199 ((fun l r => Host.dotGeneral dot_S1x65x4x512x128_S1x65x128x4x512_S1x65x4x128x128_3_4_4_2_012_013 none l r) : Two F S1x65x4x512x128 S1x65x128x4x512 S1x65x4x128x128),
    binary main_v198 main_v95 main_v200 ((fun l r => Host.dotGeneral dot_S1x65x4x512x128_S1x65x4x128x128_S1x65x4x512x128_4_3_3_4_012_012 none l r) : Two F S1x65x4x512x128 S1x65x4x128x128 S1x65x4x512x128),
    unary main_v200 main_v201 ((transpose S1x65x128x4x512 [0, 1, 4, 2, 3] · transposes_S1x65x4x512x128_S1x65x128x4x512_0_1_4_2_3) : One F S1x65x4x512x128 S1x65x128x4x512),
    binary main_v193 main_v201 main_v202 (addf : Pair F S1x65x128x4x512),
    unary main_v93 main_v203 (broadcastInDim S1x65x4x128x128 ![0, 1, 2, 3, 4] bcast_S1x1x4x128x128_S1x65x4x128x128_0_1_2_3_4 : One F S1x1x4x128x128 S1x65x4x128x128),
    binary main_v199 main_v203 main_v204 (mulf : Pair F S1x65x4x128x128),
    binary main_v204 main_v64 main_v205 ((fun l r => Host.dotGeneral dot_S1x65x4x128x128_S1x65x128x4x256_S1x65x4x128x256_3_2_4_4_012_013 none l r) : Two F S1x65x4x128x128 S1x65x128x4x256 S1x65x4x128x256),
    unary main_v205 main_v206 ((transpose S1x65x128x4x256 [0, 1, 3, 2, 4] · transposes_S1x65x4x128x256_S1x65x128x4x256_0_1_3_2_4) : One F S1x65x4x128x256 S1x65x128x4x256),
    binary main_v197 main_v206 main_v207 (addf : Pair F S1x65x128x4x256),
    binary main_v204 main_v65 main_v208 ((fun l r => Host.dotGeneral dot_S1x65x4x128x128_S1x65x128x4x256_S1x65x4x128x256_4_2_3_4_012_013 none l r) : Two F S1x65x4x128x128 S1x65x128x4x256 S1x65x4x128x256),
    unary main_v208 main_v209 ((transpose S1x65x128x4x256 [0, 1, 3, 2, 4] · transposes_S1x65x4x128x256_S1x65x128x4x256_0_1_3_2_4) : One F S1x65x4x128x256 S1x65x128x4x256),
    binary main_v184 main_v209 main_v210 (addf : Pair F S1x65x128x4x256),
    reshape main_v202 main_v211 rfl shapeCasts_S1x65x128x4x512_S1x8320x4x512,
    reshape main_v207 main_v212 rfl shapeCasts_S1x65x128x4x256_S1x8320x4x256,
    reshape main_v210 main_v213 rfl shapeCasts_S1x65x128x4x256_S1x8320x4x256,
    unary main_v211 main_v214 ((extractStridedSlice S1x112x4x512 ![0, 0, 0, 0] · slices_S1x8320x4x512_S1x112x4x512_0_0_0_0) : One F S1x8320x4x512 S1x112x4x512),
    unary main_v211 main_v215 ((extractStridedSlice S1x8208x4x512 ![0, 112, 0, 0] · slices_S1x8320x4x512_S1x8208x4x512_0_112_0_0) : One F S1x8320x4x512 S1x8208x4x512),
    unary main_v212 main_v216 ((extractStridedSlice S1x112x4x256 ![0, 0, 0, 0] · slices_S1x8320x4x256_S1x112x4x256_0_0_0_0) : One F S1x8320x4x256 S1x112x4x256),
    unary main_v212 main_v217 ((extractStridedSlice S1x8208x4x256 ![0, 112, 0, 0] · slices_S1x8320x4x256_S1x8208x4x256_0_112_0_0) : One F S1x8320x4x256 S1x8208x4x256),
    unary main_v213 main_v218 ((extractStridedSlice S1x112x4x256 ![0, 0, 0, 0] · slices_S1x8320x4x256_S1x112x4x256_0_0_0_0) : One F S1x8320x4x256 S1x112x4x256),
    unary main_v213 main_v219 ((extractStridedSlice S1x8208x4x256 ![0, 112, 0, 0] · slices_S1x8320x4x256_S1x8208x4x256_0_112_0_0) : One F S1x8320x4x256 S1x8208x4x256),
    nullary main_cst_31 (constant S_ .f32 0x3D800000#32),
    unary main_cst_31 main_v220 (broadcastInDim S1x8208x4x256 ![] bcast_S_S1x8208x4x256 : One F S_ S1x8208x4x256),
    binary main_v217 main_v220 main_v221 (mulf : Pair F S1x8208x4x256),
    unary main_v221 main_v222 ((extractStridedSlice S1x8208x4x128 ![0, 0, 0, 0] · slices_S1x8208x4x256_S1x8208x4x128_0_0_0_0) : One F S1x8208x4x256 S1x8208x4x128),
    unary main_v221 main_v223 ((extractStridedSlice S1x8208x4x128 ![0, 0, 0, 128] · slices_S1x8208x4x256_S1x8208x4x128_0_0_0_128) : One F S1x8208x4x256 S1x8208x4x128),
    unary main_v26 main_v224 (broadcastInDim S1x8208x4x128 ![0, 1, 2, 3] bcast_S1x8208x1x128_S1x8208x4x128_0_1_2_3 : One F S1x8208x1x128 S1x8208x4x128),
    binary main_v223 main_v224 main_v225 (mulf : Pair F S1x8208x4x128),
    unary main_v24 main_v226 (broadcastInDim S1x8208x4x128 ![0, 1, 2, 3] bcast_S1x8208x1x128_S1x8208x4x128_0_1_2_3 : One F S1x8208x1x128 S1x8208x4x128),
    binary main_v223 main_v226 main_v227 (mulf : Pair F S1x8208x4x128),
    unary main_v222 main_v228 (Host.negf : One F S1x8208x4x128 S1x8208x4x128),
    unary main_v26 main_v229 (broadcastInDim S1x8208x4x128 ![0, 1, 2, 3] bcast_S1x8208x1x128_S1x8208x4x128_0_1_2_3 : One F S1x8208x1x128 S1x8208x4x128),
    binary main_v228 main_v229 main_v230 (mulf : Pair F S1x8208x4x128),
    binary main_v227 main_v230 main_v231 (addf : Pair F S1x8208x4x128),
    unary main_v24 main_v232 (broadcastInDim S1x8208x4x128 ![0, 1, 2, 3] bcast_S1x8208x1x128_S1x8208x4x128_0_1_2_3 : One F S1x8208x1x128 S1x8208x4x128),
    binary main_v222 main_v232 main_v233 (mulf : Pair F S1x8208x4x128),
    binary main_v225 main_v233 main_v234 (addf : Pair F S1x8208x4x128),
    nullary main_cst_32 (constant S_ .f32 0x00000000#32),
    binary main_v231 main_cst_32 main_v235 ((fun x v => pad S1x8208x4x256 ![0, 0, 0, 128] ![0, 0, 0, 0] ![0, 0, 0, 0] x v pads_S1x8208x4x128_S1x8208x4x256_000_000_000_12800 h_S_) : Two F S1x8208x4x128 S_ S1x8208x4x256),
    nullary main_cst_33 (constant S_ .f32 0x00000000#32),
    binary main_v234 main_cst_33 main_v236 ((fun x v => pad S1x8208x4x256 ![0, 0, 0, 0] ![0, 0, 0, 128] ![0, 0, 0, 0] x v pads_S1x8208x4x128_S1x8208x4x256_000_000_000_01280 h_S_) : Two F S1x8208x4x128 S_ S1x8208x4x256),
    binary main_v235 main_v236 main_v237 (addf : Pair F S1x8208x4x256),
    unary main_v219 main_v238 ((extractStridedSlice S1x8208x4x128 ![0, 0, 0, 0] · slices_S1x8208x4x256_S1x8208x4x128_0_0_0_0) : One F S1x8208x4x256 S1x8208x4x128),
    unary main_v219 main_v239 ((extractStridedSlice S1x8208x4x128 ![0, 0, 0, 128] · slices_S1x8208x4x256_S1x8208x4x128_0_0_0_128) : One F S1x8208x4x256 S1x8208x4x128),
    unary main_v26 main_v240 (broadcastInDim S1x8208x4x128 ![0, 1, 2, 3] bcast_S1x8208x1x128_S1x8208x4x128_0_1_2_3 : One F S1x8208x1x128 S1x8208x4x128),
    binary main_v239 main_v240 main_v241 (mulf : Pair F S1x8208x4x128),
    unary main_v24 main_v242 (broadcastInDim S1x8208x4x128 ![0, 1, 2, 3] bcast_S1x8208x1x128_S1x8208x4x128_0_1_2_3 : One F S1x8208x1x128 S1x8208x4x128),
    binary main_v239 main_v242 main_v243 (mulf : Pair F S1x8208x4x128),
    unary main_v238 main_v244 (Host.negf : One F S1x8208x4x128 S1x8208x4x128),
    unary main_v26 main_v245 (broadcastInDim S1x8208x4x128 ![0, 1, 2, 3] bcast_S1x8208x1x128_S1x8208x4x128_0_1_2_3 : One F S1x8208x1x128 S1x8208x4x128),
    binary main_v244 main_v245 main_v246 (mulf : Pair F S1x8208x4x128),
    binary main_v243 main_v246 main_v247 (addf : Pair F S1x8208x4x128),
    unary main_v24 main_v248 (broadcastInDim S1x8208x4x128 ![0, 1, 2, 3] bcast_S1x8208x1x128_S1x8208x4x128_0_1_2_3 : One F S1x8208x1x128 S1x8208x4x128),
    binary main_v238 main_v248 main_v249 (mulf : Pair F S1x8208x4x128),
    binary main_v241 main_v249 main_v250 (addf : Pair F S1x8208x4x128),
    nullary main_cst_34 (constant S_ .f32 0x00000000#32),
    binary main_v247 main_cst_34 main_v251 ((fun x v => pad S1x8208x4x256 ![0, 0, 0, 128] ![0, 0, 0, 0] ![0, 0, 0, 0] x v pads_S1x8208x4x128_S1x8208x4x256_000_000_000_12800 h_S_) : Two F S1x8208x4x128 S_ S1x8208x4x256),
    nullary main_cst_35 (constant S_ .f32 0x00000000#32) ]
theorem line16_sub : Inside (F := F) line16 :=
  ⟨binaryIn .., unaryIn .., binaryIn .., binaryIn .., unaryIn .., binaryIn .., unaryIn .., binaryIn .., binaryIn .., unaryIn .., binaryIn .., binaryIn .., unaryIn .., binaryIn .., reshapeIn .., reshapeIn .., reshapeIn .., unaryIn .., unaryIn .., unaryIn .., unaryIn .., unaryIn .., unaryIn .., nullaryIn .., unaryIn .., binaryIn .., unaryIn .., unaryIn .., unaryIn .., binaryIn .., unaryIn .., binaryIn .., unaryIn .., unaryIn .., binaryIn .., binaryIn .., unaryIn .., binaryIn .., binaryIn .., nullaryIn .., binaryIn .., nullaryIn .., binaryIn .., binaryIn .., unaryIn .., unaryIn .., unaryIn .., binaryIn .., unaryIn .., binaryIn .., unaryIn .., unaryIn .., binaryIn .., binaryIn .., unaryIn .., binaryIn .., binaryIn .., nullaryIn .., binaryIn .., nullaryIn ..⟩
theorem line16_writes : Writes (F := F) line16 [main_v197, main_v198, main_v199, main_v200, main_v201, main_v202, main_v203, main_v204, main_v205, main_v206, main_v207, main_v208, main_v209, main_v210, main_v211, main_v212, main_v213, main_v214, main_v215, main_v216, main_v217, main_v218, main_v219, main_cst_31, main_v220, main_v221, main_v222, main_v223, main_v224, main_v225, main_v226, main_v227, main_v228, main_v229, main_v230, main_v231, main_v232, main_v233, main_v234, main_cst_32, main_v235, main_cst_33, main_v236, main_v237, main_v238, main_v239, main_v240, main_v241, main_v242, main_v243, main_v244, main_v245, main_v246, main_v247, main_v248, main_v249, main_v250, main_cst_34, main_v251, main_cst_35] := rfl
/-- A stretch of the reference’s own operations, number 18 in order. -/
abbrev line17 : Ops F :=
  [ binary main_v250 main_cst_35 main_v252 ((fun x v => pad S1x8208x4x256 ![0, 0, 0, 0] ![0, 0, 0, 128] ![0, 0, 0, 0] x v pads_S1x8208x4x128_S1x8208x4x256_000_000_000_01280 h_S_) : Two F S1x8208x4x128 S_ S1x8208x4x256),
    binary main_v251 main_v252 main_v253 (addf : Pair F S1x8208x4x256),
    reshape main_v215 main_v254 rfl shapeCasts_S1x8208x4x512_S1x8208x2048,
    reshape main_v237 main_v255 rfl shapeCasts_S1x8208x4x256_S1x8208x1024,
    reshape main_v253 main_v256 rfl shapeCasts_S1x8208x4x256_S1x8208x1024,
    reshape main_v256 main_v257 rfl shapeCasts_S1x8208x1024_S8208x4x256,
    reshape main_v255 main_v258 rfl shapeCasts_S1x8208x1024_S8208x4x256,
    reshape main_v254 main_v259 rfl shapeCasts_S1x8208x2048_S8208x4x512,
    reshape main_v162 main_v260 rfl shapeCasts_S1x8208x2048_S8208x4x512,
    StableHlo.nary ![main_v257, main_v258, main_v259, main_v260] main_v261 (fun u => (concatenate S8208x4x1536 2 [⟨S8208x4x256, (u 0 : Arr F S8208x4x256 .f32)⟩, ⟨S8208x4x256, (u 1 : Arr F S8208x4x256 .f32)⟩, ⟨S8208x4x512, (u 2 : Arr F S8208x4x512 .f32)⟩, ⟨S8208x4x512, (u 3 : Arr F S8208x4x512 .f32)⟩] concatenates_S8208x4x256_S8208x4x256_S8208x4x512_S8208x4x512_S8208x4x1536_d2 : Arr F S8208x4x1536 .f32)),
    reshape main_v261 main_v262 rfl shapeCasts_S8208x4x1536_S8208x6144,
    reshape main_v155 main_v263 rfl shapeCasts_S1x8208x2048_S8208x2048,
    nullary main_c_36 (constantI S_ 32 0#32) ]
theorem line17_sub : Inside (F := F) line17 :=
  ⟨binaryIn .., binaryIn .., reshapeIn .., reshapeIn .., reshapeIn .., reshapeIn .., reshapeIn .., reshapeIn .., reshapeIn .., naryIn .., reshapeIn .., reshapeIn .., nullaryIn ..⟩
theorem line17_writes : Writes (F := F) line17 [main_v252, main_v253, main_v254, main_v255, main_v256, main_v257, main_v258, main_v259, main_v260, main_v261, main_v262, main_v263, main_c_36] := rfl
/-- The operations of one called function, number 19 in order. -/
abbrev line18 : Ops F :=
  [ unary main_c_36 main_call9_v0 ((sitofp .f32) : Arr F S_ .i32 → Arr F S_ .f32),
    binary main_v263 main_call9_v0 main_v264 ((fun x v => pad S8320x2048 ![112, 0] ![0, 0] ![0, 0] x v pads_S8208x2048_S8320x2048_11200_000 h_S_) : Two F S8208x2048 S_ S8320x2048) ]
theorem line18_sub : Inside (F := F) line18 :=
  ⟨unaryIn .., binaryIn ..⟩
theorem line18_writes : Writes (F := F) line18 [main_call9_v0, main_v264] := rfl
/-- A stretch of the reference’s own operations, number 20 in order. -/
abbrev line19 : Ops F :=
  [ unary main_v264 main_v265 ((truncf .bf16 · bitsLt_bf16_f32) : Arr F S8320x2048 .f32 → Arr F S8320x2048 .bf16),
    nullary main_c_37 (constantI S_ 32 0#32) ]
theorem line19_sub : Inside (F := F) line19 :=
  ⟨unaryIn .., nullaryIn ..⟩
theorem line19_writes : Writes (F := F) line19 [main_v265, main_c_37] := rfl
/-- The operations of one called function, number 21 in order. -/
abbrev line20 : Ops F :=
  [ unary main_c_37 main_call10_v0 ((sitofp .f32) : Arr F S_ .i32 → Arr F S_ .f32),
    binary main_v262 main_call10_v0 main_v266 ((fun x v => pad S8320x6144 ![112, 0] ![0, 0] ![0, 0] x v pads_S8208x6144_S8320x6144_11200_000 h_S_) : Two F S8208x6144 S_ S8320x6144) ]
theorem line20_sub : Inside (F := F) line20 :=
  ⟨unaryIn .., binaryIn ..⟩
theorem line20_writes : Writes (F := F) line20 [main_call10_v0, main_v266] := rfl
/-- A stretch of the reference’s own operations, number 22 in order. -/
abbrev line21 : Ops F :=
  [ unary main_v266 main_v267 ((truncf .bf16 · bitsLt_bf16_f32) : Arr F S8320x6144 .f32 → Arr F S8320x6144 .bf16),
    unary main_arg2 main_v268 ((extractStridedSlice S8320x7680 ![0, 6144] · slices_S8320x13824_S8320x7680_0_6144) : Arr F S8320x13824 .bf16 → Arr F S8320x7680 .bf16),
    binary main_v267 main_v268 main_v269 ((fun a b => concatenate S8320x13824 1 [⟨S8320x6144, a⟩, ⟨S8320x7680, b⟩] concatenates_S8320x6144_S8320x7680_S8320x13824_d1) : Arr F S8320x6144 .bf16 → Arr F S8320x7680 .bf16 → Arr F S8320x13824 .bf16) ]
theorem line21_sub : Inside (F := F) line21 :=
  ⟨unaryIn .., unaryIn .., binaryIn ..⟩
theorem line21_writes : Writes (F := F) line21 [main_v267, main_v268, main_v269] := rfl
/-- A stretch of one trip of the forward scan. -/
abbrev body0_0 : Ops F :=
  [ nullary main_while0b_call3_c ((constantI S_ 32 0#32) : Arr F S_ .i32),
    nullary main_while0b_call3_c_0 ((constantI S_ 32 0#32) : Arr F S_ .i32),
    nullary main_while0b_call3_c_1 ((constantI S_ 32 0#32) : Arr F S_ .i32),
    nullary main_while0b_call3_c_2 ((constantI S_ 32 0#32) : Arr F S_ .i32),
    StableHlo.TRef.unaryIndexed (.of main_v121_0 : StableHlo.TRef sig ⟨S65x1x4x256x512, .f32⟩) ![(.of main_v121_2 : StableHlo.TRef sig ⟨S_, .i32⟩), (.of main_while0b_call3_c : StableHlo.TRef sig ⟨S_, .i32⟩), (.of main_while0b_call3_c_0 : StableHlo.TRef sig ⟨S_, .i32⟩), (.of main_while0b_call3_c_1 : StableHlo.TRef sig ⟨S_, .i32⟩), (.of main_while0b_call3_c_2 : StableHlo.TRef sig ⟨S_, .i32⟩)] (.of main_while0b_call3_v0 : StableHlo.TRef sig ⟨S1x1x4x256x512, .f32⟩) (fun x i => Host.dynamicSlice S1x1x4x256x512 x (fun k => (i k (Shape.Idx.first h_S_)).toInt) sliceFits_S65x1x4x256x512_S1x1x4x256x512),
    reshape main_while0b_call3_v0 main_while0b_v270 rfl shapeCasts_S1x1x4x256x512_S1x4x256x512 ]
theorem body0_0_sub : Inside (F := F) body0_0 :=
  ⟨nullaryIn .., nullaryIn .., nullaryIn .., nullaryIn .., unaryIndexedIn .., reshapeIn ..⟩
theorem body0_0_writes : Writes (F := F) body0_0 [main_while0b_call3_c, main_while0b_call3_c_0, main_while0b_call3_c_1, main_while0b_call3_c_2, main_while0b_call3_v0, main_while0b_v270] := rfl
/-- A stretch of one trip of the forward scan. -/
abbrev body0_1 : Ops F :=
  [ unary main_v121_1 main_while0b_v271 (broadcastInDim S1x4x256x512 ![0, 1, 2, 3] bcast_S1x4x1x1_S1x4x256x512_0_1_2_3 : One F S1x4x1x1 S1x4x256x512),
    binary main_v121_3 main_while0b_v271 main_while0b_v272 (mulf : Pair F S1x4x256x512),
    binary main_while0b_v272 main_while0b_v270 main_while0b_v273 (addf : Pair F S1x4x256x512) ]
theorem body0_1_sub : Inside (F := F) body0_1 :=
  ⟨unaryIn .., binaryIn .., binaryIn ..⟩
theorem body0_1_writes : Writes (F := F) body0_1 [main_while0b_v271, main_while0b_v272, main_while0b_v273] := rfl
/-- A stretch of one trip of the forward scan. -/
abbrev body0_2 : Ops F :=
  [ unary main_v121_3 main_while0b_call4_v0 ((broadcastInDim S1x1x4x256x512 ![1, 2, 3, 4] bcast_S1x4x256x512_S1x1x4x256x512_1_2_3_4) : One F S1x4x256x512 S1x1x4x256x512),
    nullary main_while0b_call4_c ((constantI S_ 32 0#32) : Arr F S_ .i32),
    nullary main_while0b_call4_c_0 ((constantI S_ 32 0#32) : Arr F S_ .i32),
    nullary main_while0b_call4_c_1 ((constantI S_ 32 0#32) : Arr F S_ .i32),
    nullary main_while0b_call4_c_2 ((constantI S_ 32 0#32) : Arr F S_ .i32),
    StableHlo.TRef.binaryIndexed (.of main_v121_4 : StableHlo.TRef sig ⟨S65x1x4x256x512, .f32⟩) (.of main_while0b_call4_v0 : StableHlo.TRef sig ⟨S1x1x4x256x512, .f32⟩) ![(.of main_v121_2 : StableHlo.TRef sig ⟨S_, .i32⟩), (.of main_while0b_call4_c : StableHlo.TRef sig ⟨S_, .i32⟩), (.of main_while0b_call4_c_0 : StableHlo.TRef sig ⟨S_, .i32⟩), (.of main_while0b_call4_c_1 : StableHlo.TRef sig ⟨S_, .i32⟩), (.of main_while0b_call4_c_2 : StableHlo.TRef sig ⟨S_, .i32⟩)] (.of main_while0b_v274 : StableHlo.TRef sig ⟨S65x1x4x256x512, .f32⟩) (fun x u i => Host.dynamicUpdateSlice x u (fun k => (i k (Shape.Idx.first h_S_)).toInt) updateFits_S65x1x4x256x512_S1x1x4x256x512) ]
theorem body0_2_sub : Inside (F := F) body0_2 :=
  ⟨unaryIn .., nullaryIn .., nullaryIn .., nullaryIn .., nullaryIn .., binaryIndexedIn ..⟩
theorem body0_2_writes : Writes (F := F) body0_2 [main_while0b_call4_v0, main_while0b_call4_c, main_while0b_call4_c_0, main_while0b_call4_c_1, main_while0b_call4_c_2, main_while0b_v274] := rfl
/-- A stretch of one trip of the forward scan. -/
abbrev body0_3 : Ops F :=
  [ nullary main_while0b_c_42 (constantI S_ 32 1#32),
    binary main_v121_2 main_while0b_c_42 main_while0b_v275 (addi : Arr F S_ .i32 → Arr F S_ .i32 → Arr F S_ .i32),
    unary main_while0b_v275 main_v121_2 id,
    unary main_while0b_v273 main_v121_3 id,
    unary main_while0b_v274 main_v121_4 id ]
theorem body0_3_sub : Inside (F := F) body0_3 :=
  ⟨nullaryIn .., binaryIn .., unaryIn .., unaryIn .., unaryIn ..⟩
theorem body0_3_writes : Writes (F := F) body0_3 [main_while0b_c_42, main_while0b_v275, main_v121_2, main_v121_3, main_v121_4] := rfl
/-- The test of the forward scan: its bound and the comparison. -/
abbrev cond0 : Ops F :=
  [ nullary main_while0c_c_42 (constantI S_ 32 65#32),
    binary main_v121_2 main_while0c_c_42 main_while0c_v270 (cmpi .slt : Arr F S_ .i32 → Arr F S_ .i32 → Arr F S_ .i1) ]
theorem cond0_sub : Inside (F := F) cond0 :=
  ⟨nullaryIn .., binaryIn ..⟩
theorem cond0_writes : Writes (F := F) cond0 [main_while0c_c_42, main_while0c_v270] := rfl
/-- A stretch of one trip of the reverse scan. -/
abbrev body1_0 : Ops F :=
  [ nullary main_while1b_c_42 (constantI S_ 32 65#32),
    binary main_while1b_c_42 main_v190_2 main_while1b_v270 (subi : Arr F S_ .i32 → Arr F S_ .i32 → Arr F S_ .i32),
    nullary main_while1b_c_43 (constantI S_ 32 1#32),
    binary main_while1b_v270 main_while1b_c_43 main_while1b_v271 (subi : Arr F S_ .i32 → Arr F S_ .i32 → Arr F S_ .i32) ]
theorem body1_0_sub : Inside (F := F) body1_0 :=
  ⟨nullaryIn .., binaryIn .., nullaryIn .., binaryIn ..⟩
theorem body1_0_writes : Writes (F := F) body1_0 [main_while1b_c_42, main_while1b_v270, main_while1b_c_43, main_while1b_v271] := rfl
/-- A stretch of one trip of the reverse scan. -/
abbrev body1_1 : Ops F :=
  [ nullary main_while1b_call7_c ((constantI S_ 32 0#32) : Arr F S_ .i32),
    nullary main_while1b_call7_c_0 ((constantI S_ 32 0#32) : Arr F S_ .i32),
    nullary main_while1b_call7_c_1 ((constantI S_ 32 0#32) : Arr F S_ .i32),
    nullary main_while1b_call7_c_2 ((constantI S_ 32 0#32) : Arr F S_ .i32),
    StableHlo.TRef.unaryIndexed (.of main_v190_0 : StableHlo.TRef sig ⟨S65x1x4x256x512, .f32⟩) ![(.of main_while1b_v271 : StableHlo.TRef sig ⟨S_, .i32⟩), (.of main_while1b_call7_c : StableHlo.TRef sig ⟨S_, .i32⟩), (.of main_while1b_call7_c_0 : StableHlo.TRef sig ⟨S_, .i32⟩), (.of main_while1b_call7_c_1 : StableHlo.TRef sig ⟨S_, .i32⟩), (.of main_while1b_call7_c_2 : StableHlo.TRef sig ⟨S_, .i32⟩)] (.of main_while1b_call7_v0 : StableHlo.TRef sig ⟨S1x1x4x256x512, .f32⟩) (fun x i => Host.dynamicSlice S1x1x4x256x512 x (fun k => (i k (Shape.Idx.first h_S_)).toInt) sliceFits_S65x1x4x256x512_S1x1x4x256x512),
    reshape main_while1b_call7_v0 main_while1b_v272 rfl shapeCasts_S1x1x4x256x512_S1x4x256x512 ]
theorem body1_1_sub : Inside (F := F) body1_1 :=
  ⟨nullaryIn .., nullaryIn .., nullaryIn .., nullaryIn .., unaryIndexedIn .., reshapeIn ..⟩
theorem body1_1_writes : Writes (F := F) body1_1 [main_while1b_call7_c, main_while1b_call7_c_0, main_while1b_call7_c_1, main_while1b_call7_c_2, main_while1b_call7_v0, main_while1b_v272] := rfl
/-- A stretch of one trip of the reverse scan. -/
abbrev body1_2 : Ops F :=
  [ unary main_v190_1 main_while1b_v273 (broadcastInDim S1x4x256x512 ![0, 1, 2, 3] bcast_S1x4x1x1_S1x4x256x512_0_1_2_3 : One F S1x4x1x1 S1x4x256x512),
    binary main_v190_3 main_while1b_v273 main_while1b_v274 (mulf : Pair F S1x4x256x512),
    binary main_while1b_v272 main_while1b_v274 main_while1b_v275 (addf : Pair F S1x4x256x512) ]
theorem body1_2_sub : Inside (F := F) body1_2 :=
  ⟨unaryIn .., binaryIn .., binaryIn ..⟩
theorem body1_2_writes : Writes (F := F) body1_2 [main_while1b_v273, main_while1b_v274, main_while1b_v275] := rfl
/-- A stretch of one trip of the reverse scan. -/
abbrev body1_3 : Ops F :=
  [ unary main_v190_3 main_while1b_call8_v0 ((broadcastInDim S1x1x4x256x512 ![1, 2, 3, 4] bcast_S1x4x256x512_S1x1x4x256x512_1_2_3_4) : One F S1x4x256x512 S1x1x4x256x512),
    nullary main_while1b_call8_c ((constantI S_ 32 0#32) : Arr F S_ .i32),
    nullary main_while1b_call8_c_0 ((constantI S_ 32 0#32) : Arr F S_ .i32),
    nullary main_while1b_call8_c_1 ((constantI S_ 32 0#32) : Arr F S_ .i32),
    nullary main_while1b_call8_c_2 ((constantI S_ 32 0#32) : Arr F S_ .i32),
    StableHlo.TRef.binaryIndexed (.of main_v190_4 : StableHlo.TRef sig ⟨S65x1x4x256x512, .f32⟩) (.of main_while1b_call8_v0 : StableHlo.TRef sig ⟨S1x1x4x256x512, .f32⟩) ![(.of main_while1b_v271 : StableHlo.TRef sig ⟨S_, .i32⟩), (.of main_while1b_call8_c : StableHlo.TRef sig ⟨S_, .i32⟩), (.of main_while1b_call8_c_0 : StableHlo.TRef sig ⟨S_, .i32⟩), (.of main_while1b_call8_c_1 : StableHlo.TRef sig ⟨S_, .i32⟩), (.of main_while1b_call8_c_2 : StableHlo.TRef sig ⟨S_, .i32⟩)] (.of main_while1b_v276 : StableHlo.TRef sig ⟨S65x1x4x256x512, .f32⟩) (fun x u i => Host.dynamicUpdateSlice x u (fun k => (i k (Shape.Idx.first h_S_)).toInt) updateFits_S65x1x4x256x512_S1x1x4x256x512) ]
theorem body1_3_sub : Inside (F := F) body1_3 :=
  ⟨unaryIn .., nullaryIn .., nullaryIn .., nullaryIn .., nullaryIn .., binaryIndexedIn ..⟩
theorem body1_3_writes : Writes (F := F) body1_3 [main_while1b_call8_v0, main_while1b_call8_c, main_while1b_call8_c_0, main_while1b_call8_c_1, main_while1b_call8_c_2, main_while1b_v276] := rfl
/-- A stretch of one trip of the reverse scan. -/
abbrev body1_4 : Ops F :=
  [ nullary main_while1b_c_44 (constantI S_ 32 1#32),
    binary main_v190_2 main_while1b_c_44 main_while1b_v277 (addi : Arr F S_ .i32 → Arr F S_ .i32 → Arr F S_ .i32),
    unary main_while1b_v277 main_v190_2 id,
    unary main_while1b_v275 main_v190_3 id,
    unary main_while1b_v276 main_v190_4 id ]
theorem body1_4_sub : Inside (F := F) body1_4 :=
  ⟨nullaryIn .., binaryIn .., unaryIn .., unaryIn .., unaryIn ..⟩
theorem body1_4_writes : Writes (F := F) body1_4 [main_while1b_c_44, main_while1b_v277, main_v190_2, main_v190_3, main_v190_4] := rfl
/-- The test of the reverse scan: its bound and the comparison. -/
abbrev cond1 : Ops F :=
  [ nullary main_while1c_c_42 (constantI S_ 32 65#32),
    binary main_v190_2 main_while1c_c_42 main_while1c_v270 (cmpi .slt : Arr F S_ .i32 → Arr F S_ .i32 → Arr F S_ .i1) ]
theorem cond1_sub : Inside (F := F) cond1 :=
  ⟨nullaryIn .., binaryIn ..⟩
theorem cond1_writes : Writes (F := F) cond1 [main_while1c_c_42, main_while1c_v270] := rfl

/-- The stretches before the forward scan. -/
abbrev preI : List (Ops F) := [line0, line1, line2, line3, line4, line5, line6, line7, line8]
theorem preI_plain : StableHlo.Plain (preI : List (Ops F)) :=
  .cons line0_sub (.cons line1_sub (.cons line2_sub (.cons line3_sub (.cons line4_sub (.cons line5_sub (.cons line6_sub (.cons line7_sub (.cons line8_sub .nil))))))))
/-- The stretches between the two scans. -/
abbrev midI : List (Ops F) := [line9, line10, line11, line12, line13, line14]
theorem midI_plain : StableHlo.Plain (midI : List (Ops F)) :=
  .cons line9_sub (.cons line10_sub (.cons line11_sub (.cons line12_sub (.cons line13_sub (.cons line14_sub .nil)))))
/-- The stretches after the reverse scan. -/
abbrev postI : List (Ops F) := [line15, line16, line17, line18, line19, line20, line21]
theorem postI_plain : StableHlo.Plain (postI : List (Ops F)) :=
  .cons line15_sub (.cons line16_sub (.cons line17_sub (.cons line18_sub (.cons line19_sub (.cons line20_sub (.cons line21_sub .nil))))))
/-- The stretches of one trip of the forward scan. -/
abbrev bodyI0 : List (Ops F) := [body0_0, body0_1, body0_2, body0_3]
theorem bodyI0_plain : StableHlo.Plain (bodyI0 : List (Ops F)) :=
  .cons body0_0_sub (.cons body0_1_sub (.cons body0_2_sub (.cons body0_3_sub .nil)))
/-- The stretches of one trip of the reverse scan. -/
abbrev bodyI1 : List (Ops F) := [body1_0, body1_1, body1_2, body1_3, body1_4]
theorem bodyI1_plain : StableHlo.Plain (bodyI1 : List (Ops F)) :=
  .cons body1_0_sub (.cons body1_1_sub (.cons body1_2_sub (.cons body1_3_sub (.cons body1_4_sub .nil))))

theorem window0 (c : Dev nD) : main_part0 (F := F) c = (Pipeline.chainK
  [ StableHlo.seq line0,
    StableHlo.seq line1 ] (StableHlo.seq line2) : Code F) := by
  chain_rfl

theorem window1 (c : Dev nD) : main_part1 (F := F) c = (Pipeline.chainK
  [ StableHlo.seq line3,
    StableHlo.seq line4,
    StableHlo.seq line5,
    StableHlo.seq line6 ] (StableHlo.seq line7) : Code F) := by
  chain_rfl

theorem window2 (c : Dev nD) : main_part2 (F := F) c = (Pipeline.chainK
  [ StableHlo.seq line8,
    HostLoop.enter 0 ] (StableHlo.seq line9) : Code F) := by
  chain_rfl

theorem window3 (c : Dev nD) : main_part3 (F := F) c = (Pipeline.chainK
  [ StableHlo.seq line10,
    StableHlo.seq line11,
    StableHlo.seq line12,
    StableHlo.seq line13,
    StableHlo.seq line14,
    HostLoop.enter 1 ] (StableHlo.seq line15) : Code F) := by
  chain_rfl

theorem window4 (c : Dev nD) : main_part4 (F := F) c = (Pipeline.chainK
  [  ] (StableHlo.seq line16) : Code F) := by
  chain_rfl

theorem window5 (c : Dev nD) : main_part5 (F := F) c = (Pipeline.chain
  [ StableHlo.seq line17,
    StableHlo.seq line18,
    StableHlo.seq line19,
    StableHlo.seq line20,
    StableHlo.seq line21 ] : Code F) := by
  chain_rfl
/-- The whole reference is its stretches and its two scans in order. -/
theorem main_items (c : Dev nD) : main (F := F) c = (Pipeline.chain
    ((preI.map fun ops => (StableHlo.seq ops : Code F)) ++ HostLoop.enter 0 :: ((midI.map fun ops => StableHlo.seq ops)
      ++ HostLoop.enter 1 :: postI.map fun ops => StableHlo.seq ops)) : Code F) := by
  have h := Pipeline.chain_of_window (window0 (F := F) c) (Pipeline.chain_of_window (window1 (F := F) c) (Pipeline.chain_of_window (window2 (F := F) c)
    (Pipeline.chain_of_window (window3 (F := F) c) (Pipeline.chain_of_window (window4 (F := F) c) (window5 (F := F) c)))))
  exact h

theorem body0_items : main_while0_body (F := F) = Pipeline.chain (bodyI0.map fun ops => (StableHlo.seq ops : Code F)) := by
  chain_rfl

theorem body1_items : main_while1_body (F := F) = Pipeline.chain (bodyI1.map fun ops => (StableHlo.seq ops : Code F)) := by
  chain_rfl

end Cert.Retention.Ref
-- ==== Proof.RefPre.lean ====
module

public import proofs.«01_k».proof.Proof.RefOps
public import proofs.«01_k».proof.Proof.Ins
public import proofs.«01_k».proof.Proof.ChunkFwd
public import Idealize.ShloMosaic.Lib.StableHlo.ReadAt
public import Idealize.ShloMosaic.Lib.KernelVsHost

@[expose] public section

set_option maxRecDepth 16384

noncomputable section

/-! The reference's lines before its forward scan, read at an index. -/

namespace Cert.Retention.Ref

open Cert.ReferenceIdeal
open Idealize.ShloMosaic Idealize.ShloMosaic.TcCoe
open Idealize.ShloMosaic.StableHlo

/-! ## The rows of zeros in front -/

section
variable {a0 : (⟨2, ![8208, 6144]⟩ : Shape).Idx → EReal} {a1 : (⟨2, ![8208, 2048]⟩ : Shape).Idx → EReal}

theorem x_front (r c : ℕ) (h : r < 112) : (Spec.ins a0 a1).x r c = 0 := by
  simp only [Spec.ins, Spec.nat2, Spec.front]
  split
  · rw [dif_neg]
    show ¬(112 ≤ r ∧ r - 112 < 8208)
    omega
  · rfl

theorem dy_front (r c : ℕ) (h : r < 112) : (Spec.ins a0 a1).dy r c = 0 := by
  simp only [Spec.ins, Spec.nat2, Spec.front]
  split
  · rw [dif_neg]
    show ¬(112 ≤ r ∧ r - 112 < 8208)
    omega
  · rfl

theorem x_row (r : Fin 8208) (c : Fin 6144) (i j : ℕ) (hi : i = r.val + 112) (hj : j = c.val) :
    (Spec.ins a0 a1).x i j = a0 (ix2 r c) := by
  subst hi hj
  simp only [Spec.ins, Spec.nat2, Spec.front]
  rw [dif_pos ⟨by omega, c.isLt⟩]
  show (if h : 112 ≤ r.val + 112 ∧ r.val + 112 - 112 < 8208 then a0 (ix2 ⟨r.val + 112 - 112, h.2⟩ c) else 0) = _
  rw [dif_pos ⟨by omega, by omega⟩]
  congr 2

theorem dy_row (r : Fin 8208) (c : Fin 2048) (i j : ℕ) (hi : i = r.val + 112) (hj : j = c.val) :
    (Spec.ins a0 a1).dy i j = a1 (ix2 r c) := by
  subst hi hj
  simp only [Spec.ins, Spec.nat2, Spec.front]
  rw [dif_pos ⟨by omega, c.isLt⟩]
  show (if h : 112 ≤ r.val + 112 ∧ r.val + 112 - 112 < 8208 then a1 (ix2 ⟨r.val + 112 - 112, h.2⟩ c) else 0) = _
  rw [dif_pos ⟨by omega, by omega⟩]
  congr 2

/-- The position of a row is its distance from the 112 rows in front. -/
theorem pos_row (r : ℕ) : (((r + 112 : ℕ) : ℝ) : EReal) - Ideal.ofBits FTy.f32 0x42E00000#32 = ((r : ℝ) : EReal) := by
  rw [show Ideal.ofBits FTy.f32 0x42E00000#32 = ((112 : ℝ) : EReal) from by
    simp [Ideal.ofBits, Ideal.ieee]; rw [← EReal.coe_mul]; norm_num, ← EReal.coe_sub]
  congr 1
  push_cast
  ring

theorem cos_row (r : Fin 8208) (j : Fin 128) : (Spec.ins a0 a1).c (r.val + 112) j.val
    = Ideal.cos (((r.val : ℝ) : EReal) * Ideal.pow (Ideal.ofBits FTy.f32 0x461C4000#32) (-Spec.lin j.val)) := by
  simp only [Spec.ins, Spec.nat2]
  rw [dif_pos ⟨by omega, j.isLt⟩, ← pos_row]
  rfl

theorem sin_row (r : Fin 8208) (j : Fin 128) : (Spec.ins a0 a1).s (r.val + 112) j.val
    = Ideal.sin (((r.val : ℝ) : EReal) * Ideal.pow (Ideal.ofBits FTy.f32 0x461C4000#32) (-Spec.lin j.val)) := by
  simp only [Spec.ins, Spec.nat2]
  rw [dif_pos ⟨by omega, j.isLt⟩, ← pos_row]
  rfl

/-- A row of zeros stays one under the rotary embedding. -/
theorem rot_zero (x : Fin 256 → EReal) (c s : Fin 128 → EReal) (d : Fin 256) (h : ∀ d, x d = 0) : Spec.rot x c s d = 0 := by
  unfold Spec.rot
  simp only [h, zero_mul, sub_zero, add_zero, dite_eq_ite, ite_self]
end

/-! ## Rows and tables -/

section
variable (U : Valuation τ sig (Elt Ideal)) (J : Spec.Inputs)

/-- The evenly spaced points, as the host's lines leave them. -/
theorem lin_eq (j : ℕ) :
    (if j < 127 then
      id (constant (F := Ideal) S_ FTy.f32 0#32) ix0 *
          (1 - Ideal.div (FloatOps.sitofp (F := Ideal) FTy.f32 (BitVec.ofNat 32 j)) (Ideal.ofBits FTy.f32 1123942400#32)) +
        id (constant (F := Ideal) S_ FTy.f32 1065353216#32) ix0 *
          Ideal.div (FloatOps.sitofp (F := Ideal) FTy.f32 (BitVec.ofNat 32 j)) (Ideal.ofBits FTy.f32 1123942400#32)
      else id (constant (F := Ideal) S_ FTy.f32 1065353216#32) ix0 : EReal) = Spec.lin j := by
  unfold Spec.lin
  simp only [id, constant_apply, Ideal.ofBits_def, Ideal.ofBits_zero_f32, Ideal.ofBits_one_f32]

/-- What the first lines leave: the rows of `q`, `k`, `v`, `g` and the two tables. -/
structure Rows (V : Valuation τ sig (Elt Ideal)) : Prop where
  q : ∀ (r : Fin 8208) (h : Fin 4) (d : Fin 256) (n : Fin 65) (l : Fin 128), 128 * n.val + l.val = r.val + 112 →
    (V (Proc.devRef .tc main_v10) : S1x8208x4x256.Idx → EReal) (ix4 0 r h d) = (J.q h.val n.val l d : EReal)
  k : ∀ (r : Fin 8208) (h : Fin 4) (d : Fin 256) (n : Fin 65) (l : Fin 128), 128 * n.val + l.val = r.val + 112 →
    (V (Proc.devRef .tc main_v11) : S1x8208x4x256.Idx → EReal) (ix4 0 r h d) = (J.k h.val n.val l d : EReal)
  v : ∀ (r : Fin 8208) (h : Fin 4) (d : Fin 512) (n : Fin 65) (l : Fin 128), 128 * n.val + l.val = r.val + 112 →
    (V (Proc.devRef .tc main_v12) : S1x8208x4x512.Idx → EReal) (ix4 0 r h d) = (J.v h.val n.val l d : EReal)
  g : ∀ (r : Fin 8208) (c : Fin 2048) (h : Fin 4) (d : Fin 512) (n : Fin 65) (l : Fin 128), 128 * n.val + l.val = r.val + 112 →
    512 * h.val + d.val = c.val →
    (V (Proc.devRef .tc main_v9) : S1x8208x2048.Idx → EReal) (ix3 0 r c) = (J.g h.val n.val l d : EReal)
  c : ∀ (r : Fin 8208) (j : Fin 128) (n : Fin 65) (l : Fin 128), 128 * n.val + l.val = r.val + 112 →
    (V (Proc.devRef .tc main_v24) : S1x8208x1x128.Idx → EReal) (ix4 0 r 0 j) = (J.cs n.val l j : EReal)
  s : ∀ (r : Fin 8208) (j : Fin 128) (n : Fin 65) (l : Fin 128), 128 * n.val + l.val = r.val + 112 →
    (V (Proc.devRef .tc main_v26) : S1x8208x1x128.Idx → EReal) (ix4 0 r 0 j) = (J.sn n.val l j : EReal)

/-- The buffers when the rows and the tables are ready. -/
abbrev at1 : Valuation τ sig (Elt Ideal) := after (line2.take 13) (after line1 (after line0 U))

theorem rows1 : Rows (Spec.ins (U (Proc.devRef .tc main_arg0) : S8208x6144.Idx → EReal) (U (Proc.devRef .tc main_arg1) : S8208x2048.Idx → EReal)) (at1 U) where
  q r h d n l e := by
    after_reads_at
    exact (x_row r _ _ _ e (by show _ = _; simp only []; omega)).symm
  k r h d n l e := by
    after_reads_at
    exact (x_row r _ _ _ e (by show _ = _; simp only []; omega)).symm
  v r h d n l e := by
    after_reads_at
    exact (x_row r _ _ _ e (by show _ = _; simp only []; omega)).symm
  g r c h d n l e e' := by
    after_reads_at
    exact (x_row r _ _ _ e (by show _ = _; simp only []; omega)).symm
  c r j n l e := by
    after_reads_at
    after_reads_at
    unfold Spec.Inputs.cs Spec.part
    rw [e, Nat.zero_add, cos_row, ← lin_eq, sitofp_nat r.val (by omega)]
    simp only [dite_eq_ite]
  s r j n l e := by
    after_reads_at
    after_reads_at
    unfold Spec.Inputs.sn Spec.part
    rw [e, Nat.zero_add, sin_row, ← lin_eq, sitofp_nat r.val (by omega)]
    simp only [dite_eq_ite]

/-- The operations that rotate. -/
abbrev line2b := (line2.drop 13 : List (HloOp τ sig (Elt Ideal)))

/-- What the reference's later lines read: the rotated rows by chunk, the log decays and the row numbers. -/
structure Chunks (V : Valuation τ sig (Elt Ideal)) : Prop where
  q : ∀ (n : Fin 65) (l : Fin 128) (h : Fin 4) (d : Fin 256),
    (V (Proc.devRef .tc main_v64) : S1x65x128x4x256.Idx → EReal) (ix5 0 n l h d) = (Spec.qr (J.q h.val n.val) (J.cs n.val) (J.sn n.val) l d : EReal)
  k : ∀ (n : Fin 65) (l : Fin 128) (h : Fin 4) (d : Fin 256),
    (V (Proc.devRef .tc main_v65) : S1x65x128x4x256.Idx → EReal) (ix5 0 n l h d) = (Spec.kr (J.k h.val n.val) (J.cs n.val) (J.sn n.val) l d : EReal)
  v : ∀ (n : Fin 65) (l : Fin 128) (h : Fin 4) (d : Fin 512),
    (V (Proc.devRef .tc main_v66) : S1x65x128x4x512.Idx → EReal) (ix5 0 n l h d) = (J.v h.val n.val l d : EReal)
  lg : ∀ h : Fin 4, (V (Proc.devRef .tc main_v74) : S4.Idx → EReal) (ix1 h) = (J.l h.val : EReal)
  pos : ∀ l : Fin 128, (V (Proc.devRef .tc main_v75) : S128.Idx → EReal) (ix1 l) = (((l.val : ℝ) : EReal) : EReal)
  mask : ∀ l s : Fin 128, (V (Proc.devRef .tc main_v76) : S128x128.Idx → BitVec 1) (ix2 l s) = 1#1

theorem chunks1 (a0 : S8208x6144.Idx → EReal) (a1 : S8208x2048.Idx → EReal) (R : Rows (Spec.ins a0 a1) U) :
    Chunks (Spec.ins a0 a1) (after line3 (after line2b U)) where
  q n l h d := by
    after_reads_at
    after_reads_at
    split
    · refine (rot_zero _ _ _ _ fun d => x_front (128 * n.val + l.val) _ (by omega)).symm
    · have hq := fun d => R.q ⟨n.val * 128 + l.val - 112, by omega⟩ h d n l (by simp only []; omega)
      have hc := fun j => R.c ⟨n.val * 128 + l.val - 112, by omega⟩ j n l (by simp only []; omega)
      have hs := fun j => R.s ⟨n.val * 128 + l.val - 112, by omega⟩ j n l (by simp only []; omega)
      simp only [hq, hc, hs]
      rfl
  k n l h d := by
    after_reads_at
    after_reads_at
    split
    · have hz := rot_zero ((Spec.ins a0 a1).k h.val n.val l) ((Spec.ins a0 a1).cs n.val l) ((Spec.ins a0 a1).sn n.val l) d
        fun d => x_front (128 * n.val + l.val) _ (by omega)
      unfold Spec.kr
      rw [hz, zero_mul]
    · after_reads_at
      have hq := fun d => R.k ⟨n.val * 128 + l.val - 112, by omega⟩ h d n l (by simp only []; omega)
      have hc := fun j => R.c ⟨n.val * 128 + l.val - 112, by omega⟩ j n l (by simp only []; omega)
      have hs := fun j => R.s ⟨n.val * 128 + l.val - 112, by omega⟩ j n l (by simp only []; omega)
      simp only [hq, hc, hs]
      rfl
  v n l h d := by
    after_reads_at
    after_reads_at
    split
    · exact (x_front (128 * n.val + l.val) _ (by omega)).symm
    · exact R.v ⟨n.val * 128 + l.val - 112, by omega⟩ h d n l (by simp only []; omega)
  lg h := by
    after_reads_at
    simp only [Spec.ins]
    rw [if_pos h.isLt]
    rfl
  pos l := by
    after_reads_at
    exact sitofp_nat _ (by omega)
  mask l s := by
    after_reads_at

end

end Cert.Retention.Ref

end
-- ==== Proof.RefMid.lean ====
module

public import proofs.«01_k».proof.Proof.RefPre

@[expose] public section

set_option maxRecDepth 16384

noncomputable section

/-! The reference's decays, scores and chunk sums, read at an index. -/

namespace Cert.Retention.Ref

open Cert.ReferenceIdeal
open Idealize.ShloMosaic Idealize.ShloMosaic.TcCoe
open Idealize.ShloMosaic.StableHlo

section
variable (U : Valuation τ sig (Elt Ideal)) (J : Spec.Inputs)

/-- The buffers when the forward scan is entered, from those when the rows are cut into chunks. -/
abbrev at4 : Valuation τ sig (Elt Ideal) := after line8 (after line7 (after line6 (after line5 (after line4 U))))

variable {J U}

/-- The reference's masked distance, and the decay it gives. -/
theorem dec_at (l s : Fin 128) (x : EReal) :
    Ideal.exp
      (Scalar.select
        (Scalar.select (IntOp.cmpi CmpIPredicate.sge (IntOp.addi (BitVec.ofNat 32 l.val) 0#32) (BitVec.ofNat 32 s.val)) (1#1) (0#1))
        ((((l.val : ℝ) : EReal) - ((s.val : ℝ) : EReal)) * x : EReal)
        (id (constant (F := Ideal) S_ FTy.f32 4286578688#32) ix0 : EReal)) = Spec.dec x l s := by
  rw [show IntOp.addi (BitVec.ofNat 32 l.val) 0#32 = BitVec.ofNat 32 l.val from BitVec.add_zero _,
    sge_nat _ _ (by omega) (by omega)]
  unfold Spec.dec
  by_cases hle : s.val ≤ l.val
  · simp [hle, Scalar.select]
  · simp [hle, Scalar.select, constant_apply]

/-- What the later lines read of the lines before the forward scan. -/
structure Saved (J : Spec.Inputs) (V : Valuation τ sig (Elt Ideal)) : Prop where
  rows : Rows J V
  chunks : Chunks J V
  dec : ∀ (h : Fin 4) (l s : Fin 128),
    (V (Proc.devRef .tc main_v93) : S1x1x4x128x128.Idx → EReal) (ix5 0 0 h l s) = (Spec.dec (J.l h.val) l s : EReal)
  sc : ∀ (n : Fin 65) (h : Fin 4) (l s : Fin 128),
    (V (Proc.devRef .tc main_v95) : S1x65x4x128x128.Idx → EReal) (ix5 0 n h l s)
      = (Spec.sc (J.q h.val n.val) (J.k h.val n.val) (J.cs n.val) (J.sn n.val) (J.l h.val) l s : EReal)
  o : ∀ (n : Fin 65) (h : Fin 4) (l : Fin 128) (e : Fin 512),
    (V (Proc.devRef .tc main_v97) : S1x65x128x4x512.Idx → EReal) (ix5 0 n l h e)
      = (∑ s : Fin 128, Spec.sc (J.q h.val n.val) (J.k h.val n.val) (J.cs n.val) (J.sn n.val) (J.l h.val) l s * J.v h.val n.val s e : EReal)
  kd : ∀ (h : Fin 4) (l : Fin 128),
    (V (Proc.devRef .tc main_v107) : S1x1x128x4x1.Idx → EReal) (ix5 0 0 l h 0) = (Spec.kdec (J.l h.val) l : EReal)
  kk : ∀ (n : Fin 65) (h : Fin 4) (l : Fin 128) (d : Fin 256),
    (V (Proc.devRef .tc main_v109) : S1x65x128x4x256.Idx → EReal) (ix5 0 n l h d)
      = (Spec.kr (J.k h.val n.val) (J.cs n.val) (J.sn n.val) l d * Spec.kdec (J.l h.val) l : EReal)
  cd : ∀ h : Fin 4, (V (Proc.devRef .tc main_v119) : S1x4x1x1.Idx → EReal) (ix4 0 h 0 0) = (Spec.cdec (J.l h.val) : EReal)

/-- The buffers `Saved` speaks of. -/
def savedRefs : List (Ref sig .tc) :=
  [main_v9, main_v10, main_v11, main_v12, main_v24, main_v26, main_v64, main_v65, main_v66, main_v74, main_v75, main_v76, main_v93,
    main_v95, main_v97, main_v107, main_v109, main_v119]

/-- Lines that write none of these buffers keep all that is saved. -/
theorem Saved.keep {V V' : Valuation τ sig (Elt Ideal)} (S : Saved J V)
    (h : ∀ b ∈ savedRefs, V' (Proc.devRef .tc b) = V (Proc.devRef .tc b)) : Saved J V' where
  rows := {
    q := by rw [h main_v10 (by decide)]; exact S.rows.q
    k := by rw [h main_v11 (by decide)]; exact S.rows.k
    v := by rw [h main_v12 (by decide)]; exact S.rows.v
    g := by rw [h main_v9 (by decide)]; exact S.rows.g
    c := by rw [h main_v24 (by decide)]; exact S.rows.c
    s := by rw [h main_v26 (by decide)]; exact S.rows.s }
  chunks := {
    q := by rw [h main_v64 (by decide)]; exact S.chunks.q
    k := by rw [h main_v65 (by decide)]; exact S.chunks.k
    v := by rw [h main_v66 (by decide)]; exact S.chunks.v
    lg := by rw [h main_v74 (by decide)]; exact S.chunks.lg
    pos := by rw [h main_v75 (by decide)]; exact S.chunks.pos
    mask := by rw [h main_v76 (by decide)]; exact S.chunks.mask }
  dec := by rw [h main_v93 (by decide)]; exact S.dec
  sc := by rw [h main_v95 (by decide)]; exact S.sc
  o := by rw [h main_v97 (by decide)]; exact S.o
  kd := by rw [h main_v107 (by decide)]; exact S.kd
  kk := by rw [h main_v109 (by decide)]; exact S.kk
  cd := by rw [h main_v119 (by decide)]; exact S.cd

/-- The buffers read from the lines before. -/
def earlyRefs : List (Ref sig .tc) :=
  [main_v9, main_v10, main_v11, main_v12, main_v24, main_v26, main_v64, main_v65, main_v66, main_v74, main_v75, main_v76]

theorem early4 (b : Ref sig .tc) (hb : b ∈ earlyRefs) : at4 U (Proc.devRef .tc b) = U (Proc.devRef .tc b) := by
  rw [at4, after_unwritten _ line8_writes (by revert b; decide), after_unwritten _ line7_writes (by revert b; decide),
    after_unwritten _ line6_writes (by revert b; decide), after_unwritten _ line5_writes (by revert b; decide),
    after_unwritten _ line4_writes (by revert b; decide)]

theorem saved4 (R : Rows J U) (C : Chunks J U) : Saved J (at4 U) where
  rows := {
    q := by rw [early4 main_v10 (by decide)]; exact R.q
    k := by rw [early4 main_v11 (by decide)]; exact R.k
    v := by rw [early4 main_v12 (by decide)]; exact R.v
    g := by rw [early4 main_v9 (by decide)]; exact R.g
    c := by rw [early4 main_v24 (by decide)]; exact R.c
    s := by rw [early4 main_v26 (by decide)]; exact R.s }
  chunks := {
    q := by rw [early4 main_v64 (by decide)]; exact C.q
    k := by rw [early4 main_v65 (by decide)]; exact C.k
    v := by rw [early4 main_v66 (by decide)]; exact C.v
    lg := by rw [early4 main_v74 (by decide)]; exact C.lg
    pos := by rw [early4 main_v75 (by decide)]; exact C.pos
    mask := by rw [early4 main_v76 (by decide)]; exact C.mask }
  dec h l s := by
    after_reads_at
    simp only [C.mask, C.pos, C.lg]
    exact dec_at l s _
  sc n h l s := by
    after_reads_at
    simp only [C.mask, C.pos, C.lg, C.q, C.k]
    rw [dec_at l s]
    rfl
  o n h l e := by
    after_reads_at
    refine Finset.sum_congr rfl fun s _ => ?_
    simp only [C.mask, C.pos, C.lg, C.q, C.k, C.v]
    rw [dec_at l s]
    rw [mul_comm]
    rfl
  kd h l := by
    after_reads_at
    rw [C.pos, C.lg]
    rfl
  kk n h l d := by
    after_reads_at
    rw [C.pos, C.lg, C.k]
    rfl
  cd h := by
    after_reads_at
    rw [C.lg]
    rfl

theorem kv4 (C : Chunks J U) (n : Fin 65) (h : Fin 4) (d : Fin 256) (e : Fin 512) :
    (at4 U (Proc.devRef .tc main_v121_0) : S65x1x4x256x512.Idx → EReal) (ix5 n 0 h d e)
      = (∑ s : Fin 128, Spec.kr (J.k h.val n.val) (J.cs n.val) (J.sn n.val) s d * Spec.kdec (J.l h.val) s * J.v h.val n.val s e : EReal) := by
  after_reads_at
  simp only [id]
  pointwise
  simp only [C.pos, C.lg, C.k, C.v]
  rfl

theorem cd4 (C : Chunks J U) (h : Fin 4) :
    (at4 U (Proc.devRef .tc main_v121_1) : S1x4x1x1.Idx → EReal) (ix4 0 h 0 0) = (Spec.cdec (J.l h.val) : EReal) := by
  after_reads_at
  simp only [id]
  pointwise
  rw [C.lg]
  rfl

theorem st4 (h : Fin 4) (d : Fin 256) (e : Fin 512) :
    (at4 U (Proc.devRef .tc main_v121_3) : S1x4x256x512.Idx → EReal) (ix4 0 h d e) = (0 : EReal) := by
  after_reads_at
  simp only [id]
  pointwise

end

end Cert.Retention.Ref

end
-- ==== Proof.RefOut.lean ====
module

public import proofs.«01_k».proof.Proof.RefMid

@[expose] public section

set_option maxRecDepth 16384

noncomputable section

/-! The reference's lines between its two scans, read at an index: the outputs, their norm, the result rows and the
gradients that enter the reverse scan. -/

namespace Cert.Retention.Ref

open Cert.ReferenceIdeal
open Idealize.ShloMosaic Idealize.ShloMosaic.TcCoe
open Idealize.ShloMosaic.StableHlo

/-- A chunk's output rows before the norm. -/
def xo (J : Spec.Inputs) (h n : ℕ) : Spec.Mat 128 512 :=
  Spec.out (J.q h n) (J.k h n) (J.v h n) (J.cs n) (J.sn n) (J.l h) (J.st h n)

section
variable (U : Valuation τ sig (Elt Ideal)) (J : Spec.Inputs)

/-- The buffers after the outputs and their norm. -/
abbrev at10 : Valuation τ sig (Elt Ideal) := after line10 (after line9 U)

/-- The stacked states, the decays to the rows, and the output rows with their norm. -/
structure Outs (V : Valuation τ sig (Elt Ideal)) : Prop where
  st : ∀ (n : Fin 65) (h : Fin 4) (d : Fin 256) (e : Fin 512),
    (V (Proc.devRef .tc main_v122) : S1x65x4x256x512.Idx → EReal) (ix5 0 n h d e) = (J.st h.val n.val d e : EReal)
  qd : ∀ (h : Fin 4) (l : Fin 128),
    (V (Proc.devRef .tc main_v134) : S1x1x128x4x1.Idx → EReal) (ix5 0 0 l h 0) = (Spec.qdec (J.l h.val) l : EReal)
  x : ∀ (r : Fin 8208) (h : Fin 4) (e : Fin 512) (n : Fin 65) (l : Fin 128), 128 * n.val + l.val = r.val + 112 →
    (V (Proc.devRef .tc main_v139) : S1x8208x4x512.Idx → EReal) (ix4 0 r h e) = (xo J h.val n.val l e : EReal)
  rs : ∀ (r : Fin 8208) (h : Fin 4) (n : Fin 65) (l : Fin 128), 128 * n.val + l.val = r.val + 112 →
    (V (Proc.devRef .tc main_v147) : S1x8208x4x1.Idx → EReal) (ix4 0 r h 0) = (Ideal.rsqrt (Spec.ms (xo J h.val n.val l)) : EReal)
  hr : ∀ (r : Fin 8208) (h : Fin 4) (n : Fin 65) (l : Fin 128), 128 * n.val + l.val = r.val + 112 →
    (V (Proc.devRef .tc main_v150) : S1x8208x4x1.Idx → EReal) (ix4 0 r h 0)
      = (Ideal.ofBits .f32 0xBF000000#32 * Ideal.div (Ideal.rsqrt (Spec.ms (xo J h.val n.val l))) (Spec.ms (xo J h.val n.val l)) : EReal)
  nx : ∀ (r : Fin 8208) (h : Fin 4) (e : Fin 512) (n : Fin 65) (l : Fin 128), 128 * n.val + l.val = r.val + 112 →
    (V (Proc.devRef .tc main_v152) : S1x8208x4x512.Idx → EReal) (ix4 0 r h e)
      = (xo J h.val n.val l e * Ideal.rsqrt (Spec.ms (xo J h.val n.val l)) : EReal)

variable {U J}

theorem x9 (S : Saved J U)
    (hst : ∀ (n : Fin 65) (h : Fin 4) (d : Fin 256) (e : Fin 512),
      (U (Proc.devRef .tc main_v121_4) : S65x1x4x256x512.Idx → EReal) (ix5 n 0 h d e) = (J.st h.val n.val d e : EReal))
    (r : Fin 8208) (h : Fin 4) (e : Fin 512) (n : Fin 65) (l : Fin 128) (hr : 128 * n.val + l.val = r.val + 112) :
    (after line9 U (Proc.devRef .tc main_v139) : S1x8208x4x512.Idx → EReal) (ix4 0 r h e) = (xo J h.val n.val l e : EReal) := by
  after_reads_at
  have en : (⟨(112 + r.val) / 128, by omega⟩ : Fin 65) = n := Fin.ext (by simp only []; omega)
  have el : (⟨(112 + r.val) % 128, by omega⟩ : Fin 128) = l := Fin.ext (by simp only []; omega)
  simp only [en, el, S.o, S.chunks.pos, S.chunks.lg, hst, S.chunks.q]
  unfold xo Spec.out Spec.qdec
  simp only [mul_comm (J.st _ _ _ _)]

/-- The norm of the output rows, from the rows. -/
theorem rs9 (r : Fin 8208) (h : Fin 4) :
    (after line9 U (Proc.devRef .tc main_v147) : S1x8208x4x1.Idx → EReal) (ix4 0 r h 0)
     = (Ideal.rsqrt (Spec.ms fun e => (after line9 U (Proc.devRef .tc main_v139) : S1x8208x4x512.Idx → EReal) (ix4 0 r h e)) : EReal) := by
  after_reads_at
  rfl

theorem hr10 (r : Fin 8208) (h : Fin 4) :
    (at10 U (Proc.devRef .tc main_v150) : S1x8208x4x1.Idx → EReal) (ix4 0 r h 0)
     = (Ideal.ofBits .f32 0xBF000000#32 * Ideal.div
        (Ideal.rsqrt (Spec.ms fun e => (after line9 U (Proc.devRef .tc main_v139) : S1x8208x4x512.Idx → EReal) (ix4 0 r h e)))
        (Spec.ms fun e => (after line9 U (Proc.devRef .tc main_v139) : S1x8208x4x512.Idx → EReal) (ix4 0 r h e)) : EReal) := by
  after_reads_at
  rfl

theorem nx10 (r : Fin 8208) (h : Fin 4) (e : Fin 512) :
    (at10 U (Proc.devRef .tc main_v152) : S1x8208x4x512.Idx → EReal) (ix4 0 r h e)
     = (HMul.hMul (α := EReal) (β := EReal) (γ := EReal) ((after line9 U (Proc.devRef .tc main_v139) : S1x8208x4x512.Idx → EReal) (ix4 0 r h e))
        (Ideal.rsqrt (Spec.ms fun e => (after line9 U (Proc.devRef .tc main_v139) : S1x8208x4x512.Idx → EReal) (ix4 0 r h e))) : EReal) := by
  after_reads_at
  rfl

theorem outs10 (S : Saved J U)
    (hst : ∀ (n : Fin 65) (h : Fin 4) (d : Fin 256) (e : Fin 512),
      (U (Proc.devRef .tc main_v121_4) : S65x1x4x256x512.Idx → EReal) (ix5 n 0 h d e) = (J.st h.val n.val d e : EReal)) :
    Outs J (at10 U) where
  st n h d e := by
    after_reads_at
    exact hst n h d e
  qd h l := by
    after_reads_at
    rw [S.chunks.pos, S.chunks.lg]
    rfl
  x r h e n l hr := by
    rw [at10, after_unwritten _ line10_writes (by decide)]
    exact x9 S hst r h e n l hr
  rs r h n l hr := by
    rw [at10, after_unwritten _ line10_writes (by decide), rs9]
    simp only [x9 S hst r h _ n l hr]
  hr r h n l hr := by
    rw [hr10]
    simp only [x9 S hst r h _ n l hr]
  nx r h e n l hr := by
    rw [nx10]
    simp only [x9 S hst r h _ n l hr]

/-- The buffers after the gate's lines. -/
abbrev at13 (U : Valuation τ sig (Elt Ideal)) : Valuation τ sig (Elt Ideal) := after line13 (after line12 (after line11 U))

/-- The result rows. -/
theorem y13 (O : Outs J U) (R : Rows J U) (r : Fin 8208) (c : Fin 2048) (h : Fin 4) (e : Fin 512) (n : Fin 65) (l : Fin 128)
    (hr : 128 * n.val + l.val = r.val + 112) (hc : 512 * h.val + e.val = c.val) :
    (at13 U (Proc.devRef .tc main_v155) : S1x8208x2048.Idx → EReal) (ix3 0 r c) = (J.y' h.val n.val l e : EReal) := by
  after_reads_at
  have eh : (⟨c.val / 512, by omega⟩ : Fin 4) = h := Fin.ext (by simp only []; omega)
  have ee : (⟨c.val % 512, by omega⟩ : Fin 512) = e := Fin.ext (by simp only []; omega)
  simp only [eh, ee, R.g r c h e n l hr hc, O.nx r h e n l hr]
  rfl

theorem gate13 (O : Outs J U) (R : Rows J U) (r : Fin 8208) (c : Fin 2048) (h : Fin 4) (e : Fin 512) (n : Fin 65) (l : Fin 128)
    (hr : 128 * n.val + l.val = r.val + 112) (hc : 512 * h.val + e.val = c.val)
    (hd : (U (Proc.devRef .tc main_arg1) : S8208x2048.Idx → EReal) (ix2 r c) = (J.d h.val n.val l e : EReal)) :
    (at13 U (Proc.devRef .tc main_v162) : S1x8208x2048.Idx → EReal) (ix3 0 r c) = (J.dg' h.val n.val l e : EReal) := by
  after_reads_at
  have eh : (⟨c.val / 512, by omega⟩ : Fin 4) = h := Fin.ext (by simp only []; omega)
  have ee : (⟨c.val % 512, by omega⟩ : Fin 512) = e := Fin.ext (by simp only []; omega)
  simp only [eh, ee, hd, R.g r c h e n l hr hc, O.nx r h e n l hr]
  rfl

theorem dnorm13 (O : Outs J U) (R : Rows J U) (r : Fin 8208) (c : Fin 2048) (h : Fin 4) (e : Fin 512) (n : Fin 65) (l : Fin 128)
    (hr : 128 * n.val + l.val = r.val + 112) (hc : 512 * h.val + e.val = c.val)
    (hd : (U (Proc.devRef .tc main_arg1) : S8208x2048.Idx → EReal) (ix2 r c) = (J.d h.val n.val l e : EReal)) :
    (at13 U (Proc.devRef .tc main_v161) : S1x8208x4x512.Idx → EReal) (ix4 0 r h e)
      = (Spec.dnorm (J.g h.val n.val l) (J.d h.val n.val l) e : EReal) := by
  after_reads_at
  have ec : (⟨h.val * 512 + e.val, by omega⟩ : Fin 2048) = c := Fin.ext (by simp only []; omega)
  simp only [ec, hd, R.g r c h e n l hr hc]
  rfl

/-- The row of zeros in front have no gradient. -/
theorem dout_zero (x g dy : Fin 512 → EReal) (e : Fin 512) (hg : ∀ e, g e = 0) : Spec.dnormed x (Spec.dnorm g dy) e = 0 := by
  have h0 : ∀ e, Spec.dnorm g dy e = 0 := fun e => by rw [Spec.dnorm, hg, zero_mul, zero_mul]
  have h1 : Spec.dms x (Spec.dnorm g dy) = 0 := by
    simp only [Spec.dms, h0, mul_zero, Finset.sum_const_zero, zero_mul]
    rw [show Ideal.ofBits FTy.f32 0x44000000#32 = ((512 : ℝ) : EReal) from by
      simp [Ideal.ofBits, Ideal.ieee]; rw [← EReal.coe_mul]; norm_num, Ideal.div_coe (by norm_num), zero_mul]
  rw [Spec.dnormed, h0, h1, zero_mul, mul_zero, zero_mul, add_zero, add_zero]

/-- A sum over axes of one element. -/
theorem sum_unit (f : S1x8208x4x1.Idx → EReal) (hx : S1x8208x4x1.ReducesTo [0, 3] S8208x4) (r : Fin 8208) (h : Fin 4) :
    Ideal.hostReduceAdd hx f 0 (ix2 r h) = f (ix4 0 r h 0) := by
  unfold Ideal.hostReduceAdd
  rw [zero_add, Finset.sum_eq_single (ix4 0 r h 0)]
  · intro i hi hne
    refine absurd ?_ hne
    have e := (Finset.mem_filter.mp hi).2
    have e0 : i 1 = r := Fin.ext (congrArg Fin.val (congrFun e 0) :)
    have e1 : i 2 = h := Fin.ext (congrArg Fin.val (congrFun e 1) :)
    funext a
    match a with
    | 0 => exact Subsingleton.elim (α := Fin 1) _ _
    | 1 => exact e0
    | 2 => exact e1
    | 3 => exact Subsingleton.elim (α := Fin 1) _ _
  · intro hn
    refine absurd (Finset.mem_filter.mpr ⟨Finset.mem_univ _, ?_⟩) hn
    funext a
    match a with
    | 0 => rfl
    | 1 => rfl

/-- The padded gradients by row. -/
abbrev dpad (V : Valuation τ sig (Elt Ideal)) : S1x65x128x4x512.Idx → EReal := V (Proc.devRef .tc main_v179)
/-- The decays to the rows. -/
abbrev qds (V : Valuation τ sig (Elt Ideal)) : S1x1x128x4x1.Idx → EReal := V (Proc.devRef .tc main_v134)
/-- The states before the chunks. -/
abbrev sts (V : Valuation τ sig (Elt Ideal)) : S1x65x4x256x512.Idx → EReal := V (Proc.devRef .tc main_v122)
/-- The rotated query rows. -/
abbrev qrs (V : Valuation τ sig (Elt Ideal)) : S1x65x128x4x256.Idx → EReal := V (Proc.devRef .tc main_v64)

/-- The gradient of the output rows. -/
theorem dout14 (O : Outs J U)
    (hd : ∀ (r : Fin 8208) (h : Fin 4) (e : Fin 512) (n : Fin 65) (l : Fin 128), 128 * n.val + l.val = r.val + 112 →
      (U (Proc.devRef .tc main_v161) : S1x8208x4x512.Idx → EReal) (ix4 0 r h e)
        = (Spec.dnorm (J.g h.val n.val l) (J.d h.val n.val l) e : EReal))
    (hg : ∀ (h n : ℕ) (l : Fin 128) (e : Fin 512), 128 * n + l.val < 112 → J.g h n l e = 0)
    (n : Fin 65) (l : Fin 128) (h : Fin 4) (e : Fin 512) :
    dpad (after line14 U) (ix5 0 n l h e) = J.dout' h.val n.val l e := by
  after_reads_at
  split
  · rename_i hb
    have en : 128 * n.val + l.val = n.val * 128 + l.val - 112 + 112 := by omega
    simp only [sum_unit]
    pointwise
    simp only [hd ⟨n.val * 128 + l.val - 112, hb.2⟩ h _ n l en, O.x ⟨n.val * 128 + l.val - 112, hb.2⟩ h _ n l en,
      O.rs ⟨n.val * 128 + l.val - 112, hb.2⟩ h n l en, O.hr ⟨n.val * 128 + l.val - 112, hb.2⟩ h n l en]
    rfl
  · exact (dout_zero _ _ _ _ fun e => hg _ _ _ _ (by omega)).symm

theorem dq14
    (n : Fin 65) (l : Fin 128) (h : Fin 4) (d : Fin 256) :
    (after line14 U (Proc.devRef .tc main_v184) : S1x65x128x4x256.Idx → EReal) (ix5 0 n l h d) = (∑ e : Fin 512,
      dpad (after line14 U) (ix5 0 n l h e) * qds U (ix5 0 0 l h 0) * sts U (ix5 0 n h d e) : EReal) := by
  after_reads_at

theorem kv14
    (n : Fin 65) (h : Fin 4) (d : Fin 256) (e : Fin 512) :
    (after line14 U (Proc.devRef .tc main_v190_0) : S65x1x4x256x512.Idx → EReal) (ix5 n 0 h d e) = (∑ l : Fin 128,
       qrs U (ix5 0 n l h d) * (dpad (after line14 U) (ix5 0 n l h e) * qds U (ix5 0 0 l h 0)) : EReal) := by
  simp only [mul_comm (qrs U _)]
  after_reads_at
  simp only [id]
  pointwise

theorem cd14 (h : Fin 4) : (after line14 U (Proc.devRef .tc main_v190_1) : S1x4x1x1.Idx → EReal) (ix4 0 h 0 0)
    = (U (Proc.devRef .tc main_v119) : S1x4x1x1.Idx → EReal) (ix4 0 h 0 0) := by
  after_reads_at
  simp only [id]

theorem st14 (h : Fin 4) (d : Fin 256) (e : Fin 512) :
    (after line14 U (Proc.devRef .tc main_v190_3) : S1x4x256x512.Idx → EReal) (ix4 0 h d e) = (0 : EReal) := by
  after_reads_at
  simp only [id]
  pointwise

end

end Cert.Retention.Ref

end
-- ==== Proof.RefGrad.lean ====
module

public import proofs.«01_k».proof.Proof.RefOut

@[expose] public section

set_option maxRecDepth 16384

noncomputable section

/-! The reference's lines after its reverse scan, read at an index: the gradients of the queries, keys, values and gates, and
the two padded results. -/

namespace Cert.Retention.Ref

open Cert.ReferenceIdeal
open Idealize.ShloMosaic Idealize.ShloMosaic.TcCoe
open Idealize.ShloMosaic.StableHlo

section
variable {U : Valuation τ sig (Elt Ideal)} {J : Spec.Inputs}

/-- The buffers when the four gradients are ready. -/
abbrev at16 (U : Valuation τ sig (Elt Ideal)) : Valuation τ sig (Elt Ideal) := after (line16.take 14) (after line15 U)

/-- The operations after them on the same stretch. -/
abbrev line16b := (line16.drop 14 : List (HloOp τ sig (Elt Ideal)))

/-- What the last lines read. -/
structure Last (J : Spec.Inputs) (V : Valuation τ sig (Elt Ideal)) : Prop where
  saved : Saved J V
  d : ∀ (n : Fin 65) (l : Fin 128) (h : Fin 4) (e : Fin 512), dpad V (ix5 0 n l h e) = J.dout' h.val n.val l e
  dq : ∀ (n : Fin 65) (l : Fin 128) (h : Fin 4) (d : Fin 256),
    (V (Proc.devRef .tc main_v184) : S1x65x128x4x256.Idx → EReal) (ix5 0 n l h d)
      = (∑ e : Fin 512, J.dout' h.val n.val l e * Spec.qdec (J.l h.val) l * J.st h.val n.val d e : EReal)
  gr : ∀ (n : Fin 65) (h : Fin 4) (d : Fin 256) (e : Fin 512),
    (V (Proc.devRef .tc main_v190_4) : S65x1x4x256x512.Idx → EReal) (ix5 n 0 h d e) = (J.gr h.val (64 - n.val) d e : EReal)

/-- The gradient of the values. -/
theorem dv16 (L : Last J U) (n : Fin 65) (l : Fin 128) (h : Fin 4) (e : Fin 512) :
    (at16 U (Proc.devRef .tc main_v202) : S1x65x128x4x512.Idx → EReal) (ix5 0 n l h e) = (J.dv' h.val n.val l e : EReal) := by
  after_reads_at
  simp only [L.gr, L.d, L.saved.kk, L.saved.sc, mul_comm (J.gr _ _ _ _), mul_comm (J.dout' _ _ _ _)]
  rfl

/-- The gradient of the keys before their scale. -/
theorem dk16 (L : Last J U) (n : Fin 65) (l : Fin 128) (h : Fin 4) (d : Fin 256) :
    (at16 U (Proc.devRef .tc main_v207) : S1x65x128x4x256.Idx → EReal) (ix5 0 n l h d)
      = ((∑ e : Fin 512, J.v h.val n.val l e * J.gr h.val (64 - n.val) d e) * Spec.kdec (J.l h.val) l
        + ∑ s : Fin 128, Spec.ds (J.v h.val n.val) (J.l h.val) (J.dout' h.val n.val) s l
          * Spec.qr (J.q h.val n.val) (J.cs n.val) (J.sn n.val) s d : EReal) := by
  after_reads_at
  simp only [L.gr, L.d, L.saved.chunks.v, L.saved.kd, L.saved.dec, L.saved.chunks.q, mul_comm (J.gr _ _ _ _)]
  rfl

/-- The gradient of the rotated queries. -/
theorem dq16 (L : Last J U) (n : Fin 65) (l : Fin 128) (h : Fin 4) (d : Fin 256) :
    (at16 U (Proc.devRef .tc main_v210) : S1x65x128x4x256.Idx → EReal) (ix5 0 n l h d)
      = (Spec.dqr (J.k h.val n.val) (J.v h.val n.val) (J.cs n.val) (J.sn n.val) (J.l h.val) (J.st h.val n.val) (J.dout' h.val n.val) l d : EReal) := by
  after_reads_at
  simp only [L.dq, L.d, L.saved.chunks.v, L.saved.dec, L.saved.chunks.k]
  rfl

/-- The rotated gradient by row, as its two halves are put together. -/
theorem rotT_halves {h : Fin 4} (x : Fin 256 → EReal) (c s : Fin 128 → EReal) (d : Fin 256) :
    ((if h : h.val < 4 ∧ 128 ≤ d.val ∧ d.val - 128 < 128 then
      x ⟨128 + (d.val - 128), by omega⟩ * c ⟨d.val - 128, by omega⟩ + -x ⟨d.val - 128, by omega⟩ * s ⟨d.val - 128, by omega⟩ else 0)
      + (if h : h.val < 4 ∧ d.val < 128 then x ⟨128 + d.val, by omega⟩ * s ⟨d.val, by omega⟩ + x d * c ⟨d.val, by omega⟩ else 0) : EReal)
    = Spec.rotT x c s d := by
  unfold Spec.rotT
  by_cases hd : d.val < 128
  · rw [dif_neg (by omega), dif_pos ⟨h.isLt, hd⟩, dif_pos hd, zero_add]
  · rw [dif_pos ⟨h.isLt, by omega, by omega⟩, dif_neg (by omega), dif_neg hd, add_zero]

/-- The gradient of the keys before their scale, by chunk. -/
abbrev dks (V : Valuation τ sig (Elt Ideal)) : S1x65x128x4x256.Idx → EReal := V (Proc.devRef .tc main_v207)
/-- The gradient of the rotated queries, by chunk. -/
abbrev dqs (V : Valuation τ sig (Elt Ideal)) : S1x65x128x4x256.Idx → EReal := V (Proc.devRef .tc main_v210)

/-- The rows of the gradient of the keys. -/
theorem dkrow (R : Rows J U) (r : Fin 8208) (h : Fin 4) (d : Fin 256) (n : Fin 65) (l : Fin 128) (hr : 128 * n.val + l.val = r.val + 112) :
    (upto line17 (after line16b U) 9 (Proc.devRef .tc main_v258) : S8208x4x256.Idx → EReal) (ix3 r h d)
      = (Spec.rotT (fun d => dks U (ix5 0 n l h d) * Spec.kscale) (J.cs n.val l) (J.sn n.val l) d : EReal) := by
  after_reads_at
  have eh : (h.val * 256 + d.val) / 256 = h.val := by omega
  have ed : (h.val * 256 + d.val) % 256 = d.val := by omega
  have en : (112 + r.val) / 128 = n.val := by omega
  have el : (112 + r.val) % 128 = l.val := by omega
  simp only [eh, ed, en, el, Fin.eta]
  simp only [R.c r _ n l hr, R.s r _ n l hr]
  exact rotT_halves (h := h) (fun d => dks U (ix5 0 n l h d) * Spec.kscale) _ _ d

theorem dqrow (R : Rows J U) (r : Fin 8208) (h : Fin 4) (d : Fin 256) (n : Fin 65) (l : Fin 128) (hr : 128 * n.val + l.val = r.val + 112) :
    (upto line17 (after line16b U) 9 (Proc.devRef .tc main_v257) : S8208x4x256.Idx → EReal) (ix3 r h d)
      = (Spec.rotT (fun d => dqs U (ix5 0 n l h d)) (J.cs n.val l) (J.sn n.val l) d : EReal) := by
  after_reads_at
  have eh : (h.val * 256 + d.val) / 256 = h.val := by omega
  have ed : (h.val * 256 + d.val) % 256 = d.val := by omega
  have en : (112 + r.val) / 128 = n.val := by omega
  have el : (112 + r.val) % 128 = l.val := by omega
  simp only [eh, ed, en, el, Fin.eta]
  simp only [R.c r _ n l hr, R.s r _ n l hr]
  exact rotT_halves (h := h) (fun d => dqs U (ix5 0 n l h d)) _ _ d

/-- The rows of the gradient of the values. -/
theorem dvrow (r : Fin 8208) (h : Fin 4) (e : Fin 512) (n : Fin 65) (l : Fin 128) (hr : 128 * n.val + l.val = r.val + 112) :
    (upto line17 (after line16b U) 9 (Proc.devRef .tc main_v259) : S8208x4x512.Idx → EReal) (ix3 r h e)
      = (U (Proc.devRef .tc main_v202) : S1x65x128x4x512.Idx → EReal) (ix5 0 n l h e) := by
  after_reads_at
  have eh : (h.val * 512 + e.val) / 512 = h.val := by omega
  have ed : (h.val * 512 + e.val) % 512 = e.val := by omega
  have en : (112 + r.val) / 128 = n.val := by omega
  have el : (112 + r.val) % 128 = l.val := by omega
  simp only [eh, ed, en, el, Fin.eta]

/-- The rows of the gradient of the gates. -/
theorem dgrow (r : Fin 8208) (h : Fin 4) (e : Fin 512) (c : Fin 2048) (hc : 512 * h.val + e.val = c.val) :
    (upto line17 (after line16b U) 9 (Proc.devRef .tc main_v260) : S8208x4x512.Idx → EReal) (ix3 r h e)
      = (U (Proc.devRef .tc main_v162) : S1x8208x2048.Idx → EReal) (ix3 0 r c) := by
  after_reads_at
  rw [show (⟨h.val * 512 + e.val, by omega⟩ : Fin 2048) = c from Fin.ext (by simp only []; omega)]

theorem line16a_writes : (line16.take 14 : List (HloOp τ sig (Elt Ideal))).map HloOp.writes
    = ([main_v197, main_v198, main_v199, main_v200, main_v201, main_v202, main_v203, main_v204, main_v205, main_v206, main_v207, main_v208,
      main_v209, main_v210] : List (Ref sig .tc)).map fun w => {Proc.devRef (τ := τ) .tc w} := rfl

/-- The buffers these two stretches leave as they are. -/
theorem kept16 (b : Ref sig .tc) (h5 : b ∉ [main_v191, main_v192, main_v193, main_v194, main_v195, main_v196])
    (h6 : b ∉ [main_v197, main_v198, main_v199, main_v200, main_v201, main_v202, main_v203, main_v204, main_v205, main_v206, main_v207,
      main_v208, main_v209, main_v210]) :
    at16 U (Proc.devRef .tc b) = U (Proc.devRef .tc b) := by
  rw [at16, after_unwritten _ line16a_writes h6, after_unwritten _ line15_writes h5]

/-- The last gradients side by side. -/
theorem side (L : Last J U) (hg : ∀ (r : Fin 8208) (c : Fin 2048) (h : Fin 4) (e : Fin 512) (n : Fin 65) (l : Fin 128),
      128 * n.val + l.val = r.val + 112 → 512 * h.val + e.val = c.val →
      (U (Proc.devRef .tc main_v162) : S1x8208x2048.Idx → EReal) (ix3 0 r c) = (J.dg' h.val n.val l e : EReal))
    (r : Fin 8208) (c : Fin 6144) :
    (after line17 (after line16b (at16 U)) (Proc.devRef .tc main_v262) : S8208x6144.Idx → EReal) (ix2 r c)
      = (J.dxAt (r.val + 112) (c.val / 1536) (c.val % 1536) : EReal) := by
  after_reads_at
  have R : Rows J (at16 U) := (L.saved.keep fun b hb => kept16 b (by revert b; decide) (by revert b; decide)).rows
  have hr : 128 * ((⟨(r.val + 112) / 128, by omega⟩ : Fin 65)).val + ((⟨(r.val + 112) % 128, by omega⟩ : Fin 128)).val = r.val + 112 := by
    simp only []; omega
  unfold Spec.Inputs.dxAt
  split
  · rename_i h1
    rw [dqrow R r _ _ _ _ hr]
    simp only [dqs, dq16 L]
    rw [show (⟨c.val % 1536 % 256, Nat.mod_lt _ (by decide)⟩ : Fin 256) = ⟨c.val % 1536, h1⟩ from Fin.ext (Nat.mod_eq_of_lt h1)]
    rfl
  · rename_i h1
    split
    · rename_i h2
      rw [dkrow R r _ _ _ _ hr]
      simp only [dks, dk16 L]
      rw [if_pos (show c.val % 1536 < 512 by omega), show (⟨(c.val % 1536 - 256) % 256, Nat.mod_lt _ (by decide)⟩ : Fin 256) = ⟨c.val % 1536 - 256, h2⟩ from
        Fin.ext (Nat.mod_eq_of_lt h2)]
      rfl
    · rename_i h2
      split
      · rename_i h3
        rw [dvrow r _ _ _ _ hr, dv16 L]
        rw [if_neg (show ¬c.val % 1536 < 512 by omega), if_pos (show c.val % 1536 < 1024 by omega), show (⟨(c.val % 1536 - 512) % 512, Nat.mod_lt _ (by decide)⟩ : Fin 512) = ⟨c.val % 1536 - 256 - 256, h3⟩ from
          Fin.ext (by simp only []; omega)]
      · rename_i h3
        rw [dgrow r _ _ ⟨512 * (c.val / 1536) + (c.val % 1536 - 256 - 256 - 512), by omega⟩ rfl,
          kept16 _ (by decide) (by decide), hg r _ ⟨c.val / 1536, by omega⟩ ⟨c.val % 1536 - 256 - 256 - 512, by omega⟩ _ _ hr rfl]
        rw [if_neg (show ¬c.val % 1536 < 512 by omega), if_neg (show ¬c.val % 1536 < 1024 by omega), show (⟨(c.val % 1536 - 1024) % 512, Nat.mod_lt _ (by decide)⟩ : Fin 512)
          = ⟨c.val % 1536 - 256 - 256 - 512, by omega⟩ from Fin.ext (by simp only []; omega)]

/-- The buffers at the end. -/
abbrev at21 (U : Valuation τ sig (Elt Ideal)) : Valuation τ sig (Elt Ideal) :=
  after line21 (after line20 (after line19 (after line18 U)))

theorem y21 (U : Valuation τ sig (Elt Ideal)) (r : Fin 8320) (c : Fin 2048) :
    (at21 U (Proc.devRef .tc main_v265) : S8320x2048.Idx → EReal) (ix2 r c)
      = (if h : 112 ≤ r.val ∧ r.val - 112 < 8208 then (U (Proc.devRef .tc main_v263) : S8208x2048.Idx → EReal) (ix2 ⟨r.val - 112, h.2⟩ c)
        else FloatOps.sitofp (F := Ideal) FTy.f32 ((U (Proc.devRef .tc main_c_36) : S_.Idx → BitVec 32) (Shape.Idx.first Facts₀.h_S_)) : EReal) := by
  after_reads_at

theorem y17 (U : Valuation τ sig (Elt Ideal)) (r : Fin 8208) (c : Fin 2048) :
    (after line17 U (Proc.devRef .tc main_v263) : S8208x2048.Idx → EReal) (ix2 r c)
      = (U (Proc.devRef .tc main_v155) : S1x8208x2048.Idx → EReal) (ix3 0 r c) := by
  after_reads_at

theorem zero17 (U : Valuation τ sig (Elt Ideal)) :
    (after line17 U (Proc.devRef .tc main_c_36) : S_.Idx → BitVec 32) = constantI S_ 32 0#32 := by
  after_reads_simp

theorem dx21 (U : Valuation τ sig (Elt Ideal)) (r : Fin 8320) (c : Fin 13824) :
    (at21 U (Proc.devRef .tc main_v269) : S8320x13824.Idx → EReal) (ix2 r c)
      = (if h : c.val < 6144 then
          if h' : 112 ≤ r.val ∧ r.val - 112 < 8208 then (U (Proc.devRef .tc main_v262) : S8208x6144.Idx → EReal) (ix2 ⟨r.val - 112, h'.2⟩ ⟨c.val, h⟩)
          else (0 : EReal)
        else (U (Proc.devRef .tc main_arg2) : S8320x13824.Idx → EReal) (ix2 r c) : EReal) := by
  after_reads_at
  split
  · rename_i h
    by_cases h' : 112 ≤ r.val ∧ r.val - 112 < 8208
    · rw [dif_pos ⟨h', h⟩, dif_pos h']
    · rw [dif_neg (fun z => h' z.1), dif_neg h']
      exact sitofp_zero (φ := .f32)
  · rw [show (⟨6144 + (c.val - 6144), by omega⟩ : Fin 13824) = c from Fin.ext (by simp only []; omega)]

end

end Cert.Retention.Ref

end
-- ==== Proof.TwoLoops.lean ====
module

public import Idealize.ShloMosaic.Lib.StableHlo.RunLoop
public import Idealize.ShloMosaic.Lib.Pipeline.Frame

@[expose] public section

/-! The run of a program of array operations with two counted loops, one after the other. Every buffer ends at what the
operations leave in order: the stretches before the first loop, its trips, the stretches between, the second loop's trips and
the stretches after. -/

noncomputable section

namespace Cert.Retention.TwoLoops

open Idealize Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (CSeg Ticket PCfg ucRefs sub_ucRefs)

variable {nD : Nat} {τ : Topo} {sig : RefSig} {F : FTy → Type} {Λ₀ : SL.Sem.Labels}

local notation "𝕄" => MT nD τ sig Unit (Elt F) ℕ (Option PUnit) ℕ

/-- The contents when the first loop is entered. -/
abbrev enter0 (preI : List (List (HloOp τ sig (Elt F)))) (m : (ℓ : Loc nD τ sig) → Buf (Elt F) ℓ) (c : Dev nD) : Valuation τ sig (Elt F) :=
  afterL preI (launchContents m c)

/-- The contents when the second loop is entered. -/
abbrev enter1 (preI : List (List (HloOp τ sig (Elt F)))) (cond0 : List (HloOp τ sig (Elt F))) (body0 : List (List (HloOp τ sig (Elt F)))) (n0 : ℕ)
    (midI : List (List (HloOp τ sig (Elt F)))) (m : (ℓ : Loc nD τ sig) → Buf (Elt F) ℓ) (c : Dev nD) : Valuation τ sig (Elt F) :=
  afterL midI (after cond0 (atTrip cond0 body0 (enter0 preI m) n0 c))

/-- The contents at the end. -/
abbrev ending (preI : List (List (HloOp τ sig (Elt F)))) (cond0 : List (HloOp τ sig (Elt F))) (body0 : List (List (HloOp τ sig (Elt F)))) (n0 : ℕ)
    (midI : List (List (HloOp τ sig (Elt F)))) (cond1 : List (HloOp τ sig (Elt F))) (body1 : List (List (HloOp τ sig (Elt F)))) (n1 : ℕ)
    (postI : List (List (HloOp τ sig (Elt F)))) (m : (ℓ : Loc nD τ sig) → Buf (Elt F) ℓ) (c : Dev nD) : Valuation τ sig (Elt F) :=
  afterL postI (after cond1 (atTrip cond1 body1 (enter1 preI cond0 body0 n0 midI m) n1 c))

variable (pcs : Fin 0 → PCfg sig Λ₀ (Elt F)) (defs₀ : Defs nD τ sig (Elt F) Λ₀) {nL : Nat}
  (loops : Fin nL → Prog (TpuEff nD τ sig (Elt F) (HostLoop.Sig (Pipeline.Sig Λ₀ (Fin 0) fun p => (pcs p).Adm) nL) .tc) PUnit)

/-- There is no pipeline to choose for. -/
abbrev noPipe : (p : Fin 0) → (pcs p).Adm := fun p => p.elim0
/-- There is no ticket. -/
abbrev noTicket : Fin 0 → Ticket (Ix := Unit) (Name := ℕ) (U := Option PUnit) (Lvl := ℕ) (nD := nD) (τ := τ) pcs (noPipe pcs) := fun j => j.elim0
/-- No semaphore is named. -/
abbrev noName : GSem nD τ sig → Finset Unit := fun _ => ∅
/-- Every level is zero. -/
abbrev noLevel : GSem nD τ sig → Unit → ℕ := fun _ _ => 0

/-- What travels beside the buffers: the core owes nothing. -/
abbrev Beside (c : Dev nD) : sProp 𝕄 := iprop(∃ W, owes (c : Thread nD τ) (0 : CellTallies nD τ sig Unit) W)

variable {pcs defs₀ loops}

/-- A loop test known on the buffers alone is known with anything beside them. -/
theorem loopCond {cond : Prog (TpuEff nD τ sig (Elt F) (HostLoop.Sig (Pipeline.Sig Λ₀ (Fin 0) fun p => (pcs p).Adm) nL) .tc) (Elt F .i1)}
    {condOps : List (HloOp τ sig (Elt F))} {bodyI : List (List (HloOp τ sig (Elt F)))} {W₀ : Dev nD → Valuation τ sig (Elt F)} {n : ℕ}
    (h : CondSpec pcs defs₀ loops cond condOps bodyI W₀ n) :
    LoopCond pcs defs₀ Variants.none loops Beside cond condOps bodyI W₀ n := by
  intro k hk c bd
  have hpost : ∀ v : Elt F .i1,
      iprop((⌜v = 1#1 ↔ k < n⌝ ∗ boundary (c : Thread nD τ) ∗ held (c : Thread nD τ) (ucRefs τ sig) (after condOps (atTrip condOps bodyI W₀ k c))) ∗ Beside c)
        ⊢ iprop(⌜v = 1#1 ↔ k < n⌝ ∗ boundary (c : Thread nD τ) ∗ held (c : Thread nD τ) (ucRefs τ sig) (after condOps (atTrip condOps bodyI W₀ k c)) ∗ Beside c) := by
    intro v
    iintro ⟨⟨%hv, Ha, Hb⟩, Hc⟩
    isplitr
    · ipureintro; exact hv
    isplitl [Ha]
    · iexact Ha
    isplitl [Hb] <;> iassumption
  have hpre : iprop(boundary (c : Thread nD τ) ∗ held (c : Thread nD τ) (ucRefs τ sig) (atTrip condOps bodyI W₀ k c) ∗ Beside c)
      ⊢ iprop((boundary (c : Thread nD τ) ∗ held (c : Thread nD τ) (ucRefs τ sig) (atTrip condOps bodyI W₀ k c)) ∗ Beside c) := by
    iintro ⟨Ha, Hb, Hc⟩
    isplitl [Ha Hb]
    · isplitl [Ha] <;> iassumption
    · iexact Hc
  exact hpre.trans ((sep_mono_left (h k hk c bd)).trans ((wp_frame_r _ _ _).trans (wp_mono _ _ _ hpost)))

/-- The whole run with two loops. -/
theorem run [∀ e, Nonempty (Elt F e)]
    (main : Dev nD → Prog (TpuEff nD τ sig (Elt F) (HostLoop.Sig (Pipeline.Sig Λ₀ (Fin 0) fun p => (pcs p).Adm) nL) .tc) PUnit)
    (hsems : ∀ s : SemLoc sig, s.isScoped .tc = true)
    (l0 l1 : Fin nL)
    (test0 test1 : Prog (TpuEff nD τ sig (Elt F) (HostLoop.Sig (Pipeline.Sig Λ₀ (Fin 0) fun p => (pcs p).Adm) nL) .tc) (Elt F .i1))
    (trip0 trip1 : Prog (TpuEff nD τ sig (Elt F) (HostLoop.Sig (Pipeline.Sig Λ₀ (Fin 0) fun p => (pcs p).Adm) nL) .tc) PUnit)
    (hl0 : loops l0 = HostLoop.step l0 test0 trip0) (hl1 : loops l1 = HostLoop.step l1 test1 trip1)
    (preI body0 midI body1 postI : List (List (HloOp τ sig (Elt F)))) (cond0 cond1 : List (HloOp τ sig (Elt F)))
    (hpre : Plain preI) (hb0 : Plain body0) (hmid : Plain midI) (hb1 : Plain body1) (hpost : Plain postI)
    (hmain : ∀ c, main c = Pipeline.chain ((preI.map fun ops => (seq ops : Prog _ PUnit)) ++ HostLoop.enter l0
      :: ((midI.map fun ops => (seq ops : Prog _ PUnit)) ++ HostLoop.enter l1 :: postI.map fun ops => (seq ops : Prog _ PUnit))))
    (ht0 : trip0 = Pipeline.chain (body0.map fun ops => (seq ops : Prog _ PUnit)))
    (ht1 : trip1 = Pipeline.chain (body1.map fun ops => (seq ops : Prog _ PUnit)))
    (n0 n1 : ℕ) (m : (ℓ : Loc nD τ sig) → Buf (Elt F) ℓ) (ρ : Dev nD → PrngReg)
    (hc0 : CondSpec pcs defs₀ loops test0 cond0 body0 (enter0 preI m) n0)
    (hc1 : CondSpec pcs defs₀ loops test1 cond1 body1 (enter1 preI cond0 body0 n0 midI m) n1) :
    θ_run (HostLoop.defs loops (Pipeline.defs pcs defs₀)) (onTc (τ := τ) main) ⟨m, fun _ => 0, ρ⟩
      (fun r => (∀ (c : Dev nD), ∀ b ∈ ucRefs τ sig, r.2.mem ((c : Dev nD), b) = ending preI cond0 body0 n0 midI cond1 body1 n1 postI m c b)
        ∧ r.2.sem = fun _ => 0) := by
  let W0 := enter0 preI m
  let W1 := enter1 preI cond0 body0 n0 midI m
  let E := ending preI cond0 body0 n0 midI cond1 body1 n1 postI m
  let sA := segsOf pcs (noPipe pcs) defs₀ Variants.none noName noLevel loops (noTicket (nD := nD) (τ := τ) pcs) Beside preI hpre (launchContents m)
  let sL0 := loopSeg pcs (noPipe pcs) defs₀ Variants.none noName noLevel loops (noTicket (nD := nD) (τ := τ) pcs) l0 test0 trip0 hl0 cond0 body0 hb0 ht0 n0 W0 Beside (loopCond hc0)
  let sB := segsOf pcs (noPipe pcs) defs₀ Variants.none noName noLevel loops (noTicket (nD := nD) (τ := τ) pcs) Beside midI hmid (fun c => after cond0 (atTrip cond0 body0 W0 n0 c))
  let sL1 := loopSeg pcs (noPipe pcs) defs₀ Variants.none noName noLevel loops (noTicket (nD := nD) (τ := τ) pcs) l1 test1 trip1 hl1 cond1 body1 hb1 ht1 n1 W1 Beside (loopCond hc1)
  let sC := segsOf pcs (noPipe pcs) defs₀ Variants.none noName noLevel loops (noTicket (nD := nD) (τ := τ) pcs) Beside postI hpost (fun c => after cond1 (atTrip cond1 body1 W1 n1 c))
  have hprog : (sA ++ sL0 :: (sB ++ sL1 :: sC)).map CSeg.prog
      = (preI.map fun ops => (seq ops : Prog _ PUnit)) ++ HostLoop.enter l0
        :: ((midI.map fun ops => (seq ops : Prog _ PUnit)) ++ HostLoop.enter l1 :: postI.map fun ops => (seq ops : Prog _ PUnit)) := by
    rw [List.map_append, List.map_cons, List.map_append, List.map_cons]
    rw [show sA.map CSeg.prog = _ from segsOf_prog _ _ _ _ _ _ _ _ _ _ _ _, show sB.map CSeg.prog = _ from segsOf_prog _ _ _ _ _ _ _ _ _ _ _ _,
      show sC.map CSeg.prog = _ from segsOf_prog _ _ _ _ _ _ _ _ _ _ _ _]
    rfl
  exact Pipeline.θ_run_regions_loop_kit_sems (Ix := Unit) (Name := ℕ) (U := Option PUnit) (Lvl := ℕ) (J := Fin 0) (P := Fin 0) (Val := Elt F)
    pcs (noPipe pcs) (fun k => k.1.elim0) defs₀ Variants.none noName noLevel loops (noTicket pcs) m ρ main
    (sA ++ sL0 :: (sB ++ sL1 :: sC))
    (fun c Q => by
      rw [hmain c]
      show wp _ _ _ (Pipeline.chain ((sA ++ sL0 :: (sB ++ sL1 :: sC)).map CSeg.prog)) Q ⊢ _
      rw [hprog])
    (CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ Beside c))
    (Tₙ := fun c => iprop(held (c : Thread nD τ) (ucRefs τ sig) (E c)))
    (hch := CSeg.Chains.append (segsOf_chains _ _ _ _ _ _ _ _ Beside preI hpre _) ⟨fun _ => .rfl,
      CSeg.Chains.append (segsOf_chains _ _ _ _ _ _ _ _ Beside midI hmid _) ⟨fun _ => .rfl, segsOf_chains _ _ _ _ _ _ _ _ Beside postI hpost _⟩⟩)
    (hinit := by
      refine Pipeline.initEach noName noLevel fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]
      · iexact Hh
      iexists ∅; iexact HO)
    (QY := fun c s => ∀ b ∈ ucRefs τ sig, s.mem ((c : Dev nD), b) = E c b)
    (hfin := fun c s' => by
      unfold held
      iintro ⟨Hh, HSI⟩
      ihave Hr := (pointsTo_read_all (ucRefs τ sig) (fun b => ((c : Dev nD), b)) (fun b => E c b) s') $$ [Hh HSI]
      · isplitl [Hh] <;> iassumption
      icases Hr with ⟨%h, HSI⟩
      imodintro
      isplitr
      · ipureintro; exact h
      iexact HSI)
    (hQ := fun s h hz => ⟨h, funext fun g => hz g (.inr (hsems g.2))⟩)

end Cert.Retention.TwoLoops
-- ==== Proof.RefRun.lean ====
module

public import proofs.«01_k».proof.Proof.RefOps
public import proofs.«01_k».proof.Proof.TwoLoops
public import Idealize.ShloMosaic.Lib.Scf.ExitTest

@[expose] public section

/-! The reference's run: both scans make 65 trips, and every buffer ends at what the operations leave. -/

set_option maxRecDepth 16384
set_option maxHeartbeats 4000000

noncomputable section

namespace Cert.Retention.Ref

open Idealize Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (sub_ucRefs ucRefs)
open Cert.ReferenceIdeal

variable {F : FTy → Type} [FloatOps F]

/-- The scan's test on its counter: true before each of the 65 trips, false after the last. -/
theorem slt_65 (k : ℕ) (hk : k ≤ 65) : Iff (IntOp.cmpi .slt (BitVec.ofNat 32 k) (65#32) = 1#1) (k < 65) := by
  exact (by decide : ∀ j : Fin 66, Iff (IntOp.cmpi .slt (BitVec.ofNat 32 j.val) (65#32) = 1#1) (j.val < 65)) ⟨k, by omega⟩

/-- One trip of the forward scan adds one to its counter. -/
theorem trip0_counter (V : Valuation τ sig (Elt F)) :
    afterL bodyI0 (after cond0 V) (Proc.devRef .tc main_v121_2)
      = addi (V (Proc.devRef .tc main_v121_2)) (constantI S_ 32 1#32) := by
  simp only [afterL_cons, afterL_nil]
  after_reads_simp
  rfl

/-- One trip of the reverse scan adds one to its counter. -/
theorem trip1_counter (V : Valuation τ sig (Elt F)) :
    afterL bodyI1 (after cond1 V) (Proc.devRef .tc main_v190_2)
      = addi (V (Proc.devRef .tc main_v190_2)) (constantI S_ 32 1#32) := by
  simp only [afterL_cons, afterL_nil]
  after_reads_simp
  rfl

/-- Before trip `k` of the forward scan its counter is `k`. -/
theorem counter0 (W : Dev nD → Valuation τ sig (Elt F)) (h : ∀ c, W c (Proc.devRef .tc main_v121_2) = constantI S_ 32 0#32)
    (c : Dev nD) : ∀ k : ℕ, atTrip cond0 bodyI0 W k c (Proc.devRef .tc main_v121_2) = constantI S_ 32 (BitVec.ofNat 32 k)
  | 0 => h c
  | k + 1 => by
    rw [atTrip_succ, trip0_counter, counter0 W h c k, BitVec.ofNat_add]
    rfl

/-- Before trip `k` of the reverse scan its counter is `k`. -/
theorem counter1 (W : Dev nD → Valuation τ sig (Elt F)) (h : ∀ c, W c (Proc.devRef .tc main_v190_2) = constantI S_ 32 0#32)
    (c : Dev nD) : ∀ k : ℕ, atTrip cond1 bodyI1 W k c (Proc.devRef .tc main_v190_2) = constantI S_ 32 (BitVec.ofNat 32 k)
  | 0 => h c
  | k + 1 => by
    rw [atTrip_succ, trip1_counter, counter1 W h c k, BitVec.ofNat_add]
    rfl

/-- The forward scan's test. -/
theorem test0 (W : Dev nD → Valuation τ sig (Elt F)) (h : ∀ c, W c (Proc.devRef .tc main_v121_2) = constantI S_ 32 0#32) :
    CondSpec (nD := nD) (τ := τ) (pcfgs (F := F)) defs₀ loops main_while0_cond cond0 bodyI0 W 65 := by
  intro k hk c bd
  have hc := counter0 W h c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb] <;> iassumption
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb] <;> iassumption
  iintro ⟨Hb, Hh⟩
  erw [HostLoop.elt_apply]
  rw [wp_ret]; imodintro
  isplitr
  · ipureintro
    show Iff (IntOp.cmpi .slt (HloOp.result _ (atTrip cond0 bodyI0 W k c) (Proc.devRef .tc main_v121_2) HostLoop.idx0)
      (HloOp.result _ (atTrip cond0 bodyI0 W k c) (Proc.devRef .tc main_while0c_c_42) HostLoop.idx0) = 1#1) (k < 65)
    rw [nullary_result_ne _ _ _ _ (by decide), nullary_result, hc]
    exact slt_65 k hk
  isplitl [Hb]
  · iexact Hb
  rw [after_cons, after_cons, after_nil]
  iexact Hh

/-- The reverse scan's test. -/
theorem test1 (W : Dev nD → Valuation τ sig (Elt F)) (h : ∀ c, W c (Proc.devRef .tc main_v190_2) = constantI S_ 32 0#32) :
    CondSpec (nD := nD) (τ := τ) (pcfgs (F := F)) defs₀ loops main_while1_cond cond1 bodyI1 W 65 := by
  intro k hk c bd
  have hc := counter1 W h c k
  unfold main_while1_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb] <;> iassumption
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb] <;> iassumption
  iintro ⟨Hb, Hh⟩
  erw [HostLoop.elt_apply]
  rw [wp_ret]; imodintro
  isplitr
  · ipureintro
    show Iff (IntOp.cmpi .slt (HloOp.result _ (atTrip cond1 bodyI1 W k c) (Proc.devRef .tc main_v190_2) HostLoop.idx0)
      (HloOp.result _ (atTrip cond1 bodyI1 W k c) (Proc.devRef .tc main_while1c_c_42) HostLoop.idx0) = 1#1) (k < 65)
    rw [nullary_result_ne _ _ _ _ (by decide), nullary_result, hc]
    exact slt_65 k hk
  isplitl [Hb]
  · iexact Hb
  rw [after_cons, after_cons, after_nil]
  iexact Hh

/-- The counter of the forward scan starts at zero. -/
theorem start0 (V : Valuation τ sig (Elt F)) : afterL preI V (Proc.devRef .tc main_v121_2) = constantI S_ 32 0#32 := by
  simp only [afterL_cons, afterL_nil]
  after_reads_simp
  rfl

/-- The counter of the reverse scan starts at zero. -/
theorem start1 (V : Valuation τ sig (Elt F)) : afterL midI V (Proc.devRef .tc main_v190_2) = constantI S_ 32 0#32 := by
  simp only [afterL_cons, afterL_nil]
  after_reads_simp
  rfl

/-- No semaphore of the reference outlives a region. -/
theorem no_sem : ∀ s : SemLoc sig, s.isScoped .tc = true := by decide

/-- What the buffers hold at the end. -/
abbrev final (m : (ℓ : Loc nD τ sig) → Buf (Elt F) ℓ) (c : Dev nD) : Valuation τ sig (Elt F) :=
  TwoLoops.ending preI cond0 bodyI0 65 midI cond1 bodyI1 65 postI m c

/-- THE REFERENCE'S RUN. -/
theorem run (m : (ℓ : Loc nD τ sig) → Buf (Elt F) ℓ) (ρ : Dev nD → PrngReg) :
    θ_run (defs (F := F)) (onTc (τ := τ) main) ⟨m, fun _ => 0, ρ⟩
      (fun r => (∀ (c : Dev nD), ∀ b ∈ ucRefs τ sig, r.2.mem ((c : Dev nD), b) = final m c b) ∧ r.2.sem = fun _ => 0) :=
  TwoLoops.run main no_sem 0 1 main_while0_cond main_while1_cond main_while0_body main_while1_body rfl rfl
    preI bodyI0 midI bodyI1 postI cond0 cond1 preI_plain bodyI0_plain midI_plain bodyI1_plain postI_plain
    main_items body0_items body1_items 65 65 m ρ (test0 _ fun c => start0 _) (test1 _ fun c => start1 _)

/-- A counted loop leaves a buffer that neither its test nor its trip writes. -/
theorem atTrip_kept {cond : List (HloOp τ sig (Elt F))} {body : List (List (HloOp τ sig (Elt F)))} (r : Ref sig .tc)
    (h : ∀ V : Valuation τ sig (Elt F), afterL body (after cond V) (Proc.devRef .tc r) = V (Proc.devRef .tc r))
    (W : Dev nD → Valuation τ sig (Elt F)) (c : Dev nD) : ∀ k : ℕ, atTrip cond body W k c (Proc.devRef .tc r) = W c (Proc.devRef .tc r)
  | 0 => rfl
  | k + 1 => by rw [atTrip_succ, h, atTrip_kept r h W c k]

/-- The first argument ends as it was launched. -/
theorem final_arg0 (m : (ℓ : Loc nD τ sig) → Buf (Elt F) ℓ) (c : Dev nD) :
    final m c (Proc.devRef .tc main_arg0) = m ((c.tc : Thread nD τ).loc main_arg0) := by
  have h1 : ∀ V : Valuation τ sig (Elt F), afterL postI V (Proc.devRef .tc main_arg0) = V (Proc.devRef .tc main_arg0) := fun V => by
    simp only [afterL_cons, afterL_nil]; after_reads_simp
  have h2 : ∀ V : Valuation τ sig (Elt F), afterL midI V (Proc.devRef .tc main_arg0) = V (Proc.devRef .tc main_arg0) := fun V => by
    simp only [afterL_cons, afterL_nil]; after_reads_simp
  have h3 : ∀ V : Valuation τ sig (Elt F), afterL preI V (Proc.devRef .tc main_arg0) = V (Proc.devRef .tc main_arg0) := fun V => by
    simp only [afterL_cons, afterL_nil]; after_reads_simp
  have h4 : ∀ V : Valuation τ sig (Elt F), after cond1 V (Proc.devRef .tc main_arg0) = V (Proc.devRef .tc main_arg0) := fun V => by after_reads_simp
  have h5 : ∀ V : Valuation τ sig (Elt F), after cond0 V (Proc.devRef .tc main_arg0) = V (Proc.devRef .tc main_arg0) := fun V => by after_reads_simp
  rw [show final m c = TwoLoops.ending preI cond0 bodyI0 65 midI cond1 bodyI1 65 postI m c from rfl, TwoLoops.ending, h1, h4,
    atTrip_kept main_arg0 (fun V => by simp only [afterL_cons, afterL_nil]; after_reads_simp), TwoLoops.enter1, h2, h5,
    atTrip_kept main_arg0 (fun V => by simp only [afterL_cons, afterL_nil]; after_reads_simp), TwoLoops.enter0, h3]

/-- The second argument ends as it was launched. -/
theorem final_arg1 (m : (ℓ : Loc nD τ sig) → Buf (Elt F) ℓ) (c : Dev nD) :
    final m c (Proc.devRef .tc main_arg1) = m ((c.tc : Thread nD τ).loc main_arg1) := by
  have h1 : ∀ V : Valuation τ sig (Elt F), afterL postI V (Proc.devRef .tc main_arg1) = V (Proc.devRef .tc main_arg1) := fun V => by
    simp only [afterL_cons, afterL_nil]; after_reads_simp
  have h2 : ∀ V : Valuation τ sig (Elt F), afterL midI V (Proc.devRef .tc main_arg1) = V (Proc.devRef .tc main_arg1) := fun V => by
    simp only [afterL_cons, afterL_nil]; after_reads_simp
  have h3 : ∀ V : Valuation τ sig (Elt F), afterL preI V (Proc.devRef .tc main_arg1) = V (Proc.devRef .tc main_arg1) := fun V => by
    simp only [afterL_cons, afterL_nil]; after_reads_simp
  have h4 : ∀ V : Valuation τ sig (Elt F), after cond1 V (Proc.devRef .tc main_arg1) = V (Proc.devRef .tc main_arg1) := fun V => by after_reads_simp
  have h5 : ∀ V : Valuation τ sig (Elt F), after cond0 V (Proc.devRef .tc main_arg1) = V (Proc.devRef .tc main_arg1) := fun V => by after_reads_simp
  rw [show final m c = TwoLoops.ending preI cond0 bodyI0 65 midI cond1 bodyI1 65 postI m c from rfl, TwoLoops.ending, h1, h4,
    atTrip_kept main_arg1 (fun V => by simp only [afterL_cons, afterL_nil]; after_reads_simp), TwoLoops.enter1, h2, h5,
    atTrip_kept main_arg1 (fun V => by simp only [afterL_cons, afterL_nil]; after_reads_simp), TwoLoops.enter0, h3]

/-- The third argument ends as it was launched. -/
theorem final_arg2 (m : (ℓ : Loc nD τ sig) → Buf (Elt F) ℓ) (c : Dev nD) :
    final m c (Proc.devRef .tc main_arg2) = m ((c.tc : Thread nD τ).loc main_arg2) := by
  have h1 : ∀ V : Valuation τ sig (Elt F), afterL postI V (Proc.devRef .tc main_arg2) = V (Proc.devRef .tc main_arg2) := fun V => by
    simp only [afterL_cons, afterL_nil]; after_reads_simp
  have h2 : ∀ V : Valuation τ sig (Elt F), afterL midI V (Proc.devRef .tc main_arg2) = V (Proc.devRef .tc main_arg2) := fun V => by
    simp only [afterL_cons, afterL_nil]; after_reads_simp
  have h3 : ∀ V : Valuation τ sig (Elt F), afterL preI V (Proc.devRef .tc main_arg2) = V (Proc.devRef .tc main_arg2) := fun V => by
    simp only [afterL_cons, afterL_nil]; after_reads_simp
  have h4 : ∀ V : Valuation τ sig (Elt F), after cond1 V (Proc.devRef .tc main_arg2) = V (Proc.devRef .tc main_arg2) := fun V => by after_reads_simp
  have h5 : ∀ V : Valuation τ sig (Elt F), after cond0 V (Proc.devRef .tc main_arg2) = V (Proc.devRef .tc main_arg2) := fun V => by after_reads_simp
  rw [show final m c = TwoLoops.ending preI cond0 bodyI0 65 midI cond1 bodyI1 65 postI m c from rfl, TwoLoops.ending, h1, h4,
    atTrip_kept main_arg2 (fun V => by simp only [afterL_cons, afterL_nil]; after_reads_simp), TwoLoops.enter1, h2, h5,
    atTrip_kept main_arg2 (fun V => by simp only [afterL_cons, afterL_nil]; after_reads_simp), TwoLoops.enter0, h3]

/-- What the run leaves in a buffer. -/
theorem reads {s : MemSt nD τ sig (Elt F)} {m : (ℓ : Loc nD τ sig) → Buf (Elt F) ℓ} {c : Dev nD}
    (h : ∀ b ∈ ucRefs τ sig, s.mem ((c : Dev nD), b) = final m c b) (b : Ref sig .tc)
    (hb : (Proc.devRef .tc b : DevRef τ sig).isScoped = false) :
    s.mem ((c.tc : Thread nD τ).loc b) = final m c (Proc.devRef .tc b) :=
  h _ (devRef_mem_ucRefs b hb)

/-- The arguments end as they were launched. -/
theorem frame (m : (ℓ : Loc nD τ sig) → Buf (Elt F) ℓ) (ρ : Dev nD → PrngReg) :
    θ_run (defs (F := F)) (onTc (τ := τ) main) ⟨m, fun _ => 0, ρ⟩
      (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)) ∧ r.2.sem = fun _ => 0) :=
  (θ_run defs _ _).mono (fun _ h => ⟨fun c =>
    ⟨(reads (h.1 c) main_arg0 rfl).trans (final_arg0 m c), (reads (h.1 c) main_arg1 rfl).trans (final_arg1 m c),
      (reads (h.1 c) main_arg2 rfl).trans (final_arg2 m c)⟩, h.2⟩) (run m ρ)

end Cert.Retention.Ref
-- ==== Proof.RefScan.lean ====
module

public import proofs.«01_k».proof.Proof.RefMid
public import proofs.«01_k».proof.Proof.RefRun
public import Idealize.ShloMosaic.Lib.WordCmp

@[expose] public section

set_option maxRecDepth 16384

noncomputable section

/-! The reference's two scans, read at an index. -/

namespace Cert.Retention.Ref

open Cert.ReferenceIdeal
open Idealize.ShloMosaic Idealize.ShloMosaic.TcCoe
open Idealize.ShloMosaic.StableHlo

section
variable (k : ℕ) (hk : k < 65)
include hk

/-- The block at number `k`. -/
theorem slice_at (x : S65x1x4x256x512.Idx → EReal) (st : Fin 5 → Int) (hst : ∀ a, st a = (((![k, 0, 0, 0, 0] : Fin 5 → ℕ) a : ℕ) : Int))
    (hf : S65x1x4x256x512.Slices (fun _ => 0) S1x1x4x256x512) (h : Fin 4) (d : Fin 256) (e : Fin 512) :
    Host.dynamicSlice S1x1x4x256x512 x st hf (ix5 0 0 h d e) = x (ix5 ⟨k, hk⟩ 0 h d e) := by
  have hs : S65x1x4x256x512.Slices ![k, 0, 0, 0, 0] S1x1x4x256x512 := ⟨rfl, fun a => by
    match a with
    | 0 => show k + 1 ≤ 65; omega
    | 1 => exact Nat.le_refl 1
    | 2 => exact Nat.le_refl 4
    | 3 => exact Nat.le_refl 256
    | 4 => exact Nat.le_refl 512⟩
  rw [WordCmp.dynamicSlice_eq_extract S1x1x4x256x512 x st hf ![k, 0, 0, 0, 0] hs hst]
  pointwise

/-- The array with its block at number `k` replaced. -/
theorem update_at (x : S65x1x4x256x512.Idx → EReal) (u : S1x1x4x256x512.Idx → EReal) (st : Fin 5 → Int)
    (hst : ∀ a, st a = (((![k, 0, 0, 0, 0] : Fin 5 → ℕ) a : ℕ) : Int))
    (hf : S65x1x4x256x512.Slices (fun _ => 0) S1x1x4x256x512) (j : Fin 65) (h : Fin 4) (d : Fin 256) (e : Fin 512) :
    Host.dynamicUpdateSlice x u st hf (ix5 j 0 h d e) = if j.val = k then u (ix5 0 0 h d e) else x (ix5 j 0 h d e) := by
  have hs : S65x1x4x256x512.Slices ![k, 0, 0, 0, 0] S1x1x4x256x512 := ⟨rfl, fun a => by
    match a with
    | 0 => show k + 1 ≤ 65; omega
    | 1 => exact Nat.le_refl 1
    | 2 => exact Nat.le_refl 4
    | 3 => exact Nat.le_refl 256
    | 4 => exact Nat.le_refl 512⟩
  rw [WordCmp.dynamicUpdateSlice_eq_update x u st hf ![k, 0, 0, 0, 0] hs hst]
  pointwise
  by_cases hj : j.val = k
  · rw [dif_pos (by omega), if_pos hj]
    exact congrArg (fun z => u (ix5 z 0 h d e)) (Fin.ext (by show j.val - k = 0; omega))
  · rw [dif_neg (by omega), if_neg hj]
end

/-- The chunks' sums. -/
abbrev kvs (V : Valuation τ sig (Elt Ideal)) : S65x1x4x256x512.Idx → EReal := V (Proc.devRef .tc main_v121_0)
/-- The decay over a chunk. -/
abbrev cds (V : Valuation τ sig (Elt Ideal)) : S1x4x1x1.Idx → EReal := V (Proc.devRef .tc main_v121_1)
/-- The state. -/
abbrev stt (V : Valuation τ sig (Elt Ideal)) : S1x4x256x512.Idx → EReal := V (Proc.devRef .tc main_v121_3)
/-- The stack of states. -/
abbrev stk (V : Valuation τ sig (Elt Ideal)) : S65x1x4x256x512.Idx → EReal := V (Proc.devRef .tc main_v121_4)

section
variable (V : Valuation τ sig (Elt Ideal)) (k : ℕ) (hk : k < 65)
  (hc : V (Proc.devRef .tc main_v121_2) = constantI S_ 32 (BitVec.ofNat 32 k))
include hk hc

/-- A trip's state: the one before, decayed, and the chunk's sum. -/
theorem trip0_state (h : Fin 4) (d : Fin 256) (e : Fin 512) :
    stt (afterL bodyI0 (after cond0 V)) (ix4 0 h d e)
      = stt V (ix4 0 h d e) * cds V (ix4 0 h 0 0) + kvs V (ix5 ⟨k, hk⟩ 0 h d e) := by
  simp only [afterL_cons, afterL_nil]
  after_reads_simp [unaryIndexed_result_read, indexContents_tref_cons, indexContents_tref_empty]
  simp only [id]
  pointwise
  refine congrArg (fun z : EReal => stt V (ix4 0 h d e) * cds V (ix4 0 h 0 0) + z)
    (slice_at k hk (kvs V) _ (fun a => ?_) Facts₀.sliceFits_S65x1x4x256x512_S1x1x4x256x512 h d e)
  match a with
  | 0 => exact (congrArg (fun z : S_.Idx → BitVec 32 => (z (Shape.Idx.first Facts₀.h_S_)).toInt) hc).trans (toInt_nat k (by omega))
  | 1 => rfl
  | 2 => rfl
  | 3 => rfl
  | 4 => rfl

/-- A trip's stack of states: the state before it at the trip's number. -/
theorem trip0_stack (j : Fin 65) (h : Fin 4) (d : Fin 256) (e : Fin 512) :
    stk (afterL bodyI0 (after cond0 V)) (ix5 j 0 h d e)
      = if j.val = k then stt V (ix4 0 h d e) else stk V (ix5 j 0 h d e) := by
  simp only [afterL_cons, afterL_nil]
  after_reads_simp [binaryIndexed_result_read, indexContents_tref_cons, indexContents_tref_empty]
  simp only [id]
  refine (update_at k hk (stk V) _ _ (fun a => ?_) Facts₀.updateFits_S65x1x4x256x512_S1x1x4x256x512 j h d e).trans ?_
  · match a with
    | 0 => exact (congrArg (fun z : S_.Idx → BitVec 32 => (z (Shape.Idx.first Facts₀.h_S_)).toInt) hc).trans (toInt_nat k (by omega))
    | 1 => rfl
    | 2 => rfl
    | 3 => rfl
    | 4 => rfl
  · have hb : broadcastInDim S1x1x4x256x512 ![1, 2, 3, 4] Facts₀.bcast_S1x4x256x512_S1x1x4x256x512_1_2_3_4 (stt V) (ix5 0 0 h d e)
        = stt V (ix4 0 h d e) := by pointwise
    exact congrArg (fun z : EReal => if j.val = k then z else stk V (ix5 j 0 h d e)) hb

/-- A trip keeps the chunks' sums and the decay. -/
theorem trip0_kvs : kvs (afterL bodyI0 (after cond0 V)) = kvs V ∧ cds (afterL bodyI0 (after cond0 V)) = cds V := by
  constructor
  · simp only [afterL_cons, afterL_nil]
    after_reads_simp
  · simp only [afterL_cons, afterL_nil]
    after_reads_simp

end

/-- The forward scan: the state before each trip, and the states stacked so far. -/
theorem scan0 (J : Spec.Inputs) (W : Dev nD → Valuation τ sig (Elt Ideal)) (c : Dev nD)
    (hc : ∀ c, W c (Proc.devRef .tc main_v121_2) = constantI S_ 32 0#32)
    (hkv : ∀ (n : Fin 65) (h : Fin 4) (d : Fin 256) (e : Fin 512), kvs (W c) (ix5 n 0 h d e)
      = ∑ s : Fin 128, Spec.kr (J.k h.val n.val) (J.cs n.val) (J.sn n.val) s d * Spec.kdec (J.l h.val) s * J.v h.val n.val s e)
    (hcd : ∀ h : Fin 4, cds (W c) (ix4 0 h 0 0) = Spec.cdec (J.l h.val))
    (hst : ∀ (h : Fin 4) (d : Fin 256) (e : Fin 512), stt (W c) (ix4 0 h d e) = 0) :
    ∀ k ≤ 65, (∀ (h : Fin 4) (d : Fin 256) (e : Fin 512), stt (atTrip cond0 bodyI0 W k c) (ix4 0 h d e) = J.st h.val k d e)
      ∧ (∀ j : Fin 65, j.val < k → ∀ (h : Fin 4) (d : Fin 256) (e : Fin 512),
        stk (atTrip cond0 bodyI0 W k c) (ix5 j 0 h d e) = J.st h.val j.val d e)
      ∧ kvs (atTrip cond0 bodyI0 W k c) = kvs (W c) ∧ cds (atTrip cond0 bodyI0 W k c) = cds (W c)
  | 0, _ => ⟨hst, fun j hj => absurd hj (Nat.not_lt_zero _), rfl, rfl⟩
  | k + 1, hk => by
    obtain ⟨h1, h2, h3, h4⟩ := scan0 J W c hc hkv hcd hst k (by omega)
    have hn := counter0 W hc c k
    rw [atTrip_succ]
    refine ⟨fun h d e => ?_, fun j hj h d e => ?_, ?_, ?_⟩
    · rw [trip0_state _ k (by omega) hn, h1, h3, h4, hcd, hkv]
      rfl
    · rw [trip0_stack _ k (by omega) hn]
      split
      · rename_i e'
        rw [h1, e']
      · exact h2 j (by omega) h d e
    · rw [(trip0_kvs _ k (by omega) hn).1, h3]
    · rw [(trip0_kvs _ k (by omega) hn).2, h4]

/-! ## The reverse scan -/

/-- The chunks' own gradients of the state before them. -/
abbrev kvs1 (V : Valuation τ sig (Elt Ideal)) : S65x1x4x256x512.Idx → EReal := V (Proc.devRef .tc main_v190_0)
/-- The decay over a chunk. -/
abbrev cds1 (V : Valuation τ sig (Elt Ideal)) : S1x4x1x1.Idx → EReal := V (Proc.devRef .tc main_v190_1)
/-- The state's gradient. -/
abbrev stt1 (V : Valuation τ sig (Elt Ideal)) : S1x4x256x512.Idx → EReal := V (Proc.devRef .tc main_v190_3)
/-- The stack of the states' gradients. -/
abbrev stk1 (V : Valuation τ sig (Elt Ideal)) : S65x1x4x256x512.Idx → EReal := V (Proc.devRef .tc main_v190_4)

/-- A trip's block number. -/
theorem word64 (k : ℕ) (hk : k < 65) : (IntOp.subi (IntOp.subi 65#32 (BitVec.ofNat 32 k)) 1#32).toInt = ((64 - k : ℕ) : Int) := by
  exact (by decide : ∀ j : Fin 65, (IntOp.subi (IntOp.subi 65#32 (BitVec.ofNat 32 j.val)) 1#32).toInt = ((64 - j.val : ℕ) : Int)) ⟨k, hk⟩

section
variable (V : Valuation τ sig (Elt Ideal)) (k : ℕ) (hk : k < 65)
  (hc : V (Proc.devRef .tc main_v190_2) = constantI S_ 32 (BitVec.ofNat 32 k))
include hk hc

/-- The number of a trip's block, as the trip computes it. -/
theorem number1 (V' : S_.Idx → BitVec 32) (h : V' = V (Proc.devRef .tc main_v190_2)) :
    (subi (subi (constantI S_ 32 65#32) V') (constantI S_ 32 1#32) (Shape.Idx.first Facts₀.h_S_)).toInt = ((64 - k : ℕ) : Int) := by
  rw [h, hc]
  exact word64 k hk

/-- A trip's gradient of the state: the one before, decayed, and the chunk's own. -/
theorem trip1_state (h : Fin 4) (d : Fin 256) (e : Fin 512) :
    stt1 (afterL bodyI1 (after cond1 V)) (ix4 0 h d e)
      = kvs1 V (ix5 ⟨64 - k, by omega⟩ 0 h d e) + stt1 V (ix4 0 h d e) * cds1 V (ix4 0 h 0 0) := by
  simp only [afterL_cons, afterL_nil]
  after_reads_simp [unaryIndexed_result_read, indexContents_tref_cons, indexContents_tref_empty]
  simp only [id]
  pointwise
  refine congrArg (fun z : EReal => z + stt1 V (ix4 0 h d e) * cds1 V (ix4 0 h 0 0))
    (slice_at (64 - k) (by omega) (kvs1 V) _ (fun a => ?_) Facts₀.sliceFits_S65x1x4x256x512_S1x1x4x256x512 h d e)
  match a with
  | 0 => exact number1 V k hk hc _ rfl
  | 1 => rfl
  | 2 => rfl
  | 3 => rfl
  | 4 => rfl

/-- A trip's stack: the gradient before it at the trip's block. -/
theorem trip1_stack (j : Fin 65) (h : Fin 4) (d : Fin 256) (e : Fin 512) :
    stk1 (afterL bodyI1 (after cond1 V)) (ix5 j 0 h d e)
      = if j.val = 64 - k then stt1 V (ix4 0 h d e) else stk1 V (ix5 j 0 h d e) := by
  simp only [afterL_cons, afterL_nil]
  after_reads_simp [binaryIndexed_result_read, indexContents_tref_cons, indexContents_tref_empty]
  simp only [id]
  refine (update_at (64 - k) (by omega) (stk1 V) _ _ (fun a => ?_) Facts₀.updateFits_S65x1x4x256x512_S1x1x4x256x512 j h d e).trans ?_
  · match a with
    | 0 => exact number1 V k hk hc _ rfl
    | 1 => rfl
    | 2 => rfl
    | 3 => rfl
    | 4 => rfl
  · have hb : broadcastInDim S1x1x4x256x512 ![1, 2, 3, 4] Facts₀.bcast_S1x4x256x512_S1x1x4x256x512_1_2_3_4 (stt1 V) (ix5 0 0 h d e)
        = stt1 V (ix4 0 h d e) := by pointwise
    exact congrArg (fun z : EReal => if j.val = 64 - k then z else stk1 V (ix5 j 0 h d e)) hb

/-- A trip keeps the chunks' own gradients and the decay. -/
theorem trip1_kvs : kvs1 (afterL bodyI1 (after cond1 V)) = kvs1 V ∧ cds1 (afterL bodyI1 (after cond1 V)) = cds1 V := by
  constructor
  · simp only [afterL_cons, afterL_nil]
    after_reads_simp
  · simp only [afterL_cons, afterL_nil]
    after_reads_simp

end

/-- The reverse scan: the gradient before each trip, and the gradients stacked so far. -/
theorem scan1 (J : Spec.Inputs) (W : Dev nD → Valuation τ sig (Elt Ideal)) (c : Dev nD)
    (hc : ∀ c, W c (Proc.devRef .tc main_v190_2) = constantI S_ 32 0#32)
    (hkv : ∀ (n : Fin 65) (h : Fin 4) (d : Fin 256) (e : Fin 512), kvs1 (W c) (ix5 n 0 h d e)
      = ∑ l : Fin 128, Spec.qr (J.q h.val n.val) (J.cs n.val) (J.sn n.val) l d * (J.dout' h.val n.val l e * Spec.qdec (J.l h.val) l))
    (hcd : ∀ h : Fin 4, cds1 (W c) (ix4 0 h 0 0) = Spec.cdec (J.l h.val))
    (hst : ∀ (h : Fin 4) (d : Fin 256) (e : Fin 512), stt1 (W c) (ix4 0 h d e) = 0) :
    ∀ k ≤ 65, (∀ (h : Fin 4) (d : Fin 256) (e : Fin 512), stt1 (atTrip cond1 bodyI1 W k c) (ix4 0 h d e) = J.gr h.val k d e)
      ∧ (∀ j : Fin 65, 64 - j.val < k → ∀ (h : Fin 4) (d : Fin 256) (e : Fin 512),
        stk1 (atTrip cond1 bodyI1 W k c) (ix5 j 0 h d e) = J.gr h.val (64 - j.val) d e)
      ∧ kvs1 (atTrip cond1 bodyI1 W k c) = kvs1 (W c) ∧ cds1 (atTrip cond1 bodyI1 W k c) = cds1 (W c)
  | 0, _ => ⟨hst, fun j hj => absurd hj (Nat.not_lt_zero _), rfl, rfl⟩
  | k + 1, hk => by
    obtain ⟨h1, h2, h3, h4⟩ := scan1 J W c hc hkv hcd hst k (by omega)
    have hn := counter1 W hc c k
    rw [atTrip_succ]
    refine ⟨fun h d e => ?_, fun j hj h d e => ?_, ?_, ?_⟩
    · rw [trip1_state _ k (by omega) hn, h1, h3, h4, hcd, hkv, add_comm]
      rfl
    · rw [trip1_stack _ k (by omega) hn]
      split
      · rename_i e'
        rw [h1, show 64 - j.val = k by omega]
      · exact h2 j (by omega) h d e
    · rw [(trip1_kvs _ k (by omega) hn).1, h3]
    · rw [(trip1_kvs _ k (by omega) hn).2, h4]

end Cert.Retention.Ref

end
-- ==== Proof.RefValue.lean ====
module

public import proofs.«01_k».proof.Proof.RefGrad
public import proofs.«01_k».proof.Proof.RefScan

@[expose] public section

set_option maxRecDepth 16384

noncomputable section

/-! The reference's two results, from its arguments. -/

namespace Cert.Retention.Ref

open Cert.ReferenceIdeal
open Idealize.ShloMosaic Idealize.ShloMosaic.TcCoe Idealize.ShloMosaic.HostLoop
open Idealize.ShloMosaic.StableHlo

theorem line2b_writes : (line2b : List (HloOp τ sig (Elt Ideal))).map HloOp.writes
    = ([main_v27, main_v28, main_v29, main_v30, main_v31, main_v32, main_v33, main_v34, main_v35, main_v36, main_v37, main_v38, main_v39, main_v40, main_v41, main_v42, main_v43, main_v44, main_v45, main_v46, main_v47, main_v48, main_v49, main_v50, main_v51, main_v52, main_cst_2, main_v53, main_v54, main_cst_3] : List (Ref sig .tc)).map fun w => {Proc.devRef (τ := τ) .tc w} := rfl

section
variable (V : Valuation τ sig (Elt Ideal))

/-- What the rest of that stretch writes. -/
abbrev line16bRefs : List (Ref sig .tc) := [main_v211, main_v212, main_v213, main_v214, main_v215, main_v216, main_v217, main_v218, main_v219, main_cst_31, main_v220, main_v221, main_v222, main_v223, main_v224, main_v225, main_v226, main_v227, main_v228, main_v229, main_v230, main_v231, main_v232, main_v233, main_v234, main_cst_32, main_v235, main_cst_33, main_v236, main_v237, main_v238, main_v239, main_v240, main_v241, main_v242, main_v243, main_v244, main_v245, main_v246, main_v247, main_v248, main_v249, main_v250, main_cst_34, main_v251, main_cst_35]

theorem line16b_writes : (line16b : List (HloOp τ sig (Elt Ideal))).map HloOp.writes = line16bRefs.map fun w => {Proc.devRef (τ := τ) .tc w} := rfl

/-- The buffers of the rows and the tables. -/
def rowRefs : List (Ref sig .tc) := [main_v9, main_v10, main_v11, main_v12, main_v24, main_v26]

theorem rows_kept {J : Spec.Inputs} (R : Rows J V) : Rows J (after line3 (after line2b V)) := by
  have h : ∀ b ∈ rowRefs, after line3 (after line2b V) (Proc.devRef .tc b) = V (Proc.devRef .tc b) := fun b hb => by
    rw [after_unwritten _ line3_writes (by revert b; decide), after_unwritten _ line2b_writes (by revert b; decide)]
  exact {
    q := by rw [h main_v10 (by decide)]; exact R.q
    k := by rw [h main_v11 (by decide)]; exact R.k
    v := by rw [h main_v12 (by decide)]; exact R.v
    g := by rw [h main_v9 (by decide)]; exact R.g
    c := by rw [h main_v24 (by decide)]; exact R.c
    s := by rw [h main_v26 (by decide)]; exact R.s }

/-- The contents before the forward scan, stretch by stretch. -/
theorem pre_eq : afterL preI V = at4 (after line3 (after line2b (at1 V))) := rfl

theorem mid_eq : afterL midI V = after line14 (at13 (at10 V)) := rfl

theorem post_eq : afterL postI V = at21 (after line17 (after line16b (at16 V))) := rfl

/-- What is kept from the first lines to the last. -/
def keptRefs : List (Ref sig .tc) := main_arg1 :: main_arg2 :: savedRefs

theorem kept_trip0 (b : Ref sig .tc) (hb : b ∈ keptRefs) : afterL bodyI0 (after cond0 V) (Proc.devRef .tc b) = V (Proc.devRef .tc b) := by
  simp only [afterL_cons, afterL_nil]
  rw [after_unwritten _ body0_3_writes (by revert b; decide), after_unwritten _ body0_2_writes (by revert b; decide),
    after_unwritten _ body0_1_writes (by revert b; decide), after_unwritten _ body0_0_writes (by revert b; decide),
    after_unwritten _ cond0_writes (by revert b; decide)]

theorem kept_mid (b : Ref sig .tc) (hb : b ∈ keptRefs) : afterL midI V (Proc.devRef .tc b) = V (Proc.devRef .tc b) := by
  simp only [afterL_cons, afterL_nil]
  rw [after_unwritten _ line14_writes (by revert b; decide), after_unwritten _ line13_writes (by revert b; decide),
    after_unwritten _ line12_writes (by revert b; decide), after_unwritten _ line11_writes (by revert b; decide),
    after_unwritten _ line10_writes (by revert b; decide), after_unwritten _ line9_writes (by revert b; decide)]

/-- What the reverse scan keeps besides. -/
def laterRefs : List (Ref sig .tc) := main_v155 :: main_v162 :: main_v179 :: main_v184 :: keptRefs

theorem kept_trip1 (b : Ref sig .tc) (hb : b ∈ laterRefs) : afterL bodyI1 (after cond1 V) (Proc.devRef .tc b) = V (Proc.devRef .tc b) := by
  simp only [afterL_cons, afterL_nil]
  rw [after_unwritten _ body1_4_writes (by revert b; decide), after_unwritten _ body1_3_writes (by revert b; decide),
    after_unwritten _ body1_2_writes (by revert b; decide),
    after_unwritten _ body1_1_writes (by revert b; decide), after_unwritten _ body1_0_writes (by revert b; decide),
    after_unwritten _ cond1_writes (by revert b; decide)]
end

section
variable (m : (ℓ : Loc nD τ sig) → Buf (Elt Ideal) ℓ) (c : Dev nD)

/-- The contents when the forward scan is entered. -/
abbrev E0 : Dev nD → Valuation τ sig (Elt Ideal) := TwoLoops.enter0 preI m
/-- The contents after it. -/
abbrev E1 (c : Dev nD) : Valuation τ sig (Elt Ideal) := after cond0 (atTrip cond0 bodyI0 (E0 m) 65 c)
/-- The contents when the reverse scan is entered. -/
abbrev E2 : Dev nD → Valuation τ sig (Elt Ideal) := fun c => afterL midI (E1 m c)
/-- The contents after it. -/
abbrev E3 (c : Dev nD) : Valuation τ sig (Elt Ideal) := after cond1 (atTrip cond1 bodyI1 (E2 m) 65 c)

/-- The step's inputs, from the arguments. -/
abbrev J : Spec.Inputs := Spec.ins (m ((c.tc : Thread nD τ).loc main_arg0) : S8208x6144.Idx → EReal) (m ((c.tc : Thread nD τ).loc main_arg1) : S8208x2048.Idx → EReal)

theorem chunksE : Chunks (J m c) (after line3 (after line2b (at1 (launchContents m c)))) := chunks1 _ _ _ (rows1 (launchContents m c))

theorem savedE0 : Saved (J m c) (E0 m c) := saved4 (rows_kept _ (rows1 (launchContents m c))) (chunksE m c)

theorem keptE1 (b : Ref sig .tc) (hb : b ∈ keptRefs) : E1 m c (Proc.devRef .tc b) = E0 m c (Proc.devRef .tc b) := by
  rw [E1, after_unwritten _ cond0_writes (by revert b; decide), atTrip_kept b (fun V => kept_trip0 V b hb)]

theorem keptE2 (b : Ref sig .tc) (hb : b ∈ keptRefs) : E2 m c (Proc.devRef .tc b) = E1 m c (Proc.devRef .tc b) := kept_mid _ b hb

theorem keptE3 (b : Ref sig .tc) (hb : b ∈ laterRefs) : E3 m c (Proc.devRef .tc b) = E2 m c (Proc.devRef .tc b) := by
  rw [E3, after_unwritten _ cond1_writes (by revert b; decide), atTrip_kept b (fun V => kept_trip1 V b hb)]

theorem savedE1 : Saved (J m c) (E1 m c) := (savedE0 m c).keep fun b hb => keptE1 m c b (List.mem_cons_of_mem _ (List.mem_cons_of_mem _ hb))

/-- The stack of states the forward scan leaves. -/
theorem stackE1 (n : Fin 65) (h : Fin 4) (d : Fin 256) (e : Fin 512) :
    (E1 m c (Proc.devRef .tc main_v121_4) : S65x1x4x256x512.Idx → EReal) (ix5 n 0 h d e) = ((J m c).st h.val n.val d e : EReal) := by
  rw [E1, after_unwritten _ cond0_writes (by decide)]
  exact (scan0 (J m c) (E0 m) c (fun c => start0 _) (kv4 (chunksE m c)) (cd4 (chunksE m c)) (fun h d e => st4 h d e) 65 (Nat.le_refl _)).2.1 n n.isLt h d e

theorem argE0 : E0 m c (Proc.devRef .tc main_arg1) = m ((c.tc : Thread nD τ).loc main_arg1)
    ∧ E0 m c (Proc.devRef .tc main_arg2) = m ((c.tc : Thread nD τ).loc main_arg2) := by
  constructor
  · show afterL preI (launchContents m c) _ = _
    simp only [afterL_cons, afterL_nil]
    after_reads_simp
  · show afterL preI (launchContents m c) _ = _
    simp only [afterL_cons, afterL_nil]
    after_reads_simp

theorem outsE : Outs (J m c) (at10 (E1 m c)) := outs10 (savedE1 m c) (stackE1 m c)

/-- The outputs' lines keep what is kept. -/
theorem kept10 (b : Ref sig .tc) (hb : b ∈ keptRefs) : at10 (E1 m c) (Proc.devRef .tc b) = E1 m c (Proc.devRef .tc b) := by
  rw [at10, after_unwritten _ line10_writes (by revert b; decide), after_unwritten _ line9_writes (by revert b; decide)]

theorem rows10 : Rows (J m c) (at10 (E1 m c)) :=
  ((savedE1 m c).keep fun b hb => kept10 m c b (List.mem_cons_of_mem _ (List.mem_cons_of_mem _ hb))).rows

/-- The gradient of the result in a row. -/
theorem dy10 (r : Fin 8208) (k : Fin 2048) (h : Fin 4) (e : Fin 512) (n : Fin 65) (l : Fin 128)
    (hr : 128 * n.val + l.val = r.val + 112) (hk : 512 * h.val + e.val = k.val) :
    (at10 (E1 m c) (Proc.devRef .tc main_arg1) : S8208x2048.Idx → EReal) (ix2 r k) = ((J m c).d h.val n.val l e : EReal) := by
  rw [kept10 m c main_arg1 (by decide), keptE1 m c main_arg1 (by decide), (argE0 m c).1]
  exact (dy_row r k _ _ hr hk).symm

/-- The gate's lines keep the output rows. -/
theorem kept13 (U : Valuation τ sig (Elt Ideal)) (b : Ref sig .tc)
    (hb : b ∈ main_v122 :: main_v134 :: main_v139 :: main_v147 :: main_v150 :: main_v152 :: keptRefs) :
    at13 U (Proc.devRef .tc b) = U (Proc.devRef .tc b) := by
  rw [at13, after_unwritten _ line13_writes (by revert b; decide), after_unwritten _ line12_writes (by revert b; decide),
    after_unwritten _ line11_writes (by revert b; decide)]

theorem outs13 : Outs (J m c) (at13 (at10 (E1 m c))) where
  st := by rw [kept13 _ main_v122 (by decide)]; exact (outsE m c).st
  qd := by rw [kept13 _ main_v134 (by decide)]; exact (outsE m c).qd
  x := by rw [kept13 _ main_v139 (by decide)]; exact (outsE m c).x
  rs := by rw [kept13 _ main_v147 (by decide)]; exact (outsE m c).rs
  hr := by rw [kept13 _ main_v150 (by decide)]; exact (outsE m c).hr
  nx := by rw [kept13 _ main_v152 (by decide)]; exact (outsE m c).nx

theorem saved13 : Saved (J m c) (at13 (at10 (E1 m c))) := (savedE1 m c).keep fun b hb => by
  have hb' : b ∈ keptRefs := List.mem_cons_of_mem _ (List.mem_cons_of_mem _ hb)
  rw [kept13 _ b (by revert b; decide), kept10 m c b hb']

/-- The gradient of the output rows, by chunk. -/
theorem doutE (n : Fin 65) (l : Fin 128) (h : Fin 4) (e : Fin 512) : dpad (E2 m c) (ix5 0 n l h e) = (J m c).dout' h.val n.val l e := by
  refine dout14 (outs13 m c) (fun r h e n l hr => ?_) (fun h n l e hl => x_front _ _ (by omega)) n l h e
  exact dnorm13 (outsE m c) (rows10 m c) r ⟨512 * h.val + e.val, by omega⟩ h e n l hr rfl (dy10 m c r _ h e n l hr rfl)

theorem dqE (n : Fin 65) (l : Fin 128) (h : Fin 4) (d : Fin 256) :
    (E2 m c (Proc.devRef .tc main_v184) : S1x65x128x4x256.Idx → EReal) (ix5 0 n l h d)
      = (∑ e : Fin 512, (J m c).dout' h.val n.val l e * Spec.qdec ((J m c).l h.val) l * (J m c).st h.val n.val d e : EReal) := by
  have hs : (∑ e : Fin 512, dpad (E2 m c) (ix5 0 n l h e) * qds (at13 (at10 (E1 m c))) (ix5 0 0 l h 0)
      * sts (at13 (at10 (E1 m c))) (ix5 0 n h d e) : EReal)
      = ∑ e : Fin 512, (J m c).dout' h.val n.val l e * Spec.qdec ((J m c).l h.val) l * (J m c).st h.val n.val d e :=
    Finset.sum_congr rfl fun e _ => by rw [doutE, qds, sts, (outs13 m c).qd, (outs13 m c).st]
  exact (dq14 n l h d).trans hs

theorem kvE (n : Fin 65) (h : Fin 4) (d : Fin 256) (e : Fin 512) : kvs1 (E2 m c) (ix5 n 0 h d e)
      = ∑ l : Fin 128, Spec.qr ((J m c).q h.val n.val) ((J m c).cs n.val) ((J m c).sn n.val) l d
        * ((J m c).dout' h.val n.val l e * Spec.qdec ((J m c).l h.val) l) := by
  have hs : (∑ l : Fin 128, qrs (at13 (at10 (E1 m c))) (ix5 0 n l h d)
      * (dpad (E2 m c) (ix5 0 n l h e) * qds (at13 (at10 (E1 m c))) (ix5 0 0 l h 0)) : EReal)
      = ∑ l : Fin 128, Spec.qr ((J m c).q h.val n.val) ((J m c).cs n.val) ((J m c).sn n.val) l d
        * ((J m c).dout' h.val n.val l e * Spec.qdec ((J m c).l h.val) l) :=
    Finset.sum_congr rfl fun l _ => by rw [doutE, qds, qrs, (outs13 m c).qd, (saved13 m c).chunks.q]
  exact (kv14 n h d e).trans hs

theorem cdE (h : Fin 4) : cds1 (E2 m c) (ix4 0 h 0 0) = Spec.cdec ((J m c).l h.val) :=
  (cd14 h).trans ((saved13 m c).cd h)

/-- The stack of gradients the reverse scan leaves. -/
theorem stackE3 (n : Fin 65) (h : Fin 4) (d : Fin 256) (e : Fin 512) :
    (E3 m c (Proc.devRef .tc main_v190_4) : S65x1x4x256x512.Idx → EReal) (ix5 n 0 h d e) = ((J m c).gr h.val (64 - n.val) d e : EReal) := by
  rw [E3, after_unwritten _ cond1_writes (by decide)]
  exact (scan1 (J m c) (E2 m) c (fun c => start1 _) (kvE m c) (cdE m c) (fun h d e => st14 h d e) 65 (Nat.le_refl _)).2.1 n (by omega) h d e

theorem lastE3 : Last (J m c) (E3 m c) where
  saved := (savedE1 m c).keep fun b hb => by
    have hb' : b ∈ keptRefs := List.mem_cons_of_mem _ (List.mem_cons_of_mem _ hb)
    rw [keptE3 m c b (List.mem_cons_of_mem _ (List.mem_cons_of_mem _ (List.mem_cons_of_mem _ (List.mem_cons_of_mem _ hb')))), keptE2 m c b hb']
  d := by rw [dpad, keptE3 m c main_v179 (by decide)]; exact doutE m c
  dq := by rw [keptE3 m c main_v184 (by decide)]; exact dqE m c
  gr := stackE3 m c

/-- The gate's gradient in a row. -/
theorem dgE3 (r : Fin 8208) (k : Fin 2048) (h : Fin 4) (e : Fin 512) (n : Fin 65) (l : Fin 128)
    (hr : 128 * n.val + l.val = r.val + 112) (hk : 512 * h.val + e.val = k.val) :
    (E3 m c (Proc.devRef .tc main_v162) : S1x8208x2048.Idx → EReal) (ix3 0 r k) = ((J m c).dg' h.val n.val l e : EReal) := by
  rw [keptE3 m c main_v162 (by decide)]
  show (after line14 (at13 (at10 (E1 m c))) (Proc.devRef .tc main_v162) : S1x8208x2048.Idx → EReal) (ix3 0 r k) = _
  rw [after_unwritten _ line14_writes (by decide)]
  exact gate13 (outsE m c) (rows10 m c) r k h e n l hr hk (dy10 m c r k h e n l hr hk)

/-- The result in a row. -/
theorem yE3 (r : Fin 8208) (k : Fin 2048) (h : Fin 4) (e : Fin 512) (n : Fin 65) (l : Fin 128)
    (hr : 128 * n.val + l.val = r.val + 112) (hk : 512 * h.val + e.val = k.val) :
    (E3 m c (Proc.devRef .tc main_v155) : S1x8208x2048.Idx → EReal) (ix3 0 r k) = ((J m c).y' h.val n.val l e : EReal) := by
  rw [keptE3 m c main_v155 (by decide)]
  show (after line14 (at13 (at10 (E1 m c))) (Proc.devRef .tc main_v155) : S1x8208x2048.Idx → EReal) (ix3 0 r k) = _
  rw [after_unwritten _ line14_writes (by decide)]
  exact y13 (outsE m c) (rows10 m c) r k h e n l hr hk

end

end Cert.Retention.Ref

end
-- ==== Proof.RefEnd.lean ====
module

public import proofs.«01_k».proof.Proof.RefValue

@[expose] public section

set_option maxRecDepth 16384

noncomputable section

/-! The reference's two results as plain formulas on its arguments. -/

namespace Cert.Retention.Ref

open Cert.ReferenceIdeal
open Idealize.ShloMosaic Idealize.ShloMosaic.TcCoe Idealize.ShloMosaic.HostLoop
open Idealize.ShloMosaic.StableHlo

/-! ## The rows of zeros in front of the results -/

section
variable {a0 : (⟨2, ![8208, 6144]⟩ : Shape).Idx → EReal} {a1 : (⟨2, ![8208, 2048]⟩ : Shape).Idx → EReal}

theorem q_front (h n : ℕ) (l : Fin 128) (d : Fin 256) (hl : 128 * n + l.val < 112) : (Spec.ins a0 a1).q h n l d = 0 := x_front _ _ hl
theorem k_front (h n : ℕ) (l : Fin 128) (d : Fin 256) (hl : 128 * n + l.val < 112) : (Spec.ins a0 a1).k h n l d = 0 := x_front _ _ hl
theorem v_front (h n : ℕ) (l : Fin 128) (e : Fin 512) (hl : 128 * n + l.val < 112) : (Spec.ins a0 a1).v h n l e = 0 := x_front _ _ hl
theorem g_front (h n : ℕ) (l : Fin 128) (e : Fin 512) (hl : 128 * n + l.val < 112) : (Spec.ins a0 a1).g h n l e = 0 := x_front _ _ hl
theorem d_front (h n : ℕ) (l : Fin 128) (e : Fin 512) (hl : 128 * n + l.val < 112) : (Spec.ins a0 a1).d h n l e = 0 := dy_front _ _ hl

/-- A row of zeros stays one on the way back through the rotary embedding. -/
theorem rotT_zero (x : Fin 256 → EReal) (c s : Fin 128 → EReal) (d : Fin 256) (h : ∀ d, x d = 0) : Spec.rotT x c s d = 0 := by
  unfold Spec.rotT
  simp only [h, neg_zero, zero_mul, add_zero, dite_eq_ite, ite_self]

theorem kr_front (h n : ℕ) (l : Fin 128) (d : Fin 256) (hl : 128 * n + l.val < 112) :
    Spec.kr ((Spec.ins a0 a1).k h n) ((Spec.ins a0 a1).cs n) ((Spec.ins a0 a1).sn n) l d = 0 := by
  rw [Spec.kr, rot_zero _ _ _ _ fun d => k_front h n l d hl, zero_mul]

theorem dout_front (h n : ℕ) (l : Fin 128) (e : Fin 512) (hl : 128 * n + l.val < 112) : (Spec.ins a0 a1).dout' h n l e = 0 :=
  dout_zero _ _ _ _ fun e => g_front h n l e hl

theorem y_front (h n : ℕ) (l : Fin 128) (e : Fin 512) (hl : 128 * n + l.val < 112) : (Spec.ins a0 a1).y' h n l e = 0 := by
  show (Spec.ins a0 a1).g h n l e * Ideal.logistic ((Spec.ins a0 a1).g h n l e) * _ = 0
  rw [g_front h n l e hl, zero_mul, zero_mul]

theorem dq_front (h n : ℕ) (l : Fin 128) (d : Fin 256) (hl : 128 * n + l.val < 112) : (Spec.ins a0 a1).dq' h n l d = 0 := by
  refine rotT_zero _ _ _ _ fun d => ?_
  show (∑ e : Fin 512, (Spec.ins a0 a1).dout' h n l e * _ * _)
    + ∑ s : Fin 128, (∑ e : Fin 512, (Spec.ins a0 a1).dout' h n l e * _) * _ * _ = 0
  simp only [dout_front h n l _ hl, zero_mul, Finset.sum_const_zero, add_zero]

theorem dk_front (h n : ℕ) (l : Fin 128) (d : Fin 256) (hl : 128 * n + l.val < 112) : (Spec.ins a0 a1).dk' h n l d = 0 := by
  refine rotT_zero _ _ _ _ fun d => ?_
  show ((∑ e : Fin 512, (Spec.ins a0 a1).v h n l e * _) * _ + ∑ s : Fin 128, (∑ e : Fin 512, _ * (Spec.ins a0 a1).v h n l e) * _ * _) * _ = 0
  simp only [v_front h n l _ hl, zero_mul, mul_zero, Finset.sum_const_zero, add_zero]

theorem dv_front (h n : ℕ) (l : Fin 128) (e : Fin 512) (hl : 128 * n + l.val < 112) : (Spec.ins a0 a1).dv' h n l e = 0 := by
  show (∑ d : Fin 256, Spec.kr ((Spec.ins a0 a1).k h n) ((Spec.ins a0 a1).cs n) ((Spec.ins a0 a1).sn n) l d * _ * _)
    + ∑ s : Fin 128, (∑ d : Fin 256, _ * Spec.kr ((Spec.ins a0 a1).k h n) ((Spec.ins a0 a1).cs n) ((Spec.ins a0 a1).sn n) l d) * _ * _ = 0
  simp only [kr_front h n l _ hl, zero_mul, mul_zero, Finset.sum_const_zero, add_zero]

theorem dg_front (h n : ℕ) (l : Fin 128) (e : Fin 512) (hl : 128 * n + l.val < 112) : (Spec.ins a0 a1).dg' h n l e = 0 := by
  show (Spec.ins a0 a1).d h n l e * _ * _ + (Spec.ins a0 a1).g h n l e * _ * _ = 0
  rw [d_front h n l e hl, g_front h n l e hl, zero_mul, zero_mul, zero_mul, zero_mul, add_zero]

theorem yAt_front (r c : ℕ) (hr : r < 112) : (Spec.ins a0 a1).yAt r c = 0 := y_front _ _ _ _ (by simp only []; omega)

theorem dxAt_front (r h c : ℕ) (hr : r < 112) : (Spec.ins a0 a1).dxAt r h c = 0 := by
  have e : 128 * (r / 128) + (⟨r % 128, Nat.mod_lt _ (by decide)⟩ : Fin 128).val < 112 := by simp only []; omega
  unfold Spec.Inputs.dxAt
  split
  · exact dq_front _ _ _ _ e
  split
  · exact dk_front _ _ _ _ e
  split
  · exact dv_front _ _ _ _ e
  · exact dg_front _ _ _ _ e
end

section
variable (m : (ℓ : Loc nD τ sig) → Buf (Elt Ideal) ℓ) (c : Dev nD)

theorem final_eq : final m c = at21 (after line17 (after line16b (at16 (E3 m c)))) :=
  (show final m c = afterL postI (E3 m c) from
    (show final m c = TwoLoops.ending preI cond0 bodyI0 65 midI cond1 bodyI1 65 postI m c from rfl)).trans (post_eq _)

/-- The first result. -/
theorem ref_y (i : S8320x2048.Idx) :
    (final m c (Proc.devRef .tc main_v265) : S8320x2048.Idx → EReal) i = ((J m c).yAt (i 0).val (i 1).val : EReal) := by
  obtain ⟨r, k, rfl⟩ : ∃ r k, i = ix2 r k := ⟨i 0, i 1, eq_ix2 i⟩
  rw [final_eq, y21]
  by_cases hr : 112 ≤ r.val ∧ r.val - 112 < 8208
  · rw [dif_pos hr, y17, after_unwritten line16bRefs line16b_writes (by decide), kept16 _ (by decide) (by decide)]
    exact yE3 m c ⟨r.val - 112, hr.2⟩ k ⟨k.val / 512, by omega⟩ ⟨k.val % 512, by omega⟩ ⟨r.val / 128, by omega⟩ ⟨r.val % 128, by omega⟩
      (by simp only []; omega) (by simp only []; omega)
  · rw [dif_neg hr, zero17]
    refine Eq.trans (sitofp_zero (φ := .f32)) (yAt_front _ _ ?_).symm
    show r.val < 112
    omega

/-- The second result. -/
theorem ref_dx (i : S8320x13824.Idx) :
    (final m c (Proc.devRef .tc main_v269) : S8320x13824.Idx → EReal) i
      = (if (i 1).val < 6144 then (J m c).dxAt (i 0).val ((i 1).val / 1536) ((i 1).val % 1536)
        else (m ((c.tc : Thread nD τ).loc main_arg2) : S8320x13824.Idx → EReal) i : EReal) := by
  obtain ⟨r, k, rfl⟩ : ∃ r k, i = ix2 r k := ⟨i 0, i 1, eq_ix2 i⟩
  rw [final_eq, dx21]
  show _ = (if k.val < 6144 then (J m c).dxAt r.val (k.val / 1536) (k.val % 1536)
        else (m ((c.tc : Thread nD τ).loc main_arg2) : S8320x13824.Idx → EReal) (ix2 r k) : EReal)
  by_cases hk : k.val < 6144
  · rw [dif_pos hk, if_pos hk]
    by_cases hr : 112 ≤ r.val ∧ r.val - 112 < 8208
    · rw [dif_pos hr, side (lastE3 m c) (dgE3 m c)]
      simp only [show r.val - 112 + 112 = r.val by omega]
    · rw [dif_neg hr]
      exact (dxAt_front _ _ _ (by omega)).symm
  · rw [dif_neg hk, if_neg hk, after_unwritten _ line17_writes (by decide), after_unwritten line16bRefs line16b_writes (by decide),
      kept16 _ (by decide) (by decide), keptE3 m c main_arg2 (by decide), keptE2 m c main_arg2 (by decide),
      keptE1 m c main_arg2 (by decide), (argE0 m c).2]

end

end Cert.Retention.Ref

end
-- ==== Proof.NormBwdMath.lean ====
module

public import Idealize.ShloMosaic.PureOps.Ideal
public import Idealize.ShloMosaic.Lib.Pointwise

@[expose] public section

noncomputable section

/-! The gradient of a root-mean-square norm's row: the call scales and subtracts, the derivative of the plain norm adds the
two halves of the square's derivative. They agree on every row of extended reals: an infinite entry makes the norm's factor
zero in both, and otherwise the factor and the row are real, and a real number distributes over a sum. -/

namespace Cert.NormBwd.Math

open Idealize.ShloMosaic

/-- The number a row's mean square is divided by, and the number added to it. -/
theorem width : Ideal.ofBits FTy.f32 1149239296#32 = ((1024 : ℝ) : EReal) := by
  simp [Ideal.ofBits, Ideal.ieee]; rw [← EReal.coe_mul]; norm_num

theorem half : Ideal.ofBits FTy.f32 3204448256#32 = ((-(1 / 2) : ℝ) : EReal) := by
  simp [Ideal.ofBits, Ideal.ieee]; rw [← EReal.coe_mul]; norm_num

theorem small : ∃ e : ℝ, 0 < e ∧ Ideal.ofBits FTy.f32 897988541#32 = (e : EReal) := by
  refine ⟨8796093 * (2 ^ 43)⁻¹, by norm_num, ?_⟩
  simp [Ideal.ofBits, Ideal.ieee]

/-- A number distributes over a sum. -/
theorem scale_add (r : ℝ) (hr : 0 ≤ r) (x y : EReal) : (r : EReal) * (x + y) = (r : EReal) * x + (r : EReal) * y :=
  EReal.left_distrib_of_nonneg_of_ne_top (by exact_mod_cast hr) (EReal.coe_ne_top r) x y

/-- A sum of numbers is a number. -/
theorem coe_sum {n : ℕ} (f : Fin n → ℝ) : ((∑ k, f k : ℝ) : EReal) = ∑ k, (f k : EReal) := by
  classical
  induction (Finset.univ : Finset (Fin n)) using Finset.induction_on with
  | empty => simp
  | insert a s ha ih => rw [Finset.sum_insert ha, Finset.sum_insert ha, EReal.coe_add, ih]

/-- A row's mean square, with the small number added. -/
def ms (x : Fin 1024 → EReal) : EReal :=
  Ideal.div (∑ j, x j * x j) (Ideal.ofBits FTy.f32 1149239296#32) + Ideal.ofBits FTy.f32 897988541#32

/-- The mean square is infinite, or it is a positive number and so the row's entries are numbers. -/
theorem ms_cases (x : Fin 1024 → EReal) :
    ms x = ⊤ ∨ ∃ v : ℝ, 0 < v ∧ ms x = (v : EReal) ∧ ∃ y : Fin 1024 → ℝ, ∀ j, x j = (y j : EReal) := by
  obtain ⟨e, he, e'⟩ := small
  by_cases h : ∀ j, ∃ y : ℝ, x j = (y : EReal)
  · choose y hy using h
    refine .inr ⟨(∑ j, y j * y j) / 1024 + e, ?_, ?_, y, hy⟩
    · have : 0 ≤ ∑ j, y j * y j := Finset.sum_nonneg fun j _ => mul_self_nonneg _
      positivity
    · have hs : ∑ j, x j * x j = ((∑ j, y j * y j : ℝ) : EReal) := by
        rw [coe_sum]
        exact Finset.sum_congr rfl fun j _ => by rw [hy, EReal.coe_mul]
      rw [ms, hs, width, e', Ideal.div_coe (by norm_num), ← EReal.coe_mul, ← EReal.coe_add, mul_one_div]
  · push Not at h
    obtain ⟨j, hj⟩ := h
    have hsq : ∀ k, 0 ≤ x k * x k := fun k => by
      rcases le_total 0 (x k) with h0 | h0
      · exact mul_nonneg h0 h0
      · exact EReal.mul_nonneg_iff.mpr (.inr ⟨h0, h0⟩)
    have hjj : x j * x j = ⊤ := by
      induction hx : x j with
      | bot => simp
      | top => simp
      | coe y => exact absurd hx (hj y)
    have hs : ∑ k, x k * x k = ⊤ := top_le_iff.mp (hjj ▸ Finset.single_le_sum (f := fun k => x k * x k) (fun k _ => hsq k) (Finset.mem_univ j))
    refine .inl ?_
    rw [ms, hs, width, e', Ideal.div_coe (by norm_num), EReal.top_mul_coe_of_pos (by norm_num), EReal.top_add_coe]

/-- The reciprocal root of a positive number. -/
theorem rsqrt_pos {v : ℝ} (hv : 0 < v) : Ideal.rsqrt (v : EReal) = (((Real.sqrt v)⁻¹ : ℝ) : EReal) := by
  show (if v < 0 then (⊥ : EReal) else if v = 0 then ⊤ else _) = _
  rw [if_neg (not_lt.mpr hv.le), if_neg hv.ne']

/-- A number scales a sum term by term. -/
theorem scale_sum (r : ℝ) (hr : 0 ≤ r) {n : ℕ} (f : Fin n → EReal) : ∑ k, (r : EReal) * f k = (r : EReal) * ∑ k, f k := by
  classical
  induction (Finset.univ : Finset (Fin n)) using Finset.induction_on with
  | empty => simp
  | insert a s ha ih => rw [Finset.sum_insert ha, Finset.sum_insert ha, ih, scale_add r hr]

theorem add_self (x : EReal) : x + x = ((2 : ℝ) : EReal) * x := by
  induction x with
  | bot => rw [EReal.coe_mul_bot_of_pos (by norm_num)]; rfl
  | top => rw [EReal.coe_mul_top_of_pos (by norm_num)]; rfl
  | coe y => rw [← EReal.coe_add, ← EReal.coe_mul, two_mul]

/-- A row's gradient as the call computes it. -/
def callRow (x d : Fin 1024 → EReal) (e : EReal) (j : Fin 1024) : EReal :=
  e + Ideal.rsqrt (ms x) * (d j - x j * Ideal.rsqrt (ms x)
    * Ideal.div (∑ k, d k * (x k * Ideal.rsqrt (ms x))) (Ideal.ofBits FTy.f32 1149239296#32))

/-- The share of the square's derivative, in the plain derivative. -/
def share (x d : Fin 1024 → EReal) : EReal :=
  Ideal.div ((∑ k, x k * d k) * (Ideal.ofBits FTy.f32 3204448256#32 * Ideal.div (Ideal.rsqrt (ms x)) (ms x)))
    (Ideal.ofBits FTy.f32 1149239296#32)

/-- A row's gradient as the plain derivative. -/
def plainRow (x d : Fin 1024 → EReal) (e : EReal) (j : Fin 1024) : EReal :=
  e + d j * Ideal.rsqrt (ms x) + x j * share x d + share x d * x j

theorem callRow_eq (x d : Fin 1024 → EReal) (e : EReal) (j : Fin 1024) : callRow x d e j = plainRow x d e j := by
  unfold callRow plainRow share
  rw [width, half, Ideal.div_coe (by norm_num), Ideal.div_coe (by norm_num)]
  rcases ms_cases x with h | ⟨v, hv, h, y, hy⟩
  · have hr : Ideal.rsqrt (⊤ : EReal) = 0 := rfl
    have hd : Ideal.div 0 (⊤ : EReal) = 0 := by
      show (if (⊤ : EReal) = 0 then _ else 0 * (⊤ : EReal)⁻¹) = 0
      rw [if_neg (by simp), zero_mul]
    rw [h, hr, hd]
    simp only [mul_zero, zero_mul, add_zero]
  · have hrv : (Real.sqrt v)⁻¹ * (Real.sqrt v)⁻¹ = v⁻¹ := by rw [← mul_inv, Real.mul_self_sqrt hv.le]
    have hr0 : 0 ≤ (Real.sqrt v)⁻¹ := inv_nonneg.mpr (Real.sqrt_nonneg v)
    rw [h, rsqrt_pos hv]
    generalize (Real.sqrt v)⁻¹ = r at hrv hr0
    rw [Ideal.div_coe hv.ne', hy j]
    have hs : ∑ k, d k * (x k * (r : EReal)) = (r : EReal) * ∑ k, x k * d k := by
      rw [← scale_sum r hr0]
      exact Finset.sum_congr rfl fun k _ => by ac_rfl
    rw [hs]
    generalize ∑ k, x k * d k = T
    rw [sub_eq_add_neg, scale_add r hr0, add_assoc, add_assoc, mul_comm (d j) (r : EReal)]
    congr 2
    have e1 : (y j : EReal) * (T * (((-(1 / 2) : ℝ) : EReal) * ((r : EReal) * ((1 / v : ℝ) : EReal))) * ((1 / 1024 : ℝ) : EReal))
        = T * ((y j * (-(1 / 2) * (r * (1 / v))) * (1 / 1024) : ℝ) : EReal) := by
      simp only [EReal.coe_mul]; ac_rfl
    rw [mul_comm (T * _ * _) (y j : EReal), e1, add_self]
    have e2 : (r : EReal) * -((y j : EReal) * (r : EReal) * ((r : EReal) * T * ((1 / 1024 : ℝ) : EReal)))
        = T * ((-(r * y j * r * r * (1 / 1024)) : ℝ) : EReal) := by
      rw [EReal.coe_neg, mul_neg, mul_neg]; simp only [EReal.coe_mul]; congr 1; ac_rfl
    rw [e2, mul_left_comm, ← EReal.coe_mul]
    congr 2
    rw [one_div v, ← hrv]; ring

end Cert.NormBwd.Math

end
-- ==== Proof.Entry.lean ====
module

public import Idealize.ShloMosaic.Lib.Pointwise
public import Idealize.ShloMosaic.Lib.Tactic

@[expose] public section

set_option maxRecDepth 16384

noncomputable section

/-! Places of a matrix, and sums over all rows gathered from row blocks: what the calls for a single product have in common. -/

namespace Cert.Entry

open Idealize.ShloMosaic

theorem origin : (![0, 0] : Fin 2 → Nat) = fun _ => 0 := funext fun a => by fin_cases a <;> rfl

section
variable {a b : Nat}

/-- Two places of a matrix with the same row and the same column are one. -/
theorem ext {p q : (⟨2, ![a, b]⟩ : Shape).Idx} (h0 : (p 0).val = (q 0).val) (h1 : (p 1).val = (q 1).val) : p = q :=
  funext fun x => Fin.ext (match x with | ⟨0, _⟩ => h0 | ⟨1, _⟩ => h1)

/-- A place is its row and its column. -/
theorem split (y : (⟨2, ![a, b]⟩ : Shape).Idx) : ∃ (r : Fin a) (j : Fin b), y = ix2 r j := ⟨y 0, y 1, ext rfl rfl⟩
end

/-- A sum over all rows is the sum of its two halves. -/
theorem sum_halves (f : Fin 8320 → EReal) :
    ∑ r, f r = (∑ r : Fin 4160, f ⟨r.val, by omega⟩) + ∑ r : Fin 4160, f ⟨4160 + r.val, by omega⟩ :=
  Fin.sum_univ_add (a := 4160) (b := 4160) f

/-- And the sum of its five fifths, added one after the other. -/
theorem sum_fifths (f : Fin 8320 → EReal) :
    ∑ r, f r = (∑ r : Fin 1664, f ⟨r.val, by omega⟩) + (∑ r : Fin 1664, f ⟨1664 + r.val, by omega⟩)
      + (∑ r : Fin 1664, f ⟨3328 + r.val, by omega⟩) + (∑ r : Fin 1664, f ⟨4992 + r.val, by omega⟩)
      + ∑ r : Fin 1664, f ⟨6656 + r.val, by omega⟩ := by
  refine (Fin.sum_univ_add (a := 6656) (b := 1664) f).trans (congrArg (· + _) ?_)
  refine (Fin.sum_univ_add (a := 4992) (b := 1664) _).trans (congrArg (· + _) ?_)
  refine (Fin.sum_univ_add (a := 3328) (b := 1664) _).trans (congrArg (· + _) ?_)
  exact Fin.sum_univ_add (a := 1664) (b := 1664) _

end Cert.Entry

end
-- ==== Proof.NormBwdValue.lean ====
module

public import proofs.«01_k».proof.Proof.Gen.NormBwdIdeal.Value
public import proofs.«01_k».proof.Proof.Gen.NormBwdIdeal.Skeleton
public import proofs.«01_k».proof.Proof.NormBwdMath
public import proofs.«01_k».proof.Proof.Entry
public import Idealize.ShloMosaic.Lib.Pointwise
public import Idealize.ShloMosaic.Lib.Tactic
public import Idealize.ShloMosaic.Lib.Pipeline.ValueKit

@[expose] public section

set_option maxRecDepth 16384

noncomputable section

/-! The gradient through the projection and its norm, as the call leaves it: of every row the product with the weights is
gathered from three blocks of columns, then the norm's gradient is taken of the row, and the norm's weight gathers the
products of all rows. -/

namespace Cert.NormBwdValue

open Cert.NormBwdIdeal Cert.NormBwdIdeal.Gen Cert.NormBwd.Math
open Idealize.ShloMosaic Idealize.ShloMosaic.TcCoe Idealize.SL.Sem

section
variable {F : FTy → Type} [FloatOps F]

open Entry (origin)

section
variable (c : Dev nD) (i : grid0.Coords) (a2 : Memref sig .tc .vmem S640x4608 .bf16) (h2 : a2.IsWhole)
    (a3 : Memref sig .tc .vmem S1024x4608 .bf16) (h3 : a3.IsWhole) (a4 : Memref sig .tc .vmem S640x1024 .f32) (h4 : a4.IsWhole)
    (a5 : Memref sig .tc .vmem S1x1024 .f32) (h5 : a5.IsWhole) (a6 : Memref sig .tc .vmem S640x1024 .f32) (h6 : a6.IsWhole)
    (a8 : Memref sig .tc .vmem S640x1024 .f32) (h8 : a8.IsWhole) (a9 : Memref sig .tc .vmem S1x1024 .f32) (h9 : a9.IsWhole)
    (a10 : Memref sig .tc .vmem S640x1024 .f32) (h10 : a10.IsWhole)
    (x0 : Vec F S640x4608 .bf16) (x1 : Vec F S1024x4608 .bf16) (x2 : Vec F S640x1024 .f32) (x3 : Vec F S1x1024 .f32)
    (x4 : Vec F S640x1024 .f32) (xo : Vec F S1x1024 .f32) (xs : Vec F S640x1024 .f32)

/-- The first block of columns starts the row's product. -/
theorem first (hc0 : cond0_0 i) (hc1 : cond0_1 i) (hc2 : ¬cond0_2 i) (hc3 : ¬cond0_3 i) :
    sout0_A_0 c i a2 h2 a3 h3 a4 h4 a5 h5 a6 h6 a8 h8 a9 h9 a10 h10 hc0 hc1 hc2 hc3 x0 x1 x2 x3 x4 = k0_pay1 x0 x1 := by
  unfold sout0_A_0
  rw [View.read_writes_eq_canon _ _ _ (fun y => scover0_A_0 (y := y) ..)]
  unfold kernelRun0_A
  dsimp only
  sl_unfold_words
  rw [View.canon_unit_zero origin]
  unfold k0_pay2
  simp only [View.readAt_eq_ld, h2.read_unread, h3.read_unread, View.ld_unit_zero (S := ⟨2, ![_, _]⟩) origin, shapeCast_self]

/-- The second adds to it. -/
theorem second (hc0 : cond0_0 i) (hc1 : ¬cond0_1 i) (hc2 : cond0_2 i) (hc3 : ¬cond0_3 i) :
    sout0_B_0 c i a2 h2 a3 h3 a4 h4 a5 h5 a6 h6 a8 h8 a9 h9 a10 h10 hc0 hc1 hc2 hc3 x0 x1 x2 x3 x4 xs = addf xs (k0_pay1 x0 x1) := by
  unfold sout0_B_0
  rw [View.read_writes_eq_canon _ _ _ (fun y => scover0_B_0 (y := y) ..)]
  unfold kernelRun0_B
  dsimp only
  sl_unfold_words
  rw [View.canon_unit_zero origin]
  unfold k0_pay3
  simp only [View.readAt_eq_ld, h2.read_unread, h3.read_unread, h10.read_unread, View.ld_unit_zero (S := ⟨2, ![_, _]⟩) origin, shapeCast_self]

/-- The third adds to it and the rows' gradient is written. -/
theorem third_C (hc0 : cond0_0 i) (hc1 : ¬cond0_1 i) (hc2 : cond0_2 i) (hc3 : cond0_3 i) (hc4 : cond0_4 i) :
    out0_C_5 c i a2 h2 a3 h3 a4 h4 a5 h5 a6 h6 a8 h8 a9 h9 a10 h10 hc0 hc1 hc2 hc3 hc4 x0 x1 x2 x3 x4 xs
      = k0_pay6 x2 (addf xs (k0_pay1 x0 x1)) x3 x4 := by
  unfold out0_C_5
  rw [View.read_writes_eq_canon _ _ _ (fun y => cover0_C_5 (y := y) ..)]
  unfold kernelRun0_C
  dsimp only
  sl_unfold_words
  rw [View.canon_unit_zero origin]
  simp only [View.readCov_unit_zero (S := S640x1024) _ origin]
  unfold k0_pay3
  simp only [View.readAt_eq_ld, h2.read_unread, h3.read_unread, h4.read_unread, h5.read_unread, h6.read_unread, h10.read_unread,
    View.ld_unit_zero (S := ⟨2, ![_, _]⟩) origin, shapeCast_self]

theorem third_D (hc0 : cond0_0 i) (hc1 : ¬cond0_1 i) (hc2 : cond0_2 i) (hc3 : cond0_3 i) (hc4 : ¬cond0_4 i) :
    out0_D_5 c i a2 h2 a3 h3 a4 h4 a5 h5 a6 h6 a8 h8 a9 h9 a10 h10 hc0 hc1 hc2 hc3 hc4 x0 x1 x2 x3 x4 xo xs
      = k0_pay6 x2 (addf xs (k0_pay1 x0 x1)) x3 x4 := by
  unfold out0_D_5
  rw [View.read_writes_eq_canon _ _ _ (fun y => cover0_D_5 (y := y) ..)]
  unfold kernelRun0_D
  dsimp only
  sl_unfold_words
  rw [View.canon_unit_zero origin]
  simp only [View.readCov_unit_zero (S := S640x1024) _ origin]
  unfold k0_pay3
  simp only [View.readAt_eq_ld, h2.read_unread, h3.read_unread, h4.read_unread, h5.read_unread, h6.read_unread, h10.read_unread,
    View.ld_unit_zero (S := ⟨2, ![_, _]⟩) origin, shapeCast_self]

/-- The norm's weight gathers the rows' products, from zero at the first block of rows. -/
theorem weight_C (hc0 : cond0_0 i) (hc1 : ¬cond0_1 i) (hc2 : cond0_2 i) (hc3 : cond0_3 i) (hc4 : cond0_4 i) :
    out0_C_6 c i a2 h2 a3 h3 a4 h4 a5 h5 a6 h6 a8 h8 a9 h9 a10 h10 hc0 hc1 hc2 hc3 hc4 x0 x1 x2 x3 x4 xs
      = k0_pay8 x2 (addf xs (k0_pay1 x0 x1)) k0_pay7 := by
  unfold out0_C_6
  rw [View.read_writes_eq_canon _ _ _ (fun y => cover0_C_6 (y := y) ..)]
  unfold kernelRun0_C
  dsimp only
  sl_unfold_words
  rw [View.canon_cons_unit_zero (S := S1x1024) origin]
  simp only [View.readCov_unit_zero (S := S640x1024) _ origin, View.readCov_unit_zero (S := S1x1024) _ origin]
  unfold k0_pay3
  simp only [View.readAt_eq_ld, h2.read_unread, h3.read_unread, h4.read_unread, h10.read_unread,
    View.ld_unit_zero (S := ⟨2, ![_, _]⟩) origin, shapeCast_self]

theorem weight_D (hc0 : cond0_0 i) (hc1 : ¬cond0_1 i) (hc2 : cond0_2 i) (hc3 : cond0_3 i) (hc4 : ¬cond0_4 i) :
    out0_D_6 c i a2 h2 a3 h3 a4 h4 a5 h5 a6 h6 a8 h8 a9 h9 a10 h10 hc0 hc1 hc2 hc3 hc4 x0 x1 x2 x3 x4 xo xs
      = k0_pay8 x2 (addf xs (k0_pay1 x0 x1)) xo := by
  unfold out0_D_6
  rw [View.read_writes_eq_canon _ _ _ (fun y => cover0_D_6 (y := y) ..)]
  unfold kernelRun0_D
  dsimp only
  sl_unfold_words
  rw [View.canon_unit_zero origin]
  simp only [View.readCov_unit_zero (S := S640x1024) _ origin]
  unfold k0_pay3
  simp only [View.readAt_eq_ld, h2.read_unread, h3.read_unread, h4.read_unread, h9.read_unread, h10.read_unread,
    View.ld_unit_zero (S := ⟨2, ![_, _]⟩) origin, shapeCast_self]
end

variable (m : (ℓ : Loc nD τ sig) → Buf (Elt F) ℓ) (c : Dev nD)

/-- The rows' product with the weights, gathered over a block of rows' three points. -/
def prod (t : Fin cfg0.N) (h : t.val % 3 = 2) : FVec F S640x1024 .f32 :=
  addf (addf (k0_pay1 (iblk m c 0 ⟨t.val - 1 - 1, by omega⟩) (iblk m c 1 ⟨t.val - 1 - 1, by omega⟩))
    (k0_pay1 (iblk m c 0 ⟨t.val - 1, by omega⟩) (iblk m c 1 ⟨t.val - 1, by omega⟩))) (k0_pay1 (iblk m c 0 t) (iblk m c 1 t))

/-- What the two points before the third leave: the sum of their products, and the norm's weight as found. -/
theorem before_third (t : Fin cfg0.N) (h : t.val % 3 = 2) :
    (outsAt0 m c (t.val - 1) (by omega)).2.2
      = addf (k0_pay1 (iblk m c 0 ⟨t.val - 1 - 1, by omega⟩) (iblk m c 1 ⟨t.val - 1 - 1, by omega⟩))
        (k0_pay1 (iblk m c 0 ⟨t.val - 1, by omega⟩) (iblk m c 1 ⟨t.val - 1, by omega⟩)) := by
  rw [show outsAt0 m c (t.val - 1) _ = _ from
    outsAt0_B m c ⟨t.val - 1, by omega⟩ (by dsimp only; omega) (by dsimp only; omega) (by dsimp only; omega)]
  dsimp only
  rw [second]
  congr 1
  rw [show outsAt0 m c (t.val - 1 - 1) _ = _ from
    outsAt0_A m c ⟨t.val - 1 - 1, by omega⟩ (by dsimp only; omega) (by dsimp only; omega) (by dsimp only; omega)]
  dsimp only
  rw [first]

/-- A block of rows' gradient. -/
theorem rows_after (t : Fin cfg0.N) (h : t.val % 3 = 2) :
    (outsAt0 m c t.val t.isLt).1 = k0_pay6 (iblk m c 2 t) (prod m c t h) (iblk m c 3 t) (iblk m c 4 t) := by
  by_cases h4 : t.val < 3
  · rw [outsAt0_C m c t (by omega) (by omega) h h4]
    dsimp only
    rw [third_C, before_third m c t h]
    rfl
  · rw [outsAt0_D m c t (by omega) (by omega) h h4]
    dsimp only
    rw [third_D, before_third m c t h]
    rfl

/-- The norm's weight after the first block of rows, and after a later one. -/
theorem weight_first (t : Fin cfg0.N) (h : t.val % 3 = 2) (h4 : t.val < 3) :
    (outsAt0 m c t.val t.isLt).2.1 = k0_pay8 (iblk m c 2 t) (prod m c t h) k0_pay7 := by
  rw [outsAt0_C m c t (by omega) (by omega) h h4]
  dsimp only
  rw [weight_C, before_third m c t h]
  rfl

theorem weight_later (t : Fin cfg0.N) (h : t.val % 3 = 2) (h4 : ¬t.val < 3) :
    (outsAt0 m c t.val t.isLt).2.1
      = k0_pay8 (iblk m c 2 t) (prod m c t h) (outsAt0 m c (t.val - 1 - 1 - 1) (by omega)).2.1 := by
  rw [outsAt0_D m c t (by omega) (by omega) h h4]
  dsimp only
  rw [weight_D, before_third m c t h]
  have e : (outsAt0 m c (t.val - 1) (by omega)).2.1 = (outsAt0 m c (t.val - 1 - 1 - 1) (by omega)).2.1 := by
    rw [show outsAt0 m c (t.val - 1) _ = _ from
      outsAt0_B m c ⟨t.val - 1, by omega⟩ (by dsimp only; omega) (by dsimp only; omega) (by dsimp only; omega)]
    dsimp only [out0_B_6]
    rw [show outsAt0 m c (t.val - 1 - 1) _ = _ from
      outsAt0_A m c ⟨t.val - 1 - 1, by omega⟩ (by dsimp only; omega) (by dsimp only; omega) (by dsimp only; omega)]
    dsimp only [out0_A_6]
  rw [e]
  rfl

end

section
variable (m : (ℓ : Loc nD τ sig) → Buf (Elt Ideal) ℓ) (c : Dev nD)

/-- The gradient of the projection's columns, the weights, the rows, the norm's weight and the gradient added at the end. -/
abbrev ds (r : Fin 8320) (k : Fin 13824) : EReal := (m ((c : Thread nD τ).loc main_arg0) : S8320x13824.Idx → EReal) (ix2 r k)
abbrev ws (j : Fin 1024) (k : Fin 13824) : EReal := (m ((c : Thread nD τ).loc main_arg1) : S1024x13824.Idx → EReal) (ix2 j k)
abbrev hs (r : Fin 8320) (j : Fin 1024) : EReal := (m ((c : Thread nD τ).loc main_arg2) : S8320x1024.Idx → EReal) (ix2 r j)
abbrev nw (j : Fin 1024) : EReal := (m ((c : Thread nD τ).loc main_arg3) : S1x1024.Idx → EReal) (ix2 0 j)
abbrev es (r : Fin 8320) (j : Fin 1024) : EReal := (m ((c : Thread nD τ).loc main_arg4) : S8320x1024.Idx → EReal) (ix2 r j)

/-- A row's product with the weights. -/
def dy (r : Fin 8320) (j : Fin 1024) : EReal := ∑ k, ds m c r k * ws m c j k

theorem index0 : ∀ t : Fin cfg0.N, (win0_0.index t (0 : Fin 2) = t.val / 3 ∧ win0_0.index t (1 : Fin 2) = t.val % 3)
    ∧ (win0_1.index t (0 : Fin 2) = 0 ∧ win0_1.index t (1 : Fin 2) = t.val % 3)
    ∧ (win0_2.index t (0 : Fin 2) = t.val / 3 ∧ win0_2.index t (1 : Fin 2) = 0)
    ∧ (win0_3.index t (0 : Fin 2) = 0 ∧ win0_3.index t (1 : Fin 2) = 0)
    ∧ (win0_4.index t (0 : Fin 2) = t.val / 3 ∧ win0_4.index t (1 : Fin 2) = 0)
    ∧ (win0_5.index t (0 : Fin 2) = t.val / 3 ∧ win0_5.index t (1 : Fin 2) = 0)
    ∧ (win0_6.index t (0 : Fin 2) = 0 ∧ win0_6.index t (1 : Fin 2) = 0) :=
  (by decide +kernel : ∀ t : Fin grid0.N, _)

/-- The blocks a point reads, by row and column of their arrays. -/
theorem block0 (t : Fin cfg0.N) (p : Fin 640) (k : Fin 4608) (h : 640 * (t.val / 3) + p.val < 8320)
    (h' : 4608 * (t.val % 3) + k.val < 13824) :
    (iblk m c 0 t : S640x4608.Idx → EReal) (ix2 p k) = ds m c ⟨640 * (t.val / 3) + p.val, h⟩ ⟨4608 * (t.val % 3) + k.val, h'⟩ := by
  unfold iblk
  rw [View.read_apply]
  exact congrArg (m (c.tc.loc main_arg0)) (Entry.ext (by show win0_0.index t 0 * 640 + 1 * p.val = 640 * (t.val / 3) + p.val; rw [(index0 t).1.1]; omega) (by show win0_0.index t 1 * 4608 + 1 * k.val = 4608 * (t.val % 3) + k.val; rw [(index0 t).1.2]; omega))

theorem block1 (t : Fin cfg0.N) (j : Fin 1024) (k : Fin 4608) (h' : 4608 * (t.val % 3) + k.val < 13824) :
    (iblk m c 1 t : S1024x4608.Idx → EReal) (ix2 j k) = ws m c j ⟨4608 * (t.val % 3) + k.val, h'⟩ := by
  unfold iblk
  rw [View.read_apply]
  exact congrArg (m (c.tc.loc main_arg1)) (Entry.ext (by show win0_1.index t 0 * 1024 + 1 * j.val = j.val; rw [(index0 t).2.1.1]; omega) (by show win0_1.index t 1 * 4608 + 1 * k.val = 4608 * (t.val % 3) + k.val; rw [(index0 t).2.1.2]; omega))

theorem block2 (t : Fin cfg0.N) (p : Fin 640) (j : Fin 1024) (h : 640 * (t.val / 3) + p.val < 8320) :
    (iblk m c 2 t : S640x1024.Idx → EReal) (ix2 p j) = hs m c ⟨640 * (t.val / 3) + p.val, h⟩ j := by
  unfold iblk
  rw [View.read_apply]
  exact congrArg (m (c.tc.loc main_arg2)) (Entry.ext (by show win0_2.index t 0 * 640 + 1 * p.val = 640 * (t.val / 3) + p.val; rw [(index0 t).2.2.1.1]; omega) (by show win0_2.index t 1 * 1024 + 1 * j.val = j.val; rw [(index0 t).2.2.1.2]; omega))

theorem block3 (t : Fin cfg0.N) (j : Fin 1024) : (iblk m c 3 t : S1x1024.Idx → EReal) (ix2 0 j) = nw m c j := by
  unfold iblk
  rw [View.read_apply]
  exact congrArg (m (c.tc.loc main_arg3)) (Entry.ext (by show win0_3.index t 0 * 1 + 1 * 0 = 0; rw [(index0 t).2.2.2.1.1]) (by show win0_3.index t 1 * 1024 + 1 * j.val = j.val; rw [(index0 t).2.2.2.1.2]; omega))

theorem block4 (t : Fin cfg0.N) (p : Fin 640) (j : Fin 1024) (h : 640 * (t.val / 3) + p.val < 8320) :
    (iblk m c 4 t : S640x1024.Idx → EReal) (ix2 p j) = es m c ⟨640 * (t.val / 3) + p.val, h⟩ j := by
  unfold iblk
  rw [View.read_apply]
  exact congrArg (m (c.tc.loc main_arg4)) (Entry.ext (by show win0_4.index t 0 * 640 + 1 * p.val = 640 * (t.val / 3) + p.val; rw [(index0 t).2.2.2.2.1.1]; omega) (by show win0_4.index t 1 * 1024 + 1 * j.val = j.val; rw [(index0 t).2.2.2.2.1.2]; omega))

/-- The payloads at an entry. -/
theorem product_at (x : FVec Ideal S640x4608 .bf16) (w : FVec Ideal S1024x4608 .bf16) (p : Fin 640) (j : Fin 1024) :
    k0_pay1 (F := Ideal) x w (ix2 p j) = ∑ k : Fin 4608, x (ix2 p k) * w (ix2 j k) := by
  pointwise [k0_pay1]

theorem row_at (x a : FVec Ideal S640x1024 .f32) (w : FVec Ideal S1x1024 .f32) (e : FVec Ideal S640x1024 .f32) (p : Fin 640) (j : Fin 1024) :
    k0_pay6 (F := Ideal) x a w e (ix2 p j)
      = callRow (fun j => x (ix2 p j)) (fun j => a (ix2 p j) * w (ix2 0 j)) (e (ix2 p j)) j := by
  pointwise [k0_pay6, k0_pay5, k0_pay4]
  rfl

theorem weight_at (x a : FVec Ideal S640x1024 .f32) (w : FVec Ideal S1x1024 .f32) (j : Fin 1024) :
    k0_pay8 (F := Ideal) x a w (ix2 0 j)
      = w (ix2 0 j) + ∑ p : Fin 640, a (ix2 p j) * (x (ix2 p j) * Ideal.rsqrt (ms fun j => x (ix2 p j))) := by
  pointwise [k0_pay8, k0_pay5, k0_pay4]
  rfl

theorem zero_at (j : Fin 1024) : k0_pay7 (F := Ideal) (ix2 0 j) = 0 := by
  pointwise [k0_pay7]

/-- A sum over all columns is the sum of its three blocks. -/
theorem sum_thirds (f : Fin 13824 → EReal) :
    ∑ k, f k = ((∑ k : Fin 4608, f ⟨k.val, by omega⟩) + ∑ k : Fin 4608, f ⟨4608 + k.val, by omega⟩)
      + ∑ k : Fin 4608, f ⟨9216 + k.val, by omega⟩ :=
  (Fin.sum_univ_add (a := 9216) (b := 4608) f).trans
    (congrArg (· + _) (Fin.sum_univ_add (a := 4608) (b := 4608) fun k => f (Fin.castAdd 4608 k)))

/-- The gathered product at an entry. -/
theorem prod_at (t : Fin cfg0.N) (ht : t.val % 3 = 2) (p : Fin 640) (j : Fin 1024) (h : 640 * (t.val / 3) + p.val < 8320) :
    prod m c t ht (ix2 p j) = dy m c ⟨640 * (t.val / 3) + p.val, h⟩ j := by
  show ((k0_pay1 (F := Ideal) _ _ (ix2 p j) : EReal) + k0_pay1 (F := Ideal) _ _ (ix2 p j)) + k0_pay1 (F := Ideal) _ _ (ix2 p j) = _
  rw [product_at, product_at, product_at, dy, sum_thirds]
  congr 1
  · congr 1
    · refine Finset.sum_congr rfl fun k _ => ?_
      rw [block0 m c _ p k (by dsimp only; omega) (by dsimp only; omega), block1 m c _ j k (by dsimp only; omega)]
      congr 2 <;> (apply Fin.ext; dsimp only; omega)
    · refine Finset.sum_congr rfl fun k _ => ?_
      rw [block0 m c _ p k (by dsimp only; omega) (by dsimp only; omega), block1 m c _ j k (by dsimp only; omega)]
      congr 2 <;> (apply Fin.ext; dsimp only; omega)
  · refine Finset.sum_congr rfl fun k _ => ?_
    rw [block0 m c _ p k (by omega) (by omega), block1 m c _ j k (by omega)]
    congr 2 <;> (apply Fin.ext; dsimp only; omega)

/-- The rows' gradient, by row and column. -/
def dh (r : Fin 8320) (j : Fin 1024) : EReal :=
  callRow (hs m c r) (fun j => dy m c r j * nw m c j) (es m c r j) j

/-- A row's share in the norm's weight. -/
def dw (r : Fin 8320) (j : Fin 1024) : EReal := dy m c r j * (hs m c r j * Ideal.rsqrt (ms (hs m c r)))

theorem rows_at (t : Fin cfg0.N) (ht : t.val % 3 = 2) (p : Fin 640) (j : Fin 1024) (h : 640 * (t.val / 3) + p.val < 8320) :
    ((outsAt0 m c t.val t.isLt).1 : S640x1024.Idx → EReal) (ix2 p j) = dh m c ⟨640 * (t.val / 3) + p.val, h⟩ j := by
  rw [rows_after m c t ht]
  refine (row_at _ _ _ _ p j).trans ?_
  simp only [block2 m c t p _ h, block3 m c t, block4 m c t p _ h, prod_at m c t ht p _ h]
  rfl

/-- A block of rows and its gathered product, by entry. -/
abbrev hblk (t : Fin cfg0.N) (p : Fin 640) (j : Fin 1024) : EReal := (iblk m c 2 t : S640x1024.Idx → EReal) (ix2 p j)
abbrev pblk (t : Fin cfg0.N) (h : t.val % 3 = 2) (p : Fin 640) (j : Fin 1024) : EReal := (prod m c t h : S640x1024.Idx → EReal) (ix2 p j)

/-- The norm's weight after `a + 1` blocks of rows: the sum over their rows. -/
theorem weights_at (j : Fin 1024) : ∀ (a : ℕ) (h : 3 * a + 2 < cfg0.N),
    ((outsAt0 m c (3 * a + 2) h).2.1 : S1x1024.Idx → EReal) (ix2 0 j)
      = ∑ r ∈ Finset.range (640 * (a + 1)), if hr : r < 8320 then dw m c ⟨r, hr⟩ j else 0 := by
  have hN : cfg0.N = 39 := N_0
  have part (a : ℕ) (h : 3 * a + 2 < cfg0.N) :
      ∑ p : Fin 640, pblk m c ⟨3 * a + 2, h⟩ (by dsimp only; omega) p j
          * (hblk m c ⟨3 * a + 2, h⟩ p j * Ideal.rsqrt (ms fun j => hblk m c ⟨3 * a + 2, h⟩ p j))
        = ∑ p ∈ Finset.range 640, if hr : 640 * a + p < 8320 then dw m c ⟨640 * a + p, hr⟩ j else 0 := by
    rw [Finset.sum_range]
    refine Finset.sum_congr rfl fun p _ => ?_
    have hp : 640 * ((3 * a + 2) / 3) + p.val < 8320 := by omega
    have e : (3 * a + 2) / 3 = a := by omega
    have ep : pblk m c ⟨3 * a + 2, h⟩ (by dsimp only; omega) p j = dy m c ⟨640 * ((3 * a + 2) / 3) + p.val, hp⟩ j :=
      prod_at m c ⟨3 * a + 2, h⟩ (by dsimp only; omega) p j hp
    have eh (j : Fin 1024) : hblk m c ⟨3 * a + 2, h⟩ p j = hs m c ⟨640 * ((3 * a + 2) / 3) + p.val, hp⟩ j :=
      block2 m c ⟨3 * a + 2, h⟩ p j hp
    rw [dif_pos (by omega), ep]
    simp only [eh, e]
    rfl
  intro a
  induction a with
  | zero =>
    intro h
    rw [weight_first m c ⟨3 * 0 + 2, h⟩ (by dsimp only) (by dsimp only; omega)]
    refine (weight_at _ _ _ j).trans ?_
    rw [zero_at, zero_add]
    refine (part 0 h).trans ?_
    simp only [Nat.mul_zero, Nat.zero_add, Nat.mul_one]
  | succ a ih =>
    intro h
    rw [weight_later m c ⟨3 * (a + 1) + 2, h⟩ (by dsimp only; omega) (by dsimp only; omega)]
    refine (weight_at _ _ _ j).trans ?_
    have e : outsAt0 m c (3 * (a + 1) + 2 - 1 - 1 - 1) (by omega) = outsAt0 m c (3 * a + 2) (by omega) := by
      congr 1
    rw [show 640 * (a + 1 + 1) = 640 * (a + 1) + 640 from by omega, Finset.sum_range_add]
    have h1 : ((outsAt0 m c (3 * (a + 1) + 2 - 1 - 1 - 1) (by omega)).2.1 : S1x1024.Idx → EReal) (ix2 0 j)
        = ∑ r ∈ Finset.range (640 * (a + 1)), if hr : r < 8320 then dw m c ⟨r, hr⟩ j else 0 := by
      rw [e]; exact ih (by omega)
    exact congrArg₂ (· + ·) h1 (part (a + 1) h)

/-- The rows' gradient's array after the call. -/
theorem rows_array : (dats m 0 c).arrAt 5 cfg0.N = (fun i : S8320x1024.Idx => dh m c (i 0) (i 1)) := by
  refine (dats m 0 c).arrAt_eq_of_covers 5 _ (by decide +kernel) fun t hf y => ?_
  have hN : cfg0.grid.N = 39 := N_0
  have ht : t.val % 3 = 2 := (flush0_5 t).mp hf
  have e5 := (index0 t).2.2.2.2.2.1
  have h0 : (y 0).val < 640 := (y 0).isLt
  have h1 : (y 1).val < 1024 := (y 1).isLt
  have hp : 640 * (t.val / 3) + (y 0).val < 8320 := by have := t.isLt; omega
  blk_simp [e5]
  rw [after0_5]
  have hy : y = ix2 (⟨(y 0).val, h0⟩ : Fin 640) (⟨(y 1).val, h1⟩ : Fin 1024) := by
    funext a; match a with | ⟨0, _⟩ => rfl | ⟨1, _⟩ => rfl
  have g0 : (((win0_5.blk t).view.emb y 0 : Fin 8320)) = ⟨640 * (t.val / 3) + (y 0).val, hp⟩ :=
    Fin.ext (by show win0_5.index t 0 * 640 + 1 * (y 0).val = _; rw [e5.1]; dsimp only; omega)
  have g1 : (((win0_5.blk t).view.emb y 1 : Fin 1024)) = ⟨(y 1).val, h1⟩ :=
    Fin.ext (by show win0_5.index t 1 * 1024 + 1 * (y 1).val = _; rw [e5.2]; dsimp only; omega)
  rw [g0, g1]
  exact (congrArg (outsAt0 m c t.val t.isLt).1 hy).trans (rows_at m c t ht ⟨(y 0).val, h0⟩ ⟨(y 1).val, h1⟩ hp)

/-- The norm's weight's array after the call. -/
theorem weights_array : (dats m 0 c).arrAt 6 cfg0.N = (fun i : S1x1024.Idx => ∑ r, dw m c r (i 1)) := by
  refine (dats m 0 c).arrAt_eq_of_covers 6 _ (by decide +kernel) fun t hf y => ?_
  have hN : cfg0.grid.N = 39 := N_0
  have ht : t.val % 39 = 38 := (flush0_6 t).mp hf
  have e6 := (index0 t).2.2.2.2.2.2
  have h0 : (y 0).val < 1 := (y 0).isLt
  have h1 : (y 1).val < 1024 := (y 1).isLt
  blk_simp [e6]
  rw [after0_6]
  have hy : y = ix2 (0 : Fin 1) (⟨(y 1).val, h1⟩ : Fin 1024) := by
    funext a; match a with | ⟨0, _⟩ => exact Fin.ext (by show (y 0).val = 0; omega) | ⟨1, _⟩ => rfl
  have g1 : (((win0_6.blk t).view.emb y 1 : Fin 1024)) = ⟨(y 1).val, h1⟩ :=
    Fin.ext (by show win0_6.index t 1 * 1024 + 1 * (y 1).val = _; rw [e6.2]; dsimp only; omega)
  have hw := weights_at m c ⟨(y 1).val, h1⟩ 12 (by show 38 < cfg0.grid.N; omega)
  rw [g1]
  have hs : (∑ r ∈ Finset.range (640 * (12 + 1)), if hr : r < 8320 then dw m c ⟨r, hr⟩ ⟨(y 1).val, h1⟩ else 0 : EReal)
      = ∑ r, dw m c r ⟨(y 1).val, h1⟩ := by
    rw [Finset.sum_range]
    exact Finset.sum_congr rfl fun r _ => dif_pos r.isLt
  have et : outsAt0 m c t.val t.isLt = outsAt0 m c (3 * 12 + 2) (by show 38 < cfg0.grid.N; omega) := by
    congr 1; have := t.isLt; omega
  rw [et]
  exact (congrArg (outsAt0 m c (3 * 12 + 2) _).2.1 hy).trans (hw.trans hs)

end

end Cert.NormBwdValue

end
-- ==== Proof.NormBwdRef.lean ====
module

public import proofs.«01_k».proof.Proof.Gen.NormBwdRefIdeal.Run
public import proofs.«01_k».proof.Proof.NormBwdMath
public import Idealize.ShloMosaic.Lib.Pointwise

@[expose] public section

set_option maxRecDepth 16384

noncomputable section

/-! The reference's gradients through the projection and its norm, at an entry. -/

namespace Cert.NormBwdRef

open Cert.NormBwdRefIdeal Cert.NormBwdRefIdeal.Gen Cert.NormBwd.Math
open Idealize.ShloMosaic Idealize.ShloMosaic.TcCoe Idealize.SL.Sem

section
variable (m : (ℓ : Loc nD τ sig) → Buf (Elt Ideal) ℓ) (c : Dev nD)

/-- The reference's arguments, as matrices. -/
abbrev ds (r : Fin 8320) (k : Fin 13824) : EReal := (m (c.tc.loc main_arg0) : S8320x13824.Idx → EReal) (ix2 r k)
abbrev ws (j : Fin 1024) (k : Fin 13824) : EReal := (m (c.tc.loc main_arg1) : S1024x13824.Idx → EReal) (ix2 j k)
abbrev hs (r : Fin 8320) (j : Fin 1024) : EReal := (m (c.tc.loc main_arg2) : S8320x1024.Idx → EReal) (ix2 r j)
abbrev nw (j : Fin 1024) : EReal := (m (c.tc.loc main_arg3) : S1x1024.Idx → EReal) (ix2 0 j)
abbrev es (r : Fin 8320) (j : Fin 1024) : EReal := (m (c.tc.loc main_arg4) : S8320x1024.Idx → EReal) (ix2 r j)

/-- The rows' gradient: the plain derivative of the norm. -/
theorem rows_at (r : Fin 8320) (j : Fin 1024) :
    (Value.res_main_v38 (F := Ideal) m c : S8320x1024.Idx → EReal) (ix2 r j)
      = plainRow (hs m c r) (fun j => (∑ k, ds m c r k * ws m c j k) * nw m c j) (es m c r j) j := by
  unfold Value.res_main_v38
  pointwise
  simp only [Finset.univ_unique, Finset.sum_singleton]
  rfl

/-- The norm's weight: the sum of the rows' products. -/
theorem weights_at (d : FVec Ideal S8320x13824 .bf16) (w : FVec Ideal S1024x13824 .bf16) (x : FVec Ideal S8320x1024 .f32)
    (j : Fin 1024) :
    shapeCast S1x1024 (Host.reduceAdd (F := Ideal) (mulf (mulf x (broadcastInDim S8320x1024 ![0, 1] bcast_S8320x1_S8320x1024_0_1
      (Host.rsqrt (addf (Host.divf (broadcastInDim S8320x1 ![0] bcast_S8320_S8320x1_0 (Host.reduceAdd (mulf x x) (constant S_ .f32 0x00000000#32) reducesTo_S8320x1024_S8320_d1 h_S_))
        (broadcastInDim S8320x1 ![] bcast_S_S8320x1 (constant S_ .f32 0x44800000#32))) (broadcastInDim S8320x1 ![] bcast_S_S8320x1 (constant S_ .f32 0x358637BD#32))))))
      (Host.dotGeneral dot_S8320x13824_S1024x13824_S8320x1024_1_1_0_0_n_n none (extf .f32 d bitsLt_bf16_f32) (extf .f32 w bitsLt_bf16_f32)))
      (constant S_ .f32 0x00000000#32) reducesTo_S8320x1024_S1024_d0 h_S_) shapeCasts_S1024_S1x1024 (ix2 0 j)
      = ∑ r, (∑ k, d (ix2 r k) * w (ix2 j k)) * (x (ix2 r j) * Ideal.rsqrt (ms fun j => x (ix2 r j))) := by
  pointwise
  exact Finset.sum_congr rfl fun r _ => mul_comm _ _

end

end Cert.NormBwdRef

end
-- ==== Proof.NormBwdClaims.lean ====
module

public import proofs.«01_k».proof.Defs
public import proofs.«01_k».proof.Proof.Gen.NormBwd
public import proofs.«01_k».proof.Proof.NormBwdValue
public import proofs.«01_k».proof.Proof.NormBwdRef
public import Idealize.ShloMosaic.Lib.Quiescent
public import Idealize.ShloMosaic.Lib.Tactic

@[expose] public section

set_option maxRecDepth 16384

noncomputable section

/-! The claims about the gradient through the projection and its norm. -/

namespace Cert.NormBwdClaims

open Idealize.ShloMosaic Idealize.SL.Sem

/-- The program over words is the text of the program over extended reals, read over words. -/
theorem same_text : Cert.quiescent_NormBwd (hNormBwd := Cert.NormBwd.Gen.facts)
    = (∀ (m : (ℓ : Loc Cert.NormBwdIdeal.nD Cert.NormBwdIdeal.τ Cert.NormBwdIdeal.sig) → Buf (Elt Bits) ℓ) (ρ : Dev Cert.NormBwdIdeal.nD → PrngReg), True →
      θ_run (Cert.NormBwdIdeal.defs (F := Bits)) (onTc (τ := Cert.NormBwdIdeal.τ) (Cert.NormBwdIdeal.main (F := Bits))) ⟨m, fun _ => 0, ρ⟩ (fun r =>
        (∀ c : Dev Cert.NormBwdIdeal.nD, r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
          ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
          ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4)
          ∧ r.2.mem ((c.tc : Thread Cert.NormBwdIdeal.nD Cert.NormBwdIdeal.τ).loc Cert.NormBwdIdeal.main_arg5) = m ((c.tc : Thread Cert.NormBwdIdeal.nD Cert.NormBwdIdeal.τ).loc Cert.NormBwdIdeal.main_arg5))
          ∧ r.2.sem = fun _ => 0)) := by
  chain_rfl

/-- Both programs end, their arguments as they were and every semaphore at zero. -/
theorem frame_words : Cert.quiescent_NormBwd (hNormBwd := Cert.NormBwd.Gen.facts) :=
  same_text.mpr fun m ρ _ => Cert.NormBwdIdeal.Gen.frame (F := Bits) m ρ

theorem frame_ideal : Cert.quiescent_NormBwdIdeal (hNormBwdIdeal := Cert.NormBwdIdeal.Gen.facts) := fun m ρ _ =>
  Cert.NormBwdIdeal.Gen.frame (F := Ideal) m ρ

/-- So does the reference. -/
theorem frame_reference : Cert.quiescent_NormBwdRefIdeal (hNormBwdRefIdeal := Cert.NormBwdRefIdeal.Gen.facts) := fun m ρ _ =>
  (θ_run _ _ _).mono (fun r h => ⟨fun c => (h c).2.2, sem_eq_zero_of_no_sems (by decide) r.2⟩)
    (Cert.NormBwdRefIdeal.Value.run (F := Ideal) m ρ)

section
variable (m : (ℓ : Loc Cert.NormBwdIdeal.nD Cert.NormBwdIdeal.τ Cert.NormBwdIdeal.sig) → Buf (Elt Ideal) ℓ) (ρ : Dev Cert.NormBwdIdeal.nD → PrngReg)
variable (m' : (ℓ : Loc Cert.NormBwdRefIdeal.nD Cert.NormBwdRefIdeal.τ Cert.NormBwdRefIdeal.sig) → Buf (Elt Ideal) ℓ) (c : Dev Cert.NormBwdIdeal.nD)

/-- The two programs' memories hold the same arguments on a device. -/
def SameArgs : Prop :=
  m' ((c.tc : Thread Cert.NormBwdRefIdeal.nD Cert.NormBwdRefIdeal.τ).loc Cert.NormBwdRefIdeal.main_arg0) = m ((c.tc : Thread Cert.NormBwdIdeal.nD Cert.NormBwdIdeal.τ).loc Cert.NormBwdIdeal.main_arg0)
  ∧ m' ((c.tc : Thread Cert.NormBwdRefIdeal.nD Cert.NormBwdRefIdeal.τ).loc Cert.NormBwdRefIdeal.main_arg1) = m ((c.tc : Thread Cert.NormBwdIdeal.nD Cert.NormBwdIdeal.τ).loc Cert.NormBwdIdeal.main_arg1)
  ∧ m' ((c.tc : Thread Cert.NormBwdRefIdeal.nD Cert.NormBwdRefIdeal.τ).loc Cert.NormBwdRefIdeal.main_arg2) = m ((c.tc : Thread Cert.NormBwdIdeal.nD Cert.NormBwdIdeal.τ).loc Cert.NormBwdIdeal.main_arg2)
  ∧ m' ((c.tc : Thread Cert.NormBwdRefIdeal.nD Cert.NormBwdRefIdeal.τ).loc Cert.NormBwdRefIdeal.main_arg3) = m ((c.tc : Thread Cert.NormBwdIdeal.nD Cert.NormBwdIdeal.τ).loc Cert.NormBwdIdeal.main_arg3)
  ∧ m' ((c.tc : Thread Cert.NormBwdRefIdeal.nD Cert.NormBwdRefIdeal.τ).loc Cert.NormBwdRefIdeal.main_arg4) = m ((c.tc : Thread Cert.NormBwdIdeal.nD Cert.NormBwdIdeal.τ).loc Cert.NormBwdIdeal.main_arg4)
  ∧ m' ((c.tc : Thread Cert.NormBwdRefIdeal.nD Cert.NormBwdRefIdeal.τ).loc Cert.NormBwdRefIdeal.main_arg5) = m ((c.tc : Thread Cert.NormBwdIdeal.nD Cert.NormBwdIdeal.τ).loc Cert.NormBwdIdeal.main_arg5)

/-- The call's results, by entry. -/
abbrev rows : Cert.NormBwdIdeal.S8320x1024.Idx → EReal := fun i => Cert.NormBwdValue.dh m c (i 0) (i 1)
abbrev weights : Cert.NormBwdIdeal.S1x1024.Idx → EReal := fun i => ∑ r, Cert.NormBwdValue.dw m c r (i 1)

variable {m m' c}

theorem same_ds (same : SameArgs m m' c) : Cert.NormBwdRef.ds m' c = Cert.NormBwdValue.ds m c := by
  funext r k; exact congrFun same.1 (ix2 r k)
theorem same_ws (same : SameArgs m m' c) : Cert.NormBwdRef.ws m' c = Cert.NormBwdValue.ws m c := by
  funext r k; exact congrFun same.2.1 (ix2 r k)
theorem same_hs (same : SameArgs m m' c) : Cert.NormBwdRef.hs m' c = Cert.NormBwdValue.hs m c := by
  funext r k; exact congrFun same.2.2.1 (ix2 r k)
theorem same_nw (same : SameArgs m m' c) : Cert.NormBwdRef.nw m' c = Cert.NormBwdValue.nw m c := by
  funext k; exact congrFun same.2.2.2.1 (ix2 0 k)
theorem same_es (same : SameArgs m m' c) : Cert.NormBwdRef.es m' c = Cert.NormBwdValue.es m c := by
  funext r k; exact congrFun same.2.2.2.2.1 (ix2 r k)

/-- From the same arguments, the same gradient of the rows. -/
theorem same_rows (same : SameArgs m m' c) :
    (Cert.NormBwdRefIdeal.Value.res_main_v38 (F := Ideal) m' c : Cert.NormBwdRefIdeal.S8320x1024.Idx → EReal)
      = rows m c := by
  funext y
  have hy : y = ix2 (y 0 : Fin 8320) (y 1 : Fin 1024) := by
    funext a; match a with | ⟨0, _⟩ => rfl | ⟨1, _⟩ => rfl
  refine (congrArg _ hy).trans ((Cert.NormBwdRef.rows_at m' c _ _).trans ?_)
  rw [same_ds same, same_ws same, same_hs same, same_nw same, same_es same]
  exact (Cert.NormBwd.Math.callRow_eq _ _ _ _).symm

section
open Cert.NormBwdRefIdeal Cert.NormBwdRefIdeal.Gen
/-- From the same arguments, the same gradient of the norm's weight. -/
theorem same_weights (same : SameArgs m m' c) :
    (shapeCast S1x1024 (Host.reduceAdd (F := Ideal) (mulf (mulf (m' ((c.tc : Thread Cert.NormBwdRefIdeal.nD Cert.NormBwdRefIdeal.τ).loc Cert.NormBwdRefIdeal.main_arg2)) (broadcastInDim S8320x1024 ![0, 1] bcast_S8320x1_S8320x1024_0_1 (Host.rsqrt (addf (Host.divf (broadcastInDim S8320x1 ![0] bcast_S8320_S8320x1_0 (Host.reduceAdd (mulf (m' ((c.tc : Thread Cert.NormBwdRefIdeal.nD Cert.NormBwdRefIdeal.τ).loc Cert.NormBwdRefIdeal.main_arg2)) (m' ((c.tc : Thread Cert.NormBwdRefIdeal.nD Cert.NormBwdRefIdeal.τ).loc Cert.NormBwdRefIdeal.main_arg2))) (constant S_ .f32 0x00000000#32) reducesTo_S8320x1024_S8320_d1 h_S_)) (broadcastInDim S8320x1 ![] bcast_S_S8320x1 (constant S_ .f32 0x44800000#32))) (broadcastInDim S8320x1 ![] bcast_S_S8320x1 (constant S_ .f32 0x358637BD#32)))))) (Host.dotGeneral dot_S8320x13824_S1024x13824_S8320x1024_1_1_0_0_n_n none (extf .f32 (m' ((c.tc : Thread Cert.NormBwdRefIdeal.nD Cert.NormBwdRefIdeal.τ).loc Cert.NormBwdRefIdeal.main_arg0)) bitsLt_bf16_f32) (extf .f32 (m' ((c.tc : Thread Cert.NormBwdRefIdeal.nD Cert.NormBwdRefIdeal.τ).loc Cert.NormBwdRefIdeal.main_arg1)) bitsLt_bf16_f32))) (constant S_ .f32 0x00000000#32) reducesTo_S8320x1024_S1024_d0 h_S_) shapeCasts_S1024_S1x1024 : S1x1024.Idx → EReal)
      = weights m c := by
  funext y
  have hy : y = ix2 (0 : Fin 1) (y 1 : Fin 1024) := by
    funext a; match a with | ⟨0, _⟩ => exact Subsingleton.elim (α := Fin 1) _ _ | ⟨1, _⟩ => rfl
  refine (congrArg _ hy).trans ((Cert.NormBwdRef.weights_at _ _ _ _).trans ?_)
  rw [same.1, same.2.1, same.2.2.1]
  rfl
end

/-- Both programs leave the same gradients, and their arguments as they were. -/
theorem value : Cert.algebraic_NormBwdIdeal_NormBwdRefIdeal (hNormBwdIdeal := Cert.NormBwdIdeal.Gen.facts)
    (hNormBwdRefIdeal := Cert.NormBwdRefIdeal.Gen.facts) := fun m ρ m' ρ' _ same =>
  ⟨fun c => rows m c,
   fun c => weights m c,
   (θ_run _ _ _).mono (fun _ h c => ⟨(h c).1.trans (Cert.NormBwdValue.rows_array m c),
     (h c).2.1.trans (Cert.NormBwdValue.weights_array m c), (h c).2.2⟩) (Cert.NormBwdIdeal.Value.run_blocks m ρ),
   (θ_run _ _ _).mono (fun _ h c => ⟨(h c).1.trans (same_rows (same c)), (h c).2.1.trans (same_weights (same c)), (h c).2.2⟩)
     (Cert.NormBwdRefIdeal.Value.run m' ρ')⟩

end

end Cert.NormBwdClaims

end
-- ==== Proof.WeightGradValue.lean ====
module

public import proofs.«01_k».proof.Proof.Gen.WeightGradIdeal.Value
public import proofs.«01_k».proof.Proof.Gen.WeightGradIdeal.Skeleton
public import proofs.«01_k».proof.Proof.Gen.WeightGradRefIdeal.Run
public import proofs.«01_k».proof.Proof.Entry
public import Idealize.ShloMosaic.Lib.Pointwise
public import Idealize.ShloMosaic.Lib.Tactic

@[expose] public section

set_option maxRecDepth 16384

noncomputable section

/-! The gradient of the projection's weights, as the call leaves it: every entry is the sum over all rows of the products of
the input's column and the gradient's column, gathered from two halves of the rows. -/

namespace Cert.WeightGradValue

open Cert.WeightGradIdeal Cert.WeightGradIdeal.Gen
open Idealize.ShloMosaic Idealize.ShloMosaic.TcCoe Idealize.SL.Sem

section
variable {F : FTy → Type} [FloatOps F]

theorem origin : (![0, 0] : Fin 2 → Nat) = fun _ => 0 := funext fun a => by fin_cases a <;> rfl

/-- The first point of a column block leaves the product of its rows in the carried block. -/
theorem first_half (c : Dev nD) (i : grid0.Coords) (a3 : Memref sig .tc .vmem S4160x1024 .bf16) (h3 : a3.IsWhole)
    (a4 : Memref sig .tc .vmem S4160x768 .bf16) (h4 : a4.IsWhole) (a5 : Memref sig .tc .vmem S1024x768 .f32) (h5 : a5.IsWhole)
    (a6 : Memref sig .tc .vmem S1024x768 .f32) (h6 : a6.IsWhole) (hc0 : cond0_0 i) (hc1 : ¬cond0_1 i) (hc2 : ¬cond0_2 i)
    (x0 : Vec F S4160x1024 .bf16) (x1 : Vec F S4160x768 .bf16) :
    sout0_A_0 c i a3 h3 a4 h4 a5 h5 a6 h6 hc0 hc1 hc2 x0 x1 = k0_pay1 x0 x1 := by
  unfold sout0_A_0
  rw [View.read_writes_eq_canon _ _ _ (fun y => scover0_A_0 (y := y) ..)]
  unfold kernelRun0_A
  dsimp only
  sl_unfold_words
  rw [View.canon_unit_zero origin]
  unfold k0_pay2
  simp only [View.readAt_eq_ld, h3.read_unread, h4.read_unread, View.ld_unit_zero (S := S4160x1024) origin,
    View.ld_unit_zero (S := S4160x768) origin, shapeCast_self]

/-- The second point adds the product of its rows, and writes the block back. -/
theorem second_half (c : Dev nD) (i : grid0.Coords) (a3 : Memref sig .tc .vmem S4160x1024 .bf16) (h3 : a3.IsWhole)
    (a4 : Memref sig .tc .vmem S4160x768 .bf16) (h4 : a4.IsWhole) (a5 : Memref sig .tc .vmem S1024x768 .f32) (h5 : a5.IsWhole)
    (a6 : Memref sig .tc .vmem S1024x768 .f32) (h6 : a6.IsWhole) (hc0 : ¬cond0_0 i) (hc1 : cond0_1 i) (hc2 : cond0_2 i)
    (x0 : Vec F S4160x1024 .bf16) (x1 : Vec F S4160x768 .bf16) (xs : Vec F S1024x768 .f32) :
    out0_B_2 c i a3 h3 a4 h4 a5 h5 a6 h6 hc0 hc1 hc2 x0 x1 xs = addf xs (k0_pay1 x0 x1) := by
  unfold out0_B_2
  rw [View.read_writes_eq_canon _ _ _ (fun y => cover0_B_2 (y := y) ..)]
  unfold kernelRun0_B
  dsimp only
  sl_unfold_words
  rw [View.canon_unit_zero origin, View.readCov_unit_zero (S := S1024x768) _ origin]
  unfold k0_pay3
  simp only [View.readAt_eq_ld, h3.read_unread, h4.read_unread, h6.read_unread, View.ld_unit_zero (S := S4160x1024) origin,
    View.ld_unit_zero (S := S4160x768) origin, View.ld_unit_zero (S := S1024x768) origin, shapeCast_self]

variable (m : (ℓ : Loc nD τ sig) → Buf (Elt F) ℓ)

/-- After the second point of a column block: the sum of the two halves' products. -/
theorem after_second (c : Dev nD) (t : Fin cfg0.N) (h : t.val % 2 = 1) :
    (outsAt0 m c t.val t.isLt).1
      = addf (k0_pay1 (iblk m c 0 ⟨t.val - 1, by omega⟩) (iblk m c 1 ⟨t.val - 1, by omega⟩)) (k0_pay1 (iblk m c 0 t) (iblk m c 1 t)) := by
  rw [outsAt0_B m c t (by omega) h h]
  dsimp only
  rw [second_half]
  congr 1
  have e := outsAt0_A m c ⟨t.val - 1, by omega⟩ (by dsimp only; omega) (by dsimp only; omega) (by dsimp only; omega)
  rw [show outsAt0 m c (t.val - 1) _ = _ from e]
  dsimp only
  rw [first_half]

end

section
variable (m : (ℓ : Loc nD τ sig) → Buf (Elt Ideal) ℓ) (c : Dev nD)

/-- The input's array and the gradient's array, as matrices. -/
abbrev xs (r : Fin 8320) (i : Fin 1024) : EReal := (m ((c : Thread nD τ).loc main_arg0) : S8320x1024.Idx → EReal) (ix2 r i)
abbrev ds (r : Fin 8320) (j : Fin 13824) : EReal := (m ((c : Thread nD τ).loc main_arg1) : S8320x13824.Idx → EReal) (ix2 r j)

theorem index0 : ∀ t : Fin cfg0.N, win0_0.index t (0 : Fin 2) = t.val % 2 ∧ win0_0.index t (1 : Fin 2) = 0 :=
  (by decide +kernel : ∀ t : Fin grid0.N, _)
theorem index1 : ∀ t : Fin cfg0.N, win0_1.index t (0 : Fin 2) = t.val % 2 ∧ win0_1.index t (1 : Fin 2) = t.val / 2 :=
  (by decide +kernel : ∀ t : Fin grid0.N, _)

/-- The blocks a point reads: its half of the rows, and for the gradient its 768 columns. -/
theorem block0 (t : Fin cfg0.N) (r : Fin 4160) (i : Fin 1024) (h : 4160 * (t.val % 2) + r.val < 8320) :
    (iblk m c 0 t : S4160x1024.Idx → EReal) (ix2 r i) = xs m c ⟨4160 * (t.val % 2) + r.val, h⟩ i := by
  unfold iblk
  rw [View.read_apply]
  exact congrArg (m (c.tc.loc main_arg0)) (Entry.ext (by show win0_0.index t 0 * 4160 + 1 * r.val = 4160 * (t.val % 2) + r.val; rw [(index0 t).1]; omega) (by show win0_0.index t 1 * 1024 + 1 * i.val = i.val; rw [(index0 t).2]; omega))

theorem block1 (t : Fin cfg0.N) (r : Fin 4160) (j : Fin 768) (h : 4160 * (t.val % 2) + r.val < 8320)
    (h' : 768 * (t.val / 2) + j.val < 13824) :
    (iblk m c 1 t : S4160x768.Idx → EReal) (ix2 r j) = ds m c ⟨4160 * (t.val % 2) + r.val, h⟩ ⟨768 * (t.val / 2) + j.val, h'⟩ := by
  unfold iblk
  rw [View.read_apply]
  exact congrArg (m (c.tc.loc main_arg1)) (Entry.ext (by show win0_1.index t 0 * 4160 + 1 * r.val = 4160 * (t.val % 2) + r.val; rw [(index1 t).1]; omega) (by show win0_1.index t 1 * 768 + 1 * j.val = 768 * (t.val / 2) + j.val; rw [(index1 t).2]; omega))

/-- A block's product at an entry. -/
theorem product_at (x : FVec Ideal S4160x1024 .bf16) (d : FVec Ideal S4160x768 .bf16) (i : Fin 1024) (j : Fin 768) :
    k0_pay1 (F := Ideal) x d (ix2 i j) = ∑ r : Fin 4160, x (ix2 r i) * d (ix2 r j) := by
  pointwise [k0_pay1]

/-- A sum over all rows is the sum of its two halves. -/
theorem sum_halves (f : Fin 8320 → EReal) :
    ∑ r, f r = (∑ r : Fin 4160, f ⟨r.val, by omega⟩) + ∑ r : Fin 4160, f ⟨4160 + r.val, by omega⟩ :=
  Fin.sum_univ_add (a := 4160) (b := 4160) f

/-- The call's result at an entry: the sum over all rows. -/
theorem result_at (i : Fin 1024) (j : Fin 13824) :
    (Value.G2 m c : S1024x13824.Idx → EReal) (ix2 i j) = ∑ r : Fin 8320, xs m c r i * ds m c r j := by
  have hN : cfg0.N = 36 := N_0
  have hp : Value.pt2Of (ix2 i j) = 2 * (j.val / 768) + 1 := by
    show 2 * (18 * (i.val / 1024 - 0) + 1 * (j.val / 768 - 0)) + 1 = _
    have := i.isLt; omega
  have hb : 2 * (j.val / 768) + 1 < cfg0.N := by have := j.isLt; omega
  have hl : Value.loc2Of (ix2 i j) = ix2 i ⟨j.val % 768, Nat.mod_lt _ (by decide)⟩ := by
    funext a; apply Fin.ext
    match a with
    | ⟨0, _⟩ => show i.val % 1024 = i.val; have := i.isLt; omega
    | ⟨1, _⟩ => rfl
  unfold Value.G2
  rw [dif_pos (by rw [hp]; exact hb), hl, ← Value.outsAt0_sweep m c _ (by rw [hp]; exact hb)]
  have e := after_second m c ⟨2 * (j.val / 768) + 1, hb⟩ (by dsimp only; omega)
  have e' : outsAt0 m c (Value.pt2Of (ix2 i j)) (by rw [hp]; exact hb) = outsAt0 m c (2 * (j.val / 768) + 1) hb := by
    congr 1
  rw [e']
  refine (congrFun e _).trans ?_
  show (k0_pay1 (F := Ideal) _ _ (ix2 i _) : EReal) + k0_pay1 (F := Ideal) _ _ (ix2 i _) = _
  rw [product_at, product_at, sum_halves]
  congr 1
  · refine Finset.sum_congr rfl fun r _ => ?_
    rw [block0 m c _ r i (by dsimp only; omega), block1 m c _ r _ (by dsimp only; omega) (by dsimp only; have := j.isLt; omega)]
    congr 2 <;> (apply Fin.ext; dsimp only; omega)
  · refine Finset.sum_congr rfl fun r _ => ?_
    rw [block0 m c _ r i (by dsimp only; omega), block1 m c _ r _ (by dsimp only; omega) (by dsimp only; have := j.isLt; omega)]
    congr 2 <;> (apply Fin.ext; dsimp only; omega)

end

/-- The reference's result at an entry: the same sum. -/
theorem reference_at (x : FVec Ideal Cert.WeightGradRefIdeal.S8320x1024 .bf16) (d : FVec Ideal Cert.WeightGradRefIdeal.S8320x13824 .bf16)
    (h1 h2 h3) (i : Fin 1024) (j : Fin 13824) :
    transpose Cert.WeightGradRefIdeal.S1024x13824 [1, 0]
        (Host.dotGeneral (F := Ideal) Cert.WeightGradRefIdeal.dot_S8320x13824_S8320x1024_S13824x1024_0_0_1_1_n_n none
          (extf .f32 d h1) (extf .f32 x h2)) h3 (ix2 i j)
      = ∑ r : Fin 8320, x (ix2 r i) * d (ix2 r j) := by
  pointwise
  exact Finset.sum_congr rfl fun r _ => mul_comm _ _

end Cert.WeightGradValue

end
-- ==== Proof.WeightGradClaims.lean ====
module

public import proofs.«01_k».proof.Defs
public import proofs.«01_k».proof.Proof.Gen.WeightGrad
public import proofs.«01_k».proof.Proof.WeightGradValue
public import Idealize.ShloMosaic.Lib.Quiescent
public import Idealize.ShloMosaic.Lib.Tactic

@[expose] public section

set_option maxRecDepth 16384

noncomputable section

/-! The claims about the gradient of the projection's weights. -/

namespace Cert.WeightGradClaims

open Idealize.ShloMosaic Idealize.SL.Sem

/-- The program over words is the text of the program over extended reals, read over words. -/
theorem same_text : Cert.quiescent_WeightGrad (hWeightGrad := Cert.WeightGrad.Gen.facts)
    = (∀ (m : (ℓ : Loc Cert.WeightGradIdeal.nD Cert.WeightGradIdeal.τ Cert.WeightGradIdeal.sig) → Buf (Elt Bits) ℓ) (ρ : Dev Cert.WeightGradIdeal.nD → PrngReg), True →
      θ_run (Cert.WeightGradIdeal.defs (F := Bits)) (onTc (τ := Cert.WeightGradIdeal.τ) (Cert.WeightGradIdeal.main (F := Bits))) ⟨m, fun _ => 0, ρ⟩ (fun r =>
        (∀ c : Dev Cert.WeightGradIdeal.nD, r.2.mem ((c.tc : Thread Cert.WeightGradIdeal.nD Cert.WeightGradIdeal.τ).loc Cert.WeightGradIdeal.main_arg0) = m ((c.tc : Thread Cert.WeightGradIdeal.nD Cert.WeightGradIdeal.τ).loc Cert.WeightGradIdeal.main_arg0)
          ∧ r.2.mem ((c.tc : Thread Cert.WeightGradIdeal.nD Cert.WeightGradIdeal.τ).loc Cert.WeightGradIdeal.main_arg1) = m ((c.tc : Thread Cert.WeightGradIdeal.nD Cert.WeightGradIdeal.τ).loc Cert.WeightGradIdeal.main_arg1))
          ∧ r.2.sem = fun _ => 0)) := by
  chain_rfl

/-- Both programs end, their arguments as they were and every semaphore at zero. -/
theorem frame_words : Cert.quiescent_WeightGrad (hWeightGrad := Cert.WeightGrad.Gen.facts) :=
  same_text.mpr fun m ρ _ => Cert.WeightGradIdeal.Gen.frame (F := Bits) m ρ

theorem frame_ideal : Cert.quiescent_WeightGradIdeal (hWeightGradIdeal := Cert.WeightGradIdeal.Gen.facts) := fun m ρ _ =>
  Cert.WeightGradIdeal.Gen.frame (F := Ideal) m ρ

/-- So does the reference. -/
theorem frame_reference : Cert.quiescent_WeightGradRefIdeal (hWeightGradRefIdeal := Cert.WeightGradRefIdeal.Gen.facts) := fun m ρ _ =>
  (θ_run _ _ _).mono (fun r h => ⟨fun c => (h c).2, sem_eq_zero_of_no_sems (by decide) r.2⟩)
    (Cert.WeightGradRefIdeal.Value.run (F := Ideal) m ρ)

section
variable (m : (ℓ : Loc Cert.WeightGradIdeal.nD Cert.WeightGradIdeal.τ Cert.WeightGradIdeal.sig) → Buf (Elt Ideal) ℓ) (ρ : Dev Cert.WeightGradIdeal.nD → PrngReg)
variable (m' : (ℓ : Loc Cert.WeightGradRefIdeal.nD Cert.WeightGradRefIdeal.τ Cert.WeightGradRefIdeal.sig) → Buf (Elt Ideal) ℓ) (c : Dev Cert.WeightGradIdeal.nD)

/-- The two programs' memories hold the same arguments on a device. -/
def SameArgs : Prop :=
  m' ((c.tc : Thread Cert.WeightGradRefIdeal.nD Cert.WeightGradRefIdeal.τ).loc Cert.WeightGradRefIdeal.main_arg0) = m ((c.tc : Thread Cert.WeightGradIdeal.nD Cert.WeightGradIdeal.τ).loc Cert.WeightGradIdeal.main_arg0)
  ∧ m' ((c.tc : Thread Cert.WeightGradRefIdeal.nD Cert.WeightGradRefIdeal.τ).loc Cert.WeightGradRefIdeal.main_arg1) = m ((c.tc : Thread Cert.WeightGradIdeal.nD Cert.WeightGradIdeal.τ).loc Cert.WeightGradIdeal.main_arg1)

section
open Cert.WeightGradRefIdeal Cert.WeightGradRefIdeal.Gen
/-- From the same arguments, the same gradient of the weights. -/
theorem same_grad (same : SameArgs m m' c) :
    (transpose S1024x13824 [1, 0] (Host.dotGeneral (F := Ideal) dot_S8320x13824_S8320x1024_S13824x1024_0_0_1_1_n_n none (extf .f32 (m' ((c.tc : Thread Cert.WeightGradRefIdeal.nD Cert.WeightGradRefIdeal.τ).loc Cert.WeightGradRefIdeal.main_arg1)) bitsLt_bf16_f32) (extf .f32 (m' ((c.tc : Thread Cert.WeightGradRefIdeal.nD Cert.WeightGradRefIdeal.τ).loc Cert.WeightGradRefIdeal.main_arg0)) bitsLt_bf16_f32)) transposes_S13824x1024_S1024x13824_1_0 : S1024x13824.Idx → EReal)
      = (Cert.WeightGradIdeal.Value.G2 m c : Cert.WeightGradIdeal.S1024x13824.Idx → EReal) := by
  funext y
  have hy : y = ix2 (y 0 : Fin 1024) (y 1 : Fin 13824) := by
    funext a; match a with | ⟨0, _⟩ => rfl | ⟨1, _⟩ => rfl
  refine (congrArg _ hy).trans ((Cert.WeightGradValue.reference_at _ _ _ _ _ _ _).trans
    (Eq.trans ?_ ((Cert.WeightGradValue.result_at m c (y 0) (y 1)).symm.trans (congrArg _ hy.symm))))
  rw [same.1, same.2]
end

/-- Both programs leave the same gradient of the weights, and their arguments as they were. -/
theorem value : Cert.algebraic_WeightGradIdeal_WeightGradRefIdeal (hWeightGradIdeal := Cert.WeightGradIdeal.Gen.facts)
    (hWeightGradRefIdeal := Cert.WeightGradRefIdeal.Gen.facts) := fun m ρ m' ρ' _ same =>
  ⟨fun c => Cert.WeightGradIdeal.Value.G2 m c, Cert.WeightGradIdeal.Value.run m ρ,
   (θ_run _ _ _).mono (fun _ h c => ⟨(h c).1.trans (same_grad m m' c (same c)), (h c).2⟩)
     (Cert.WeightGradRefIdeal.Value.run m' ρ')⟩

end

end Cert.WeightGradClaims

end
-- ==== Proof.ProjQkvgClaims.lean ====
module

public import proofs.«01_k».proof.Defs
public import proofs.«01_k».proof.Proof.Gen.ProjQkvg
public import proofs.«01_k».proof.Proof.Gen.ProjQkvgIdeal.Value
public import proofs.«01_k».proof.Proof.Gen.ProjQkvgRefIdeal.Run
public import proofs.«01_k».proof.Proof.Entry
public import Idealize.ShloMosaic.Lib.Pointwise
public import Idealize.ShloMosaic.Lib.Quiescent
public import Idealize.ShloMosaic.Lib.Tactic
public import Idealize.ShloMosaic.Lib.Pipeline.ValueKit

@[expose] public section

set_option maxRecDepth 16384

noncomputable section

/-! The retention's columns of the input projection: every entry is the sum of the products of a row and a column. -/

namespace Cert.ProjQkvgClaims

open Idealize.ShloMosaic Idealize.ShloMosaic.TcCoe Idealize.SL.Sem

section
open Cert.ProjQkvgIdeal Cert.ProjQkvgIdeal.Gen
variable (m : (ℓ : Loc nD τ sig) → Buf (Elt Ideal) ℓ) (c : Dev nD)

theorem origin : (![0, 0] : Fin 2 → Nat) = fun _ => 0 := funext fun a => by fin_cases a <;> rfl

/-- The rows and the weight, as matrices. -/
abbrev us (r : Fin 8320) (k : Fin 1024) : EReal := (m ((c : Thread nD τ).loc main_arg0) : S8320x1024.Idx → EReal) (ix2 r k)
abbrev ws (k : Fin 1024) (j : Fin 13824) : EReal := (m ((c : Thread nD τ).loc main_arg1) : S1024x13824.Idx → EReal) (ix2 k j)

/-- A point writes the product of the blocks it reads. -/
theorem after (t : Fin cfg0.N) : outsAt0 m c t = k0_pay1 (iblk m c 0 t) (X0_1 m c t) := by
  unfold outsAt0 out0_A_2
  rw [View.read_writes_eq_canon _ _ _ (cover0_A_2 c _ _ _ _ _ _ _ _ _)]
  unfold kernelRun0_A
  dsimp only
  sl_unfold_words
  rw [View.canon_unit_zero origin]
  simp only [View.readAt_eq_ld, (hs0_0 t).read_unread, (hs0_1 t).read_unread, View.ld_unit_zero (S := S640x1024) origin,
    View.ld_unit_zero (S := S1024x1024) origin]

theorem index : ∀ t : Fin cfg0.N, (win0_0.index t (0 : Fin 2) = t.val % 13 ∧ win0_0.index t (1 : Fin 2) = 0)
    ∧ (win0_1.index t (0 : Fin 2) = 0 ∧ win0_1.index t (1 : Fin 2) = t.val / 13)
    ∧ (win0_2.index t (0 : Fin 2) = t.val % 13 ∧ win0_2.index t (1 : Fin 2) = t.val / 13) :=
  (by decide +kernel : ∀ t : Fin grid0.N, _)

/-- The blocks a point reads: 640 rows, and 1024 columns of the weight. -/
theorem block0 (t : Fin cfg0.N) (r : Fin 640) (k : Fin 1024) (h : 640 * (t.val % 13) + r.val < 8320) :
    (iblk m c 0 t : S640x1024.Idx → EReal) (ix2 r k) = us m c ⟨640 * (t.val % 13) + r.val, h⟩ k := by
  unfold iblk
  rw [View.read_apply]
  exact congrArg (m (c.tc.loc main_arg0)) (Entry.ext (by show win0_0.index t 0 * 640 + 1 * r.val = 640 * (t.val % 13) + r.val; rw [(index t).1.1]; omega) (by show win0_0.index t 1 * 1024 + 1 * k.val = k.val; rw [(index t).1.2]; omega))

theorem block1 (t : Fin cfg0.N) (k j : Fin 1024) (h : 1024 * (t.val / 13) + j.val < 13824) :
    (X0_1 m c t : S1024x1024.Idx → EReal) (ix2 k j) = ws m c k ⟨1024 * (t.val / 13) + j.val, h⟩ := by
  unfold X0_1 Pipeline.Window.fill
  rw [dif_pos (moved0_1 t _)]
  unfold iblk
  rw [View.read_apply]
  exact congrArg (m (c.tc.loc main_arg1)) (Entry.ext (by show win0_1.index t 0 * 1024 + 1 * k.val = k.val; rw [(index t).2.1.1]; omega) (by show win0_1.index t 1 * 1024 + 1 * j.val = 1024 * (t.val / 13) + j.val; rw [(index t).2.1.2]; omega))

/-- A block's product at an entry. -/
theorem product_at (x : FVec Ideal S640x1024 .bf16) (w : FVec Ideal S1024x1024 .bf16) (r : Fin 640) (j : Fin 1024) :
    k0_pay1 (F := Ideal) x w (ix2 r j) = ∑ k : Fin 1024, x (ix2 r k) * w (ix2 k j) := by
  pointwise [k0_pay1]

/-- The projection's columns, by row and column. -/
def cols (r : Fin 8320) (j : Fin 6144) : EReal := ∑ k, us m c r k * ws m c k ⟨j.val, by omega⟩
abbrev result : S8320x6144.Idx → EReal := fun i => cols m c (i 0) (i 1)

/-- The array after the call. -/
theorem array : (dats m 0 c).arrAt 2 cfg0.N = result m c := by
  refine (dats m 0 c).arrAt_eq_of_covers 2 _ (by decide +kernel) fun t hf y => ?_
  have hN : cfg0.grid.N = 78 := N_0
  have ht := t.isLt
  have e := (index t).2.2
  have h0 : (y 0).val < 640 := (y 0).isLt
  have h1 : (y 1).val < 1024 := (y 1).isLt
  have hp : 640 * (t.val % 13) + (y 0).val < 8320 := by omega
  have hq : 1024 * (t.val / 13) + (y 1).val < 6144 := by omega
  blk_simp [e]
  rw [after0_2, after]
  have hy : y = ix2 (⟨(y 0).val, h0⟩ : Fin 640) (⟨(y 1).val, h1⟩ : Fin 1024) := by
    funext a; match a with | ⟨0, _⟩ => rfl | ⟨1, _⟩ => rfl
  have g0 : ((win0_2.blk t).view.emb y 0 : Fin 8320) = ⟨640 * (t.val % 13) + (y 0).val, hp⟩ :=
    Fin.ext (by show win0_2.index t 0 * 640 + 1 * (y 0).val = _; rw [e.1]; dsimp only; omega)
  have g1 : ((win0_2.blk t).view.emb y 1 : Fin 6144) = ⟨1024 * (t.val / 13) + (y 1).val, hq⟩ :=
    Fin.ext (by show win0_2.index t 1 * 1024 + 1 * (y 1).val = _; rw [e.2]; dsimp only; omega)
  show _ = cols m c ((win0_2.blk t).view.emb y 0) ((win0_2.blk t).view.emb y 1)
  rw [g0, g1]
  refine (congrArg (k0_pay1 (F := Ideal) (iblk m c 0 t) (X0_1 m c t)) hy).trans ((product_at _ _ _ _).trans ?_)
  exact Finset.sum_congr rfl fun k _ => congrArg₂ (· * ·) (block0 m c t _ k hp) (block1 m c t k _ (by dsimp only; omega))

end

/-- Both programs end, their arguments as they were and every semaphore at zero: they have the same text. -/
theorem frame_ideal : Cert.quiescent_ProjQkvgIdeal (hProjQkvgIdeal := Cert.ProjQkvgIdeal.Gen.facts) := fun m ρ _ =>
  Cert.ProjQkvgIdeal.Gen.frame (F := Ideal) m ρ

theorem frame_words : Cert.quiescent_ProjQkvg (hProjQkvg := Cert.ProjQkvg.Gen.facts) :=
  Eq.mp (by chain_rfl) fun m ρ (_ : True) => Cert.ProjQkvgIdeal.Gen.frame (F := Bits) m ρ

/-- So does the reference. -/
theorem frame_reference : Cert.quiescent_ProjQkvgRefIdeal (hProjQkvgRefIdeal := Cert.ProjQkvgRefIdeal.Gen.facts) := fun m ρ _ =>
  (θ_run _ _ _).mono (fun r h => ⟨fun c => (h c).2, sem_eq_zero_of_no_sems (by decide) r.2⟩)
    (Cert.ProjQkvgRefIdeal.Value.run (F := Ideal) m ρ)

/-- Both programs leave the same columns, and their arguments as they were. -/
theorem value : Cert.algebraic_ProjQkvgIdeal_ProjQkvgRefIdeal (hProjQkvgIdeal := Cert.ProjQkvgIdeal.Gen.facts)
    (hProjQkvgRefIdeal := Cert.ProjQkvgRefIdeal.Gen.facts) := by
  intro m ρ m' ρ' _ same
  refine ⟨fun c => result m c, (θ_run _ _ _).mono (fun _ h c => ⟨(h c).1.trans (array m c), (h c).2⟩)
    (Cert.ProjQkvgIdeal.Value.run_blocks m ρ),
    (θ_run _ _ _).mono (fun _ h c => ⟨(h c).1.trans ?_, (h c).2⟩) (Cert.ProjQkvgRefIdeal.Value.run m' ρ')⟩
  rw [(same c).1, (same c).2]
  funext y
  have hy : y = ix2 (y 0 : Fin 8320) (y 1 : Fin 6144) := by
    funext a; match a with | ⟨0, _⟩ => rfl | ⟨1, _⟩ => rfl
  rw [hy]
  pointwise
  rfl

end Cert.ProjQkvgClaims

end
-- ==== Proof.UpBwdValue.lean ====
module

public import proofs.«01_k».proof.Proof.Gen.UpBwdIdeal.Value
public import proofs.«01_k».proof.Proof.Gen.UpBwdIdeal.Skeleton
public import proofs.«01_k».proof.Proof.NormBwdMath
public import proofs.«01_k».proof.Proof.Entry
public import Idealize.ShloMosaic.Lib.Pointwise
public import Idealize.ShloMosaic.Lib.Tactic
public import Idealize.ShloMosaic.Lib.Pipeline.ValueKit

@[expose] public section

set_option maxRecDepth 16384

noncomputable section

/-! The gradient through the feed-forward's up projection and its norm: of every row the product with the weights is
gathered from the gate's and the value's columns, then the norm's gradient is taken of the row, and the norm's weight
gathers the products of all rows. -/

namespace Cert.UpBwdValue

open Cert.NormBwd.Math
open Idealize.ShloMosaic Idealize.ShloMosaic.TcCoe Idealize.SL.Sem

section
open Cert.UpBwdIdeal Cert.UpBwdIdeal.Gen

section
variable {F : FTy → Type} [FloatOps F]

open Entry (origin)

section
variable (c : Dev nD) (i : grid0.Coords) (a2 : Memref sig .tc .vmem S640x2816 .bf16) (h2 : a2.IsWhole)
    (a3 : Memref sig .tc .vmem S640x2816 .bf16) (h3 : a3.IsWhole)
    (a4 : Memref sig .tc .vmem S1024x2816 .bf16) (h4 : a4.IsWhole) (a5 : Memref sig .tc .vmem S640x1024 .f32) (h5 : a5.IsWhole)
    (a6 : Memref sig .tc .vmem S1x1024 .f32) (h6 : a6.IsWhole) (a7 : Memref sig .tc .vmem S640x1024 .f32) (h7 : a7.IsWhole)
    (a9 : Memref sig .tc .vmem S640x1024 .f32) (h9 : a9.IsWhole) (a10 : Memref sig .tc .vmem S1x1024 .f32) (h10 : a10.IsWhole)
    (a11 : Memref sig .tc .vmem S640x1024 .bf16) (h11 : a11.IsWhole) (a12 : Memref sig .tc .vmem S640x1024 .f32) (h12 : a12.IsWhole)
    (x0 x1 : Vec F S640x2816 .bf16) (x2 : Vec F S1024x2816 .bf16) (x3 : Vec F S640x1024 .f32) (x4 : Vec F S1x1024 .f32)
    (x5 : Vec F S640x1024 .f32) (xo : Vec F S1x1024 .f32) (xs : Vec F S640x1024 .f32)

/-- The gate's columns start the row's product. -/
theorem first (hc0 : cond0_0 i) (hc1 : cond0_1 i) (hc2 : ¬cond0_2 i) (hc3 : ¬cond0_3 i) (hc4 : ¬cond0_4 i) :
    sout0_A_0 c i a2 h2 a3 h3 a4 h4 a5 h5 a6 h6 a7 h7 a9 h9 a10 h10 a11 h11 a12 h12 hc0 hc1 hc2 hc3 hc4 x0 x1 x2 x3 x4 x5
      = k0_pay1 x0 x2 := by
  unfold sout0_A_0
  rw [View.read_writes_eq_canon _ _ _ (fun y => scover0_A_0 (y := y) ..)]
  unfold kernelRun0_A
  dsimp only
  sl_unfold_words
  rw [View.canon_unit_zero origin]
  unfold k0_pay2
  simp only [View.readAt_eq_ld, h2.read_unread, h4.read_unread, View.ld_unit_zero (S := ⟨2, ![_, _]⟩) origin, shapeCast_self]

variable (hc0 : ¬cond0_0 i) (hc3 : cond0_3 i) (hc4 : cond0_4 i)

/-- The value's columns add to it and the rows' gradient is written, at the first block of rows and at a later one. -/
theorem rows_B (hc5 : cond0_5 i) :
    out0_B_6 c i a2 h2 a3 h3 a4 h4 a5 h5 a6 h6 a7 h7 a9 h9 a10 h10 a11 h11 a12 h12 hc0 hc3 hc4 hc5 x0 x1 x2 x3 x4 x5 xs
      = k0_pay8 x3 (addf xs (k0_pay1 x1 x2)) x4 x5 := by
  unfold out0_B_6
  rw [View.read_writes_eq_canon _ _ _ (fun y => cover0_B_6 (y := y) ..)]
  unfold kernelRun0_B
  dsimp only
  sl_unfold_words
  rw [View.canon_unit_zero origin]
  simp only [View.readCov_unit_zero (S := S640x1024) _ origin]
  unfold k0_pay4
  simp only [View.readAt_eq_ld, h3.read_unread, h4.read_unread, h5.read_unread, h6.read_unread, h7.read_unread, h12.read_unread,
    View.ld_unit_zero (S := ⟨2, ![_, _]⟩) origin, shapeCast_self]
  rfl

theorem rows_C (hc5 : ¬cond0_5 i) :
    out0_C_6 c i a2 h2 a3 h3 a4 h4 a5 h5 a6 h6 a7 h7 a9 h9 a10 h10 a11 h11 a12 h12 hc0 hc3 hc4 hc5 x0 x1 x2 x3 x4 x5 xo xs
      = k0_pay8 x3 (addf xs (k0_pay1 x1 x2)) x4 x5 := by
  unfold out0_C_6
  rw [View.read_writes_eq_canon _ _ _ (fun y => cover0_C_6 (y := y) ..)]
  unfold kernelRun0_C
  dsimp only
  sl_unfold_words
  rw [View.canon_unit_zero origin]
  simp only [View.readCov_unit_zero (S := S640x1024) _ origin]
  unfold k0_pay4
  simp only [View.readAt_eq_ld, h3.read_unread, h4.read_unread, h5.read_unread, h6.read_unread, h7.read_unread, h12.read_unread,
    View.ld_unit_zero (S := ⟨2, ![_, _]⟩) origin, shapeCast_self]
  rfl

/-- So is its copy in the narrower type. -/
theorem copy_B (hc5 : cond0_5 i) :
    out0_B_8 c i a2 h2 a3 h3 a4 h4 a5 h5 a6 h6 a7 h7 a9 h9 a10 h10 a11 h11 a12 h12 hc0 hc3 hc4 hc5 x0 x1 x2 x3 x4 x5 xs
      = truncf .bf16 (k0_pay8 x3 (addf xs (k0_pay1 x1 x2)) x4 x5) bitsLt_bf16_f32 := by
  unfold out0_B_8
  rw [View.read_writes_eq_canon _ _ _ (fun y => cover0_B_8 (y := y) ..)]
  unfold kernelRun0_B
  dsimp only
  sl_unfold_words
  rw [View.canon_unit_zero origin]
  simp only [View.readCov_unit_zero (S := S640x1024) _ origin]
  unfold k0_pay9 k0_pay4
  simp only [View.readAt_eq_ld, h3.read_unread, h4.read_unread, h5.read_unread, h6.read_unread, h7.read_unread, h12.read_unread,
    View.ld_unit_zero (S := ⟨2, ![_, _]⟩) origin, shapeCast_self]
  rfl

theorem copy_C (hc5 : ¬cond0_5 i) :
    out0_C_8 c i a2 h2 a3 h3 a4 h4 a5 h5 a6 h6 a7 h7 a9 h9 a10 h10 a11 h11 a12 h12 hc0 hc3 hc4 hc5 x0 x1 x2 x3 x4 x5 xo xs
      = truncf .bf16 (k0_pay8 x3 (addf xs (k0_pay1 x1 x2)) x4 x5) bitsLt_bf16_f32 := by
  unfold out0_C_8
  rw [View.read_writes_eq_canon _ _ _ (fun y => cover0_C_8 (y := y) ..)]
  unfold kernelRun0_C
  dsimp only
  sl_unfold_words
  rw [View.canon_unit_zero origin]
  simp only [View.readCov_unit_zero (S := S640x1024) _ origin]
  unfold k0_pay9 k0_pay4
  simp only [View.readAt_eq_ld, h3.read_unread, h4.read_unread, h5.read_unread, h6.read_unread, h7.read_unread, h12.read_unread,
    View.ld_unit_zero (S := ⟨2, ![_, _]⟩) origin, shapeCast_self]
  rfl

/-- The norm's weight gathers the rows' products, from zero at the first block of rows. -/
theorem weight_B (hc5 : cond0_5 i) :
    out0_B_7 c i a2 h2 a3 h3 a4 h4 a5 h5 a6 h6 a7 h7 a9 h9 a10 h10 a11 h11 a12 h12 hc0 hc3 hc4 hc5 x0 x1 x2 x3 x4 x5 xs
      = k0_pay5 k0_pay10 (k0_pay12 x3 (addf xs (k0_pay1 x1 x2))) := by
  unfold out0_B_7
  rw [View.read_writes_eq_canon _ _ _ (fun y => cover0_B_7 (y := y) ..)]
  unfold kernelRun0_B
  dsimp only
  sl_unfold_words
  rw [View.canon_cons_unit_zero (S := S1x1024) origin]
  simp only [View.readCov_unit_zero (S := S640x1024) _ origin, View.readCov_unit_zero (S := S1x1024) _ origin]
  unfold k0_pay4 k0_pay11
  simp only [View.readAt_eq_ld, h3.read_unread, h4.read_unread, h5.read_unread, h6.read_unread, h12.read_unread,
    View.ld_unit_zero (S := ⟨2, ![_, _]⟩) origin, shapeCast_self]
  rfl

theorem weight_C (hc5 : ¬cond0_5 i) :
    out0_C_7 c i a2 h2 a3 h3 a4 h4 a5 h5 a6 h6 a7 h7 a9 h9 a10 h10 a11 h11 a12 h12 hc0 hc3 hc4 hc5 x0 x1 x2 x3 x4 x5 xo xs
      = k0_pay5 xo (k0_pay12 x3 (addf xs (k0_pay1 x1 x2))) := by
  unfold out0_C_7
  rw [View.read_writes_eq_canon _ _ _ (fun y => cover0_C_7 (y := y) ..)]
  unfold kernelRun0_C
  dsimp only
  sl_unfold_words
  rw [View.canon_unit_zero origin]
  simp only [View.readCov_unit_zero (S := S640x1024) _ origin]
  unfold k0_pay4 k0_pay11
  simp only [View.readAt_eq_ld, h3.read_unread, h4.read_unread, h5.read_unread, h6.read_unread, h10.read_unread, h12.read_unread,
    View.ld_unit_zero (S := ⟨2, ![_, _]⟩) origin, shapeCast_self]
  rfl
end

variable (m : (ℓ : Loc nD τ sig) → Buf (Elt F) ℓ) (c : Dev nD)

/-- The rows' product with the weights, gathered over a block of rows' two points. -/
def prod (t : Fin cfg0.N) (h : t.val % 2 = 1) : FVec F S640x1024 .f32 :=
  addf (k0_pay1 (iblk m c 0 ⟨t.val - 1, by omega⟩) (iblk m c 2 ⟨t.val - 1, by omega⟩)) (k0_pay1 (iblk m c 1 t) (iblk m c 2 t))

/-- What the point before the second leaves: its product, and the norm's weight as found. -/
theorem before (t : Fin cfg0.N) (h : t.val % 2 = 1) :
    (outsAt0 m c (t.val - 1) (by omega)).2.2.2 = k0_pay1 (iblk m c 0 ⟨t.val - 1, by omega⟩) (iblk m c 2 ⟨t.val - 1, by omega⟩) := by
  rw [show outsAt0 m c (t.val - 1) _ = _ from outsAt0_A m c ⟨t.val - 1, by omega⟩ (by dsimp only; omega) (by dsimp only; omega)
    (by dsimp only; omega) (by dsimp only; omega) (by dsimp only; omega)]
  dsimp only
  rw [first]

/-- A block of rows' gradient and its copy. -/
theorem rows_after (t : Fin cfg0.N) (h : t.val % 2 = 1) :
    (outsAt0 m c t.val t.isLt).1 = k0_pay8 (iblk m c 3 t) (prod m c t h) (iblk m c 4 t) (iblk m c 5 t)
    ∧ (outsAt0 m c t.val t.isLt).2.2.1
      = truncf .bf16 (k0_pay8 (iblk m c 3 t) (prod m c t h) (iblk m c 4 t) (iblk m c 5 t)) bitsLt_bf16_f32 := by
  by_cases h4 : t.val < 2
  · rw [outsAt0_B m c t (by omega) h h h4]
    dsimp only
    rw [rows_B, copy_B, before m c t h]
    exact ⟨rfl, rfl⟩
  · rw [outsAt0_C m c t (by omega) h h h4]
    dsimp only
    rw [rows_C, copy_C, before m c t h]
    exact ⟨rfl, rfl⟩

/-- The norm's weight after the first block of rows, and after a later one. -/
theorem weight_first (t : Fin cfg0.N) (h : t.val % 2 = 1) (h4 : t.val < 2) :
    (outsAt0 m c t.val t.isLt).2.1 = k0_pay5 k0_pay10 (k0_pay12 (iblk m c 3 t) (prod m c t h)) := by
  rw [outsAt0_B m c t (by omega) h h h4]
  dsimp only
  rw [weight_B, before m c t h]
  rfl

theorem weight_later (t : Fin cfg0.N) (h : t.val % 2 = 1) (h4 : ¬t.val < 2) :
    (outsAt0 m c t.val t.isLt).2.1
      = k0_pay5 (outsAt0 m c (t.val - 1 - 1) (by omega)).2.1 (k0_pay12 (iblk m c 3 t) (prod m c t h)) := by
  rw [outsAt0_C m c t (by omega) h h h4]
  dsimp only
  rw [weight_C, before m c t h]
  have e : (outsAt0 m c (t.val - 1) (by omega)).2.1 = (outsAt0 m c (t.val - 1 - 1) (by omega)).2.1 := by
    rw [show outsAt0 m c (t.val - 1) _ = _ from outsAt0_A m c ⟨t.val - 1, by omega⟩ (by dsimp only; omega) (by dsimp only; omega)
      (by dsimp only; omega) (by dsimp only; omega) (by dsimp only; omega)]
    dsimp only [out0_A_7]
  rw [e]
  rfl

end

section
variable (m : (ℓ : Loc nD τ sig) → Buf (Elt Ideal) ℓ) (c : Dev nD)

/-- The gradients of the gate's and the value's columns, the weights, the rows, the norm's weight and the gradient added at the end. -/
abbrev gs (r : Fin 8320) (k : Fin 2816) : EReal := (m ((c : Thread nD τ).loc main_arg0) : S8320x2816.Idx → EReal) (ix2 r k)
abbrev vs (r : Fin 8320) (k : Fin 2816) : EReal := (m ((c : Thread nD τ).loc main_arg1) : S8320x2816.Idx → EReal) (ix2 r k)
abbrev ws (j : Fin 1024) (k : Fin 5632) : EReal := (m ((c : Thread nD τ).loc main_arg2) : S1024x5632.Idx → EReal) (ix2 j k)
abbrev hs (r : Fin 8320) (j : Fin 1024) : EReal := (m ((c : Thread nD τ).loc main_arg3) : S8320x1024.Idx → EReal) (ix2 r j)
abbrev nw (j : Fin 1024) : EReal := (m ((c : Thread nD τ).loc main_arg4) : S1x1024.Idx → EReal) (ix2 0 j)
abbrev es (r : Fin 8320) (j : Fin 1024) : EReal := (m ((c : Thread nD τ).loc main_arg5) : S8320x1024.Idx → EReal) (ix2 r j)

/-- A row's product with the weights. -/
def dy (r : Fin 8320) (j : Fin 1024) : EReal :=
  (∑ k : Fin 2816, gs m c r k * ws m c j ⟨k.val, by omega⟩) + ∑ k : Fin 2816, vs m c r k * ws m c j ⟨2816 + k.val, by omega⟩

theorem index0 : ∀ t : Fin cfg0.N, (win0_0.index t (0 : Fin 2) = t.val / 2 ∧ win0_0.index t (1 : Fin 2) = 0)
    ∧ (win0_1.index t (0 : Fin 2) = t.val / 2 ∧ win0_1.index t (1 : Fin 2) = 0)
    ∧ (win0_2.index t (0 : Fin 2) = 0 ∧ win0_2.index t (1 : Fin 2) = t.val % 2)
    ∧ (win0_3.index t (0 : Fin 2) = t.val / 2 ∧ win0_3.index t (1 : Fin 2) = 0)
    ∧ (win0_4.index t (0 : Fin 2) = 0 ∧ win0_4.index t (1 : Fin 2) = 0)
    ∧ (win0_5.index t (0 : Fin 2) = t.val / 2 ∧ win0_5.index t (1 : Fin 2) = 0)
    ∧ (win0_6.index t (0 : Fin 2) = t.val / 2 ∧ win0_6.index t (1 : Fin 2) = 0)
    ∧ (win0_7.index t (0 : Fin 2) = 0 ∧ win0_7.index t (1 : Fin 2) = 0)
    ∧ (win0_8.index t (0 : Fin 2) = t.val / 2 ∧ win0_8.index t (1 : Fin 2) = 0) :=
  (by decide +kernel : ∀ t : Fin grid0.N, _)

/-- The blocks a point reads, by row and column of their arrays. -/
theorem block0 (t : Fin cfg0.N) (p : Fin 640) (k : Fin 2816) (h : 640 * (t.val / 2) + p.val < 8320) :
    (iblk m c 0 t : S640x2816.Idx → EReal) (ix2 p k) = gs m c ⟨640 * (t.val / 2) + p.val, h⟩ k := by
  unfold iblk
  rw [View.read_apply]
  exact congrArg (m (c.tc.loc main_arg0)) (Entry.ext (by show win0_0.index t 0 * 640 + 1 * p.val = 640 * (t.val / 2) + p.val; rw [(index0 t).1.1]; omega) (by show win0_0.index t 1 * 2816 + 1 * k.val = k.val; rw [(index0 t).1.2]; omega))

theorem block1 (t : Fin cfg0.N) (p : Fin 640) (k : Fin 2816) (h : 640 * (t.val / 2) + p.val < 8320) :
    (iblk m c 1 t : S640x2816.Idx → EReal) (ix2 p k) = vs m c ⟨640 * (t.val / 2) + p.val, h⟩ k := by
  unfold iblk
  rw [View.read_apply]
  exact congrArg (m (c.tc.loc main_arg1)) (Entry.ext (by show win0_1.index t 0 * 640 + 1 * p.val = 640 * (t.val / 2) + p.val; rw [(index0 t).2.1.1]; omega) (by show win0_1.index t 1 * 2816 + 1 * k.val = k.val; rw [(index0 t).2.1.2]; omega))

theorem block2 (t : Fin cfg0.N) (j : Fin 1024) (k : Fin 2816) (h : 2816 * (t.val % 2) + k.val < 5632) :
    (iblk m c 2 t : S1024x2816.Idx → EReal) (ix2 j k) = ws m c j ⟨2816 * (t.val % 2) + k.val, h⟩ := by
  unfold iblk
  rw [View.read_apply]
  exact congrArg (m (c.tc.loc main_arg2)) (Entry.ext (by show win0_2.index t 0 * 1024 + 1 * j.val = j.val; rw [(index0 t).2.2.1.1]; omega) (by show win0_2.index t 1 * 2816 + 1 * k.val = 2816 * (t.val % 2) + k.val; rw [(index0 t).2.2.1.2]; omega))

theorem block3 (t : Fin cfg0.N) (p : Fin 640) (j : Fin 1024) (h : 640 * (t.val / 2) + p.val < 8320) :
    (iblk m c 3 t : S640x1024.Idx → EReal) (ix2 p j) = hs m c ⟨640 * (t.val / 2) + p.val, h⟩ j := by
  unfold iblk
  rw [View.read_apply]
  exact congrArg (m (c.tc.loc main_arg3)) (Entry.ext (by show win0_3.index t 0 * 640 + 1 * p.val = 640 * (t.val / 2) + p.val; rw [(index0 t).2.2.2.1.1]; omega) (by show win0_3.index t 1 * 1024 + 1 * j.val = j.val; rw [(index0 t).2.2.2.1.2]; omega))

theorem block4 (t : Fin cfg0.N) (j : Fin 1024) : (iblk m c 4 t : S1x1024.Idx → EReal) (ix2 0 j) = nw m c j := by
  unfold iblk
  rw [View.read_apply]
  exact congrArg (m (c.tc.loc main_arg4)) (Entry.ext (by show win0_4.index t 0 * 1 + 1 * 0 = 0; rw [(index0 t).2.2.2.2.1.1]) (by show win0_4.index t 1 * 1024 + 1 * j.val = j.val; rw [(index0 t).2.2.2.2.1.2]; omega))

theorem block5 (t : Fin cfg0.N) (p : Fin 640) (j : Fin 1024) (h : 640 * (t.val / 2) + p.val < 8320) :
    (iblk m c 5 t : S640x1024.Idx → EReal) (ix2 p j) = es m c ⟨640 * (t.val / 2) + p.val, h⟩ j := by
  unfold iblk
  rw [View.read_apply]
  exact congrArg (m (c.tc.loc main_arg5)) (Entry.ext (by show win0_5.index t 0 * 640 + 1 * p.val = 640 * (t.val / 2) + p.val; rw [(index0 t).2.2.2.2.2.1.1]; omega) (by show win0_5.index t 1 * 1024 + 1 * j.val = j.val; rw [(index0 t).2.2.2.2.2.1.2]; omega))

/-- The payloads at an entry. -/
theorem product_at (x : FVec Ideal S640x2816 .bf16) (w : FVec Ideal S1024x2816 .bf16) (p : Fin 640) (j : Fin 1024) :
    k0_pay1 (F := Ideal) x w (ix2 p j) = ∑ k : Fin 2816, x (ix2 p k) * w (ix2 j k) := by
  pointwise [k0_pay1]

theorem row_at (x a : FVec Ideal S640x1024 .f32) (w : FVec Ideal S1x1024 .f32) (e : FVec Ideal S640x1024 .f32) (p : Fin 640) (j : Fin 1024) :
    k0_pay8 (F := Ideal) x a w e (ix2 p j)
      = callRow (fun j => x (ix2 p j)) (fun j => a (ix2 p j) * w (ix2 0 j)) (e (ix2 p j)) j := by
  pointwise [k0_pay8, k0_pay7, k0_pay6]
  rfl

theorem weight_at (x a : FVec Ideal S640x1024 .f32) (w : FVec Ideal S1x1024 .f32) (j : Fin 1024) :
    k0_pay5 (F := Ideal) w (k0_pay12 x a) (ix2 0 j)
      = w (ix2 0 j) + ∑ p : Fin 640, a (ix2 p j) * (x (ix2 p j) * Ideal.rsqrt (ms fun j => x (ix2 p j))) := by
  pointwise [k0_pay5, k0_pay12, k0_pay7, k0_pay6]
  rfl

theorem zero_at (j : Fin 1024) : k0_pay10 (F := Ideal) (ix2 0 j) = 0 := by
  pointwise [k0_pay10]

/-- The gathered product at an entry. -/
theorem prod_at (t : Fin cfg0.N) (ht : t.val % 2 = 1) (p : Fin 640) (j : Fin 1024) (h : 640 * (t.val / 2) + p.val < 8320) :
    prod m c t ht (ix2 p j) = dy m c ⟨640 * (t.val / 2) + p.val, h⟩ j := by
  show (k0_pay1 (F := Ideal) _ _ (ix2 p j) : EReal) + k0_pay1 (F := Ideal) _ _ (ix2 p j) = _
  rw [product_at, product_at, dy]
  congr 1
  · refine Finset.sum_congr rfl fun k _ => ?_
    rw [block0 m c _ p k (by dsimp only; omega), block2 m c _ j k (by dsimp only; omega)]
    congr 2 <;> (apply Fin.ext; dsimp only; omega)
  · refine Finset.sum_congr rfl fun k _ => ?_
    rw [block1 m c _ p k (by omega), block2 m c _ j k (by omega)]
    congr 2; apply Fin.ext; dsimp only; omega

/-- The rows' gradient, by row and column. -/
def dh (r : Fin 8320) (j : Fin 1024) : EReal := callRow (hs m c r) (fun j => dy m c r j * nw m c j) (es m c r j) j

/-- A row's share in the norm's weight. -/
def dw (r : Fin 8320) (j : Fin 1024) : EReal := dy m c r j * (hs m c r j * Ideal.rsqrt (ms (hs m c r)))

theorem rows_at (t : Fin cfg0.N) (ht : t.val % 2 = 1) (p : Fin 640) (j : Fin 1024) (h : 640 * (t.val / 2) + p.val < 8320) :
    (k0_pay8 (F := Ideal) (iblk m c 3 t) (prod m c t ht) (iblk m c 4 t) (iblk m c 5 t) : S640x1024.Idx → EReal) (ix2 p j)
      = dh m c ⟨640 * (t.val / 2) + p.val, h⟩ j := by
  refine (row_at _ _ _ _ p j).trans ?_
  simp only [block3 m c t p _ h, block4 m c t, block5 m c t p _ h, prod_at m c t ht p _ h]
  rfl

/-- A block of rows and its gathered product, by entry. -/
abbrev hblk (t : Fin cfg0.N) (p : Fin 640) (j : Fin 1024) : EReal := (iblk m c 3 t : S640x1024.Idx → EReal) (ix2 p j)
abbrev pblk (t : Fin cfg0.N) (h : t.val % 2 = 1) (p : Fin 640) (j : Fin 1024) : EReal := (prod m c t h : S640x1024.Idx → EReal) (ix2 p j)

/-- The norm's weight after `a + 1` blocks of rows: the sum over their rows. -/
theorem weights_at (j : Fin 1024) : ∀ (a : ℕ) (h : 2 * a + 1 < cfg0.N),
    ((outsAt0 m c (2 * a + 1) h).2.1 : S1x1024.Idx → EReal) (ix2 0 j)
      = ∑ r ∈ Finset.range (640 * (a + 1)), if hr : r < 8320 then dw m c ⟨r, hr⟩ j else 0 := by
  have hN : cfg0.N = 26 := N_0
  have part (a : ℕ) (h : 2 * a + 1 < cfg0.N) :
      ∑ p : Fin 640, pblk m c ⟨2 * a + 1, h⟩ (by dsimp only; omega) p j
          * (hblk m c ⟨2 * a + 1, h⟩ p j * Ideal.rsqrt (ms fun j => hblk m c ⟨2 * a + 1, h⟩ p j))
        = ∑ p ∈ Finset.range 640, if hr : 640 * a + p < 8320 then dw m c ⟨640 * a + p, hr⟩ j else 0 := by
    rw [Finset.sum_range]
    refine Finset.sum_congr rfl fun p _ => ?_
    have hp : 640 * ((2 * a + 1) / 2) + p.val < 8320 := by omega
    have e : (2 * a + 1) / 2 = a := by omega
    have ep : pblk m c ⟨2 * a + 1, h⟩ (by dsimp only; omega) p j = dy m c ⟨640 * ((2 * a + 1) / 2) + p.val, hp⟩ j :=
      prod_at m c ⟨2 * a + 1, h⟩ (by dsimp only; omega) p j hp
    have eh (j : Fin 1024) : hblk m c ⟨2 * a + 1, h⟩ p j = hs m c ⟨640 * ((2 * a + 1) / 2) + p.val, hp⟩ j :=
      block3 m c ⟨2 * a + 1, h⟩ p j hp
    rw [dif_pos (by omega), ep]
    simp only [eh, e]
    rfl
  intro a
  induction a with
  | zero =>
    intro h
    rw [weight_first m c ⟨2 * 0 + 1, h⟩ (by dsimp only) (by dsimp only; omega)]
    refine (weight_at _ _ _ j).trans ?_
    rw [zero_at, zero_add]
    refine (part 0 h).trans ?_
    simp only [Nat.mul_zero, Nat.zero_add, Nat.mul_one]
  | succ a ih =>
    intro h
    rw [weight_later m c ⟨2 * (a + 1) + 1, h⟩ (by dsimp only; omega) (by dsimp only; omega)]
    refine (weight_at _ _ _ j).trans ?_
    have e : outsAt0 m c (2 * (a + 1) + 1 - 1 - 1) (by omega) = outsAt0 m c (2 * a + 1) (by omega) := by
      congr 1
    rw [show 640 * (a + 1 + 1) = 640 * (a + 1) + 640 from by omega, Finset.sum_range_add]
    have h1 : ((outsAt0 m c (2 * (a + 1) + 1 - 1 - 1) (by omega)).2.1 : S1x1024.Idx → EReal) (ix2 0 j)
        = ∑ r ∈ Finset.range (640 * (a + 1)), if hr : r < 8320 then dw m c ⟨r, hr⟩ j else 0 := by
      rw [e]; exact ih (by omega)
    exact congrArg₂ (· + ·) h1 (part (a + 1) h)

/-- The call's results, by entry. -/
abbrev rows : S8320x1024.Idx → EReal := fun i => dh m c (i 0) (i 1)
abbrev weights : S1x1024.Idx → EReal := fun i => ∑ r, dw m c r (i 1)

/-- The rows' gradient's array after the call, and its copy's. -/
theorem rows_array : (dats m 0 c).arrAt 6 cfg0.N = rows m c := by
  refine (dats m 0 c).arrAt_eq_of_covers 6 _ (by decide +kernel) fun t hf y => ?_
  have hN : cfg0.grid.N = 26 := N_0
  have ht : t.val % 2 = 1 := (flush0_6 t).mp hf
  have e := (index0 t).2.2.2.2.2.2.1
  have h0 : (y 0).val < 640 := (y 0).isLt
  have h1 : (y 1).val < 1024 := (y 1).isLt
  have hp : 640 * (t.val / 2) + (y 0).val < 8320 := by have := t.isLt; omega
  blk_simp [e]
  rw [after0_6, (rows_after m c t ht).1]
  have hy : y = ix2 (⟨(y 0).val, h0⟩ : Fin 640) (⟨(y 1).val, h1⟩ : Fin 1024) := by
    funext a; match a with | ⟨0, _⟩ => rfl | ⟨1, _⟩ => rfl
  have g0 : (((win0_6.blk t).view.emb y 0 : Fin 8320)) = ⟨640 * (t.val / 2) + (y 0).val, hp⟩ :=
    Fin.ext (by show win0_6.index t 0 * 640 + 1 * (y 0).val = _; rw [e.1]; dsimp only; omega)
  have g1 : (((win0_6.blk t).view.emb y 1 : Fin 1024)) = ⟨(y 1).val, h1⟩ :=
    Fin.ext (by show win0_6.index t 1 * 1024 + 1 * (y 1).val = _; rw [e.2]; dsimp only; omega)
  show _ = dh m c ((win0_6.blk t).view.emb y 0) ((win0_6.blk t).view.emb y 1)
  rw [g0, g1]
  exact (congrArg _ hy).trans (rows_at m c t ht ⟨(y 0).val, h0⟩ ⟨(y 1).val, h1⟩ hp)

theorem copy_array : (dats m 0 c).arrAt 8 cfg0.N = rows m c := by
  refine (dats m 0 c).arrAt_eq_of_covers 8 _ (by decide +kernel) fun t hf y => ?_
  have hN : cfg0.grid.N = 26 := N_0
  have ht : t.val % 2 = 1 := (flush0_8 t).mp hf
  have e := (index0 t).2.2.2.2.2.2.2.2
  have h0 : (y 0).val < 640 := (y 0).isLt
  have h1 : (y 1).val < 1024 := (y 1).isLt
  have hp : 640 * (t.val / 2) + (y 0).val < 8320 := by have := t.isLt; omega
  blk_simp [e]
  rw [after0_8, (rows_after m c t ht).2]
  have hy : y = ix2 (⟨(y 0).val, h0⟩ : Fin 640) (⟨(y 1).val, h1⟩ : Fin 1024) := by
    funext a; match a with | ⟨0, _⟩ => rfl | ⟨1, _⟩ => rfl
  have g0 : (((win0_8.blk t).view.emb y 0 : Fin 8320)) = ⟨640 * (t.val / 2) + (y 0).val, hp⟩ :=
    Fin.ext (by show win0_8.index t 0 * 640 + 1 * (y 0).val = _; rw [e.1]; dsimp only; omega)
  have g1 : (((win0_8.blk t).view.emb y 1 : Fin 1024)) = ⟨(y 1).val, h1⟩ :=
    Fin.ext (by show win0_8.index t 1 * 1024 + 1 * (y 1).val = _; rw [e.2]; dsimp only; omega)
  show _ = dh m c ((win0_8.blk t).view.emb y 0) ((win0_8.blk t).view.emb y 1)
  rw [g0, g1]
  exact (congrArg _ hy).trans (rows_at m c t ht ⟨(y 0).val, h0⟩ ⟨(y 1).val, h1⟩ hp)

/-- The norm's weight's array after the call. -/
theorem weights_array : (dats m 0 c).arrAt 7 cfg0.N = weights m c := by
  refine (dats m 0 c).arrAt_eq_of_covers 7 _ (by decide +kernel) fun t hf y => ?_
  have hN : cfg0.grid.N = 26 := N_0
  have ht : t.val % 26 = 25 := (flush0_7 t).mp hf
  have e := (index0 t).2.2.2.2.2.2.2.1
  have h0 : (y 0).val < 1 := (y 0).isLt
  have h1 : (y 1).val < 1024 := (y 1).isLt
  blk_simp [e]
  rw [after0_7]
  have hy : y = ix2 (0 : Fin 1) (⟨(y 1).val, h1⟩ : Fin 1024) := by
    funext a; match a with | ⟨0, _⟩ => exact Fin.ext (by show (y 0).val = 0; omega) | ⟨1, _⟩ => rfl
  have g1 : (((win0_7.blk t).view.emb y 1 : Fin 1024)) = ⟨(y 1).val, h1⟩ :=
    Fin.ext (by show win0_7.index t 1 * 1024 + 1 * (y 1).val = _; rw [e.2]; dsimp only; omega)
  have hw := weights_at m c ⟨(y 1).val, h1⟩ 12 (by show 25 < cfg0.grid.N; omega)
  have hs : (∑ r ∈ Finset.range (640 * (12 + 1)), if hr : r < 8320 then dw m c ⟨r, hr⟩ ⟨(y 1).val, h1⟩ else 0 : EReal)
      = ∑ r, dw m c r ⟨(y 1).val, h1⟩ := by
    rw [Finset.sum_range]
    exact Finset.sum_congr rfl fun r _ => dif_pos r.isLt
  have et : outsAt0 m c t.val t.isLt = outsAt0 m c (2 * 12 + 1) (by show 25 < cfg0.grid.N; omega) := by
    congr 1; have := t.isLt; omega
  show _ = ∑ r, dw m c r ((win0_7.blk t).view.emb y 1)
  rw [g1, et]
  exact (congrArg (outsAt0 m c (2 * 12 + 1) _).2.1 hy).trans (hw.trans hs)

end
end

end Cert.UpBwdValue

end
-- ==== Proof.UpBwdClaims.lean ====
module

public import proofs.«01_k».proof.Defs
public import proofs.«01_k».proof.Proof.Gen.UpBwd
public import proofs.«01_k».proof.Proof.Gen.UpBwdRefIdeal.Run
public import proofs.«01_k».proof.Proof.UpBwdValue
public import Idealize.ShloMosaic.Lib.Quiescent

@[expose] public section

set_option maxRecDepth 16384

noncomputable section

/-! The claims about the gradient through the up projection and its norm. -/

namespace Cert.UpBwdClaims

open Cert.NormBwd.Math
open Idealize.ShloMosaic Idealize.ShloMosaic.TcCoe Idealize.SL.Sem

/-- Both programs end, their arguments as they were and every semaphore at zero: they have the same text. -/
theorem frame_ideal : Cert.quiescent_UpBwdIdeal (hUpBwdIdeal := Cert.UpBwdIdeal.Gen.facts) := fun m ρ _ =>
  Cert.UpBwdIdeal.Gen.frame (F := Ideal) m ρ

theorem frame_words : Cert.quiescent_UpBwd (hUpBwd := Cert.UpBwd.Gen.facts) :=
  Eq.mp (by chain_rfl) fun m ρ (_ : True) => Cert.UpBwdIdeal.Gen.frame (F := Bits) m ρ

/-- So does the reference. -/
theorem frame_reference : Cert.quiescent_UpBwdRefIdeal (hUpBwdRefIdeal := Cert.UpBwdRefIdeal.Gen.facts) := fun m ρ _ =>
  (θ_run _ _ _).mono (fun r h => ⟨fun c => (h c).2.2.2, sem_eq_zero_of_no_sems (by decide) r.2⟩)
    (Cert.UpBwdRefIdeal.Value.run (F := Ideal) m ρ)

/-- Both programs leave the same gradients, and their arguments as they were. -/
theorem value : Cert.algebraic_UpBwdIdeal_UpBwdRefIdeal (hUpBwdIdeal := Cert.UpBwdIdeal.Gen.facts)
    (hUpBwdRefIdeal := Cert.UpBwdRefIdeal.Gen.facts) := by
  intro m ρ m' ρ' _ same
  have rows (c) : Cert.UpBwdRefIdeal.Value.res_main_v39 (F := Ideal) m' c = Cert.UpBwdValue.rows m c := by
    unfold Cert.UpBwdRefIdeal.Value.res_main_v39
    obtain ⟨e0, e1, e2, e3, e4, e5, e6⟩ := same c
    rw [e0, e1, e2, e3, e4, e5]
    funext y
    obtain ⟨r, j, rfl⟩ : ∃ (r : Fin 8320) (j : Fin 1024), y = ix2 r j := ⟨y 0, y 1, by
      funext a; match a with | ⟨0, _⟩ => rfl | ⟨1, _⟩ => rfl⟩
    refine Eq.trans (b := plainRow (Cert.UpBwdValue.hs m c r) (fun j => Cert.UpBwdValue.dy m c r j * Cert.UpBwdValue.nw m c j)
      (Cert.UpBwdValue.es m c r j) j) ?_ (callRow_eq _ _ _ _).symm
    pointwise
    simp only [Finset.univ_unique, Finset.sum_singleton]
    rfl
  have copy (c) : (Cert.UpBwdRefIdeal.Value.res_main_v40 (F := Ideal) m' c : Cert.UpBwdRefIdeal.S8320x1024.Idx → EReal)
      = Cert.UpBwdValue.rows m c := Eq.trans (b := Cert.UpBwdRefIdeal.Value.res_main_v39 (F := Ideal) m' c) rfl (rows c)
  refine ⟨fun c => Cert.UpBwdValue.rows m c, fun c => Cert.UpBwdValue.weights m c, fun c => Cert.UpBwdValue.rows m c,
    (θ_run _ _ _).mono (fun _ h c => ⟨(h c).1.trans (Cert.UpBwdValue.rows_array m c),
      (h c).2.1.trans (Cert.UpBwdValue.weights_array m c), (h c).2.2.1.trans (Cert.UpBwdValue.copy_array m c), (h c).2.2.2⟩)
      (Cert.UpBwdIdeal.Value.run_blocks m ρ),
    (θ_run _ _ _).mono (fun _ h c => ⟨(h c).1.trans (rows c), (h c).2.1.trans ?_,
      (h c).2.2.1.trans (copy c), (h c).2.2.2⟩)
      (Cert.UpBwdRefIdeal.Value.run m' ρ')⟩
  obtain ⟨e0, e1, e2, e3, e4, e5, e6⟩ := same c
  rw [e0, e1, e2, e3]
  funext y
  have hy : y = ix2 (0 : Fin 1) (y 1 : Fin 1024) := by
    funext a; match a with | ⟨0, _⟩ => exact Subsingleton.elim (α := Fin 1) _ _ | ⟨1, _⟩ => rfl
  rw [hy]
  pointwise
  exact Finset.sum_congr rfl fun r _ => mul_comm _ _

end Cert.UpBwdClaims

end
-- ==== Proof.ActGradClaims.lean ====
module

public import proofs.«01_k».proof.Defs
public import proofs.«01_k».proof.Proof.Gen.ActGrad
public import proofs.«01_k».proof.Proof.Gen.ActGradIdeal.Value
public import proofs.«01_k».proof.Proof.Gen.ActGradRefIdeal.Run
public import proofs.«01_k».proof.Proof.Entry
public import Idealize.ShloMosaic.Lib.Pointwise
public import Idealize.ShloMosaic.Lib.Quiescent
public import Idealize.ShloMosaic.Lib.Tactic
public import Idealize.ShloMosaic.Lib.Pipeline.ValueKit

@[expose] public section

set_option maxRecDepth 16384

noncomputable section

/-! The gradient of the feed-forward activation: every entry is the sum of the products of a row of the gradient and a row
of the weight. -/

namespace Cert.ActGradClaims

open Idealize.ShloMosaic Idealize.ShloMosaic.TcCoe Idealize.SL.Sem

section
open Cert.ActGradIdeal Cert.ActGradIdeal.Gen
variable (m : (ℓ : Loc nD τ sig) → Buf (Elt Ideal) ℓ) (c : Dev nD)

theorem origin : (![0, 0] : Fin 2 → Nat) = fun _ => 0 := funext fun a => by fin_cases a <;> rfl

/-- The gradient's rows and the weight, as matrices. -/
abbrev ds (r : Fin 8320) (k : Fin 1024) : EReal := (m ((c : Thread nD τ).loc main_arg0) : S8320x1024.Idx → EReal) (ix2 r k)
abbrev ws (j : Fin 2816) (k : Fin 1024) : EReal := (m ((c : Thread nD τ).loc main_arg1) : S2816x1024.Idx → EReal) (ix2 j k)

theorem index : ∀ t : Fin cfg0.N, (win0_0.index t (0 : Fin 2) = t.val % 13 ∧ win0_0.index t (1 : Fin 2) = 0)
    ∧ (win0_1.index t (0 : Fin 2) = t.val / 13 ∧ win0_1.index t (1 : Fin 2) = 0)
    ∧ (win0_2.index t (0 : Fin 2) = t.val % 13 ∧ win0_2.index t (1 : Fin 2) = t.val / 13) :=
  (by decide +kernel : ∀ t : Fin grid0.N, _)

/-- The blocks a point reads: 640 rows of the gradient, and 1408 of the weight. -/
theorem block0 (t : Fin cfg0.N) (r : Fin 640) (k : Fin 1024) (h : 640 * (t.val % 13) + r.val < 8320) :
    (iblk m c 0 t : S640x1024.Idx → EReal) (ix2 r k) = ds m c ⟨640 * (t.val % 13) + r.val, h⟩ k := by
  unfold iblk
  rw [View.read_apply]
  exact congrArg (m (c.tc.loc main_arg0)) (Entry.ext (by show win0_0.index t 0 * 640 + 1 * r.val = 640 * (t.val % 13) + r.val; rw [(index t).1.1]; omega) (by show win0_0.index t 1 * 1024 + 1 * k.val = k.val; rw [(index t).1.2]; omega))

theorem block1 (t : Fin cfg0.N) (j : Fin 1408) (k : Fin 1024) (h : 1408 * (t.val / 13) + j.val < 2816) :
    (iblk m c 1 t : S1408x1024.Idx → EReal) (ix2 j k) = ws m c ⟨1408 * (t.val / 13) + j.val, h⟩ k := by
  unfold iblk
  rw [View.read_apply]
  exact congrArg (m (c.tc.loc main_arg1)) (Entry.ext (by show win0_1.index t 0 * 1408 + 1 * j.val = 1408 * (t.val / 13) + j.val; rw [(index t).2.1.1]; omega) (by show win0_1.index t 1 * 1024 + 1 * k.val = k.val; rw [(index t).2.1.2]; omega))

/-- A block's product at an entry. -/
theorem product_at (x : FVec Ideal S640x1024 .bf16) (w : FVec Ideal S1408x1024 .bf16) (r : Fin 640) (j : Fin 1408) :
    k0_pay1 (F := Ideal) x w (ix2 r j) = ∑ k : Fin 1024, x (ix2 r k) * w (ix2 j k) := by
  pointwise [k0_pay1]

/-- The activation's gradient, by row and column. -/
def grad (r : Fin 8320) (j : Fin 2816) : EReal := ∑ k, ds m c r k * ws m c j k
abbrev result : S8320x2816.Idx → EReal := fun i => grad m c (i 0) (i 1)

/-- The array after the call. -/
theorem array : (dats m 0 c).arrAt 2 cfg0.N = result m c := by
  refine (dats m 0 c).arrAt_eq_of_covers 2 _ (by decide +kernel) fun t hf y => ?_
  have hN : cfg0.grid.N = 26 := N_0
  have ht := t.isLt
  have e := (index t).2.2
  have h0 : (y 0).val < 640 := (y 0).isLt
  have h1 : (y 1).val < 1408 := (y 1).isLt
  have hp : 640 * (t.val % 13) + (y 0).val < 8320 := by omega
  have hq : 1408 * (t.val / 13) + (y 1).val < 2816 := by omega
  blk_simp [e]
  rw [after0_2]
  unfold out0_2
  rw [View.canon_unit_zero origin]
  simp only [View.ld_unit_zero (S := S640x1024) origin, View.ld_unit_zero (S := S1408x1024) origin]
  have hy : y = ix2 (⟨(y 0).val, h0⟩ : Fin 640) (⟨(y 1).val, h1⟩ : Fin 1408) := by
    funext a; match a with | ⟨0, _⟩ => rfl | ⟨1, _⟩ => rfl
  have g0 : ((win0_2.blk t).view.emb y 0 : Fin 8320) = ⟨640 * (t.val % 13) + (y 0).val, hp⟩ :=
    Fin.ext (by show win0_2.index t 0 * 640 + 1 * (y 0).val = _; rw [e.1]; dsimp only; omega)
  have g1 : ((win0_2.blk t).view.emb y 1 : Fin 2816) = ⟨1408 * (t.val / 13) + (y 1).val, hq⟩ :=
    Fin.ext (by show win0_2.index t 1 * 1408 + 1 * (y 1).val = _; rw [e.2]; dsimp only; omega)
  show _ = grad m c ((win0_2.blk t).view.emb y 0) ((win0_2.blk t).view.emb y 1)
  rw [g0, g1]
  refine (congrArg (k0_pay1 (F := Ideal) (iblk m c 0 t) (iblk m c 1 t)) hy).trans ((product_at _ _ _ _).trans ?_)
  exact Finset.sum_congr rfl fun k _ => congrArg₂ (· * ·) (block0 m c t _ k hp) (block1 m c t _ k hq)

end

/-- Both programs end, their arguments as they were and every semaphore at zero: they have the same text. -/
theorem frame_ideal : Cert.quiescent_ActGradIdeal (hActGradIdeal := Cert.ActGradIdeal.Gen.facts) := fun m ρ _ =>
  Cert.ActGradIdeal.Gen.frame (F := Ideal) m ρ

theorem frame_words : Cert.quiescent_ActGrad (hActGrad := Cert.ActGrad.Gen.facts) :=
  Eq.mp (by chain_rfl) fun m ρ (_ : True) => Cert.ActGradIdeal.Gen.frame (F := Bits) m ρ

/-- So does the reference. -/
theorem frame_reference : Cert.quiescent_ActGradRefIdeal (hActGradRefIdeal := Cert.ActGradRefIdeal.Gen.facts) := fun m ρ _ =>
  (θ_run _ _ _).mono (fun r h => ⟨fun c => (h c).2, sem_eq_zero_of_no_sems (by decide) r.2⟩)
    (Cert.ActGradRefIdeal.Value.run (F := Ideal) m ρ)

/-- Both programs leave the same gradient, and their arguments as they were. -/
theorem value : Cert.algebraic_ActGradIdeal_ActGradRefIdeal (hActGradIdeal := Cert.ActGradIdeal.Gen.facts)
    (hActGradRefIdeal := Cert.ActGradRefIdeal.Gen.facts) := by
  intro m ρ m' ρ' _ same
  refine ⟨fun c => result m c, (θ_run _ _ _).mono (fun _ h c => ⟨(h c).1.trans (array m c), (h c).2⟩)
    (Cert.ActGradIdeal.Value.run_blocks m ρ),
    (θ_run _ _ _).mono (fun _ h c => ⟨(h c).1.trans ?_, (h c).2⟩) (Cert.ActGradRefIdeal.Value.run m' ρ')⟩
  rw [(same c).1, (same c).2]
  funext y
  have hy : y = ix2 (y 0 : Fin 8320) (y 1 : Fin 2816) := by
    funext a; match a with | ⟨0, _⟩ => rfl | ⟨1, _⟩ => rfl
  rw [hy]
  pointwise
  rfl

end Cert.ActGradClaims

end
-- ==== Proof.AdamSmallClaims.lean ====
module

public import proofs.«01_k».proof.Defs
public import proofs.«01_k».proof.Proof.Gen.AdamSmall
public import proofs.«01_k».proof.Proof.Gen.AdamSmallIdeal.Value
public import proofs.«01_k».proof.Proof.Gen.AdamSmallRefIdeal.Run
public import Idealize.ShloMosaic.Lib.Pointwise
public import Idealize.ShloMosaic.Lib.Quiescent
public import Idealize.ShloMosaic.Lib.Tactic

@[expose] public section

set_option maxRecDepth 16384

noncomputable section

/-! The optimiser's step on the small weights, entry by entry. -/

namespace Cert.AdamSmallClaims

open Idealize.ShloMosaic Idealize.ShloMosaic.TcCoe Idealize.SL.Sem

/-- Both programs end, their arguments as they were and every semaphore at zero: they have the same text. -/
theorem frame_ideal : Cert.quiescent_AdamSmallIdeal (hAdamSmallIdeal := Cert.AdamSmallIdeal.Gen.facts) := fun m ρ _ =>
  Cert.AdamSmallIdeal.Gen.frame (F := Ideal) m ρ

theorem frame_words : Cert.quiescent_AdamSmall (hAdamSmall := Cert.AdamSmall.Gen.facts) :=
  Eq.mp (by chain_rfl) fun m ρ (_ : True) => Cert.AdamSmallIdeal.Gen.frame (F := Bits) m ρ

/-- So does the reference. -/
theorem frame_reference : Cert.quiescent_AdamSmallRefIdeal (hAdamSmallRefIdeal := Cert.AdamSmallRefIdeal.Gen.facts) := fun m ρ _ =>
  (θ_run _ _ _).mono (fun r h => ⟨fun c => (h c).2.2.2, sem_eq_zero_of_no_sems (by decide) r.2⟩)
    (Cert.AdamSmallRefIdeal.Value.run (F := Ideal) m ρ)

/-- Both programs leave the same change of the weights and the same two moments, and their arguments as they were. -/
theorem value : Cert.algebraic_AdamSmallIdeal_AdamSmallRefIdeal (hAdamSmallIdeal := Cert.AdamSmallIdeal.Gen.facts)
    (hAdamSmallRefIdeal := Cert.AdamSmallRefIdeal.Gen.facts) := by
  intro m ρ m' ρ' _ same
  refine ⟨_, _, _, Cert.AdamSmallIdeal.Value.run m ρ,
    (θ_run _ _ _).mono (fun _ h c => ⟨(h c).1.trans ?_, (h c).2.1.trans ?_, (h c).2.2.1.trans ?_, (h c).2.2.2⟩)
      (Cert.AdamSmallRefIdeal.Value.run m' ρ')⟩
  all_goals
    rw [(same c).2.1]
    try rw [(same c).2.2.1]
    try rw [(same c).2.2.2]
    try rw [(same c).1]
    funext y
    have hy : y = ix2 (y 0 : Fin 192) (y 1 : Fin 128) := by
      funext a; match a with | ⟨0, _⟩ => rfl | ⟨1, _⟩ => rfl
    rw [hy]
    pointwise

end Cert.AdamSmallClaims

end
-- ==== Proof.MergeClaims.lean ====
module

public import proofs.«01_k».proof.Defs
public import proofs.«01_k».proof.Proof.Entry
public import proofs.«01_k».proof.Proof.Gen.Merge
public import proofs.«01_k».proof.Proof.Gen.MergeIdeal.Value
public import proofs.«01_k».proof.Proof.Gen.MergeRefIdeal.Run
public import Idealize.ShloMosaic.Lib.Quiescent
public import Idealize.ShloMosaic.Lib.Pipeline.ValueKit

@[expose] public section

set_option maxRecDepth 16384

noncomputable section

/-! The two branches, each times its weight, and their sum under the gates. -/

namespace Cert.MergeClaims

open Idealize.ShloMosaic Idealize.ShloMosaic.TcCoe Idealize.SL.Sem

section
open Cert.MergeIdeal Cert.MergeIdeal.Gen Cert.Entry
variable (m : (ℓ : Loc nD τ sig) → Buf (Elt Ideal) ℓ) (c : Dev nD)

/-- A branch's rows and weight, and the gates, as matrices. -/
abbrev ys (r : Fin 8320) (k : Fin 2048) : EReal := (m ((c : Thread nD τ).loc main_arg0) : S8320x2048.Idx → EReal) (ix2 r k)
abbrev yr (r : Fin 8320) (k : Fin 2048) : EReal := (m ((c : Thread nD τ).loc main_arg1) : S8320x2048.Idx → EReal) (ix2 r k)
abbrev ws (k : Fin 2048) (j : Fin 1024) : EReal := (m ((c : Thread nD τ).loc main_arg2) : S2048x1024.Idx → EReal) (ix2 k j)
abbrev wr (k : Fin 2048) (j : Fin 1024) : EReal := (m ((c : Thread nD τ).loc main_arg3) : S2048x1024.Idx → EReal) (ix2 k j)
abbrev gs (r : Fin 8320) (j : Fin 2048) : EReal := (m ((c : Thread nD τ).loc main_arg4) : S8320x2048.Idx → EReal) (ix2 r j)

/-- The two branches, and their sum, each times its gate. -/
def ssd (r : Fin 8320) (j : Fin 1024) : EReal := ∑ k, ys m c r k * ws m c k j
def ret (r : Fin 8320) (j : Fin 1024) : EReal := ∑ k, yr m c r k * wr m c k j
def merged (r : Fin 8320) (j : Fin 1024) : EReal :=
  Ideal.logistic (gs m c r ⟨j.val, by omega⟩) * ssd m c r j + Ideal.logistic (gs m c r ⟨1024 + j.val, by omega⟩) * ret m c r j
abbrev result0 : S8320x1024.Idx → EReal := fun i => ssd m c (i 0) (i 1)
abbrev result1 : S8320x1024.Idx → EReal := fun i => ret m c (i 0) (i 1)
abbrev result2 : S8320x1024.Idx → EReal := fun i => merged m c (i 0) (i 1)

theorem ssd_at (x : FVec Ideal S640x2048 .bf16) (w : FVec Ideal S2048x1024 .bf16) (r : Fin 640) (j : Fin 1024) :
    k0_pay1 (F := Ideal) x w (ix2 r j) = ∑ k : Fin 2048, x (ix2 r k) * w (ix2 k j) := by
  pointwise [k0_pay1]

theorem ret_at (x : FVec Ideal S640x2048 .bf16) (w : FVec Ideal S2048x1024 .bf16) (r : Fin 640) (j : Fin 1024) :
    k0_pay2 (F := Ideal) x w (ix2 r j) = ∑ k : Fin 2048, x (ix2 r k) * w (ix2 k j) := by
  pointwise [k0_pay2]

theorem merged_at (x : FVec Ideal S640x2048 .bf16) (w : FVec Ideal S2048x1024 .bf16) (x' : FVec Ideal S640x2048 .bf16)
    (w' : FVec Ideal S2048x1024 .bf16) (g g' : FVec Ideal S640x1024 .bf16) (r : Fin 640) (j : Fin 1024) :
    k0_pay3 (F := Ideal) x w x' w' g g' (ix2 r j)
      = Ideal.logistic (g (ix2 r j)) * k0_pay1 (F := Ideal) x w (ix2 r j) + Ideal.logistic (g' (ix2 r j)) * k0_pay2 (F := Ideal) x' w' (ix2 r j) := by
  pointwise [k0_pay3]

/-- Which blocks a point reads and writes: its 640 rows, and all of the weights. -/
theorem index : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0) ∧ (win0_3.index t (0 : Fin 2) = 0 ∧ win0_3.index t (1 : Fin 2) = 0)
    ∧ (win0_4.index t (0 : Fin 2) = t.val ∧ win0_4.index t (1 : Fin 2) = 0) ∧ (win0_5.index t (0 : Fin 2) = t.val ∧ win0_5.index t (1 : Fin 2) = 1) :=
  (by decide +kernel : ∀ t : Fin grid0.N, _)

theorem outdex : ∀ t : Fin cfg0.N, (win0_6.index t (0 : Fin 2) = t.val ∧ win0_6.index t (1 : Fin 2) = 0)
    ∧ (win0_7.index t (0 : Fin 2) = t.val ∧ win0_7.index t (1 : Fin 2) = 0) ∧ (win0_8.index t (0 : Fin 2) = t.val ∧ win0_8.index t (1 : Fin 2) = 0) :=
  (by decide +kernel : ∀ t : Fin grid0.N, _)

/-- A row of a block, among all rows. -/
abbrev row (t : Fin cfg0.N) (r : Fin 640) : Fin 8320 := ⟨t.val * 640 + r.val, by have h : cfg0.N = 13 := N_0; have := t.isLt; omega⟩

theorem ssd_block (t : Fin cfg0.N) (r : Fin 640) (j : Fin 1024) :
    k0_pay1 (F := Ideal) (iblk m c 0 t) (iblk m c 2 t) (ix2 r j) = ssd m c (row t r) j := by
  obtain ⟨⟨e0, e1⟩, -, ⟨e2, e3⟩, -⟩ := index t
  refine (ssd_at _ _ _ _).trans (Finset.sum_congr rfl fun k _ => congrArg₂ (· * ·) ?_ ?_)
  · unfold iblk
    rw [View.read_apply]
    exact congrArg (m (c.tc.loc main_arg0)) (ext (by show win0_0.index t 0 * 640 + 1 * r.val = t.val * 640 + r.val; omega)
      (by show win0_0.index t 1 * 2048 + 1 * k.val = k.val; omega))
  · unfold iblk
    rw [View.read_apply]
    exact congrArg (m (c.tc.loc main_arg2)) (ext (by show win0_2.index t 0 * 2048 + 1 * k.val = k.val; omega)
      (by show win0_2.index t 1 * 1024 + 1 * j.val = j.val; omega))

theorem ret_block (t : Fin cfg0.N) (r : Fin 640) (j : Fin 1024) :
    k0_pay2 (F := Ideal) (iblk m c 1 t) (iblk m c 3 t) (ix2 r j) = ret m c (row t r) j := by
  obtain ⟨-, ⟨e0, e1⟩, -, ⟨e2, e3⟩, -⟩ := index t
  refine (ret_at _ _ _ _).trans (Finset.sum_congr rfl fun k _ => congrArg₂ (· * ·) ?_ ?_)
  · unfold iblk
    rw [View.read_apply]
    exact congrArg (m (c.tc.loc main_arg1)) (ext (by show win0_1.index t 0 * 640 + 1 * r.val = t.val * 640 + r.val; omega)
      (by show win0_1.index t 1 * 2048 + 1 * k.val = k.val; omega))
  · unfold iblk
    rw [View.read_apply]
    exact congrArg (m (c.tc.loc main_arg3)) (ext (by show win0_3.index t 0 * 2048 + 1 * k.val = k.val; omega)
      (by show win0_3.index t 1 * 1024 + 1 * j.val = j.val; omega))

theorem gate0 (t : Fin cfg0.N) (r : Fin 640) (j : Fin 1024) :
    (iblk m c 4 t : S640x1024.Idx → EReal) (ix2 r j) = gs m c (row t r) ⟨j.val, by omega⟩ := by
  obtain ⟨-, -, -, -, ⟨e0, e1⟩, -⟩ := index t
  unfold iblk
  rw [View.read_apply]
  exact congrArg (m (c.tc.loc main_arg4)) (ext (by show win0_4.index t 0 * 640 + 1 * r.val = t.val * 640 + r.val; omega)
    (by show win0_4.index t 1 * 1024 + 1 * j.val = j.val; omega))

theorem gate1 (t : Fin cfg0.N) (r : Fin 640) (j : Fin 1024) :
    (iblk m c 5 t : S640x1024.Idx → EReal) (ix2 r j) = gs m c (row t r) ⟨1024 + j.val, by omega⟩ := by
  obtain ⟨-, -, -, -, -, ⟨e0, e1⟩⟩ := index t
  unfold iblk
  rw [View.read_apply]
  exact congrArg (m (c.tc.loc main_arg4)) (ext (by show win0_5.index t 0 * 640 + 1 * r.val = t.val * 640 + r.val; omega)
    (by show win0_5.index t 1 * 1024 + 1 * j.val = 1024 + j.val; omega))

/-- The arrays after the call. -/
theorem array0 : (dats m 0 c).arrAt 6 cfg0.N = result0 m c := by
  refine (dats m 0 c).arrAt_eq_of_covers 6 _ (by decide +kernel) fun t hf y => ?_
  obtain ⟨⟨e0, e1⟩, -, -⟩ := outdex t
  obtain ⟨r, j, rfl⟩ := split (a := 640) (b := 1024) y
  have g : (win0_6.blk t).view.emb (ix2 r j) = ix2 (row t r) j := ext
    (by show win0_6.index t 0 * 640 + 1 * r.val = t.val * 640 + r.val; omega) (by show win0_6.index t 1 * 1024 + 1 * j.val = j.val; omega)
  blk_simp [e0]
  rw [after0_6]
  unfold out0_6
  rw [View.canon_unit_zero origin]
  simp only [View.ld_unit_zero (S := S640x2048) origin, View.ld_unit_zero (S := S2048x1024) origin]
  show _ = result0 m c ((win0_6.blk t).view.emb (ix2 r j))
  rw [g]
  exact ssd_block m c t r j

theorem array1 : (dats m 0 c).arrAt 7 cfg0.N = result1 m c := by
  refine (dats m 0 c).arrAt_eq_of_covers 7 _ (by decide +kernel) fun t hf y => ?_
  obtain ⟨-, ⟨e0, e1⟩, -⟩ := outdex t
  obtain ⟨r, j, rfl⟩ := split (a := 640) (b := 1024) y
  have g : (win0_7.blk t).view.emb (ix2 r j) = ix2 (row t r) j := ext
    (by show win0_7.index t 0 * 640 + 1 * r.val = t.val * 640 + r.val; omega) (by show win0_7.index t 1 * 1024 + 1 * j.val = j.val; omega)
  blk_simp [e0]
  rw [after0_7]
  unfold out0_7
  rw [View.canon_unit_zero origin]
  simp only [View.ld_unit_zero (S := S640x2048) origin, View.ld_unit_zero (S := S2048x1024) origin]
  show _ = result1 m c ((win0_7.blk t).view.emb (ix2 r j))
  rw [g]
  exact ret_block m c t r j

theorem array2 : (dats m 0 c).arrAt 8 cfg0.N = result2 m c := by
  refine (dats m 0 c).arrAt_eq_of_covers 8 _ (by decide +kernel) fun t hf y => ?_
  obtain ⟨-, -, ⟨e0, e1⟩⟩ := outdex t
  obtain ⟨r, j, rfl⟩ := split (a := 640) (b := 1024) y
  have g : (win0_8.blk t).view.emb (ix2 r j) = ix2 (row t r) j := ext
    (by show win0_8.index t 0 * 640 + 1 * r.val = t.val * 640 + r.val; omega) (by show win0_8.index t 1 * 1024 + 1 * j.val = j.val; omega)
  blk_simp [e0]
  rw [after0_8]
  unfold out0_8
  rw [View.canon_unit_zero origin]
  simp only [View.ld_unit_zero (S := S640x2048) origin, View.ld_unit_zero (S := S2048x1024) origin, View.ld_unit_zero (S := S640x1024) origin]
  show _ = result2 m c ((win0_8.blk t).view.emb (ix2 r j))
  rw [g]
  refine (merged_at _ _ _ _ _ _ _ _).trans ?_
  rw [ssd_block, ret_block, gate0, gate1]
  rfl

end

/-- Both programs and the reference end, their arguments as they were and every semaphore at zero. -/
theorem frame_ideal : Cert.quiescent_MergeIdeal (hMergeIdeal := Cert.MergeIdeal.Gen.facts) := fun m ρ _ =>
  Cert.MergeIdeal.Gen.frame (F := Ideal) m ρ

theorem frame_words : Cert.quiescent_Merge (hMerge := Cert.Merge.Gen.facts) :=
  Eq.mp (by chain_rfl) fun m ρ (_ : True) => Cert.MergeIdeal.Gen.frame (F := Bits) m ρ

theorem frame_reference : Cert.quiescent_MergeRefIdeal (hMergeRefIdeal := Cert.MergeRefIdeal.Gen.facts) := fun m ρ _ =>
  (θ_run _ _ _).mono (fun r h => ⟨fun c => (h c).2.2.2, sem_eq_zero_of_no_sems (by decide) r.2⟩)
    (Cert.MergeRefIdeal.Value.run (F := Ideal) m ρ)

/-- The program and the reference leave the same rows. -/
theorem value : Cert.algebraic_MergeIdeal_MergeRefIdeal (hMergeIdeal := Cert.MergeIdeal.Gen.facts)
    (hMergeRefIdeal := Cert.MergeRefIdeal.Gen.facts) := by
  intro m ρ m' ρ' _ same
  refine ⟨fun c => result0 m c, fun c => result1 m c, fun c => result2 m c,
    (θ_run _ _ _).mono (fun _ h c => ⟨(h c).1.trans (array0 m c), (h c).2.1.trans (array1 m c), (h c).2.2.1.trans (array2 m c), (h c).2.2.2⟩)
      (Cert.MergeIdeal.Value.run_blocks m ρ),
    (θ_run _ _ _).mono (fun _ h c => ⟨(h c).1.trans ?_, (h c).2.1.trans ?_, (h c).2.2.1.trans ?_, (h c).2.2.2⟩)
      (Cert.MergeRefIdeal.Value.run m' ρ')⟩
  all_goals
    obtain ⟨s0, s1, s2, s3, s4⟩ := same c
    simp only [s0, s1, s2, s3, s4]
    funext y
    obtain ⟨r, j, rfl⟩ := Cert.Entry.split (a := 8320) (b := 1024) y
    pointwise
    try simp only [Ideal.ofBits_one_f32]
    rfl

end Cert.MergeClaims

end
-- ==== Proof.BranchGradClaims.lean ====
module

public import proofs.«01_k».proof.Defs
public import proofs.«01_k».proof.Proof.Entry
public import proofs.«01_k».proof.Proof.Gen.BranchGrad
public import proofs.«01_k».proof.Proof.Gen.BranchGradIdeal.Value
public import proofs.«01_k».proof.Proof.Gen.BranchGradRefIdeal.Run
public import Idealize.ShloMosaic.Lib.Quiescent
public import Idealize.ShloMosaic.Lib.Pipeline.ValueKit

@[expose] public section

set_option maxRecDepth 16384

noncomputable section

/-! The gradient of a branch's output weight, gathered from two halves of the rows. -/

namespace Cert.BranchGradClaims

open Idealize.ShloMosaic Idealize.ShloMosaic.TcCoe Idealize.SL.Sem

section
open Cert.BranchGradIdeal Cert.BranchGradIdeal.Gen Cert.Entry
variable (m : (ℓ : Loc nD τ sig) → Buf (Elt Ideal) ℓ) (c : Dev nD)

/-- The input and the gradient, as matrices; their entries' product in one row, and the sum over all rows. -/
abbrev xs (r : Fin 8320) (i : Fin 2048) : EReal := (m ((c : Thread nD τ).loc main_arg0) : S8320x2048.Idx → EReal) (ix2 r i)
abbrev ds (r : Fin 8320) (j : Fin 1024) : EReal := (m ((c : Thread nD τ).loc main_arg1) : S8320x1024.Idx → EReal) (ix2 r j)
abbrev term (i : Fin 2048) (j : Fin 1024) (r : Fin 8320) : EReal := xs m c r i * ds m c r j
def grad (i : Fin 2048) (j : Fin 1024) : EReal := ∑ r, term m c i j r
abbrev result : S2048x1024.Idx → EReal := fun i => grad m c (i 0) (i 1)

/-- The first point of a block leaves the product of its rows in the carried block; the second adds its own and writes the block. -/
theorem first (t : Fin cfg0.N) (h : t.val % 2 = 0) :
    (outsAt0 m c t.val t.isLt).2 = k0_pay1 (iblk m c 0 t) (iblk m c 1 t) := by
  rw [outsAt0_A m c t (by omega) (by omega) (by omega)]
  dsimp only
  unfold sout0_A_0
  rw [View.read_writes_eq_canon _ _ _ (fun y => scover0_A_0 (y := y) ..)]
  unfold kernelRun0_A
  dsimp only
  sl_unfold_words
  rw [View.canon_unit_zero origin]
  unfold k0_pay2
  simp only [View.readAt_eq_ld, (hs0_0 t).read_unread, (hs0_1 t).read_unread, View.ld_unit_zero (S := S4160x1024) origin, shapeCast_self]

theorem last (t : Fin cfg0.N) (h : t.val % 2 = 1) :
    (outsAt0 m c t.val t.isLt).1
      = k0_pay4 (addf (outsAt0 m c (t.val - 1) (by have := t.isLt; omega)).2 (k0_pay1 (iblk m c 0 t) (iblk m c 1 t))) := by
  rw [outsAt0_B m c t (by omega) (by omega) (by omega)]
  dsimp only
  unfold out0_B_2
  rw [View.read_writes_eq_canon _ _ _ (fun y => cover0_B_2 (y := y) ..)]
  unfold kernelRun0_B
  dsimp only
  sl_unfold_words
  rw [View.canon_unit_zero origin, View.readCov_unit_zero (S := S1024x1024) _ origin]
  unfold k0_pay3
  simp only [View.readAt_eq_ld, (hs0_0 t).read_unread, (hs0_1 t).read_unread, (Memref.isWhole_whole _).read_unread,
    View.ld_unit_zero (S := S4160x1024) origin, View.ld_unit_zero (S := S1024x1024) origin, shapeCast_self]

theorem product_at (x d : FVec Ideal S4160x1024 .bf16) (i j : Fin 1024) :
    k0_pay1 (F := Ideal) x d (ix2 i j) = ∑ r : Fin 4160, x (ix2 r i) * d (ix2 r j) := by
  pointwise [k0_pay1]

/-- Which blocks a point reads. -/
theorem index : ∀ t : Fin cfg0.N, (win0_0.index t (0 : Fin 2) = t.val % 2 ∧ win0_0.index t (1 : Fin 2) = t.val / 2)
    ∧ (win0_1.index t (0 : Fin 2) = t.val % 2 ∧ win0_1.index t (1 : Fin 2) = 0)
    ∧ win0_2.index t (0 : Fin 2) = t.val / 2 ∧ win0_2.index t (1 : Fin 2) = 0 :=
  (by decide +kernel : ∀ t : Fin grid0.N, _)

/-- A point's product: the sum over its half of the rows. -/
theorem part (t : Fin cfg0.N) (i j : Fin 1024) (i' : Fin 2048) (hi : i'.val = t.val / 2 * 1024 + i.val) :
    k0_pay1 (F := Ideal) (iblk m c 0 t) (iblk m c 1 t) (ix2 i j)
      = ∑ r : Fin 4160, term m c i' j ⟨4160 * (t.val % 2) + r.val, by omega⟩ := by
  obtain ⟨⟨e0, e1⟩, ⟨e2, e3⟩, -⟩ := index t
  refine (product_at _ _ _ _).trans (Finset.sum_congr rfl fun r _ => congrArg₂ (· * ·) ?_ ?_)
  · unfold iblk
    rw [View.read_apply]
    exact congrArg (m (c.tc.loc main_arg0)) (ext (by show win0_0.index t 0 * 4160 + 1 * r.val = 4160 * (t.val % 2) + r.val; omega)
      (by show win0_0.index t 1 * 1024 + 1 * i.val = i'.val; rw [e1]; omega))
  · unfold iblk
    rw [View.read_apply]
    exact congrArg (m (c.tc.loc main_arg1)) (ext (by show win0_1.index t 0 * 4160 + 1 * r.val = 4160 * (t.val % 2) + r.val; omega)
      (by show win0_1.index t 1 * 1024 + 1 * j.val = j.val; omega))

/-- The array after the call. -/
theorem array : (dats m 0 c).arrAt 2 cfg0.N = result m c := by
  refine (dats m 0 c).arrAt_eq_of_covers 2 _ (by decide +kernel) fun t hf y => ?_
  have h := (flush0_2 t).mp hf
  obtain ⟨-, -, e0, e1⟩ := index t
  obtain ⟨i, j, rfl⟩ := split (a := 1024) (b := 1024) y
  have hN : cfg0.N = 4 := N_0
  have ht := t.isLt
  have hi : t.val / 2 * 1024 + i.val < 2048 := by omega
  have g : (win0_2.blk t).view.emb (ix2 i j) = ix2 (⟨_, hi⟩ : Fin 2048) j := ext
    (by show win0_2.index t 0 * 1024 + 1 * i.val = t.val / 2 * 1024 + i.val; rw [e0]; omega) (by show win0_2.index t 1 * 1024 + 1 * j.val = j.val; omega)
  have p : (t.val - 1) % 2 = 0 := by omega
  blk_simp [e0]
  rw [after0_2, last m c t h, first m c ⟨t.val - 1, by have := t.isLt; omega⟩ p]
  show _ = result m c ((win0_2.blk t).view.emb (ix2 i j))
  rw [g]
  show k0_pay1 (F := Ideal) _ _ (ix2 i j) + k0_pay1 (F := Ideal) _ _ (ix2 i j) = ∑ r, term m c ⟨_, hi⟩ j r
  rw [part m c t i j ⟨_, hi⟩ rfl, part m c _ i j ⟨_, hi⟩ (by dsimp only; omega), sum_halves]
  simp only [h, p, Nat.mul_zero, Nat.zero_add, Nat.mul_one]

end

/-- Both programs and the reference end, their arguments as they were and every semaphore at zero. -/
theorem frame_ideal : Cert.quiescent_BranchGradIdeal (hBranchGradIdeal := Cert.BranchGradIdeal.Gen.facts) := fun m ρ _ =>
  Cert.BranchGradIdeal.Gen.frame (F := Ideal) m ρ

theorem frame_words : Cert.quiescent_BranchGrad (hBranchGrad := Cert.BranchGrad.Gen.facts) :=
  Eq.mp (by chain_rfl) fun m ρ (_ : True) => Cert.BranchGradIdeal.Gen.frame (F := Bits) m ρ

theorem frame_reference : Cert.quiescent_BranchGradRefIdeal (hBranchGradRefIdeal := Cert.BranchGradRefIdeal.Gen.facts) := fun m ρ _ =>
  (θ_run _ _ _).mono (fun r h => ⟨fun c => (h c).2, sem_eq_zero_of_no_sems (by decide) r.2⟩)
    (Cert.BranchGradRefIdeal.Value.run (F := Ideal) m ρ)

/-- The program and the reference leave the same gradient. -/
theorem value : Cert.algebraic_BranchGradIdeal_BranchGradRefIdeal (hBranchGradIdeal := Cert.BranchGradIdeal.Gen.facts)
    (hBranchGradRefIdeal := Cert.BranchGradRefIdeal.Gen.facts) := by
  intro m ρ m' ρ' _ same
  refine ⟨fun c => result m c, (θ_run _ _ _).mono (fun _ h c => ⟨(h c).1.trans (array m c), (h c).2⟩)
    (Cert.BranchGradIdeal.Value.run_blocks m ρ),
    (θ_run _ _ _).mono (fun _ h c => ⟨(h c).1.trans ?_, (h c).2⟩) (Cert.BranchGradRefIdeal.Value.run m' ρ')⟩
  rw [(same c).1, (same c).2]
  funext y
  obtain ⟨i, j, rfl⟩ := Cert.Entry.split (a := 2048) (b := 1024) y
  pointwise
  exact Finset.sum_congr rfl fun r _ => mul_comm _ _

end Cert.BranchGradClaims

end
-- ==== Proof.ProjZClaims.lean ====
module

public import proofs.«01_k».proof.Defs
public import proofs.«01_k».proof.Proof.Entry
public import proofs.«01_k».proof.Proof.Gen.ProjZ
public import proofs.«01_k».proof.Proof.Gen.ProjZIdeal.Value
public import proofs.«01_k».proof.Proof.Gen.ProjZRefIdeal.Run
public import Idealize.ShloMosaic.Lib.Quiescent
public import Idealize.ShloMosaic.Lib.Pipeline.ValueKit

@[expose] public section

set_option maxRecDepth 16384

noncomputable section

/-! The SSD gate's columns of the input projection. -/

namespace Cert.ProjZClaims

open Idealize.ShloMosaic Idealize.ShloMosaic.TcCoe Idealize.SL.Sem

section
open Cert.ProjZIdeal Cert.ProjZIdeal.Gen Cert.Entry
variable (m : (ℓ : Loc nD τ sig) → Buf (Elt Ideal) ℓ) (c : Dev nD)

/-- The rows and the weight, as matrices, and the projection's columns from the 6144th on. -/
abbrev us (r : Fin 8320) (k : Fin 1024) : EReal := (m ((c : Thread nD τ).loc main_arg0) : S8320x1024.Idx → EReal) (ix2 r k)
abbrev ws (k : Fin 1024) (j : Fin 13824) : EReal := (m ((c : Thread nD τ).loc main_arg1) : S1024x13824.Idx → EReal) (ix2 k j)
def cols (r : Fin 8320) (j : Fin 2048) : EReal := ∑ k, us m c r k * ws m c k ⟨6144 + j.val, by omega⟩
abbrev result : S8320x2048.Idx → EReal := fun i => cols m c (i 0) (i 1)

/-- A point writes the product of the blocks it reads. -/
theorem after (t : Fin cfg0.N) : outsAt0 m c t = k0_pay1 (iblk m c 0 t) (X0_1 m c t) := by
  unfold outsAt0 out0_A_2
  rw [View.read_writes_eq_canon _ _ _ (cover0_A_2 c _ _ _ _ _ _ _ _ _)]
  unfold kernelRun0_A
  dsimp only
  sl_unfold_words
  rw [View.canon_unit_zero origin]
  simp only [View.readAt_eq_ld, (hs0_0 t).read_unread, (hs0_1 t).read_unread, View.ld_unit_zero (S := S640x1024) origin,
    View.ld_unit_zero (S := S1024x1024) origin]

theorem product_at (x : FVec Ideal S640x1024 .bf16) (w : FVec Ideal S1024x1024 .bf16) (r : Fin 640) (j : Fin 1024) :
    k0_pay1 (F := Ideal) x w (ix2 r j) = ∑ k : Fin 1024, x (ix2 r k) * w (ix2 k j) := by
  pointwise [k0_pay1]

/-- Which blocks a point reads, by the block it writes. -/
theorem index : ∀ t : Fin cfg0.N, (win0_0.index t (0 : Fin 2) = win0_2.index t (0 : Fin 2) ∧ win0_0.index t (1 : Fin 2) = 0)
    ∧ win0_1.index t (0 : Fin 2) = 0 ∧ win0_1.index t (1 : Fin 2) = win0_2.index t (1 : Fin 2) + 6 :=
  (by decide +kernel : ∀ t : Fin grid0.N, _)

/-- The array after the call. -/
theorem array : (dats m 0 c).arrAt 2 cfg0.N = result m c := by
  refine (dats m 0 c).arrAt_eq_of_covers 2 _ (by decide +kernel) fun t hf y => ?_
  obtain ⟨⟨e0, e1⟩, e2, e3⟩ := index t
  obtain ⟨r, j, rfl⟩ := split (a := 640) (b := 1024) y
  blk_simp [e0]
  rw [after0_2, after]
  refine (product_at _ _ _ _).trans (Finset.sum_congr rfl fun k _ => congrArg₂ (· * ·) ?_ ?_)
  · unfold iblk
    rw [View.read_apply]
    exact congrArg (m (c.tc.loc main_arg0)) (ext (by show win0_0.index t 0 * 640 + 1 * r.val = win0_2.index t 0 * 640 + 1 * r.val; rw [e0])
      (by show win0_0.index t 1 * 1024 + 1 * k.val = k.val; omega))
  · unfold X0_1 Pipeline.Window.fill
    rw [dif_pos (moved0_1 t _)]
    unfold iblk
    rw [View.read_apply]
    exact congrArg (m (c.tc.loc main_arg1)) (ext (by show win0_1.index t 0 * 1024 + 1 * k.val = k.val; omega)
      (by show win0_1.index t 1 * 1024 + 1 * j.val = 6144 + (win0_2.index t 1 * 1024 + 1 * j.val); omega))

end

/-- Both programs and the reference end, their arguments as they were and every semaphore at zero. -/
theorem frame_ideal : Cert.quiescent_ProjZIdeal (hProjZIdeal := Cert.ProjZIdeal.Gen.facts) := fun m ρ _ =>
  Cert.ProjZIdeal.Gen.frame (F := Ideal) m ρ

theorem frame_words : Cert.quiescent_ProjZ (hProjZ := Cert.ProjZ.Gen.facts) :=
  Eq.mp (by chain_rfl) fun m ρ (_ : True) => Cert.ProjZIdeal.Gen.frame (F := Bits) m ρ

theorem frame_reference : Cert.quiescent_ProjZRefIdeal (hProjZRefIdeal := Cert.ProjZRefIdeal.Gen.facts) := fun m ρ _ =>
  (θ_run _ _ _).mono (fun r h => ⟨fun c => (h c).2, sem_eq_zero_of_no_sems (by decide) r.2⟩)
    (Cert.ProjZRefIdeal.Value.run (F := Ideal) m ρ)

/-- The program and the reference leave the same columns. -/
theorem value : Cert.algebraic_ProjZIdeal_ProjZRefIdeal (hProjZIdeal := Cert.ProjZIdeal.Gen.facts)
    (hProjZRefIdeal := Cert.ProjZRefIdeal.Gen.facts) := by
  intro m ρ m' ρ' _ same
  refine ⟨fun c => result m c, (θ_run _ _ _).mono (fun _ h c => ⟨(h c).1.trans (array m c), (h c).2⟩)
    (Cert.ProjZIdeal.Value.run_blocks m ρ),
    (θ_run _ _ _).mono (fun _ h c => ⟨(h c).1.trans ?_, (h c).2⟩) (Cert.ProjZRefIdeal.Value.run m' ρ')⟩
  rw [(same c).1, (same c).2]
  funext y
  obtain ⟨r, j, rfl⟩ := Cert.Entry.split (a := 8320) (b := 2048) y
  pointwise
  rfl

end Cert.ProjZClaims

end
-- ==== Proof.ProjGatesClaims.lean ====
module

public import proofs.«01_k».proof.Defs
public import proofs.«01_k».proof.Proof.Entry
public import proofs.«01_k».proof.Proof.Gen.ProjGates
public import proofs.«01_k».proof.Proof.Gen.ProjGatesIdeal.Value
public import proofs.«01_k».proof.Proof.Gen.ProjGatesRefIdeal.Run
public import Idealize.ShloMosaic.Lib.Quiescent
public import Idealize.ShloMosaic.Lib.Pipeline.ValueKit

@[expose] public section

set_option maxRecDepth 16384

noncomputable section

/-! The branch gates' columns of the input projection. -/

namespace Cert.ProjGatesClaims

open Idealize.ShloMosaic Idealize.ShloMosaic.TcCoe Idealize.SL.Sem

section
open Cert.ProjGatesIdeal Cert.ProjGatesIdeal.Gen Cert.Entry
variable (m : (ℓ : Loc nD τ sig) → Buf (Elt Ideal) ℓ) (c : Dev nD)

/-- The rows and the weight, as matrices, and the projection's columns from the 8192nd on. -/
abbrev us (r : Fin 8320) (k : Fin 1024) : EReal := (m ((c : Thread nD τ).loc main_arg0) : S8320x1024.Idx → EReal) (ix2 r k)
abbrev ws (k : Fin 1024) (j : Fin 13824) : EReal := (m ((c : Thread nD τ).loc main_arg1) : S1024x13824.Idx → EReal) (ix2 k j)
def cols (r : Fin 8320) (j : Fin 2048) : EReal := ∑ k, us m c r k * ws m c k ⟨8192 + j.val, by omega⟩
abbrev result : S8320x2048.Idx → EReal := fun i => cols m c (i 0) (i 1)

/-- A point writes the product of the blocks it reads. -/
theorem after (t : Fin cfg0.N) : outsAt0 m c t = k0_pay1 (iblk m c 0 t) (X0_1 m c t) := by
  unfold outsAt0 out0_A_2
  rw [View.read_writes_eq_canon _ _ _ (cover0_A_2 c _ _ _ _ _ _ _ _ _)]
  unfold kernelRun0_A
  dsimp only
  sl_unfold_words
  rw [View.canon_unit_zero origin]
  simp only [View.readAt_eq_ld, (hs0_0 t).read_unread, (hs0_1 t).read_unread, View.ld_unit_zero (S := S640x1024) origin,
    View.ld_unit_zero (S := S1024x1024) origin]

theorem product_at (x : FVec Ideal S640x1024 .bf16) (w : FVec Ideal S1024x1024 .bf16) (r : Fin 640) (j : Fin 1024) :
    k0_pay1 (F := Ideal) x w (ix2 r j) = ∑ k : Fin 1024, x (ix2 r k) * w (ix2 k j) := by
  pointwise [k0_pay1]

/-- Which blocks a point reads, by the block it writes. -/
theorem index : ∀ t : Fin cfg0.N, (win0_0.index t (0 : Fin 2) = win0_2.index t (0 : Fin 2) ∧ win0_0.index t (1 : Fin 2) = 0)
    ∧ win0_1.index t (0 : Fin 2) = 0 ∧ win0_1.index t (1 : Fin 2) = win0_2.index t (1 : Fin 2) + 8 :=
  (by decide +kernel : ∀ t : Fin grid0.N, _)

/-- The array after the call. -/
theorem array : (dats m 0 c).arrAt 2 cfg0.N = result m c := by
  refine (dats m 0 c).arrAt_eq_of_covers 2 _ (by decide +kernel) fun t hf y => ?_
  obtain ⟨⟨e0, e1⟩, e2, e3⟩ := index t
  obtain ⟨r, j, rfl⟩ := split (a := 640) (b := 1024) y
  blk_simp [e0]
  rw [after0_2, after]
  refine (product_at _ _ _ _).trans (Finset.sum_congr rfl fun k _ => congrArg₂ (· * ·) ?_ ?_)
  · unfold iblk
    rw [View.read_apply]
    exact congrArg (m (c.tc.loc main_arg0)) (ext (by show win0_0.index t 0 * 640 + 1 * r.val = win0_2.index t 0 * 640 + 1 * r.val; rw [e0])
      (by show win0_0.index t 1 * 1024 + 1 * k.val = k.val; omega))
  · unfold X0_1 Pipeline.Window.fill
    rw [dif_pos (moved0_1 t _)]
    unfold iblk
    rw [View.read_apply]
    exact congrArg (m (c.tc.loc main_arg1)) (ext (by show win0_1.index t 0 * 1024 + 1 * k.val = k.val; omega)
      (by show win0_1.index t 1 * 1024 + 1 * j.val = 8192 + (win0_2.index t 1 * 1024 + 1 * j.val); omega))

end

/-- Both programs and the reference end, their arguments as they were and every semaphore at zero. -/
theorem frame_ideal : Cert.quiescent_ProjGatesIdeal (hProjGatesIdeal := Cert.ProjGatesIdeal.Gen.facts) := fun m ρ _ =>
  Cert.ProjGatesIdeal.Gen.frame (F := Ideal) m ρ

theorem frame_words : Cert.quiescent_ProjGates (hProjGates := Cert.ProjGates.Gen.facts) :=
  Eq.mp (by chain_rfl) fun m ρ (_ : True) => Cert.ProjGatesIdeal.Gen.frame (F := Bits) m ρ

theorem frame_reference : Cert.quiescent_ProjGatesRefIdeal (hProjGatesRefIdeal := Cert.ProjGatesRefIdeal.Gen.facts) := fun m ρ _ =>
  (θ_run _ _ _).mono (fun r h => ⟨fun c => (h c).2, sem_eq_zero_of_no_sems (by decide) r.2⟩)
    (Cert.ProjGatesRefIdeal.Value.run (F := Ideal) m ρ)

/-- The program and the reference leave the same columns. -/
theorem value : Cert.algebraic_ProjGatesIdeal_ProjGatesRefIdeal (hProjGatesIdeal := Cert.ProjGatesIdeal.Gen.facts)
    (hProjGatesRefIdeal := Cert.ProjGatesRefIdeal.Gen.facts) := by
  intro m ρ m' ρ' _ same
  refine ⟨fun c => result m c, (θ_run _ _ _).mono (fun _ h c => ⟨(h c).1.trans (array m c), (h c).2⟩)
    (Cert.ProjGatesIdeal.Value.run_blocks m ρ),
    (θ_run _ _ _).mono (fun _ h c => ⟨(h c).1.trans ?_, (h c).2⟩) (Cert.ProjGatesRefIdeal.Value.run m' ρ')⟩
  rw [(same c).1, (same c).2]
  funext y
  obtain ⟨r, j, rfl⟩ := Cert.Entry.split (a := 8320) (b := 2048) y
  pointwise
  rfl

end Cert.ProjGatesClaims

end
-- ==== Proof.DownGradClaims.lean ====
module

public import proofs.«01_k».proof.Defs
public import proofs.«01_k».proof.Proof.Entry
public import proofs.«01_k».proof.Proof.Gen.DownGrad
public import proofs.«01_k».proof.Proof.Gen.DownGradIdeal.Value
public import proofs.«01_k».proof.Proof.Gen.DownGradRefIdeal.Run
public import Idealize.ShloMosaic.Lib.Quiescent
public import Idealize.ShloMosaic.Lib.Pipeline.ValueKit

@[expose] public section

set_option maxRecDepth 16384

noncomputable section

/-! The gradient of the down projection's weight, gathered from five fifths of the rows. -/

namespace Cert.DownGradClaims

open Idealize.ShloMosaic Idealize.ShloMosaic.TcCoe Idealize.SL.Sem

section
open Cert.DownGradIdeal Cert.DownGradIdeal.Gen Cert.Entry
variable (m : (ℓ : Loc nD τ sig) → Buf (Elt Ideal) ℓ) (c : Dev nD)

/-- The input and the gradient, as matrices; their entries' product in one row, and the sum over all rows. -/
abbrev xs (r : Fin 8320) (i : Fin 2816) : EReal := (m ((c : Thread nD τ).loc main_arg0) : S8320x2816.Idx → EReal) (ix2 r i)
abbrev ds (r : Fin 8320) (j : Fin 1024) : EReal := (m ((c : Thread nD τ).loc main_arg1) : S8320x1024.Idx → EReal) (ix2 r j)
abbrev term (i : Fin 2816) (j : Fin 1024) (r : Fin 8320) : EReal := xs m c r i * ds m c r j
def grad (i : Fin 2816) (j : Fin 1024) : EReal := ∑ r, term m c i j r
abbrev result : S2816x1024.Idx → EReal := fun i => grad m c (i 0) (i 1)

/-- The first point of a block leaves the product of its rows in the carried block; a later one adds its own; the last writes the block. -/
theorem first (t : Fin cfg0.N) (h : t.val % 5 = 0) :
    (outsAt0 m c t.val t.isLt).2 = k0_pay1 (iblk m c 0 t) (iblk m c 1 t) := by
  rw [outsAt0_A m c t (by omega) (by omega) (by omega)]
  dsimp only
  unfold sout0_A_0
  rw [View.read_writes_eq_canon _ _ _ (fun y => scover0_A_0 (y := y) ..)]
  unfold kernelRun0_A
  dsimp only
  sl_unfold_words
  rw [View.canon_unit_zero origin]
  unfold k0_pay2
  simp only [View.readAt_eq_ld, (hs0_0 t).read_unread, (hs0_1 t).read_unread, View.ld_unit_zero (S := S1664x1408) origin, View.ld_unit_zero (S := S1664x1024) origin, shapeCast_self]

theorem next (t : Fin cfg0.N) (h : 1 ≤ t.val % 5) (h' : t.val % 5 ≠ 4) :
    (outsAt0 m c t.val t.isLt).2
      = addf (outsAt0 m c (t.val - 1) (by have := t.isLt; omega)).2 (k0_pay1 (iblk m c 0 t) (iblk m c 1 t)) := by
  rw [outsAt0_B m c t (by omega) h h']
  dsimp only
  unfold sout0_B_0
  rw [View.read_writes_eq_canon _ _ _ (fun y => scover0_B_0 (y := y) ..)]
  unfold kernelRun0_B
  dsimp only
  sl_unfold_words
  rw [View.canon_unit_zero origin]
  unfold k0_pay3
  simp only [View.readAt_eq_ld, (hs0_0 t).read_unread, (hs0_1 t).read_unread, (Memref.isWhole_whole _).read_unread,
    View.ld_unit_zero (S := S1664x1408) origin, View.ld_unit_zero (S := S1664x1024) origin, View.ld_unit_zero (S := S1408x1024) origin,
    shapeCast_self]

theorem last (t : Fin cfg0.N) (h : t.val % 5 = 4) :
    (outsAt0 m c t.val t.isLt).1
      = k0_pay4 (addf (outsAt0 m c (t.val - 1) (by have := t.isLt; omega)).2 (k0_pay1 (iblk m c 0 t) (iblk m c 1 t))) := by
  rw [outsAt0_C m c t (by omega) (by omega) (by omega)]
  dsimp only
  unfold out0_C_2
  rw [View.read_writes_eq_canon _ _ _ (fun y => cover0_C_2 (y := y) ..)]
  unfold kernelRun0_C
  dsimp only
  sl_unfold_words
  rw [View.canon_unit_zero origin, View.readCov_unit_zero (S := S1408x1024) _ origin]
  unfold k0_pay3
  simp only [View.readAt_eq_ld, (hs0_0 t).read_unread, (hs0_1 t).read_unread, (Memref.isWhole_whole _).read_unread,
    View.ld_unit_zero (S := S1664x1408) origin, View.ld_unit_zero (S := S1664x1024) origin, View.ld_unit_zero (S := S1408x1024) origin, shapeCast_self]

theorem product_at (x : FVec Ideal S1664x1408 .bf16) (d : FVec Ideal S1664x1024 .bf16) (i : Fin 1408) (j : Fin 1024) :
    k0_pay1 (F := Ideal) x d (ix2 i j) = ∑ r : Fin 1664, x (ix2 r i) * d (ix2 r j) := by
  pointwise [k0_pay1]

/-- Which blocks a point reads. -/
theorem index : ∀ t : Fin cfg0.N, (win0_0.index t (0 : Fin 2) = t.val % 5 ∧ win0_0.index t (1 : Fin 2) = t.val / 5)
    ∧ (win0_1.index t (0 : Fin 2) = t.val % 5 ∧ win0_1.index t (1 : Fin 2) = 0)
    ∧ win0_2.index t (0 : Fin 2) = t.val / 5 ∧ win0_2.index t (1 : Fin 2) = 0 :=
  (by decide +kernel : ∀ t : Fin grid0.N, _)

/-- A point's product: the sum over its fifth of the rows. -/
theorem part (t : Fin cfg0.N) (i : Fin 1408) (j : Fin 1024) (i' : Fin 2816) (hi : i'.val = t.val / 5 * 1408 + i.val) :
    k0_pay1 (F := Ideal) (iblk m c 0 t) (iblk m c 1 t) (ix2 i j)
      = ∑ r : Fin 1664, term m c i' j ⟨1664 * (t.val % 5) + r.val, by omega⟩ := by
  obtain ⟨⟨e0, e1⟩, ⟨e2, e3⟩, -⟩ := index t
  refine (product_at _ _ _ _).trans (Finset.sum_congr rfl fun r _ => congrArg₂ (· * ·) ?_ ?_)
  · unfold iblk
    rw [View.read_apply]
    exact congrArg (m (c.tc.loc main_arg0)) (ext (by show win0_0.index t 0 * 1664 + 1 * r.val = 1664 * (t.val % 5) + r.val; omega)
      (by show win0_0.index t 1 * 1408 + 1 * i.val = i'.val; rw [e1]; omega))
  · unfold iblk
    rw [View.read_apply]
    exact congrArg (m (c.tc.loc main_arg1)) (ext (by show win0_1.index t 0 * 1664 + 1 * r.val = 1664 * (t.val % 5) + r.val; omega)
      (by show win0_1.index t 1 * 1024 + 1 * j.val = j.val; omega))

/-- The array after the call. -/
theorem array : (dats m 0 c).arrAt 2 cfg0.N = result m c := by
  refine (dats m 0 c).arrAt_eq_of_covers 2 _ (by decide +kernel) fun t hf y => ?_
  have h := (flush0_2 t).mp hf
  obtain ⟨-, -, e0, e1⟩ := index t
  obtain ⟨i, j, rfl⟩ := split (a := 1408) (b := 1024) y
  have hN : cfg0.N = 10 := N_0
  have ht := t.isLt
  have hi : t.val / 5 * 1408 + i.val < 2816 := by omega
  have g : (win0_2.blk t).view.emb (ix2 i j) = ix2 (⟨_, hi⟩ : Fin 2816) j := ext
    (by show win0_2.index t 0 * 1408 + 1 * i.val = t.val / 5 * 1408 + i.val; rw [e0]; omega) (by show win0_2.index t 1 * 1024 + 1 * j.val = j.val; omega)
  have q1 : (t.val - 1) % 5 = 3 := by omega
  have q2 : (t.val - 1 - 1) % 5 = 2 := by omega
  have q3 : (t.val - 1 - 1 - 1) % 5 = 1 := by omega
  have q4 : (t.val - 1 - 1 - 1 - 1) % 5 = 0 := by omega
  blk_simp [e0]
  rw [after0_2, last m c t h, next m c ⟨t.val - 1, by omega⟩ (by dsimp only; omega) (by dsimp only; omega),
    next m c ⟨t.val - 1 - 1, by omega⟩ (by dsimp only; omega) (by dsimp only; omega),
    next m c ⟨t.val - 1 - 1 - 1, by omega⟩ (by dsimp only; omega) (by dsimp only; omega),
    first m c ⟨t.val - 1 - 1 - 1 - 1, by omega⟩ q4]
  show _ = result m c ((win0_2.blk t).view.emb (ix2 i j))
  rw [g]
  show k0_pay1 (F := Ideal) _ _ (ix2 i j) + k0_pay1 (F := Ideal) _ _ (ix2 i j) + k0_pay1 (F := Ideal) _ _ (ix2 i j)
    + k0_pay1 (F := Ideal) _ _ (ix2 i j) + k0_pay1 (F := Ideal) _ _ (ix2 i j) = ∑ r, term m c ⟨_, hi⟩ j r
  rw [part m c t i j ⟨_, hi⟩ rfl, part m c ⟨t.val - 1, _⟩ i j ⟨_, hi⟩ (by dsimp only; omega),
    part m c ⟨t.val - 1 - 1, _⟩ i j ⟨_, hi⟩ (by dsimp only; omega), part m c ⟨t.val - 1 - 1 - 1, _⟩ i j ⟨_, hi⟩ (by dsimp only; omega),
    part m c ⟨t.val - 1 - 1 - 1 - 1, _⟩ i j ⟨_, hi⟩ (by dsimp only; omega), sum_fifths]
  simp only [h, q1, q2, q3, q4, Nat.mul_zero, Nat.zero_add, Nat.mul_one, Nat.reduceMul]

end

/-- Both programs and the reference end, their arguments as they were and every semaphore at zero. -/
theorem frame_ideal : Cert.quiescent_DownGradIdeal (hDownGradIdeal := Cert.DownGradIdeal.Gen.facts) := fun m ρ _ =>
  Cert.DownGradIdeal.Gen.frame (F := Ideal) m ρ

theorem frame_words : Cert.quiescent_DownGrad (hDownGrad := Cert.DownGrad.Gen.facts) :=
  Eq.mp (by chain_rfl) fun m ρ (_ : True) => Cert.DownGradIdeal.Gen.frame (F := Bits) m ρ

theorem frame_reference : Cert.quiescent_DownGradRefIdeal (hDownGradRefIdeal := Cert.DownGradRefIdeal.Gen.facts) := fun m ρ _ =>
  (θ_run _ _ _).mono (fun r h => ⟨fun c => (h c).2, sem_eq_zero_of_no_sems (by decide) r.2⟩)
    (Cert.DownGradRefIdeal.Value.run (F := Ideal) m ρ)

/-- The program and the reference leave the same gradient. -/
theorem value : Cert.algebraic_DownGradIdeal_DownGradRefIdeal (hDownGradIdeal := Cert.DownGradIdeal.Gen.facts)
    (hDownGradRefIdeal := Cert.DownGradRefIdeal.Gen.facts) := by
  intro m ρ m' ρ' _ same
  refine ⟨fun c => result m c, (θ_run _ _ _).mono (fun _ h c => ⟨(h c).1.trans (array m c), (h c).2⟩)
    (Cert.DownGradIdeal.Value.run_blocks m ρ),
    (θ_run _ _ _).mono (fun _ h c => ⟨(h c).1.trans ?_, (h c).2⟩) (Cert.DownGradRefIdeal.Value.run m' ρ')⟩
  rw [(same c).1, (same c).2]
  funext y
  obtain ⟨i, j, rfl⟩ := Cert.Entry.split (a := 2816) (b := 1024) y
  pointwise
  exact Finset.sum_congr rfl fun r _ => mul_comm _ _

end Cert.DownGradClaims

end
-- ==== Proof.RetGradClaims.lean ====
module

public import proofs.«01_k».proof.Defs
public import proofs.«01_k».proof.Proof.Entry
public import proofs.«01_k».proof.Proof.Gen.RetGrad
public import proofs.«01_k».proof.Proof.Gen.RetGradIdeal.Value
public import proofs.«01_k».proof.Proof.Gen.RetGradRefIdeal.Run
public import Idealize.ShloMosaic.Lib.Quiescent
public import Idealize.ShloMosaic.Lib.Pipeline.ValueKit

@[expose] public section

set_option maxRecDepth 16384

noncomputable section

/-! The gradient of the retention branch's input: the branch's gradient times the transposed weight. -/

namespace Cert.RetGradClaims

open Idealize.ShloMosaic Idealize.ShloMosaic.TcCoe Idealize.SL.Sem

section
open Cert.RetGradIdeal Cert.RetGradIdeal.Gen Cert.Entry
variable (m : (ℓ : Loc nD τ sig) → Buf (Elt Ideal) ℓ) (c : Dev nD)

/-- The gradient's rows and the weight, as matrices. -/
abbrev ds (r : Fin 8320) (k : Fin 1024) : EReal := (m ((c : Thread nD τ).loc main_arg0) : S8320x1024.Idx → EReal) (ix2 r k)
abbrev ws (j : Fin 2048) (k : Fin 1024) : EReal := (m ((c : Thread nD τ).loc main_arg1) : S2048x1024.Idx → EReal) (ix2 j k)
def grad (r : Fin 8320) (j : Fin 2048) : EReal := ∑ k, ds m c r k * ws m c j k
abbrev result : S8320x2048.Idx → EReal := fun i => grad m c (i 0) (i 1)

theorem product_at (x : FVec Ideal S640x1024 .bf16) (w : FVec Ideal S1024x1024 .bf16) (r : Fin 640) (j : Fin 1024) :
    k0_pay1 (F := Ideal) x w (ix2 r j) = ∑ k : Fin 1024, x (ix2 r k) * w (ix2 j k) := by
  pointwise [k0_pay1]

/-- Which blocks a point reads, by the block it writes. -/
theorem index : ∀ t : Fin cfg0.N, (win0_0.index t (0 : Fin 2) = win0_2.index t (0 : Fin 2) ∧ win0_0.index t (1 : Fin 2) = 0)
    ∧ win0_1.index t (0 : Fin 2) = win0_2.index t (1 : Fin 2) ∧ win0_1.index t (1 : Fin 2) = 0 :=
  (by decide +kernel : ∀ t : Fin grid0.N, _)

/-- The array after the call. -/
theorem array : (dats m 0 c).arrAt 2 cfg0.N = result m c := by
  refine (dats m 0 c).arrAt_eq_of_covers 2 _ (by decide +kernel) fun t hf y => ?_
  obtain ⟨⟨e0, e1⟩, e2, e3⟩ := index t
  obtain ⟨r, j, rfl⟩ := split (a := 640) (b := 1024) y
  blk_simp [e0]
  rw [after0_2]
  unfold out0_2
  rw [View.canon_unit_zero origin]
  simp only [View.ld_unit_zero (S := S640x1024) origin, View.ld_unit_zero (S := S1024x1024) origin]
  refine (product_at _ _ _ _).trans (Finset.sum_congr rfl fun k _ => congrArg₂ (· * ·) ?_ ?_)
  · unfold iblk
    rw [View.read_apply]
    exact congrArg (m (c.tc.loc main_arg0)) (ext (by show win0_0.index t 0 * 640 + 1 * r.val = win0_2.index t 0 * 640 + 1 * r.val; rw [e0])
      (by show win0_0.index t 1 * 1024 + 1 * k.val = k.val; omega))
  · unfold iblk
    rw [View.read_apply]
    exact congrArg (m (c.tc.loc main_arg1)) (ext (by show win0_1.index t 0 * 1024 + 1 * j.val = win0_2.index t 1 * 1024 + 1 * j.val; rw [e2])
      (by show win0_1.index t 1 * 1024 + 1 * k.val = k.val; omega))

end

/-- Both programs and the reference end, their arguments as they were and every semaphore at zero. -/
theorem frame_ideal : Cert.quiescent_RetGradIdeal (hRetGradIdeal := Cert.RetGradIdeal.Gen.facts) := fun m ρ _ =>
  Cert.RetGradIdeal.Gen.frame (F := Ideal) m ρ

theorem frame_words : Cert.quiescent_RetGrad (hRetGrad := Cert.RetGrad.Gen.facts) :=
  Eq.mp (by chain_rfl) fun m ρ (_ : True) => Cert.RetGradIdeal.Gen.frame (F := Bits) m ρ

theorem frame_reference : Cert.quiescent_RetGradRefIdeal (hRetGradRefIdeal := Cert.RetGradRefIdeal.Gen.facts) := fun m ρ _ =>
  (θ_run _ _ _).mono (fun r h => ⟨fun c => (h c).2, sem_eq_zero_of_no_sems (by decide) r.2⟩)
    (Cert.RetGradRefIdeal.Value.run (F := Ideal) m ρ)

/-- The program and the reference leave the same gradient. -/
theorem value : Cert.algebraic_RetGradIdeal_RetGradRefIdeal (hRetGradIdeal := Cert.RetGradIdeal.Gen.facts)
    (hRetGradRefIdeal := Cert.RetGradRefIdeal.Gen.facts) := by
  intro m ρ m' ρ' _ same
  refine ⟨fun c => result m c, (θ_run _ _ _).mono (fun _ h c => ⟨(h c).1.trans (array m c), (h c).2⟩)
    (Cert.RetGradIdeal.Value.run_blocks m ρ),
    (θ_run _ _ _).mono (fun _ h c => ⟨(h c).1.trans ?_, (h c).2⟩) (Cert.RetGradRefIdeal.Value.run m' ρ')⟩
  rw [(same c).1, (same c).2]
  funext y
  obtain ⟨r, j, rfl⟩ := Cert.Entry.split (a := 8320) (b := 2048) y
  pointwise
  rfl

end Cert.RetGradClaims

end
-- ==== Proof.OutGradClaims.lean ====
module

public import proofs.«01_k».proof.Defs
public import proofs.«01_k».proof.Proof.Entry
public import proofs.«01_k».proof.Proof.Gen.OutGrad
public import proofs.«01_k».proof.Proof.Gen.OutGradIdeal.Value
public import proofs.«01_k».proof.Proof.Gen.OutGradRefIdeal.Run
public import Idealize.ShloMosaic.Lib.Quiescent
public import Idealize.ShloMosaic.Lib.Pipeline.ValueKit

@[expose] public section

set_option maxRecDepth 16384

noncomputable section

/-! The gradient of the output projection's weight, gathered from two halves of the rows. -/

namespace Cert.OutGradClaims

open Idealize.ShloMosaic Idealize.ShloMosaic.TcCoe Idealize.SL.Sem

section
open Cert.OutGradIdeal Cert.OutGradIdeal.Gen Cert.Entry
variable (m : (ℓ : Loc nD τ sig) → Buf (Elt Ideal) ℓ) (c : Dev nD)

/-- The input and the gradient, as matrices; their entries' product in one row, and the sum over all rows. -/
abbrev xs (r : Fin 8320) (i : Fin 1024) : EReal := (m ((c : Thread nD τ).loc main_arg0) : S8320x1024.Idx → EReal) (ix2 r i)
abbrev ds (r : Fin 8320) (j : Fin 1024) : EReal := (m ((c : Thread nD τ).loc main_arg1) : S8320x1024.Idx → EReal) (ix2 r j)
abbrev term (i j : Fin 1024) (r : Fin 8320) : EReal := xs m c r i * ds m c r j
def grad (i j : Fin 1024) : EReal := ∑ r, term m c i j r
abbrev result : S1024x1024.Idx → EReal := fun i => grad m c (i 0) (i 1)

/-- The first point leaves the product of its rows in the carried block; the second adds its own and writes the block. -/
theorem first (t : Fin cfg0.N) (h : t.val % 2 = 0) :
    (outsAt0 m c t.val t.isLt).2 = k0_pay1 (iblk m c 0 t) (iblk m c 1 t) := by
  rw [outsAt0_A m c t (by omega) (by omega) (by omega)]
  dsimp only
  unfold sout0_A_0
  rw [View.read_writes_eq_canon _ _ _ (fun y => scover0_A_0 (y := y) ..)]
  unfold kernelRun0_A
  dsimp only
  sl_unfold_words
  rw [View.canon_unit_zero origin]
  unfold k0_pay2
  simp only [View.readAt_eq_ld, (hs0_0 t).read_unread, (hs0_1 t).read_unread, View.ld_unit_zero (S := S4160x1024) origin, shapeCast_self]

theorem last (t : Fin cfg0.N) (h : t.val % 2 = 1) :
    (outsAt0 m c t.val t.isLt).1
      = k0_pay4 (addf (outsAt0 m c (t.val - 1) (by have := t.isLt; omega)).2 (k0_pay1 (iblk m c 0 t) (iblk m c 1 t))) := by
  rw [outsAt0_B m c t (by omega) (by omega) (by omega)]
  dsimp only
  unfold out0_B_2
  rw [View.read_writes_eq_canon _ _ _ (fun y => cover0_B_2 (y := y) ..)]
  unfold kernelRun0_B
  dsimp only
  sl_unfold_words
  rw [View.canon_unit_zero origin, View.readCov_unit_zero (S := S1024x1024) _ origin]
  unfold k0_pay3
  simp only [View.readAt_eq_ld, (hs0_0 t).read_unread, (hs0_1 t).read_unread, (Memref.isWhole_whole _).read_unread,
    View.ld_unit_zero (S := S4160x1024) origin, View.ld_unit_zero (S := S1024x1024) origin, shapeCast_self]

theorem product_at (x d : FVec Ideal S4160x1024 .bf16) (i j : Fin 1024) :
    k0_pay1 (F := Ideal) x d (ix2 i j) = ∑ r : Fin 4160, x (ix2 r i) * d (ix2 r j) := by
  pointwise [k0_pay1]

/-- Which blocks a point reads. -/
theorem index : ∀ t : Fin cfg0.N, (win0_0.index t (0 : Fin 2) = t.val % 2 ∧ win0_0.index t (1 : Fin 2) = 0)
    ∧ (win0_1.index t (0 : Fin 2) = t.val % 2 ∧ win0_1.index t (1 : Fin 2) = 0)
    ∧ win0_2.index t (0 : Fin 2) = 0 ∧ win0_2.index t (1 : Fin 2) = 0 :=
  (by decide +kernel : ∀ t : Fin grid0.N, _)

/-- A point's product: the sum over its half of the rows. -/
theorem part (t : Fin cfg0.N) (i j : Fin 1024) :
    k0_pay1 (F := Ideal) (iblk m c 0 t) (iblk m c 1 t) (ix2 i j)
      = ∑ r : Fin 4160, term m c i j ⟨4160 * (t.val % 2) + r.val, by omega⟩ := by
  obtain ⟨⟨e0, e1⟩, ⟨e2, e3⟩, -⟩ := index t
  refine (product_at _ _ _ _).trans (Finset.sum_congr rfl fun r _ => congrArg₂ (· * ·) ?_ ?_)
  · unfold iblk
    rw [View.read_apply]
    exact congrArg (m (c.tc.loc main_arg0)) (ext (by show win0_0.index t 0 * 4160 + 1 * r.val = 4160 * (t.val % 2) + r.val; omega)
      (by show win0_0.index t 1 * 1024 + 1 * i.val = i.val; omega))
  · unfold iblk
    rw [View.read_apply]
    exact congrArg (m (c.tc.loc main_arg1)) (ext (by show win0_1.index t 0 * 4160 + 1 * r.val = 4160 * (t.val % 2) + r.val; omega)
      (by show win0_1.index t 1 * 1024 + 1 * j.val = j.val; omega))

/-- The array after the call. -/
theorem array : (dats m 0 c).arrAt 2 cfg0.N = result m c := by
  refine (dats m 0 c).arrAt_eq_of_covers 2 _ (by decide +kernel) fun t hf y => ?_
  have h := (flush0_2 t).mp hf
  obtain ⟨-, -, e0, e1⟩ := index t
  obtain ⟨i, j, rfl⟩ := split (a := 1024) (b := 1024) y
  have g : (win0_2.blk t).view.emb (ix2 i j) = ix2 i j := ext
    (by show win0_2.index t 0 * 1024 + 1 * i.val = i.val; omega) (by show win0_2.index t 1 * 1024 + 1 * j.val = j.val; omega)
  have p : (t.val - 1) % 2 = 0 := by omega
  blk_simp [e0]
  rw [after0_2, last m c t h, first m c ⟨t.val - 1, by have := t.isLt; omega⟩ p]
  show _ = result m c ((win0_2.blk t).view.emb (ix2 i j))
  rw [g]
  show k0_pay1 (F := Ideal) _ _ (ix2 i j) + k0_pay1 (F := Ideal) _ _ (ix2 i j) = ∑ r, term m c i j r
  rw [part, part, sum_halves]
  simp only [h, p, Nat.mul_zero, Nat.zero_add, Nat.mul_one]

end

/-- Both programs and the reference end, their arguments as they were and every semaphore at zero. -/
theorem frame_ideal : Cert.quiescent_OutGradIdeal (hOutGradIdeal := Cert.OutGradIdeal.Gen.facts) := fun m ρ _ =>
  Cert.OutGradIdeal.Gen.frame (F := Ideal) m ρ

theorem frame_words : Cert.quiescent_OutGrad (hOutGrad := Cert.OutGrad.Gen.facts) :=
  Eq.mp (by chain_rfl) fun m ρ (_ : True) => Cert.OutGradIdeal.Gen.frame (F := Bits) m ρ

theorem frame_reference : Cert.quiescent_OutGradRefIdeal (hOutGradRefIdeal := Cert.OutGradRefIdeal.Gen.facts) := fun m ρ _ =>
  (θ_run _ _ _).mono (fun r h => ⟨fun c => (h c).2, sem_eq_zero_of_no_sems (by decide) r.2⟩)
    (Cert.OutGradRefIdeal.Value.run (F := Ideal) m ρ)

/-- The program and the reference leave the same gradient. -/
theorem value : Cert.algebraic_OutGradIdeal_OutGradRefIdeal (hOutGradIdeal := Cert.OutGradIdeal.Gen.facts)
    (hOutGradRefIdeal := Cert.OutGradRefIdeal.Gen.facts) := by
  intro m ρ m' ρ' _ same
  refine ⟨fun c => result m c, (θ_run _ _ _).mono (fun _ h c => ⟨(h c).1.trans (array m c), (h c).2⟩)
    (Cert.OutGradIdeal.Value.run_blocks m ρ),
    (θ_run _ _ _).mono (fun _ h c => ⟨(h c).1.trans ?_, (h c).2⟩) (Cert.OutGradRefIdeal.Value.run m' ρ')⟩
  rw [(same c).1, (same c).2]
  funext y
  obtain ⟨i, j, rfl⟩ := Cert.Entry.split (a := 1024) (b := 1024) y
  pointwise
  exact Finset.sum_congr rfl fun r _ => mul_comm _ _

end Cert.OutGradClaims

end
-- ==== Proof.OutNormClaims.lean ====
module

public import proofs.«01_k».proof.Defs
public import proofs.«01_k».proof.Proof.Entry
public import proofs.«01_k».proof.Proof.NormBwdMath
public import proofs.«01_k».proof.Proof.Gen.OutNorm
public import proofs.«01_k».proof.Proof.Gen.OutNormIdeal.Value
public import proofs.«01_k».proof.Proof.Gen.OutNormRefIdeal.Run
public import Idealize.ShloMosaic.Lib.Quiescent
public import Idealize.ShloMosaic.Lib.Pipeline.ValueKit

@[expose] public section

set_option maxRecDepth 16384

noncomputable section

/-! The output projection, added to the residual, and the norm after it. -/

namespace Cert.OutNormClaims

open Idealize.ShloMosaic Idealize.ShloMosaic.TcCoe Idealize.SL.Sem

section
open Cert.OutNormIdeal Cert.OutNormIdeal.Gen Cert.Entry
open Cert.NormBwd.Math (ms)
variable (m : (ℓ : Loc nD τ sig) → Buf (Elt Ideal) ℓ) (c : Dev nD)

/-- The merged branches, the weight, the residual's rows and the norm's weight, as matrices. -/
abbrev xs (r : Fin 8320) (k : Fin 1024) : EReal := (m ((c : Thread nD τ).loc main_arg0) : S8320x1024.Idx → EReal) (ix2 r k)
abbrev ws (k j : Fin 1024) : EReal := (m ((c : Thread nD τ).loc main_arg1) : S1024x1024.Idx → EReal) (ix2 k j)
abbrev hs (r : Fin 8320) (j : Fin 1024) : EReal := (m ((c : Thread nD τ).loc main_arg2) : S8320x1024.Idx → EReal) (ix2 r j)
abbrev ns (j : Fin 1024) : EReal := (m ((c : Thread nD τ).loc main_arg3) : S1x1024.Idx → EReal) (ix2 0 j)

/-- The residual with the projection added, and its rows scaled to unit mean square. -/
def total (r : Fin 8320) (j : Fin 1024) : EReal := hs m c r j + ∑ k, xs m c r k * ws m c k j
def normed (r : Fin 8320) (j : Fin 1024) : EReal := total m c r j * Ideal.rsqrt (ms fun k => total m c r k) * ns m c j
abbrev result0 : S8320x1024.Idx → EReal := fun i => total m c (i 0) (i 1)
abbrev result1 : S8320x1024.Idx → EReal := fun i => normed m c (i 0) (i 1)

theorem total_at (h : FVec Ideal S640x1024 .f32) (x : FVec Ideal S640x1024 .bf16) (w : FVec Ideal S1024x1024 .bf16) (r : Fin 640) (j : Fin 1024) :
    k0_pay1 (F := Ideal) h x w (ix2 r j) = h (ix2 r j) + ∑ k : Fin 1024, x (ix2 r k) * w (ix2 k j) := by
  pointwise [k0_pay1]

theorem normed_at (h : FVec Ideal S640x1024 .f32) (x : FVec Ideal S640x1024 .bf16) (w : FVec Ideal S1024x1024 .bf16) (n : FVec Ideal S1x1024 .f32)
    (r : Fin 640) (j : Fin 1024) :
    k0_pay2 (F := Ideal) h x w n (ix2 r j)
      = k0_pay1 (F := Ideal) h x w (ix2 r j) * Ideal.rsqrt (ms fun k => k0_pay1 (F := Ideal) h x w (ix2 r k)) * n (ix2 0 j) := by
  pointwise [k0_pay2]
  rfl

/-- Which blocks a point reads and writes: its 640 rows, and all of the weights. -/
theorem index : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0) :=
  (by decide +kernel : ∀ t : Fin grid0.N, _)

/-- A row of a block, among all rows. -/
abbrev row (t : Fin cfg0.N) (r : Fin 640) : Fin 8320 := ⟨t.val * 640 + r.val, by have h : cfg0.N = 13 := N_0; have := t.isLt; omega⟩

theorem total_block (t : Fin cfg0.N) (r : Fin 640) (j : Fin 1024) :
    k0_pay1 (F := Ideal) (iblk m c 2 t) (iblk m c 0 t) (iblk m c 1 t) (ix2 r j) = total m c (row t r) j := by
  obtain ⟨⟨e0, e1⟩, ⟨e2, e3⟩, ⟨e4, e5⟩, -⟩ := index t
  refine (total_at _ _ _ _ _).trans (congrArg₂ (· + ·) ?_ (Finset.sum_congr rfl fun k _ => congrArg₂ (· * ·) ?_ ?_))
  · unfold iblk
    rw [View.read_apply]
    exact congrArg (m (c.tc.loc main_arg2)) (ext (by show win0_2.index t 0 * 640 + 1 * r.val = t.val * 640 + r.val; omega)
      (by show win0_2.index t 1 * 1024 + 1 * j.val = j.val; omega))
  · unfold iblk
    rw [View.read_apply]
    exact congrArg (m (c.tc.loc main_arg0)) (ext (by show win0_0.index t 0 * 640 + 1 * r.val = t.val * 640 + r.val; omega)
      (by show win0_0.index t 1 * 1024 + 1 * k.val = k.val; omega))
  · unfold iblk
    rw [View.read_apply]
    exact congrArg (m (c.tc.loc main_arg1)) (ext (by show win0_1.index t 0 * 1024 + 1 * k.val = k.val; omega)
      (by show win0_1.index t 1 * 1024 + 1 * j.val = j.val; omega))

theorem norm_block (t : Fin cfg0.N) (j : Fin 1024) : (iblk m c 3 t : S1x1024.Idx → EReal) (ix2 0 j) = ns m c j := by
  obtain ⟨-, -, -, ⟨e0, e1⟩, -⟩ := index t
  unfold iblk
  rw [View.read_apply]
  exact congrArg (m (c.tc.loc main_arg3)) (ext (by show win0_3.index t 0 * 1 + 1 * 0 = 0; omega)
    (by show win0_3.index t 1 * 1024 + 1 * j.val = j.val; omega))

/-- The arrays after the call. -/
theorem array0 : (dats m 0 c).arrAt 4 cfg0.N = result0 m c := by
  refine (dats m 0 c).arrAt_eq_of_covers 4 _ (by decide +kernel) fun t hf y => ?_
  obtain ⟨-, -, -, -, ⟨e0, e1⟩, -⟩ := index t
  obtain ⟨r, j, rfl⟩ := split (a := 640) (b := 1024) y
  have g : (win0_4.blk t).view.emb (ix2 r j) = ix2 (row t r) j := ext
    (by show win0_4.index t 0 * 640 + 1 * r.val = t.val * 640 + r.val; omega) (by show win0_4.index t 1 * 1024 + 1 * j.val = j.val; omega)
  blk_simp [e0]
  rw [after0_4]
  unfold out0_4
  rw [View.canon_unit_zero origin]
  simp only [View.ld_unit_zero (S := S640x1024) origin, View.ld_unit_zero (S := S1024x1024) origin]
  show _ = result0 m c ((win0_4.blk t).view.emb (ix2 r j))
  rw [g]
  exact total_block m c t r j

theorem array1 : (dats m 0 c).arrAt 5 cfg0.N = result1 m c := by
  refine (dats m 0 c).arrAt_eq_of_covers 5 _ (by decide +kernel) fun t hf y => ?_
  obtain ⟨-, -, -, -, -, ⟨e0, e1⟩⟩ := index t
  obtain ⟨r, j, rfl⟩ := split (a := 640) (b := 1024) y
  have g : (win0_5.blk t).view.emb (ix2 r j) = ix2 (row t r) j := ext
    (by show win0_5.index t 0 * 640 + 1 * r.val = t.val * 640 + r.val; omega) (by show win0_5.index t 1 * 1024 + 1 * j.val = j.val; omega)
  blk_simp [e0]
  rw [after0_5]
  unfold out0_5
  rw [View.canon_unit_zero origin]
  simp only [View.ld_unit_zero (S := S640x1024) origin, View.ld_unit_zero (S := S1024x1024) origin, View.ld_unit_zero (S := S1x1024) origin]
  show _ = result1 m c ((win0_5.blk t).view.emb (ix2 r j))
  rw [g]
  refine (normed_at _ _ _ _ _ _).trans ?_
  simp only [total_block, norm_block]
  rfl

end

/-- Both programs and the reference end, their arguments as they were and every semaphore at zero. -/
theorem frame_ideal : Cert.quiescent_OutNormIdeal (hOutNormIdeal := Cert.OutNormIdeal.Gen.facts) := fun m ρ _ =>
  Cert.OutNormIdeal.Gen.frame (F := Ideal) m ρ

theorem frame_words : Cert.quiescent_OutNorm (hOutNorm := Cert.OutNorm.Gen.facts) :=
  Eq.mp (by chain_rfl) fun m ρ (_ : True) => Cert.OutNormIdeal.Gen.frame (F := Bits) m ρ

theorem frame_reference : Cert.quiescent_OutNormRefIdeal (hOutNormRefIdeal := Cert.OutNormRefIdeal.Gen.facts) := fun m ρ _ =>
  (θ_run _ _ _).mono (fun r h => ⟨fun c => (h c).2.2, sem_eq_zero_of_no_sems (by decide) r.2⟩)
    (Cert.OutNormRefIdeal.Value.run (F := Ideal) m ρ)

/-- The program and the reference leave the same rows. -/
theorem value : Cert.algebraic_OutNormIdeal_OutNormRefIdeal (hOutNormIdeal := Cert.OutNormIdeal.Gen.facts)
    (hOutNormRefIdeal := Cert.OutNormRefIdeal.Gen.facts) := by
  intro m ρ m' ρ' _ same
  refine ⟨fun c => result0 m c, fun c => result1 m c,
    (θ_run _ _ _).mono (fun _ h c => ⟨(h c).1.trans (array0 m c), (h c).2.1.trans (array1 m c), (h c).2.2⟩)
      (Cert.OutNormIdeal.Value.run_blocks m ρ),
    (θ_run _ _ _).mono (fun _ h c => ⟨(h c).1.trans ?_, (h c).2.1.trans ?_, (h c).2.2⟩) (Cert.OutNormRefIdeal.Value.run m' ρ')⟩
  all_goals
    rw [(same c).1, (same c).2.1, (same c).2.2.1]
    try rw [(same c).2.2.2]
    funext y
    obtain ⟨r, j, rfl⟩ := Cert.Entry.split (a := 8320) (b := 1024) y
    pointwise
    rfl

end Cert.OutNormClaims

end
-- ==== Proof.MergeBwdClaims.lean ====
module

public import proofs.«01_k».proof.Defs
public import proofs.«01_k».proof.Proof.Entry
public import proofs.«01_k».proof.Proof.Gen.MergeBwd
public import proofs.«01_k».proof.Proof.Gen.MergeBwdIdeal.Value
public import proofs.«01_k».proof.Proof.Gen.MergeBwdRefIdeal.Run
public import Idealize.ShloMosaic.Lib.Quiescent
public import Idealize.ShloMosaic.Lib.Pipeline.ValueKit

@[expose] public section

set_option maxRecDepth 16384

noncomputable section

/-! The backward of the merge: the gradients under the gates, and the gates' own, written into their columns of a wider array. -/

namespace Cert.MergeBwdClaims

open Idealize.ShloMosaic Idealize.ShloMosaic.TcCoe Idealize.SL.Sem

section
open Cert.MergeBwdIdeal Cert.MergeBwdIdeal.Gen Cert.Entry
variable (m : (ℓ : Loc nD τ sig) → Buf (Elt Ideal) ℓ) (c : Dev nD)

/-- The gradient's rows, the weight, the branches, the gates and the array the gates' gradients go into, as matrices. -/
abbrev ds (r : Fin 8320) (k : Fin 1024) : EReal := (m ((c : Thread nD τ).loc main_arg0) : S8320x1024.Idx → EReal) (ix2 r k)
abbrev ws (j k : Fin 1024) : EReal := (m ((c : Thread nD τ).loc main_arg1) : S1024x1024.Idx → EReal) (ix2 j k)
abbrev ys (r : Fin 8320) (j : Fin 1024) : EReal := (m ((c : Thread nD τ).loc main_arg2) : S8320x1024.Idx → EReal) (ix2 r j)
abbrev yr (r : Fin 8320) (j : Fin 1024) : EReal := (m ((c : Thread nD τ).loc main_arg3) : S8320x1024.Idx → EReal) (ix2 r j)
abbrev gs (r : Fin 8320) (j : Fin 2048) : EReal := (m ((c : Thread nD τ).loc main_arg4) : S8320x2048.Idx → EReal) (ix2 r j)
abbrev ps : S8320x13824.Idx → EReal := m ((c : Thread nD τ).loc main_arg5)

/-- The merged branches' gradient; a branch's gradient under its gate; a gate's gradient. -/
def dm (r : Fin 8320) (j : Fin 1024) : EReal := ∑ k, ds m c r k * ws m c j k
def under (d g : EReal) : EReal := d * Ideal.logistic g
def gate (d y g : EReal) : EReal := d * y * Ideal.logistic g * (1 - Ideal.logistic g)
def gates (r : Fin 8320) (j : Fin 2048) : EReal :=
  if h : j.val < 1024 then gate (dm m c r ⟨j.val, h⟩) (ys m c r ⟨j.val, h⟩) (gs m c r j)
  else gate (dm m c r ⟨j.val - 1024, by omega⟩) (yr m c r ⟨j.val - 1024, by omega⟩) (gs m c r j)
abbrev result0 : S8320x1024.Idx → EReal := fun i => under (dm m c (i 0) (i 1)) (gs m c (i 0) ⟨(i 1).val, by have h : (i 1).val < 1024 := (i 1).isLt; omega⟩)
abbrev result1 : S8320x1024.Idx → EReal := fun i => under (dm m c (i 0) (i 1)) (gs m c (i 0) ⟨1024 + (i 1).val, by have h : (i 1).val < 1024 := (i 1).isLt; omega⟩)
abbrev written : S8320x13824.Idx → EReal := fun i => gates m c (i 0) ⟨(i 1).val % 2048, by omega⟩
abbrev result2 : S8320x13824.Idx → EReal := fun i => if (i 1).val / 2048 = 4 then written m c i else ps m c i

theorem gates_left (r : Fin 8320) {j : Fin 2048} {i : Fin 1024} (h : j.val = i.val) :
    gates m c r j = gate (dm m c r i) (ys m c r i) (gs m c r ⟨i.val, by omega⟩) := by
  obtain rfl : j = ⟨i.val, i.isLt.trans (by decide)⟩ := Fin.ext h
  unfold gates
  rw [dif_pos i.isLt]

theorem gates_right (r : Fin 8320) {j : Fin 2048} {i : Fin 1024} (h : j.val = 1024 + i.val) :
    gates m c r j = gate (dm m c r i) (yr m c r i) (gs m c r ⟨1024 + i.val, by omega⟩) := by
  obtain rfl : j = ⟨1024 + i.val, Nat.add_lt_add_left i.isLt 1024⟩ := Fin.ext h
  unfold gates
  rw [dif_neg (show ¬ 1024 + i.val < 1024 by omega)]
  simp only [Nat.add_sub_cancel_left]

theorem dm_at (x : FVec Ideal S640x1024 .bf16) (w : FVec Ideal S1024x1024 .bf16) (r : Fin 640) (j : Fin 1024) :
    k0_pay1 (F := Ideal) x w (ix2 r j) = ∑ k : Fin 1024, x (ix2 r k) * w (ix2 j k) := by
  pointwise [k0_pay1]

/-- What a point writes, at an entry. -/
theorem under_at (x : FVec Ideal S640x1024 .bf16) (w : FVec Ideal S1024x1024 .bf16) (g : FVec Ideal S640x1024 .bf16) (r : Fin 640) (j : Fin 1024) :
    k0_pay3 (F := Ideal) x w g (ix2 r j) = under (k0_pay1 (F := Ideal) x w (ix2 r j)) (g (ix2 r j))
      ∧ k0_pay6 (F := Ideal) x w g (ix2 r j) = under (k0_pay1 (F := Ideal) x w (ix2 r j)) (g (ix2 r j)) := by
  constructor
  · pointwise [k0_pay3, k0_pay2]
    rfl
  · pointwise [k0_pay6, k0_pay5]
    rfl

theorem gate_at (x : FVec Ideal S640x1024 .bf16) (w : FVec Ideal S1024x1024 .bf16) (g y : FVec Ideal S640x1024 .bf16) (r : Fin 640) (j : Fin 1024) :
    k0_pay4 (F := Ideal) x w g y (ix2 r j) = gate (k0_pay1 (F := Ideal) x w (ix2 r j)) (y (ix2 r j)) (g (ix2 r j))
      ∧ k0_pay7 (F := Ideal) x w g y (ix2 r j) = gate (k0_pay1 (F := Ideal) x w (ix2 r j)) (y (ix2 r j)) (g (ix2 r j)) := by
  constructor
  · pointwise [k0_pay4, k0_pay2]
    try simp only [Ideal.ofBits_one_f32]
    rfl
  · pointwise [k0_pay7, k0_pay5]
    try simp only [Ideal.ofBits_one_f32]
    rfl

/-- What a point leaves in its three blocks. -/
theorem after0 (t : Fin cfg0.N) : (outsAt0 m c t).1 = k0_pay3 (iblk m c 0 t) (iblk m c 1 t) (iblk m c 4 t) := by
  unfold outsAt0 out0_A_6
  dsimp only
  rw [View.read_writes_eq_canon _ _ _ (fun y => cover0_A_6 (y := y) ..)]
  unfold kernelRun0_A
  dsimp only
  sl_unfold_words
  rw [View.canon_unit_zero origin]
  simp only [View.readAt_eq_ld, (hs0_0 t).read_unread, (hs0_1 t).read_unread, (hs0_4 t).read_unread,
    View.ld_unit_zero (S := S640x1024) origin, View.ld_unit_zero (S := S1024x1024) origin]

theorem after1 (t : Fin cfg0.N) : (outsAt0 m c t).2.1 = k0_pay6 (iblk m c 0 t) (iblk m c 1 t) (iblk m c 5 t) := by
  unfold outsAt0 out0_A_7
  dsimp only
  rw [View.read_writes_eq_canon _ _ _ (fun y => cover0_A_7 (y := y) ..)]
  unfold kernelRun0_A
  dsimp only
  sl_unfold_words
  rw [View.canon_unit_zero origin]
  simp only [View.readAt_eq_ld, (hs0_0 t).read_unread, (hs0_1 t).read_unread, (hs0_5 t).read_unread,
    View.ld_unit_zero (S := S640x1024) origin, View.ld_unit_zero (S := S1024x1024) origin]

theorem after2 (t : Fin cfg0.N) : (outsAt0 m c t).2.2 = View.canon
    [⟨Rect.unit (s := S640x2048) ![0, 1024] S640x1024.size inb_S640x2048_S640x1024_0_1024, k0_pay7 (iblk m c 0 t) (iblk m c 1 t) (iblk m c 5 t) (iblk m c 3 t)⟩,
      ⟨Rect.unit (s := S640x2048) ![0, 0] S640x1024.size inb_S640x2048_S640x1024_0_0, k0_pay4 (iblk m c 0 t) (iblk m c 1 t) (iblk m c 4 t) (iblk m c 2 t)⟩] := by
  unfold outsAt0 out0_A_8
  dsimp only
  rw [View.read_writes_eq_canon _ _ _ (fun y => cover0_A_8 (y := y) ..)]
  unfold kernelRun0_A
  dsimp only
  sl_unfold_words
  simp only [View.readAt_eq_ld, (hs0_0 t).read_unread, (hs0_1 t).read_unread, (hs0_2 t).read_unread, (hs0_3 t).read_unread,
    (hs0_4 t).read_unread, (hs0_5 t).read_unread, View.ld_unit_zero (S := S640x1024) origin, View.ld_unit_zero (S := S1024x1024) origin]

theorem after2_left (t : Fin cfg0.N) (r : Fin 640) (j : Fin 1024) (h : j.val < 2048) :
    (outsAt0 m c t).2.2 (ix2 r ⟨j.val, h⟩) = k0_pay4 (iblk m c 0 t) (iblk m c 1 t) (iblk m c 4 t) (iblk m c 2 t) (ix2 r j) := by
  rw [after2, View.canon_cons_of_not_mem]
  · have e : (ix2 r (⟨j.val, h⟩ : Fin 2048)) = (Rect.unit (s := S640x2048) ![0, 0] S640x1024.size inb_S640x2048_S640x1024_0_0).emb (ix2 r j) :=
      ext (by show r.val = 0 + 1 * r.val; omega) (by show j.val = 0 + 1 * j.val; omega)
    rw [e]
    exact View.canon_cons_emb _ _ _ _
  · intro hm
    have := ((Rect.mem_set_unit (inb := inb_S640x2048_S640x1024_0_1024)).mp hm 1).1
    have : 1024 ≤ j.val := this
    omega

theorem after2_right (t : Fin cfg0.N) (r : Fin 640) (j : Fin 1024) (h : 1024 + j.val < 2048) :
    (outsAt0 m c t).2.2 (ix2 r ⟨1024 + j.val, h⟩) = k0_pay7 (iblk m c 0 t) (iblk m c 1 t) (iblk m c 5 t) (iblk m c 3 t) (ix2 r j) := by
  have e : (ix2 r (⟨1024 + j.val, h⟩ : Fin 2048)) = (Rect.unit (s := S640x2048) ![0, 1024] S640x1024.size inb_S640x2048_S640x1024_0_1024).emb (ix2 r j) :=
    ext (by show r.val = 0 + 1 * r.val; omega) (by show 1024 + j.val = 1024 + 1 * j.val; omega)
  rw [after2, e]
  exact View.canon_cons_emb _ _ _ _

/-- Which blocks a point reads and writes: its 640 rows, and all of the weight. -/
theorem index : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0) ∧ (win0_3.index t (0 : Fin 2) = t.val ∧ win0_3.index t (1 : Fin 2) = 0)
    ∧ (win0_4.index t (0 : Fin 2) = t.val ∧ win0_4.index t (1 : Fin 2) = 0) ∧ (win0_5.index t (0 : Fin 2) = t.val ∧ win0_5.index t (1 : Fin 2) = 1) :=
  (by decide +kernel : ∀ t : Fin grid0.N, _)

theorem outdex : ∀ t : Fin cfg0.N, (win0_6.index t (0 : Fin 2) = t.val ∧ win0_6.index t (1 : Fin 2) = 0)
    ∧ (win0_7.index t (0 : Fin 2) = t.val ∧ win0_7.index t (1 : Fin 2) = 0) ∧ (win0_8.index t (0 : Fin 2) = t.val ∧ win0_8.index t (1 : Fin 2) = 4) :=
  (by decide +kernel : ∀ t : Fin grid0.N, _)

/-- A row of a block, among all rows. -/
abbrev row (t : Fin cfg0.N) (r : Fin 640) : Fin 8320 := ⟨t.val * 640 + r.val, by have h : cfg0.N = 13 := N_0; have := t.isLt; omega⟩

theorem dm_block (t : Fin cfg0.N) (r : Fin 640) (j : Fin 1024) :
    k0_pay1 (F := Ideal) (iblk m c 0 t) (iblk m c 1 t) (ix2 r j) = dm m c (row t r) j := by
  obtain ⟨⟨e0, e1⟩, ⟨e2, e3⟩, -⟩ := index t
  refine (dm_at _ _ _ _).trans (Finset.sum_congr rfl fun k _ => congrArg₂ (· * ·) ?_ ?_)
  · unfold iblk
    rw [View.read_apply]
    exact (congrFun (V_main_arg0 m c) _).trans (congrArg (m (c.tc.loc main_arg0))
      (ext (by show win0_0.index t 0 * 640 + 1 * r.val = t.val * 640 + r.val; omega) (by show win0_0.index t 1 * 1024 + 1 * k.val = k.val; omega)))
  · unfold iblk
    rw [View.read_apply]
    exact (congrFun (V_main_arg1 m c) _).trans (congrArg (m (c.tc.loc main_arg1))
      (ext (by show win0_1.index t 0 * 1024 + 1 * j.val = j.val; omega) (by show win0_1.index t 1 * 1024 + 1 * k.val = k.val; omega)))

theorem branch0 (t : Fin cfg0.N) (r : Fin 640) (j : Fin 1024) : (iblk m c 2 t : S640x1024.Idx → EReal) (ix2 r j) = ys m c (row t r) j := by
  obtain ⟨-, -, ⟨e0, e1⟩, -⟩ := index t
  unfold iblk
  rw [View.read_apply]
  exact (congrFun (V_main_arg2 m c) _).trans (congrArg (m (c.tc.loc main_arg2))
    (ext (by show win0_2.index t 0 * 640 + 1 * r.val = t.val * 640 + r.val; omega) (by show win0_2.index t 1 * 1024 + 1 * j.val = j.val; omega)))

theorem branch1 (t : Fin cfg0.N) (r : Fin 640) (j : Fin 1024) : (iblk m c 3 t : S640x1024.Idx → EReal) (ix2 r j) = yr m c (row t r) j := by
  obtain ⟨-, -, -, ⟨e0, e1⟩, -⟩ := index t
  unfold iblk
  rw [View.read_apply]
  exact (congrFun (V_main_arg3 m c) _).trans (congrArg (m (c.tc.loc main_arg3))
    (ext (by show win0_3.index t 0 * 640 + 1 * r.val = t.val * 640 + r.val; omega) (by show win0_3.index t 1 * 1024 + 1 * j.val = j.val; omega)))

theorem gate0 (t : Fin cfg0.N) (r : Fin 640) (j : Fin 1024) (h : j.val < 2048) :
    (iblk m c 4 t : S640x1024.Idx → EReal) (ix2 r j) = gs m c (row t r) ⟨j.val, h⟩ := by
  obtain ⟨-, -, -, -, ⟨e0, e1⟩, -⟩ := index t
  unfold iblk
  rw [View.read_apply]
  exact (congrFun (V_main_arg4 m c) _).trans (congrArg (m (c.tc.loc main_arg4))
    (ext (by show win0_4.index t 0 * 640 + 1 * r.val = t.val * 640 + r.val; omega) (by show win0_4.index t 1 * 1024 + 1 * j.val = j.val; omega)))

theorem gate1 (t : Fin cfg0.N) (r : Fin 640) (j : Fin 1024) (h : 1024 + j.val < 2048) :
    (iblk m c 5 t : S640x1024.Idx → EReal) (ix2 r j) = gs m c (row t r) ⟨1024 + j.val, h⟩ := by
  obtain ⟨-, -, -, -, -, ⟨e0, e1⟩⟩ := index t
  unfold iblk
  rw [View.read_apply]
  exact (congrFun (V_main_arg4 m c) _).trans (congrArg (m (c.tc.loc main_arg4))
    (ext (by show win0_5.index t 0 * 640 + 1 * r.val = t.val * 640 + r.val; omega) (by show win0_5.index t 1 * 1024 + 1 * j.val = 1024 + j.val; omega)))

/-- The arrays after the call. -/
theorem array0 : (dats m 0 c).arrAt 6 cfg0.N = result0 m c := by
  refine (dats m 0 c).arrAt_eq_of_covers 6 _ (by decide +kernel) fun t hf y => ?_
  obtain ⟨⟨e0, e1⟩, -, -⟩ := outdex t
  obtain ⟨r, j, rfl⟩ := split (a := 640) (b := 1024) y
  have g : (win0_6.blk t).view.emb (ix2 r j) = ix2 (row t r) j := ext
    (by show win0_6.index t 0 * 640 + 1 * r.val = t.val * 640 + r.val; omega) (by show win0_6.index t 1 * 1024 + 1 * j.val = j.val; omega)
  blk_simp [e0]
  rw [after0_6, after0]
  show _ = result0 m c ((win0_6.blk t).view.emb (ix2 r j))
  rw [g]
  exact (under_at _ _ _ _ _).1.trans (congrArg₂ under (dm_block m c t r j) (gate0 m c t r j _))

theorem array1 : (dats m 0 c).arrAt 7 cfg0.N = result1 m c := by
  refine (dats m 0 c).arrAt_eq_of_covers 7 _ (by decide +kernel) fun t hf y => ?_
  obtain ⟨-, ⟨e0, e1⟩, -⟩ := outdex t
  obtain ⟨r, j, rfl⟩ := split (a := 640) (b := 1024) y
  have g : (win0_7.blk t).view.emb (ix2 r j) = ix2 (row t r) j := ext
    (by show win0_7.index t 0 * 640 + 1 * r.val = t.val * 640 + r.val; omega) (by show win0_7.index t 1 * 1024 + 1 * j.val = j.val; omega)
  blk_simp [e0]
  rw [after0_7, after1]
  show _ = result1 m c ((win0_7.blk t).view.emb (ix2 r j))
  rw [g]
  exact (under_at _ _ _ _ _).2.trans (congrArg₂ under (dm_block m c t r j) (gate1 m c t r j _))

/-- The array the gates' gradients go into holds what it held before the call, but for their columns. -/
theorem kept : V m c main_v0_2 = ps m c := by
  show StableHlo.after hostOps0 _ _ = _
  simp only [hostOps0, List.flatten_cons, List.flatten_nil, List.append_nil]
  after_results
  rfl

theorem array2 : (dats m 0 c).arrAt 8 cfg0.N = result2 m c := by
  refine ((dats m 0 c).arrAt_eq_of_coversWhere 8 (written m c) (P := fun i => (i 1).val / 2048 = 4) (fun β => β (1 : Fin 2) = 4) (by decide +kernel)
    (fun t hf y => ?_) (fun j => Iff.rfl)).trans (funext fun i => if_congr Iff.rfl rfl (congrFun (kept m c) i))
  obtain ⟨-, -, ⟨e0, e1⟩⟩ := outdex t
  obtain ⟨r, j, hx⟩ := split (a := 640) (b := 2048) (win0_8.xinj (grid0.coords t) y)
  have hr : (y 0 : ℕ) = r.val := congrArg (fun i : S640x2048.Idx => (i 0).val) hx
  have hc : (y 1 : ℕ) = j.val := congrArg (fun i : S640x2048.Idx => (i 1).val) hx
  have hj := j.isLt
  have g : (win0_8.blk t).view.emb y = ix2 (row t r) (⟨8192 + j.val, by omega⟩ : Fin 13824) := ext
    (by show win0_8.index t 0 * 640 + 1 * (y 0 : ℕ) = t.val * 640 + r.val; omega) (by show win0_8.index t 1 * 2048 + 1 * (y 1 : ℕ) = 8192 + j.val; omega)
  have w : (⟨(8192 + j.val) % 2048, by omega⟩ : Fin 2048) = j := Fin.ext (by dsimp only; omega)
  show (dats m 0 c).after 8 t (win0_8.xinj (grid0.coords t) y) = written m c ((win0_8.blk t).view.emb y)
  rw [after0_8, g, hx]
  show (outsAt0 m c t).2.2 (ix2 r j) = gates m c (row t r) ⟨(8192 + j.val) % 2048, by omega⟩
  rw [w]
  by_cases h : j.val < 1024
  · refine (after2_left m c t r ⟨j.val, h⟩ hj).trans ((gate_at _ _ _ _ _ _).1.trans ?_)
    rw [dm_block, branch0, gate0 m c t r ⟨j.val, h⟩ hj, gates_left m c _ (i := ⟨j.val, h⟩) rfl]
  · obtain ⟨i, rfl⟩ : ∃ i : Fin 1024, j = ⟨1024 + i.val, Nat.add_lt_add_left i.isLt 1024⟩ := ⟨⟨j.val - 1024, by omega⟩, Fin.ext (by dsimp only; omega)⟩
    refine (after2_right m c t r i hj).trans ((gate_at _ _ _ _ _ _).2.trans ?_)
    rw [dm_block, branch1, gate1 m c t r i hj, gates_right m c _ rfl]

end

/-- Both programs and the reference end, their arguments as they were and every semaphore at zero. -/
theorem frame_ideal : Cert.quiescent_MergeBwdIdeal (hMergeBwdIdeal := Cert.MergeBwdIdeal.Gen.facts) := fun m ρ _ =>
  Cert.MergeBwdIdeal.Gen.frame (F := Ideal) m ρ

theorem frame_words : Cert.quiescent_MergeBwd (hMergeBwd := Cert.MergeBwd.Gen.facts) :=
  Eq.mp (by chain_rfl) fun m ρ (_ : True) => Cert.MergeBwdIdeal.Gen.frame (F := Bits) m ρ

theorem frame_reference : Cert.quiescent_MergeBwdRefIdeal (hMergeBwdRefIdeal := Cert.MergeBwdRefIdeal.Gen.facts) := fun m ρ _ =>
  (θ_run _ _ _).mono (fun r h => ⟨fun c => (h c).2.2.2, sem_eq_zero_of_no_sems (by decide) r.2⟩)
    (Cert.MergeBwdRefIdeal.Value.run (F := Ideal) m ρ)

/-- The program and the reference leave the same gradients. -/
theorem value : Cert.algebraic_MergeBwdIdeal_MergeBwdRefIdeal (hMergeBwdIdeal := Cert.MergeBwdIdeal.Gen.facts)
    (hMergeBwdRefIdeal := Cert.MergeBwdRefIdeal.Gen.facts) := by
  intro m ρ m' ρ' _ same
  refine ⟨fun c => result0 m c, fun c => result1 m c, fun c => result2 m c,
    (θ_run _ _ _).mono (fun _ h c => ⟨(h c).1.trans (array0 m c), (h c).2.1.trans (array1 m c), (h c).2.2.1.trans (array2 m c), (h c).2.2.2⟩)
      (Cert.MergeBwdIdeal.Value.run_blocks m ρ),
    (θ_run _ _ _).mono (fun _ h c => ⟨(h c).1.trans ?_, (h c).2.1.trans ?_, (h c).2.2.1.trans ?_, (h c).2.2.2⟩)
      (Cert.MergeBwdRefIdeal.Value.run m' ρ')⟩
  all_goals
    obtain ⟨s0, s1, s2, s3, s4, s5⟩ := same c
    simp only [s0, s1, s2, s3, s4, s5]
    funext y
  · obtain ⟨r, j, rfl⟩ := Cert.Entry.split (a := 8320) (b := 1024) y
    pointwise
    try simp only [Ideal.ofBits_one_f32]
    exact mul_comm _ _
  · obtain ⟨r, j, rfl⟩ := Cert.Entry.split (a := 8320) (b := 1024) y
    pointwise
    try simp only [Ideal.ofBits_one_f32]
    exact mul_comm _ _
  · obtain ⟨r, j, rfl⟩ := Cert.Entry.split (a := 8320) (b := 13824) y
    pointwise
    simp only [Ideal.ofBits_one_f32, s0, s1, s2, s3, s4, s5]
    have hj := j.isLt
    by_cases h1 : j.val < 8192
    · rw [dif_pos h1]
      exact (if_neg (by show ¬ j.val / 2048 = 4; omega)).symm
    rw [dif_neg h1]
    by_cases h2 : j.val - 8192 < 1024
    · rw [dif_pos h2]
      refine (mul_assoc _ _ _).symm.trans (Eq.symm ((if_pos (by show j.val / 2048 = 4; omega)).trans ?_))
      exact gates_left m c r (i := ⟨j.val - 8192, h2⟩) (by show j.val % 2048 = j.val - 8192; omega)
    rw [dif_neg h2]
    by_cases h3 : j.val - 8192 - 1024 < 1024
    · rw [dif_pos h3]
      refine (mul_assoc _ _ _).symm.trans (Eq.symm ((if_pos (by show j.val / 2048 = 4; omega)).trans ?_))
      exact gates_right m c r (i := ⟨j.val - 8192 - 1024, h3⟩) (by show j.val % 2048 = 1024 + (j.val - 8192 - 1024); omega)
    rw [dif_neg h3]
    refine Eq.symm ((if_neg (by show ¬ j.val / 2048 = 4; omega)).trans (congrArg (ps m c) ?_))
    exact congrArg (ix2 r) (Fin.ext (by show j.val = 10240 + (j.val - 8192 - 1024 - 1024); omega))

end Cert.MergeBwdClaims

end
-- ==== Proof.lean ====
/- The claims about the retention's forward and backward calls and about each of the other calls, put together from the
   modules under `Proof/`. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.KernelRun
public import proofs.«01_k».proof.Proof.KernelValue
public import proofs.«01_k».proof.Proof.RefEnd
public import proofs.«01_k».proof.Proof.NormBwdClaims
public import proofs.«01_k».proof.Proof.WeightGradClaims
public import proofs.«01_k».proof.Proof.ProjQkvgClaims
public import proofs.«01_k».proof.Proof.UpBwdClaims
public import proofs.«01_k».proof.Proof.ActGradClaims
public import proofs.«01_k».proof.Proof.AdamSmallClaims
public import proofs.«01_k».proof.Proof.MergeClaims
public import proofs.«01_k».proof.Proof.BranchGradClaims
public import proofs.«01_k».proof.Proof.ProjZClaims
public import proofs.«01_k».proof.Proof.ProjGatesClaims
public import proofs.«01_k».proof.Proof.DownGradClaims
public import proofs.«01_k».proof.Proof.RetGradClaims
public import proofs.«01_k».proof.Proof.OutGradClaims
public import proofs.«01_k».proof.Proof.OutNormClaims
public import proofs.«01_k».proof.Proof.MergeBwdClaims
public import Idealize.ShloMosaic.Adequacy
public import Idealize.ShloMosaic.Init

@[expose] public section

noncomputable section

namespace Cert.Proof

open Idealize.ShloMosaic Idealize.SL.Sem

/-- The program over words is the text of the program over extended reals, read over words. -/
theorem same_text : Cert.quiescent_Kernel (hKernel := Cert.Kernel.Gen.facts)
    = (∀ (m : (ℓ : Loc Cert.KernelIdeal.nD Cert.KernelIdeal.τ Cert.KernelIdeal.sig) → Buf (Elt Bits) ℓ) (ρ : Dev Cert.KernelIdeal.nD → PrngReg), True →
      θ_run (Cert.KernelIdeal.defs (F := Bits)) (onTc (τ := Cert.KernelIdeal.τ) (Cert.KernelIdeal.main (F := Bits))) ⟨m, fun _ => 0, ρ⟩ (fun r =>
        (∀ c : Dev Cert.KernelIdeal.nD,
          r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
          ∧ r.2.sem = fun _ => 0)) := by
  chain_rfl

/-- The program over words ends, its arguments as they were and every semaphore at zero. -/
theorem frame_words : Cert.quiescent_Kernel (hKernel := Cert.Kernel.Gen.facts) :=
  same_text.mpr fun m ρ _ => Cert.Retention.kernel_frame (F := Bits) m ρ

/-- The program over extended reals ends, its arguments as they were and every semaphore at zero. -/
theorem frame_ideal : Cert.quiescent_KernelIdeal (hKernelIdeal := Cert.KernelIdeal.Gen.facts) := fun m ρ _ =>
  Cert.Retention.kernel_frame (F := Ideal) m ρ

/-- The reference ends, its arguments as they were and every semaphore at zero. -/
theorem frame_reference : Cert.quiescent_ReferenceIdeal (hReferenceIdeal := Cert.ReferenceIdeal.Gen.facts) := fun m ρ _ =>
  Cert.Retention.Ref.frame (F := Ideal) m ρ

section
variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ) (c : Dev Cert.KernelIdeal.nD)

/-- The two programs' memories hold the same arguments on a device. -/
def SameArgs : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)

/-- From the same arguments both programs read the same step's inputs. -/
theorem same_inputs (same : SameArgs m m' c) : Cert.Retention.Ref.J m' c = Cert.Retention.insM m c :=
  congrArg₂ Cert.Retention.Spec.ins same.1 same.2.1

/-- The retention's output is the same. -/
theorem same_y (same : SameArgs m m' c) : Cert.Retention.Ref.final m' c (Proc.devRef .tc Cert.ReferenceIdeal.main_v265)
    = Cert.Retention.W9 m ρ c (Proc.devRef .tc Cert.KernelIdeal.main_v25_0) := by
  funext i
  refine (Cert.Retention.Ref.ref_y m' c i).trans (Eq.trans ?_ (Cert.Retention.kernel_y m ρ c i).symm)
  rw [same_inputs m m' c same]

/-- The gradient is the same. -/
theorem same_dx (same : SameArgs m m' c) : Cert.Retention.Ref.final m' c (Proc.devRef .tc Cert.ReferenceIdeal.main_v269)
    = Cert.Retention.W9 m ρ c (Proc.devRef .tc Cert.KernelIdeal.main_v27) := by
  funext i
  refine (Cert.Retention.Ref.ref_dx m' c i).trans (Eq.trans ?_ (Cert.Retention.kernel_dx m ρ c i).symm)
  rw [same_inputs m m' c same]
  exact congrArg (fun t : EReal => if (i 1).val < 6144 then _ else t) (congrFun same.2.2 i)

end

/-- Started on the same arguments, the kernel and the reference end with the same two results: each is the one
    formula of the retention's output, and of its gradient, in the two arguments. -/
theorem value : Cert.algebraic_KernelIdeal_ReferenceIdeal (hKernelIdeal := Cert.KernelIdeal.Gen.facts)
    (hReferenceIdeal := Cert.ReferenceIdeal.Gen.facts) := fun m ρ m' ρ' _ same =>
  ⟨fun c => Cert.Retention.W9 m ρ c (Proc.devRef .tc Cert.KernelIdeal.main_v25_0),
   fun c => Cert.Retention.W9 m ρ c (Proc.devRef .tc Cert.KernelIdeal.main_v27),
   (θ_run _ _ _).mono (fun _ h c =>
     ⟨Cert.Retention.kernel_reads m ρ (h.1 c) Cert.KernelIdeal.main_v25_0 (by decide),
      Cert.Retention.kernel_reads m ρ (h.1 c) Cert.KernelIdeal.main_v27 (by decide),
      (Cert.Retention.kernel_reads m ρ (h.1 c) Cert.KernelIdeal.main_arg0 (by decide)).trans (Cert.Retention.W9_main_arg0 m ρ c),
      (Cert.Retention.kernel_reads m ρ (h.1 c) Cert.KernelIdeal.main_arg1 (by decide)).trans (Cert.Retention.W9_main_arg1 m ρ c),
      (Cert.Retention.kernel_reads m ρ (h.1 c) Cert.KernelIdeal.main_arg2 (by decide)).trans (Cert.Retention.W9_main_arg2 m ρ c)⟩)
     (Cert.Retention.kernel_run m ρ),
   (θ_run _ _ _).mono (fun _ h c =>
     ⟨(Cert.Retention.Ref.reads (h.1 c) Cert.ReferenceIdeal.main_v265 rfl).trans (same_y m ρ m' c (same c)),
      (Cert.Retention.Ref.reads (h.1 c) Cert.ReferenceIdeal.main_v269 rfl).trans (same_dx m ρ m' c (same c)),
      (Cert.Retention.Ref.reads (h.1 c) Cert.ReferenceIdeal.main_arg0 rfl).trans (Cert.Retention.Ref.final_arg0 m' c),
      (Cert.Retention.Ref.reads (h.1 c) Cert.ReferenceIdeal.main_arg1 rfl).trans (Cert.Retention.Ref.final_arg1 m' c),
      (Cert.Retention.Ref.reads (h.1 c) Cert.ReferenceIdeal.main_arg2 rfl).trans (Cert.Retention.Ref.final_arg2 m' c)⟩)
     (Cert.Retention.Ref.run m' ρ')⟩

theorem claim : Cert.Claim := ⟨Cert.Kernel.Gen.facts, Cert.KernelIdeal.Gen.facts, Cert.ReferenceIdeal.Gen.facts,
  Cert.NormBwd.Gen.facts, Cert.NormBwdIdeal.Gen.facts, Cert.NormBwdRefIdeal.Gen.facts,
  Cert.WeightGrad.Gen.facts, Cert.WeightGradIdeal.Gen.facts, Cert.WeightGradRefIdeal.Gen.facts,
  Cert.ProjQkvg.Gen.facts, Cert.ProjQkvgIdeal.Gen.facts, Cert.ProjQkvgRefIdeal.Gen.facts,
  Cert.UpBwd.Gen.facts, Cert.UpBwdIdeal.Gen.facts, Cert.UpBwdRefIdeal.Gen.facts,
  Cert.ActGrad.Gen.facts, Cert.ActGradIdeal.Gen.facts, Cert.ActGradRefIdeal.Gen.facts,
  Cert.AdamSmall.Gen.facts, Cert.AdamSmallIdeal.Gen.facts, Cert.AdamSmallRefIdeal.Gen.facts,
  Cert.Merge.Gen.facts, Cert.MergeIdeal.Gen.facts, Cert.MergeRefIdeal.Gen.facts,
  Cert.BranchGrad.Gen.facts, Cert.BranchGradIdeal.Gen.facts, Cert.BranchGradRefIdeal.Gen.facts,
  Cert.ProjZ.Gen.facts, Cert.ProjZIdeal.Gen.facts, Cert.ProjZRefIdeal.Gen.facts,
  Cert.ProjGates.Gen.facts, Cert.ProjGatesIdeal.Gen.facts, Cert.ProjGatesRefIdeal.Gen.facts,
  Cert.DownGrad.Gen.facts, Cert.DownGradIdeal.Gen.facts, Cert.DownGradRefIdeal.Gen.facts,
  Cert.RetGrad.Gen.facts, Cert.RetGradIdeal.Gen.facts, Cert.RetGradRefIdeal.Gen.facts,
  Cert.OutGrad.Gen.facts, Cert.OutGradIdeal.Gen.facts, Cert.OutGradRefIdeal.Gen.facts,
  Cert.OutNorm.Gen.facts, Cert.OutNormIdeal.Gen.facts, Cert.OutNormRefIdeal.Gen.facts,
  Cert.MergeBwd.Gen.facts, Cert.MergeBwdIdeal.Gen.facts, Cert.MergeBwdRefIdeal.Gen.facts,
  frame_words, frame_ideal, frame_reference,
  Cert.NormBwdClaims.frame_words, Cert.NormBwdClaims.frame_ideal, Cert.NormBwdClaims.frame_reference,
  Cert.WeightGradClaims.frame_words, Cert.WeightGradClaims.frame_ideal, Cert.WeightGradClaims.frame_reference,
  Cert.ProjQkvgClaims.frame_words, Cert.ProjQkvgClaims.frame_ideal, Cert.ProjQkvgClaims.frame_reference,
  Cert.UpBwdClaims.frame_words, Cert.UpBwdClaims.frame_ideal, Cert.UpBwdClaims.frame_reference,
  Cert.ActGradClaims.frame_words, Cert.ActGradClaims.frame_ideal, Cert.ActGradClaims.frame_reference,
  Cert.AdamSmallClaims.frame_words, Cert.AdamSmallClaims.frame_ideal, Cert.AdamSmallClaims.frame_reference,
  Cert.MergeClaims.frame_words, Cert.MergeClaims.frame_ideal, Cert.MergeClaims.frame_reference,
  Cert.BranchGradClaims.frame_words, Cert.BranchGradClaims.frame_ideal, Cert.BranchGradClaims.frame_reference,
  Cert.ProjZClaims.frame_words, Cert.ProjZClaims.frame_ideal, Cert.ProjZClaims.frame_reference,
  Cert.ProjGatesClaims.frame_words, Cert.ProjGatesClaims.frame_ideal, Cert.ProjGatesClaims.frame_reference,
  Cert.DownGradClaims.frame_words, Cert.DownGradClaims.frame_ideal, Cert.DownGradClaims.frame_reference,
  Cert.RetGradClaims.frame_words, Cert.RetGradClaims.frame_ideal, Cert.RetGradClaims.frame_reference,
  Cert.OutGradClaims.frame_words, Cert.OutGradClaims.frame_ideal, Cert.OutGradClaims.frame_reference,
  Cert.OutNormClaims.frame_words, Cert.OutNormClaims.frame_ideal, Cert.OutNormClaims.frame_reference,
  Cert.MergeBwdClaims.frame_words, Cert.MergeBwdClaims.frame_ideal, Cert.MergeBwdClaims.frame_reference,
  trivial, value, trivial, Cert.NormBwdClaims.value, trivial, Cert.WeightGradClaims.value, trivial, Cert.ProjQkvgClaims.value, trivial, Cert.UpBwdClaims.value, trivial, Cert.ActGradClaims.value, trivial, Cert.AdamSmallClaims.value,
  trivial, Cert.MergeClaims.value, trivial, Cert.BranchGradClaims.value, trivial, Cert.ProjZClaims.value, trivial, Cert.ProjGatesClaims.value, trivial, Cert.DownGradClaims.value, trivial, Cert.RetGradClaims.value, trivial, Cert.OutGradClaims.value, trivial, Cert.OutNormClaims.value, trivial, Cert.MergeBwdClaims.value⟩

end Cert.Proof

end
